-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15)
      ∧ r.2.mem ((c.tc : Thread Cert.Kernel9.nD Cert.Kernel9.τ).loc Cert.Kernel9.main_arg16) = m ((c.tc : Thread Cert.Kernel9.nD Cert.Kernel9.τ).loc Cert.Kernel9.main_arg16)
      ∧ r.2.mem ((c.tc : Thread Cert.Kernel9.nD Cert.Kernel9.τ).loc Cert.Kernel9.main_arg17) = m ((c.tc : Thread Cert.Kernel9.nD Cert.Kernel9.τ).loc Cert.Kernel9.main_arg17)
      ∧ r.2.mem ((c.tc : Thread Cert.Kernel9.nD Cert.Kernel9.τ).loc Cert.Kernel9.main_arg18) = m ((c.tc : Thread Cert.Kernel9.nD Cert.Kernel9.τ).loc Cert.Kernel9.main_arg18)
      ∧ r.2.mem ((c.tc : Thread Cert.Kernel9.nD Cert.Kernel9.τ).loc Cert.Kernel9.main_arg19) = m ((c.tc : Thread Cert.Kernel9.nD Cert.Kernel9.τ).loc Cert.Kernel9.main_arg19)
      ∧ r.2.mem ((c.tc : Thread Cert.Kernel9.nD Cert.Kernel9.τ).loc Cert.Kernel9.main_arg20) = m ((c.tc : Thread Cert.Kernel9.nD Cert.Kernel9.τ).loc Cert.Kernel9.main_arg20)
      ∧ r.2.mem ((c.tc : Thread Cert.Kernel9.nD Cert.Kernel9.τ).loc Cert.Kernel9.main_arg21) = m ((c.tc : Thread Cert.Kernel9.nD Cert.Kernel9.τ).loc Cert.Kernel9.main_arg21)
      ∧ r.2.mem ((c.tc : Thread Cert.Kernel9.nD Cert.Kernel9.τ).loc Cert.Kernel9.main_arg22) = m ((c.tc : Thread Cert.Kernel9.nD Cert.Kernel9.τ).loc Cert.Kernel9.main_arg22)
      ∧ r.2.mem ((c.tc : Thread Cert.Kernel9.nD Cert.Kernel9.τ).loc Cert.Kernel9.main_arg23) = m ((c.tc : Thread Cert.Kernel9.nD Cert.Kernel9.τ).loc Cert.Kernel9.main_arg23)
      ∧ r.2.mem ((c.tc : Thread Cert.Kernel9.nD Cert.Kernel9.τ).loc Cert.Kernel9.main_arg24) = m ((c.tc : Thread Cert.Kernel9.nD Cert.Kernel9.τ).loc Cert.Kernel9.main_arg24)
      ∧ r.2.mem ((c.tc : Thread Cert.Kernel9.nD Cert.Kernel9.τ).loc Cert.Kernel9.main_arg25) = m ((c.tc : Thread Cert.Kernel9.nD Cert.Kernel9.τ).loc Cert.Kernel9.main_arg25)
      ∧ r.2.mem ((c.tc : Thread Cert.Kernel9.nD Cert.Kernel9.τ).loc Cert.Kernel9.main_arg26) = m ((c.tc : Thread Cert.Kernel9.nD Cert.Kernel9.τ).loc Cert.Kernel9.main_arg26)
      ∧ r.2.mem ((c.tc : Thread Cert.Kernel9.nD Cert.Kernel9.τ).loc Cert.Kernel9.main_arg27) = m ((c.tc : Thread Cert.Kernel9.nD Cert.Kernel9.τ).loc Cert.Kernel9.main_arg27)
      ∧ r.2.mem ((c.tc : Thread Cert.Kernel9.nD Cert.Kernel9.τ).loc Cert.Kernel9.main_arg28) = m ((c.tc : Thread Cert.Kernel9.nD Cert.Kernel9.τ).loc Cert.Kernel9.main_arg28)
      ∧ r.2.mem ((c.tc : Thread Cert.Kernel9.nD Cert.Kernel9.τ).loc Cert.Kernel9.main_arg29) = m ((c.tc : Thread Cert.Kernel9.nD Cert.Kernel9.τ).loc Cert.Kernel9.main_arg29)
      ∧ r.2.mem ((c.tc : Thread Cert.Kernel9.nD Cert.Kernel9.τ).loc Cert.Kernel9.main_arg30) = m ((c.tc : Thread Cert.Kernel9.nD Cert.Kernel9.τ).loc Cert.Kernel9.main_arg30)
      ∧ r.2.mem ((c.tc : Thread Cert.Kernel9.nD Cert.Kernel9.τ).loc Cert.Kernel9.main_arg31) = m ((c.tc : Thread Cert.Kernel9.nD Cert.Kernel9.τ).loc Cert.Kernel9.main_arg31)
      ∧ r.2.mem ((c.tc : Thread Cert.Kernel9.nD Cert.Kernel9.τ).loc Cert.Kernel9.main_arg32) = m ((c.tc : Thread Cert.Kernel9.nD Cert.Kernel9.τ).loc Cert.Kernel9.main_arg32)
      ∧ r.2.mem ((c.tc : Thread Cert.Kernel9.nD Cert.Kernel9.τ).loc Cert.Kernel9.main_arg33) = m ((c.tc : Thread Cert.Kernel9.nD Cert.Kernel9.τ).loc Cert.Kernel9.main_arg33)
      ∧ r.2.mem ((c.tc : Thread Cert.Kernel9.nD Cert.Kernel9.τ).loc Cert.Kernel9.main_arg34) = m ((c.tc : Thread Cert.Kernel9.nD Cert.Kernel9.τ).loc Cert.Kernel9.main_arg34)
      ∧ r.2.mem ((c.tc : Thread Cert.Kernel9.nD Cert.Kernel9.τ).loc Cert.Kernel9.main_arg35) = m ((c.tc : Thread Cert.Kernel9.nD Cert.Kernel9.τ).loc Cert.Kernel9.main_arg35)
      ∧ r.2.mem ((c.tc : Thread Cert.Kernel9.nD Cert.Kernel9.τ).loc Cert.Kernel9.main_arg36) = m ((c.tc : Thread Cert.Kernel9.nD Cert.Kernel9.τ).loc Cert.Kernel9.main_arg36)
      ∧ r.2.mem ((c.tc : Thread Cert.Kernel9.nD Cert.Kernel9.τ).loc Cert.Kernel9.main_arg37) = m ((c.tc : Thread Cert.Kernel9.nD Cert.Kernel9.τ).loc Cert.Kernel9.main_arg37)
      ∧ r.2.mem ((c.tc : Thread Cert.Kernel9.nD Cert.Kernel9.τ).loc Cert.Kernel9.main_arg38) = m ((c.tc : Thread Cert.Kernel9.nD Cert.Kernel9.τ).loc Cert.Kernel9.main_arg38)
      ∧ r.2.mem ((c.tc : Thread Cert.Kernel9.nD Cert.Kernel9.τ).loc Cert.Kernel9.main_arg39) = m ((c.tc : Thread Cert.Kernel9.nD Cert.Kernel9.τ).loc Cert.Kernel9.main_arg39))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
      ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
      ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17)
      ∧ r.2.mem ((c.tc : Thread Cert.Kernel9Ideal.nD Cert.Kernel9Ideal.τ).loc Cert.Kernel9Ideal.main_arg18) = m ((c.tc : Thread Cert.Kernel9Ideal.nD Cert.Kernel9Ideal.τ).loc Cert.Kernel9Ideal.main_arg18)
      ∧ r.2.mem ((c.tc : Thread Cert.Kernel9Ideal.nD Cert.Kernel9Ideal.τ).loc Cert.Kernel9Ideal.main_arg19) = m ((c.tc : Thread Cert.Kernel9Ideal.nD Cert.Kernel9Ideal.τ).loc Cert.Kernel9Ideal.main_arg19)
      ∧ r.2.mem ((c.tc : Thread Cert.Kernel9Ideal.nD Cert.Kernel9Ideal.τ).loc Cert.Kernel9Ideal.main_arg20) = m ((c.tc : Thread Cert.Kernel9Ideal.nD Cert.Kernel9Ideal.τ).loc Cert.Kernel9Ideal.main_arg20)
      ∧ r.2.mem ((c.tc : Thread Cert.Kernel9Ideal.nD Cert.Kernel9Ideal.τ).loc Cert.Kernel9Ideal.main_arg21) = m ((c.tc : Thread Cert.Kernel9Ideal.nD Cert.Kernel9Ideal.τ).loc Cert.Kernel9Ideal.main_arg21)
      ∧ r.2.mem ((c.tc : Thread Cert.Kernel9Ideal.nD Cert.Kernel9Ideal.τ).loc Cert.Kernel9Ideal.main_arg22) = m ((c.tc : Thread Cert.Kernel9Ideal.nD Cert.Kernel9Ideal.τ).loc Cert.Kernel9Ideal.main_arg22)
      ∧ r.2.mem ((c.tc : Thread Cert.Kernel9Ideal.nD Cert.Kernel9Ideal.τ).loc Cert.Kernel9Ideal.main_arg23) = m ((c.tc : Thread Cert.Kernel9Ideal.nD Cert.Kernel9Ideal.τ).loc Cert.Kernel9Ideal.main_arg23)
      ∧ r.2.mem ((c.tc : Thread Cert.Kernel9Ideal.nD Cert.Kernel9Ideal.τ).loc Cert.Kernel9Ideal.main_arg24) = m ((c.tc : Thread Cert.Kernel9Ideal.nD Cert.Kernel9Ideal.τ).loc Cert.Kernel9Ideal.main_arg24)
      ∧ r.2.mem ((c.tc : Thread Cert.Kernel9Ideal.nD Cert.Kernel9Ideal.τ).loc Cert.Kernel9Ideal.main_arg25) = m ((c.tc : Thread Cert.Kernel9Ideal.nD Cert.Kernel9Ideal.τ).loc Cert.Kernel9Ideal.main_arg25)
      ∧ r.2.mem ((c.tc : Thread Cert.Kernel9Ideal.nD Cert.Kernel9Ideal.τ).loc Cert.Kernel9Ideal.main_arg26) = m ((c.tc : Thread Cert.Kernel9Ideal.nD Cert.Kernel9Ideal.τ).loc Cert.Kernel9Ideal.main_arg26)
      ∧ r.2.mem ((c.tc : Thread Cert.Kernel9Ideal.nD Cert.Kernel9Ideal.τ).loc Cert.Kernel9Ideal.main_arg27) = m ((c.tc : Thread Cert.Kernel9Ideal.nD Cert.Kernel9Ideal.τ).loc Cert.Kernel9Ideal.main_arg27)
      ∧ r.2.mem ((c.tc : Thread Cert.Kernel9Ideal.nD Cert.Kernel9Ideal.τ).loc Cert.Kernel9Ideal.main_arg28) = m ((c.tc : Thread Cert.Kernel9Ideal.nD Cert.Kernel9Ideal.τ).loc Cert.Kernel9Ideal.main_arg28)
      ∧ r.2.mem ((c.tc : Thread Cert.Kernel9Ideal.nD Cert.Kernel9Ideal.τ).loc Cert.Kernel9Ideal.main_arg29) = m ((c.tc : Thread Cert.Kernel9Ideal.nD Cert.Kernel9Ideal.τ).loc Cert.Kernel9Ideal.main_arg29)
      ∧ r.2.mem ((c.tc : Thread Cert.Kernel9Ideal.nD Cert.Kernel9Ideal.τ).loc Cert.Kernel9Ideal.main_arg30) = m ((c.tc : Thread Cert.Kernel9Ideal.nD Cert.Kernel9Ideal.τ).loc Cert.Kernel9Ideal.main_arg30)
      ∧ r.2.mem ((c.tc : Thread Cert.Kernel9Ideal.nD Cert.Kernel9Ideal.τ).loc Cert.Kernel9Ideal.main_arg31) = m ((c.tc : Thread Cert.Kernel9Ideal.nD Cert.Kernel9Ideal.τ).loc Cert.Kernel9Ideal.main_arg31)
      ∧ r.2.mem ((c.tc : Thread Cert.Kernel9Ideal.nD Cert.Kernel9Ideal.τ).loc Cert.Kernel9Ideal.main_arg32) = m ((c.tc : Thread Cert.Kernel9Ideal.nD Cert.Kernel9Ideal.τ).loc Cert.Kernel9Ideal.main_arg32)
      ∧ r.2.mem ((c.tc : Thread Cert.Kernel9Ideal.nD Cert.Kernel9Ideal.τ).loc Cert.Kernel9Ideal.main_arg33) = m ((c.tc : Thread Cert.Kernel9Ideal.nD Cert.Kernel9Ideal.τ).loc Cert.Kernel9Ideal.main_arg33)
      ∧ r.2.mem ((c.tc : Thread Cert.Kernel9Ideal.nD Cert.Kernel9Ideal.τ).loc Cert.Kernel9Ideal.main_arg34) = m ((c.tc : Thread Cert.Kernel9Ideal.nD Cert.Kernel9Ideal.τ).loc Cert.Kernel9Ideal.main_arg34)
      ∧ r.2.mem ((c.tc : Thread Cert.Kernel9Ideal.nD Cert.Kernel9Ideal.τ).loc Cert.Kernel9Ideal.main_arg35) = m ((c.tc : Thread Cert.Kernel9Ideal.nD Cert.Kernel9Ideal.τ).loc Cert.Kernel9Ideal.main_arg35)
      ∧ r.2.mem ((c.tc : Thread Cert.Kernel9Ideal.nD Cert.Kernel9Ideal.τ).loc Cert.Kernel9Ideal.main_arg36) = m ((c.tc : Thread Cert.Kernel9Ideal.nD Cert.Kernel9Ideal.τ).loc Cert.Kernel9Ideal.main_arg36)
      ∧ r.2.mem ((c.tc : Thread Cert.Kernel9Ideal.nD Cert.Kernel9Ideal.τ).loc Cert.Kernel9Ideal.main_arg37) = m ((c.tc : Thread Cert.Kernel9Ideal.nD Cert.Kernel9Ideal.τ).loc Cert.Kernel9Ideal.main_arg37)
      ∧ r.2.mem ((c.tc : Thread Cert.Kernel9Ideal.nD Cert.Kernel9Ideal.τ).loc Cert.Kernel9Ideal.main_arg38) = m ((c.tc : Thread Cert.Kernel9Ideal.nD Cert.Kernel9Ideal.τ).loc Cert.Kernel9Ideal.main_arg38)
      ∧ r.2.mem ((c.tc : Thread Cert.Kernel9Ideal.nD Cert.Kernel9Ideal.τ).loc Cert.Kernel9Ideal.main_arg39) = m ((c.tc : Thread Cert.Kernel9Ideal.nD Cert.Kernel9Ideal.τ).loc Cert.Kernel9Ideal.main_arg39))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15)
      ∧ r.2.mem ((c.tc : Thread Cert.Reference9Ideal.nD Cert.Reference9Ideal.τ).loc Cert.Reference9Ideal.main_arg16) = m ((c.tc : Thread Cert.Reference9Ideal.nD Cert.Reference9Ideal.τ).loc Cert.Reference9Ideal.main_arg16)
      ∧ r.2.mem ((c.tc : Thread Cert.Reference9Ideal.nD Cert.Reference9Ideal.τ).loc Cert.Reference9Ideal.main_arg17) = m ((c.tc : Thread Cert.Reference9Ideal.nD Cert.Reference9Ideal.τ).loc Cert.Reference9Ideal.main_arg17)
      ∧ r.2.mem ((c.tc : Thread Cert.Reference9Ideal.nD Cert.Reference9Ideal.τ).loc Cert.Reference9Ideal.main_arg18) = m ((c.tc : Thread Cert.Reference9Ideal.nD Cert.Reference9Ideal.τ).loc Cert.Reference9Ideal.main_arg18)
      ∧ r.2.mem ((c.tc : Thread Cert.Reference9Ideal.nD Cert.Reference9Ideal.τ).loc Cert.Reference9Ideal.main_arg19) = m ((c.tc : Thread Cert.Reference9Ideal.nD Cert.Reference9Ideal.τ).loc Cert.Reference9Ideal.main_arg19)
      ∧ r.2.mem ((c.tc : Thread Cert.Reference9Ideal.nD Cert.Reference9Ideal.τ).loc Cert.Reference9Ideal.main_arg20) = m ((c.tc : Thread Cert.Reference9Ideal.nD Cert.Reference9Ideal.τ).loc Cert.Reference9Ideal.main_arg20)
      ∧ r.2.mem ((c.tc : Thread Cert.Reference9Ideal.nD Cert.Reference9Ideal.τ).loc Cert.Reference9Ideal.main_arg21) = m ((c.tc : Thread Cert.Reference9Ideal.nD Cert.Reference9Ideal.τ).loc Cert.Reference9Ideal.main_arg21)
      ∧ r.2.mem ((c.tc : Thread Cert.Reference9Ideal.nD Cert.Reference9Ideal.τ).loc Cert.Reference9Ideal.main_arg22) = m ((c.tc : Thread Cert.Reference9Ideal.nD Cert.Reference9Ideal.τ).loc Cert.Reference9Ideal.main_arg22)
      ∧ r.2.mem ((c.tc : Thread Cert.Reference9Ideal.nD Cert.Reference9Ideal.τ).loc Cert.Reference9Ideal.main_arg23) = m ((c.tc : Thread Cert.Reference9Ideal.nD Cert.Reference9Ideal.τ).loc Cert.Reference9Ideal.main_arg23)
      ∧ r.2.mem ((c.tc : Thread Cert.Reference9Ideal.nD Cert.Reference9Ideal.τ).loc Cert.Reference9Ideal.main_arg24) = m ((c.tc : Thread Cert.Reference9Ideal.nD Cert.Reference9Ideal.τ).loc Cert.Reference9Ideal.main_arg24)
      ∧ r.2.mem ((c.tc : Thread Cert.Reference9Ideal.nD Cert.Reference9Ideal.τ).loc Cert.Reference9Ideal.main_arg25) = m ((c.tc : Thread Cert.Reference9Ideal.nD Cert.Reference9Ideal.τ).loc Cert.Reference9Ideal.main_arg25)
      ∧ r.2.mem ((c.tc : Thread Cert.Reference9Ideal.nD Cert.Reference9Ideal.τ).loc Cert.Reference9Ideal.main_arg26) = m ((c.tc : Thread Cert.Reference9Ideal.nD Cert.Reference9Ideal.τ).loc Cert.Reference9Ideal.main_arg26)
      ∧ r.2.mem ((c.tc : Thread Cert.Reference9Ideal.nD Cert.Reference9Ideal.τ).loc Cert.Reference9Ideal.main_arg27) = m ((c.tc : Thread Cert.Reference9Ideal.nD Cert.Reference9Ideal.τ).loc Cert.Reference9Ideal.main_arg27)
      ∧ r.2.mem ((c.tc : Thread Cert.Reference9Ideal.nD Cert.Reference9Ideal.τ).loc Cert.Reference9Ideal.main_arg28) = m ((c.tc : Thread Cert.Reference9Ideal.nD Cert.Reference9Ideal.τ).loc Cert.Reference9Ideal.main_arg28)
      ∧ r.2.mem ((c.tc : Thread Cert.Reference9Ideal.nD Cert.Reference9Ideal.τ).loc Cert.Reference9Ideal.main_arg29) = m ((c.tc : Thread Cert.Reference9Ideal.nD Cert.Reference9Ideal.τ).loc Cert.Reference9Ideal.main_arg29)
      ∧ r.2.mem ((c.tc : Thread Cert.Reference9Ideal.nD Cert.Reference9Ideal.τ).loc Cert.Reference9Ideal.main_arg30) = m ((c.tc : Thread Cert.Reference9Ideal.nD Cert.Reference9Ideal.τ).loc Cert.Reference9Ideal.main_arg30)
      ∧ r.2.mem ((c.tc : Thread Cert.Reference9Ideal.nD Cert.Reference9Ideal.τ).loc Cert.Reference9Ideal.main_arg31) = m ((c.tc : Thread Cert.Reference9Ideal.nD Cert.Reference9Ideal.τ).loc Cert.Reference9Ideal.main_arg31)
      ∧ r.2.mem ((c.tc : Thread Cert.Reference9Ideal.nD Cert.Reference9Ideal.τ).loc Cert.Reference9Ideal.main_arg32) = m ((c.tc : Thread Cert.Reference9Ideal.nD Cert.Reference9Ideal.τ).loc Cert.Reference9Ideal.main_arg32)
      ∧ r.2.mem ((c.tc : Thread Cert.Reference9Ideal.nD Cert.Reference9Ideal.τ).loc Cert.Reference9Ideal.main_arg33) = m ((c.tc : Thread Cert.Reference9Ideal.nD Cert.Reference9Ideal.τ).loc Cert.Reference9Ideal.main_arg33)
      ∧ r.2.mem ((c.tc : Thread Cert.Reference9Ideal.nD Cert.Reference9Ideal.τ).loc Cert.Reference9Ideal.main_arg34) = m ((c.tc : Thread Cert.Reference9Ideal.nD Cert.Reference9Ideal.τ).loc Cert.Reference9Ideal.main_arg34)
      ∧ r.2.mem ((c.tc : Thread Cert.Reference9Ideal.nD Cert.Reference9Ideal.τ).loc Cert.Reference9Ideal.main_arg35) = m ((c.tc : Thread Cert.Reference9Ideal.nD Cert.Reference9Ideal.τ).loc Cert.Reference9Ideal.main_arg35)
      ∧ r.2.mem ((c.tc : Thread Cert.Reference9Ideal.nD Cert.Reference9Ideal.τ).loc Cert.Reference9Ideal.main_arg36) = m ((c.tc : Thread Cert.Reference9Ideal.nD Cert.Reference9Ideal.τ).loc Cert.Reference9Ideal.main_arg36)
      ∧ r.2.mem ((c.tc : Thread Cert.Reference9Ideal.nD Cert.Reference9Ideal.τ).loc Cert.Reference9Ideal.main_arg37) = m ((c.tc : Thread Cert.Reference9Ideal.nD Cert.Reference9Ideal.τ).loc Cert.Reference9Ideal.main_arg37)
      ∧ r.2.mem ((c.tc : Thread Cert.Reference9Ideal.nD Cert.Reference9Ideal.τ).loc Cert.Reference9Ideal.main_arg38) = m ((c.tc : Thread Cert.Reference9Ideal.nD Cert.Reference9Ideal.τ).loc Cert.Reference9Ideal.main_arg38)
      ∧ r.2.mem ((c.tc : Thread Cert.Reference9Ideal.nD Cert.Reference9Ideal.τ).loc Cert.Reference9Ideal.main_arg39) = m ((c.tc : Thread Cert.Reference9Ideal.nD Cert.Reference9Ideal.τ).loc Cert.Reference9Ideal.main_arg39))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9)
      ∧ r.2.mem ((c.tc : Thread Cert.Kernel17.nD Cert.Kernel17.τ).loc Cert.Kernel17.main_arg10) = m ((c.tc : Thread Cert.Kernel17.nD Cert.Kernel17.τ).loc Cert.Kernel17.main_arg10)
      ∧ r.2.mem ((c.tc : Thread Cert.Kernel17.nD Cert.Kernel17.τ).loc Cert.Kernel17.main_arg11) = m ((c.tc : Thread Cert.Kernel17.nD Cert.Kernel17.τ).loc Cert.Kernel17.main_arg11)
      ∧ r.2.mem ((c.tc : Thread Cert.Kernel17.nD Cert.Kernel17.τ).loc Cert.Kernel17.main_arg12) = m ((c.tc : Thread Cert.Kernel17.nD Cert.Kernel17.τ).loc Cert.Kernel17.main_arg12)
      ∧ r.2.mem ((c.tc : Thread Cert.Kernel17.nD Cert.Kernel17.τ).loc Cert.Kernel17.main_arg13) = m ((c.tc : Thread Cert.Kernel17.nD Cert.Kernel17.τ).loc Cert.Kernel17.main_arg13))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
      ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
      ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
      ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12)
      ∧ r.2.mem ((c.tc : Thread Cert.Kernel17Ideal.nD Cert.Kernel17Ideal.τ).loc Cert.Kernel17Ideal.main_arg13) = m ((c.tc : Thread Cert.Kernel17Ideal.nD Cert.Kernel17Ideal.τ).loc Cert.Kernel17Ideal.main_arg13))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10)
      ∧ r.2.mem ((c.tc : Thread Cert.Reference17Ideal.nD Cert.Reference17Ideal.τ).loc Cert.Reference17Ideal.main_arg11) = m ((c.tc : Thread Cert.Reference17Ideal.nD Cert.Reference17Ideal.τ).loc Cert.Reference17Ideal.main_arg11)
      ∧ r.2.mem ((c.tc : Thread Cert.Reference17Ideal.nD Cert.Reference17Ideal.τ).loc Cert.Reference17Ideal.main_arg12) = m ((c.tc : Thread Cert.Reference17Ideal.nD Cert.Reference17Ideal.τ).loc Cert.Reference17Ideal.main_arg12)
      ∧ r.2.mem ((c.tc : Thread Cert.Reference17Ideal.nD Cert.Reference17Ideal.τ).loc Cert.Reference17Ideal.main_arg13) = m ((c.tc : Thread Cert.Reference17Ideal.nD Cert.Reference17Ideal.τ).loc Cert.Reference17Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v12)) (v6 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_v53) = v5 c
          ∧ r.2.mem ((c.tc : Thread Cert.ReferenceIdeal.nD Cert.ReferenceIdeal.τ).loc Cert.ReferenceIdeal.main_v44) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v9) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v12)) (v2 : (c : Dev Cert.Kernel3Ideal.nD) → Buf (Elt Ideal) ((c.tc : Thread Cert.Kernel3Ideal.nD Cert.Kernel3Ideal.τ).loc Cert.Kernel3Ideal.main_v14)) (v3 : (c : Dev Cert.Kernel3Ideal.nD) → Buf (Elt Ideal) ((c.tc : Thread Cert.Kernel3Ideal.nD Cert.Kernel3Ideal.τ).loc Cert.Kernel3Ideal.main_v16)) (v4 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v12) = v1 c
          ∧ r.2.mem ((c.tc : Thread Cert.Kernel3Ideal.nD Cert.Kernel3Ideal.τ).loc Cert.Kernel3Ideal.main_v14) = v2 c
          ∧ r.2.mem ((c.tc : Thread Cert.Kernel3Ideal.nD Cert.Kernel3Ideal.τ).loc Cert.Kernel3Ideal.main_v16) = v3 c
          ∧ r.2.mem ((c.tc : Thread Cert.Kernel3Ideal.nD Cert.Kernel3Ideal.τ).loc Cert.Kernel3Ideal.main_v18) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v99) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v74) = v2 c
          ∧ r.2.mem ((c.tc : Thread Cert.Reference3Ideal.nD Cert.Reference3Ideal.τ).loc Cert.Reference3Ideal.main_v60) = v3 c
          ∧ r.2.mem ((c.tc : Thread Cert.Reference3Ideal.nD Cert.Reference3Ideal.τ).loc Cert.Reference3Ideal.main_v64) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)) (v1 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)) (v1 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_v7) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v1) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)) (v1 : (c : Dev Cert.Kernel7Ideal.nD) → Buf (Elt Ideal) ((c.tc : Thread Cert.Kernel7Ideal.nD Cert.Kernel7Ideal.τ).loc Cert.Kernel7Ideal.main_v6)) (v2 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_v6) = v1 c
          ∧ r.2.mem ((c.tc : Thread Cert.Kernel7Ideal.nD Cert.Kernel7Ideal.τ).loc Cert.Kernel7Ideal.main_v7) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)
      ∧ m' ((c.tc : Thread Cert.Reference9Ideal.nD Cert.Reference9Ideal.τ).loc Cert.Reference9Ideal.main_arg16) = m ((c.tc : Thread Cert.Kernel9Ideal.nD Cert.Kernel9Ideal.τ).loc Cert.Kernel9Ideal.main_arg16)
      ∧ m' ((c.tc : Thread Cert.Reference9Ideal.nD Cert.Reference9Ideal.τ).loc Cert.Reference9Ideal.main_arg17) = m ((c.tc : Thread Cert.Kernel9Ideal.nD Cert.Kernel9Ideal.τ).loc Cert.Kernel9Ideal.main_arg17)
      ∧ m' ((c.tc : Thread Cert.Reference9Ideal.nD Cert.Reference9Ideal.τ).loc Cert.Reference9Ideal.main_arg18) = m ((c.tc : Thread Cert.Kernel9Ideal.nD Cert.Kernel9Ideal.τ).loc Cert.Kernel9Ideal.main_arg18)
      ∧ m' ((c.tc : Thread Cert.Reference9Ideal.nD Cert.Reference9Ideal.τ).loc Cert.Reference9Ideal.main_arg19) = m ((c.tc : Thread Cert.Kernel9Ideal.nD Cert.Kernel9Ideal.τ).loc Cert.Kernel9Ideal.main_arg19)
      ∧ m' ((c.tc : Thread Cert.Reference9Ideal.nD Cert.Reference9Ideal.τ).loc Cert.Reference9Ideal.main_arg20) = m ((c.tc : Thread Cert.Kernel9Ideal.nD Cert.Kernel9Ideal.τ).loc Cert.Kernel9Ideal.main_arg20)
      ∧ m' ((c.tc : Thread Cert.Reference9Ideal.nD Cert.Reference9Ideal.τ).loc Cert.Reference9Ideal.main_arg21) = m ((c.tc : Thread Cert.Kernel9Ideal.nD Cert.Kernel9Ideal.τ).loc Cert.Kernel9Ideal.main_arg21)
      ∧ m' ((c.tc : Thread Cert.Reference9Ideal.nD Cert.Reference9Ideal.τ).loc Cert.Reference9Ideal.main_arg22) = m ((c.tc : Thread Cert.Kernel9Ideal.nD Cert.Kernel9Ideal.τ).loc Cert.Kernel9Ideal.main_arg22)
      ∧ m' ((c.tc : Thread Cert.Reference9Ideal.nD Cert.Reference9Ideal.τ).loc Cert.Reference9Ideal.main_arg23) = m ((c.tc : Thread Cert.Kernel9Ideal.nD Cert.Kernel9Ideal.τ).loc Cert.Kernel9Ideal.main_arg23)
      ∧ m' ((c.tc : Thread Cert.Reference9Ideal.nD Cert.Reference9Ideal.τ).loc Cert.Reference9Ideal.main_arg24) = m ((c.tc : Thread Cert.Kernel9Ideal.nD Cert.Kernel9Ideal.τ).loc Cert.Kernel9Ideal.main_arg24)
      ∧ m' ((c.tc : Thread Cert.Reference9Ideal.nD Cert.Reference9Ideal.τ).loc Cert.Reference9Ideal.main_arg25) = m ((c.tc : Thread Cert.Kernel9Ideal.nD Cert.Kernel9Ideal.τ).loc Cert.Kernel9Ideal.main_arg25)
      ∧ m' ((c.tc : Thread Cert.Reference9Ideal.nD Cert.Reference9Ideal.τ).loc Cert.Reference9Ideal.main_arg26) = m ((c.tc : Thread Cert.Kernel9Ideal.nD Cert.Kernel9Ideal.τ).loc Cert.Kernel9Ideal.main_arg26)
      ∧ m' ((c.tc : Thread Cert.Reference9Ideal.nD Cert.Reference9Ideal.τ).loc Cert.Reference9Ideal.main_arg27) = m ((c.tc : Thread Cert.Kernel9Ideal.nD Cert.Kernel9Ideal.τ).loc Cert.Kernel9Ideal.main_arg27)
      ∧ m' ((c.tc : Thread Cert.Reference9Ideal.nD Cert.Reference9Ideal.τ).loc Cert.Reference9Ideal.main_arg28) = m ((c.tc : Thread Cert.Kernel9Ideal.nD Cert.Kernel9Ideal.τ).loc Cert.Kernel9Ideal.main_arg28)
      ∧ m' ((c.tc : Thread Cert.Reference9Ideal.nD Cert.Reference9Ideal.τ).loc Cert.Reference9Ideal.main_arg29) = m ((c.tc : Thread Cert.Kernel9Ideal.nD Cert.Kernel9Ideal.τ).loc Cert.Kernel9Ideal.main_arg29)
      ∧ m' ((c.tc : Thread Cert.Reference9Ideal.nD Cert.Reference9Ideal.τ).loc Cert.Reference9Ideal.main_arg30) = m ((c.tc : Thread Cert.Kernel9Ideal.nD Cert.Kernel9Ideal.τ).loc Cert.Kernel9Ideal.main_arg30)
      ∧ m' ((c.tc : Thread Cert.Reference9Ideal.nD Cert.Reference9Ideal.τ).loc Cert.Reference9Ideal.main_arg31) = m ((c.tc : Thread Cert.Kernel9Ideal.nD Cert.Kernel9Ideal.τ).loc Cert.Kernel9Ideal.main_arg31)
      ∧ m' ((c.tc : Thread Cert.Reference9Ideal.nD Cert.Reference9Ideal.τ).loc Cert.Reference9Ideal.main_arg32) = m ((c.tc : Thread Cert.Kernel9Ideal.nD Cert.Kernel9Ideal.τ).loc Cert.Kernel9Ideal.main_arg32)
      ∧ m' ((c.tc : Thread Cert.Reference9Ideal.nD Cert.Reference9Ideal.τ).loc Cert.Reference9Ideal.main_arg33) = m ((c.tc : Thread Cert.Kernel9Ideal.nD Cert.Kernel9Ideal.τ).loc Cert.Kernel9Ideal.main_arg33)
      ∧ m' ((c.tc : Thread Cert.Reference9Ideal.nD Cert.Reference9Ideal.τ).loc Cert.Reference9Ideal.main_arg34) = m ((c.tc : Thread Cert.Kernel9Ideal.nD Cert.Kernel9Ideal.τ).loc Cert.Kernel9Ideal.main_arg34)
      ∧ m' ((c.tc : Thread Cert.Reference9Ideal.nD Cert.Reference9Ideal.τ).loc Cert.Reference9Ideal.main_arg35) = m ((c.tc : Thread Cert.Kernel9Ideal.nD Cert.Kernel9Ideal.τ).loc Cert.Kernel9Ideal.main_arg35)
      ∧ m' ((c.tc : Thread Cert.Reference9Ideal.nD Cert.Reference9Ideal.τ).loc Cert.Reference9Ideal.main_arg36) = m ((c.tc : Thread Cert.Kernel9Ideal.nD Cert.Kernel9Ideal.τ).loc Cert.Kernel9Ideal.main_arg36)
      ∧ m' ((c.tc : Thread Cert.Reference9Ideal.nD Cert.Reference9Ideal.τ).loc Cert.Reference9Ideal.main_arg37) = m ((c.tc : Thread Cert.Kernel9Ideal.nD Cert.Kernel9Ideal.τ).loc Cert.Kernel9Ideal.main_arg37)
      ∧ m' ((c.tc : Thread Cert.Reference9Ideal.nD Cert.Reference9Ideal.τ).loc Cert.Reference9Ideal.main_arg38) = m ((c.tc : Thread Cert.Kernel9Ideal.nD Cert.Kernel9Ideal.τ).loc Cert.Kernel9Ideal.main_arg38)
      ∧ m' ((c.tc : Thread Cert.Reference9Ideal.nD Cert.Reference9Ideal.τ).loc Cert.Reference9Ideal.main_arg39) = m ((c.tc : Thread Cert.Kernel9Ideal.nD Cert.Kernel9Ideal.τ).loc Cert.Kernel9Ideal.main_arg39)) →
    ∃ (v0 : (c : Dev Cert.Kernel9Ideal.nD) → Buf (Elt Ideal) ((c.tc : Thread Cert.Kernel9Ideal.nD Cert.Kernel9Ideal.τ).loc Cert.Kernel9Ideal.main_v50)) (v1 : (c : Dev Cert.Kernel9Ideal.nD) → Buf (Elt Ideal) ((c.tc : Thread Cert.Kernel9Ideal.nD Cert.Kernel9Ideal.τ).loc Cert.Kernel9Ideal.main_v52)) (v2 : (c : Dev Cert.Kernel9Ideal.nD) → Buf (Elt Ideal) ((c.tc : Thread Cert.Kernel9Ideal.nD Cert.Kernel9Ideal.τ).loc Cert.Kernel9Ideal.main_v54)) (v3 : (c : Dev Cert.Kernel9Ideal.nD) → Buf (Elt Ideal) ((c.tc : Thread Cert.Kernel9Ideal.nD Cert.Kernel9Ideal.τ).loc Cert.Kernel9Ideal.main_v56)) (v4 : (c : Dev Cert.Kernel9Ideal.nD) → Buf (Elt Ideal) ((c.tc : Thread Cert.Kernel9Ideal.nD Cert.Kernel9Ideal.τ).loc Cert.Kernel9Ideal.main_v58)) (v5 : (c : Dev Cert.Kernel9Ideal.nD) → Buf (Elt Ideal) ((c.tc : Thread Cert.Kernel9Ideal.nD Cert.Kernel9Ideal.τ).loc Cert.Kernel9Ideal.main_v60)) (v6 : (c : Dev Cert.Kernel9Ideal.nD) → Buf (Elt Ideal) ((c.tc : Thread Cert.Kernel9Ideal.nD Cert.Kernel9Ideal.τ).loc Cert.Kernel9Ideal.main_v62)) (v7 : (c : Dev Cert.Kernel9Ideal.nD) → Buf (Elt Ideal) ((c.tc : Thread Cert.Kernel9Ideal.nD Cert.Kernel9Ideal.τ).loc Cert.Kernel9Ideal.main_v64)) (v8 : (c : Dev Cert.Kernel9Ideal.nD) → Buf (Elt Ideal) ((c.tc : Thread Cert.Kernel9Ideal.nD Cert.Kernel9Ideal.τ).loc Cert.Kernel9Ideal.main_v66)) (v9 : (c : Dev Cert.Kernel9Ideal.nD) → Buf (Elt Ideal) ((c.tc : Thread Cert.Kernel9Ideal.nD Cert.Kernel9Ideal.τ).loc Cert.Kernel9Ideal.main_v68)) (v10 : (c : Dev Cert.Kernel9Ideal.nD) → Buf (Elt Ideal) ((c.tc : Thread Cert.Kernel9Ideal.nD Cert.Kernel9Ideal.τ).loc Cert.Kernel9Ideal.main_v70)) (v11 : (c : Dev Cert.Kernel9Ideal.nD) → Buf (Elt Ideal) ((c.tc : Thread Cert.Kernel9Ideal.nD Cert.Kernel9Ideal.τ).loc Cert.Kernel9Ideal.main_v72)) (v12 : (c : Dev Cert.Kernel9Ideal.nD) → Buf (Elt Ideal) ((c.tc : Thread Cert.Kernel9Ideal.nD Cert.Kernel9Ideal.τ).loc Cert.Kernel9Ideal.main_v74)) (v13 : (c : Dev Cert.Kernel9Ideal.nD) → Buf (Elt Ideal) ((c.tc : Thread Cert.Kernel9Ideal.nD Cert.Kernel9Ideal.τ).loc Cert.Kernel9Ideal.main_v76)) (v14 : (c : Dev Cert.Kernel9Ideal.nD) → Buf (Elt Ideal) ((c.tc : Thread Cert.Kernel9Ideal.nD Cert.Kernel9Ideal.τ).loc Cert.Kernel9Ideal.main_v78)) (v15 : (c : Dev Cert.Kernel9Ideal.nD) → Buf (Elt Ideal) ((c.tc : Thread Cert.Kernel9Ideal.nD Cert.Kernel9Ideal.τ).loc Cert.Kernel9Ideal.main_v80)) (v16 : (c : Dev Cert.Kernel9Ideal.nD) → Buf (Elt Ideal) ((c.tc : Thread Cert.Kernel9Ideal.nD Cert.Kernel9Ideal.τ).loc Cert.Kernel9Ideal.main_v82)) (v17 : (c : Dev Cert.Kernel9Ideal.nD) → Buf (Elt Ideal) ((c.tc : Thread Cert.Kernel9Ideal.nD Cert.Kernel9Ideal.τ).loc Cert.Kernel9Ideal.main_v84)) (v18 : (c : Dev Cert.Kernel9Ideal.nD) → Buf (Elt Ideal) ((c.tc : Thread Cert.Kernel9Ideal.nD Cert.Kernel9Ideal.τ).loc Cert.Kernel9Ideal.main_v86)) (v19 : (c : Dev Cert.Kernel9Ideal.nD) → Buf (Elt Ideal) ((c.tc : Thread Cert.Kernel9Ideal.nD Cert.Kernel9Ideal.τ).loc Cert.Kernel9Ideal.main_v88)) (v20 : (c : Dev Cert.Kernel9Ideal.nD) → Buf (Elt Ideal) ((c.tc : Thread Cert.Kernel9Ideal.nD Cert.Kernel9Ideal.τ).loc Cert.Kernel9Ideal.main_v90)) (v21 : (c : Dev Cert.Kernel9Ideal.nD) → Buf (Elt Ideal) ((c.tc : Thread Cert.Kernel9Ideal.nD Cert.Kernel9Ideal.τ).loc Cert.Kernel9Ideal.main_v92)) (v22 : (c : Dev Cert.Kernel9Ideal.nD) → Buf (Elt Ideal) ((c.tc : Thread Cert.Kernel9Ideal.nD Cert.Kernel9Ideal.τ).loc Cert.Kernel9Ideal.main_v94)) (v23 : (c : Dev Cert.Kernel9Ideal.nD) → Buf (Elt Ideal) ((c.tc : Thread Cert.Kernel9Ideal.nD Cert.Kernel9Ideal.τ).loc Cert.Kernel9Ideal.main_v96)) (v24 : (c : Dev Cert.Kernel9Ideal.nD) → Buf (Elt Ideal) ((c.tc : Thread Cert.Kernel9Ideal.nD Cert.Kernel9Ideal.τ).loc Cert.Kernel9Ideal.main_v98)) (v25 : (c : Dev Cert.Kernel9Ideal.nD) → Buf (Elt Ideal) ((c.tc : Thread Cert.Kernel9Ideal.nD Cert.Kernel9Ideal.τ).loc Cert.Kernel9Ideal.main_v100)) (v26 : (c : Dev Cert.Kernel9Ideal.nD) → Buf (Elt Ideal) ((c.tc : Thread Cert.Kernel9Ideal.nD Cert.Kernel9Ideal.τ).loc Cert.Kernel9Ideal.main_v102)) (v27 : (c : Dev Cert.Kernel9Ideal.nD) → Buf (Elt Ideal) ((c.tc : Thread Cert.Kernel9Ideal.nD Cert.Kernel9Ideal.τ).loc Cert.Kernel9Ideal.main_v104)) (v28 : (c : Dev Cert.Kernel9Ideal.nD) → Buf (Elt Ideal) ((c.tc : Thread Cert.Kernel9Ideal.nD Cert.Kernel9Ideal.τ).loc Cert.Kernel9Ideal.main_v106)) (v29 : (c : Dev Cert.Kernel9Ideal.nD) → Buf (Elt Ideal) ((c.tc : Thread Cert.Kernel9Ideal.nD Cert.Kernel9Ideal.τ).loc Cert.Kernel9Ideal.main_v108)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v50) = v0 c
          ∧ r.2.mem ((c.tc : Thread Cert.Kernel9Ideal.nD Cert.Kernel9Ideal.τ).loc Cert.Kernel9Ideal.main_v52) = v1 c
          ∧ r.2.mem ((c.tc : Thread Cert.Kernel9Ideal.nD Cert.Kernel9Ideal.τ).loc Cert.Kernel9Ideal.main_v54) = v2 c
          ∧ r.2.mem ((c.tc : Thread Cert.Kernel9Ideal.nD Cert.Kernel9Ideal.τ).loc Cert.Kernel9Ideal.main_v56) = v3 c
          ∧ r.2.mem ((c.tc : Thread Cert.Kernel9Ideal.nD Cert.Kernel9Ideal.τ).loc Cert.Kernel9Ideal.main_v58) = v4 c
          ∧ r.2.mem ((c.tc : Thread Cert.Kernel9Ideal.nD Cert.Kernel9Ideal.τ).loc Cert.Kernel9Ideal.main_v60) = v5 c
          ∧ r.2.mem ((c.tc : Thread Cert.Kernel9Ideal.nD Cert.Kernel9Ideal.τ).loc Cert.Kernel9Ideal.main_v62) = v6 c
          ∧ r.2.mem ((c.tc : Thread Cert.Kernel9Ideal.nD Cert.Kernel9Ideal.τ).loc Cert.Kernel9Ideal.main_v64) = v7 c
          ∧ r.2.mem ((c.tc : Thread Cert.Kernel9Ideal.nD Cert.Kernel9Ideal.τ).loc Cert.Kernel9Ideal.main_v66) = v8 c
          ∧ r.2.mem ((c.tc : Thread Cert.Kernel9Ideal.nD Cert.Kernel9Ideal.τ).loc Cert.Kernel9Ideal.main_v68) = v9 c
          ∧ r.2.mem ((c.tc : Thread Cert.Kernel9Ideal.nD Cert.Kernel9Ideal.τ).loc Cert.Kernel9Ideal.main_v70) = v10 c
          ∧ r.2.mem ((c.tc : Thread Cert.Kernel9Ideal.nD Cert.Kernel9Ideal.τ).loc Cert.Kernel9Ideal.main_v72) = v11 c
          ∧ r.2.mem ((c.tc : Thread Cert.Kernel9Ideal.nD Cert.Kernel9Ideal.τ).loc Cert.Kernel9Ideal.main_v74) = v12 c
          ∧ r.2.mem ((c.tc : Thread Cert.Kernel9Ideal.nD Cert.Kernel9Ideal.τ).loc Cert.Kernel9Ideal.main_v76) = v13 c
          ∧ r.2.mem ((c.tc : Thread Cert.Kernel9Ideal.nD Cert.Kernel9Ideal.τ).loc Cert.Kernel9Ideal.main_v78) = v14 c
          ∧ r.2.mem ((c.tc : Thread Cert.Kernel9Ideal.nD Cert.Kernel9Ideal.τ).loc Cert.Kernel9Ideal.main_v80) = v15 c
          ∧ r.2.mem ((c.tc : Thread Cert.Kernel9Ideal.nD Cert.Kernel9Ideal.τ).loc Cert.Kernel9Ideal.main_v82) = v16 c
          ∧ r.2.mem ((c.tc : Thread Cert.Kernel9Ideal.nD Cert.Kernel9Ideal.τ).loc Cert.Kernel9Ideal.main_v84) = v17 c
          ∧ r.2.mem ((c.tc : Thread Cert.Kernel9Ideal.nD Cert.Kernel9Ideal.τ).loc Cert.Kernel9Ideal.main_v86) = v18 c
          ∧ r.2.mem ((c.tc : Thread Cert.Kernel9Ideal.nD Cert.Kernel9Ideal.τ).loc Cert.Kernel9Ideal.main_v88) = v19 c
          ∧ r.2.mem ((c.tc : Thread Cert.Kernel9Ideal.nD Cert.Kernel9Ideal.τ).loc Cert.Kernel9Ideal.main_v90) = v20 c
          ∧ r.2.mem ((c.tc : Thread Cert.Kernel9Ideal.nD Cert.Kernel9Ideal.τ).loc Cert.Kernel9Ideal.main_v92) = v21 c
          ∧ r.2.mem ((c.tc : Thread Cert.Kernel9Ideal.nD Cert.Kernel9Ideal.τ).loc Cert.Kernel9Ideal.main_v94) = v22 c
          ∧ r.2.mem ((c.tc : Thread Cert.Kernel9Ideal.nD Cert.Kernel9Ideal.τ).loc Cert.Kernel9Ideal.main_v96) = v23 c
          ∧ r.2.mem ((c.tc : Thread Cert.Kernel9Ideal.nD Cert.Kernel9Ideal.τ).loc Cert.Kernel9Ideal.main_v98) = v24 c
          ∧ r.2.mem ((c.tc : Thread Cert.Kernel9Ideal.nD Cert.Kernel9Ideal.τ).loc Cert.Kernel9Ideal.main_v100) = v25 c
          ∧ r.2.mem ((c.tc : Thread Cert.Kernel9Ideal.nD Cert.Kernel9Ideal.τ).loc Cert.Kernel9Ideal.main_v102) = v26 c
          ∧ r.2.mem ((c.tc : Thread Cert.Kernel9Ideal.nD Cert.Kernel9Ideal.τ).loc Cert.Kernel9Ideal.main_v104) = v27 c
          ∧ r.2.mem ((c.tc : Thread Cert.Kernel9Ideal.nD Cert.Kernel9Ideal.τ).loc Cert.Kernel9Ideal.main_v106) = v28 c
          ∧ r.2.mem ((c.tc : Thread Cert.Kernel9Ideal.nD Cert.Kernel9Ideal.τ).loc Cert.Kernel9Ideal.main_v108) = v29 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
          ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
          ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17)
          ∧ r.2.mem ((c.tc : Thread Cert.Kernel9Ideal.nD Cert.Kernel9Ideal.τ).loc Cert.Kernel9Ideal.main_arg18) = m ((c.tc : Thread Cert.Kernel9Ideal.nD Cert.Kernel9Ideal.τ).loc Cert.Kernel9Ideal.main_arg18)
          ∧ r.2.mem ((c.tc : Thread Cert.Kernel9Ideal.nD Cert.Kernel9Ideal.τ).loc Cert.Kernel9Ideal.main_arg19) = m ((c.tc : Thread Cert.Kernel9Ideal.nD Cert.Kernel9Ideal.τ).loc Cert.Kernel9Ideal.main_arg19)
          ∧ r.2.mem ((c.tc : Thread Cert.Kernel9Ideal.nD Cert.Kernel9Ideal.τ).loc Cert.Kernel9Ideal.main_arg20) = m ((c.tc : Thread Cert.Kernel9Ideal.nD Cert.Kernel9Ideal.τ).loc Cert.Kernel9Ideal.main_arg20)
          ∧ r.2.mem ((c.tc : Thread Cert.Kernel9Ideal.nD Cert.Kernel9Ideal.τ).loc Cert.Kernel9Ideal.main_arg21) = m ((c.tc : Thread Cert.Kernel9Ideal.nD Cert.Kernel9Ideal.τ).loc Cert.Kernel9Ideal.main_arg21)
          ∧ r.2.mem ((c.tc : Thread Cert.Kernel9Ideal.nD Cert.Kernel9Ideal.τ).loc Cert.Kernel9Ideal.main_arg22) = m ((c.tc : Thread Cert.Kernel9Ideal.nD Cert.Kernel9Ideal.τ).loc Cert.Kernel9Ideal.main_arg22)
          ∧ r.2.mem ((c.tc : Thread Cert.Kernel9Ideal.nD Cert.Kernel9Ideal.τ).loc Cert.Kernel9Ideal.main_arg23) = m ((c.tc : Thread Cert.Kernel9Ideal.nD Cert.Kernel9Ideal.τ).loc Cert.Kernel9Ideal.main_arg23)
          ∧ r.2.mem ((c.tc : Thread Cert.Kernel9Ideal.nD Cert.Kernel9Ideal.τ).loc Cert.Kernel9Ideal.main_arg24) = m ((c.tc : Thread Cert.Kernel9Ideal.nD Cert.Kernel9Ideal.τ).loc Cert.Kernel9Ideal.main_arg24)
          ∧ r.2.mem ((c.tc : Thread Cert.Kernel9Ideal.nD Cert.Kernel9Ideal.τ).loc Cert.Kernel9Ideal.main_arg25) = m ((c.tc : Thread Cert.Kernel9Ideal.nD Cert.Kernel9Ideal.τ).loc Cert.Kernel9Ideal.main_arg25)
          ∧ r.2.mem ((c.tc : Thread Cert.Kernel9Ideal.nD Cert.Kernel9Ideal.τ).loc Cert.Kernel9Ideal.main_arg26) = m ((c.tc : Thread Cert.Kernel9Ideal.nD Cert.Kernel9Ideal.τ).loc Cert.Kernel9Ideal.main_arg26)
          ∧ r.2.mem ((c.tc : Thread Cert.Kernel9Ideal.nD Cert.Kernel9Ideal.τ).loc Cert.Kernel9Ideal.main_arg27) = m ((c.tc : Thread Cert.Kernel9Ideal.nD Cert.Kernel9Ideal.τ).loc Cert.Kernel9Ideal.main_arg27)
          ∧ r.2.mem ((c.tc : Thread Cert.Kernel9Ideal.nD Cert.Kernel9Ideal.τ).loc Cert.Kernel9Ideal.main_arg28) = m ((c.tc : Thread Cert.Kernel9Ideal.nD Cert.Kernel9Ideal.τ).loc Cert.Kernel9Ideal.main_arg28)
          ∧ r.2.mem ((c.tc : Thread Cert.Kernel9Ideal.nD Cert.Kernel9Ideal.τ).loc Cert.Kernel9Ideal.main_arg29) = m ((c.tc : Thread Cert.Kernel9Ideal.nD Cert.Kernel9Ideal.τ).loc Cert.Kernel9Ideal.main_arg29)
          ∧ r.2.mem ((c.tc : Thread Cert.Kernel9Ideal.nD Cert.Kernel9Ideal.τ).loc Cert.Kernel9Ideal.main_arg30) = m ((c.tc : Thread Cert.Kernel9Ideal.nD Cert.Kernel9Ideal.τ).loc Cert.Kernel9Ideal.main_arg30)
          ∧ r.2.mem ((c.tc : Thread Cert.Kernel9Ideal.nD Cert.Kernel9Ideal.τ).loc Cert.Kernel9Ideal.main_arg31) = m ((c.tc : Thread Cert.Kernel9Ideal.nD Cert.Kernel9Ideal.τ).loc Cert.Kernel9Ideal.main_arg31)
          ∧ r.2.mem ((c.tc : Thread Cert.Kernel9Ideal.nD Cert.Kernel9Ideal.τ).loc Cert.Kernel9Ideal.main_arg32) = m ((c.tc : Thread Cert.Kernel9Ideal.nD Cert.Kernel9Ideal.τ).loc Cert.Kernel9Ideal.main_arg32)
          ∧ r.2.mem ((c.tc : Thread Cert.Kernel9Ideal.nD Cert.Kernel9Ideal.τ).loc Cert.Kernel9Ideal.main_arg33) = m ((c.tc : Thread Cert.Kernel9Ideal.nD Cert.Kernel9Ideal.τ).loc Cert.Kernel9Ideal.main_arg33)
          ∧ r.2.mem ((c.tc : Thread Cert.Kernel9Ideal.nD Cert.Kernel9Ideal.τ).loc Cert.Kernel9Ideal.main_arg34) = m ((c.tc : Thread Cert.Kernel9Ideal.nD Cert.Kernel9Ideal.τ).loc Cert.Kernel9Ideal.main_arg34)
          ∧ r.2.mem ((c.tc : Thread Cert.Kernel9Ideal.nD Cert.Kernel9Ideal.τ).loc Cert.Kernel9Ideal.main_arg35) = m ((c.tc : Thread Cert.Kernel9Ideal.nD Cert.Kernel9Ideal.τ).loc Cert.Kernel9Ideal.main_arg35)
          ∧ r.2.mem ((c.tc : Thread Cert.Kernel9Ideal.nD Cert.Kernel9Ideal.τ).loc Cert.Kernel9Ideal.main_arg36) = m ((c.tc : Thread Cert.Kernel9Ideal.nD Cert.Kernel9Ideal.τ).loc Cert.Kernel9Ideal.main_arg36)
          ∧ r.2.mem ((c.tc : Thread Cert.Kernel9Ideal.nD Cert.Kernel9Ideal.τ).loc Cert.Kernel9Ideal.main_arg37) = m ((c.tc : Thread Cert.Kernel9Ideal.nD Cert.Kernel9Ideal.τ).loc Cert.Kernel9Ideal.main_arg37)
          ∧ r.2.mem ((c.tc : Thread Cert.Kernel9Ideal.nD Cert.Kernel9Ideal.τ).loc Cert.Kernel9Ideal.main_arg38) = m ((c.tc : Thread Cert.Kernel9Ideal.nD Cert.Kernel9Ideal.τ).loc Cert.Kernel9Ideal.main_arg38)
          ∧ r.2.mem ((c.tc : Thread Cert.Kernel9Ideal.nD Cert.Kernel9Ideal.τ).loc Cert.Kernel9Ideal.main_arg39) = m ((c.tc : Thread Cert.Kernel9Ideal.nD Cert.Kernel9Ideal.τ).loc Cert.Kernel9Ideal.main_arg39))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v47) = v1 c
          ∧ r.2.mem ((c.tc : Thread Cert.Reference9Ideal.nD Cert.Reference9Ideal.τ).loc Cert.Reference9Ideal.main_v71) = v2 c
          ∧ r.2.mem ((c.tc : Thread Cert.Reference9Ideal.nD Cert.Reference9Ideal.τ).loc Cert.Reference9Ideal.main_v95) = v3 c
          ∧ r.2.mem ((c.tc : Thread Cert.Reference9Ideal.nD Cert.Reference9Ideal.τ).loc Cert.Reference9Ideal.main_v119) = v4 c
          ∧ r.2.mem ((c.tc : Thread Cert.Reference9Ideal.nD Cert.Reference9Ideal.τ).loc Cert.Reference9Ideal.main_v143) = v5 c
          ∧ r.2.mem ((c.tc : Thread Cert.Reference9Ideal.nD Cert.Reference9Ideal.τ).loc Cert.Reference9Ideal.main_v167) = v6 c
          ∧ r.2.mem ((c.tc : Thread Cert.Reference9Ideal.nD Cert.Reference9Ideal.τ).loc Cert.Reference9Ideal.main_v191) = v7 c
          ∧ r.2.mem ((c.tc : Thread Cert.Reference9Ideal.nD Cert.Reference9Ideal.τ).loc Cert.Reference9Ideal.main_v215) = v8 c
          ∧ r.2.mem ((c.tc : Thread Cert.Reference9Ideal.nD Cert.Reference9Ideal.τ).loc Cert.Reference9Ideal.main_v239) = v9 c
          ∧ r.2.mem ((c.tc : Thread Cert.Reference9Ideal.nD Cert.Reference9Ideal.τ).loc Cert.Reference9Ideal.main_v4) = v10 c
          ∧ r.2.mem ((c.tc : Thread Cert.Reference9Ideal.nD Cert.Reference9Ideal.τ).loc Cert.Reference9Ideal.main_v28) = v11 c
          ∧ r.2.mem ((c.tc : Thread Cert.Reference9Ideal.nD Cert.Reference9Ideal.τ).loc Cert.Reference9Ideal.main_v52) = v12 c
          ∧ r.2.mem ((c.tc : Thread Cert.Reference9Ideal.nD Cert.Reference9Ideal.τ).loc Cert.Reference9Ideal.main_v76) = v13 c
          ∧ r.2.mem ((c.tc : Thread Cert.Reference9Ideal.nD Cert.Reference9Ideal.τ).loc Cert.Reference9Ideal.main_v100) = v14 c
          ∧ r.2.mem ((c.tc : Thread Cert.Reference9Ideal.nD Cert.Reference9Ideal.τ).loc Cert.Reference9Ideal.main_v124) = v15 c
          ∧ r.2.mem ((c.tc : Thread Cert.Reference9Ideal.nD Cert.Reference9Ideal.τ).loc Cert.Reference9Ideal.main_v148) = v16 c
          ∧ r.2.mem ((c.tc : Thread Cert.Reference9Ideal.nD Cert.Reference9Ideal.τ).loc Cert.Reference9Ideal.main_v172) = v17 c
          ∧ r.2.mem ((c.tc : Thread Cert.Reference9Ideal.nD Cert.Reference9Ideal.τ).loc Cert.Reference9Ideal.main_v196) = v18 c
          ∧ r.2.mem ((c.tc : Thread Cert.Reference9Ideal.nD Cert.Reference9Ideal.τ).loc Cert.Reference9Ideal.main_v220) = v19 c
          ∧ r.2.mem ((c.tc : Thread Cert.Reference9Ideal.nD Cert.Reference9Ideal.τ).loc Cert.Reference9Ideal.main_v10) = v20 c
          ∧ r.2.mem ((c.tc : Thread Cert.Reference9Ideal.nD Cert.Reference9Ideal.τ).loc Cert.Reference9Ideal.main_v34) = v21 c
          ∧ r.2.mem ((c.tc : Thread Cert.Reference9Ideal.nD Cert.Reference9Ideal.τ).loc Cert.Reference9Ideal.main_v58) = v22 c
          ∧ r.2.mem ((c.tc : Thread Cert.Reference9Ideal.nD Cert.Reference9Ideal.τ).loc Cert.Reference9Ideal.main_v82) = v23 c
          ∧ r.2.mem ((c.tc : Thread Cert.Reference9Ideal.nD Cert.Reference9Ideal.τ).loc Cert.Reference9Ideal.main_v106) = v24 c
          ∧ r.2.mem ((c.tc : Thread Cert.Reference9Ideal.nD Cert.Reference9Ideal.τ).loc Cert.Reference9Ideal.main_v130) = v25 c
          ∧ r.2.mem ((c.tc : Thread Cert.Reference9Ideal.nD Cert.Reference9Ideal.τ).loc Cert.Reference9Ideal.main_v154) = v26 c
          ∧ r.2.mem ((c.tc : Thread Cert.Reference9Ideal.nD Cert.Reference9Ideal.τ).loc Cert.Reference9Ideal.main_v178) = v27 c
          ∧ r.2.mem ((c.tc : Thread Cert.Reference9Ideal.nD Cert.Reference9Ideal.τ).loc Cert.Reference9Ideal.main_v202) = v28 c
          ∧ r.2.mem ((c.tc : Thread Cert.Reference9Ideal.nD Cert.Reference9Ideal.τ).loc Cert.Reference9Ideal.main_v226) = v29 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15)
          ∧ r.2.mem ((c.tc : Thread Cert.Reference9Ideal.nD Cert.Reference9Ideal.τ).loc Cert.Reference9Ideal.main_arg16) = m' ((c.tc : Thread Cert.Reference9Ideal.nD Cert.Reference9Ideal.τ).loc Cert.Reference9Ideal.main_arg16)
          ∧ r.2.mem ((c.tc : Thread Cert.Reference9Ideal.nD Cert.Reference9Ideal.τ).loc Cert.Reference9Ideal.main_arg17) = m' ((c.tc : Thread Cert.Reference9Ideal.nD Cert.Reference9Ideal.τ).loc Cert.Reference9Ideal.main_arg17)
          ∧ r.2.mem ((c.tc : Thread Cert.Reference9Ideal.nD Cert.Reference9Ideal.τ).loc Cert.Reference9Ideal.main_arg18) = m' ((c.tc : Thread Cert.Reference9Ideal.nD Cert.Reference9Ideal.τ).loc Cert.Reference9Ideal.main_arg18)
          ∧ r.2.mem ((c.tc : Thread Cert.Reference9Ideal.nD Cert.Reference9Ideal.τ).loc Cert.Reference9Ideal.main_arg19) = m' ((c.tc : Thread Cert.Reference9Ideal.nD Cert.Reference9Ideal.τ).loc Cert.Reference9Ideal.main_arg19)
          ∧ r.2.mem ((c.tc : Thread Cert.Reference9Ideal.nD Cert.Reference9Ideal.τ).loc Cert.Reference9Ideal.main_arg20) = m' ((c.tc : Thread Cert.Reference9Ideal.nD Cert.Reference9Ideal.τ).loc Cert.Reference9Ideal.main_arg20)
          ∧ r.2.mem ((c.tc : Thread Cert.Reference9Ideal.nD Cert.Reference9Ideal.τ).loc Cert.Reference9Ideal.main_arg21) = m' ((c.tc : Thread Cert.Reference9Ideal.nD Cert.Reference9Ideal.τ).loc Cert.Reference9Ideal.main_arg21)
          ∧ r.2.mem ((c.tc : Thread Cert.Reference9Ideal.nD Cert.Reference9Ideal.τ).loc Cert.Reference9Ideal.main_arg22) = m' ((c.tc : Thread Cert.Reference9Ideal.nD Cert.Reference9Ideal.τ).loc Cert.Reference9Ideal.main_arg22)
          ∧ r.2.mem ((c.tc : Thread Cert.Reference9Ideal.nD Cert.Reference9Ideal.τ).loc Cert.Reference9Ideal.main_arg23) = m' ((c.tc : Thread Cert.Reference9Ideal.nD Cert.Reference9Ideal.τ).loc Cert.Reference9Ideal.main_arg23)
          ∧ r.2.mem ((c.tc : Thread Cert.Reference9Ideal.nD Cert.Reference9Ideal.τ).loc Cert.Reference9Ideal.main_arg24) = m' ((c.tc : Thread Cert.Reference9Ideal.nD Cert.Reference9Ideal.τ).loc Cert.Reference9Ideal.main_arg24)
          ∧ r.2.mem ((c.tc : Thread Cert.Reference9Ideal.nD Cert.Reference9Ideal.τ).loc Cert.Reference9Ideal.main_arg25) = m' ((c.tc : Thread Cert.Reference9Ideal.nD Cert.Reference9Ideal.τ).loc Cert.Reference9Ideal.main_arg25)
          ∧ r.2.mem ((c.tc : Thread Cert.Reference9Ideal.nD Cert.Reference9Ideal.τ).loc Cert.Reference9Ideal.main_arg26) = m' ((c.tc : Thread Cert.Reference9Ideal.nD Cert.Reference9Ideal.τ).loc Cert.Reference9Ideal.main_arg26)
          ∧ r.2.mem ((c.tc : Thread Cert.Reference9Ideal.nD Cert.Reference9Ideal.τ).loc Cert.Reference9Ideal.main_arg27) = m' ((c.tc : Thread Cert.Reference9Ideal.nD Cert.Reference9Ideal.τ).loc Cert.Reference9Ideal.main_arg27)
          ∧ r.2.mem ((c.tc : Thread Cert.Reference9Ideal.nD Cert.Reference9Ideal.τ).loc Cert.Reference9Ideal.main_arg28) = m' ((c.tc : Thread Cert.Reference9Ideal.nD Cert.Reference9Ideal.τ).loc Cert.Reference9Ideal.main_arg28)
          ∧ r.2.mem ((c.tc : Thread Cert.Reference9Ideal.nD Cert.Reference9Ideal.τ).loc Cert.Reference9Ideal.main_arg29) = m' ((c.tc : Thread Cert.Reference9Ideal.nD Cert.Reference9Ideal.τ).loc Cert.Reference9Ideal.main_arg29)
          ∧ r.2.mem ((c.tc : Thread Cert.Reference9Ideal.nD Cert.Reference9Ideal.τ).loc Cert.Reference9Ideal.main_arg30) = m' ((c.tc : Thread Cert.Reference9Ideal.nD Cert.Reference9Ideal.τ).loc Cert.Reference9Ideal.main_arg30)
          ∧ r.2.mem ((c.tc : Thread Cert.Reference9Ideal.nD Cert.Reference9Ideal.τ).loc Cert.Reference9Ideal.main_arg31) = m' ((c.tc : Thread Cert.Reference9Ideal.nD Cert.Reference9Ideal.τ).loc Cert.Reference9Ideal.main_arg31)
          ∧ r.2.mem ((c.tc : Thread Cert.Reference9Ideal.nD Cert.Reference9Ideal.τ).loc Cert.Reference9Ideal.main_arg32) = m' ((c.tc : Thread Cert.Reference9Ideal.nD Cert.Reference9Ideal.τ).loc Cert.Reference9Ideal.main_arg32)
          ∧ r.2.mem ((c.tc : Thread Cert.Reference9Ideal.nD Cert.Reference9Ideal.τ).loc Cert.Reference9Ideal.main_arg33) = m' ((c.tc : Thread Cert.Reference9Ideal.nD Cert.Reference9Ideal.τ).loc Cert.Reference9Ideal.main_arg33)
          ∧ r.2.mem ((c.tc : Thread Cert.Reference9Ideal.nD Cert.Reference9Ideal.τ).loc Cert.Reference9Ideal.main_arg34) = m' ((c.tc : Thread Cert.Reference9Ideal.nD Cert.Reference9Ideal.τ).loc Cert.Reference9Ideal.main_arg34)
          ∧ r.2.mem ((c.tc : Thread Cert.Reference9Ideal.nD Cert.Reference9Ideal.τ).loc Cert.Reference9Ideal.main_arg35) = m' ((c.tc : Thread Cert.Reference9Ideal.nD Cert.Reference9Ideal.τ).loc Cert.Reference9Ideal.main_arg35)
          ∧ r.2.mem ((c.tc : Thread Cert.Reference9Ideal.nD Cert.Reference9Ideal.τ).loc Cert.Reference9Ideal.main_arg36) = m' ((c.tc : Thread Cert.Reference9Ideal.nD Cert.Reference9Ideal.τ).loc Cert.Reference9Ideal.main_arg36)
          ∧ r.2.mem ((c.tc : Thread Cert.Reference9Ideal.nD Cert.Reference9Ideal.τ).loc Cert.Reference9Ideal.main_arg37) = m' ((c.tc : Thread Cert.Reference9Ideal.nD Cert.Reference9Ideal.τ).loc Cert.Reference9Ideal.main_arg37)
          ∧ r.2.mem ((c.tc : Thread Cert.Reference9Ideal.nD Cert.Reference9Ideal.τ).loc Cert.Reference9Ideal.main_arg38) = m' ((c.tc : Thread Cert.Reference9Ideal.nD Cert.Reference9Ideal.τ).loc Cert.Reference9Ideal.main_arg38)
          ∧ r.2.mem ((c.tc : Thread Cert.Reference9Ideal.nD Cert.Reference9Ideal.τ).loc Cert.Reference9Ideal.main_arg39) = m' ((c.tc : Thread Cert.Reference9Ideal.nD Cert.Reference9Ideal.τ).loc Cert.Reference9Ideal.main_arg39))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4)) (v1 : (c : Dev Cert.Kernel10Ideal.nD) → Buf (Elt Ideal) ((c.tc : Thread Cert.Kernel10Ideal.nD Cert.Kernel10Ideal.τ).loc Cert.Kernel10Ideal.main_v6)) (v2 : (c : Dev Cert.Kernel10Ideal.nD) → Buf (Elt Ideal) ((c.tc : Thread Cert.Kernel10Ideal.nD Cert.Kernel10Ideal.τ).loc Cert.Kernel10Ideal.main_v7)) (v3 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_v6) = v1 c
          ∧ r.2.mem ((c.tc : Thread Cert.Kernel10Ideal.nD Cert.Kernel10Ideal.τ).loc Cert.Kernel10Ideal.main_v7) = v2 c
          ∧ r.2.mem ((c.tc : Thread Cert.Kernel10Ideal.nD Cert.Kernel10Ideal.τ).loc Cert.Kernel10Ideal.main_v9) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v3) = v1 c
          ∧ r.2.mem ((c.tc : Thread Cert.Reference10Ideal.nD Cert.Reference10Ideal.τ).loc Cert.Reference10Ideal.main_v0) = v2 c
          ∧ r.2.mem ((c.tc : Thread Cert.Reference10Ideal.nD Cert.Reference10Ideal.τ).loc Cert.Reference10Ideal.main_v1) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v8) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_v8) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v11)) (v1 : (c : Dev Cert.Kernel13Ideal.nD) → Buf (Elt Ideal) ((c.tc : Thread Cert.Kernel13Ideal.nD Cert.Kernel13Ideal.τ).loc Cert.Kernel13Ideal.main_v13)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v11) = v0 c
          ∧ r.2.mem ((c.tc : Thread Cert.Kernel13Ideal.nD Cert.Kernel13Ideal.τ).loc Cert.Kernel13Ideal.main_v13) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_v51) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v2) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_v8) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v59) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)
      ∧ m' ((c.tc : Thread Cert.Reference17Ideal.nD Cert.Reference17Ideal.τ).loc Cert.Reference17Ideal.main_arg10) = m ((c.tc : Thread Cert.Kernel17Ideal.nD Cert.Kernel17Ideal.τ).loc Cert.Kernel17Ideal.main_arg10)
      ∧ m' ((c.tc : Thread Cert.Reference17Ideal.nD Cert.Reference17Ideal.τ).loc Cert.Reference17Ideal.main_arg11) = m ((c.tc : Thread Cert.Kernel17Ideal.nD Cert.Kernel17Ideal.τ).loc Cert.Kernel17Ideal.main_arg11)
      ∧ m' ((c.tc : Thread Cert.Reference17Ideal.nD Cert.Reference17Ideal.τ).loc Cert.Reference17Ideal.main_arg12) = m ((c.tc : Thread Cert.Kernel17Ideal.nD Cert.Kernel17Ideal.τ).loc Cert.Kernel17Ideal.main_arg12)
      ∧ m' ((c.tc : Thread Cert.Reference17Ideal.nD Cert.Reference17Ideal.τ).loc Cert.Reference17Ideal.main_arg13) = m ((c.tc : Thread Cert.Kernel17Ideal.nD Cert.Kernel17Ideal.τ).loc Cert.Kernel17Ideal.main_arg13)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
          ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
          ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
          ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12)
          ∧ r.2.mem ((c.tc : Thread Cert.Kernel17Ideal.nD Cert.Kernel17Ideal.τ).loc Cert.Kernel17Ideal.main_arg13) = m ((c.tc : Thread Cert.Kernel17Ideal.nD Cert.Kernel17Ideal.τ).loc Cert.Kernel17Ideal.main_arg13))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9)
          ∧ r.2.mem ((c.tc : Thread Cert.Reference17Ideal.nD Cert.Reference17Ideal.τ).loc Cert.Reference17Ideal.main_arg10) = m' ((c.tc : Thread Cert.Reference17Ideal.nD Cert.Reference17Ideal.τ).loc Cert.Reference17Ideal.main_arg10)
          ∧ r.2.mem ((c.tc : Thread Cert.Reference17Ideal.nD Cert.Reference17Ideal.τ).loc Cert.Reference17Ideal.main_arg11) = m' ((c.tc : Thread Cert.Reference17Ideal.nD Cert.Reference17Ideal.τ).loc Cert.Reference17Ideal.main_arg11)
          ∧ r.2.mem ((c.tc : Thread Cert.Reference17Ideal.nD Cert.Reference17Ideal.τ).loc Cert.Reference17Ideal.main_arg12) = m' ((c.tc : Thread Cert.Reference17Ideal.nD Cert.Reference17Ideal.τ).loc Cert.Reference17Ideal.main_arg12)
          ∧ r.2.mem ((c.tc : Thread Cert.Reference17Ideal.nD Cert.Reference17Ideal.τ).loc Cert.Reference17Ideal.main_arg13) = m' ((c.tc : Thread Cert.Reference17Ideal.nD Cert.Reference17Ideal.τ).loc Cert.Reference17Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite3 : Cert.Pre_finite3.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_arg6 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S2048x2048 .f32) (main_arg2 : FVec F S4096x2048 .f32) (main_arg3 : FVec F S4096x2048 .f32) (main_arg4 : FVec F S2048 .f32) (main_arg5 : FVec F S2048 .f32) (main_arg6 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_v13 main_v16
-- ==== Pre_finite12.lean ====
abbrev S8x2048 : Shape := ⟨2, ![8, 2048]⟩
abbrev S2048 : Shape := ⟨1, ![2048]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn {F : FTy → Type} [FloatOps F] (main_arg0 : FVec F S8x2048 .f32) (main_arg1 : FVec F S2048 .f32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  main_v3
-- ==== Pre_finite3.lean ====
abbrev S4096x2048 : Shape := ⟨2, ![4096, 2048]⟩
abbrev S256x2048 : Shape := ⟨2, ![256, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S256x2048 .f32) (main_arg2 : FVec F S4096x2048 .f32) (main_arg3 : FVec F S256x2048 .f32) (main_arg4 : FVec F S2048 .f32) (main_arg5 : FVec F S2048 .f32) (main_arg6 : FVec F S2048 .f32) (main_arg7 : FVec F S2048 .f32) (main_arg8 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg2
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg5
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S10240 : Shape := ⟨1, ![10240]⟩
abbrev S16384 : Shape := ⟨1, ![16384]⟩
abbrev S8x2048 : Shape := ⟨2, ![8, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S1024x1024 : Shape := ⟨2, ![1024, 1024]⟩
abbrev S1024x2048 : Shape := ⟨2, ![1024, 2048]⟩

abbrev nBuf : Space → Nat
  | .hbm => 28
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S4096x2048, .bf16⟩
  | .hbm, ⟨8, _⟩ => ⟨S2048x2048, .bf16⟩
  | .hbm, ⟨9, _⟩ => ⟨S_, .f32⟩
  | .hbm, ⟨10, _⟩ => ⟨S10240, .f32⟩
  | .hbm, ⟨11, _⟩ => ⟨S16384, .f32⟩
  | .hbm, ⟨12, _⟩ => ⟨S8x2048, .f32⟩
  | .hbm, ⟨13, _⟩ => ⟨S4096x2048, .bf16⟩
  | .hbm, ⟨14, _⟩ => ⟨S4096x2048, .f32⟩
  | .hbm, ⟨15, _⟩ => ⟨S4096x2048, .f32⟩
  | .hbm, ⟨16, _⟩ => ⟨S8x2048, .f32⟩
  | .hbm, ⟨17, _⟩ => ⟨S2048x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S_, .f32⟩
  | .hbm, ⟨27, _⟩ => ⟨S_, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S8x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S8x2048, .f32⟩
  | .local _ .vmem, ⟨15, _⟩ => ⟨S1024x1024, .bf16⟩
  | .local _ .vmem, ⟨16, _⟩ => ⟨S1024x1024, .bf16⟩
  | .local _ .vmem, ⟨17, _⟩ => ⟨S1024x2048, .bf16⟩
  | .local _ .vmem, ⟨18, _⟩ => ⟨S1024x2048, .bf16⟩
  | .local _ .vmem, ⟨19, _⟩ => ⟨S1024x2048, .f32⟩
  | .local _ .vmem, ⟨20, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S4096 : Shape := ⟨1, ![4096]⟩
abbrev S4096x1 : Shape := ⟨2, ![4096, 1]⟩

abbrev nBuf : Space → Nat
  | .hbm => 132
  | .vmem => 0
  | .smem => 0
  | _ => 0

abbrev hbmTy0_0 (i : Nat) : BufTy := match i % 128 with
  | 0 => ⟨S4096x2048, .f32⟩
  | 1 => ⟨S2048x2048, .f32⟩
  | 2 => ⟨S4096x2048, .f32⟩
  | 3 => ⟨S4096x2048, .f32⟩
  | 4 => ⟨S2048, .f32⟩
  | 5 => ⟨S2048, .f32⟩
  | 6 => ⟨S2048, .f32⟩
  | 7 => ⟨S_, .f32⟩
  | 8 => ⟨S4096x2048, .f32⟩
  | 9 => ⟨S4096x2048, .f32⟩
  | 10 => ⟨S4096x2048, .f32⟩
  | 11 => ⟨S1x2048, .f32⟩
  | 12 => ⟨S4096x2048, .f32⟩
  | 13 => ⟨S4096x2048, .f32⟩
  | 14 => ⟨S4096x2048, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x2048, .f32⟩
  | 22 => ⟨S4096x2048, .f32⟩
  | 23 => ⟨S4096x2048, .f32⟩
  | 24 => ⟨S_, .f32⟩
  | 25 => ⟨S4096x2048, .f32⟩
  | 26 => ⟨S4096x2048, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S4096x2048, .f32⟩
  | 34 => ⟨S4096x2048, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x2048, .f32⟩
  | 44 => ⟨S4096x2048, .f32⟩
  | 45 => ⟨S1x2048, .f32⟩
  | 46 => ⟨S4096x2048, .f32⟩
  | 47 => ⟨S4096x2048, .f32⟩
  | 48 => ⟨S1x2048, .f32⟩
  | 49 => ⟨S4096x2048, .f32⟩
  | 50 => ⟨S4096x2048, .f32⟩
  | 51 => ⟨S4096x2048, .f32⟩
  | 52 => ⟨S4096x2048, .f32⟩
  | 53 => ⟨S_, .f32⟩
  | 54 => ⟨S4096x2048, .f32⟩
  | 55 => ⟨S4096x2048, .f32⟩
  | 56 => ⟨S_, .f32⟩
  | 57 => ⟨S4096, .f32⟩
  | 58 => ⟨S_, .f32⟩
  | 59 => ⟨S4096, .f32⟩
  | 60 => ⟨S4096, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S4096, .f32⟩
  | 69 => ⟨S_, .f32⟩
  | 70 => ⟨S4096, .f32⟩
  | 71 => ⟨S4096, .f32⟩
  | 72 => ⟨S4096x2048, .f32⟩
  | 73 => ⟨S4096x2048, .f32⟩
  | 74 => ⟨S_, .f32⟩
  | 75 => ⟨S2048, .f32⟩
  | 76 => ⟨S1x2048, .f32⟩
  | 77 => ⟨S_, .f32⟩
  | 78 => ⟨S2048, .f32⟩
  | 79 => ⟨S4096x2048, .f32⟩
  | 80 => ⟨S_, .f32⟩
  | 81 => ⟨S2048, .f32⟩
  | 82 => ⟨S1x2048, .f32⟩
  | 83 => ⟨S4096x2048, .f32⟩
  | 84 => ⟨S4096x2048, .f32⟩
  | 85 => ⟨S_, .f32⟩
  | 86 => ⟨S2048, .f32⟩
  | 87 => ⟨S4096x2048, .f32⟩
  | 88 => ⟨S_, .f32⟩
  | 89 => ⟨S4096, .f32⟩
  | 90 => ⟨S4096x1, .f32⟩
  | 91 => ⟨S4096x2048, .f32⟩
  | 92 => ⟨S4096x2048, .f32⟩
  | 93 => ⟨S4096x1, .f32⟩
  | 94 => ⟨S4096x2048, .f32⟩
  | 95 => ⟨S_, .f32⟩
  | 96 => ⟨S4096, .f32⟩
  | 97 => ⟨S4096x1, .f32⟩
  | 98 => ⟨S_, .f32⟩
  | 99 => ⟨S4096x1, .f32⟩
  | 100 => ⟨S4096x1, .f32⟩
  | 101 => ⟨S_, .f32⟩
  | 102 => ⟨S4096, .f32⟩
  | 103 => ⟨S4096x2048, .f32⟩
  | 104 => ⟨S4096x2048, .f32⟩
  | 105 => ⟨S4096x2048, .f32⟩
  | 106 => ⟨S_, .f32⟩
  | 107 => ⟨S4096, .f32⟩
  | 108 => ⟨S4096x1, .f32⟩
  | 109 => ⟨S4096x2048, .f32⟩
  | 110 => ⟨S4096x1, .f32⟩
  | 111 => ⟨S_, .f32⟩
  | 112 => ⟨S4096x1, .f32⟩
  | 113 => ⟨S4096x1, .f32⟩
  | 114 => ⟨S_, .f32⟩
  | 115 => ⟨S4096, .f32⟩
  | 116 => ⟨S4096x2048, .f32⟩
  | 117 => ⟨S4096x2048, .f32⟩
  | 118 => ⟨S4096x2048, .f32⟩
  | 119 => ⟨S4096x2048, .f32⟩
  | 120 => ⟨S4096x2048, .f32⟩
  | 121 => ⟨S_, .f32⟩
  | 122 => ⟨S2048, .f32⟩
  | 123 => ⟨S1x2048, .f32⟩
  | 124 => ⟨S_, .f32⟩
  | 125 => ⟨S2048, .f32⟩
  | 126 => ⟨S2048x2048, .f32⟩
  | 127 => ⟨S2048x2048, .f32⟩
  | _ => ⟨S4096x2048, .f32⟩

abbrev hbmTy0_1 (i : Nat) : BufTy := match i % 128 with
  | 0 => ⟨S4096x2048, .f32⟩
  | 1 => ⟨S_, .f32⟩
  | 2 => ⟨S4096x2048, .f32⟩
  | 3 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_cst_12 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_v51 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_18 : Ref sig .tc := ⟨.hbm, 85, rfl⟩
abbrev main_v59 : Ref sig .tc := ⟨.hbm, 86, rfl⟩
abbrev main_v60 : Ref sig .tc := ⟨.hbm, 87, rfl⟩
abbrev main_cst_19 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_cst_21 : Ref sig .tc := ⟨.hbm, 98, rfl⟩
abbrev main_v69 : Ref sig .tc := ⟨.hbm, 99, rfl⟩
abbrev main_v70 : Ref sig .tc := ⟨.hbm, 100, rfl⟩
abbrev main_cst_22 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_23 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_24 : Ref sig .tc := ⟨.hbm, 111, rfl⟩
abbrev main_v79 : Ref sig .tc := ⟨.hbm, 112, rfl⟩
abbrev main_v80 : Ref sig .tc := ⟨.hbm, 113, rfl⟩
abbrev main_cst_25 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_26 : Ref sig .tc := ⟨.hbm, 121, rfl⟩
abbrev main_v87 : Ref sig .tc := ⟨.hbm, 122, rfl⟩
abbrev main_v88 : Ref sig .tc := ⟨.hbm, 123, rfl⟩
abbrev main_cst_27 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_28 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]
-- ==== Kernel2.lean ====
abbrev S4096x2048 : Shape := ⟨2, ![4096, 2048]⟩
abbrev S256x2048 : Shape := ⟨2, ![256, 2048]⟩
abbrev S4096x10256 : Shape := ⟨2, ![4096, 10256]⟩
abbrev S256x10256 : Shape := ⟨2, ![256, 10256]⟩
abbrev S4352x2048 : Shape := ⟨2, ![4352, 2048]⟩
abbrev S4352x10256 : Shape := ⟨2, ![4352, 10256]⟩
abbrev S_ : Shape := ⟨0, ![]⟩
abbrev S4352x10368 : Shape := ⟨2, ![4352, 10368]⟩
abbrev S10368x2048 : Shape := ⟨2, ![10368, 2048]⟩
abbrev S1088x1152 : Shape := ⟨2, ![1088, 1152]⟩
abbrev S1088x2048 : Shape := ⟨2, ![1088, 2048]⟩
abbrev S1152x2048 : Shape := ⟨2, ![1152, 2048]⟩
abbrev S10256x2048 : Shape := ⟨2, ![10256, 2048]⟩
abbrev S2048x10256 : Shape := ⟨2, ![2048, 10256]⟩

abbrev nBuf : Space → Nat
  | .hbm => 17
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S4096x10256, .f32⟩
  | .hbm, ⟨3, _⟩ => ⟨S256x10256, .f32⟩
  | .hbm, ⟨4, _⟩ => ⟨S4352x2048, .f32⟩
  | .hbm, ⟨5, _⟩ => ⟨S4352x2048, .bf16⟩
  | .hbm, ⟨6, _⟩ => ⟨S4352x10256, .f32⟩
  | .hbm, ⟨7, _⟩ => ⟨S_, .i32⟩
  | .hbm, ⟨8, _⟩ => ⟨S_, .f32⟩
  | .hbm, ⟨9, _⟩ => ⟨S4352x10368, .f32⟩
  | .hbm, ⟨10, _⟩ => ⟨S4352x10368, .bf16⟩
  | .hbm, ⟨11, _⟩ => ⟨S10368x2048, .f32⟩
  | .hbm, ⟨12, _⟩ => ⟨S10368x2048, .bf16⟩
  | .hbm, ⟨13, _⟩ => ⟨S10256x2048, .f32⟩
  | .hbm, ⟨14, _⟩ => ⟨S2048x10256, .f32⟩
  | .hbm, ⟨15, _⟩ => ⟨S10256x2048, .bf16⟩
  | .hbm, ⟨16, _⟩ => ⟨S2048x10256, .bf16⟩
  | .local _ .vmem, ⟨0, _⟩ => ⟨S1088x1152, .bf16⟩
  | .local _ .vmem, ⟨1, _⟩ => ⟨S1088x1152, .bf16⟩
  | .local _ .vmem, ⟨2, _⟩ => ⟨S1088x2048, .bf16⟩
  | .local _ .vmem, ⟨3, _⟩ => ⟨S1088x2048, .bf16⟩
  | .local _ .vmem, ⟨4, _⟩ => ⟨S1152x2048, .f32⟩
  | .local _ .vmem, ⟨5, _⟩ => ⟨S1152x2048, .f32⟩
  | .local _ .vmem, ⟨6, _⟩ => ⟨S1152x2048, .bf16⟩
  | .local _ .vmem, ⟨7, _⟩ => ⟨S1152x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1152x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S4096x2048 : Shape := ⟨2, ![4096, 2048]⟩
abbrev S256x2048 : Shape := ⟨2, ![256, 2048]⟩
abbrev S4096x10256 : Shape := ⟨2, ![4096, 10256]⟩
abbrev S256x10256 : Shape := ⟨2, ![256, 10256]⟩
abbrev S_ : Shape := ⟨0, ![]⟩
abbrev S2048x10256 : Shape := ⟨2, ![2048, 10256]⟩
abbrev S10256x2048 : Shape := ⟨2, ![10256, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S4096x10256, .f32⟩
  | .hbm, ⟨3, _⟩ => ⟨S256x10256, .f32⟩
  | .hbm, ⟨4, _⟩ => ⟨S_, .f32⟩
  | .hbm, ⟨5, _⟩ => ⟨S2048x10256, .f32⟩
  | .hbm, ⟨6, _⟩ => ⟨S4096x10256, .f32⟩
  | .hbm, ⟨7, _⟩ => ⟨S256x10256, .f32⟩
  | .hbm, ⟨8, _⟩ => ⟨S10256x2048, .f32⟩
  | .hbm, ⟨9, _⟩ => ⟨S2048x10256, .f32⟩
  | .hbm, ⟨10, _⟩ => ⟨S10256x2048, .f32⟩
  | .hbm, ⟨11, _⟩ => ⟨S2048x10256, .f32⟩
  | .hbm, ⟨12, _⟩ => ⟨S2048x10256, .f32⟩
  | .hbm, ⟨13, _⟩ => ⟨S2048x10256, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S4096x2048 : Shape := ⟨2, ![4096, 2048]⟩
abbrev S256x2048 : Shape := ⟨2, ![256, 2048]⟩
abbrev S2048 : Shape := ⟨1, ![2048]⟩
abbrev S_ : Shape := ⟨0, ![]⟩
abbrev S12288 : Shape := ⟨1, ![12288]⟩
abbrev S16384 : Shape := ⟨1, ![16384]⟩
abbrev S8x2048 : Shape := ⟨2, ![8, 2048]⟩
abbrev S1x8x2048 : Shape := ⟨3, ![1, 8, 2048]⟩
abbrev S2x8x2048 : Shape := ⟨3, ![2, 8, 2048]⟩
abbrev S4352x2048 : Shape := ⟨2, ![4352, 2048]⟩
abbrev S256 : Shape := ⟨1, ![256]⟩
abbrev S256x1 : Shape := ⟨2, ![256, 1]⟩
abbrev S1x1x2048 : Shape := ⟨3, ![1, 1, 2048]⟩
abbrev S1x2048 : Shape := ⟨2, ![1, 2048]⟩

abbrev nBuf : Space → Nat
  | .hbm => 31
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S4096x2048, .f32⟩
  | .hbm, ⟨3, _⟩ => ⟨S256x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S12288, .f32⟩
  | .hbm, ⟨11, _⟩ => ⟨S16384, .f32⟩
  | .hbm, ⟨12, _⟩ => ⟨S8x2048, .f32⟩
  | .hbm, ⟨13, _⟩ => ⟨S_, .f32⟩
  | .hbm, ⟨14, _⟩ => ⟨S12288, .f32⟩
  | .hbm, ⟨15, _⟩ => ⟨S16384, .f32⟩
  | .hbm, ⟨16, _⟩ => ⟨S8x2048, .f32⟩
  | .hbm, ⟨17, _⟩ => ⟨S1x8x2048, .f32⟩
  | .hbm, ⟨18, _⟩ => ⟨S1x8x2048, .f32⟩
  | .hbm, ⟨19, _⟩ => ⟨S2x8x2048, .f32⟩
  | .hbm, ⟨20, _⟩ => ⟨S4352x2048, .f32⟩
  | .hbm, ⟨21, _⟩ => ⟨S4096x2048, .f32⟩
  | .hbm, ⟨22, _⟩ => ⟨S2x8x2048, .f32⟩
  | .hbm, ⟨23, _⟩ => ⟨S1x1x2048, .f32⟩
  | .hbm, ⟨24, _⟩ => ⟨S2048, .f32⟩
  | .hbm, ⟨25, _⟩ => ⟨S1x1x2048, .f32⟩
  | .hbm, ⟨26, _⟩ => ⟨S2048, .f32⟩
  | .hbm, ⟨27, _⟩ => ⟨S1x1x2048, .f32⟩
  | .hbm, ⟨28, _⟩ => ⟨S2048, .f32⟩
  | .hbm, ⟨29, _⟩ => ⟨S1x1x2048, .f32⟩
  | .hbm, ⟨30, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x8x2048, .f32⟩
  | .local _ .vmem, ⟨7, _⟩ => ⟨S1x8x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x8x2048, .f32⟩
  | .local _ .vmem, ⟨13, _⟩ => ⟨S1x8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c1_i32 : BitVec 32 := 1#32
  let v0 : BitVec 1 := Scalar.cmpi .slt arg0 c1_i32
  let c16_i32 : BitVec 32 := 16#32
  let v1 : BitVec 32 := Scalar.addi c16_i32 arg0
  let c1_i32_0 : BitVec 32 := 1#32
  let v2 : BitVec 32 := Scalar.subi arg0 c1_i32_0
  let v3 : BitVec 32 := Scalar.select v0 v1 v2
  let c0_i32 : BitVec 32 := 0#32
  let c0_i32_1 : BitVec 32 := 0#32
  ![v3.toNat, c0_i32.toNat]

def cc0_transform_3 (i : grid0.Coords) : Fin 3 → Nat :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4096x2048 : Shape := ⟨2, ![4096, 2048]⟩
abbrev S256x2048 : Shape := ⟨2, ![256, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S256 : Shape := ⟨1, ![256]⟩
abbrev S256x1 : Shape := ⟨2, ![256, 1]⟩

abbrev nBuf : Space → Nat
  | .hbm => 138
  | .vmem => 0
  | .smem => 0
  | _ => 0

abbrev hbmTy0_0 (i : Nat) : BufTy := match i % 128 with
  | 0 => ⟨S4096x2048, .f32⟩
  | 1 => ⟨S256x2048, .f32⟩
  | 2 => ⟨S4096x2048, .f32⟩
  | 3 => ⟨S256x2048, .f32⟩
  | 4 => ⟨S2048, .f32⟩
  | 5 => ⟨S2048, .f32⟩
  | 6 => ⟨S2048, .f32⟩
  | 7 => ⟨S2048, .f32⟩
  | 8 => ⟨S4096x2048, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S4096x2048, .f32⟩
  | 16 => ⟨S4096x2048, .f32⟩
  | 17 => ⟨S4096x2048, .f32⟩
  | 18 => ⟨S_, .f32⟩
  | 19 => ⟨S4096x2048, .f32⟩
  | 20 => ⟨S4096x2048, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x2048, .f32⟩
  | 28 => ⟨S4096x2048, .f32⟩
  | 29 => ⟨S_, .f32⟩
  | 30 => ⟨S4096x1, .f32⟩
  | 31 => ⟨S4096x1, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x2048, .f32⟩
  | 38 => ⟨S4096x2048, .f32⟩
  | 39 => ⟨S_, .f32⟩
  | 40 => ⟨S2048, .f32⟩
  | 41 => ⟨S2048, .f32⟩
  | 42 => ⟨S1x2048, .f32⟩
  | 43 => ⟨S4096x2048, .f32⟩
  | 44 => ⟨S4096x2048, .f32⟩
  | 45 => ⟨S1x2048, .f32⟩
  | 46 => ⟨S4096x2048, .f32⟩
  | 47 => ⟨S4096x2048, .f32⟩
  | 48 => ⟨S_, .f32⟩
  | 49 => ⟨S256, .f32⟩
  | 50 => ⟨S256x1, .f32⟩
  | 51 => ⟨S_, .f32⟩
  | 52 => ⟨S256x1, .f32⟩
  | 53 => ⟨S256x1, .f32⟩
  | 54 => ⟨S256x2048, .f32⟩
  | 55 => ⟨S256x2048, .f32⟩
  | 56 => ⟨S256x2048, .f32⟩
  | 57 => ⟨S_, .f32⟩
  | 58 => ⟨S256, .f32⟩
  | 59 => ⟨S256x1, .f32⟩
  | 60 => ⟨S_, .f32⟩
  | 61 => ⟨S256x1, .f32⟩
  | 62 => ⟨S256x1, .f32⟩
  | 63 => ⟨S256x2048, .f32⟩
  | 64 => ⟨S256x2048, .f32⟩
  | 65 => ⟨S_, .f32⟩
  | 66 => ⟨S256x1, .f32⟩
  | 67 => ⟨S256x1, .f32⟩
  | 68 => ⟨S256x1, .f32⟩
  | 69 => ⟨S256x2048, .f32⟩
  | 70 => ⟨S256x2048, .f32⟩
  | 71 => ⟨S_, .f32⟩
  | 72 => ⟨S2048, .f32⟩
  | 73 => ⟨S2048, .f32⟩
  | 74 => ⟨S1x2048, .f32⟩
  | 75 => ⟨S256x2048, .f32⟩
  | 76 => ⟨S256x2048, .f32⟩
  | 77 => ⟨S1x2048, .f32⟩
  | 78 => ⟨S256x2048, .f32⟩
  | 79 => ⟨S256x2048, .f32⟩
  | 80 => ⟨S256x2048, .f32⟩
  | 81 => ⟨S_, .f32⟩
  | 82 => ⟨S2048, .f32⟩
  | 83 => ⟨S1x2048, .f32⟩
  | 84 => ⟨S_, .f32⟩
  | 85 => ⟨S2048, .f32⟩
  | 86 => ⟨S256x2048, .f32⟩
  | 87 => ⟨S_, .f32⟩
  | 88 => ⟨S2048, .f32⟩
  | 89 => ⟨S1x2048, .f32⟩
  | 90 => ⟨S_, .f32⟩
  | 91 => ⟨S2048, .f32⟩
  | 92 => ⟨S4096x2048, .f32⟩
  | 93 => ⟨S_, .f32⟩
  | 94 => ⟨S2048, .f32⟩
  | 95 => ⟨S1x2048, .f32⟩
  | 96 => ⟨S_, .f32⟩
  | 97 => ⟨S2048, .f32⟩
  | 98 => ⟨S4096x2048, .f32⟩
  | 99 => ⟨S_, .f32⟩
  | 100 => ⟨S2048, .f32⟩
  | 101 => ⟨S1x2048, .f32⟩
  | 102 => ⟨S4096x2048, .f32⟩
  | 103 => ⟨S4096x2048, .f32⟩
  | 104 => ⟨S_, .f32⟩
  | 105 => ⟨S2048, .f32⟩
  | 106 => ⟨S4096x2048, .f32⟩
  | 107 => ⟨S_, .f32⟩
  | 108 => ⟨S4096, .f32⟩
  | 109 => ⟨S4096x1, .f32⟩
  | 110 => ⟨S4096x2048, .f32⟩
  | 111 => ⟨S4096x2048, .f32⟩
  | 112 => ⟨S4096x1, .f32⟩
  | 113 => ⟨S4096x2048, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x2048, .f32⟩
  | 123 => ⟨S4096x2048, .f32⟩
  | 124 => ⟨S4096x2048, .f32⟩
  | 125 => ⟨S_, .f32⟩
  | 126 => ⟨S4096, .f32⟩
  | 127 => ⟨S4096x1, .f32⟩
  | _ => ⟨S4096x2048, .f32⟩

abbrev hbmTy0_1 (i : Nat) : BufTy := match i % 128 with
  | 0 => ⟨S4096x2048, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x2048, .f32⟩
  | 8 => ⟨S4096x2048, .f32⟩
  | 9 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_v63 : Ref sig .tc := ⟨.hbm, 89, rfl⟩
abbrev main_cst_16 : Ref sig .tc := ⟨.hbm, 90, rfl⟩
abbrev main_v64 : Ref sig .tc := ⟨.hbm, 91, rfl⟩
abbrev main_v65 : Ref sig .tc := ⟨.hbm, 92, rfl⟩
abbrev main_cst_17 : Ref sig .tc := ⟨.hbm, 93, rfl⟩
abbrev main_v66 : Ref sig .tc := ⟨.hbm, 94, rfl⟩
abbrev main_v67 : Ref sig .tc := ⟨.hbm, 95, rfl⟩
abbrev main_cst_18 : Ref sig .tc := ⟨.hbm, 96, rfl⟩
abbrev main_v68 : Ref sig .tc := ⟨.hbm, 97, rfl⟩
abbrev main_v69 : Ref sig .tc := ⟨.hbm, 98, rfl⟩
abbrev main_cst_19 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_20 : Ref sig .tc := ⟨.hbm, 104, rfl⟩
abbrev main_v74 : Ref sig .tc := ⟨.hbm, 105, rfl⟩
abbrev main_v75 : Ref sig .tc := ⟨.hbm, 106, rfl⟩
abbrev main_cst_21 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_22 : Ref sig .tc := ⟨.hbm, 114, rfl⟩
abbrev main_v82 : Ref sig .tc := ⟨.hbm, 115, rfl⟩
abbrev main_v83 : Ref sig .tc := ⟨.hbm, 116, rfl⟩
abbrev main_cst_23 : Ref sig .tc := ⟨.hbm, 117, rfl⟩
abbrev main_v84 : Ref sig .tc := ⟨.hbm, 118, rfl⟩
abbrev main_v85 : Ref sig .tc := ⟨.hbm, 119, rfl⟩
abbrev main_cst_24 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_25 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_26 : Ref sig .tc := ⟨.hbm, 130, rfl⟩
abbrev main_v94 : Ref sig .tc := ⟨.hbm, 131, rfl⟩
abbrev main_v95 : Ref sig .tc := ⟨.hbm, 132, rfl⟩
abbrev main_cst_27 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]
-- ==== Kernel4.lean ====
abbrev S4096x10256 : Shape := ⟨2, ![4096, 10256]⟩
abbrev S256x10256 : Shape := ⟨2, ![256, 10256]⟩
abbrev S2048x10256 : Shape := ⟨2, ![2048, 10256]⟩
abbrev S4352x10256 : Shape := ⟨2, ![4352, 10256]⟩
abbrev S_ : Shape := ⟨0, ![]⟩
abbrev S4352x10368 : Shape := ⟨2, ![4352, 10368]⟩
abbrev S10256x2048 : Shape := ⟨2, ![10256, 2048]⟩
abbrev S10368x2048 : Shape := ⟨2, ![10368, 2048]⟩
abbrev S4352x2048 : Shape := ⟨2, ![4352, 2048]⟩
abbrev S1088x1152 : Shape := ⟨2, ![1088, 1152]⟩
abbrev S1152x2048 : Shape := ⟨2, ![1152, 2048]⟩
abbrev S1088x2048 : Shape := ⟨2, ![1088, 2048]⟩
abbrev S4096x2048 : Shape := ⟨2, ![4096, 2048]⟩
abbrev S256x2048 : Shape := ⟨2, ![256, 2048]⟩

abbrev nBuf : Space → Nat
  | .hbm => 16
  | .vmem => 6
  | .smem => 0
  | _ => 0

abbrev bufTy : (tb : Table) → Fin (tcTables nBuf tb) → BufTy
  | .hbm, ⟨0, _⟩ => ⟨S4096x10256, .f32⟩
  | .hbm, ⟨1, _⟩ => ⟨S256x10256, .f32⟩
  | .hbm, ⟨2, _⟩ => ⟨S2048x10256, .f32⟩
  | .hbm, ⟨3, _⟩ => ⟨S4352x10256, .f32⟩
  | .hbm, ⟨4, _⟩ => ⟨S_, .i32⟩
  | .hbm, ⟨5, _⟩ => ⟨S_, .f32⟩
  | .hbm, ⟨6, _⟩ => ⟨S4352x10368, .f32⟩
  | .hbm, ⟨7, _⟩ => ⟨S4352x10368, .bf16⟩
  | .hbm, ⟨8, _⟩ => ⟨S10256x2048, .f32⟩
  | .hbm, ⟨9, _⟩ => ⟨S_, .i32⟩
  | .hbm, ⟨10, _⟩ => ⟨S_, .f32⟩
  | .hbm, ⟨11, _⟩ => ⟨S10368x2048, .f32⟩
  | .hbm, ⟨12, _⟩ => ⟨S10368x2048, .bf16⟩
  | .hbm, ⟨13, _⟩ => ⟨S4352x2048, .f32⟩
  | .hbm, ⟨14, _⟩ => ⟨S4096x2048, .f32⟩
  | .hbm, ⟨15, _⟩ => ⟨S256x2048, .f32⟩
  | .local _ .vmem, ⟨0, _⟩ => ⟨S1088x1152, .bf16⟩
  | .local _ .vmem, ⟨1, _⟩ => ⟨S1088x1152, .bf16⟩
  | .local _ .vmem, ⟨2, _⟩ => ⟨S1152x2048, .bf16⟩
  | .local _ .vmem, ⟨3, _⟩ => ⟨S1152x2048, .bf16⟩
  | .local _ .vmem, ⟨4, _⟩ => ⟨S1088x2048, .f32⟩
  | .local _ .vmem, ⟨5, _⟩ => ⟨S1088x2048, .f32⟩
  | _, _ => ⟨S4096x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x10256 : Shape := ⟨2, ![4096, 10256]⟩
abbrev S256x10256 : Shape := ⟨2, ![256, 10256]⟩
abbrev S2048x10256 : Shape := ⟨2, ![2048, 10256]⟩
abbrev S_ : Shape := ⟨0, ![]⟩
abbrev S4096x2048 : Shape := ⟨2, ![4096, 2048]⟩
abbrev S256x2048 : Shape := ⟨2, ![256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x10256, .f32⟩
  | .hbm, ⟨1, _⟩ => ⟨S256x10256, .f32⟩
  | .hbm, ⟨2, _⟩ => ⟨S2048x10256, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S256x2048, .f32⟩
  | .hbm, ⟨7, _⟩ => ⟨S4096x10256, .f32⟩
  | .hbm, ⟨8, _⟩ => ⟨S256x10256, .f32⟩
  | .hbm, ⟨9, _⟩ => ⟨S256x2048, .f32⟩
  | .hbm, ⟨10, _⟩ => ⟨S4096x2048, .f32⟩
  | _, _ => ⟨S4096x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S4096x2048 : Shape := ⟨2, ![4096, 2048]⟩
abbrev S256x2048 : Shape := ⟨2, ![256, 2048]⟩
abbrev S2048x10256 : Shape := ⟨2, ![2048, 10256]⟩
abbrev S4352x2048 : Shape := ⟨2, ![4352, 2048]⟩
abbrev S10256x2048 : Shape := ⟨2, ![10256, 2048]⟩
abbrev S_ : Shape := ⟨0, ![]⟩
abbrev S10368x2048 : Shape := ⟨2, ![10368, 2048]⟩
abbrev S4352x10368 : Shape := ⟨2, ![4352, 10368]⟩
abbrev S1088x2048 : Shape := ⟨2, ![1088, 2048]⟩
abbrev S1152x2048 : Shape := ⟨2, ![1152, 2048]⟩
abbrev S1088x1152 : Shape := ⟨2, ![1088, 1152]⟩
abbrev S4096x10256 : Shape := ⟨2, ![4096, 10256]⟩
abbrev S256x10256 : Shape := ⟨2, ![256, 10256]⟩

abbrev nBuf : Space → Nat
  | .hbm => 13
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S2048x10256, .f32⟩
  | .hbm, ⟨3, _⟩ => ⟨S4352x2048, .f32⟩
  | .hbm, ⟨4, _⟩ => ⟨S4352x2048, .bf16⟩
  | .hbm, ⟨5, _⟩ => ⟨S10256x2048, .f32⟩
  | .hbm, ⟨6, _⟩ => ⟨S_, .i32⟩
  | .hbm, ⟨7, _⟩ => ⟨S_, .f32⟩
  | .hbm, ⟨8, _⟩ => ⟨S10368x2048, .f32⟩
  | .hbm, ⟨9, _⟩ => ⟨S10368x2048, .bf16⟩
  | .hbm, ⟨10, _⟩ => ⟨S4352x10368, .f32⟩
  | .hbm, ⟨11, _⟩ => ⟨S4096x10256, .f32⟩
  | .hbm, ⟨12, _⟩ => ⟨S256x10256, .f32⟩
  | .local _ .vmem, ⟨0, _⟩ => ⟨S1088x2048, .bf16⟩
  | .local _ .vmem, ⟨1, _⟩ => ⟨S1088x2048, .bf16⟩
  | .local _ .vmem, ⟨2, _⟩ => ⟨S1152x2048, .bf16⟩
  | .local _ .vmem, ⟨3, _⟩ => ⟨S1152x2048, .bf16⟩
  | .local _ .vmem, ⟨4, _⟩ => ⟨S1088x1152, .f32⟩
  | .local _ .vmem, ⟨5, _⟩ => ⟨S1088x1152, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2048 : Shape := ⟨2, ![4096, 2048]⟩
abbrev S256x2048 : Shape := ⟨2, ![256, 2048]⟩
abbrev S2048x10256 : Shape := ⟨2, ![2048, 10256]⟩
abbrev S4096x10256 : Shape := ⟨2, ![4096, 10256]⟩
abbrev S256x10256 : Shape := ⟨2, ![256, 10256]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S2048x10256, .f32⟩
  | .hbm, ⟨3, _⟩ => ⟨S4096x10256, .f32⟩
  | .hbm, ⟨4, _⟩ => ⟨S256x10256, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S2048x2564 : Shape := ⟨2, ![2048, 2564]⟩
abbrev S2564x2048 : Shape := ⟨2, ![2564, 2048]⟩
abbrev S2564x128 : Shape := ⟨2, ![2564, 128]⟩

abbrev nBuf : Space → Nat
  | .hbm => 14
  | .vmem => 14
  | .smem => 0
  | _ => 0

abbrev bufTy : (tb : Table) → Fin (tcTables nBuf tb) → BufTy
  | .hbm, ⟨0, _⟩ => ⟨S2048x2564, .f32⟩
  | .hbm, ⟨1, _⟩ => ⟨S2048x2564, .f32⟩
  | .hbm, ⟨2, _⟩ => ⟨S2048x2564, .f32⟩
  | .hbm, ⟨3, _⟩ => ⟨S2048x2564, .f32⟩
  | .hbm, ⟨4, _⟩ => ⟨S2564x2048, .f32⟩
  | .hbm, ⟨5, _⟩ => ⟨S2564x2048, .f32⟩
  | .hbm, ⟨6, _⟩ => ⟨S2564x2048, .f32⟩
  | .hbm, ⟨7, _⟩ => ⟨S2564x2048, .f32⟩
  | .hbm, ⟨8, _⟩ => ⟨S2564x2048, .f32⟩
  | .hbm, ⟨9, _⟩ => ⟨S2564x2048, .f32⟩
  | .hbm, ⟨10, _⟩ => ⟨S2564x2048, .f32⟩
  | .hbm, ⟨11, _⟩ => ⟨S2048x2564, .f32⟩
  | .hbm, ⟨12, _⟩ => ⟨S2048x2564, .f32⟩
  | .hbm, ⟨13, _⟩ => ⟨S2048x2564, .f32⟩
  | .local _ .vmem, ⟨0, _⟩ => ⟨S2564x128, .f32⟩
  | .local _ .vmem, ⟨1, _⟩ => ⟨S2564x128, .f32⟩
  | .local _ .vmem, ⟨2, _⟩ => ⟨S2564x128, .f32⟩
  | .local _ .vmem, ⟨3, _⟩ => ⟨S2564x128, .f32⟩
  | .local _ .vmem, ⟨4, _⟩ => ⟨S2564x128, .f32⟩
  | .local _ .vmem, ⟨5, _⟩ => ⟨S2564x128, .f32⟩
  | .local _ .vmem, ⟨6, _⟩ => ⟨S2564x128, .f32⟩
  | .local _ .vmem, ⟨7, _⟩ => ⟨S2564x128, .f32⟩
  | .local _ .vmem, ⟨8, _⟩ => ⟨S2564x128, .f32⟩
  | .local _ .vmem, ⟨9, _⟩ => ⟨S2564x128, .f32⟩
  | .local _ .vmem, ⟨10, _⟩ => ⟨S2564x128, .f32⟩
  | .local _ .vmem, ⟨11, _⟩ => ⟨S2564x128, .f32⟩
  | .local _ .vmem, ⟨12, _⟩ => ⟨S2564x128, .f32⟩
  | .local _ .vmem, ⟨13, _⟩ => ⟨S2564x128, .f32⟩
  | _, _ => ⟨S2048x2564, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2564x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2564x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2564x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2564x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2564x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2564x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2564x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S2048x2564 : Shape := ⟨2, ![2048, 2564]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2564, .f32⟩
  | .hbm, ⟨1, _⟩ => ⟨S2048x2564, .f32⟩
  | .hbm, ⟨2, _⟩ => ⟨S2048x2564, .f32⟩
  | .hbm, ⟨3, _⟩ => ⟨S2048x2564, .f32⟩
  | .hbm, ⟨4, _⟩ => ⟨S_, .f32⟩
  | .hbm, ⟨5, _⟩ => ⟨S2048x2564, .f32⟩
  | .hbm, ⟨6, _⟩ => ⟨S2048x2564, .f32⟩
  | .hbm, ⟨7, _⟩ => ⟨S_, .f32⟩
  | .hbm, ⟨8, _⟩ => ⟨S2048x2564, .f32⟩
  | .hbm, ⟨9, _⟩ => ⟨S2048x2564, .f32⟩
  | .hbm, ⟨10, _⟩ => ⟨S2048x2564, .f32⟩
  | .hbm, ⟨11, _⟩ => ⟨S_, .f32⟩
  | .hbm, ⟨12, _⟩ => ⟨S2048x2564, .f32⟩
  | .hbm, ⟨13, _⟩ => ⟨S2048x2564, .f32⟩
  | .hbm, ⟨14, _⟩ => ⟨S2048x2564, .f32⟩
  | .hbm, ⟨15, _⟩ => ⟨S_, .f32⟩
  | .hbm, ⟨16, _⟩ => ⟨S2048x2564, .f32⟩
  | .hbm, ⟨17, _⟩ => ⟨S2048x2564, .f32⟩
  | .hbm, ⟨18, _⟩ => ⟨S2048x2564, .f32⟩
  | .hbm, ⟨19, _⟩ => ⟨S_, .f32⟩
  | .hbm, ⟨20, _⟩ => ⟨S2048x2564, .f32⟩
  | .hbm, ⟨21, _⟩ => ⟨S2048x2564, .f32⟩
  | .hbm, ⟨22, _⟩ => ⟨S_, .f32⟩
  | .hbm, ⟨23, _⟩ => ⟨S2048x2564, .f32⟩
  | .hbm, ⟨24, _⟩ => ⟨S2048x2564, .f32⟩
  | .hbm, ⟨25, _⟩ => ⟨S2048x2564, .f32⟩
  | .hbm, ⟨26, _⟩ => ⟨S_, .f32⟩
  | .hbm, ⟨27, _⟩ => ⟨S2048x2564, .f32⟩
  | .hbm, ⟨28, _⟩ => ⟨S2048x2564, .f32⟩
  | .hbm, ⟨29, _⟩ => ⟨S2048x2564, .f32⟩
  | .hbm, ⟨30, _⟩ => ⟨S_, .f32⟩
  | .hbm, ⟨31, _⟩ => ⟨S2048x2564, .f32⟩
  | .hbm, ⟨32, _⟩ => ⟨S2048x2564, .f32⟩
  | .hbm, ⟨33, _⟩ => ⟨S2048x2564, .f32⟩
  | .hbm, ⟨34, _⟩ => ⟨S_, .f32⟩
  | .hbm, ⟨35, _⟩ => ⟨S2048x2564, .f32⟩
  | .hbm, ⟨36, _⟩ => ⟨S2048x2564, .f32⟩
  | _, _ => ⟨S2048x2564, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S2048x1536 : Shape := ⟨2, ![2048, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S2048 : Shape := ⟨1, ![2048]⟩
abbrev S1x6144 : Shape := ⟨2, ![1, 6144]⟩
abbrev S1x3x3x512 : Shape := ⟨4, ![1, 3, 3, 512]⟩
abbrev S1x2048 : Shape := ⟨2, ![1, 2048]⟩
abbrev S2x2x256 : Shape := ⟨3, ![2, 2, 256]⟩
abbrev S1x4x4 : Shape := ⟨3, ![1, 4, 4]⟩
abbrev S1x1024 : Shape := ⟨2, ![1, 1024]⟩
abbrev S6144 : Shape := ⟨1, ![6144]⟩
abbrev S4608 : Shape := ⟨1, ![4608]⟩
abbrev S1024 : Shape := ⟨1, ![1024]⟩
abbrev S16 : Shape := ⟨1, ![16]⟩
abbrev S22032 : Shape := ⟨1, ![22032]⟩
abbrev S_ : Shape := ⟨0, ![]⟩
abbrev S24576 : Shape := ⟨1, ![24576]⟩
abbrev S24x1024 : Shape := ⟨2, ![24, 1024]⟩

abbrev nBuf : Space → Nat
  | .hbm => 159
  | .vmem => 7
  | .smem => 0
  | _ => 0

abbrev hbmTy0_0 (i : Nat) : BufTy := match i % 128 with
  | 0 => ⟨S2048, .f32⟩
  | 1 => ⟨S1x6144, .f32⟩
  | 2 => ⟨S1x3x3x512, .f32⟩
  | 3 => ⟨S1x2048, .f32⟩
  | 4 => ⟨S2x2x256, .f32⟩
  | 5 => ⟨S1x4x4, .f32⟩
  | 6 => ⟨S1x1024, .f32⟩
  | 7 => ⟨S1x1024, .f32⟩
  | 8 => ⟨S1x2048, .f32⟩
  | 9 => ⟨S1x2048, .f32⟩
  | 10 => ⟨S2048, .f32⟩
  | 11 => ⟨S1x6144, .f32⟩
  | 12 => ⟨S1x3x3x512, .f32⟩
  | 13 => ⟨S1x2048, .f32⟩
  | 14 => ⟨S2x2x256, .f32⟩
  | 15 => ⟨S1x4x4, .f32⟩
  | 16 => ⟨S1x1024, .f32⟩
  | 17 => ⟨S1x1024, .f32⟩
  | 18 => ⟨S1x2048, .f32⟩
  | 19 => ⟨S1x2048, .f32⟩
  | 20 => ⟨S2048, .f32⟩
  | 21 => ⟨S1x6144, .f32⟩
  | 22 => ⟨S1x3x3x512, .f32⟩
  | 23 => ⟨S1x2048, .f32⟩
  | 24 => ⟨S2x2x256, .f32⟩
  | 25 => ⟨S1x4x4, .f32⟩
  | 26 => ⟨S1x1024, .f32⟩
  | 27 => ⟨S1x1024, .f32⟩
  | 28 => ⟨S1x2048, .f32⟩
  | 29 => ⟨S1x2048, .f32⟩
  | 30 => ⟨S2048, .f32⟩
  | 31 => ⟨S1x6144, .f32⟩
  | 32 => ⟨S1x3x3x512, .f32⟩
  | 33 => ⟨S1x2048, .f32⟩
  | 34 => ⟨S2x2x256, .f32⟩
  | 35 => ⟨S1x4x4, .f32⟩
  | 36 => ⟨S1x1024, .f32⟩
  | 37 => ⟨S1x1024, .f32⟩
  | 38 => ⟨S1x2048, .f32⟩
  | 39 => ⟨S1x2048, .f32⟩
  | 40 => ⟨S6144, .f32⟩
  | 41 => ⟨S4608, .f32⟩
  | 42 => ⟨S2048, .f32⟩
  | 43 => ⟨S1024, .f32⟩
  | 44 => ⟨S16, .f32⟩
  | 45 => ⟨S1024, .f32⟩
  | 46 => ⟨S1024, .f32⟩
  | 47 => ⟨S2048, .f32⟩
  | 48 => ⟨S2048, .f32⟩
  | 49 => ⟨S22032, .f32⟩
  | 50 => ⟨S_, .i32⟩
  | 51 => ⟨S_, .f32⟩
  | 52 => ⟨S24576, .f32⟩
  | 53 => ⟨S24x1024, .f32⟩
  | 54 => ⟨S6144, .f32⟩
  | 55 => ⟨S4608, .f32⟩
  | 56 => ⟨S2048, .f32⟩
  | 57 => ⟨S1024, .f32⟩
  | 58 => ⟨S16, .f32⟩
  | 59 => ⟨S1024, .f32⟩
  | 60 => ⟨S1024, .f32⟩
  | 61 => ⟨S2048, .f32⟩
  | 62 => ⟨S2048, .f32⟩
  | 63 => ⟨S22032, .f32⟩
  | 64 => ⟨S_, .i32⟩
  | 65 => ⟨S_, .f32⟩
  | 66 => ⟨S24576, .f32⟩
  | 67 => ⟨S24x1024, .f32⟩
  | 68 => ⟨S6144, .f32⟩
  | 69 => ⟨S4608, .f32⟩
  | 70 => ⟨S2048, .f32⟩
  | 71 => ⟨S1024, .f32⟩
  | 72 => ⟨S16, .f32⟩
  | 73 => ⟨S1024, .f32⟩
  | 74 => ⟨S1024, .f32⟩
  | 75 => ⟨S2048, .f32⟩
  | 76 => ⟨S2048, .f32⟩
  | 77 => ⟨S22032, .f32⟩
  | 78 => ⟨S_, .i32⟩
  | 79 => ⟨S_, .f32⟩
  | 80 => ⟨S24576, .f32⟩
  | 81 => ⟨S24x1024, .f32⟩
  | 82 => ⟨S6144, .f32⟩
  | 83 => ⟨S4608, .f32⟩
  | 84 => ⟨S2048, .f32⟩
  | 85 => ⟨S1024, .f32⟩
  | 86 => ⟨S16, .f32⟩
  | 87 => ⟨S1024, .f32⟩
  | 88 => ⟨S1024, .f32⟩
  | 89 => ⟨S2048, .f32⟩
  | 90 => ⟨S2048, .f32⟩
  | 91 => ⟨S22032, .f32⟩
  | 92 => ⟨S_, .i32⟩
  | 93 => ⟨S_, .f32⟩
  | 94 => ⟨S24576, .f32⟩
  | 95 => ⟨S24x1024, .f32⟩
  | 96 => ⟨S24x1024, .f32⟩
  | 97 => ⟨S24x1024, .f32⟩
  | 98 => ⟨S24x1024, .f32⟩
  | 99 => ⟨S24576, .f32⟩
  | 100 => ⟨S2048, .f32⟩
  | 101 => ⟨S6144, .f32⟩
  | 102 => ⟨S1x6144, .f32⟩
  | 103 => ⟨S4608, .f32⟩
  | 104 => ⟨S1x3x3x512, .f32⟩
  | 105 => ⟨S2048, .f32⟩
  | 106 => ⟨S1x2048, .f32⟩
  | 107 => ⟨S1024, .f32⟩
  | 108 => ⟨S2x2x256, .f32⟩
  | 109 => ⟨S16, .f32⟩
  | 110 => ⟨S1x4x4, .f32⟩
  | 111 => ⟨S1024, .f32⟩
  | 112 => ⟨S1x1024, .f32⟩
  | 113 => ⟨S1024, .f32⟩
  | 114 => ⟨S1x1024, .f32⟩
  | 115 => ⟨S2048, .f32⟩
  | 116 => ⟨S1x2048, .f32⟩
  | 117 => ⟨S2048, .f32⟩
  | 118 => ⟨S1x2048, .f32⟩
  | 119 => ⟨S24576, .f32⟩
  | 120 => ⟨S2048, .f32⟩
  | 121 => ⟨S6144, .f32⟩
  | 122 => ⟨S1x6144, .f32⟩
  | 123 => ⟨S4608, .f32⟩
  | 124 => ⟨S1x3x3x512, .f32⟩
  | 125 => ⟨S2048, .f32⟩
  | 126 => ⟨S1x2048, .f32⟩
  | 127 => ⟨S1024, .f32⟩
  | _ => ⟨S2048, .f32⟩

abbrev hbmTy0_1 (i : Nat) : BufTy := match i % 128 with
  | 0 => ⟨S2x2x256, .f32⟩
  | 1 => ⟨S16, .f32⟩
  | 2 => ⟨S1x4x4, .f32⟩
  | 3 => ⟨S1024, .f32⟩
  | 4 => ⟨S1x1024, .f32⟩
  | 5 => ⟨S1024, .f32⟩
  | 6 => ⟨S1x1024, .f32⟩
  | 7 => ⟨S2048, .f32⟩
  | 8 => ⟨S1x2048, .f32⟩
  | 9 => ⟨S2048, .f32⟩
  | 10 => ⟨S1x2048, .f32⟩
  | 11 => ⟨S24576, .f32⟩
  | 12 => ⟨S2048, .f32⟩
  | 13 => ⟨S6144, .f32⟩
  | 14 => ⟨S1x6144, .f32⟩
  | 15 => ⟨S4608, .f32⟩
  | 16 => ⟨S1x3x3x512, .f32⟩
  | 17 => ⟨S2048, .f32⟩
  | 18 => ⟨S1x2048, .f32⟩
  | 19 => ⟨S1024, .f32⟩
  | 20 => ⟨S2x2x256, .f32⟩
  | 21 => ⟨S16, .f32⟩
  | 22 => ⟨S1x4x4, .f32⟩
  | 23 => ⟨S1024, .f32⟩
  | 24 => ⟨S1x1024, .f32⟩
  | 25 => ⟨S1024, .f32⟩
  | 26 => ⟨S1x1024, .f32⟩
  | 27 => ⟨S2048, .f32⟩
  | 28 => ⟨S1x2048, .f32⟩
  | 29 => ⟨S2048, .f32⟩
  | 30 => ⟨S1x2048, .f32⟩
  | _ => ⟨S2048, .f32⟩

abbrev hbmTy (i : Nat) : BufTy := match i / 128 with
  | 0 => hbmTy0_0 i
  | 1 => hbmTy0_1 i
  | _ => ⟨S2048, .f32⟩

abbrev bufTy : (tb : Table) → Fin (tcTables nBuf tb) → BufTy
  | .hbm, ⟨i, _⟩ => hbmTy i
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_c : Ref sig .tc := ⟨.hbm, 50, rfl⟩
abbrev main_call0_v0 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_c_0 : Ref sig .tc := ⟨.hbm, 64, rfl⟩
abbrev main_call1_v0 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_c_1 : Ref sig .tc := ⟨.hbm, 78, rfl⟩
abbrev main_call2_v0 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_2 : Ref sig .tc := ⟨.hbm, 92, rfl⟩
abbrev main_call3_v0 : Ref sig .tc := ⟨.hbm, 93, rfl⟩
abbrev main_v46 : Ref sig .tc := ⟨.hbm, 94, rfl⟩
abbrev main_v47 : Ref sig .tc := ⟨.hbm, 95, rfl⟩
abbrev main_v48_0 : Ref sig .tc := ⟨.hbm, 96, rfl⟩
abbrev main_v48_1 : Ref sig .tc := ⟨.hbm, 97, rfl⟩
abbrev main_v48_2 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S2048 : Shape := ⟨1, ![2048]⟩
abbrev S1x6144 : Shape := ⟨2, ![1, 6144]⟩
abbrev S1x3x3x512 : Shape := ⟨4, ![1, 3, 3, 512]⟩
abbrev S1x2048 : Shape := ⟨2, ![1, 2048]⟩
abbrev S2x2x256 : Shape := ⟨3, ![2, 2, 256]⟩
abbrev S1x4x4 : Shape := ⟨3, ![1, 4, 4]⟩
abbrev S1x1024 : Shape := ⟨2, ![1, 1024]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S2048, .f32⟩
  | 1 => ⟨S1x6144, .f32⟩
  | 2 => ⟨S1x3x3x512, .f32⟩
  | 3 => ⟨S1x2048, .f32⟩
  | 4 => ⟨S2x2x256, .f32⟩
  | 5 => ⟨S1x4x4, .f32⟩
  | 6 => ⟨S1x1024, .f32⟩
  | 7 => ⟨S1x1024, .f32⟩
  | 8 => ⟨S1x2048, .f32⟩
  | 9 => ⟨S1x2048, .f32⟩
  | 10 => ⟨S2048, .f32⟩
  | 11 => ⟨S1x6144, .f32⟩
  | 12 => ⟨S1x3x3x512, .f32⟩
  | 13 => ⟨S1x2048, .f32⟩
  | 14 => ⟨S2x2x256, .f32⟩
  | 15 => ⟨S1x4x4, .f32⟩
  | 16 => ⟨S1x1024, .f32⟩
  | 17 => ⟨S1x1024, .f32⟩
  | 18 => ⟨S1x2048, .f32⟩
  | 19 => ⟨S1x2048, .f32⟩
  | 20 => ⟨S2048, .f32⟩
  | 21 => ⟨S1x6144, .f32⟩
  | 22 => ⟨S1x3x3x512, .f32⟩
  | 23 => ⟨S1x2048, .f32⟩
  | 24 => ⟨S2x2x256, .f32⟩
  | 25 => ⟨S1x4x4, .f32⟩
  | 26 => ⟨S1x1024, .f32⟩
  | 27 => ⟨S1x1024, .f32⟩
  | 28 => ⟨S1x2048, .f32⟩
  | 29 => ⟨S1x2048, .f32⟩
  | 30 => ⟨S2048, .f32⟩
  | 31 => ⟨S1x6144, .f32⟩
  | 32 => ⟨S1x3x3x512, .f32⟩
  | 33 => ⟨S1x2048, .f32⟩
  | 34 => ⟨S2x2x256, .f32⟩
  | 35 => ⟨S1x4x4, .f32⟩
  | 36 => ⟨S1x1024, .f32⟩
  | 37 => ⟨S1x1024, .f32⟩
  | 38 => ⟨S1x2048, .f32⟩
  | 39 => ⟨S1x2048, .f32⟩
  | 40 => ⟨S_, .f32⟩
  | 41 => ⟨S2048, .f32⟩
  | 42 => ⟨S2048, .f32⟩
  | 43 => ⟨S_, .f32⟩
  | 44 => ⟨S2048, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S_, .f32⟩
  | 56 => ⟨S2048, .f32⟩
  | 57 => ⟨S2048, .f32⟩
  | 58 => ⟨S_, .f32⟩
  | 59 => ⟨S2048, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S_, .f32⟩
  | 74 => ⟨S1x6144, .f32⟩
  | 75 => ⟨S1x6144, .f32⟩
  | 76 => ⟨S_, .f32⟩
  | 77 => ⟨S1x6144, .f32⟩
  | 78 => ⟨S1x6144, .f32⟩
  | 79 => ⟨S1x6144, .f32⟩
  | 80 => ⟨S_, .f32⟩
  | 81 => ⟨S1x6144, .f32⟩
  | 82 => ⟨S1x6144, .f32⟩
  | 83 => ⟨S1x6144, .f32⟩
  | 84 => ⟨S_, .f32⟩
  | 85 => ⟨S1x6144, .f32⟩
  | 86 => ⟨S1x6144, .f32⟩
  | 87 => ⟨S1x6144, .f32⟩
  | 88 => ⟨S_, .f32⟩
  | 89 => ⟨S1x6144, .f32⟩
  | 90 => ⟨S1x6144, .f32⟩
  | 91 => ⟨S_, .f32⟩
  | 92 => ⟨S1x6144, .f32⟩
  | 93 => ⟨S1x6144, .f32⟩
  | 94 => ⟨S1x6144, .f32⟩
  | 95 => ⟨S_, .f32⟩
  | 96 => ⟨S1x6144, .f32⟩
  | 97 => ⟨S1x6144, .f32⟩
  | 98 => ⟨S1x6144, .f32⟩
  | 99 => ⟨S_, .f32⟩
  | 100 => ⟨S1x6144, .f32⟩
  | 101 => ⟨S1x6144, .f32⟩
  | 102 => ⟨S1x6144, .f32⟩
  | 103 => ⟨S_, .f32⟩
  | 104 => ⟨S1x6144, .f32⟩
  | 105 => ⟨S1x6144, .f32⟩
  | 106 => ⟨S_, .f32⟩
  | 107 => ⟨S1x3x3x512, .f32⟩
  | 108 => ⟨S1x3x3x512, .f32⟩
  | 109 => ⟨S_, .f32⟩
  | 110 => ⟨S1x3x3x512, .f32⟩
  | 111 => ⟨S1x3x3x512, .f32⟩
  | 112 => ⟨S1x3x3x512, .f32⟩
  | 113 => ⟨S_, .f32⟩
  | 114 => ⟨S1x3x3x512, .f32⟩
  | 115 => ⟨S1x3x3x512, .f32⟩
  | 116 => ⟨S1x3x3x512, .f32⟩
  | 117 => ⟨S_, .f32⟩
  | 118 => ⟨S1x3x3x512, .f32⟩
  | 119 => ⟨S1x3x3x512, .f32⟩
  | 120 => ⟨S1x3x3x512, .f32⟩
  | 121 => ⟨S_, .f32⟩
  | 122 => ⟨S1x3x3x512, .f32⟩
  | 123 => ⟨S1x3x3x512, .f32⟩
  | 124 => ⟨S_, .f32⟩
  | 125 => ⟨S1x3x3x512, .f32⟩
  | 126 => ⟨S1x3x3x512, .f32⟩
  | 127 => ⟨S1x3x3x512, .f32⟩
  | _ => ⟨S2048, .f32⟩

abbrev hbmTy0_1 (i : Nat) : BufTy := match i % 128 with
  | 0 => ⟨S_, .f32⟩
  | 1 => ⟨S1x3x3x512, .f32⟩
  | 2 => ⟨S1x3x3x512, .f32⟩
  | 3 => ⟨S1x3x3x512, .f32⟩
  | 4 => ⟨S_, .f32⟩
  | 5 => ⟨S1x3x3x512, .f32⟩
  | 6 => ⟨S1x3x3x512, .f32⟩
  | 7 => ⟨S1x3x3x512, .f32⟩
  | 8 => ⟨S_, .f32⟩
  | 9 => ⟨S1x3x3x512, .f32⟩
  | 10 => ⟨S1x3x3x512, .f32⟩
  | 11 => ⟨S_, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S_, .f32⟩
  | 45 => ⟨S2x2x256, .f32⟩
  | 46 => ⟨S2x2x256, .f32⟩
  | 47 => ⟨S_, .f32⟩
  | 48 => ⟨S2x2x256, .f32⟩
  | 49 => ⟨S2x2x256, .f32⟩
  | 50 => ⟨S2x2x256, .f32⟩
  | 51 => ⟨S_, .f32⟩
  | 52 => ⟨S2x2x256, .f32⟩
  | 53 => ⟨S2x2x256, .f32⟩
  | 54 => ⟨S2x2x256, .f32⟩
  | 55 => ⟨S_, .f32⟩
  | 56 => ⟨S2x2x256, .f32⟩
  | 57 => ⟨S2x2x256, .f32⟩
  | 58 => ⟨S2x2x256, .f32⟩
  | 59 => ⟨S_, .f32⟩
  | 60 => ⟨S2x2x256, .f32⟩
  | 61 => ⟨S2x2x256, .f32⟩
  | 62 => ⟨S_, .f32⟩
  | 63 => ⟨S2x2x256, .f32⟩
  | 64 => ⟨S2x2x256, .f32⟩
  | 65 => ⟨S2x2x256, .f32⟩
  | 66 => ⟨S_, .f32⟩
  | 67 => ⟨S2x2x256, .f32⟩
  | 68 => ⟨S2x2x256, .f32⟩
  | 69 => ⟨S2x2x256, .f32⟩
  | 70 => ⟨S_, .f32⟩
  | 71 => ⟨S2x2x256, .f32⟩
  | 72 => ⟨S2x2x256, .f32⟩
  | 73 => ⟨S2x2x256, .f32⟩
  | 74 => ⟨S_, .f32⟩
  | 75 => ⟨S2x2x256, .f32⟩
  | 76 => ⟨S2x2x256, .f32⟩
  | 77 => ⟨S_, .f32⟩
  | 78 => ⟨S1x4x4, .f32⟩
  | 79 => ⟨S1x4x4, .f32⟩
  | 80 => ⟨S_, .f32⟩
  | 81 => ⟨S1x4x4, .f32⟩
  | 82 => ⟨S1x4x4, .f32⟩
  | 83 => ⟨S1x4x4, .f32⟩
  | 84 => ⟨S_, .f32⟩
  | 85 => ⟨S1x4x4, .f32⟩
  | 86 => ⟨S1x4x4, .f32⟩
  | 87 => ⟨S1x4x4, .f32⟩
  | 88 => ⟨S_, .f32⟩
  | 89 => ⟨S1x4x4, .f32⟩
  | 90 => ⟨S1x4x4, .f32⟩
  | 91 => ⟨S1x4x4, .f32⟩
  | 92 => ⟨S_, .f32⟩
  | 93 => ⟨S1x4x4, .f32⟩
  | 94 => ⟨S1x4x4, .f32⟩
  | 95 => ⟨S_, .f32⟩
  | 96 => ⟨S1x4x4, .f32⟩
  | 97 => ⟨S1x4x4, .f32⟩
  | 98 => ⟨S1x4x4, .f32⟩
  | 99 => ⟨S_, .f32⟩
  | 100 => ⟨S1x4x4, .f32⟩
  | 101 => ⟨S1x4x4, .f32⟩
  | 102 => ⟨S1x4x4, .f32⟩
  | 103 => ⟨S_, .f32⟩
  | 104 => ⟨S1x4x4, .f32⟩
  | 105 => ⟨S1x4x4, .f32⟩
  | 106 => ⟨S1x4x4, .f32⟩
  | 107 => ⟨S_, .f32⟩
  | 108 => ⟨S1x4x4, .f32⟩
  | 109 => ⟨S1x4x4, .f32⟩
  | 110 => ⟨S_, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S2048, .f32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S1x2048, .f32⟩
  | 63 => ⟨S_, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | 77 => ⟨S1x2048, .f32⟩
  | 78 => ⟨S_, .f32⟩
  | 79 => ⟨S1x2048, .f32⟩
  | 80 => ⟨S1x2048, .f32⟩
  | 81 => ⟨S_, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S1x2048, .f32⟩
  | 111 => ⟨S_, .f32⟩
  | 112 => ⟨S1x2048, .f32⟩
  | 113 => ⟨S1x2048, .f32⟩
  | _ => ⟨S2048, .f32⟩

abbrev hbmTy (i : Nat) : BufTy := match i / 128 with
  | 0 => hbmTy0_0 i
  | 1 => hbmTy0_1 i
  | 2 => hbmTy0_2 i
  | _ => ⟨S2048, .f32⟩

abbrev bufTy : (tb : Table) → Fin (tcTables nBuf tb) → BufTy
  | .hbm, ⟨i, _⟩ => hbmTy i
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== Kernel10.lean ====
abbrev S8x2048 : Shape := ⟨2, ![8, 2048]⟩
abbrev S2048 : Shape := ⟨1, ![2048]⟩
abbrev S2048x1536 : Shape := ⟨2, ![2048, 1536]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S16x1536 : Shape := ⟨2, ![16, 1536]⟩
abbrev S2048x512 : Shape := ⟨2, ![2048, 512]⟩
abbrev S16x512 : Shape := ⟨2, ![16, 512]⟩
abbrev S8x1536 : Shape := ⟨2, ![8, 1536]⟩
abbrev S1x1536 : Shape := ⟨2, ![1, 1536]⟩
abbrev S1536 : Shape := ⟨1, ![1536]⟩

abbrev nBuf : Space → Nat
  | .hbm => 15
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048x1536, .f32⟩
  | .hbm, ⟨3, _⟩ => ⟨S1x2048, .f32⟩
  | .hbm, ⟨4, _⟩ => ⟨S_, .f32⟩
  | .hbm, ⟨5, _⟩ => ⟨S7x2048, .f32⟩
  | .hbm, ⟨6, _⟩ => ⟨S16x2048, .f32⟩
  | .hbm, ⟨7, _⟩ => ⟨S16x1536, .f32⟩
  | .hbm, ⟨8, _⟩ => ⟨S16x2048, .f32⟩
  | .hbm, ⟨9, _⟩ => ⟨S8x1536, .f32⟩
  | .hbm, ⟨10, _⟩ => ⟨S1x1536, .f32⟩
  | .hbm, ⟨11, _⟩ => ⟨S1536, .f32⟩
  | .hbm, ⟨12, _⟩ => ⟨S8x2048, .f32⟩
  | .hbm, ⟨13, _⟩ => ⟨S1x2048, .f32⟩
  | .hbm, ⟨14, _⟩ => ⟨S2048, .f32⟩
  | .local _ .vmem, ⟨0, _⟩ => ⟨S16x2048, .f32⟩
  | .local _ .vmem, ⟨1, _⟩ => ⟨S2048x512, .f32⟩
  | .local _ .vmem, ⟨2, _⟩ => ⟨S2048x512, .f32⟩
  | .local _ .vmem, ⟨3, _⟩ => ⟨S16x512, .f32⟩
  | .local _ .vmem, ⟨4, _⟩ => ⟨S16x512, .f32⟩
  | .local _ .vmem, ⟨5, _⟩ => ⟨S16x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference10Ideal.lean ====
abbrev S8x2048 : Shape := ⟨2, ![8, 2048]⟩
abbrev S2048 : Shape := ⟨1, ![2048]⟩
abbrev S2048x1536 : Shape := ⟨2, ![2048, 1536]⟩
abbrev S_ : Shape := ⟨0, ![]⟩
abbrev S8x1536 : Shape := ⟨2, ![8, 1536]⟩
abbrev S1536 : Shape := ⟨1, ![1536]⟩

abbrev nBuf : Space → Nat
  | .hbm => 23
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S8x1536, .f32⟩
  | .hbm, ⟨22, _⟩ => ⟨S1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_call1_cst : Ref sig .tc := ⟨.hbm, 14, rfl⟩
abbrev main_call1_v2 : Ref sig .tc := ⟨.hbm, 15, rfl⟩
abbrev main_call1_v3 : Ref sig .tc := ⟨.hbm, 16, rfl⟩
abbrev main_call1_cst_0 : Ref sig .tc := ⟨.hbm, 17, rfl⟩
abbrev main_call1_v4 : Ref sig .tc := ⟨.hbm, 18, rfl⟩
abbrev main_call1_v5 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩

abbrev nD : Nat := 1
abbrev τ : Topo := Topo.v7x

variable {F : FTy → Type} [FloatOps F]
-- ==== Kernel11.lean ====
abbrev S8x2048 : Shape := ⟨2, ![8, 2048]⟩
abbrev S2048 : Shape := ⟨1, ![2048]⟩
abbrev S8x1536 : Shape := ⟨2, ![8, 1536]⟩
abbrev S1536 : Shape := ⟨1, ![1536]⟩
abbrev S2048x1536 : Shape := ⟨2, ![2048, 1536]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S1x1536 : Shape := ⟨2, ![1, 1536]⟩
abbrev S7x1536 : Shape := ⟨2, ![7, 1536]⟩
abbrev S16x1536 : Shape := ⟨2, ![16, 1536]⟩
abbrev S16x512 : Shape := ⟨2, ![16, 512]⟩
abbrev S2048x512 : Shape := ⟨2, ![2048, 512]⟩

abbrev nBuf : Space → Nat
  | .hbm => 17
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S8x1536, .f32⟩
  | .hbm, ⟨3, _⟩ => ⟨S1536, .f32⟩
  | .hbm, ⟨4, _⟩ => ⟨S2048x1536, .f32⟩
  | .hbm, ⟨5, _⟩ => ⟨S1x2048, .f32⟩
  | .hbm, ⟨6, _⟩ => ⟨S_, .f32⟩
  | .hbm, ⟨7, _⟩ => ⟨S7x2048, .f32⟩
  | .hbm, ⟨8, _⟩ => ⟨S16x2048, .f32⟩
  | .hbm, ⟨9, _⟩ => ⟨S1x1536, .f32⟩
  | .hbm, ⟨10, _⟩ => ⟨S_, .f32⟩
  | .hbm, ⟨11, _⟩ => ⟨S7x1536, .f32⟩
  | .hbm, ⟨12, _⟩ => ⟨S16x1536, .f32⟩
  | .hbm, ⟨13, _⟩ => ⟨S2048x1536, .f32⟩
  | .hbm, ⟨14, _⟩ => ⟨S16x2048, .f32⟩
  | .hbm, ⟨15, _⟩ => ⟨S1x2048, .f32⟩
  | .hbm, ⟨16, _⟩ => ⟨S2048, .f32⟩
  | .local _ .vmem, ⟨0, _⟩ => ⟨S16x2048, .f32⟩
  | .local _ .vmem, ⟨1, _⟩ => ⟨S16x512, .f32⟩
  | .local _ .vmem, ⟨2, _⟩ => ⟨S16x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S16x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference11Ideal.lean ====
abbrev S8x2048 : Shape := ⟨2, ![8, 2048]⟩
abbrev S2048 : Shape := ⟨1, ![2048]⟩
abbrev S8x1536 : Shape := ⟨2, ![8, 1536]⟩
abbrev S1536 : Shape := ⟨1, ![1536]⟩
abbrev S2048x1536 : Shape := ⟨2, ![2048, 1536]⟩
abbrev S1x2048 : Shape := ⟨2, ![1, 2048]⟩
abbrev S1x1536 : Shape := ⟨2, ![1, 1536]⟩
abbrev S1536x2048 : Shape := ⟨2, ![1536, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S8x1536, .f32⟩
  | .hbm, ⟨3, _⟩ => ⟨S1536, .f32⟩
  | .hbm, ⟨4, _⟩ => ⟨S2048x1536, .f32⟩
  | .hbm, ⟨5, _⟩ => ⟨S8x1536, .f32⟩
  | .hbm, ⟨6, _⟩ => ⟨S1x2048, .f32⟩
  | .hbm, ⟨7, _⟩ => ⟨S1x1536, .f32⟩
  | .hbm, ⟨8, _⟩ => ⟨S1536, .f32⟩
  | .hbm, ⟨9, _⟩ => ⟨S1x1536, .f32⟩
  | .hbm, ⟨10, _⟩ => ⟨S1536x2048, .f32⟩
  | .hbm, ⟨11, _⟩ => ⟨S2048x1536, .f32⟩
  | .hbm, ⟨12, _⟩ => ⟨S1x2048, .f32⟩
  | .hbm, ⟨13, _⟩ => ⟨S_, .f32⟩
  | .hbm, ⟨14, _⟩ => ⟨S2048, .f32⟩
  | .hbm, ⟨15, _⟩ => ⟨S1536x2048, .f32⟩
  | .hbm, ⟨16, _⟩ => ⟨S2048x1536, .f32⟩
  | .hbm, ⟨17, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel12.lean ====
abbrev S8x2048 : Shape := ⟨2, ![8, 2048]⟩
abbrev S2048 : Shape := ⟨1, ![2048]⟩
abbrev S8x1x2048 : Shape := ⟨3, ![8, 1, 2048]⟩
abbrev S_ : Shape := ⟨0, ![]⟩
abbrev S8x8x2048 : Shape := ⟨3, ![8, 8, 2048]⟩
abbrev S1x2048 : Shape := ⟨2, ![1, 2048]⟩
abbrev S1x8x2048 : Shape := ⟨3, ![1, 8, 2048]⟩

abbrev nBuf : Space → Nat
  | .hbm => 11
  | .vmem => 3
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S8x1x2048, .f32⟩
  | .hbm, ⟨3, _⟩ => ⟨S_, .i32⟩
  | .hbm, ⟨4, _⟩ => ⟨S_, .f32⟩
  | .hbm, ⟨5, _⟩ => ⟨S8x8x2048, .f32⟩
  | .hbm, ⟨6, _⟩ => ⟨S1x2048, .f32⟩
  | .hbm, ⟨7, _⟩ => ⟨S8x2048, .f32⟩
  | .hbm, ⟨8, _⟩ => ⟨S8x2048, .f32⟩
  | .hbm, ⟨9, _⟩ => ⟨S1x2048, .f32⟩
  | .hbm, ⟨10, _⟩ => ⟨S2048, .f32⟩
  | .local _ .vmem, ⟨0, _⟩ => ⟨S8x8x2048, .f32⟩
  | .local _ .vmem, ⟨1, _⟩ => ⟨S8x2048, .f32⟩
  | .local _ .vmem, ⟨2, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference12Ideal.lean ====
abbrev S8x2048 : Shape := ⟨2, ![8, 2048]⟩
abbrev S2048 : Shape := ⟨1, ![2048]⟩
abbrev S_ : Shape := ⟨0, ![]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S2048, .f32⟩
  | .hbm, ⟨20, _⟩ => ⟨S1x2048, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v12 : Ref sig .tc := ⟨.hbm, 29, rfl⟩

abbrev nD : Nat := 1
abbrev τ : Topo := Topo.v7x

variable {F : FTy → Type} [FloatOps F]
-- ==== Kernel13.lean ====
abbrev S4096x2048 : Shape := ⟨2, ![4096, 2048]⟩
abbrev S256x2048 : Shape := ⟨2, ![256, 2048]⟩
abbrev S2048 : Shape := ⟨1, ![2048]⟩
abbrev S_ : Shape := ⟨0, ![]⟩
abbrev S12288 : Shape := ⟨1, ![12288]⟩
abbrev S16384 : Shape := ⟨1, ![16384]⟩
abbrev S8x2048 : Shape := ⟨2, ![8, 2048]⟩
abbrev S1x8x2048 : Shape := ⟨3, ![1, 8, 2048]⟩
abbrev S2x8x2048 : Shape := ⟨3, ![2, 8, 2048]⟩
abbrev S4352x2048 : Shape := ⟨2, ![4352, 2048]⟩
abbrev S256 : Shape := ⟨1, ![256]⟩
abbrev S256x1 : Shape := ⟨2, ![256, 1]⟩
abbrev S1x1x2048 : Shape := ⟨3, ![1, 1, 2048]⟩
abbrev S1x2048 : Shape := ⟨2, ![1, 2048]⟩

abbrev nBuf : Space → Nat
  | .hbm => 22
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S12288, .f32⟩
  | .hbm, ⟨8, _⟩ => ⟨S16384, .f32⟩
  | .hbm, ⟨9, _⟩ => ⟨S8x2048, .f32⟩
  | .hbm, ⟨10, _⟩ => ⟨S_, .f32⟩
  | .hbm, ⟨11, _⟩ => ⟨S12288, .f32⟩
  | .hbm, ⟨12, _⟩ => ⟨S16384, .f32⟩
  | .hbm, ⟨13, _⟩ => ⟨S8x2048, .f32⟩
  | .hbm, ⟨14, _⟩ => ⟨S1x8x2048, .f32⟩
  | .hbm, ⟨15, _⟩ => ⟨S1x8x2048, .f32⟩
  | .hbm, ⟨16, _⟩ => ⟨S2x8x2048, .f32⟩
  | .hbm, ⟨17, _⟩ => ⟨S4352x2048, .bf16⟩
  | .hbm, ⟨18, _⟩ => ⟨S4096x2048, .bf16⟩
  | .hbm, ⟨19, _⟩ => ⟨S4096x2048, .f32⟩
  | .hbm, ⟨20, _⟩ => ⟨S256x2048, .bf16⟩
  | .hbm, ⟨21, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x8x2048, .f32⟩
  | .local _ .vmem, ⟨5, _⟩ => ⟨S1x8x2048, .f32⟩
  | .local _ .vmem, ⟨6, _⟩ => ⟨S256x2048, .bf16⟩
  | .local _ .vmem, ⟨7, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S4096x2048 : Shape := ⟨2, ![4096, 2048]⟩
abbrev S256x2048 : Shape := ⟨2, ![256, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S256 : Shape := ⟨1, ![256]⟩
abbrev S256x1 : Shape := ⟨2, ![256, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S256, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256, .f32⟩
  | .hbm, ⟨49, _⟩ => ⟨S256x1, .f32⟩
  | .hbm, ⟨50, _⟩ => ⟨S_, .f32⟩
  | .hbm, ⟨51, _⟩ => ⟨S256x1, .f32⟩
  | .hbm, ⟨52, _⟩ => ⟨S256x1, .f32⟩
  | .hbm, ⟨53, _⟩ => ⟨S256x2048, .f32⟩
  | .hbm, ⟨54, _⟩ => ⟨S256x2048, .f32⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S256x1, .f32⟩
  | .hbm, ⟨59, _⟩ => ⟨S256x2048, .f32⟩
  | .hbm, ⟨60, _⟩ => ⟨S256x2048, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S1x2048, .f32⟩
  | .hbm, ⟨65, _⟩ => ⟨S256x2048, .f32⟩
  | .hbm, ⟨66, _⟩ => ⟨S256x2048, .f32⟩
  | .hbm, ⟨67, _⟩ => ⟨S1x2048, .f32⟩
  | .hbm, ⟨68, _⟩ => ⟨S256x2048, .f32⟩
  | .hbm, ⟨69, _⟩ => ⟨S256x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel14.lean ====
abbrev S8x24x2048 : Shape := ⟨3, ![8, 24, 2048]⟩
abbrev S24x2048 : Shape := ⟨2, ![24, 2048]⟩
abbrev S24x128 : Shape := ⟨2, ![24, 128]⟩
abbrev S1x24x2048 : Shape := ⟨3, ![1, 24, 2048]⟩
abbrev S24 : Shape := ⟨1, ![24]⟩
abbrev S24x1 : Shape := ⟨2, ![24, 1]⟩
abbrev S3x2048 : Shape := ⟨2, ![3, 2048]⟩
abbrev S1x1 : Shape := ⟨2, ![1, 1]⟩
abbrev S_ : Shape := ⟨0, ![]⟩

abbrev nBuf : Space → Nat
  | .hbm => 5
  | .vmem => 3
  | .smem => 0
  | _ => 0

abbrev bufTy : (tb : Table) → Fin (tcTables nBuf tb) → BufTy
  | .hbm, ⟨0, _⟩ => ⟨S8x24x2048, .f32⟩
  | .hbm, ⟨1, _⟩ => ⟨S24x2048, .f32⟩
  | .hbm, ⟨2, _⟩ => ⟨S24x128, .f32⟩
  | .hbm, ⟨3, _⟩ => ⟨S1x1, .f32⟩
  | .hbm, ⟨4, _⟩ => ⟨S_, .f32⟩
  | .local _ .vmem, ⟨0, _⟩ => ⟨S8x24x2048, .f32⟩
  | .local _ .vmem, ⟨1, _⟩ => ⟨S24x2048, .f32⟩
  | .local _ .vmem, ⟨2, _⟩ => ⟨S24x128, .f32⟩
  | _, _ => ⟨S8x24x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference14Ideal.lean ====
abbrev S8x24x2048 : Shape := ⟨3, ![8, 24, 2048]⟩
abbrev S_ : Shape := ⟨0, ![]⟩
abbrev S24x2048 : Shape := ⟨2, ![24, 2048]⟩
abbrev S3x2048 : Shape := ⟨2, ![3, 2048]⟩
abbrev S21x2048 : Shape := ⟨2, ![21, 2048]⟩
abbrev S1x2048 : Shape := ⟨2, ![1, 2048]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S8x24x2048, .f32⟩
  | .hbm, ⟨1, _⟩ => ⟨S_, .f32⟩
  | .hbm, ⟨2, _⟩ => ⟨S24x2048, .f32⟩
  | .hbm, ⟨3, _⟩ => ⟨S3x2048, .f32⟩
  | .hbm, ⟨4, _⟩ => ⟨S3x2048, .f32⟩
  | .hbm, ⟨5, _⟩ => ⟨S3x2048, .f32⟩
  | .hbm, ⟨6, _⟩ => ⟨S21x2048, .f32⟩
  | .hbm, ⟨7, _⟩ => ⟨S24x2048, .f32⟩
  | .hbm, ⟨8, _⟩ => ⟨S1x2048, .f32⟩
  | .hbm, ⟨9, _⟩ => ⟨S2048, .f32⟩
  | .hbm, ⟨10, _⟩ => ⟨S_, .f32⟩
  | .hbm, ⟨11, _⟩ => ⟨S_, .f32⟩
  | _, _ => ⟨S8x24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S4096x1024 : Shape := ⟨2, ![4096, 1024]⟩
abbrev S4352x10368 : Shape := ⟨2, ![4352, 10368]⟩
abbrev S1x1024 : Shape := ⟨2, ![1, 1024]⟩
abbrev S4096x2048 : Shape := ⟨2, ![4096, 2048]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4352x10368, .f32⟩
  | .hbm, ⟨5, _⟩ => ⟨S1x1024, .f32⟩
  | .hbm, ⟨6, _⟩ => ⟨S1x1024, .f32⟩
  | .hbm, ⟨7, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S256x2048, .bf16⟩
  | .local _ .vmem, ⟨17, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c8_i32 : BitVec 32 := 8#32
  let c0_i32 : BitVec 32 := 0#32
  ![v0.toNat, c8_i32.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c9_i32 : BitVec 32 := 9#32
  let c0_i32 : BitVec 32 := 0#32
  ![v0.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S4096x1024 : Shape := ⟨2, ![4096, 1024]⟩
abbrev S4352x10368 : Shape := ⟨2, ![4352, 10368]⟩
abbrev S1x1024 : Shape := ⟨2, ![1, 1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S8x128 : Shape := ⟨2, ![8, 128]⟩
abbrev S1x8x128 : Shape := ⟨3, ![1, 8, 128]⟩
abbrev S4096x4x256 : Shape := ⟨3, ![4096, 4, 256]⟩
abbrev S4096x4 : Shape := ⟨2, ![4096, 4]⟩
abbrev S4096x4x1 : Shape := ⟨3, ![4096, 4, 1]⟩
abbrev S4x256 : Shape := ⟨2, ![4, 256]⟩
abbrev S1x4x256 : Shape := ⟨3, ![1, 4, 256]⟩
abbrev S4096x2048 : Shape := ⟨2, ![4096, 2048]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4352x10368, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x8x128, .f32⟩
  | .hbm, ⟨11, _⟩ => ⟨S4096x8x128, .f32⟩
  | .hbm, ⟨12, _⟩ => ⟨S4096x8x128, .f32⟩
  | .hbm, ⟨13, _⟩ => ⟨S4096x8x128, .f32⟩
  | .hbm, ⟨14, _⟩ => ⟨S_, .f32⟩
  | .hbm, ⟨15, _⟩ => ⟨S4096x8, .f32⟩
  | .hbm, ⟨16, _⟩ => ⟨S4096x8x1, .f32⟩
  | .hbm, ⟨17, _⟩ => ⟨S_, .f32⟩
  | .hbm, ⟨18, _⟩ => ⟨S4096x8x1, .f32⟩
  | .hbm, ⟨19, _⟩ => ⟨S4096x8x1, .f32⟩
  | .hbm, ⟨20, _⟩ => ⟨S_, .f32⟩
  | .hbm, ⟨21, _⟩ => ⟨S4096x8x1, .f32⟩
  | .hbm, ⟨22, _⟩ => ⟨S4096x8x1, .f32⟩
  | .hbm, ⟨23, _⟩ => ⟨S4096x8x1, .f32⟩
  | .hbm, ⟨24, _⟩ => ⟨S4096x8x128, .f32⟩
  | .hbm, ⟨25, _⟩ => ⟨S4096x8x128, .f32⟩
  | .hbm, ⟨26, _⟩ => ⟨S8x128, .f32⟩
  | .hbm, ⟨27, _⟩ => ⟨S1x8x128, .f32⟩
  | .hbm, ⟨28, _⟩ => ⟨S4096x8x128, .f32⟩
  | .hbm, ⟨29, _⟩ => ⟨S4096x8x128, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x4x256, .f32⟩
  | .hbm, ⟨42, _⟩ => ⟨S4096x4x256, .f32⟩
  | .hbm, ⟨43, _⟩ => ⟨S4096x4x256, .f32⟩
  | .hbm, ⟨44, _⟩ => ⟨S_, .f32⟩
  | .hbm, ⟨45, _⟩ => ⟨S4096x4, .f32⟩
  | .hbm, ⟨46, _⟩ => ⟨S4096x4x1, .f32⟩
  | .hbm, ⟨47, _⟩ => ⟨S_, .f32⟩
  | .hbm, ⟨48, _⟩ => ⟨S4096x4x1, .f32⟩
  | .hbm, ⟨49, _⟩ => ⟨S4096x4x1, .f32⟩
  | .hbm, ⟨50, _⟩ => ⟨S4096x4x256, .f32⟩
  | .hbm, ⟨51, _⟩ => ⟨S4096x4x256, .f32⟩
  | .hbm, ⟨52, _⟩ => ⟨S4096x4x256, .f32⟩
  | .hbm, ⟨53, _⟩ => ⟨S_, .f32⟩
  | .hbm, ⟨54, _⟩ => ⟨S4096x4, .f32⟩
  | .hbm, ⟨55, _⟩ => ⟨S4096x4x1, .f32⟩
  | .hbm, ⟨56, _⟩ => ⟨S_, .f32⟩
  | .hbm, ⟨57, _⟩ => ⟨S4096x4x1, .f32⟩
  | .hbm, ⟨58, _⟩ => ⟨S4096x4x1, .f32⟩
  | .hbm, ⟨59, _⟩ => ⟨S4096x4x256, .f32⟩
  | .hbm, ⟨60, _⟩ => ⟨S4096x4x256, .f32⟩
  | .hbm, ⟨61, _⟩ => ⟨S_, .f32⟩
  | .hbm, ⟨62, _⟩ => ⟨S4096x4x1, .f32⟩
  | .hbm, ⟨63, _⟩ => ⟨S4096x4x1, .f32⟩
  | .hbm, ⟨64, _⟩ => ⟨S4096x4x1, .f32⟩
  | .hbm, ⟨65, _⟩ => ⟨S4096x4x256, .f32⟩
  | .hbm, ⟨66, _⟩ => ⟨S4096x4x256, .f32⟩
  | .hbm, ⟨67, _⟩ => ⟨S4x256, .f32⟩
  | .hbm, ⟨68, _⟩ => ⟨S1x4x256, .f32⟩
  | .hbm, ⟨69, _⟩ => ⟨S4096x4x256, .f32⟩
  | .hbm, ⟨70, _⟩ => ⟨S4096x4x256, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x2048, .f32⟩
  | .hbm, ⟨92, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩

abbrev nD : Nat := 1
abbrev τ : Topo := Topo.v7x

variable {F : FTy → Type} [FloatOps F]
-- ==== Kernel16.lean ====
abbrev S4x256x2048 : Shape := ⟨3, ![4, 256, 2048]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4x256x2048 : Shape := ⟨3, ![4, 256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .f32⟩
  | .hbm, ⟨3, _⟩ => ⟨S4x256x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S4352x1024 : Shape := ⟨2, ![4352, 1024]⟩
abbrev S4352x2048 : Shape := ⟨2, ![4352, 2048]⟩
abbrev S4352x128 : Shape := ⟨2, ![4352, 128]⟩
abbrev S4352x10368 : Shape := ⟨2, ![4352, 10368]⟩
abbrev S256x1024 : Shape := ⟨2, ![256, 1024]⟩
abbrev S256x2048 : Shape := ⟨2, ![256, 2048]⟩
abbrev S256x128 : Shape := ⟨2, ![256, 128]⟩
abbrev S256x10368 : Shape := ⟨2, ![256, 10368]⟩

abbrev nBuf : Space → Nat
  | .hbm => 15
  | .vmem => 30
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x1024, .bf16⟩
  | .hbm, ⟨5, _⟩ => ⟨S4352x1024, .bf16⟩
  | .hbm, ⟨6, _⟩ => ⟨S4352x1024, .bf16⟩
  | .hbm, ⟨7, _⟩ => ⟨S4352x2048, .bf16⟩
  | .hbm, ⟨8, _⟩ => ⟨S4352x1024, .bf16⟩
  | .hbm, ⟨9, _⟩ => ⟨S4352x1024, .bf16⟩
  | .hbm, ⟨10, _⟩ => ⟨S4352x1024, .bf16⟩
  | .hbm, ⟨11, _⟩ => ⟨S4352x1024, .bf16⟩
  | .hbm, ⟨12, _⟩ => ⟨S4352x128, .f32⟩
  | .hbm, ⟨13, _⟩ => ⟨S4352x128, .f32⟩
  | .hbm, ⟨14, _⟩ => ⟨S4352x10368, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x10368, .bf16⟩
  | .local _ .vmem, ⟨29, _⟩ => ⟨S256x10368, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x10368 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference17Ideal.lean ====
abbrev S4352x1024 : Shape := ⟨2, ![4352, 1024]⟩
abbrev S4352x2048 : Shape := ⟨2, ![4352, 2048]⟩
abbrev S4352x128 : Shape := ⟨2, ![4352, 128]⟩
abbrev S4352x10368 : Shape := ⟨2, ![4352, 10368]⟩

abbrev nBuf : Space → Nat
  | .hbm => 29
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x1024, .bf16⟩
  | .hbm, ⟨5, _⟩ => ⟨S4352x1024, .bf16⟩
  | .hbm, ⟨6, _⟩ => ⟨S4352x1024, .bf16⟩
  | .hbm, ⟨7, _⟩ => ⟨S4352x2048, .bf16⟩
  | .hbm, ⟨8, _⟩ => ⟨S4352x1024, .bf16⟩
  | .hbm, ⟨9, _⟩ => ⟨S4352x1024, .bf16⟩
  | .hbm, ⟨10, _⟩ => ⟨S4352x1024, .bf16⟩
  | .hbm, ⟨11, _⟩ => ⟨S4352x1024, .bf16⟩
  | .hbm, ⟨12, _⟩ => ⟨S4352x128, .f32⟩
  | .hbm, ⟨13, _⟩ => ⟨S4352x128, .f32⟩
  | .hbm, ⟨14, _⟩ => ⟨S4352x1024, .f32⟩
  | .hbm, ⟨15, _⟩ => ⟨S4352x1024, .f32⟩
  | .hbm, ⟨16, _⟩ => ⟨S4352x1024, .f32⟩
  | .hbm, ⟨17, _⟩ => ⟨S4352x1024, .bf16⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S4352x1024, .bf16⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S4352x1024, .bf16⟩
  | .hbm, ⟨26, _⟩ => ⟨S4352x128, .f32⟩
  | .hbm, ⟨27, _⟩ => ⟨S4352x128, .bf16⟩
  | .hbm, ⟨28, _⟩ => ⟨S4352x10368, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== Proof.NormMaths.lean ====
/-
  The end of the block on one row, over the real numbers: the output product, the residual sum, the layer norm, the squared
  error against the target, and the gradient of all of it. Everything the norm's gradient needs stays within a row, so a
  row is the unit. `dres` is the gradient the kernel computes; `gradResidual_eq` shows that the derivative of the norm taken
  step by step (through the mean, the variance and the inverse square root) is the same number.
-/
module

public import Mathlib.Data.EReal.Operations
public import Mathlib.Analysis.SpecialFunctions.Pow.Real
public import Mathlib.Algebra.BigOperators.Fin
public import Mathlib.Tactic.Ring
public import Mathlib.Tactic.FieldSimp
public import Mathlib.Tactic.Linarith
public import Mathlib.Tactic.Positivity

@[expose] public section

noncomputable section

namespace Cert.NormMaths

/-- A sum of reals read as extended reals is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The factor of the residual, and the norm's ε, as the reals their f32 words are. -/
def α : ℝ := 9975792 / 8388608
def ε : ℝ := 10995116 / 1099511627776

theorem ε_pos : 0 < ε := by unfold ε; norm_num

/-- One row of the arguments, and the arguments all rows share: `y` the mixed heads, `x` the block's input, `t` the target;
`w` the output weight, `g` the gate, `lg` and `lb` the norm's weight and bias. -/
structure Row where
  y : Fin 2048 → ℝ
  x : Fin 2048 → ℝ
  t : Fin 2048 → ℝ
  w : Fin 2048 → Fin 2048 → ℝ
  g : Fin 2048 → ℝ
  lg : Fin 2048 → ℝ
  lb : Fin 2048 → ℝ

namespace Row

variable (R : Row)

/-- The output product. -/
def z (j : Fin 2048) : ℝ := ∑ k, R.y k * R.w k j
/-- The residual sum, its mean, and what is left of it without the mean. -/
def res (j : Fin 2048) : ℝ := α * R.x j + R.g j * R.z j
def mean : ℝ := (∑ j, R.res j) / 2048
def cen (j : Fin 2048) : ℝ := R.res j - R.mean
/-- The variance with ε added, and the reciprocal of its square root. -/
def var : ℝ := (∑ j, R.cen j * R.cen j) / 2048 + ε
def s : ℝ := (√R.var)⁻¹
/-- The normed row, the error, and the gradient of half the mean square of the error. -/
def n (j : Fin 2048) : ℝ := R.cen j * R.s
def err (j : Fin 2048) : ℝ := R.n j * R.lg j + R.lb j - R.t j
def dout (j : Fin 2048) : ℝ := R.err j * (1 / 2048)
def dn (j : Fin 2048) : ℝ := R.dout j * R.lg j
/-- The gradient at the residual sum, in the closed form. -/
def dres (j : Fin 2048) : ℝ :=
  R.s * (R.dn j - (∑ k, R.dn k) / 2048 - R.n j * ((∑ k, R.dn k * R.n k) / 2048))
/-- What it gives at the product, at the heads and at the input. -/
def dz (j : Fin 2048) : ℝ := R.dres j * R.g j
def dy (k : Fin 2048) : ℝ := ∑ j, R.dz j * R.w k j
def gx (j : Fin 2048) : ℝ := α * R.dres j

theorem var_pos : 0 < R.var :=
  add_pos_of_nonneg_of_pos (div_nonneg (Finset.sum_nonneg fun j _ => mul_self_nonneg _) (by norm_num)) ε_pos

/-- What is left without the mean sums to zero. -/
theorem sum_cen : ∑ j, R.cen j = 0 := by
  have h : ∑ j : Fin 2048, R.cen j = (∑ j, R.res j) - ∑ _j : Fin 2048, R.mean := by
    unfold cen; exact Finset.sum_sub_distrib ..
  rw [h, Finset.sum_const, Finset.card_univ, Fintype.card_fin, nsmul_eq_mul, mean]
  push_cast
  ring

theorem s_sq : R.s * R.s = (R.var)⁻¹ := by
  rw [s, ← mul_inv, Real.mul_self_sqrt R.var_pos.le]

/-- The gradient at the variance by the derivative of the inverse square root, spread over the row by the derivative of the
square: what the chain rule adds to the direct part. -/
def dvar : ℝ := (∑ j, R.cen j * R.dn j) * (-(1 / 2) * (R.s / R.var))
def viaVar (j : Fin 2048) : ℝ := R.dvar / 2048 * (2 * R.cen j)

theorem viaVar_eq (j : Fin 2048) : R.viaVar j = -(R.s * (R.n j * ((∑ k, R.dn k * R.n k) / 2048))) := by
  have hs : R.s / R.var = R.s * (R.s * R.s) := by rw [s_sq, div_eq_mul_inv]
  have hn : ∑ k, R.dn k * R.n k = (∑ k, R.cen k * R.dn k) * R.s := by
    rw [Finset.sum_mul]
    exact Finset.sum_congr rfl fun k _ => by rw [n]; ring
  rw [viaVar, dvar, hs, hn, n]
  ring

theorem sum_viaVar : ∑ j, R.viaVar j = 0 := by
  have h : ∑ j, R.viaVar j = R.dvar / 2048 * 2 * ∑ j, R.cen j := by
    rw [Finset.mul_sum]
    exact Finset.sum_congr rfl fun k _ => by rw [viaVar]; ring
  rw [h, sum_cen, mul_zero]

/-- The chain rule's gradient at the residual sum: the direct part, the part through the variance, and what both send back
through the mean. -/
def gradResidual (j : Fin 2048) : ℝ :=
  R.dn j * R.s + R.viaVar j + (-(∑ k, R.dn k * R.s) + -(∑ k, R.viaVar k)) / 2048

theorem gradResidual_eq (j : Fin 2048) : R.gradResidual j = R.dres j := by
  rw [gradResidual, sum_viaVar, viaVar_eq, ← Finset.sum_mul, dres]
  ring

end Row

end Cert.NormMaths

end
-- ==== Proof.IdealWords.lean ====
/-
  The f32 words of the block's end as real numbers, and the two operations on real numbers that are not plain arithmetic over
  the extended reals: the quotient by a divisor that is not zero, and the reciprocal of the square root of a positive number.
-/
module

public import proofs.«01_k».proof.Proof.NormMaths
public import Idealize.ShloMosaic.Lib.IdealHost

@[expose] public section

noncomputable section

open Idealize.ShloMosaic

namespace Cert.NormMaths

theorem word_α : Ideal.ofBits .f32 0x3F9837F0#32 = ((α : ℝ) : EReal) := by
  simp [Ideal.ofBits, Ideal.ieee, -EReal.coe_mul]; norm_num [α]
theorem word_ε : Ideal.ofBits .f32 0x3727C5AC#32 = ((ε : ℝ) : EReal) := by
  simp [Ideal.ofBits, Ideal.ieee, -EReal.coe_mul]; norm_num [ε]
theorem word_2048 : Ideal.ofBits .f32 0x45000000#32 = ((2048 : ℝ) : EReal) := by
  simp [Ideal.ofBits, Ideal.ieee, -EReal.coe_mul]; norm_num
theorem word_inv2048 : Ideal.ofBits .f32 0x3A000000#32 = ((1 / 2048 : ℝ) : EReal) := by
  simp [Ideal.ofBits, Ideal.ieee, -EReal.coe_mul]; norm_num
theorem word_inv4096 : Ideal.ofBits .f32 0x39800000#32 = ((1 / 4096 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul, -EReal.coe_neg]; norm_num
theorem word_one : Ideal.ofBits .f32 0x3F800000#32 = ((1 : ℝ) : EReal) := by
  rw [Ideal.ofBits_one_f32]; rfl
theorem word_two : Ideal.ofBits .f32 0x40000000#32 = ((2 : ℝ) : EReal) := by
  simp [Ideal.ofBits, Ideal.ieee, -EReal.coe_mul]; norm_num
theorem word_zero : Ideal.ofBits .f32 0x00000000#32 = ((0 : ℝ) : EReal) := by
  simp [Ideal.ofBits, Ideal.ieee]

/-- The quotient of reals, the divisor not zero. -/
theorem div_real {a b : ℝ} (h : b ≠ 0) : Ideal.div (a : EReal) (b : EReal) = ((a / b : ℝ) : EReal) := by
  have hb : ((b : ℝ) : EReal) ≠ 0 := fun e => h (by exact_mod_cast e)
  rw [Ideal.div, if_neg hb, ← EReal.coe_inv, ← EReal.coe_mul, div_eq_mul_inv]

theorem div_2048 (a : ℝ) : Ideal.div (a : EReal) ((2048 : ℝ) : EReal) = ((a / 2048 : ℝ) : EReal) := div_real (by norm_num)

theorem rsqrt_pos {a : ℝ} (h : 0 < a) : Ideal.rsqrt (a : EReal) = (((√a)⁻¹ : ℝ) : EReal) := by
  rw [Ideal.rsqrt_coe, if_neg h.le.not_gt, if_neg h.ne']

end Cert.NormMaths

end
-- ==== Proof.OutBlockRow.lean ====
/-
  The arithmetic of one grid point of the block's end (program `KernelIdeal`, first call), read at an index. When the blocks
  handed over hold real numbers, every intermediate block does, and the numbers are those of `NormMaths.Row`, row by row.
-/
module

public import proofs.«01_k».proof.Proof.IdealWords
public import proofs.«01_k».proof.Proof.Gen.KernelIdeal.Skeleton
public import Idealize.ShloMosaic.Lib.Pointwise
public import Idealize.ShloMosaic.Lib.Tactic

@[expose] public section

set_option maxRecDepth 16384

noncomputable section

open Idealize.ShloMosaic Idealize.ShloMosaic.TcCoe

namespace Cert.KernelIdeal.OutBlock

open Cert.KernelIdeal Cert.KernelIdeal.Gen Cert.NormMaths

/-- The blocks of one grid point hold the rows `R` (256 of them). -/
structure Holds (y : Vec Ideal S256x2048 .bf16) (w : Vec Ideal S2048x2048 .bf16) (x t : Vec Ideal S256x2048 .f32)
    (g lg lb : Vec Ideal S1x2048 .f32) (R : Fin 256 → Row) : Prop where
  y : ∀ r k, y (ix2 r k) = (((R r).y k : ℝ) : EReal)
  w : ∀ r k j, w (ix2 k j) = (((R r).w k j : ℝ) : EReal)
  x : ∀ r k, x (ix2 r k) = (((R r).x k : ℝ) : EReal)
  t : ∀ r k, t (ix2 r k) = (((R r).t k : ℝ) : EReal)
  g : ∀ r j, g (ix2 0 j) = (((R r).g j : ℝ) : EReal)
  lg : ∀ r j, lg (ix2 0 j) = (((R r).lg j : ℝ) : EReal)
  lb : ∀ r j, lb (ix2 0 j) = (((R r).lb j : ℝ) : EReal)

variable {y : Vec Ideal S256x2048 .bf16} {w : Vec Ideal S2048x2048 .bf16} {x t : Vec Ideal S256x2048 .f32}
  {g lg lb : Vec Ideal S1x2048 .f32} {R : Fin 256 → Row}

theorem z_val (H : Holds y w x t g lg lb R) (r : Fin 256) (j : Fin 2048) :
    k0_pay10 y w (ix2 r j) = (((R r).z j : ℝ) : EReal) := by
  pointwise [k0_pay10]
  simp only [H.y, H.w r, ← EReal.coe_mul, ← coe_sum]
  rfl

theorem cen_val (H : Holds y w x t g lg lb R) (r : Fin 256) (j : Fin 2048) :
    k0_pay11 g y w x (ix2 r j) = (((R r).cen j : ℝ) : EReal) := by
  pointwise [k0_pay11, k0_pay7]
  simp only [z_val H, H.x, H.g r, word_α, word_2048, ← EReal.coe_mul, ← EReal.coe_add, ← EReal.coe_sub, ← coe_sum, div_2048]
  rfl

theorem s_val (H : Holds y w x t g lg lb R) (r : Fin 256) :
    k0_pay12 g y w x (ix2 r 0) = (((R r).s : ℝ) : EReal) := by
  pointwise [k0_pay12]
  simp only [cen_val H, word_ε, word_2048, ← EReal.coe_mul, ← EReal.coe_add, ← coe_sum, div_2048]
  exact rsqrt_pos (R r).var_pos

theorem n_val (H : Holds y w x t g lg lb R) (r : Fin 256) (j : Fin 2048) :
    k0_pay13 g y w x (ix2 r j) = (((R r).n j : ℝ) : EReal) := by
  pointwise [k0_pay13]
  simp only [cen_val H, s_val H, ← EReal.coe_mul]
  rfl

/-- The error. -/
theorem err_val (H : Holds y w x t g lg lb R) (r : Fin 256) (j : Fin 2048) :
    k0_pay15 (k0_pay9 lb) (k0_pay13 g y w x) (k0_pay14 lg) t (ix2 r j) = (((R r).err j : ℝ) : EReal) := by
  pointwise [k0_pay15, k0_pay9, k0_pay14, k0_pay8]
  simp only [n_val H, H.lg r, H.lb r, H.t, ← EReal.coe_mul, ← EReal.coe_add, ← EReal.coe_sub]
  rfl

theorem dout_val (H : Holds y w x t g lg lb R) (r : Fin 256) (j : Fin 2048) :
    k0_pay16 (k0_pay9 lb) (k0_pay13 g y w x) (k0_pay14 lg) t (ix2 r j) = (((R r).dout j : ℝ) : EReal) := by
  pointwise [k0_pay16]
  simp only [err_val H, word_inv2048, ← EReal.coe_mul]
  rfl

/-- The gradient at the residual sum. -/
theorem dres_val (H : Holds y w x t g lg lb R) (r : Fin 256) (j : Fin 2048) :
    k0_pay17 (k0_pay8 lg) (k0_pay9 lb) (k0_pay12 g y w x) (k0_pay13 g y w x) (k0_pay14 lg) t (ix2 r j)
      = (((R r).dres j : ℝ) : EReal) := by
  pointwise [k0_pay17, k0_pay8]
  simp only [dout_val H, n_val H, s_val H, H.lg r, word_2048, ← EReal.coe_mul, ← EReal.coe_add, ← EReal.coe_sub, ← coe_sum,
    div_2048]
  rfl

/-- The sums over the block's rows that the call accumulates, each on top of the row `v` it finds. -/
theorem gate_val (H : Holds y w x t g lg lb R) (v : Vec Ideal S1x2048 .f32) (j : Fin 2048) :
    k0_pay18 (k0_pay8 lg) (k0_pay9 lb) (k0_pay10 y w) (k0_pay12 g y w x) (k0_pay13 g y w x) (k0_pay14 lg) t v (ix2 0 j)
      = v (ix2 0 j) + ∑ r, (((R r).dres j * (R r).z j : ℝ) : EReal) := by
  pointwise [k0_pay18]
  simp only [dres_val H, z_val H, ← EReal.coe_mul]

theorem weight_val (H : Holds y w x t g lg lb R) (v : Vec Ideal S1x2048 .f32) (j : Fin 2048) :
    k0_pay19 (k0_pay9 lb) (k0_pay13 g y w x) (k0_pay14 lg) t v (ix2 0 j)
      = v (ix2 0 j) + ∑ r, (((R r).dout j * (R r).n j : ℝ) : EReal) := by
  pointwise [k0_pay19]
  simp only [dout_val H, n_val H, ← EReal.coe_mul]

theorem bias_val (H : Holds y w x t g lg lb R) (v : Vec Ideal S1x2048 .f32) (j : Fin 2048) :
    k0_pay1 (k0_pay16 (k0_pay9 lb) (k0_pay13 g y w x) (k0_pay14 lg) t) v (ix2 0 j)
      = v (ix2 0 j) + ∑ r, (((R r).dout j : ℝ) : EReal) := by
  pointwise [k0_pay1]
  simp only [dout_val H]

theorem loss_val (H : Holds y w x t g lg lb R) (v : Vec Ideal S1x2048 .f32) (j : Fin 2048) :
    k0_pay2 (k0_pay15 (k0_pay9 lb) (k0_pay13 g y w x) (k0_pay14 lg) t) v (ix2 0 j)
      = v (ix2 0 j) + ∑ r, ((1 / 4096 * ((R r).err j * (R r).err j) : ℝ) : EReal) := by
  pointwise [k0_pay2]
  simp only [err_val H, word_inv4096, ← EReal.coe_mul, ← coe_sum, Finset.mul_sum]

/-- The three blocks a point writes: the gradients at the input, at the product and at the heads. -/
theorem gx_val (H : Holds y w x t g lg lb R) (r : Fin 256) (j : Fin 2048) :
    k0_pay3 (k0_pay17 (k0_pay8 lg) (k0_pay9 lb) (k0_pay12 g y w x) (k0_pay13 g y w x) (k0_pay14 lg) t) (ix2 r j)
      = (((R r).gx j : ℝ) : EReal) := by
  pointwise [k0_pay3]
  simp only [dres_val H, word_α, ← EReal.coe_mul]
  rfl

theorem dz_val (H : Holds y w x t g lg lb R) (r : Fin 256) (j : Fin 2048) :
    k0_pay4 (k0_pay7 g) (k0_pay17 (k0_pay8 lg) (k0_pay9 lb) (k0_pay12 g y w x) (k0_pay13 g y w x) (k0_pay14 lg) t) (ix2 r j)
      = (((R r).dz j : ℝ) : EReal) := by
  pointwise [k0_pay4, k0_pay7]
  simp only [dres_val H, H.g r, ← EReal.coe_mul]
  rfl

theorem dy_val (H : Holds y w x t g lg lb R) (r : Fin 256) (k : Fin 2048) :
    k0_pay5 (k0_pay7 g) (k0_pay17 (k0_pay8 lg) (k0_pay9 lb) (k0_pay12 g y w x) (k0_pay13 g y w x) (k0_pay14 lg) t) w (ix2 r k)
      = (((R r).dy k : ℝ) : EReal) := by
  pointwise [k0_pay5]
  simp only [dz_val H, H.w r, ← EReal.coe_mul, ← coe_sum]
  rfl

theorem zero_val (r : Fin 8) (j : Fin 2048) : k0_pay6 (F := Ideal) (ix2 r j) = 0 := by
  pointwise [k0_pay6]

end Cert.KernelIdeal.OutBlock

end
-- ==== Proof.OutBlockBody.lean ====
/-
  The block's end, one grid point at a time (program `KernelIdeal`, first call): what a point leaves in its four output
  buffers, as values. The grid is 16 blocks of 256 rows. Three outputs are blocks of their arrays; the fourth is an array of
  eight rows that every point adds into: row 0 the gate's gradient, row 1 the norm weight's, row 2 the norm bias's, row 3
  the loss, column by column. The first point sets it to zero before it adds.
-/
module

public import proofs.«01_k».proof.Proof.OutBlockRow
public import proofs.«01_k».proof.Proof.Gen.KernelIdeal.Frame
public import Idealize.ShloMosaic.Lib.Pipeline.Value
public import Idealize.ShloMosaic.Lib.Pipeline.ReadBack
public import Idealize.ShloMosaic.Lib.WritesUnit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.KernelIdeal.OutBlock

open Cert.KernelIdeal Cert.KernelIdeal.Gen

variable {F : FTy → Type} [FloatOps F]

theorem off0 : (![0, 0] : Fin 2 → Nat) = fun _ => 0 := funext fun a => by fin_cases a <;> rfl

/-- Row `k` of an array of eight rows. -/
def rowOf (k : Fin 8) (v : Vec F S8x2048 .f32) : Vec F S1x2048 .f32 := fun i => v (ix2 k (i 1))

theorem ld_row (k : Fin 8) (v : Vec F S8x2048 .f32)
    (inb : ∀ a, (![k.val, 0] : Fin 2 → Nat) a + S1x2048.size a ≤ S8x2048.size a) :
    View.ld v (Rect.unit (s := S8x2048) ![k.val, 0] S1x2048.size inb) = rowOf k v := by
  funext i
  refine congrArg v (funext fun a => Fin.ext ?_)
  match a with
  | ⟨0, _⟩ => show k.val + 1 * (i 0).val = k.val; have : (i 0).val < 1 := (i 0).isLt; omega
  | ⟨1, _⟩ => show 0 + 1 * (i 1).val = (i 1).val; omega

theorem ld_row0 (v : Vec F S8x2048 .f32) (inb : ∀ a, (![0, 0] : Fin 2 → Nat) a + (![1, 2048] : Fin 2 → Nat) a ≤ S8x2048.size a) :
    View.ld v (Rect.unit (s := S8x2048) ![0, 0] ![1, 2048] inb) = rowOf 0 v := ld_row 0 v inb

theorem ld_row1 (v : Vec F S8x2048 .f32) (inb : ∀ a, (![1, 0] : Fin 2 → Nat) a + (![1, 2048] : Fin 2 → Nat) a ≤ S8x2048.size a) :
    View.ld v (Rect.unit (s := S8x2048) ![1, 0] ![1, 2048] inb) = rowOf 1 v := ld_row 1 v inb

theorem ld_row2 (v : Vec F S8x2048 .f32) (inb : ∀ a, (![2, 0] : Fin 2 → Nat) a + (![1, 2048] : Fin 2 → Nat) a ≤ S8x2048.size a) :
    View.ld v (Rect.unit (s := S8x2048) ![2, 0] ![1, 2048] inb) = rowOf 2 v := ld_row 2 v inb

theorem ld_row3 (v : Vec F S8x2048 .f32) (inb : ∀ a, (![3, 0] : Fin 2 → Nat) a + (![1, 2048] : Fin 2 → Nat) a ≤ S8x2048.size a) :
    View.ld v (Rect.unit (s := S8x2048) ![3, 0] ![1, 2048] inb) = rowOf 3 v := ld_row 3 v inb

/-- After a store of row `k`, that row reads what was stored, -/
theorem read_row (v : View sig .tc .vmem S8x2048 .f32) (f : v.ty.Contents (Elt F)) (o : ℕ) (k : Fin 8) (ho : o = k.val)
    (inb : ∀ a, (![o, 0] : Fin 2 → Nat) a + (![1, 2048] : Fin 2 → Nat) a ≤ S8x2048.size a) (x : S1x2048.Idx → Elt F .f32)
    (L : List (View.Piece (Elt F) S8x2048 .f32)) (j : Fin 2048) :
    v.read (Elt F) (v.writes (Elt F) f ((⟨Rect.unit (s := S8x2048) ![o, 0] ![1, 2048] inb, x⟩ : View.Piece (Elt F) S8x2048 .f32) :: L)) (ix2 k j)
      = x (ix2 0 j) := by
  subst ho
  refine View.read_writes_cons_unit_of_mem v f inb x L (ix2 k j) (ix2 (0 : Fin 1) j) rfl fun a => ?_
  match a with
  | ⟨0, _⟩ => rfl
  | ⟨1, _⟩ => show j.val = 0 + j.val; omega

/-- and every other row what it held before. -/
theorem read_other_row (v : View sig .tc .vmem S8x2048 .f32) (f : v.ty.Contents (Elt F)) (o : ℕ) (k : Fin 8) (ho : k.val < o)
    (inb : ∀ a, (![o, 0] : Fin 2 → Nat) a + (![1, 2048] : Fin 2 → Nat) a ≤ S8x2048.size a) (x : S1x2048.Idx → Elt F .f32)
    (L : List (View.Piece (Elt F) S8x2048 .f32)) (j : Fin 2048) :
    v.read (Elt F) (v.writes (Elt F) f ((⟨Rect.unit (s := S8x2048) ![o, 0] ![1, 2048] inb, x⟩ : View.Piece (Elt F) S8x2048 .f32) :: L)) (ix2 k j)
      = v.read (Elt F) (v.writes (Elt F) f L) (ix2 k j) :=
  View.read_writes_cons_unit_of_not_mem v f inb x L (ix2 k j) rfl 0 (Or.inl ho)

/-! ## The values a point leaves, named -/

section Names

variable (x0 : Vec F S256x2048 .bf16) (x1 : Vec F S2048x2048 .bf16) (x2 x3 : Vec F S256x2048 .f32) (x4 : Vec F S8x2048 .f32)

/-- The gradient at the residual sum. -/
def dresOf : Vec F S256x2048 .f32 :=
  k0_pay17 (k0_pay8 (rowOf 1 x4)) (k0_pay9 (rowOf 2 x4)) (k0_pay12 (rowOf 0 x4) x0 x1 x2) (k0_pay13 (rowOf 0 x4) x0 x1 x2)
    (k0_pay14 (rowOf 1 x4)) x3

/-- The three blocks. -/
def dzOf : Vec F S256x2048 .bf16 := k0_pay4 (k0_pay7 (rowOf 0 x4)) (dresOf x0 x1 x2 x3 x4)
def dyOf : Vec F S256x2048 .f32 := k0_pay5 (k0_pay7 (rowOf 0 x4)) (dresOf x0 x1 x2 x3 x4) x1
def gxOf : Vec F S256x2048 .f32 := k0_pay3 (dresOf x0 x1 x2 x3 x4)

/-- The four rows, over what was in them. -/
def gateOf (v : Vec F S1x2048 .f32) : Vec F S1x2048 .f32 :=
  k0_pay18 (k0_pay8 (rowOf 1 x4)) (k0_pay9 (rowOf 2 x4)) (k0_pay10 x0 x1) (k0_pay12 (rowOf 0 x4) x0 x1 x2)
    (k0_pay13 (rowOf 0 x4) x0 x1 x2) (k0_pay14 (rowOf 1 x4)) x3 v
def weightOf (v : Vec F S1x2048 .f32) : Vec F S1x2048 .f32 :=
  k0_pay19 (k0_pay9 (rowOf 2 x4)) (k0_pay13 (rowOf 0 x4) x0 x1 x2) (k0_pay14 (rowOf 1 x4)) x3 v
def biasOf (v : Vec F S1x2048 .f32) : Vec F S1x2048 .f32 :=
  k0_pay1 (k0_pay16 (k0_pay9 (rowOf 2 x4)) (k0_pay13 (rowOf 0 x4) x0 x1 x2) (k0_pay14 (rowOf 1 x4)) x3) v
def lossOf (v : Vec F S1x2048 .f32) : Vec F S1x2048 .f32 :=
  k0_pay2 (k0_pay15 (k0_pay9 (rowOf 2 x4)) (k0_pay13 (rowOf 0 x4) x0 x1 x2) (k0_pay14 (rowOf 1 x4)) x3) v

end Names

/-! ## The two kinds of point -/

/-- At the first point: the three blocks. -/
theorem first_dz (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : cond0_0 i)
    (x0 : Vec F S256x2048 .bf16) (x1 : Vec F S2048x2048 .bf16) (x2 x3 : Vec F S256x2048 .f32) (x4 : Vec F S8x2048 .f32) :
    out0_A_5 c i a1 h1 a2 h2 a3 h3 a4 h4 a5 h5 a6 h6 a7 h7 a8 h8 a9 h9 hc0 x0 x1 x2 x3 x4 = dzOf x0 x1 x2 x3 x4 := by
  unfold out0_A_5
  rw [View.read_writes_eq_canon _ _ _ (cover0_A_5 c i a1 h1 a2 h2 a3 h3 a4 h4 a5 h5 a6 h6 a7 h7 a8 h8 a9 h9 hc0 x0 x1 x2 x3 x4)]
  unfold kernelRun0_A
  dsimp only
  sl_unfold_words
  rw [View.canon_unit_zero (S := S256x2048) off0]
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3]
  rfl

theorem first_dy (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : cond0_0 i)
    (x0 : Vec F S256x2048 .bf16) (x1 : Vec F S2048x2048 .bf16) (x2 x3 : Vec F S256x2048 .f32) (x4 : Vec F S8x2048 .f32) :
    out0_A_6 c i a1 h1 a2 h2 a3 h3 a4 h4 a5 h5 a6 h6 a7 h7 a8 h8 a9 h9 hc0 x0 x1 x2 x3 x4 = dyOf x0 x1 x2 x3 x4 := by
  unfold out0_A_6
  rw [View.read_writes_eq_canon _ _ _ (cover0_A_6 c i a1 h1 a2 h2 a3 h3 a4 h4 a5 h5 a6 h6 a7 h7 a8 h8 a9 h9 hc0 x0 x1 x2 x3 x4)]
  unfold kernelRun0_A
  dsimp only
  sl_unfold_words
  rw [View.canon_unit_zero (S := S256x2048) off0]
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3]
  rfl

theorem first_gx (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : cond0_0 i)
    (x0 : Vec F S256x2048 .bf16) (x1 : Vec F S2048x2048 .bf16) (x2 x3 : Vec F S256x2048 .f32) (x4 : Vec F S8x2048 .f32) :
    out0_A_7 c i a1 h1 a2 h2 a3 h3 a4 h4 a5 h5 a6 h6 a7 h7 a8 h8 a9 h9 hc0 x0 x1 x2 x3 x4 = gxOf x0 x1 x2 x3 x4 := by
  unfold out0_A_7
  rw [View.read_writes_eq_canon _ _ _ (cover0_A_7 c i a1 h1 a2 h2 a3 h3 a4 h4 a5 h5 a6 h6 a7 h7 a8 h8 a9 h9 hc0 x0 x1 x2 x3 x4)]
  unfold kernelRun0_A
  dsimp only
  sl_unfold_words
  rw [View.canon_unit_zero (S := S256x2048) off0]
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3]
  rfl

/-- At the first point: the four rows. -/
theorem first_gate (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : cond0_0 i)
    (x0 : Vec F S256x2048 .bf16) (x1 : Vec F S2048x2048 .bf16) (x2 x3 : Vec F S256x2048 .f32) (x4 : Vec F S8x2048 .f32) (j : Fin 2048) :
    out0_A_8 c i a1 h1 a2 h2 a3 h3 a4 h4 a5 h5 a6 h6 a7 h7 a8 h8 a9 h9 hc0 x0 x1 x2 x3 x4 (ix2 0 j) = gateOf x0 x1 x2 x3 x4 (rowOf 0 (k0_pay6 (F := F))) (ix2 0 j) := by
  unfold out0_A_8 kernelRun0_A
  dsimp only
  sl_unfold_words
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3]
  simp (disch := decide) only [View.readCov_skip, View.readCov_fill, ld_row0, ld_row1, ld_row2, ld_row3]
  refine (read_other_row _ _ 3 0 (by decide) _ _ _ j).trans ?_
  refine (read_other_row _ _ 2 0 (by decide) _ _ _ j).trans ?_
  refine (read_other_row _ _ 1 0 (by decide) _ _ _ j).trans ?_
  exact read_row _ _ 0 0 rfl _ _ _ j

theorem first_weight (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : cond0_0 i)
    (x0 : Vec F S256x2048 .bf16) (x1 : Vec F S2048x2048 .bf16) (x2 x3 : Vec F S256x2048 .f32) (x4 : Vec F S8x2048 .f32) (j : Fin 2048) :
    out0_A_8 c i a1 h1 a2 h2 a3 h3 a4 h4 a5 h5 a6 h6 a7 h7 a8 h8 a9 h9 hc0 x0 x1 x2 x3 x4 (ix2 1 j) = weightOf x0 x1 x2 x3 x4 (rowOf 1 (k0_pay6 (F := F))) (ix2 0 j) := by
  unfold out0_A_8 kernelRun0_A
  dsimp only
  sl_unfold_words
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3]
  simp (disch := decide) only [View.readCov_skip, View.readCov_fill, ld_row0, ld_row1, ld_row2, ld_row3]
  refine (read_other_row _ _ 3 1 (by decide) _ _ _ j).trans ?_
  refine (read_other_row _ _ 2 1 (by decide) _ _ _ j).trans ?_
  exact read_row _ _ 1 1 rfl _ _ _ j

theorem first_bias (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : cond0_0 i)
    (x0 : Vec F S256x2048 .bf16) (x1 : Vec F S2048x2048 .bf16) (x2 x3 : Vec F S256x2048 .f32) (x4 : Vec F S8x2048 .f32) (j : Fin 2048) :
    out0_A_8 c i a1 h1 a2 h2 a3 h3 a4 h4 a5 h5 a6 h6 a7 h7 a8 h8 a9 h9 hc0 x0 x1 x2 x3 x4 (ix2 2 j) = biasOf x0 x1 x2 x3 x4 (rowOf 2 (k0_pay6 (F := F))) (ix2 0 j) := by
  unfold out0_A_8 kernelRun0_A
  dsimp only
  sl_unfold_words
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3]
  simp (disch := decide) only [View.readCov_skip, View.readCov_fill, ld_row0, ld_row1, ld_row2, ld_row3]
  refine (read_other_row _ _ 3 2 (by decide) _ _ _ j).trans ?_
  exact read_row _ _ 2 2 rfl _ _ _ j

theorem first_loss (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : cond0_0 i)
    (x0 : Vec F S256x2048 .bf16) (x1 : Vec F S2048x2048 .bf16) (x2 x3 : Vec F S256x2048 .f32) (x4 : Vec F S8x2048 .f32) (j : Fin 2048) :
    out0_A_8 c i a1 h1 a2 h2 a3 h3 a4 h4 a5 h5 a6 h6 a7 h7 a8 h8 a9 h9 hc0 x0 x1 x2 x3 x4 (ix2 3 j) = lossOf x0 x1 x2 x3 x4 (rowOf 3 (k0_pay6 (F := F))) (ix2 0 j) := by
  unfold out0_A_8 kernelRun0_A
  dsimp only
  sl_unfold_words
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3]
  simp (disch := decide) only [View.readCov_skip, View.readCov_fill, ld_row0, ld_row1, ld_row2, ld_row3]
  exact read_row _ _ 3 3 rfl _ _ _ j

/-- At a later point: the three blocks. -/
theorem later_dz (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : ¬cond0_0 i)
    (x0 : Vec F S256x2048 .bf16) (x1 : Vec F S2048x2048 .bf16) (x2 x3 : Vec F S256x2048 .f32) (x4 : Vec F S8x2048 .f32) (xo : Vec F S8x2048 .f32) :
    out0_B_5 c i a1 h1 a2 h2 a3 h3 a4 h4 a5 h5 a6 h6 a7 h7 a8 h8 a9 h9 hc0 x0 x1 x2 x3 x4 xo = dzOf x0 x1 x2 x3 x4 := by
  unfold out0_B_5
  rw [View.read_writes_eq_canon _ _ _ (cover0_B_5 c i a1 h1 a2 h2 a3 h3 a4 h4 a5 h5 a6 h6 a7 h7 a8 h8 a9 h9 hc0 x0 x1 x2 x3 x4 xo)]
  unfold kernelRun0_B
  dsimp only
  sl_unfold_words
  rw [View.canon_unit_zero (S := S256x2048) off0]
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3]
  rfl

theorem later_dy (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : ¬cond0_0 i)
    (x0 : Vec F S256x2048 .bf16) (x1 : Vec F S2048x2048 .bf16) (x2 x3 : Vec F S256x2048 .f32) (x4 : Vec F S8x2048 .f32) (xo : Vec F S8x2048 .f32) :
    out0_B_6 c i a1 h1 a2 h2 a3 h3 a4 h4 a5 h5 a6 h6 a7 h7 a8 h8 a9 h9 hc0 x0 x1 x2 x3 x4 xo = dyOf x0 x1 x2 x3 x4 := by
  unfold out0_B_6
  rw [View.read_writes_eq_canon _ _ _ (cover0_B_6 c i a1 h1 a2 h2 a3 h3 a4 h4 a5 h5 a6 h6 a7 h7 a8 h8 a9 h9 hc0 x0 x1 x2 x3 x4 xo)]
  unfold kernelRun0_B
  dsimp only
  sl_unfold_words
  rw [View.canon_unit_zero (S := S256x2048) off0]
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3]
  rfl

theorem later_gx (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : ¬cond0_0 i)
    (x0 : Vec F S256x2048 .bf16) (x1 : Vec F S2048x2048 .bf16) (x2 x3 : Vec F S256x2048 .f32) (x4 : Vec F S8x2048 .f32) (xo : Vec F S8x2048 .f32) :
    out0_B_7 c i a1 h1 a2 h2 a3 h3 a4 h4 a5 h5 a6 h6 a7 h7 a8 h8 a9 h9 hc0 x0 x1 x2 x3 x4 xo = gxOf x0 x1 x2 x3 x4 := by
  unfold out0_B_7
  rw [View.read_writes_eq_canon _ _ _ (cover0_B_7 c i a1 h1 a2 h2 a3 h3 a4 h4 a5 h5 a6 h6 a7 h7 a8 h8 a9 h9 hc0 x0 x1 x2 x3 x4 xo)]
  unfold kernelRun0_B
  dsimp only
  sl_unfold_words
  rw [View.canon_unit_zero (S := S256x2048) off0]
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3]
  rfl

/-- At a later point: the four rows. -/
theorem later_gate (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : ¬cond0_0 i)
    (x0 : Vec F S256x2048 .bf16) (x1 : Vec F S2048x2048 .bf16) (x2 x3 : Vec F S256x2048 .f32) (x4 : Vec F S8x2048 .f32) (xo : Vec F S8x2048 .f32) (j : Fin 2048) :
    out0_B_8 c i a1 h1 a2 h2 a3 h3 a4 h4 a5 h5 a6 h6 a7 h7 a8 h8 a9 h9 hc0 x0 x1 x2 x3 x4 xo (ix2 0 j) = gateOf x0 x1 x2 x3 x4 (rowOf 0 xo) (ix2 0 j) := by
  unfold out0_B_8 kernelRun0_B
  dsimp only
  sl_unfold_words
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3, h9.read_unread]
  refine (read_other_row _ _ 3 0 (by decide) _ _ _ j).trans ?_
  refine (read_other_row _ _ 2 0 (by decide) _ _ _ j).trans ?_
  refine (read_other_row _ _ 1 0 (by decide) _ _ _ j).trans ?_
  exact read_row _ _ 0 0 rfl _ _ _ j

theorem later_weight (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : ¬cond0_0 i)
    (x0 : Vec F S256x2048 .bf16) (x1 : Vec F S2048x2048 .bf16) (x2 x3 : Vec F S256x2048 .f32) (x4 : Vec F S8x2048 .f32) (xo : Vec F S8x2048 .f32) (j : Fin 2048) :
    out0_B_8 c i a1 h1 a2 h2 a3 h3 a4 h4 a5 h5 a6 h6 a7 h7 a8 h8 a9 h9 hc0 x0 x1 x2 x3 x4 xo (ix2 1 j) = weightOf x0 x1 x2 x3 x4 (rowOf 1 xo) (ix2 0 j) := by
  unfold out0_B_8 kernelRun0_B
  dsimp only
  sl_unfold_words
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3, h9.read_unread]
  refine (read_other_row _ _ 3 1 (by decide) _ _ _ j).trans ?_
  refine (read_other_row _ _ 2 1 (by decide) _ _ _ j).trans ?_
  exact read_row _ _ 1 1 rfl _ _ _ j

theorem later_bias (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : ¬cond0_0 i)
    (x0 : Vec F S256x2048 .bf16) (x1 : Vec F S2048x2048 .bf16) (x2 x3 : Vec F S256x2048 .f32) (x4 : Vec F S8x2048 .f32) (xo : Vec F S8x2048 .f32) (j : Fin 2048) :
    out0_B_8 c i a1 h1 a2 h2 a3 h3 a4 h4 a5 h5 a6 h6 a7 h7 a8 h8 a9 h9 hc0 x0 x1 x2 x3 x4 xo (ix2 2 j) = biasOf x0 x1 x2 x3 x4 (rowOf 2 xo) (ix2 0 j) := by
  unfold out0_B_8 kernelRun0_B
  dsimp only
  sl_unfold_words
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3, h9.read_unread]
  refine (read_other_row _ _ 3 2 (by decide) _ _ _ j).trans ?_
  exact read_row _ _ 2 2 rfl _ _ _ j

theorem later_loss (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x2048 .f32) (h3 : a3.IsWhole)
    (a4 : Memref sig .tc .vmem S256x2048 .f32) (h4 : a4.IsWhole) (a5 : Memref sig .tc .vmem S8x2048 .f32) (h5 : a5.IsWhole) (a6 : Memref sig .tc .vmem S256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S8x2048 .f32) (h9 : a9.IsWhole) (hc0 : ¬cond0_0 i)
    (x0 : Vec F S256x2048 .bf16) (x1 : Vec F S2048x2048 .bf16) (x2 x3 : Vec F S256x2048 .f32) (x4 : Vec F S8x2048 .f32) (xo : Vec F S8x2048 .f32) (j : Fin 2048) :
    out0_B_8 c i a1 h1 a2 h2 a3 h3 a4 h4 a5 h5 a6 h6 a7 h7 a8 h8 a9 h9 hc0 x0 x1 x2 x3 x4 xo (ix2 3 j) = lossOf x0 x1 x2 x3 x4 (rowOf 3 xo) (ix2 0 j) := by
  unfold out0_B_8 kernelRun0_B
  dsimp only
  sl_unfold_words
  simp only [View.readAt_eq_ld, h1.read_unread, h2.read_unread, h3.read_unread, h4.read_unread, h5.read_unread,
    View.ld_unit_zero (S := S256x2048) off0, View.ld_unit_zero (S := S2048x2048) off0, ld_row0, ld_row1, ld_row2, ld_row3, h9.read_unread]
  exact read_row _ _ 3 3 rfl _ _ _ j

end Cert.KernelIdeal.OutBlock

end
-- ==== Proof.BlockedSum.lean ====
/-
  A sum over rows taken block by block, by natural-number row. Both weight gradients are accumulated this way: block `q` of
  `B` rows is added to the sum over the rows before it.
-/
module

public import Mathlib.Data.EReal.Operations
public import Mathlib.Algebra.BigOperators.Fin
public import Mathlib.Algebra.BigOperators.Intervals

@[expose] public section

namespace Cert.BlockedSum

/-- The rows before block `q`, plus block `q`, are the rows before block `q + 1`. -/
theorem add_block (f : ℕ → EReal) (B q : ℕ) :
    (∑ r ∈ Finset.range (q * B), f r) + ∑ k : Fin B, f (q * B + k.val) = ∑ r ∈ Finset.range ((q + 1) * B), f r := by
  rw [Fin.sum_univ_eq_sum_range (fun k => f (q * B + k)) B, add_mul, one_mul, Finset.sum_range_add]

/-- The first block alone. -/
theorem first_block (f : ℕ → EReal) (B : ℕ) : ∑ k : Fin B, f (0 * B + k.val) = ∑ r ∈ Finset.range ((0 + 1) * B), f r := by
  have h := add_block f B 0
  simpa using h

/-- All rows, when the last block ends them. -/
theorem all_rows (N : ℕ) (g : Fin N → EReal) (f : ℕ → EReal) (h : ∀ r : Fin N, f r.val = g r) :
    ∑ r ∈ Finset.range N, f r = ∑ r : Fin N, g r := by
  rw [← Fin.sum_univ_eq_sum_range]
  exact Finset.sum_congr rfl fun r _ => h r

/-- Rows laid one array under the other: the sum over all of them is the sum over the first and the sum over the second. -/
theorem stacked {a b N : ℕ} (hN : N = a + b) (f : Fin N → EReal) (x : Fin a → EReal) (y : Fin b → EReal)
    (hx : ∀ i : Fin a, f ⟨i.val, by omega⟩ = x i) (hy : ∀ i : Fin b, f ⟨a + i.val, by omega⟩ = y i) :
    ∑ r, f r = (∑ i, x i) + ∑ i, y i := by
  subst hN
  rw [Fin.sum_univ_add]
  exact congrArg₂ (· + ·) (Finset.sum_congr rfl fun i _ => hx i) (Finset.sum_congr rfl fun i _ => hy i)

end Cert.BlockedSum

end
-- ==== Proof.OutBlockSum.lean ====
/-
  The block's end, all grid points (program `KernelIdeal`, first call): what the four output arrays hold after the last one.
  Three arrays are laid out block by block; the array of sums holds, after point `n`, the sums over the rows of the points
  up to `n`.
-/
module

public import proofs.«01_k».proof.Proof.OutBlockBody
public import proofs.«01_k».proof.Proof.BlockedSum

@[expose] public section

set_option maxRecDepth 16384

noncomputable section

open Idealize.ShloMosaic Idealize.ShloMosaic.TcCoe Idealize.SL.Sem
open Idealize.ShloMosaic.Pipeline (Dat)

namespace Cert.KernelIdeal.OutBlock

open Cert.KernelIdeal Cert.KernelIdeal.Gen Cert.NormMaths

variable (V : (c : Dev nD) → (b : Ref sig .tc) → Buf (Elt Ideal) ((c : Thread nD τ).loc b))

/-! ## The blocks handed over -/

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = 0 ∧ win0_8.index t 1 = 0 := by decide +kernel

theorem point_lt (t : Fin cfg0.N) : t.val < 16 := lt_of_lt_of_eq t.isLt (show cfg0.N = 16 from N_0)

/-- The number of the `r`-th row of the block of point `t`. -/
def rowAt (t : Fin cfg0.N) (r : Fin 256) : Fin 4096 := ⟨t.val * 256 + r.val, by have := point_lt t; omega⟩

def yBlock (c : Dev nD) (t : Fin cfg0.N) : Vec Ideal S256x2048 .bf16 := iblk0 V c 0 t
def wBlock (c : Dev nD) (t : Fin cfg0.N) : Vec Ideal S2048x2048 .bf16 := iblk0 V c 1 t
def xBlock (c : Dev nD) (t : Fin cfg0.N) : Vec Ideal S256x2048 .f32 := iblk0 V c 2 t
def tBlock (c : Dev nD) (t : Fin cfg0.N) : Vec Ideal S256x2048 .f32 := iblk0 V c 3 t
def gBlock (c : Dev nD) (t : Fin cfg0.N) : Vec Ideal S8x2048 .f32 := iblk0 V c 4 t

theorem y_block (c : Dev nD) (t : Fin cfg0.N) (r : Fin 256) (l : Fin 2048) :
    yBlock V c t (ix2 r l) = V c main_v0 (ix2 (rowAt t r) l) := by
  show iblk0 V c 0 t (ix2 r l) = _
  unfold iblk0
  rw [View.read_apply]
  show V c main_v0 _ = V c main_v0 _
  congr 1
  funext a
  apply Fin.ext
  match a with
  | ⟨0, _⟩ => show win0_0.index t 0 * 256 + 1 * r.val = t.val * 256 + r.val; rw [(index0 t).1]; omega
  | ⟨1, _⟩ => show win0_0.index t 1 * 2048 + 1 * l.val = l.val; rw [(index0 t).2]; omega

theorem w_block (c : Dev nD) (t : Fin cfg0.N) (r : Fin 2048) (l : Fin 2048) :
    wBlock V c t (ix2 r l) = V c main_v1 (ix2 r l) := by
  show iblk0 V c 1 t (ix2 r l) = _
  unfold iblk0
  rw [View.read_apply]
  show V c main_v1 _ = V c main_v1 _
  congr 1
  funext a
  apply Fin.ext
  match a with
  | ⟨0, _⟩ => show win0_1.index t 0 * 2048 + 1 * r.val = r.val; rw [(index1 t).1]; omega
  | ⟨1, _⟩ => show win0_1.index t 1 * 2048 + 1 * l.val = l.val; rw [(index1 t).2]; omega

theorem x_block (c : Dev nD) (t : Fin cfg0.N) (r : Fin 256) (l : Fin 2048) :
    xBlock V c t (ix2 r l) = V c main_arg2 (ix2 (rowAt t r) l) := by
  show iblk0 V c 2 t (ix2 r l) = _
  unfold iblk0
  rw [View.read_apply]
  show V c main_arg2 _ = V c main_arg2 _
  congr 1
  funext a
  apply Fin.ext
  match a with
  | ⟨0, _⟩ => show win0_2.index t 0 * 256 + 1 * r.val = t.val * 256 + r.val; rw [(index2 t).1]; omega
  | ⟨1, _⟩ => show win0_2.index t 1 * 2048 + 1 * l.val = l.val; rw [(index2 t).2]; omega

theorem t_block (c : Dev nD) (t : Fin cfg0.N) (r : Fin 256) (l : Fin 2048) :
    tBlock V c t (ix2 r l) = V c main_arg3 (ix2 (rowAt t r) l) := by
  show iblk0 V c 3 t (ix2 r l) = _
  unfold iblk0
  rw [View.read_apply]
  show V c main_arg3 _ = V c main_arg3 _
  congr 1
  funext a
  apply Fin.ext
  match a with
  | ⟨0, _⟩ => show win0_3.index t 0 * 256 + 1 * r.val = t.val * 256 + r.val; rw [(index3 t).1]; omega
  | ⟨1, _⟩ => show win0_3.index t 1 * 2048 + 1 * l.val = l.val; rw [(index3 t).2]; omega

theorem g_block (c : Dev nD) (t : Fin cfg0.N) (r : Fin 8) (l : Fin 2048) :
    gBlock V c t (ix2 r l) = V c main_v4 (ix2 r l) := by
  show iblk0 V c 4 t (ix2 r l) = _
  unfold iblk0
  rw [View.read_apply]
  show V c main_v4 _ = V c main_v4 _
  congr 1
  funext a
  apply Fin.ext
  match a with
  | ⟨0, _⟩ => show win0_4.index t 0 * 8 + 1 * r.val = r.val; rw [(index4 t).1]; omega
  | ⟨1, _⟩ => show win0_4.index t 1 * 2048 + 1 * l.val = l.val; rw [(index4 t).2]; omega

/-- The arrays the call finds hold the rows `R`; the stacked array's first three rows are the gate and the norm's weight and
    bias, the same for every row. -/
structure Entry (c : Dev nD) (R : Fin 4096 → Row) : Prop where
  y : ∀ r k, (V c main_v0 : S4096x2048.Idx → EReal) (ix2 r k) = (((R r).y k : ℝ) : EReal)
  w : ∀ r k j, (V c main_v1 : S2048x2048.Idx → EReal) (ix2 k j) = (((R r).w k j : ℝ) : EReal)
  x : ∀ r k, (V c main_arg2 : S4096x2048.Idx → EReal) (ix2 r k) = (((R r).x k : ℝ) : EReal)
  t : ∀ r k, (V c main_arg3 : S4096x2048.Idx → EReal) (ix2 r k) = (((R r).t k : ℝ) : EReal)
  g : ∀ r j, (V c main_v4 : S8x2048.Idx → EReal) (ix2 0 j) = (((R r).g j : ℝ) : EReal)
  lg : ∀ r j, (V c main_v4 : S8x2048.Idx → EReal) (ix2 1 j) = (((R r).lg j : ℝ) : EReal)
  lb : ∀ r j, (V c main_v4 : S8x2048.Idx → EReal) (ix2 2 j) = (((R r).lb j : ℝ) : EReal)

variable {V} {c : Dev nD} {R : Fin 4096 → Row}

/-- So the blocks of point `t` hold its 256 rows. -/
theorem Entry.holds (E : Entry V c R) (t : Fin cfg0.N) :
    Holds (yBlock V c t) (wBlock V c t) (xBlock V c t) (tBlock V c t) (rowOf 0 (gBlock V c t)) (rowOf 1 (gBlock V c t))
      (rowOf 2 (gBlock V c t)) (fun r => R (rowAt t r)) where
  y r k := (y_block V c t r k).trans (E.y _ k)
  w r k j := (w_block V c t k j).trans (E.w _ k j)
  x r k := (x_block V c t r k).trans (E.x _ k)
  t r k := (t_block V c t r k).trans (E.t _ k)
  g r j := (g_block V c t 0 j).trans (E.g _ j)
  lg r j := (g_block V c t 1 j).trans (E.lg _ j)
  lb r j := (g_block V c t 2 j).trans (E.lb _ j)

/-! ## The three arrays laid out block by block -/

theorem dz_at (E : Entry V c R) (t : Fin cfg0.N) (r : Fin 256) (j : Fin 2048) :
    (outsAt0 V c t.val t.isLt).1 (ix2 r j) = (((R (rowAt t r)).dz j : ℝ) : EReal) := by
  by_cases h0 : t.val % 16 = 0
  · rw [outsAt0_A V c t h0]
    dsimp only
    rw [first_dz]
    exact dz_val (E.holds t) r j
  · rw [outsAt0_B V c t h0]
    dsimp only
    rw [later_dz]
    exact dz_val (E.holds t) r j

theorem dy_at (E : Entry V c R) (t : Fin cfg0.N) (r : Fin 256) (j : Fin 2048) :
    (outsAt0 V c t.val t.isLt).2.1 (ix2 r j) = (((R (rowAt t r)).dy j : ℝ) : EReal) := by
  by_cases h0 : t.val % 16 = 0
  · rw [outsAt0_A V c t h0]
    dsimp only
    rw [first_dy]
    exact dy_val (E.holds t) r j
  · rw [outsAt0_B V c t h0]
    dsimp only
    rw [later_dy]
    exact dy_val (E.holds t) r j

theorem gx_at (E : Entry V c R) (t : Fin cfg0.N) (r : Fin 256) (j : Fin 2048) :
    (outsAt0 V c t.val t.isLt).2.2.1 (ix2 r j) = (((R (rowAt t r)).gx j : ℝ) : EReal) := by
  by_cases h0 : t.val % 16 = 0
  · rw [outsAt0_A V c t h0]
    dsimp only
    rw [first_gx]
    exact gx_val (E.holds t) r j
  · rw [outsAt0_B V c t h0]
    dsimp only
    rw [later_gx]
    exact gx_val (E.holds t) r j

def dzArray (R : Fin 4096 → Row) : S4096x2048.Idx → EReal := fun i => (((R (i 0)).dz (i 1) : ℝ) : EReal)

theorem dz_flushed (E : Entry V c R) (t : Fin cfg0.N) :
    (dat0 V c).flushed 5 t = ((cfg0.win 5).blk t).view.read (Elt Ideal) (dzArray R) := by
  show (cfg0.win 5).cut (grid0.coords t) ((dat0 V c).after 5 t) = _
  rw [after0_5]
  show (outsAt0 V c t.val t.isLt).1 = (_ : S256x2048.Idx → EReal)
  funext x
  obtain ⟨i, j, rfl⟩ : ∃ (i : Fin 256) (j : Fin 2048), x = ix2 i j := ⟨x 0, x 1, eq_ix2 x⟩
  rw [dz_at E t, View.read_apply]
  show dzArray R (ix2 (rowAt t i) j) = dzArray R _
  congr 1
  funext a
  apply Fin.ext
  match a with
  | ⟨0, _⟩ => show t.val * 256 + i.val = win0_5.index t 0 * 256 + 1 * i.val; rw [(index5 t).1]; omega
  | ⟨1, _⟩ => show j.val = win0_5.index t 1 * 2048 + 1 * j.val; rw [(index5 t).2]; omega

theorem dz_final (E : Entry V c R) : (dat0 V c).arrAt 5 cfg0.N = dzArray R :=
  (dat0 V c).arrAt_eq_of_cover 5 (dzArray R) (fun t _ => dz_flushed E t) fun i => by
    have h0 : (i 0 : Nat) < 4096 := (i 0).isLt
    have h1 : (i 1 : Nat) < 2048 := (i 1).isLt
    let t : Fin cfg0.N := ⟨(i 0 : Nat) / 256, by rw [show cfg0.N = 16 from N_0]; omega⟩
    have ht : t.val = (i 0 : Nat) / 256 := rfl
    refine ⟨t, flush0_5 t, ?_⟩
    show i ∈ ((View.whole main_v5_0).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [(index5 t).1]; omega
    | ⟨1, _⟩ =>
      show win0_5.index t 1 * 2048 ≤ (i 1 : Nat) ∧ (i 1 : Nat) < win0_5.index t 1 * 2048 + 2048
      rw [(index5 t).2]; omega

def dyArray (R : Fin 4096 → Row) : S4096x2048.Idx → EReal := fun i => (((R (i 0)).dy (i 1) : ℝ) : EReal)

theorem dy_flushed (E : Entry V c R) (t : Fin cfg0.N) :
    (dat0 V c).flushed 6 t = ((cfg0.win 6).blk t).view.read (Elt Ideal) (dyArray R) := by
  show (cfg0.win 6).cut (grid0.coords t) ((dat0 V c).after 6 t) = _
  rw [after0_6]
  show (outsAt0 V c t.val t.isLt).2.1 = (_ : S256x2048.Idx → EReal)
  funext x
  obtain ⟨i, j, rfl⟩ : ∃ (i : Fin 256) (j : Fin 2048), x = ix2 i j := ⟨x 0, x 1, eq_ix2 x⟩
  rw [dy_at E t, View.read_apply]
  show dyArray R (ix2 (rowAt t i) j) = dyArray R _
  congr 1
  funext a
  apply Fin.ext
  match a with
  | ⟨0, _⟩ => show t.val * 256 + i.val = win0_6.index t 0 * 256 + 1 * i.val; rw [(index6 t).1]; omega
  | ⟨1, _⟩ => show j.val = win0_6.index t 1 * 2048 + 1 * j.val; rw [(index6 t).2]; omega

theorem dy_final (E : Entry V c R) : (dat0 V c).arrAt 6 cfg0.N = dyArray R :=
  (dat0 V c).arrAt_eq_of_cover 6 (dyArray R) (fun t _ => dy_flushed E t) fun i => by
    have h0 : (i 0 : Nat) < 4096 := (i 0).isLt
    have h1 : (i 1 : Nat) < 2048 := (i 1).isLt
    let t : Fin cfg0.N := ⟨(i 0 : Nat) / 256, by rw [show cfg0.N = 16 from N_0]; omega⟩
    have ht : t.val = (i 0 : Nat) / 256 := rfl
    refine ⟨t, flush0_6 t, ?_⟩
    show i ∈ ((View.whole main_v5_1).slice (win0_6.rect t)).set
    rw [View.set_slice_whole, Rect.mem_set_unit]
    intro a
    match a with
    | ⟨0, _⟩ =>
      show win0_6.index t 0 * 256 ≤ (i 0 : Nat) ∧ (i 0 : Nat) < win0_6.index t 0 * 256 + 256
      rw [(index6 t).1]; omega
    | ⟨1, _⟩ =>
      show win0_6.index t 1 * 2048 ≤ (i 1 : Nat) ∧ (i 1 : Nat) < win0_6.index t 1 * 2048 + 2048
      rw [(index6 t).2]; omega

def gxArray (R : Fin 4096 → Row) : S4096x2048.Idx → EReal := fun i => (((R (i 0)).gx (i 1) : ℝ) : EReal)

theorem gx_flushed (E : Entry V c R) (t : Fin cfg0.N) :
    (dat0 V c).flushed 7 t = ((cfg0.win 7).blk t).view.read (Elt Ideal) (gxArray R) := by
  show (cfg0.win 7).cut (grid0.coords t) ((dat0 V c).after 7 t) = _
  rw [after0_7]
  show (outsAt0 V c t.val t.isLt).2.2.1 = (_ : S256x2048.Idx → EReal)
  funext x
  obtain ⟨i, j, rfl⟩ : ∃ (i : Fin 256) (j : Fin 2048), x = ix2 i j := ⟨x 0, x 1, eq_ix2 x⟩
  rw [gx_at E t, View.read_apply]
  show gxArray R (ix2 (rowAt t i) j) = gxArray R _
  congr 1
  funext a
  apply Fin.ext
  match a with
  | ⟨0, _⟩ => show t.val * 256 + i.val = win0_7.index t 0 * 256 + 1 * i.val; rw [(index7 t).1]; omega
  | ⟨1, _⟩ => show j.val = win0_7.index t 1 * 2048 + 1 * j.val; rw [(index7 t).2]; omega

theorem gx_final (E : Entry V c R) : (dat0 V c).arrAt 7 cfg0.N = gxArray R :=
  (dat0 V c).arrAt_eq_of_cover 7 (gxArray R) (fun t _ => gx_flushed E t) fun i => by
    have h0 : (i 0 : Nat) < 4096 := (i 0).isLt
    have h1 : (i 1 : Nat) < 2048 := (i 1).isLt
    let t : Fin cfg0.N := ⟨(i 0 : Nat) / 256, by rw [show cfg0.N = 16 from N_0]; omega⟩
    have ht : t.val = (i 0 : Nat) / 256 := rfl
    refine ⟨t, flush0_7 t, ?_⟩
    show i ∈ ((View.whole main_v5_2).slice (win0_7.rect t)).set
    rw [View.set_slice_whole, Rect.mem_set_unit]
    intro a
    match a with
    | ⟨0, _⟩ =>
      show win0_7.index t 0 * 256 ≤ (i 0 : Nat) ∧ (i 0 : Nat) < win0_7.index t 0 * 256 + 256
      rw [(index7 t).1]; omega
    | ⟨1, _⟩ =>
      show win0_7.index t 1 * 2048 ≤ (i 1 : Nat) ∧ (i 1 : Nat) < win0_7.index t 1 * 2048 + 2048
      rw [(index7 t).2]; omega

/-! ## The array of sums -/

/-- One number per row, by the row's number; zero beyond the last row. -/
def byRow (f : Fin 4096 → ℝ) (r : ℕ) : EReal := if hr : r < 4096 then ((f ⟨r, hr⟩ : ℝ) : EReal) else 0

theorem byRow_block (f : Fin 4096 → ℝ) (t : Fin cfg0.N) :
    ∑ r : Fin 256, ((f (rowAt t r) : ℝ) : EReal) = ∑ r : Fin 256, byRow f (t.val * 256 + r.val) :=
  Finset.sum_congr rfl fun r _ => by
    have hr : t.val * 256 + r.val < 4096 := (rowAt t r).isLt
    unfold byRow
    rw [dif_pos hr]
    rfl

theorem byRow_all (f : Fin 4096 → ℝ) : ∑ r ∈ Finset.range ((15 + 1) * 256), byRow f r = ∑ r, ((f r : ℝ) : EReal) :=
  BlockedSum.all_rows 4096 _ _ fun r => dif_pos r.isLt

theorem gate_upto (E : Entry V c R) (j : Fin 2048) : ∀ (n : ℕ) (hn : n < cfg0.N),
    (outsAt0 V c n hn).2.2.2 (ix2 0 j) = ∑ r ∈ Finset.range ((n + 1) * 256), byRow (fun r => (R r).dres j * (R r).z j) r
  | 0, hn => by
    rw [outsAt0_A V c ⟨0, hn⟩ rfl]
    dsimp only
    rw [first_gate]
    refine (gate_val (E.holds ⟨0, hn⟩) _ j).trans ?_
    have hz : rowOf (F := Ideal) 0 (k0_pay6 (F := Ideal)) (ix2 0 j) = 0 := zero_val 0 j
    rw [hz, zero_add, byRow_block (fun r => (R r).dres j * (R r).z j) ⟨0, hn⟩]
    exact BlockedSum.first_block _ 256
  | n + 1, hn => by
    have hN : n + 1 < 16 := point_lt ⟨n + 1, hn⟩
    rw [outsAt0_B V c ⟨n + 1, hn⟩ (by dsimp only; omega)]
    dsimp only
    rw [later_gate]
    refine (gate_val (E.holds ⟨n + 1, hn⟩) _ j).trans ?_
    rw [byRow_block (fun r => (R r).dres j * (R r).z j) ⟨n + 1, hn⟩]
    refine (congrArg (· + _) (gate_upto E j n (Nat.lt_of_succ_lt hn))).trans ?_
    exact BlockedSum.add_block _ 256 (n + 1)

theorem weight_upto (E : Entry V c R) (j : Fin 2048) : ∀ (n : ℕ) (hn : n < cfg0.N),
    (outsAt0 V c n hn).2.2.2 (ix2 1 j) = ∑ r ∈ Finset.range ((n + 1) * 256), byRow (fun r => (R r).dout j * (R r).n j) r
  | 0, hn => by
    rw [outsAt0_A V c ⟨0, hn⟩ rfl]
    dsimp only
    rw [first_weight]
    refine (weight_val (E.holds ⟨0, hn⟩) _ j).trans ?_
    have hz : rowOf (F := Ideal) 1 (k0_pay6 (F := Ideal)) (ix2 0 j) = 0 := zero_val 1 j
    rw [hz, zero_add, byRow_block (fun r => (R r).dout j * (R r).n j) ⟨0, hn⟩]
    exact BlockedSum.first_block _ 256
  | n + 1, hn => by
    have hN : n + 1 < 16 := point_lt ⟨n + 1, hn⟩
    rw [outsAt0_B V c ⟨n + 1, hn⟩ (by dsimp only; omega)]
    dsimp only
    rw [later_weight]
    refine (weight_val (E.holds ⟨n + 1, hn⟩) _ j).trans ?_
    rw [byRow_block (fun r => (R r).dout j * (R r).n j) ⟨n + 1, hn⟩]
    refine (congrArg (· + _) (weight_upto E j n (Nat.lt_of_succ_lt hn))).trans ?_
    exact BlockedSum.add_block _ 256 (n + 1)

theorem bias_upto (E : Entry V c R) (j : Fin 2048) : ∀ (n : ℕ) (hn : n < cfg0.N),
    (outsAt0 V c n hn).2.2.2 (ix2 2 j) = ∑ r ∈ Finset.range ((n + 1) * 256), byRow (fun r => (R r).dout j) r
  | 0, hn => by
    rw [outsAt0_A V c ⟨0, hn⟩ rfl]
    dsimp only
    rw [first_bias]
    refine (bias_val (E.holds ⟨0, hn⟩) _ j).trans ?_
    have hz : rowOf (F := Ideal) 2 (k0_pay6 (F := Ideal)) (ix2 0 j) = 0 := zero_val 2 j
    rw [hz, zero_add, byRow_block (fun r => (R r).dout j) ⟨0, hn⟩]
    exact BlockedSum.first_block _ 256
  | n + 1, hn => by
    have hN : n + 1 < 16 := point_lt ⟨n + 1, hn⟩
    rw [outsAt0_B V c ⟨n + 1, hn⟩ (by dsimp only; omega)]
    dsimp only
    rw [later_bias]
    refine (bias_val (E.holds ⟨n + 1, hn⟩) _ j).trans ?_
    rw [byRow_block (fun r => (R r).dout j) ⟨n + 1, hn⟩]
    refine (congrArg (· + _) (bias_upto E j n (Nat.lt_of_succ_lt hn))).trans ?_
    exact BlockedSum.add_block _ 256 (n + 1)

theorem loss_upto (E : Entry V c R) (j : Fin 2048) : ∀ (n : ℕ) (hn : n < cfg0.N),
    (outsAt0 V c n hn).2.2.2 (ix2 3 j) = ∑ r ∈ Finset.range ((n + 1) * 256), byRow (fun r => 1 / 4096 * ((R r).err j * (R r).err j)) r
  | 0, hn => by
    rw [outsAt0_A V c ⟨0, hn⟩ rfl]
    dsimp only
    rw [first_loss]
    refine (loss_val (E.holds ⟨0, hn⟩) _ j).trans ?_
    have hz : rowOf (F := Ideal) 3 (k0_pay6 (F := Ideal)) (ix2 0 j) = 0 := zero_val 3 j
    rw [hz, zero_add, byRow_block (fun r => 1 / 4096 * ((R r).err j * (R r).err j)) ⟨0, hn⟩]
    exact BlockedSum.first_block _ 256
  | n + 1, hn => by
    have hN : n + 1 < 16 := point_lt ⟨n + 1, hn⟩
    rw [outsAt0_B V c ⟨n + 1, hn⟩ (by dsimp only; omega)]
    dsimp only
    rw [later_loss]
    refine (loss_val (E.holds ⟨n + 1, hn⟩) _ j).trans ?_
    rw [byRow_block (fun r => 1 / 4096 * ((R r).err j * (R r).err j)) ⟨n + 1, hn⟩]
    refine (congrArg (· + _) (loss_upto E j n (Nat.lt_of_succ_lt hn))).trans ?_
    exact BlockedSum.add_block _ 256 (n + 1)

/-- The point that ends the call. -/
def lastPoint : Fin cfg0.N := ⟨15, by rw [show cfg0.N = 16 from N_0]; decide⟩

variable (V c) in
/-- The array of sums as the last point leaves it. -/
def sums : S8x2048.Idx → EReal := (outsAt0 V c lastPoint.val lastPoint.isLt).2.2.2

variable (V c) in
theorem sums_flushed (t : Fin cfg0.N) (hf : (cfg0.win 8).flush t = true) :
    (dat0 V c).flushed 8 t = ((cfg0.win 8).blk t).view.read (Elt Ideal) (sums V c) := by
  have h15 := (flush0_8 t).mp hf
  have hlt := point_lt t
  obtain rfl : t = lastPoint := Fin.ext (by show t.val = 15; omega)
  show (cfg0.win 8).cut (grid0.coords lastPoint) ((dat0 V c).after 8 lastPoint) = _
  rw [after0_8]
  show sums V c = (_ : S8x2048.Idx → EReal)
  funext x
  obtain ⟨i, j, rfl⟩ : ∃ (i : Fin 8) (j : Fin 2048), x = ix2 i j := ⟨x 0, x 1, eq_ix2 x⟩
  rw [View.read_apply]
  show sums V c (ix2 i j) = sums V c _
  congr 1
  funext a
  apply Fin.ext
  match a with
  | ⟨0, _⟩ => show i.val = win0_8.index lastPoint 0 * 8 + 1 * i.val; rw [(index8 lastPoint).1]; omega
  | ⟨1, _⟩ => show j.val = win0_8.index lastPoint 1 * 2048 + 1 * j.val; rw [(index8 lastPoint).2]; omega

variable (V c) in
theorem sums_final : (dat0 V c).arrAt 8 cfg0.N = sums V c :=
  (dat0 V c).arrAt_eq_of_cover 8 (sums V c) (sums_flushed V c) fun i => by
    have h0 : (i 0 : Nat) < 8 := (i 0).isLt
    have h1 : (i 1 : Nat) < 2048 := (i 1).isLt
    refine ⟨lastPoint, (flush0_8 lastPoint).mpr rfl, ?_⟩
    show i ∈ ((View.whole main_v5_3).slice (win0_8.rect lastPoint)).set
    rw [View.set_slice_whole, Rect.mem_set_unit]
    intro a
    match a with
    | ⟨0, _⟩ =>
      show win0_8.index lastPoint 0 * 8 ≤ (i 0 : Nat) ∧ (i 0 : Nat) < win0_8.index lastPoint 0 * 8 + 8
      rw [(index8 lastPoint).1]; omega
    | ⟨1, _⟩ =>
      show win0_8.index lastPoint 1 * 2048 ≤ (i 1 : Nat) ∧ (i 1 : Nat) < win0_8.index lastPoint 1 * 2048 + 2048
      rw [(index8 lastPoint).2]; omega

theorem sums_gate (E : Entry V c R) (j : Fin 2048) :
    sums V c (ix2 0 j) = ∑ r, (((R r).dres j * (R r).z j : ℝ) : EReal) :=
  (gate_upto E j 15 lastPoint.isLt).trans (byRow_all fun r => (R r).dres j * (R r).z j)

theorem sums_weight (E : Entry V c R) (j : Fin 2048) :
    sums V c (ix2 1 j) = ∑ r, (((R r).dout j * (R r).n j : ℝ) : EReal) :=
  (weight_upto E j 15 lastPoint.isLt).trans (byRow_all fun r => (R r).dout j * (R r).n j)

theorem sums_bias (E : Entry V c R) (j : Fin 2048) :
    sums V c (ix2 2 j) = ∑ r, (((R r).dout j : ℝ) : EReal) :=
  (bias_upto E j 15 lastPoint.isLt).trans (byRow_all fun r => (R r).dout j)

theorem sums_loss (E : Entry V c R) (j : Fin 2048) :
    sums V c (ix2 3 j) = ∑ r, ((1 / 4096 * ((R r).err j * (R r).err j) : ℝ) : EReal) :=
  (loss_upto E j 15 lastPoint.isLt).trans (byRow_all fun r => 1 / 4096 * ((R r).err j * (R r).err j))

end Cert.KernelIdeal.OutBlock

end
-- ==== Proof.OutWeight.lean ====
/-
  The gradient of the output projection's weight (program `KernelIdeal`, second call): `yᵀ dz`. The grid is 2 blocks of 1024
  output rows by 4 blocks of 1024 summed rows; at the first of the four the output block is set to zero, at each the product
  of the transposed block of `y` and the block of `dz` is added.
-/
module

public import proofs.«01_k».proof.Proof.BlockedSum
public import proofs.«01_k».proof.Proof.Gen.KernelIdeal.Frame
public import Idealize.ShloMosaic.Lib.Pipeline.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.OutWeight

open Cert.KernelIdeal Cert.KernelIdeal.Gen

section Cases

variable {F : FTy → Type} [FloatOps F]

theorem off0 : (![0, 0] : Fin 2 → Nat) = fun _ => 0 := funext fun a => by fin_cases a <;> rfl

/-- At the first summed block: zero, plus the product of the blocks. -/
theorem first (c : Dev nD) (i : grid1.Coords) (a2 : Memref sig .tc .vmem S1024x1024 .bf16) (h2 : a2.IsWhole)
    (a3 : Memref sig .tc .vmem S1024x2048 .bf16) (h3 : a3.IsWhole) (a4 : Memref sig .tc .vmem S1024x2048 .f32) (h4 : a4.IsWhole)
    (hc0 : cond1_0 i) (x0 : Vec F S1024x1024 .bf16) (x1 : Vec F S1024x2048 .bf16) :
    out1_A_2 c i a2 h2 a3 h3 a4 h4 hc0 x0 x1 = k1_pay2 (k1_pay1 (F := F)) x0 x1 := by
  unfold out1_A_2
  rw [View.read_writes_eq_canon _ _ _ (cover1_A_2 c i a2 h2 a3 h3 a4 h4 hc0 x0 x1)]
  unfold kernelRun1_A
  dsimp only
  sl_unfold_words
  rw [View.canon_cons_unit_zero (S := S1024x2048) off0, View.readCov_unit_zero (S := S1024x2048) _ off0]
  simp only [View.readAt_eq_ld, h2.read_unread, h3.read_unread, View.ld_unit_zero (S := S1024x1024) off0,
    View.ld_unit_zero (S := S1024x2048) off0]

/-- At a later block: what was there, plus the product. -/
theorem later (c : Dev nD) (i : grid1.Coords) (a2 : Memref sig .tc .vmem S1024x1024 .bf16) (h2 : a2.IsWhole)
    (a3 : Memref sig .tc .vmem S1024x2048 .bf16) (h3 : a3.IsWhole) (a4 : Memref sig .tc .vmem S1024x2048 .f32) (h4 : a4.IsWhole)
    (hc0 : ¬cond1_0 i) (x0 : Vec F S1024x1024 .bf16) (x1 : Vec F S1024x2048 .bf16) (xo : Vec F S1024x2048 .f32) :
    out1_B_2 c i a2 h2 a3 h3 a4 h4 hc0 x0 x1 xo = k1_pay2 xo x0 x1 := by
  unfold out1_B_2
  rw [View.read_writes_eq_canon _ _ _ (cover1_B_2 c i a2 h2 a3 h3 a4 h4 hc0 x0 x1 xo)]
  unfold kernelRun1_B
  dsimp only
  sl_unfold_words
  rw [View.canon_unit_zero (S := S1024x2048) off0]
  simp only [View.readAt_eq_ld, h2.read_unread, h3.read_unread, h4.read_unread, View.ld_unit_zero (S := S1024x1024) off0,
    View.ld_unit_zero (S := S1024x2048) off0]

end Cases

theorem pay1_apply (r : Fin 1024) (l : Fin 2048) : k1_pay1 (F := Ideal) (ix2 r l) = 0 := by
  pointwise [k1_pay1]

theorem pay2_apply (v : Vec Ideal S1024x2048 .f32) (x : Vec Ideal S1024x1024 .bf16) (y : Vec Ideal S1024x2048 .bf16)
    (r : Fin 1024) (l : Fin 2048) :
    k1_pay2 v x y (ix2 r l) = v (ix2 r l) + ∑ k : Fin 1024, x (ix2 k r) * y (ix2 k l) := by
  pointwise [k1_pay2]

/-! ## The blocks handed over -/

variable (V : (c : Dev nD) → (b : Ref sig .tc) → Buf (Elt Ideal) ((c : Thread nD τ).loc b))

theorem index0 : ∀ t : Fin grid1.N, win1_0.index t 0 = t.val % 4 ∧ win1_0.index t 1 = t.val / 4 := by decide +kernel
theorem index1 : ∀ t : Fin grid1.N, win1_1.index t 0 = t.val % 4 ∧ win1_1.index t 1 = 0 := by decide +kernel
theorem index2 : ∀ t : Fin grid1.N, win1_2.index t 0 = t.val / 4 ∧ win1_2.index t 1 = 0 := by decide +kernel

theorem point_lt (t : Fin cfg1.N) : t.val < 8 := lt_of_lt_of_eq t.isLt (show cfg1.N = 8 from N_1)

/-- The two operands as the call finds them. -/
def y (c : Dev nD) : S4096x2048.Idx → EReal := V c main_v0
def dz (c : Dev nD) : S4096x2048.Idx → EReal := V c main_v5_0

def yBlock (c : Dev nD) (t : Fin cfg1.N) : Vec Ideal S1024x1024 .bf16 := iblk1 V c 0 t
def dzBlock (c : Dev nD) (t : Fin cfg1.N) : Vec Ideal S1024x2048 .bf16 := iblk1 V c 1 t

theorem y_block (c : Dev nD) (t : Fin cfg1.N) (r l : Fin 1024) :
    yBlock V c t (ix2 r l)
      = y V c (ix2 ⟨t.val % 4 * 1024 + r.val, by omega⟩ ⟨t.val / 4 * 1024 + l.val, by have := point_lt t; omega⟩) := by
  show iblk1 V c 0 t (ix2 r l) = _
  unfold iblk1
  rw [View.read_apply]
  show V c main_v0 _ = V c main_v0 _
  congr 1
  funext a
  apply Fin.ext
  match a with
  | ⟨0, _⟩ => show win1_0.index t 0 * 1024 + 1 * r.val = t.val % 4 * 1024 + r.val; rw [(index0 t).1]; omega
  | ⟨1, _⟩ => show win1_0.index t 1 * 1024 + 1 * l.val = t.val / 4 * 1024 + l.val; rw [(index0 t).2]; omega

theorem dz_block (c : Dev nD) (t : Fin cfg1.N) (r : Fin 1024) (l : Fin 2048) :
    dzBlock V c t (ix2 r l) = dz V c (ix2 ⟨t.val % 4 * 1024 + r.val, by omega⟩ l) := by
  show iblk1 V c 1 t (ix2 r l) = _
  unfold iblk1
  rw [View.read_apply]
  show V c main_v5_0 _ = V c main_v5_0 _
  congr 1
  funext a
  apply Fin.ext
  match a with
  | ⟨0, _⟩ => show win1_1.index t 0 * 1024 + 1 * r.val = t.val % 4 * 1024 + r.val; rw [(index1 t).1]; omega
  | ⟨1, _⟩ => show win1_1.index t 1 * 2048 + 1 * l.val = l.val; rw [(index1 t).2]; omega

/-! ## The sum -/

/-- The term of row `r` in the entry at output row `a`, column `b`; zero outside the arrays. -/
def term (c : Dev nD) (a : ℕ) (b : Fin 2048) (r : ℕ) : EReal :=
  if hr : r < 4096 ∧ a < 2048 then y V c (ix2 ⟨r, hr.1⟩ ⟨a, hr.2⟩) * dz V c (ix2 ⟨r, hr.1⟩ b) else 0

theorem block_sum (c : Dev nD) (t : Fin cfg1.N) (i : Fin 1024) (j : Fin 2048) :
    ∑ k : Fin 1024, yBlock V c t (ix2 k i) * dzBlock V c t (ix2 k j)
      = ∑ k : Fin 1024, term V c (t.val / 4 * 1024 + i.val) j (t.val % 4 * 1024 + k.val) := by
  have ht := point_lt t
  refine Finset.sum_congr rfl fun k _ => ?_
  rw [term, dif_pos ⟨by omega, by omega⟩]
  exact congrArg₂ (· * ·) (y_block V c t k i) (dz_block V c t k j)

/-- After point `n` the output block holds the sum over the rows up to the end of that point's row block. -/
theorem accumulated (c : Dev nD) : ∀ (n : ℕ) (hn : n < cfg1.N) (i : Fin 1024) (j : Fin 2048),
    outsAt1 V c n hn (ix2 i j) = ∑ r ∈ Finset.range ((n % 4 + 1) * 1024), term V c (n / 4 * 1024 + i.val) j r
  | 0, hn, i, j => by
    rw [outsAt1_A V c ⟨0, hn⟩ rfl, first, pay2_apply, pay1_apply, zero_add]
    erw [block_sum V c]
    exact BlockedSum.first_block _ 1024
  | n + 1, hn, i, j => by
    have hN : n + 1 < 8 := point_lt ⟨n + 1, hn⟩
    by_cases h0 : (n + 1) % 4 = 0
    · rw [outsAt1_A V c ⟨n + 1, hn⟩ h0, first, pay2_apply, pay1_apply, zero_add]
      erw [block_sum V c]
      dsimp only
      rw [h0]
      exact BlockedSum.first_block _ 1024
    · have hq : (n + 1) % 4 = n % 4 + 1 := by omega
      have hd : (n + 1) / 4 = n / 4 := by omega
      have ih := accumulated c n (by omega) i j
      have step : outsAt1 V c n (by omega) (ix2 i j)
          + ∑ k : Fin 1024, term V c ((n + 1) / 4 * 1024 + i.val) j ((n + 1) % 4 * 1024 + k.val)
          = ∑ r ∈ Finset.range (((n + 1) % 4 + 1) * 1024), term V c ((n + 1) / 4 * 1024 + i.val) j r := by
        rw [ih, hq, hd]
        exact BlockedSum.add_block _ 1024 (n % 4 + 1)
      rw [outsAt1_B V c ⟨n + 1, hn⟩ h0, later, pay2_apply]
      erw [block_sum V c]
      exact step

/-- The whole product, all 4096 rows. -/
def product (c : Dev nD) : S2048x2048.Idx → EReal :=
  fun i => ∑ r : Fin 4096, y V c (ix2 r (i 0)) * dz V c (ix2 r (i 1))

theorem block_product (c : Dev nD) (t : Fin cfg1.N) (h3 : t.val % 4 = 3) (i : Fin 1024) (j : Fin 2048) :
    outsAt1 V c t.val t.isLt (ix2 i j)
      = product V c (ix2 ⟨t.val / 4 * 1024 + i.val, by have := point_lt t; omega⟩ j) := by
  have ht := point_lt t
  rw [accumulated, h3]
  refine BlockedSum.all_rows 4096 _ _ fun r => ?_
  rw [term, dif_pos ⟨r.isLt, by omega⟩]
  rfl

theorem flushed (c : Dev nD) (t : Fin cfg1.N) (hf : (cfg1.win 2).flush t = true) :
    (dat1 V c).flushed 2 t = ((cfg1.win 2).blk t).view.read (Elt Ideal) (product V c) := by
  have h3 := (flush1_2 t).mp hf
  show (cfg1.win 2).cut (grid1.coords t) ((dat1 V c).after 2 t) = _
  rw [after1_2]
  show outsAt1 V c t.val t.isLt = (_ : S1024x2048.Idx → EReal)
  funext x
  obtain ⟨i, j, rfl⟩ : ∃ (i : Fin 1024) (j : Fin 2048), x = ix2 i j := ⟨x 0, x 1, eq_ix2 x⟩
  rw [block_product V c t h3, View.read_apply]
  show product V c _ = product V c _
  congr 1
  funext a
  apply Fin.ext
  match a with
  | ⟨0, _⟩ => show t.val / 4 * 1024 + i.val = win1_2.index t 0 * 1024 + 1 * i.val; rw [(index2 t).1]; omega
  | ⟨1, _⟩ => show j.val = win1_2.index t 1 * 2048 + 1 * j.val; rw [(index2 t).2]; omega

/-- So after the last point the result array holds the product: the two blocks tile it. -/
theorem final (c : Dev nD) : (dat1 V c).arrAt 2 cfg1.N = product V c :=
  (dat1 V c).arrAt_eq_of_cover 2 (product V c) (flushed V c) fun i => by
    have h0 : (i 0 : Nat) < 2048 := (i 0).isLt
    have h1 : (i 1 : Nat) < 2048 := (i 1).isLt
    let t : Fin cfg1.N := ⟨(i 0 : Nat) / 1024 * 4 + 3, by rw [show cfg1.N = 8 from N_1]; omega⟩
    have ht : t.val = (i 0 : Nat) / 1024 * 4 + 3 := rfl
    refine ⟨t, (flush1_2 t).mpr (by omega), ?_⟩
    show i ∈ ((View.whole main_v6).slice (win1_2.rect t)).set
    rw [View.set_slice_whole, Rect.mem_set_unit]
    intro a
    match a with
    | ⟨0, _⟩ =>
      show win1_2.index t 0 * 1024 ≤ (i 0 : Nat) ∧ (i 0 : Nat) < win1_2.index t 0 * 1024 + 1024
      rw [(index2 t).1]; omega
    | ⟨1, _⟩ =>
      show win1_2.index t 1 * 2048 ≤ (i 1 : Nat) ∧ (i 1 : Nat) < win1_2.index t 1 * 2048 + 2048
      rw [(index2 t).2]; omega

end Cert.KernelIdeal.OutWeight

end
-- ==== Proof.OutBlockRun.lean ====
/-
  The block's end and the output weight's gradient as one program (`KernelIdeal`): the host operations before and after the
  two calls, and the whole run. Before the calls `y` and the weight are rounded to bf16 and the gate and the norm's weight and
  bias are stacked as the first rows of one array; after them the four rows of sums are cut out and the loss row is summed.
-/
module

public import proofs.«01_k».proof.Proof.OutBlockSum
public import proofs.«01_k».proof.Proof.OutWeight
public import Idealize.ShloMosaic.Lib.Claim

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.KernelIdeal.OutBlock

open Cert.KernelIdeal Cert.KernelIdeal.Gen Cert.NormMaths

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each buffer of the program at the contents the four segments, in order, give it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Run

variable (m : (ℓ : Loc nD τ sig) → Buf (Elt Ideal) ℓ) (ρ : Dev nD → PrngReg)

/-! ## The arguments, and what the calls find -/

def argY (c : Dev nD) : FVec Ideal S4096x2048 .f32 := m ((c.tc : Thread nD τ).loc main_arg0)
def argW (c : Dev nD) : FVec Ideal S2048x2048 .f32 := m ((c.tc : Thread nD τ).loc main_arg1)
def argX (c : Dev nD) : FVec Ideal S4096x2048 .f32 := m ((c.tc : Thread nD τ).loc main_arg2)
def argT (c : Dev nD) : FVec Ideal S4096x2048 .f32 := m ((c.tc : Thread nD τ).loc main_arg3)
def argG (c : Dev nD) : FVec Ideal S2048 .f32 := m ((c.tc : Thread nD τ).loc main_arg4)
def argLg (c : Dev nD) : FVec Ideal S2048 .f32 := m ((c.tc : Thread nD τ).loc main_arg5)
def argLb (c : Dev nD) : FVec Ideal S2048 .f32 := m ((c.tc : Thread nD τ).loc main_arg6)

theorem y_eq (c : Dev nD) : (V1 m ρ c main_v0 : S4096x2048.Idx → EReal) = truncf (F := Ideal) .bf16 (argY m c) bitsLt_bf16_f32 := by
  show StableHlo.after hostOps0 _ (Proc.devRef .tc main_v0) = _
  after_results_simp
  rfl

theorem w_eq (c : Dev nD) : (V1 m ρ c main_v1 : S2048x2048.Idx → EReal) = truncf (F := Ideal) .bf16 (argW m c) bitsLt_bf16_f32 := by
  show StableHlo.after hostOps0 _ (Proc.devRef .tc main_v1) = _
  after_results_simp
  rfl

theorem stack_eq (c : Dev nD) : (V1 m ρ c main_v4 : S8x2048.Idx → EReal) = shapeCast S8x2048
    (concatenate S16384 0 [⟨S2048, argG m c⟩, ⟨S2048, argLg m c⟩, ⟨S2048, argLb m c⟩,
      ⟨S10240, broadcastInDim S10240 ![] bcast_S_S10240 (constant (F := Ideal) S_ .f32 0x00000000#32)⟩]
      concatenates_S2048_S2048_S2048_S10240_S16384_d0) shapeCasts_S16384_S8x2048 := by
  show StableHlo.after hostOps0 _ (Proc.devRef .tc main_v4) = _
  after_results_simp
  rfl

theorem y_apply (c : Dev nD) (r : Fin 4096) (k : Fin 2048) :
    (V1 m ρ c main_v0 : S4096x2048.Idx → EReal) (ix2 r k) = argY m c (ix2 r k) := by
  rw [y_eq]
  pointwise

theorem w_apply (c : Dev nD) (r k : Fin 2048) :
    (V1 m ρ c main_v1 : S2048x2048.Idx → EReal) (ix2 r k) = argW m c (ix2 r k) := by
  rw [w_eq]
  pointwise

theorem x_eq (c : Dev nD) : (V1 m ρ c main_arg2 : S4096x2048.Idx → EReal) = argX m c := W1_args m ρ c main_arg2 (by decide)

theorem t_eq (c : Dev nD) : (V1 m ρ c main_arg3 : S4096x2048.Idx → EReal) = argT m c := W1_args m ρ c main_arg3 (by decide)

theorem stack_gate (c : Dev nD) (j : Fin 2048) :
    (V1 m ρ c main_v4 : S8x2048.Idx → EReal) (ix2 0 j) = argG m c (ix1 j) := by
  rw [stack_eq]
  pointwise

theorem stack_weight (c : Dev nD) (j : Fin 2048) :
    (V1 m ρ c main_v4 : S8x2048.Idx → EReal) (ix2 1 j) = argLg m c (ix1 j) := by
  rw [stack_eq]
  pointwise

theorem stack_bias (c : Dev nD) (j : Fin 2048) :
    (V1 m ρ c main_v4 : S8x2048.Idx → EReal) (ix2 2 j) = argLb m c (ix1 j) := by
  rw [stack_eq]
  pointwise
  rw [dif_neg (by omega), dif_neg (by omega), dif_pos (by omega)]
  exact congrArg (fun i => argLb m c (ix1 i)) (Fin.ext (by show 4096 + j.val - 2048 - 2048 = j.val; omega))

/-! ## What the run leaves in the seven results -/

theorem dy_left (c : Dev nD) : W4 m ρ c (Proc.devRef .tc main_v5_1) = (dat0 (V1 m ρ) c).arrAt 6 cfg0.N :=
  (W4_of m ρ c main_v5_1 (by decide)).trans ((W3_of m ρ c main_v5_1 (by decide)).trans (W2_arr m ρ c 6))

theorem gx_left (c : Dev nD) : W4 m ρ c (Proc.devRef .tc main_v5_2) = (dat0 (V1 m ρ) c).arrAt 7 cfg0.N :=
  (W4_of m ρ c main_v5_2 (by decide)).trans ((W3_of m ρ c main_v5_2 (by decide)).trans (W2_arr m ρ c 7))

theorem weight_left (c : Dev nD) : W4 m ρ c (Proc.devRef .tc main_v6) = OutWeight.product (V2 m ρ) c :=
  (W4_of m ρ c main_v6 (by decide)).trans ((W3_arr m ρ c 2).trans (OutWeight.final (V2 m ρ) c))

theorem sums_left (c : Dev nD) : W3 m ρ c (Proc.devRef .tc main_v5_3) = sums (V1 m ρ) c :=
  (W3_of m ρ c main_v5_3 (by decide)).trans ((W2_arr m ρ c 8).trans (sums_final (V1 m ρ) c))

/-- The operands of the second call: `y` as the first call found it, `dz` as it left it. -/
theorem operand_y (c : Dev nD) : OutWeight.y (V2 m ρ) c = (V1 m ρ c main_v0 : S4096x2048.Idx → EReal) :=
  W2_of m ρ c main_v0 (by decide)

theorem operand_dz (c : Dev nD) : OutWeight.dz (V2 m ρ) c = (dat0 (V1 m ρ) c).arrAt 5 cfg0.N := W2_arr m ρ c 5

/-- Row `k` of the sums, as the host lines cut it out. -/
def rowResult (k : Fin 8) (h : S8x2048.Slices ![k.val, 0] S1x2048) (c : Dev nD) : FVec Ideal S2048 .f32 :=
  shapeCast S2048 (extractStridedSlice S1x2048 ![k.val, 0] (sums (V1 m ρ) c) h) shapeCasts_S1x2048_S2048

theorem gate_left (c : Dev nD) : W4 m ρ c (Proc.devRef .tc main_v8) = rowResult m ρ 0 slices_S8x2048_S1x2048_0_0 c := by
  show StableHlo.after hostOps2 _ (Proc.devRef .tc main_v8) = _
  after_results_simp
  rw [sums_left]
  rfl

theorem normWeight_left (c : Dev nD) : W4 m ρ c (Proc.devRef .tc main_v10) = rowResult m ρ 1 slices_S8x2048_S1x2048_1_0 c := by
  show StableHlo.after hostOps2 _ (Proc.devRef .tc main_v10) = _
  after_results_simp
  rw [sums_left]
  rfl

theorem normBias_left (c : Dev nD) : W4 m ρ c (Proc.devRef .tc main_v12) = rowResult m ρ 2 slices_S8x2048_S1x2048_2_0 c := by
  show StableHlo.after hostOps2 _ (Proc.devRef .tc main_v12) = _
  after_results_simp
  rw [sums_left]
  rfl

def lossResult (c : Dev nD) : FVec Ideal S_ .f32 :=
  Host.reduceAdd (rowResult m ρ 3 slices_S8x2048_S1x2048_3_0 c) (constant (F := Ideal) S_ .f32 0x00000000#32)
    reducesTo_S2048_S_d0 h_S_

theorem loss_left (c : Dev nD) : W4 m ρ c (Proc.devRef .tc main_v15) = lossResult m ρ c := by
  show StableHlo.after hostOps2 _ (Proc.devRef .tc main_v15) = _
  after_results_simp
  rw [sums_left]
  rfl

theorem row0_apply (c : Dev nD) (j : Fin 2048) :
    rowResult m ρ 0 slices_S8x2048_S1x2048_0_0 c (ix1 j) = sums (V1 m ρ) c (ix2 0 j) := by
  pointwise [rowResult]
theorem row1_apply (c : Dev nD) (j : Fin 2048) :
    rowResult m ρ 1 slices_S8x2048_S1x2048_1_0 c (ix1 j) = sums (V1 m ρ) c (ix2 1 j) := by
  pointwise [rowResult]
theorem row2_apply (c : Dev nD) (j : Fin 2048) :
    rowResult m ρ 2 slices_S8x2048_S1x2048_2_0 c (ix1 j) = sums (V1 m ρ) c (ix2 2 j) := by
  pointwise [rowResult]
theorem loss_apply (c : Dev nD) : lossResult m ρ c ix0 = ∑ j : Fin 2048, sums (V1 m ρ) c (ix2 3 j) := by
  pointwise [lossResult, rowResult]

/-- The run: the seven results and the arguments. -/
theorem run : θ_run defs (onTc (τ := τ) (main (F := Ideal))) ⟨m, fun _ => 0, ρ⟩ fun r => ∀ c : Dev nD,
      r.2.mem ((c.tc : Thread nD τ).loc main_v5_1) = (dat0 (V1 m ρ) c).arrAt 6 cfg0.N
      ∧ r.2.mem ((c.tc : Thread nD τ).loc main_v6) = OutWeight.product (V2 m ρ) c
      ∧ r.2.mem ((c.tc : Thread nD τ).loc main_v5_2) = (dat0 (V1 m ρ) c).arrAt 7 cfg0.N
      ∧ r.2.mem ((c.tc : Thread nD τ).loc main_v8) = rowResult m ρ 0 slices_S8x2048_S1x2048_0_0 c
      ∧ r.2.mem ((c.tc : Thread nD τ).loc main_v10) = rowResult m ρ 1 slices_S8x2048_S1x2048_1_0 c
      ∧ r.2.mem ((c.tc : Thread nD τ).loc main_v12) = rowResult m ρ 2 slices_S8x2048_S1x2048_2_0 c
      ∧ r.2.mem ((c.tc : Thread nD τ).loc main_v15) = lossResult m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(h.1 c _ (mem_uc main_v5_1 (by decide))).trans (dy_left m ρ c),
      (h.1 c _ (mem_uc main_v6 (by decide))).trans (weight_left m ρ c),
      (h.1 c _ (mem_uc main_v5_2 (by decide))).trans (gx_left m ρ c),
      (h.1 c _ (mem_uc main_v8 (by decide))).trans (gate_left m ρ c),
      (h.1 c _ (mem_uc main_v10 (by decide))).trans (normWeight_left m ρ c),
      (h.1 c _ (mem_uc main_v12 (by decide))).trans (normBias_left m ρ c),
      (h.1 c _ (mem_uc main_v15 (by decide))).trans (loss_left m ρ c), h.2 c⟩)
    (θ_run_and (run_all m ρ) (unchanged m ρ))

end Cert.KernelIdeal.OutBlock

end
-- ==== Proof.OutBlockReference.lean ====
/-
  The reference of the block's end (program `ReferenceIdeal`), read at an index stage by stage: when the arguments hold real
  numbers every stage does, and the numbers are those of `NormMaths.Row`, one row of the arrays at a time. The derivative of
  the norm appears here through the chain rule, and `Row.gradResidual_eq` closes it.
-/
module

public import proofs.«01_k».proof.Proof.IdealWords
public import proofs.«01_k».proof.Proof.Gen.ReferenceIdeal.Read
public import Idealize.ShloMosaic.Lib.Pointwise
public import Idealize.ShloMosaic.Lib.Tactic

@[expose] public section

set_option maxRecDepth 16384

noncomputable section

open Idealize.ShloMosaic Idealize.ShloMosaic.TcCoe

namespace Cert.ReferenceIdeal.OutBlock

open Cert.ReferenceIdeal Cert.ReferenceIdeal.Read Cert.NormMaths

/-- The arguments hold the rows `R` (4096 of them). -/
structure Holds (x0 : FVec Ideal S4096x2048 .f32) (x1 : FVec Ideal S2048x2048 .f32) (x2 x3 : FVec Ideal S4096x2048 .f32)
    (x4 x5 x6 : FVec Ideal S2048 .f32) (R : Fin 4096 → Row) : Prop where
  y : ∀ r k, x0 (ix2 r k) = (((R r).y k : ℝ) : EReal)
  w : ∀ r k j, x1 (ix2 k j) = (((R r).w k j : ℝ) : EReal)
  x : ∀ r k, x2 (ix2 r k) = (((R r).x k : ℝ) : EReal)
  t : ∀ r k, x3 (ix2 r k) = (((R r).t k : ℝ) : EReal)
  g : ∀ r j, x4 (ix1 j) = (((R r).g j : ℝ) : EReal)
  lg : ∀ r j, x5 (ix1 j) = (((R r).lg j : ℝ) : EReal)
  lb : ∀ r j, x6 (ix1 j) = (((R r).lb j : ℝ) : EReal)

variable {x0 : FVec Ideal S4096x2048 .f32} {x1 : FVec Ideal S2048x2048 .f32} {x2 x3 : FVec Ideal S4096x2048 .f32}
  {x4 x5 x6 : FVec Ideal S2048 .f32} {R : Fin 4096 → Row}

theorem z_ref (H : Holds x0 x1 x2 x3 x4 x5 x6 R) (r : Fin 4096) (j : Fin 2048) :
    val_main_v2 (F := Ideal) x0 x1 (ix2 r j) = (((R r).z j : ℝ) : EReal) := by
  pointwise [val_main_v2]
  simp only [H.y, H.w r, ← EReal.coe_mul, ← EReal.coe_add, ← EReal.coe_sub, ← EReal.coe_neg, ← coe_sum, div_2048, Fin.sum_univ_one]
  rfl

theorem res_ref (H : Holds x0 x1 x2 x3 x4 x5 x6 R) (r : Fin 4096) (j : Fin 2048) :
    val_main_v6 (F := Ideal) x0 x1 x2 x4 (ix2 r j) = (((R r).res j : ℝ) : EReal) := by
  pointwise [val_main_v6, val_main_v1, val_main_v0, val_main_cst, val_main_v5, val_main_v4, val_main_v3]
  simp only [z_ref H, H.x, H.g r, word_α, ← EReal.coe_mul, ← EReal.coe_add, ← EReal.coe_sub, ← EReal.coe_neg, ← coe_sum, div_2048, Fin.sum_univ_one]
  rfl

theorem mean_ref (H : Holds x0 x1 x2 x3 x4 x5 x6 R) (r : Fin 4096) :
    val_main_v10 (F := Ideal) x0 x1 x2 x4 (ix2 r 0) = (((R r).mean : ℝ) : EReal) := by
  pointwise [val_main_v10, val_main_v9, val_main_cst_1, val_main_v8, val_main_v7, val_main_cst_0]
  simp only [res_ref H, word_2048, ← EReal.coe_mul, ← EReal.coe_add, ← EReal.coe_sub, ← EReal.coe_neg, ← coe_sum, div_2048, Fin.sum_univ_one]
  rfl

theorem cen_ref (H : Holds x0 x1 x2 x3 x4 x5 x6 R) (r : Fin 4096) (j : Fin 2048) :
    val_main_v12 (F := Ideal) x0 x1 x2 x4 (ix2 r j) = (((R r).cen j : ℝ) : EReal) := by
  pointwise [val_main_v12, val_main_v11]
  simp only [res_ref H, mean_ref H, ← EReal.coe_mul, ← EReal.coe_add, ← EReal.coe_sub, ← EReal.coe_neg, ← coe_sum, div_2048, Fin.sum_univ_one]
  rfl

theorem cen_ref' (H : Holds x0 x1 x2 x3 x4 x5 x6 R) (r : Fin 4096) (j : Fin 2048) :
    val_main_v21 (F := Ideal) x0 x1 x2 x4 (ix2 r j) = (((R r).cen j : ℝ) : EReal) := by
  pointwise [val_main_v21, val_main_v20]
  simp only [res_ref H, mean_ref H, ← EReal.coe_mul, ← EReal.coe_add, ← EReal.coe_sub, ← EReal.coe_neg, ← coe_sum, div_2048, Fin.sum_univ_one]
  rfl

theorem var_ref (H : Holds x0 x1 x2 x3 x4 x5 x6 R) (r : Fin 4096) :
    val_main_v23 (F := Ideal) x0 x1 x2 x4 (ix2 r 0) = (((R r).var : ℝ) : EReal) := by
  pointwise [val_main_v23, val_main_v22, val_main_cst_5, val_main_v19, val_main_v18, val_main_cst_4, val_main_v17, val_main_v16, val_main_cst_3, val_main_v13]
  simp only [cen_ref H, word_2048, word_ε, ← EReal.coe_mul, ← EReal.coe_add, ← EReal.coe_sub, ← EReal.coe_neg, ← coe_sum, div_2048, Fin.sum_univ_one]
  rfl

theorem s_ref (H : Holds x0 x1 x2 x3 x4 x5 x6 R) (r : Fin 4096) :
    val_main_v24 (F := Ideal) x0 x1 x2 x4 (ix2 r 0) = (((R r).s : ℝ) : EReal) := by
  pointwise [val_main_v24]
  simp only [var_ref H, ← EReal.coe_mul, ← EReal.coe_add, ← EReal.coe_sub, ← EReal.coe_neg, ← coe_sum, div_2048, Fin.sum_univ_one]
  exact rsqrt_pos (R r).var_pos

theorem ds_ref (H : Holds x0 x1 x2 x3 x4 x5 x6 R) (r : Fin 4096) :
    val_main_v27 (F := Ideal) x0 x1 x2 x4 (ix2 r 0) = ((-(1 / 2) * ((R r).s / (R r).var) : ℝ) : EReal) := by
  pointwise [val_main_v27, val_main_v26, val_main_cst_6, val_main_v25]
  simp only [s_ref H, var_ref H, word_neg_half, div_real (R _).var_pos.ne', ← EReal.coe_mul, ← EReal.coe_add, ← EReal.coe_sub, ← EReal.coe_neg, ← coe_sum, div_2048, Fin.sum_univ_one]

theorem n_ref (H : Holds x0 x1 x2 x3 x4 x5 x6 R) (r : Fin 4096) (j : Fin 2048) :
    val_main_v29 (F := Ideal) x0 x1 x2 x4 (ix2 r j) = (((R r).n j : ℝ) : EReal) := by
  pointwise [val_main_v29, val_main_v28]
  simp only [cen_ref' H, s_ref H, ← EReal.coe_mul, ← EReal.coe_add, ← EReal.coe_sub, ← EReal.coe_neg, ← coe_sum, div_2048, Fin.sum_univ_one]
  rfl

theorem err_ref (H : Holds x0 x1 x2 x3 x4 x5 x6 R) (r : Fin 4096) (j : Fin 2048) :
    val_main_v36 (F := Ideal) x0 x1 x2 x3 x4 x5 x6 (ix2 r j) = (((R r).err j : ℝ) : EReal) := by
  pointwise [val_main_v36, val_main_v35, val_main_v34, val_main_v33, val_main_v32, val_main_v31, val_main_v30]
  simp only [n_ref H, H.lg r, H.lb r, H.t, ← EReal.coe_mul, ← EReal.coe_add, ← EReal.coe_sub, ← EReal.coe_neg, ← coe_sum, div_2048, Fin.sum_univ_one]
  rfl

theorem dout_ref (H : Holds x0 x1 x2 x3 x4 x5 x6 R) (r : Fin 4096) (j : Fin 2048) :
    val_main_v50 (F := Ideal) x0 x1 x2 x3 x4 x5 x6 (ix2 r j) = (((R r).dout j : ℝ) : EReal) := by
  pointwise [val_main_v50, val_main_v49, val_main_v48, val_main_v47, val_main_cst_14, val_main_v46, val_main_v45, val_main_cst_12, val_main_cst_13, val_main_v39, val_main_v38, val_main_cst_7]
  simp only [err_ref H, word_half, word_one, word_two, word_2048, ← EReal.coe_mul, ← EReal.coe_add, ← EReal.coe_sub, ← EReal.coe_neg, ← coe_sum, div_2048, Fin.sum_univ_one]
  rw [Row.dout]; congr 1; ring

theorem dn_ref (H : Holds x0 x1 x2 x3 x4 x5 x6 R) (r : Fin 4096) (j : Fin 2048) :
    val_main_v58 (F := Ideal) x0 x1 x2 x3 x4 x5 x6 (ix2 r j) = (((R r).dn j : ℝ) : EReal) := by
  pointwise [val_main_v58, val_main_v57, val_main_v30]
  simp only [dout_ref H, H.lg r, ← EReal.coe_mul, ← EReal.coe_add, ← EReal.coe_sub, ← EReal.coe_neg, ← coe_sum, div_2048, Fin.sum_univ_one]
  rfl

theorem direct_ref (H : Holds x0 x1 x2 x3 x4 x5 x6 R) (r : Fin 4096) (j : Fin 2048) :
    val_main_v64 (F := Ideal) x0 x1 x2 x3 x4 x5 x6 (ix2 r j) = (((R r).dn j * (R r).s : ℝ) : EReal) := by
  pointwise [val_main_v64, val_main_v63]
  simp only [dn_ref H, s_ref H, ← EReal.coe_mul, ← EReal.coe_add, ← EReal.coe_sub, ← EReal.coe_neg, ← coe_sum, div_2048, Fin.sum_univ_one]

theorem dvar_ref (H : Holds x0 x1 x2 x3 x4 x5 x6 R) (r : Fin 4096) :
    val_main_v65 (F := Ideal) x0 x1 x2 x3 x4 x5 x6 (ix2 r 0) = (((R r).dvar : ℝ) : EReal) := by
  pointwise [val_main_v65, val_main_v62, val_main_v61, val_main_cst_19, val_main_v60]
  simp only [cen_ref' H, dn_ref H, ds_ref H, ← EReal.coe_mul, ← EReal.coe_add, ← EReal.coe_sub, ← EReal.coe_neg, ← coe_sum, div_2048, Fin.sum_univ_one]
  rfl

theorem viaVar_ref (H : Holds x0 x1 x2 x3 x4 x5 x6 R) (r : Fin 4096) (j : Fin 2048) :
    val_main_v73 (F := Ideal) x0 x1 x2 x3 x4 x5 x6 (ix2 r j) = (((R r).viaVar j : ℝ) : EReal) := by
  pointwise [val_main_v73, val_main_v72, val_main_v71, val_main_cst_22, val_main_v70, val_main_v69, val_main_cst_21, val_main_v15, val_main_v14, val_main_cst_2]
  simp only [dvar_ref H, cen_ref H, word_2048, word_two, ← EReal.coe_mul, ← EReal.coe_add, ← EReal.coe_sub, ← EReal.coe_neg, ← coe_sum, div_2048, Fin.sum_univ_one]
  rfl

/-- The gradient at the residual sum. -/
theorem dres_ref (H : Holds x0 x1 x2 x3 x4 x5 x6 R) (r : Fin 4096) (j : Fin 2048) :
    val_main_v83 (F := Ideal) x0 x1 x2 x3 x4 x5 x6 (ix2 r j) = (((R r).dres j : ℝ) : EReal) := by
  pointwise [val_main_v83, val_main_v82, val_main_v81, val_main_cst_25, val_main_v80, val_main_v79, val_main_cst_24, val_main_v78, val_main_v76, val_main_v75, val_main_cst_23, val_main_v74, val_main_v68, val_main_v67, val_main_cst_20, val_main_v66, val_main_v77]
  simp only [direct_ref H, viaVar_ref H, word_2048, Finset.sum_neg_distrib, ← EReal.coe_mul, ← EReal.coe_add, ← EReal.coe_sub, ← EReal.coe_neg, ← coe_sum, div_2048, Fin.sum_univ_one]
  exact congrArg _ ((R r).gradResidual_eq j)

theorem dz_ref (H : Holds x0 x1 x2 x3 x4 x5 x6 R) (r : Fin 4096) (j : Fin 2048) :
    val_main_v85 (F := Ideal) x0 x1 x2 x3 x4 x5 x6 (ix2 r j) = (((R r).dz j : ℝ) : EReal) := by
  pointwise [val_main_v85, val_main_v84, val_main_v3]
  simp only [dres_ref H, H.g r, ← EReal.coe_mul, ← EReal.coe_add, ← EReal.coe_sub, ← EReal.coe_neg, ← coe_sum, div_2048, Fin.sum_univ_one]
  rw [mul_comm]; rfl

/-- The results: the gradients at the heads and at the input, -/
theorem dy_ref (H : Holds x0 x1 x2 x3 x4 x5 x6 R) (r : Fin 4096) (j : Fin 2048) :
    val_main_v92 (F := Ideal) x0 x1 x2 x3 x4 x5 x6 (ix2 r j) = (((R r).dy j : ℝ) : EReal) := by
  pointwise [val_main_v92]
  simp only [dz_ref H, H.w r, ← EReal.coe_mul, ← EReal.coe_add, ← EReal.coe_sub, ← EReal.coe_neg, ← coe_sum, div_2048, Fin.sum_univ_one]
  rfl

theorem gx_ref (H : Holds x0 x1 x2 x3 x4 x5 x6 R) (r : Fin 4096) (j : Fin 2048) :
    val_main_v94 (F := Ideal) x0 x1 x2 x3 x4 x5 x6 (ix2 r j) = (((R r).gx j : ℝ) : EReal) := by
  pointwise [val_main_v94, val_main_v93, val_main_cst_28]
  simp only [dres_ref H, word_α, ← EReal.coe_mul, ← EReal.coe_add, ← EReal.coe_sub, ← EReal.coe_neg, ← coe_sum, div_2048, Fin.sum_univ_one]
  rfl

/-- of the output weight, -/
theorem outWeight_ref (H : Holds x0 x1 x2 x3 x4 x5 x6 R) (k j : Fin 2048) :
    val_main_v91 (F := Ideal) x0 x1 x2 x3 x4 x5 x6 (ix2 k j) = ∑ r, (((R r).y k * (R r).dz j : ℝ) : EReal) := by
  pointwise [val_main_v91, val_main_v90]
  simp only [H.y, dz_ref H, ← EReal.coe_mul, ← EReal.coe_add, ← EReal.coe_sub, ← EReal.coe_neg, ← coe_sum, div_2048, Fin.sum_univ_one]
  simp only [mul_comm]

/-- of the gate, of the norm's weight and bias, -/
theorem gate_ref (H : Holds x0 x1 x2 x3 x4 x5 x6 R) (j : Fin 2048) :
    val_main_v89 (F := Ideal) x0 x1 x2 x3 x4 x5 x6 (ix1 j) = ∑ r, (((R r).dres j * (R r).z j : ℝ) : EReal) := by
  pointwise [val_main_v89, val_main_cst_27, val_main_v88, val_main_v87, val_main_cst_26, val_main_v86]
  simp only [dres_ref H, z_ref H, ← EReal.coe_mul, ← EReal.coe_add, ← EReal.coe_sub, ← EReal.coe_neg, ← coe_sum, div_2048, Fin.sum_univ_one]

theorem weight_ref (H : Holds x0 x1 x2 x3 x4 x5 x6 R) (j : Fin 2048) :
    val_main_v59 (F := Ideal) x0 x1 x2 x3 x4 x5 x6 (ix1 j) = ∑ r, (((R r).dout j * (R r).n j : ℝ) : EReal) := by
  pointwise [val_main_v59, val_main_cst_18, val_main_v56, val_main_v55, val_main_cst_17, val_main_v54]
  simp only [dout_ref H, n_ref H, ← EReal.coe_mul, ← EReal.coe_add, ← EReal.coe_sub, ← EReal.coe_neg, ← coe_sum, div_2048, Fin.sum_univ_one]
  simp only [mul_comm]

theorem bias_ref (H : Holds x0 x1 x2 x3 x4 x5 x6 R) (j : Fin 2048) :
    val_main_v53 (F := Ideal) x0 x1 x2 x3 x4 x5 x6 (ix1 j) = ∑ r, (((R r).dout j : ℝ) : EReal) := by
  pointwise [val_main_v53, val_main_cst_16, val_main_v52, val_main_v51, val_main_cst_15]
  simp only [dout_ref H, ← EReal.coe_mul, ← EReal.coe_add, ← EReal.coe_sub, ← EReal.coe_neg, ← coe_sum, div_2048, Fin.sum_univ_one]

/-- and the loss. -/
theorem loss_ref (H : Holds x0 x1 x2 x3 x4 x5 x6 R) :
    val_main_v44 (F := Ideal) x0 x1 x2 x3 x4 x5 x6 ix0 = ((1 / 2 * ∑ r, (∑ j, (R r).err j * (R r).err j) / 2048 : ℝ) : EReal) := by
  pointwise [val_main_v44, val_main_cst_11, val_main_v43, val_main_cst_10, val_main_v42, val_main_v41, val_main_cst_9, val_main_v40, val_main_cst_8, val_main_v37]
  simp only [err_ref H, word_half, word_2048, ← EReal.coe_mul, ← EReal.coe_add, ← EReal.coe_sub, ← EReal.coe_neg, ← coe_sum, div_2048, Fin.sum_univ_one]

end Cert.ReferenceIdeal.OutBlock

end
-- ==== Proof.FiniteArgs.lean ====
/-
  What the precondition says: an array whose entries all have an absolute value below infinity holds real numbers.
-/
module

public import proofs.«01_k».proof.Proof.NormMaths
public import proofs.«01_k».proof.Defs
public import Idealize.ShloMosaic.Lib.ReduceAll
public import Idealize.ShloMosaic.Lib.IdealHost
public import Idealize.ShloMosaic.Lib.Tactic
public import Idealize.ShloMosaic.Lib.Affine

@[expose] public section

set_option maxRecDepth 16384

noncomputable section

open Idealize.ShloMosaic Idealize.ShloMosaic.TcCoe

namespace Cert.FiniteArgs

theorem word_infinity : Ideal.ofBits .f32 0x7F800000#32 = ⊤ := by
  simp [Ideal.ofBits, Ideal.ieee]

/-- A number whose absolute value is below infinity is a real number. -/
theorem real_of_abs_lt (a : EReal) (h : max a (-a) < ⊤) : a = ((a.toReal : ℝ) : EReal) := by
  induction a using EReal.rec with
  | bot => simp at h
  | top => simp at h
  | coe r => rfl

instance : Subsingleton Cert.Pre_finite.S_.Idx := ⟨fun a b => funext fun x => x.elim0⟩

/-- One array's test, passed: every entry is a real number. -/
theorem entries_real {s : Shape} {axes : List (Fin s.rank)} (bc : (⟨0, ![]⟩ : Shape).BroadcastsInDim s ![])
    (red : s.ReducesTo axes Cert.Pre_finite.S_) (h0 : 0 < Cert.Pre_finite.S_.numel) (a : FVec Ideal s .f32)
    (h : Host.reduce IntOp.andi (cmpf .olt (Host.absf a) (broadcastInDim s ![] bc (constant Cert.Pre_finite.S_ .f32 0x7F800000#32)))
      (constantI Cert.Pre_finite.S_ 1 1#1) red h0 (Shape.Idx.first h0) = 1#1) (i : s.Idx) :
    a i = (((a i).toReal : ℝ) : EReal) := by
  have h1 := Host.reduce_andi_all _ _ red h0 _ h i
  apply real_of_abs_lt
  have h2 : Ideal.cmp .olt (max (a i) (-(a i))) (Ideal.ofBits .f32 0x7F800000#32) = 1#1 := h1
  rw [word_infinity] at h2
  by_contra hc
  have h3 : Ideal.cmp .olt (max (a i) (-(a i))) ⊤ = BitVec.ofBool (decide (max (a i) (-(a i)) < ⊤)) := rfl
  rw [h3, decide_eq_false hc] at h2
  exact absurd h2 (by decide)

instance finite_facts : Cert.Pre_finite.Facts where
  bcast_S_S4096x2048 := by decide
  reducesTo_S4096x2048_S_d0_1 := by decide
  h_S_ := by decide
  bcast_S_S2048x2048 := by decide
  reducesTo_S2048x2048_S_d0_1 := by decide
  bcast_S_S2048 := by decide
  reducesTo_S2048_S_d0 := by decide

/-- The precondition of the block's end: all seven arrays hold real numbers. -/
theorem finite_entries (a0 : FVec Ideal Cert.Pre_finite.S4096x2048 .f32) (a1 : FVec Ideal Cert.Pre_finite.S2048x2048 .f32)
    (a2 a3 : FVec Ideal Cert.Pre_finite.S4096x2048 .f32) (a4 a5 a6 : FVec Ideal Cert.Pre_finite.S2048 .f32)
    (h : Cert.Pre_finite.fn (F := Ideal) a0 a1 a2 a3 a4 a5 a6 = fun _ => 1#1) :
    (∀ i, a0 i = (((a0 i).toReal : ℝ) : EReal)) ∧ (∀ i, a1 i = (((a1 i).toReal : ℝ) : EReal))
      ∧ (∀ i, a2 i = (((a2 i).toReal : ℝ) : EReal)) ∧ (∀ i, a3 i = (((a3 i).toReal : ℝ) : EReal))
      ∧ (∀ i, a4 i = (((a4 i).toReal : ℝ) : EReal)) ∧ (∀ i, a5 i = (((a5 i).toReal : ℝ) : EReal))
      ∧ (∀ i, a6 i = (((a6 i).toReal : ℝ) : EReal)) := by
  have e := congrFun h (Shape.Idx.first Cert.Pre_finite.Facts.h_S_)
  dsimp only [Cert.Pre_finite.fn, Cert.Pre_finite.fn_part1, andi] at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨entries_real _ _ _ a0 e0, entries_real _ _ _ a1 e1, entries_real _ _ _ a2 e2, entries_real _ _ _ a3 e3,
    entries_real _ _ _ a4 e4, entries_real _ _ _ a5 e5, entries_real _ _ _ a6 e6⟩

end Cert.FiniteArgs

end
-- ==== Proof.OutBlock.lean ====
/-
  The claim about the block's end and the output weight's gradient: over the extended reals, when the arguments hold real
  numbers, the kernel's seven results are the reference's. Both are read as the numbers of `NormMaths.Row`.
-/
module

public import proofs.«01_k».proof.Proof.OutBlockRun
public import proofs.«01_k».proof.Proof.OutBlockReference
public import proofs.«01_k».proof.Proof.FiniteArgs

@[expose] public section

set_option maxRecDepth 16384

noncomputable section

open Idealize.ShloMosaic Idealize.ShloMosaic.TcCoe Idealize.SL.Sem

namespace Cert.KernelIdeal.OutBlock

open Cert.KernelIdeal Cert.KernelIdeal.Gen Cert.NormMaths

variable (m : (ℓ : Loc nD τ sig) → Buf (Elt Ideal) ℓ) (ρ : Dev nD → PrngReg)

/-- The arguments' rows, as real numbers. -/
def rows (c : Dev nD) (r : Fin 4096) : Row where
  y k := (argY m c (ix2 r k)).toReal
  x k := (argX m c (ix2 r k)).toReal
  t k := (argT m c (ix2 r k)).toReal
  w k j := (argW m c (ix2 k j)).toReal
  g j := (argG m c (ix1 j)).toReal
  lg j := (argLg m c (ix1 j)).toReal
  lb j := (argLb m c (ix1 j)).toReal

/-- Under the precondition the calls find those rows, -/
theorem entry (hpre : Cert.Pre_KernelIdeal_finite m) (c : Dev nD) : Entry (V1 m ρ) c (rows m c) := by
  obtain ⟨e0, e1, e2, e3, e4, e5, e6⟩ := Cert.FiniteArgs.finite_entries _ _ _ _ _ _ _ (hpre c)
  exact
    { y := fun r k => (y_apply m ρ c r k).trans (e0 (ix2 r k))
      w := fun r k j => (w_apply m ρ c k j).trans (e1 (ix2 k j))
      x := fun r k => (congrFun (x_eq m ρ c) (ix2 r k)).trans (e2 (ix2 r k))
      t := fun r k => (congrFun (t_eq m ρ c) (ix2 r k)).trans (e3 (ix2 r k))
      g := fun r j => (stack_gate m ρ c j).trans (e4 (ix1 j))
      lg := fun r j => (stack_weight m ρ c j).trans (e5 (ix1 j))
      lb := fun r j => (stack_bias m ρ c j).trans (e6 (ix1 j)) }

/-- and so does the reference, from the same arguments. -/
theorem reference (hpre : Cert.Pre_KernelIdeal_finite m) (c : Dev nD) :
    Cert.ReferenceIdeal.OutBlock.Holds (argY m c) (argW m c) (argX m c) (argT m c) (argG m c) (argLg m c) (argLb m c) (rows m c) := by
  obtain ⟨e0, e1, e2, e3, e4, e5, e6⟩ := Cert.FiniteArgs.finite_entries _ _ _ _ _ _ _ (hpre c)
  exact
    { y := fun r k => e0 (ix2 r k)
      w := fun r k j => e1 (ix2 k j)
      x := fun r k => e2 (ix2 r k)
      t := fun r k => e3 (ix2 r k)
      g := fun r j => e4 (ix1 j)
      lg := fun r j => e5 (ix1 j)
      lb := fun r j => e6 (ix1 j) }

/-- The entry of the weight's gradient. -/
theorem weight_apply (hpre : Cert.Pre_KernelIdeal_finite m) (c : Dev nD) (k j : Fin 2048) :
    OutWeight.product (V2 m ρ) c (ix2 k j) = ∑ r, (((rows m c r).y k * (rows m c r).dz j : ℝ) : EReal) := by
  unfold OutWeight.product
  refine Finset.sum_congr rfl fun r _ => ?_
  rw [operand_y, operand_dz, dz_final (entry m ρ hpre c), EReal.coe_mul]
  exact congrArg (· * _) ((entry m ρ hpre c).y r k)

/-- The loss: the kernel sums over the rows first and over the columns on the host; the reference the other way round. -/
theorem loss_sum (R : Fin 4096 → Row) :
    ∑ j : Fin 2048, ∑ r, ((1 / 4096 * ((R r).err j * (R r).err j) : ℝ) : EReal)
      = ((1 / 2 * ∑ r, (∑ j, (R r).err j * (R r).err j) / 2048 : ℝ) : EReal) := by
  simp only [← coe_sum]
  refine congrArg _ ?_
  rw [Finset.sum_comm, Finset.mul_sum]
  refine Finset.sum_congr rfl fun r _ => ?_
  rw [← Finset.mul_sum]
  ring

/-! ## The seven results -/

theorem dy_agrees (hpre : Cert.Pre_KernelIdeal_finite m) (c : Dev nD) :
    Cert.ReferenceIdeal.Read.val_main_v92 (F := Ideal) (argY m c) (argW m c) (argX m c) (argT m c) (argG m c) (argLg m c) (argLb m c)
      = (dat0 (V1 m ρ) c).arrAt 6 cfg0.N := by
  rw [dy_final (entry m ρ hpre c)]
  funext i
  obtain ⟨r, j, rfl⟩ : ∃ (r : Fin 4096) (j : Fin 2048), i = ix2 r j := ⟨i 0, i 1, eq_ix2 i⟩
  exact Cert.ReferenceIdeal.OutBlock.dy_ref (reference m hpre c) r j

theorem gx_agrees (hpre : Cert.Pre_KernelIdeal_finite m) (c : Dev nD) :
    Cert.ReferenceIdeal.Read.val_main_v94 (F := Ideal) (argY m c) (argW m c) (argX m c) (argT m c) (argG m c) (argLg m c) (argLb m c)
      = (dat0 (V1 m ρ) c).arrAt 7 cfg0.N := by
  rw [gx_final (entry m ρ hpre c)]
  funext i
  obtain ⟨r, j, rfl⟩ : ∃ (r : Fin 4096) (j : Fin 2048), i = ix2 r j := ⟨i 0, i 1, eq_ix2 i⟩
  exact Cert.ReferenceIdeal.OutBlock.gx_ref (reference m hpre c) r j

theorem weight_agrees (hpre : Cert.Pre_KernelIdeal_finite m) (c : Dev nD) :
    Cert.ReferenceIdeal.Read.val_main_v91 (F := Ideal) (argY m c) (argW m c) (argX m c) (argT m c) (argG m c) (argLg m c) (argLb m c)
      = OutWeight.product (V2 m ρ) c := by
  funext i
  obtain ⟨r, j, rfl⟩ : ∃ (r : Fin 2048) (j : Fin 2048), i = ix2 r j := ⟨i 0, i 1, eq_ix2 i⟩
  exact (Cert.ReferenceIdeal.OutBlock.outWeight_ref (reference m hpre c) r j).trans (weight_apply m ρ hpre c r j).symm

theorem gate_agrees (hpre : Cert.Pre_KernelIdeal_finite m) (c : Dev nD) :
    Cert.ReferenceIdeal.Read.val_main_v89 (F := Ideal) (argY m c) (argW m c) (argX m c) (argT m c) (argG m c) (argLg m c) (argLb m c)
      = rowResult m ρ 0 slices_S8x2048_S1x2048_0_0 c := by
  funext i
  obtain ⟨j, rfl⟩ : ∃ j : Fin 2048, i = ix1 j := ⟨i 0, eq_ix1 i⟩
  exact (Cert.ReferenceIdeal.OutBlock.gate_ref (reference m hpre c) j).trans
    ((row0_apply m ρ c j).trans (sums_gate (entry m ρ hpre c) j)).symm

theorem normWeight_agrees (hpre : Cert.Pre_KernelIdeal_finite m) (c : Dev nD) :
    Cert.ReferenceIdeal.Read.val_main_v59 (F := Ideal) (argY m c) (argW m c) (argX m c) (argT m c) (argG m c) (argLg m c) (argLb m c)
      = rowResult m ρ 1 slices_S8x2048_S1x2048_1_0 c := by
  funext i
  obtain ⟨j, rfl⟩ : ∃ j : Fin 2048, i = ix1 j := ⟨i 0, eq_ix1 i⟩
  exact (Cert.ReferenceIdeal.OutBlock.weight_ref (reference m hpre c) j).trans
    ((row1_apply m ρ c j).trans (sums_weight (entry m ρ hpre c) j)).symm

theorem normBias_agrees (hpre : Cert.Pre_KernelIdeal_finite m) (c : Dev nD) :
    Cert.ReferenceIdeal.Read.val_main_v53 (F := Ideal) (argY m c) (argW m c) (argX m c) (argT m c) (argG m c) (argLg m c) (argLb m c)
      = rowResult m ρ 2 slices_S8x2048_S1x2048_2_0 c := by
  funext i
  obtain ⟨j, rfl⟩ : ∃ j : Fin 2048, i = ix1 j := ⟨i 0, eq_ix1 i⟩
  exact (Cert.ReferenceIdeal.OutBlock.bias_ref (reference m hpre c) j).trans
    ((row2_apply m ρ c j).trans (sums_bias (entry m ρ hpre c) j)).symm

theorem loss_agrees (hpre : Cert.Pre_KernelIdeal_finite m) (c : Dev nD) :
    Cert.ReferenceIdeal.Read.val_main_v44 (F := Ideal) (argY m c) (argW m c) (argX m c) (argT m c) (argG m c) (argLg m c) (argLb m c)
      = lossResult m ρ c := by
  funext i
  obtain rfl : i = ix0 := funext fun d => d.elim0
  refine (Cert.ReferenceIdeal.OutBlock.loss_ref (reference m hpre c)).trans ?_
  rw [loss_apply, ← loss_sum]
  exact Finset.sum_congr rfl fun j _ => (sums_loss (entry m ρ hpre c) j).symm

end Cert.KernelIdeal.OutBlock

open Cert.KernelIdeal.OutBlock Cert.ReferenceIdeal.Read in
/-- The claim. -/
theorem Cert.OutBlock.algebraic : Cert.algebraic_KernelIdeal_ReferenceIdeal_pre_finite := by
  intro m g m' g' hpre hargs
  refine ⟨fun c => _, fun c => _, fun c => _, fun c => _, fun c => _, fun c => _, fun c => _, Cert.KernelIdeal.OutBlock.run m g, ?_⟩
  refine (θ_run _ _ _).mono (fun r h c => ?_) (Cert.ReferenceIdeal.Value.run (F := Ideal) m' g')
  obtain ⟨e92, e91, e94, e89, e59, e53, e44, kept⟩ := h c
  obtain ⟨a0, a1, a2, a3, a4, a5, a6⟩ := hargs c
  refine ⟨e92.trans ((val_main_v92_eq m' c).trans ?_), e91.trans ((val_main_v91_eq m' c).trans ?_),
    e94.trans ((val_main_v94_eq m' c).trans ?_), e89.trans ((val_main_v89_eq m' c).trans ?_),
    e59.trans ((val_main_v59_eq m' c).trans ?_), e53.trans ((val_main_v53_eq m' c).trans ?_),
    e44.trans ((val_main_v44_eq m' c).trans ?_), kept⟩
  all_goals rw [a0, a1, a2, a3, a4, a5, a6]
  · exact dy_agrees m g hpre c
  · exact weight_agrees m g hpre c
  · exact gx_agrees m g hpre c
  · exact gate_agrees m g hpre c
  · exact normWeight_agrees m g hpre c
  · exact normBias_agrees m g hpre c
  · exact loss_agrees m g hpre c

end
-- ==== Proof.InWeightBody.lean ====
/-
  The kernel of the gradient of the input projection's weight, one grid point at a time (program `Kernel2Ideal`).

  The grid is 9 blocks of 1152 output rows by 4 blocks of 1088 summed rows. At the first of the four the output block is
  set to zero; at each of the four the product of the transposed block of `du` and the block of `h` is added; after the
  last the sum is also stored as bf16. This module reads what a point leaves as values.
-/
module

public import proofs.«01_k».proof.Proof.Gen.Kernel2Ideal.Frame
public import Idealize.ShloMosaic.Lib.Pipeline.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel2Ideal.InWeight

open Cert.Kernel2Ideal Cert.Kernel2Ideal.Gen

variable {F : FTy → Type} [FloatOps F]

theorem off0 : (![0, 0] : Fin 2 → Nat) = fun _ => 0 := funext fun a => by fin_cases a <;> rfl

/-- At the first summed block: zero, plus the product of the blocks. -/
theorem first (c : Dev nD) (i : grid0.Coords) (a2 : Memref sig .tc .vmem S1088x1152 .bf16) (h2 : a2.IsWhole)
    (a3 : Memref sig .tc .vmem S1088x2048 .bf16) (h3 : a3.IsWhole) (a4 : Memref sig .tc .vmem S1152x2048 .f32) (h4 : a4.IsWhole)
    (a5 : Memref sig .tc .vmem S1152x2048 .bf16) (h5 : a5.IsWhole) (hc0 : cond0_0 i) (hc1 : ¬cond0_1 i)
    (x0 : Vec F S1088x1152 .bf16) (x1 : Vec F S1088x2048 .bf16) :
    out0_A_2 c i a2 h2 a3 h3 a4 h4 a5 h5 hc0 hc1 x0 x1 = k0_pay2 (k0_pay1 (F := F)) x0 x1 := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S1152x2048) off0, View.readCov_unit_zero (S := S1152x2048) _ off0]
  simp only [View.readAt_eq_ld, h2.read_unread, h3.read_unread, View.ld_unit_zero (S := S1088x1152) off0, View.ld_unit_zero (S := S1088x2048) off0]

/-- At a middle block: what was there, plus the product. -/
theorem middle (c : Dev nD) (i : grid0.Coords) (a2 : Memref sig .tc .vmem S1088x1152 .bf16) (h2 : a2.IsWhole)
    (a3 : Memref sig .tc .vmem S1088x2048 .bf16) (h3 : a3.IsWhole) (a4 : Memref sig .tc .vmem S1152x2048 .f32) (h4 : a4.IsWhole)
    (a5 : Memref sig .tc .vmem S1152x2048 .bf16) (h5 : a5.IsWhole) (hc0 : ¬cond0_0 i) (hc1 : ¬cond0_1 i)
    (x0 : Vec F S1088x1152 .bf16) (x1 : Vec F S1088x2048 .bf16) (xo : Vec F S1152x2048 .f32) :
    out0_B_2 c i a2 h2 a3 h3 a4 h4 a5 h5 hc0 hc1 x0 x1 xo = k0_pay2 xo x0 x1 := by
  unfold out0_B_2
  rw [View.read_writes_eq_canon _ _ _ (cover0_B_2 c i a2 h2 a3 h3 a4 h4 a5 h5 hc0 hc1 x0 x1 xo)]
  unfold kernelRun0_B
  dsimp only
  sl_unfold_words
  rw [View.canon_unit_zero (S := S1152x2048) off0]
  simp only [View.readAt_eq_ld, h2.read_unread, h3.read_unread, h4.read_unread, View.ld_unit_zero (S := S1088x1152) off0,
    View.ld_unit_zero (S := S1088x2048) off0, View.ld_unit_zero (S := S1152x2048) off0]

/-- At the last block: the same, -/
theorem last (c : Dev nD) (i : grid0.Coords) (a2 : Memref sig .tc .vmem S1088x1152 .bf16) (h2 : a2.IsWhole)
    (a3 : Memref sig .tc .vmem S1088x2048 .bf16) (h3 : a3.IsWhole) (a4 : Memref sig .tc .vmem S1152x2048 .f32) (h4 : a4.IsWhole)
    (a5 : Memref sig .tc .vmem S1152x2048 .bf16) (h5 : a5.IsWhole) (hc0 : ¬cond0_0 i) (hc1 : cond0_1 i)
    (x0 : Vec F S1088x1152 .bf16) (x1 : Vec F S1088x2048 .bf16) (xo : Vec F S1152x2048 .f32) :
    out0_C_2 c i a2 h2 a3 h3 a4 h4 a5 h5 hc0 hc1 x0 x1 xo = k0_pay2 xo x0 x1 := by
  unfold out0_C_2
  rw [View.read_writes_eq_canon _ _ _ (cover0_C_2 c i a2 h2 a3 h3 a4 h4 a5 h5 hc0 hc1 x0 x1 xo)]
  unfold kernelRun0_C
  dsimp only
  sl_unfold_words
  rw [View.canon_unit_zero (S := S1152x2048) off0]
  simp only [View.readAt_eq_ld, h2.read_unread, h3.read_unread, h4.read_unread, View.ld_unit_zero (S := S1088x1152) off0,
    View.ld_unit_zero (S := S1088x2048) off0, View.ld_unit_zero (S := S1152x2048) off0]

/-- and the same rounded into the bf16 copy. -/
theorem last_cast (c : Dev nD) (i : grid0.Coords) (a2 : Memref sig .tc .vmem S1088x1152 .bf16) (h2 : a2.IsWhole)
    (a3 : Memref sig .tc .vmem S1088x2048 .bf16) (h3 : a3.IsWhole) (a4 : Memref sig .tc .vmem S1152x2048 .f32) (h4 : a4.IsWhole)
    (a5 : Memref sig .tc .vmem S1152x2048 .bf16) (h5 : a5.IsWhole) (hc0 : ¬cond0_0 i) (hc1 : cond0_1 i)
    (x0 : Vec F S1088x1152 .bf16) (x1 : Vec F S1088x2048 .bf16) (xo : Vec F S1152x2048 .f32) :
    out0_C_3 c i a2 h2 a3 h3 a4 h4 a5 h5 hc0 hc1 x0 x1 xo = k0_pay3 (k0_pay2 xo x0 x1) := by
  unfold out0_C_3
  rw [View.read_writes_eq_canon _ _ _ (cover0_C_3 c i a2 h2 a3 h3 a4 h4 a5 h5 hc0 hc1 x0 x1 xo)]
  unfold kernelRun0_C
  dsimp only
  sl_unfold_words
  rw [View.canon_unit_zero (S := S1152x2048) off0, View.readCov_unit_zero (S := S1152x2048) _ off0]
  simp only [View.readAt_eq_ld, h2.read_unread, h3.read_unread, h4.read_unread, View.ld_unit_zero (S := S1088x1152) off0,
    View.ld_unit_zero (S := S1088x2048) off0, View.ld_unit_zero (S := S1152x2048) off0]

/-! ## Over the extended reals -/

theorem pay1_apply (r : Fin 1152) (l : Fin 2048) : k0_pay1 (F := Ideal) (ix2 r l) = 0 := by
  pointwise [k0_pay1]

theorem pay2_apply (v : Vec Ideal S1152x2048 .f32) (x : Vec Ideal S1088x1152 .bf16) (y : Vec Ideal S1088x2048 .bf16)
    (r : Fin 1152) (l : Fin 2048) :
    k0_pay2 v x y (ix2 r l) = v (ix2 r l) + ∑ k : Fin 1088, x (ix2 k r) * y (ix2 k l) := by
  pointwise [k0_pay2]

theorem pay3_apply (v : Vec Ideal S1152x2048 .f32) (r : Fin 1152) (l : Fin 2048) :
    k0_pay3 v (ix2 r l) = v (ix2 r l) := by
  pointwise [k0_pay3]

/-! ## The blocks of the two operands -/

variable (m : (ℓ : Loc nD τ sig) → Buf (Elt F) ℓ)

theorem index0 : ∀ t : Fin grid0.N, win0_0.index t 0 = t.val % 4 ∧ win0_0.index t 1 = t.val / 4 := by decide +kernel
theorem index1 : ∀ t : Fin grid0.N, win0_1.index t 0 = t.val % 4 ∧ win0_1.index t 1 = 0 := by decide +kernel
theorem index2 : ∀ t : Fin grid0.N, win0_2.index t 0 = t.val / 4 ∧ win0_2.index t 1 = 0 := by decide +kernel
theorem index3 : ∀ t : Fin grid0.N, win0_3.index t 0 = t.val / 4 ∧ win0_3.index t 1 = 0 := by decide +kernel

theorem point_lt (t : Fin cfg0.N) : t.val < 36 := lt_of_lt_of_eq t.isLt (show cfg0.N = 36 from N_0)

/-- The block of `du` at point `t`: rows from `1088 (t % 4)`, columns from `1152 (t / 4)`. -/
theorem block0 (c : Dev nD) (t : Fin cfg0.N) (r : Fin 1088) (l : Fin 1152) :
    iblk m c 0 t (ix2 r l)
      = V m c main_v4 (ix2 ⟨t.val % 4 * 1088 + r.val, by omega⟩ ⟨t.val / 4 * 1152 + l.val, by have := point_lt t; omega⟩) := by
  unfold iblk
  rw [View.read_apply]
  show V m c main_v4 _ = V m c main_v4 _
  congr 1
  funext a
  apply Fin.ext
  match a with
  | ⟨0, _⟩ => show win0_0.index t 0 * 1088 + 1 * r.val = t.val % 4 * 1088 + r.val; rw [(index0 t).1]; omega
  | ⟨1, _⟩ => show win0_0.index t 1 * 1152 + 1 * l.val = t.val / 4 * 1152 + l.val; rw [(index0 t).2]; omega

/-- The block of `h` at point `t`: rows from `1088 (t % 4)`. -/
theorem block1 (c : Dev nD) (t : Fin cfg0.N) (r : Fin 1088) (l : Fin 2048) :
    iblk m c 1 t (ix2 r l) = V m c main_v1 (ix2 ⟨t.val % 4 * 1088 + r.val, by omega⟩ l) := by
  unfold iblk
  rw [View.read_apply]
  show V m c main_v1 _ = V m c main_v1 _
  congr 1
  funext a
  apply Fin.ext
  match a with
  | ⟨0, _⟩ => show win0_1.index t 0 * 1088 + 1 * r.val = t.val % 4 * 1088 + r.val; rw [(index1 t).1]; omega
  | ⟨1, _⟩ => show win0_1.index t 1 * 2048 + 1 * l.val = l.val; rw [(index1 t).2]; omega

end Cert.Kernel2Ideal.InWeight

end
-- ==== Proof.InWeightSum.lean ====
/-
  The gradient of the input projection's weight: what the two result arrays of the kernel hold after the last grid point.
  After the `q`-th of the four row blocks the output block holds the sum over the rows up to there; after the fourth, over all.
-/
module

public import proofs.«01_k».proof.Proof.InWeightBody
public import proofs.«01_k».proof.Proof.BlockedSum

@[expose] public section

set_option maxRecDepth 16384

noncomputable section

open Idealize.ShloMosaic Idealize.ShloMosaic.TcCoe Idealize.SL.Sem
open Idealize.ShloMosaic.Pipeline (Dat)

namespace Cert.Kernel2Ideal.InWeight

open Cert.Kernel2Ideal Cert.Kernel2Ideal.Gen

variable (m : (ℓ : Loc nD τ sig) → Buf (Elt Ideal) ℓ)

/-- The two operands as the region finds them. -/
def du (c : Dev nD) : FVec Ideal S4352x10368 .bf16 := V m c main_v4
def h (c : Dev nD) : FVec Ideal S4352x2048 .bf16 := V m c main_v1

/-- The term of row `r` in the entry at output row `a`, column `b`; zero outside the arrays. -/
def term (c : Dev nD) (a : ℕ) (b : Fin 2048) (r : ℕ) : EReal :=
  if hr : r < 4352 ∧ a < 10368 then du m c (ix2 ⟨r, hr.1⟩ ⟨a, hr.2⟩) * h m c (ix2 ⟨r, hr.1⟩ b) else 0

/-- The blocks the windows hand over at point `t`. -/
def duBlock (c : Dev nD) (t : Fin cfg0.N) : Vec Ideal S1088x1152 .bf16 := iblk m c 0 t
def hBlock (c : Dev nD) (t : Fin cfg0.N) : Vec Ideal S1088x2048 .bf16 := iblk m c 1 t

/-- The product of the two blocks at point `t`, at an index: the terms of the block's rows. -/
theorem block_sum (c : Dev nD) (t : Fin cfg0.N) (i : Fin 1152) (j : Fin 2048) :
    ∑ k : Fin 1088, duBlock m c t (ix2 k i) * hBlock m c t (ix2 k j)
      = ∑ k : Fin 1088, term m c (t.val / 4 * 1152 + i.val) j (t.val % 4 * 1088 + k.val) := by
  have ht := point_lt t
  refine Finset.sum_congr rfl fun k _ => ?_
  rw [term, dif_pos ⟨by omega, by omega⟩]
  exact congrArg₂ (· * ·) (block0 m c t k i) (block1 m c t k j)

/-- After point `n` the output block holds the sum over the rows up to the end of that point's row block. -/
theorem accumulated (c : Dev nD) : ∀ (n : ℕ) (hn : n < cfg0.N) (i : Fin 1152) (j : Fin 2048),
    (outsAt0 m c n hn).1 (ix2 i j) = ∑ r ∈ Finset.range ((n % 4 + 1) * 1088), term m c (n / 4 * 1152 + i.val) j r
  | 0, hn, i, j => by
    rw [outsAt0_A m c ⟨0, hn⟩ rfl (by show ¬(0 : ℕ) % 4 = 3; decide)]
    dsimp only
    rw [first, pay2_apply, pay1_apply, zero_add]
    erw [block_sum m c]
    exact BlockedSum.first_block _ 1088
  | n + 1, hn, i, j => by
    have hN : n + 1 < 36 := point_lt ⟨n + 1, hn⟩
    by_cases h0 : (n + 1) % 4 = 0
    · rw [outsAt0_A m c ⟨n + 1, hn⟩ h0 (by dsimp only; omega)]
      dsimp only
      rw [first, pay2_apply, pay1_apply, zero_add]
      erw [block_sum m c]
      dsimp only
      rw [h0]
      exact BlockedSum.first_block _ 1088
    · have hq : (n + 1) % 4 = n % 4 + 1 := by omega
      have hd : (n + 1) / 4 = n / 4 := by omega
      have ih := accumulated c n (by omega) i j
      have step : (outsAt0 m c n (by omega)).1 (ix2 i j)
          + ∑ k : Fin 1088, term m c ((n + 1) / 4 * 1152 + i.val) j ((n + 1) % 4 * 1088 + k.val)
          = ∑ r ∈ Finset.range (((n + 1) % 4 + 1) * 1088), term m c ((n + 1) / 4 * 1152 + i.val) j r := by
        rw [ih, hq, hd]
        exact BlockedSum.add_block _ 1088 (n % 4 + 1)
      by_cases h1 : (n + 1) % 4 = 3
      · rw [outsAt0_C m c ⟨n + 1, hn⟩ h0 h1]
        dsimp only
        rw [last, pay2_apply]
        erw [block_sum m c]
        exact step
      · rw [outsAt0_B m c ⟨n + 1, hn⟩ h0 h1]
        dsimp only
        rw [middle, pay2_apply]
        erw [block_sum m c]
        exact step

/-- At the last row block the bf16 copy holds the same numbers. -/
theorem cast_eq (c : Dev nD) (t : Fin cfg0.N) (h3 : t.val % 4 = 3) (i : Fin 1152) (j : Fin 2048) :
    (outsAt0 m c t.val t.isLt).2 (ix2 i j) = (outsAt0 m c t.val t.isLt).1 (ix2 i j) := by
  rw [outsAt0_C m c t (by omega) h3]
  dsimp only
  rw [last, last_cast, pay3_apply]

/-- The whole product: `duᵀ h`, all 4352 rows. -/
def product (c : Dev nD) : S10368x2048.Idx → EReal :=
  fun i => ∑ r : Fin 4352, du m c (ix2 r (i 0)) * h m c (ix2 r (i 1))

theorem block_product (c : Dev nD) (t : Fin cfg0.N) (h3 : t.val % 4 = 3) (i : Fin 1152) (j : Fin 2048) :
    (outsAt0 m c t.val t.isLt).1 (ix2 i j)
      = product m c (ix2 ⟨t.val / 4 * 1152 + i.val, by have := point_lt t; omega⟩ j) := by
  have ht := point_lt t
  rw [accumulated, h3]
  refine BlockedSum.all_rows 4352 _ _ fun r => ?_
  rw [term, dif_pos ⟨r.isLt, by omega⟩]
  rfl

/-- What a write-back of the f32 result writes: its block of the product. -/
theorem flushed_f32 (c : Dev nD) (t : Fin cfg0.N) (hf : (cfg0.win 2).flush t = true) :
    (dats m 0 c).flushed 2 t = ((cfg0.win 2).blk t).view.read (Elt Ideal) (product m c) := by
  have h3 := (flush0_2 t).mp hf
  show (cfg0.win 2).cut (grid0.coords t) ((dats m 0 c).after 2 t) = _
  rw [after0_2]
  show (outsAt0 m c t.val t.isLt).1 = (_ : S1152x2048.Idx → EReal)
  funext x
  obtain ⟨i, j, rfl⟩ : ∃ (i : Fin 1152) (j : Fin 2048), x = ix2 i j := ⟨x 0, x 1, eq_ix2 x⟩
  rw [block_product m c t h3, View.read_apply]
  show product m c _ = product m c _
  congr 1
  funext a
  apply Fin.ext
  match a with
  | ⟨0, _⟩ => show t.val / 4 * 1152 + i.val = win0_2.index t 0 * 1152 + 1 * i.val; rw [(index2 t).1]; omega
  | ⟨1, _⟩ => show j.val = win0_2.index t 1 * 2048 + 1 * j.val; rw [(index2 t).2]; omega

/-- And of the bf16 copy. -/
theorem flushed_bf16 (c : Dev nD) (t : Fin cfg0.N) (hf : (cfg0.win 3).flush t = true) :
    (dats m 0 c).flushed 3 t = ((cfg0.win 3).blk t).view.read (Elt Ideal) (product m c) := by
  have h3 := (flush0_3 t).mp hf
  show (cfg0.win 3).cut (grid0.coords t) ((dats m 0 c).after 3 t) = _
  rw [after0_3]
  show (outsAt0 m c t.val t.isLt).2 = (_ : S1152x2048.Idx → EReal)
  funext x
  obtain ⟨i, j, rfl⟩ : ∃ (i : Fin 1152) (j : Fin 2048), x = ix2 i j := ⟨x 0, x 1, eq_ix2 x⟩
  rw [cast_eq m c t h3, block_product m c t h3, View.read_apply]
  show product m c _ = product m c _
  congr 1
  funext a
  apply Fin.ext
  match a with
  | ⟨0, _⟩ => show t.val / 4 * 1152 + i.val = win0_3.index t 0 * 1152 + 1 * i.val; rw [(index3 t).1]; omega
  | ⟨1, _⟩ => show j.val = win0_3.index t 1 * 2048 + 1 * j.val; rw [(index3 t).2]; omega

/-- So after the last point the f32 result array holds the product: the nine blocks tile it. -/
theorem final_f32 (c : Dev nD) : (dats m 0 c).arrAt 2 cfg0.N = product m c :=
  (dats m 0 c).arrAt_eq_of_cover 2 (product m c) (flushed_f32 m c) fun i => by
    have h0 : (i 0 : Nat) < 10368 := (i 0).isLt
    have h1 : (i 1 : Nat) < 2048 := (i 1).isLt
    let t : Fin cfg0.N := ⟨(i 0 : Nat) / 1152 * 4 + 3, by rw [show cfg0.N = 36 from N_0]; omega⟩
    have ht : t.val = (i 0 : Nat) / 1152 * 4 + 3 := rfl
    refine ⟨t, (flush0_2 t).mpr (by omega), ?_⟩
    show i ∈ ((View.whole main_v5_0).slice (win0_2.rect t)).set
    rw [View.set_slice_whole, Rect.mem_set_unit]
    intro a
    match a with
    | ⟨0, _⟩ =>
      show win0_2.index t 0 * 1152 ≤ (i 0 : Nat) ∧ (i 0 : Nat) < win0_2.index t 0 * 1152 + 1152
      rw [(index2 t).1]; omega
    | ⟨1, _⟩ =>
      show win0_2.index t 1 * 2048 ≤ (i 1 : Nat) ∧ (i 1 : Nat) < win0_2.index t 1 * 2048 + 2048
      rw [(index2 t).2]; omega

theorem final_bf16 (c : Dev nD) : (dats m 0 c).arrAt 3 cfg0.N = product m c :=
  (dats m 0 c).arrAt_eq_of_cover 3 (product m c) (flushed_bf16 m c) fun i => by
    have h0 : (i 0 : Nat) < 10368 := (i 0).isLt
    have h1 : (i 1 : Nat) < 2048 := (i 1).isLt
    let t : Fin cfg0.N := ⟨(i 0 : Nat) / 1152 * 4 + 3, by rw [show cfg0.N = 36 from N_0]; omega⟩
    have ht : t.val = (i 0 : Nat) / 1152 * 4 + 3 := rfl
    refine ⟨t, (flush0_3 t).mpr (by omega), ?_⟩
    show i ∈ ((View.whole main_v5_1).slice (win0_3.rect t)).set
    rw [View.set_slice_whole, Rect.mem_set_unit]
    intro a
    match a with
    | ⟨0, _⟩ =>
      show win0_3.index t 0 * 1152 ≤ (i 0 : Nat) ∧ (i 0 : Nat) < win0_3.index t 0 * 1152 + 1152
      rw [(index3 t).1]; omega
    | ⟨1, _⟩ =>
      show win0_3.index t 1 * 2048 ≤ (i 1 : Nat) ∧ (i 1 : Nat) < win0_3.index t 1 * 2048 + 2048
      rw [(index3 t).2]; omega

end Cert.Kernel2Ideal.InWeight

end
-- ==== Proof.InWeightHost.lean ====
/-
  The gradient of the input projection's weight: the host operations around the kernel. Before it the rows of the latent
  and of the context stream are laid under each other, `du` gets 112 zero columns; after it those are cut off again and the
  result is transposed.
-/
module

public import proofs.«01_k».proof.Proof.InWeightSum

@[expose] public section

set_option maxRecDepth 16384

noncomputable section

open Idealize.ShloMosaic Idealize.ShloMosaic.TcCoe Idealize.SL.Sem
open Idealize.ShloMosaic.Pipeline (Dat)

namespace Cert.Kernel2Ideal.InWeight

open Cert.Kernel2Ideal Cert.Kernel2Ideal.Gen

variable (m : (ℓ : Loc nD τ sig) → Buf (Elt Ideal) ℓ) (ρ : Dev nD → PrngReg)

/-- The four arguments as the program's start finds them. -/
def hX (c : Dev nD) : FVec Ideal S4096x2048 .f32 := m ((c.tc : Thread nD τ).loc main_arg0)
def hC (c : Dev nD) : FVec Ideal S256x2048 .f32 := m ((c.tc : Thread nD τ).loc main_arg1)
def duX (c : Dev nD) : FVec Ideal S4096x10256 .f32 := m ((c.tc : Thread nD τ).loc main_arg2)
def duC (c : Dev nD) : FVec Ideal S256x10256 .f32 := m ((c.tc : Thread nD τ).loc main_arg3)

/-- What the kernel's `h` operand is, as operations on the arguments. -/
theorem h_eq (c : Dev nD) : h m c = truncf (F := Ideal) .bf16 (concatenate S4352x2048 0 [⟨S4096x2048, hX m c⟩, ⟨S256x2048, hC m c⟩]
    concatenates_S4096x2048_S256x2048_S4352x2048_d0) bitsLt_bf16_f32 := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results_simp
  rfl

/-- What the kernel's `du` operand is. -/
theorem du_eq (c : Dev nD) : du m c = truncf (F := Ideal) .bf16 (pad S4352x10368 ![0, 0] ![0, 112] ![0, 0]
    (concatenate S4352x10256 0 [⟨S4096x10256, duX m c⟩, ⟨S256x10256, duC m c⟩]
      concatenates_S4096x10256_S256x10256_S4352x10256_d0)
    (sitofp (F := Ideal) .f32 (constantI S_ 32 0#32)) pads_S4352x10256_S4352x10368_000_01120 h_S_) bitsLt_bf16_f32 := by
  show StableHlo.after (List.flatten [hostOps0, hostOps0_1, hostOps0_2]) _ (Proc.devRef .tc main_v4) = _
  simp only [hostOps0, hostOps0_1, hostOps0_2, List.flatten_cons, List.flatten_nil, List.append_nil, List.cons_append, List.nil_append]
  after_results_simp
  rfl

theorem h_latent (c : Dev nD) (r : Fin 4096) (b : Fin 2048) : h m c (ix2 ⟨r.val, by omega⟩ b) = hX m c (ix2 r b) := by
  rw [h_eq]
  pointwise

theorem h_context (c : Dev nD) (r : Fin 256) (b : Fin 2048) : h m c (ix2 ⟨4096 + r.val, by omega⟩ b) = hC m c (ix2 r b) := by
  rw [h_eq]
  pointwise

theorem du_latent (c : Dev nD) (r : Fin 4096) (a : Fin 10256) : du m c (ix2 ⟨r.val, by omega⟩ ⟨a.val, by omega⟩) = duX m c (ix2 r a) := by
  rw [du_eq]
  pointwise
  exact dif_pos (by omega)

theorem du_context (c : Dev nD) (r : Fin 256) (a : Fin 10256) : du m c (ix2 ⟨4096 + r.val, by omega⟩ ⟨a.val, by omega⟩) = duC m c (ix2 r a) := by
  rw [du_eq]
  pointwise
  exact dif_pos (by omega)

end Cert.Kernel2Ideal.InWeight

end
-- ==== Proof.InWeight.lean ====
/-
  The gradient of the input projection's weight: the run of the kernel and of the reference, and that their results agree.
  The kernel sums all 4352 rows in four blocks, the reference the 4096 latent rows and the 256 context rows apart.
-/
module

public import proofs.«01_k».proof.Proof.InWeightHost
public import proofs.«01_k».proof.Proof.Gen.Reference2Ideal.Read
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel2Ideal.InWeight

open Cert.Kernel2Ideal Cert.Kernel2Ideal.Gen

variable (m : (ℓ : Loc nD τ sig) → Buf (Elt Ideal) ℓ) (ρ : Dev nD → PrngReg)

/-- The two results as the host lines leave them: the product without the 112 zero columns, transposed. -/
def result (c : Dev nD) : FVec Ideal S2048x10256 .f32 :=
  transpose S2048x10256 [1, 0] (extractStridedSlice S10256x2048 ![0, 0] (product m c) slices_S10368x2048_S10256x2048_0_0)
    transposes_S10256x2048_S2048x10256_1_0

theorem after_f32 (c : Dev nD) :
    Pipeline.afterTail₀ cfgs (dats m) 0 (V0 m) [hostOps1] c main_v7 = result m c := by
  unfold Pipeline.afterTail₀
  simp only [hostOps1, List.flatten_cons, List.flatten_nil, List.append_nil, List.cons_append, List.nil_append]
  after_results_simp
  erw [Pipeline.withArrays_arr spec0 (by decide) c _ _ 2]
  exact congrArg (fun z => transpose S2048x10256 [1, 0] (extractStridedSlice S10256x2048 ![0, 0] z slices_S10368x2048_S10256x2048_0_0)
    transposes_S10256x2048_S2048x10256_1_0) (final_f32 m c)

theorem after_bf16 (c : Dev nD) :
    Pipeline.afterTail₀ cfgs (dats m) 0 (V0 m) [hostOps1] c main_v9 = result m c := by
  unfold Pipeline.afterTail₀
  simp only [hostOps1, List.flatten_cons, List.flatten_nil, List.append_nil, List.cons_append, List.nil_append]
  after_results_simp
  erw [Pipeline.withArrays_arr spec0 (by decide) c _ _ 3]
  exact congrArg (fun z => transpose S2048x10256 [1, 0] (extractStridedSlice S10256x2048 ![0, 0] z slices_S10368x2048_S10256x2048_0_0)
    transposes_S10256x2048_S2048x10256_1_0) (final_bf16 m c)

/-- The kernel's run: both results, the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h.1 c).2 main_v7 (Pipeline.mem_restRefs_of main_v7 (by decide) (by decide))).trans (after_f32 m c),
        ((h.1 c).2 main_v9 (Pipeline.mem_restRefs_of main_v9 (by decide) (by decide))).trans (after_bf16 m c), h.2 c⟩)
    (θ_run_and (run_main m ρ) (unchanged m ρ))

/-- An entry of the result: the sum over the latent rows and the sum over the context rows. -/
theorem result_apply (c : Dev nD) (b : Fin 2048) (a : Fin 10256) :
    result m c (ix2 b a) = (∑ r : Fin 4096, duX m c (ix2 r a) * hX m c (ix2 r b)) + ∑ r : Fin 256, duC m c (ix2 r a) * hC m c (ix2 r b) := by
  have e : result m c (ix2 b a) = product m c (ix2 ⟨a.val, by omega⟩ b) := by
    unfold result
    pointwise
  rw [e]
  refine BlockedSum.stacked (by norm_num) _ _ _ (fun r => ?_) fun r => ?_
  · exact congrArg₂ (· * ·) (du_latent m c r a) (h_latent m c r b)
  · exact congrArg₂ (· * ·) (du_context m c r a) (h_context m c r b)

/-- The same of the reference's term. -/
theorem reference_apply (x0 : FVec Ideal S4096x2048 .f32) (x1 : FVec Ideal S256x2048 .f32) (x2 : FVec Ideal S4096x10256 .f32)
    (x3 : FVec Ideal S256x10256 .f32) (b : Fin 2048) (a : Fin 10256) :
    Cert.Reference2Ideal.Read.val_main_v7 (F := Ideal) x0 x1 x2 x3 (ix2 b a)
      = (∑ r : Fin 256, x3 (ix2 r a) * x1 (ix2 r b)) + ∑ r : Fin 4096, x2 (ix2 r a) * x0 (ix2 r b) := by
  pointwise [Cert.Reference2Ideal.Read.val_main_v7, Cert.Reference2Ideal.Read.val_main_v4, Cert.Reference2Ideal.Read.val_main_v6,
    Cert.Reference2Ideal.Read.val_main_v3, Cert.Reference2Ideal.Read.val_main_v5]

end Cert.Kernel2Ideal.InWeight

/-- The claim: over the extended reals the kernel's two results are the reference's. -/
theorem Cert.InWeight.algebraic : Cert.algebraic_Kernel2Ideal_Reference2Ideal := by
  intro m g m' g' _ hargs
  refine ⟨fun c => Cert.Kernel2Ideal.InWeight.result m c, fun c => Cert.Kernel2Ideal.InWeight.result m c,
    Cert.Kernel2Ideal.InWeight.run m g, ?_⟩
  refine (θ_run _ _ _).mono (fun r h c => ?_) (Cert.Reference2Ideal.Value.run (F := Ideal) m' g')
  obtain ⟨e7, e8, k0, k1, k2, k3⟩ := h c
  obtain ⟨a0, a1, a2, a3⟩ := hargs c
  have key : Cert.Reference2Ideal.Read.val_main_v7 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      = Cert.Kernel2Ideal.InWeight.result m c := by
    funext i
    obtain ⟨b, a, rfl⟩ : ∃ (b : Fin 2048) (a : Fin 10256), i = ix2 b a := ⟨i 0, i 1, eq_ix2 i⟩
    rw [a0, a1, a2, a3]
    exact (Cert.Kernel2Ideal.InWeight.reference_apply _ _ _ _ b a).trans
      ((add_comm _ _).trans (Cert.Kernel2Ideal.InWeight.result_apply m c b a).symm)
  exact ⟨e7.trans ((Cert.Reference2Ideal.Read.val_main_v7_eq _ _ _ _).symm.trans key),
    e8.trans ((Cert.Reference2Ideal.Read.val_main_v8_eq _ _ _ _).symm.trans key), k0, k1, k2, k3⟩

end
-- ==== Proof.InputGradSum.lean ====
/-
  The gradient of the input projection's left factor, `d_h = du · w_inᵀ`: the kernel (program `Kernel4Ideal`).

  The grid is 4 blocks of 1088 output rows by 9 blocks of 1152 summed columns of `du`. At the first of the nine the output
  block is set to zero; at each of the nine the product of the block of `du` and the block of the weight is added. After the
  `q`-th the output block holds the sum over the columns up to there; after the ninth, over all.
-/
module

public import proofs.«01_k».proof.Proof.Gen.Kernel4Ideal.Frame
public import proofs.«01_k».proof.Proof.BlockedSum
public import Idealize.ShloMosaic.Lib.Pipeline.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel4Ideal.InputGrad

open Cert.Kernel4Ideal Cert.Kernel4Ideal.Gen

section Body

variable {F : FTy → Type} [FloatOps F]

theorem off0 : (![0, 0] : Fin 2 → Nat) = fun _ => 0 := funext fun a => by fin_cases a <;> rfl

/-- At the first summed block: zero, plus the product of the blocks. -/
theorem first (c : Dev nD) (i : grid0.Coords) (a2 : Memref sig .tc .vmem S1088x1152 .bf16) (h2 : a2.IsWhole)
    (a3 : Memref sig .tc .vmem S1152x2048 .bf16) (h3 : a3.IsWhole) (a4 : Memref sig .tc .vmem S1088x2048 .f32) (h4 : a4.IsWhole)
    (hc0 : cond0_0 i) (x0 : Vec F S1088x1152 .bf16) (x1 : Vec F S1152x2048 .bf16) :
    out0_A_2 c i a2 h2 a3 h3 a4 h4 hc0 x0 x1 = k0_pay2 (k0_pay1 (F := F)) x0 x1 := by
  unfold out0_A_2
  rw [View.read_writes_eq_canon _ _ _ (cover0_A_2 c i a2 h2 a3 h3 a4 h4 hc0 x0 x1)]
  unfold kernelRun0_A
  dsimp only
  sl_unfold_words
  rw [View.canon_cons_unit_zero (S := S1088x2048) off0, View.readCov_unit_zero (S := S1088x2048) _ off0]
  simp only [View.readAt_eq_ld, h2.read_unread, h3.read_unread, View.ld_unit_zero (S := S1088x1152) off0,
    View.ld_unit_zero (S := S1152x2048) off0]

/-- At a later block: what was there, plus the product. -/
theorem later (c : Dev nD) (i : grid0.Coords) (a2 : Memref sig .tc .vmem S1088x1152 .bf16) (h2 : a2.IsWhole)
    (a3 : Memref sig .tc .vmem S1152x2048 .bf16) (h3 : a3.IsWhole) (a4 : Memref sig .tc .vmem S1088x2048 .f32) (h4 : a4.IsWhole)
    (hc0 : ¬cond0_0 i) (x0 : Vec F S1088x1152 .bf16) (x1 : Vec F S1152x2048 .bf16) (xo : Vec F S1088x2048 .f32) :
    out0_B_2 c i a2 h2 a3 h3 a4 h4 hc0 x0 x1 xo = k0_pay2 xo x0 x1 := by
  unfold out0_B_2
  rw [View.read_writes_eq_canon _ _ _ (cover0_B_2 c i a2 h2 a3 h3 a4 h4 hc0 x0 x1 xo)]
  unfold kernelRun0_B
  dsimp only
  sl_unfold_words
  rw [View.canon_unit_zero (S := S1088x2048) off0]
  simp only [View.readAt_eq_ld, h2.read_unread, h3.read_unread, h4.read_unread, View.ld_unit_zero (S := S1088x1152) off0,
    View.ld_unit_zero (S := S1152x2048) off0, View.ld_unit_zero (S := S1088x2048) off0]

end Body

theorem pay1_apply (r : Fin 1088) (l : Fin 2048) : k0_pay1 (F := Ideal) (ix2 r l) = 0 := by
  pointwise [k0_pay1]

theorem pay2_apply (v : Vec Ideal S1088x2048 .f32) (x : Vec Ideal S1088x1152 .bf16) (y : Vec Ideal S1152x2048 .bf16)
    (r : Fin 1088) (l : Fin 2048) :
    k0_pay2 v x y (ix2 r l) = v (ix2 r l) + ∑ k : Fin 1152, x (ix2 r k) * y (ix2 k l) := by
  pointwise [k0_pay2]

theorem index0 : ∀ t : Fin grid0.N, win0_0.index t 0 = t.val / 9 ∧ win0_0.index t 1 = t.val % 9 := by decide +kernel
theorem index1 : ∀ t : Fin grid0.N, win0_1.index t 0 = t.val % 9 ∧ win0_1.index t 1 = 0 := by decide +kernel
theorem index2 : ∀ t : Fin grid0.N, win0_2.index t 0 = t.val / 9 ∧ win0_2.index t 1 = 0 := by decide +kernel

theorem point_lt (t : Fin cfg0.N) : t.val < 36 := lt_of_lt_of_eq t.isLt (show cfg0.N = 36 from N_0)

variable (m : (ℓ : Loc nD τ sig) → Buf (Elt Ideal) ℓ)

/-- The two operands as the region finds them: `du` and the transposed weight. -/
def du (c : Dev nD) : FVec Ideal S4352x10368 .bf16 := V m c main_v2
def wt (c : Dev nD) : FVec Ideal S10368x2048 .bf16 := V m c main_v5

/-- The blocks the windows hand over at point `t`. -/
def duBlock (c : Dev nD) (t : Fin cfg0.N) : Vec Ideal S1088x1152 .bf16 := iblk m c 0 t
def wtBlock (c : Dev nD) (t : Fin cfg0.N) : Vec Ideal S1152x2048 .bf16 := iblk m c 1 t

theorem duBlock_apply (c : Dev nD) (t : Fin cfg0.N) (r : Fin 1088) (l : Fin 1152) :
    duBlock m c t (ix2 r l)
      = du m c (ix2 ⟨t.val / 9 * 1088 + r.val, by have := point_lt t; omega⟩ ⟨t.val % 9 * 1152 + l.val, by omega⟩) := by
  unfold duBlock iblk
  rw [View.read_apply]
  show V m c main_v2 _ = V m c main_v2 _
  congr 1
  funext a
  apply Fin.ext
  match a with
  | ⟨0, _⟩ => show win0_0.index t 0 * 1088 + 1 * r.val = t.val / 9 * 1088 + r.val; rw [(index0 t).1]; omega
  | ⟨1, _⟩ => show win0_0.index t 1 * 1152 + 1 * l.val = t.val % 9 * 1152 + l.val; rw [(index0 t).2]; omega

theorem wtBlock_apply (c : Dev nD) (t : Fin cfg0.N) (r : Fin 1152) (l : Fin 2048) :
    wtBlock m c t (ix2 r l) = wt m c (ix2 ⟨t.val % 9 * 1152 + r.val, by omega⟩ l) := by
  unfold wtBlock iblk
  rw [View.read_apply]
  show V m c main_v5 _ = V m c main_v5 _
  congr 1
  funext a
  apply Fin.ext
  match a with
  | ⟨0, _⟩ => show win0_1.index t 0 * 1152 + 1 * r.val = t.val % 9 * 1152 + r.val; rw [(index1 t).1]; omega
  | ⟨1, _⟩ => show win0_1.index t 1 * 2048 + 1 * l.val = l.val; rw [(index1 t).2]; omega

/-- The term of summed column `k` in the entry at row `a`, column `b`; zero outside the arrays. -/
def term (c : Dev nD) (a : ℕ) (b : Fin 2048) (k : ℕ) : EReal :=
  if hk : k < 10368 ∧ a < 4352 then du m c (ix2 ⟨a, hk.2⟩ ⟨k, hk.1⟩) * wt m c (ix2 ⟨k, hk.1⟩ b) else 0

/-- The product of the two blocks at point `t`, at an index: the terms of the block's columns. -/
theorem block_sum (c : Dev nD) (t : Fin cfg0.N) (i : Fin 1088) (j : Fin 2048) :
    ∑ k : Fin 1152, duBlock m c t (ix2 i k) * wtBlock m c t (ix2 k j)
      = ∑ k : Fin 1152, term m c (t.val / 9 * 1088 + i.val) j (t.val % 9 * 1152 + k.val) := by
  have ht := point_lt t
  refine Finset.sum_congr rfl fun k _ => ?_
  rw [term, dif_pos ⟨by omega, by omega⟩]
  exact congrArg₂ (· * ·) (duBlock_apply m c t i k) (wtBlock_apply m c t k j)

/-- After point `n` the output block holds the sum over the columns up to the end of that point's block. -/
theorem accumulated (c : Dev nD) : ∀ (n : ℕ) (hn : n < cfg0.N) (i : Fin 1088) (j : Fin 2048),
    outsAt0 m c n hn (ix2 i j) = ∑ k ∈ Finset.range ((n % 9 + 1) * 1152), term m c (n / 9 * 1088 + i.val) j k
  | 0, hn, i, j => by
    rw [outsAt0_A m c ⟨0, hn⟩ rfl]
    rw [first, pay2_apply, pay1_apply, zero_add]
    erw [block_sum m c]
    exact BlockedSum.first_block _ 1152
  | n + 1, hn, i, j => by
    have hN : n + 1 < 36 := point_lt ⟨n + 1, hn⟩
    by_cases h0 : (n + 1) % 9 = 0
    · rw [outsAt0_A m c ⟨n + 1, hn⟩ h0]
      rw [first, pay2_apply, pay1_apply, zero_add]
      erw [block_sum m c]
      rw [h0]
      exact BlockedSum.first_block _ 1152
    · have hq : (n + 1) % 9 = n % 9 + 1 := by omega
      have hd : (n + 1) / 9 = n / 9 := by omega
      have ih := accumulated c n (by omega) i j
      rw [outsAt0_B m c ⟨n + 1, hn⟩ h0]
      rw [later, pay2_apply]
      erw [block_sum m c]
      show outsAt0 m c n (by omega) (ix2 i j)
          + ∑ k : Fin 1152, term m c ((n + 1) / 9 * 1088 + i.val) j ((n + 1) % 9 * 1152 + k.val) = _
      rw [ih, hq, hd]
      exact BlockedSum.add_block _ 1152 (n % 9 + 1)

/-- The whole product: `du · wt`, all 10368 columns. -/
def product (c : Dev nD) : S4352x2048.Idx → EReal :=
  fun i => ∑ k : Fin 10368, du m c (ix2 (i 0) k) * wt m c (ix2 k (i 1))

theorem block_product (c : Dev nD) (t : Fin cfg0.N) (h8 : t.val % 9 = 8) (i : Fin 1088) (j : Fin 2048) :
    outsAt0 m c t.val t.isLt (ix2 i j)
      = product m c (ix2 ⟨t.val / 9 * 1088 + i.val, by have := point_lt t; omega⟩ j) := by
  have ht := point_lt t
  rw [accumulated, h8]
  refine BlockedSum.all_rows 10368 _ _ fun r => ?_
  rw [term, dif_pos ⟨r.isLt, by omega⟩]
  rfl

/-- What a write-back writes: its block of the product. -/
theorem flushed (c : Dev nD) (t : Fin cfg0.N) (hf : (cfg0.win 2).flush t = true) :
    (dats m 0 c).flushed 2 t = ((cfg0.win 2).blk t).view.read (Elt Ideal) (product m c) := by
  have h8 := (flush0_2 t).mp hf
  show (cfg0.win 2).cut (grid0.coords t) ((dats m 0 c).after 2 t) = _
  rw [after0_2]
  show outsAt0 m c t.val t.isLt = (_ : S1088x2048.Idx → EReal)
  funext x
  obtain ⟨i, j, rfl⟩ : ∃ (i : Fin 1088) (j : Fin 2048), x = ix2 i j := ⟨x 0, x 1, eq_ix2 x⟩
  rw [block_product m c t h8, View.read_apply]
  show product m c _ = product m c _
  congr 1
  funext a
  apply Fin.ext
  match a with
  | ⟨0, _⟩ => show t.val / 9 * 1088 + i.val = win0_2.index t 0 * 1088 + 1 * i.val; rw [(index2 t).1]; omega
  | ⟨1, _⟩ => show j.val = win0_2.index t 1 * 2048 + 1 * j.val; rw [(index2 t).2]; omega

/-- So after the last point the result array holds the product: the four blocks tile it. -/
theorem final (c : Dev nD) : (dats m 0 c).arrAt 2 cfg0.N = product m c :=
  (dats m 0 c).arrAt_eq_of_cover 2 (product m c) (flushed m c) fun i => by
    have h0 : (i 0 : Nat) < 4352 := (i 0).isLt
    have h1 : (i 1 : Nat) < 2048 := (i 1).isLt
    let t : Fin cfg0.N := ⟨(i 0 : Nat) / 1088 * 9 + 8, by rw [show cfg0.N = 36 from N_0]; omega⟩
    have ht : t.val = (i 0 : Nat) / 1088 * 9 + 8 := rfl
    refine ⟨t, (flush0_2 t).mpr (by omega), ?_⟩
    show i ∈ ((View.whole main_v6).slice (win0_2.rect t)).set
    rw [View.set_slice_whole, Rect.mem_set_unit]
    intro a
    match a with
    | ⟨0, _⟩ =>
      show win0_2.index t 0 * 1088 ≤ (i 0 : Nat) ∧ (i 0 : Nat) < win0_2.index t 0 * 1088 + 1088
      rw [(index2 t).1]; omega
    | ⟨1, _⟩ =>
      show win0_2.index t 1 * 2048 ≤ (i 1 : Nat) ∧ (i 1 : Nat) < win0_2.index t 1 * 2048 + 2048
      rw [(index2 t).2]; omega

end Cert.Kernel4Ideal.InputGrad

end
-- ==== Proof.InputGrad.lean ====
/-
  The gradient of the input projection's left factor: the host operations around the kernel, the two runs, and that their
  results agree. Before the kernel the rows of the latent and of the context stream are laid under each other, `du` gets 112
  zero columns and the transposed weight 112 zero rows; after it the latent and the context rows are taken apart again.
-/
module

public import proofs.«01_k».proof.Proof.InputGradSum
public import proofs.«01_k».proof.Proof.Gen.Reference4Ideal.Read
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel4Ideal.InputGrad

open Cert.Kernel4Ideal Cert.Kernel4Ideal.Gen

variable (m : (ℓ : Loc nD τ sig) → Buf (Elt Ideal) ℓ) (ρ : Dev nD → PrngReg)

/-- The three arguments as the program's start finds them. -/
def duX (c : Dev nD) : FVec Ideal S4096x10256 .f32 := m ((c.tc : Thread nD τ).loc main_arg0)
def duC (c : Dev nD) : FVec Ideal S256x10256 .f32 := m ((c.tc : Thread nD τ).loc main_arg1)
def wIn (c : Dev nD) : FVec Ideal S2048x10256 .f32 := m ((c.tc : Thread nD τ).loc main_arg2)

theorem du_eq (c : Dev nD) : du m c = truncf (F := Ideal) .bf16 (pad S4352x10368 ![0, 0] ![0, 112] ![0, 0]
    (concatenate S4352x10256 0 [⟨S4096x10256, duX m c⟩, ⟨S256x10256, duC m c⟩]
      concatenates_S4096x10256_S256x10256_S4352x10256_d0)
    (sitofp (F := Ideal) .f32 (constantI S_ 32 0#32)) pads_S4352x10256_S4352x10368_000_01120 h_S_) bitsLt_bf16_f32 := by
  show StableHlo.after (List.flatten [hostOps0, hostOps0_1, hostOps0_2, hostOps0_3, hostOps0_4]) _ (Proc.devRef .tc main_v2) = _
  simp only [hostOps0, hostOps0_1, hostOps0_2, hostOps0_3, hostOps0_4, List.flatten_cons, List.flatten_nil, List.append_nil,
    List.cons_append, List.nil_append]
  after_results_simp
  rfl

theorem wt_eq (c : Dev nD) : wt m c = truncf (F := Ideal) .bf16 (pad S10368x2048 ![0, 0] ![112, 0] ![0, 0]
    (transpose S10256x2048 [1, 0] (wIn m c) transposes_S2048x10256_S10256x2048_1_0)
    (sitofp (F := Ideal) .f32 (constantI S_ 32 0#32)) pads_S10256x2048_S10368x2048_01120_000 h_S_) bitsLt_bf16_f32 := by
  show StableHlo.after (List.flatten [hostOps0, hostOps0_1, hostOps0_2, hostOps0_3, hostOps0_4]) _ (Proc.devRef .tc main_v5) = _
  simp only [hostOps0, hostOps0_1, hostOps0_2, hostOps0_3, hostOps0_4, List.flatten_cons, List.flatten_nil, List.append_nil,
    List.cons_append, List.nil_append]
  after_results_simp
  rfl

theorem du_latent (c : Dev nD) (r : Fin 4096) (a : Fin 10256) :
    du m c (ix2 ⟨r.val, by omega⟩ ⟨a.val, by omega⟩) = duX m c (ix2 r a) := by
  rw [du_eq]
  pointwise
  exact dif_pos (by omega)

theorem du_context (c : Dev nD) (r : Fin 256) (a : Fin 10256) :
    du m c (ix2 ⟨4096 + r.val, by omega⟩ ⟨a.val, by omega⟩) = duC m c (ix2 r a) := by
  rw [du_eq]
  pointwise
  exact dif_pos (by omega)

/-- The 112 columns beyond are zero. -/
theorem du_beyond (c : Dev nD) (r : Fin 4352) (a : Fin 112) : du m c (ix2 r ⟨10256 + a.val, by omega⟩) = 0 := by
  rw [du_eq]
  pointwise
  show (((0#32 : BitVec 32).toInt : ℝ) : EReal) = 0
  norm_num

theorem wt_apply (c : Dev nD) (k : Fin 10256) (b : Fin 2048) : wt m c (ix2 ⟨k.val, by omega⟩ b) = wIn m c (ix2 b k) := by
  rw [wt_eq]
  pointwise

/-- An entry of the product: the 10256 columns of `du`, the zero columns add nothing. -/
theorem product_apply (c : Dev nD) (r : Fin 4352) (b : Fin 2048) :
    product m c (ix2 r b) = ∑ k : Fin 10256, du m c (ix2 r ⟨k.val, by omega⟩) * wIn m c (ix2 b k) := by
  refine (BlockedSum.stacked (a := 10256) (b := 112) (by norm_num) _
    (fun k => du m c (ix2 r ⟨k.val, by omega⟩) * wIn m c (ix2 b k)) (fun _ => 0) (fun k => ?_) fun k => ?_).trans ?_
  · exact congrArg (du m c (ix2 r ⟨k.val, by omega⟩) * ·) (wt_apply m c k b)
  · show du m c (ix2 r ⟨10256 + k.val, by omega⟩) * _ = 0
    rw [du_beyond, zero_mul]
  · rw [Finset.sum_const_zero, add_zero]

/-- The two results as the host lines leave them: the latent rows and the context rows of the product. -/
def resultX (c : Dev nD) : FVec Ideal S4096x2048 .f32 :=
  extractStridedSlice S4096x2048 ![0, 0] (product m c) slices_S4352x2048_S4096x2048_0_0
def resultC (c : Dev nD) : FVec Ideal S256x2048 .f32 :=
  extractStridedSlice S256x2048 ![4096, 0] (product m c) slices_S4352x2048_S256x2048_4096_0

theorem after_latent (c : Dev nD) :
    Pipeline.afterTail₀ cfgs (dats m) 0 (V0 m) [hostOps1] c main_v7 = resultX m c := by
  unfold Pipeline.afterTail₀
  simp only [hostOps1, List.flatten_cons, List.flatten_nil, List.append_nil, List.cons_append, List.nil_append]
  after_results_simp
  erw [Pipeline.withArrays_arr spec0 (by decide) c _ _ 2]
  exact congrArg (fun z => extractStridedSlice S4096x2048 ![0, 0] z slices_S4352x2048_S4096x2048_0_0) (final m c)

theorem after_context (c : Dev nD) :
    Pipeline.afterTail₀ cfgs (dats m) 0 (V0 m) [hostOps1] c main_v8 = resultC m c := by
  unfold Pipeline.afterTail₀
  simp only [hostOps1, List.flatten_cons, List.flatten_nil, List.append_nil, List.cons_append, List.nil_append]
  after_results_simp
  erw [Pipeline.withArrays_arr spec0 (by decide) c _ _ 2]
  exact congrArg (fun z => extractStridedSlice S256x2048 ![4096, 0] z slices_S4352x2048_S256x2048_4096_0) (final m c)

/-- The kernel's run: both results, the arguments unchanged. -/
theorem run : θ_run defs (onTc (τ := τ) (main (F := Ideal))) ⟨m, fun _ => 0, ρ⟩ fun r => ∀ c : Dev nD,
      r.2.mem ((c.tc : Thread nD τ).loc main_v7) = resultX m c
      ∧ r.2.mem ((c.tc : Thread nD τ).loc main_v8) = resultC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h.1 c).2 main_v7 (Pipeline.mem_restRefs_of main_v7 (by decide) (by decide))).trans (after_latent m c),
        ((h.1 c).2 main_v8 (Pipeline.mem_restRefs_of main_v8 (by decide) (by decide))).trans (after_context m c), h.2 c⟩)
    (θ_run_and (run_main m ρ) (unchanged m ρ))

theorem resultX_apply (c : Dev nD) (r : Fin 4096) (b : Fin 2048) :
    resultX m c (ix2 r b) = ∑ k : Fin 10256, duX m c (ix2 r k) * wIn m c (ix2 b k) := by
  have e : resultX m c (ix2 r b) = product m c (ix2 ⟨r.val, by omega⟩ b) := by
    unfold resultX
    pointwise
  rw [e, product_apply]
  exact Finset.sum_congr rfl fun k _ => congrArg (· * _) (du_latent m c r k)

theorem resultC_apply (c : Dev nD) (r : Fin 256) (b : Fin 2048) :
    resultC m c (ix2 r b) = ∑ k : Fin 10256, duC m c (ix2 r k) * wIn m c (ix2 b k) := by
  have e : resultC m c (ix2 r b) = product m c (ix2 ⟨4096 + r.val, by omega⟩ b) := by
    unfold resultC
    pointwise
  rw [e, product_apply]
  exact Finset.sum_congr rfl fun k _ => congrArg (· * _) (du_context m c r k)

/-- The same of the reference's terms. -/
theorem referenceX_apply (x0 : FVec Ideal S4096x10256 .f32) (x2 : FVec Ideal S2048x10256 .f32) (r : Fin 4096) (b : Fin 2048) :
    Cert.Reference4Ideal.Read.val_main_v5 (F := Ideal) x0 x2 (ix2 r b) = ∑ k : Fin 10256, x0 (ix2 r k) * x2 (ix2 b k) := by
  pointwise [Cert.Reference4Ideal.Read.val_main_v5]

theorem referenceC_apply (x1 : FVec Ideal S256x10256 .f32) (x2 : FVec Ideal S2048x10256 .f32) (r : Fin 256) (b : Fin 2048) :
    Cert.Reference4Ideal.Read.val_main_v4 (F := Ideal) x1 x2 (ix2 r b) = ∑ k : Fin 10256, x1 (ix2 r k) * x2 (ix2 b k) := by
  pointwise [Cert.Reference4Ideal.Read.val_main_v4]

end Cert.Kernel4Ideal.InputGrad

/-- The claim: over the extended reals the kernel's two results are the reference's. -/
theorem Cert.InputGrad.algebraic : Cert.algebraic_Kernel4Ideal_Reference4Ideal := by
  intro m g m' g' _ hargs
  refine ⟨fun c => Cert.Kernel4Ideal.InputGrad.resultX m c, fun c => Cert.Kernel4Ideal.InputGrad.resultC m c,
    Cert.Kernel4Ideal.InputGrad.run m g, ?_⟩
  refine (θ_run _ _ _).mono (fun r h c => ?_) (Cert.Reference4Ideal.Value.run (F := Ideal) m' g')
  obtain ⟨e5, e4, k0, k1, k2⟩ := h c
  obtain ⟨a0, a1, a2⟩ := hargs c
  have keyX : Cert.Reference4Ideal.Read.val_main_v5 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg2))
      = Cert.Kernel4Ideal.InputGrad.resultX m c := by
    funext i
    obtain ⟨b, a, rfl⟩ : ∃ (b : Fin 4096) (a : Fin 2048), i = ix2 b a := ⟨i 0, i 1, eq_ix2 i⟩
    rw [a0, a2]
    exact (Cert.Kernel4Ideal.InputGrad.referenceX_apply _ _ b a).trans (Cert.Kernel4Ideal.InputGrad.resultX_apply m c b a).symm
  have keyC : Cert.Reference4Ideal.Read.val_main_v4 (F := Ideal)
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      = Cert.Kernel4Ideal.InputGrad.resultC m c := by
    funext i
    obtain ⟨b, a, rfl⟩ : ∃ (b : Fin 256) (a : Fin 2048), i = ix2 b a := ⟨i 0, i 1, eq_ix2 i⟩
    rw [a1, a2]
    exact (Cert.Kernel4Ideal.InputGrad.referenceC_apply _ _ b a).trans (Cert.Kernel4Ideal.InputGrad.resultC_apply m c b a).symm
  exact ⟨e5.trans ((Cert.Reference4Ideal.Read.val_main_v5_eq _ _).symm.trans keyX),
    e4.trans ((Cert.Reference4Ideal.Read.val_main_v4_eq _ _).symm.trans keyC), k0, k1, k2⟩

end
-- ==== Proof.InProj.lean ====
/-
  The input projection `u = h · w_in`: the kernel (program `Kernel5Ideal`), the host operations around it, the two runs, and
  that their results agree. The grid is 9 blocks of 1152 columns by 4 blocks of 1088 rows; a point stores its block of the
  product, summed over all 2048 columns of `h` at once.
-/
module

public import proofs.«01_k».proof.Proof.Gen.Kernel5Ideal.Frame
public import proofs.«01_k».proof.Proof.Gen.Reference5Ideal.Read
public import proofs.«01_k».proof.Defs
public import Idealize.ShloMosaic.Lib.Pipeline.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen

theorem off0 : (![0, 0] : Fin 2 → Nat) = fun _ => 0 := funext fun a => by fin_cases a <;> rfl

/-- What a point stores. -/
theorem stored (x : Vec Ideal S1088x2048 .bf16) (y : Vec Ideal S1152x2048 .bf16) (r : Fin 1088) (l : Fin 1152) :
    out0_2 x y (ix2 r l) = ∑ k : Fin 2048, x (ix2 r k) * y (ix2 l k) := by
  have e : out0_2 x y = k0_pay1 x y := by
    unfold out0_2
    rw [View.canon_unit_zero (S := S1088x1152) off0]
    simp only [View.ld_unit_zero (S := S1088x2048) off0, View.ld_unit_zero (S := S1152x2048) off0]
  rw [e]
  pointwise [k0_pay1]

theorem index0 : ∀ t : Fin grid0.N, win0_0.index t 0 = t.val % 4 ∧ win0_0.index t 1 = 0 := by decide +kernel
theorem index1 : ∀ t : Fin grid0.N, win0_1.index t 0 = t.val / 4 ∧ win0_1.index t 1 = 0 := by decide +kernel
theorem index2 : ∀ t : Fin grid0.N, win0_2.index t 0 = t.val % 4 ∧ win0_2.index t 1 = t.val / 4 := by decide +kernel

theorem point_lt (t : Fin cfg0.N) : t.val < 36 := lt_of_lt_of_eq t.isLt (show cfg0.N = 36 from N_0)

variable (m : (ℓ : Loc nD τ sig) → Buf (Elt Ideal) ℓ) (ρ : Dev nD → PrngReg)

/-- The two operands as the region finds them: `h` and the transposed weight. -/
def h (c : Dev nD) : FVec Ideal S4352x2048 .bf16 := V m c main_v1
def wt (c : Dev nD) : FVec Ideal S10368x2048 .bf16 := V m c main_v4

/-- The blocks the windows hand over at point `t`. -/
def hBlock (c : Dev nD) (t : Fin cfg0.N) : Vec Ideal S1088x2048 .bf16 := iblk m c 0 t
def wtBlock (c : Dev nD) (t : Fin cfg0.N) : Vec Ideal S1152x2048 .bf16 := iblk m c 1 t

theorem hBlock_apply (c : Dev nD) (t : Fin cfg0.N) (r : Fin 1088) (l : Fin 2048) :
    hBlock m c t (ix2 r l) = h m c (ix2 ⟨t.val % 4 * 1088 + r.val, by omega⟩ l) := by
  unfold hBlock iblk
  rw [View.read_apply]
  show V m c main_v1 _ = V m c main_v1 _
  congr 1
  funext a
  apply Fin.ext
  match a with
  | ⟨0, _⟩ => show win0_0.index t 0 * 1088 + 1 * r.val = t.val % 4 * 1088 + r.val; rw [(index0 t).1]; omega
  | ⟨1, _⟩ => show win0_0.index t 1 * 2048 + 1 * l.val = l.val; rw [(index0 t).2]; omega

theorem wtBlock_apply (c : Dev nD) (t : Fin cfg0.N) (r : Fin 1152) (l : Fin 2048) :
    wtBlock m c t (ix2 r l) = wt m c (ix2 ⟨t.val / 4 * 1152 + r.val, by have := point_lt t; omega⟩ l) := by
  unfold wtBlock iblk
  rw [View.read_apply]
  show V m c main_v4 _ = V m c main_v4 _
  congr 1
  funext a
  apply Fin.ext
  match a with
  | ⟨0, _⟩ => show win0_1.index t 0 * 1152 + 1 * r.val = t.val / 4 * 1152 + r.val; rw [(index1 t).1]; omega
  | ⟨1, _⟩ => show win0_1.index t 1 * 2048 + 1 * l.val = l.val; rw [(index1 t).2]; omega

/-- The whole product. -/
def product (c : Dev nD) : S4352x10368.Idx → EReal :=
  fun i => ∑ k : Fin 2048, h m c (ix2 (i 0) k) * wt m c (ix2 (i 1) k)

/-- What a write-back writes: its block of the product. -/
theorem flushed (c : Dev nD) (t : Fin cfg0.N) (hf : (cfg0.win 2).flush t = true) :
    (dats m 0 c).flushed 2 t = ((cfg0.win 2).blk t).view.read (Elt Ideal) (product m c) := by
  have ht := point_lt t
  show (cfg0.win 2).cut (grid0.coords t) ((dats m 0 c).after 2 t) = _
  rw [after0_2]
  show out0_2 (hBlock m c t) (wtBlock m c t) = (_ : S1088x1152.Idx → EReal)
  funext x
  obtain ⟨i, j, rfl⟩ : ∃ (i : Fin 1088) (j : Fin 1152), x = ix2 i j := ⟨x 0, x 1, eq_ix2 x⟩
  rw [stored, View.read_apply]
  have e : ∑ k : Fin 2048, hBlock m c t (ix2 i k) * wtBlock m c t (ix2 j k)
      = product m c (ix2 ⟨t.val % 4 * 1088 + i.val, by omega⟩ ⟨t.val / 4 * 1152 + j.val, by omega⟩) :=
    Finset.sum_congr rfl fun k _ => congrArg₂ (· * ·) (hBlock_apply m c t i k) (wtBlock_apply m c t j k)
  rw [e]
  show product m c _ = product m c _
  congr 1
  funext a
  apply Fin.ext
  match a with
  | ⟨0, _⟩ => show t.val % 4 * 1088 + i.val = win0_2.index t 0 * 1088 + 1 * i.val; rw [(index2 t).1]; omega
  | ⟨1, _⟩ => show t.val / 4 * 1152 + j.val = win0_2.index t 1 * 1152 + 1 * j.val; rw [(index2 t).2]; omega

/-- So after the last point the result array holds the product: the 36 blocks tile it. -/
theorem final (c : Dev nD) : (dats m 0 c).arrAt 2 cfg0.N = product m c :=
  (dats m 0 c).arrAt_eq_of_cover 2 (product m c) (flushed m c) fun i => by
    have h0 : (i 0 : Nat) < 4352 := (i 0).isLt
    have h1 : (i 1 : Nat) < 10368 := (i 1).isLt
    let t : Fin cfg0.N := ⟨(i 1 : Nat) / 1152 * 4 + (i 0 : Nat) / 1088, by rw [show cfg0.N = 36 from N_0]; omega⟩
    have ht : t.val = (i 1 : Nat) / 1152 * 4 + (i 0 : Nat) / 1088 := rfl
    refine ⟨t, flush0_2 t, ?_⟩
    show i ∈ ((View.whole main_v5).slice (win0_2.rect t)).set
    rw [View.set_slice_whole, Rect.mem_set_unit]
    intro a
    match a with
    | ⟨0, _⟩ =>
      show win0_2.index t 0 * 1088 ≤ (i 0 : Nat) ∧ (i 0 : Nat) < win0_2.index t 0 * 1088 + 1088
      rw [(index2 t).1]; omega
    | ⟨1, _⟩ =>
      show win0_2.index t 1 * 1152 ≤ (i 1 : Nat) ∧ (i 1 : Nat) < win0_2.index t 1 * 1152 + 1152
      rw [(index2 t).2]; omega

/-! ## The host operations around the kernel -/

/-- The three arguments as the program's start finds them. -/
def hX (c : Dev nD) : FVec Ideal S4096x2048 .f32 := m ((c.tc : Thread nD τ).loc main_arg0)
def hC (c : Dev nD) : FVec Ideal S256x2048 .f32 := m ((c.tc : Thread nD τ).loc main_arg1)
def wIn (c : Dev nD) : FVec Ideal S2048x10256 .f32 := m ((c.tc : Thread nD τ).loc main_arg2)

theorem h_eq (c : Dev nD) : h m c = truncf (F := Ideal) .bf16 (concatenate S4352x2048 0 [⟨S4096x2048, hX m c⟩, ⟨S256x2048, hC m c⟩]
    concatenates_S4096x2048_S256x2048_S4352x2048_d0) bitsLt_bf16_f32 := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results_simp
  rfl

theorem wt_eq (c : Dev nD) : wt m c = truncf (F := Ideal) .bf16 (pad S10368x2048 ![0, 0] ![112, 0] ![0, 0]
    (transpose S10256x2048 [1, 0] (wIn m c) transposes_S2048x10256_S10256x2048_1_0)
    (sitofp (F := Ideal) .f32 (constantI S_ 32 0#32)) pads_S10256x2048_S10368x2048_01120_000 h_S_) bitsLt_bf16_f32 := by
  show StableHlo.after (List.flatten [hostOps0, hostOps0_1, hostOps0_2]) _ (Proc.devRef .tc main_v4) = _
  simp only [hostOps0, hostOps0_1, hostOps0_2, List.flatten_cons, List.flatten_nil, List.append_nil, List.cons_append, List.nil_append]
  after_results_simp
  rfl

theorem h_latent (c : Dev nD) (r : Fin 4096) (b : Fin 2048) : h m c (ix2 ⟨r.val, by omega⟩ b) = hX m c (ix2 r b) := by
  rw [h_eq]
  pointwise

theorem h_context (c : Dev nD) (r : Fin 256) (b : Fin 2048) : h m c (ix2 ⟨4096 + r.val, by omega⟩ b) = hC m c (ix2 r b) := by
  rw [h_eq]
  pointwise

theorem wt_apply (c : Dev nD) (k : Fin 10256) (b : Fin 2048) : wt m c (ix2 ⟨k.val, by omega⟩ b) = wIn m c (ix2 b k) := by
  rw [wt_eq]
  pointwise

/-- The two results as the host lines leave them: the latent and the context rows, without the 112 columns of the padding. -/
def resultX (c : Dev nD) : FVec Ideal S4096x10256 .f32 :=
  extractStridedSlice S4096x10256 ![0, 0] (product m c) slices_S4352x10368_S4096x10256_0_0
def resultC (c : Dev nD) : FVec Ideal S256x10256 .f32 :=
  extractStridedSlice S256x10256 ![4096, 0] (product m c) slices_S4352x10368_S256x10256_4096_0

theorem after_latent (c : Dev nD) :
    Pipeline.afterTail₀ cfgs (dats m) 0 (V0 m) [hostOps1] c main_v6 = resultX m c := by
  unfold Pipeline.afterTail₀
  simp only [hostOps1, List.flatten_cons, List.flatten_nil, List.append_nil, List.cons_append, List.nil_append]
  after_results_simp
  erw [Pipeline.withArrays_arr spec0 (by decide) c _ _ 2]
  exact congrArg (fun z => extractStridedSlice S4096x10256 ![0, 0] z slices_S4352x10368_S4096x10256_0_0) (final m c)

theorem after_context (c : Dev nD) :
    Pipeline.afterTail₀ cfgs (dats m) 0 (V0 m) [hostOps1] c main_v7 = resultC m c := by
  unfold Pipeline.afterTail₀
  simp only [hostOps1, List.flatten_cons, List.flatten_nil, List.append_nil, List.cons_append, List.nil_append]
  after_results_simp
  erw [Pipeline.withArrays_arr spec0 (by decide) c _ _ 2]
  exact congrArg (fun z => extractStridedSlice S256x10256 ![4096, 0] z slices_S4352x10368_S256x10256_4096_0) (final m c)

/-- The kernel's run: both results, the arguments unchanged. -/
theorem run : θ_run defs (onTc (τ := τ) (main (F := Ideal))) ⟨m, fun _ => 0, ρ⟩ fun r => ∀ c : Dev nD,
      r.2.mem ((c.tc : Thread nD τ).loc main_v6) = resultX m c
      ∧ r.2.mem ((c.tc : Thread nD τ).loc main_v7) = resultC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h.1 c).2 main_v6 (Pipeline.mem_restRefs_of main_v6 (by decide) (by decide))).trans (after_latent m c),
        ((h.1 c).2 main_v7 (Pipeline.mem_restRefs_of main_v7 (by decide) (by decide))).trans (after_context m c), h.2 c⟩)
    (θ_run_and (run_main m ρ) (unchanged m ρ))

theorem resultX_apply (c : Dev nD) (r : Fin 4096) (a : Fin 10256) :
    resultX m c (ix2 r a) = ∑ k : Fin 2048, hX m c (ix2 r k) * wIn m c (ix2 k a) := by
  have e : resultX m c (ix2 r a) = product m c (ix2 ⟨r.val, by omega⟩ ⟨a.val, by omega⟩) := by
    unfold resultX
    pointwise
  rw [e]
  exact Finset.sum_congr rfl fun k _ => congrArg₂ (· * ·) (h_latent m c r k) (wt_apply m c a k)

theorem resultC_apply (c : Dev nD) (r : Fin 256) (a : Fin 10256) :
    resultC m c (ix2 r a) = ∑ k : Fin 2048, hC m c (ix2 r k) * wIn m c (ix2 k a) := by
  have e : resultC m c (ix2 r a) = product m c (ix2 ⟨4096 + r.val, by omega⟩ ⟨a.val, by omega⟩) := by
    unfold resultC
    pointwise
  rw [e]
  exact Finset.sum_congr rfl fun k _ => congrArg₂ (· * ·) (h_context m c r k) (wt_apply m c a k)

/-- The same of the reference's terms. -/
theorem referenceX_apply (x0 : FVec Ideal S4096x2048 .f32) (x2 : FVec Ideal S2048x10256 .f32) (r : Fin 4096) (a : Fin 10256) :
    Cert.Reference5Ideal.Read.val_main_v0 (F := Ideal) x0 x2 (ix2 r a) = ∑ k : Fin 2048, x0 (ix2 r k) * x2 (ix2 k a) := by
  pointwise [Cert.Reference5Ideal.Read.val_main_v0]

theorem referenceC_apply (x1 : FVec Ideal S256x2048 .f32) (x2 : FVec Ideal S2048x10256 .f32) (r : Fin 256) (a : Fin 10256) :
    Cert.Reference5Ideal.Read.val_main_v1 (F := Ideal) x1 x2 (ix2 r a) = ∑ k : Fin 2048, x1 (ix2 r k) * x2 (ix2 k a) := by
  pointwise [Cert.Reference5Ideal.Read.val_main_v1]

end Cert.Kernel5Ideal.InProj

/-- The claim: over the extended reals the kernel's two results are the reference's. -/
theorem Cert.InProj.algebraic : Cert.algebraic_Kernel5Ideal_Reference5Ideal := by
  intro m g m' g' _ hargs
  refine ⟨fun c => Cert.Kernel5Ideal.InProj.resultX m c, fun c => Cert.Kernel5Ideal.InProj.resultC m c,
    Cert.Kernel5Ideal.InProj.run m g, ?_⟩
  refine (θ_run _ _ _).mono (fun r h c => ?_) (Cert.Reference5Ideal.Value.run (F := Ideal) m' g')
  obtain ⟨e0, e1, k0, k1, k2⟩ := h c
  obtain ⟨a0, a1, a2⟩ := hargs c
  have keyX : Cert.Reference5Ideal.Read.val_main_v0 (F := Ideal)
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg2))
      = Cert.Kernel5Ideal.InProj.resultX m c := by
    funext i
    obtain ⟨b, a, rfl⟩ : ∃ (b : Fin 4096) (a : Fin 10256), i = ix2 b a := ⟨i 0, i 1, eq_ix2 i⟩
    rw [a0, a2]
    exact (Cert.Kernel5Ideal.InProj.referenceX_apply _ _ b a).trans (Cert.Kernel5Ideal.InProj.resultX_apply m c b a).symm
  have keyC : Cert.Reference5Ideal.Read.val_main_v1 (F := Ideal)
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      = Cert.Kernel5Ideal.InProj.resultC m c := by
    funext i
    obtain ⟨b, a, rfl⟩ : ∃ (b : Fin 256) (a : Fin 10256), i = ix2 b a := ⟨i 0, i 1, eq_ix2 i⟩
    rw [a1, a2]
    exact (Cert.Kernel5Ideal.InProj.referenceC_apply _ _ b a).trans (Cert.Kernel5Ideal.InProj.resultC_apply m c b a).symm
  exact ⟨e0.trans ((Cert.Reference5Ideal.Read.val_main_v0_eq _ _).symm.trans keyX),
    e1.trans ((Cert.Reference5Ideal.Read.val_main_v1_eq _ _).symm.trans keyC), k0, k1, k2⟩

end
-- ==== Proof.AdamW.lean ====
/-
  The step of the optimiser on one entry: the first moment, the second moment and the change of the weight, with the rounded
  constants as the programs carry them.
-/
module

public import Idealize.ShloMosaic.Lib.IdealHost

@[expose] public section

set_option maxRecDepth 16384

noncomputable section

open Idealize.ShloMosaic Idealize.ShloMosaic.TcCoe Idealize.SL.Sem

namespace Cert.AdamW

/-- The first moment: `0.9 * m + 0.1 * g`. -/
def moment (g m : Ideal .f32) : Ideal .f32 :=
  FloatOps.addf (FloatOps.mulf (Scalar.ofBits .f32 0x3F666666#32) m) (FloatOps.mulf (Scalar.ofBits .f32 0x3DCCCCCD#32) g)

/-- The second moment: `0.999 * v + 0.001 * g²`. -/
def second (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The change of the weight: `-0.001 * (m̂ / (√v̂ + 1e-8) + 0.01 * w)`, with the moments corrected for their start. -/
def delta (w g m v : Ideal .f32) : Ideal .f32 :=
  FloatOps.mulf (Scalar.ofBits .f32 0xBA83126F#32) (FloatOps.addf
    (FloatOps.divf (FloatOps.divf (moment g m) (Scalar.ofBits .f32 0x3F26BD02#32))
      (FloatOps.addf (FloatOps.sqrt (FloatOps.divf (second g v) (Scalar.ofBits .f32 0x3C231ACC#32)))
        (Scalar.ofBits .f32 0x322BCC77#32)))
    (FloatOps.mulf (Scalar.ofBits .f32 0x3C23D70A#32) w))

end Cert.AdamW

end
-- ==== Proof.AdamWOut.lean ====
/-
  The optimiser's step on a device's part of `w_out`: 4 blocks of 128 rows, every entry on its own (programs
  `Kernel6Ideal` and `Reference6Ideal`).
-/
module

public import proofs.«01_k».proof.Proof.Gen.Kernel6Ideal.Value
public import proofs.«01_k».proof.Proof.Gen.Reference6Ideal.Read
public import proofs.«01_k».proof.Proof.AdamW
public import proofs.«01_k».proof.Defs

@[expose] public section

set_option maxRecDepth 16384

noncomputable section

open Idealize.ShloMosaic Idealize.ShloMosaic.TcCoe Idealize.SL.Sem

namespace Cert.Kernel6Ideal.AdamWOut

open Cert.Kernel6Ideal Cert.Kernel6Ideal.Gen

variable (m : (ℓ : Loc nD τ sig) → Buf (Elt Ideal) ℓ) (ρ : Dev nD → PrngReg)

/-- The weight, its gradient and its two moments as the program's start finds them. -/
def argW (c : Dev nD) : FVec Ideal S512x2048 .f32 := m ((c.tc : Thread nD τ).loc main_arg0)
def argG (c : Dev nD) : FVec Ideal S512x2048 .f32 := m ((c.tc : Thread nD τ).loc main_arg1)
def argM (c : Dev nD) : FVec Ideal S512x2048 .f32 := m ((c.tc : Thread nD τ).loc main_arg2)
def argV (c : Dev nD) : FVec Ideal S512x2048 .f32 := m ((c.tc : Thread nD τ).loc main_arg3)

/-- The three results. -/
def delta (c : Dev nD) : FVec Ideal S512x2048 .f32 := fun i => Cert.AdamW.delta (argW m c i) (argG m c i) (argM m c i) (argV m c i)
def moment (c : Dev nD) : FVec Ideal S512x2048 .f32 := fun i => Cert.AdamW.moment (argG m c i) (argM m c i)
def second (c : Dev nD) : FVec Ideal S512x2048 .f32 := fun i => Cert.AdamW.second (argG m c i) (argV m c i)

/-! ## The reference's terms, entry by entry -/

theorem reference_delta (x0 x1 x2 x3 : FVec Ideal S512x2048 .f32) :
    Cert.Reference6Ideal.Read.val_main_v23 (F := Ideal) x0 x1 x2 x3 = fun i => Cert.AdamW.delta (x0 i) (x1 i) (x2 i) (x3 i) := by
  funext i
  rfl

theorem reference_moment (x1 x2 : FVec Ideal S512x2048 .f32) :
    Cert.Reference6Ideal.Read.val_main_v4 (F := Ideal) x1 x2 = fun i => Cert.AdamW.moment (x1 i) (x2 i) := by
  funext i
  rfl

theorem reference_second (x1 x3 : FVec Ideal S512x2048 .f32) :
    Cert.Reference6Ideal.Read.val_main_v10 (F := Ideal) x1 x3 = fun i => Cert.AdamW.second (x1 i) (x3 i) := by
  funext i
  rfl

end Cert.Kernel6Ideal.AdamWOut

/-- The claim: over the extended reals the kernel's three results are the reference's. -/
theorem Cert.AdamWOut.algebraic : Cert.algebraic_Kernel6Ideal_Reference6Ideal := by
  intro m g m' g' _ hargs
  refine ⟨fun c => Cert.Kernel6Ideal.AdamWOut.delta m c, fun c => Cert.Kernel6Ideal.AdamWOut.moment m c, fun c => Cert.Kernel6Ideal.AdamWOut.second m c, Cert.Kernel6Ideal.Value.run (F := Ideal) m g, ?_⟩
  refine (θ_run _ _ _).mono (fun r h c => ?_) (Cert.Reference6Ideal.Value.run (F := Ideal) m' g')
  obtain ⟨e0, e1, e2, kept⟩ := h c
  obtain ⟨a0, a1, a2, a3⟩ := hargs c
  refine ⟨e0.trans ((Cert.Reference6Ideal.Read.val_main_v23_eq _ _ _ _).symm.trans ?_),
    e1.trans ((Cert.Reference6Ideal.Read.val_main_v4_eq _ _).symm.trans ?_),
    e2.trans ((Cert.Reference6Ideal.Read.val_main_v10_eq _ _).symm.trans ?_), kept⟩
  · rw [a0, a1, a2, a3]
    exact Cert.Kernel6Ideal.AdamWOut.reference_delta _ _ _ _
  · rw [a1, a2]
    exact Cert.Kernel6Ideal.AdamWOut.reference_moment _ _
  · rw [a1, a3]
    exact Cert.Kernel6Ideal.AdamWOut.reference_second _ _

end
-- ==== Proof.AdamWIn.lean ====
/-
  The optimiser's step on a device's part of `w_in`, transposed around the kernel, 16 blocks of 128 columns, every entry on its
  own (programs `Kernel7Ideal` and `Reference7Ideal`).
-/
module

public import proofs.«01_k».proof.Proof.Gen.Kernel7Ideal.Frame
public import proofs.«01_k».proof.Proof.Gen.Reference7Ideal.Read
public import proofs.«01_k».proof.Proof.AdamW
public import proofs.«01_k».proof.Defs
public import Idealize.ShloMosaic.Lib.Pipeline.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel7Ideal.AdamWIn

open Cert.Kernel7Ideal Cert.Kernel7Ideal.Gen

theorem off0 : (![0, 0] : Fin 2 → Nat) = fun _ => 0 := funext fun a => by fin_cases a <;> rfl

theorem index0 : ∀ t : Fin grid0.N, win0_0.index t 0 = 0 ∧ win0_0.index t 1 = t.val := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem index3 : ∀ t : Fin grid0.N, win0_3.index t 0 = 0 ∧ win0_3.index t 1 = t.val := by decide +kernel
theorem index4 : ∀ t : Fin grid0.N, win0_4.index t 0 = 0 ∧ win0_4.index t 1 = t.val := by decide +kernel
theorem index5 : ∀ t : Fin grid0.N, win0_5.index t 0 = 0 ∧ win0_5.index t 1 = t.val := by decide +kernel
theorem index6 : ∀ t : Fin grid0.N, win0_6.index t 0 = 0 ∧ win0_6.index t 1 = t.val := by decide +kernel

theorem point_lt (t : Fin cfg0.N) : t.val < 16 := lt_of_lt_of_eq t.isLt (show cfg0.N = 16 from N_0)

variable (m : (ℓ : Loc nD τ sig) → Buf (Elt Ideal) ℓ) (ρ : Dev nD → PrngReg)

/-- The weight, its gradient and its two moments as the program's start finds them. -/
def argW (c : Dev nD) : FVec Ideal S2048x2564 .f32 := m ((c.tc : Thread nD τ).loc main_arg0)
def argG (c : Dev nD) : FVec Ideal S2048x2564 .f32 := m ((c.tc : Thread nD τ).loc main_arg1)
def argM (c : Dev nD) : FVec Ideal S2048x2564 .f32 := m ((c.tc : Thread nD τ).loc main_arg2)
def argV (c : Dev nD) : FVec Ideal S2048x2564 .f32 := m ((c.tc : Thread nD τ).loc main_arg3)

/-- The three results. -/
def delta (c : Dev nD) : FVec Ideal S2048x2564 .f32 := fun i => Cert.AdamW.delta (argW m c i) (argG m c i) (argM m c i) (argV m c i)
def moment (c : Dev nD) : FVec Ideal S2048x2564 .f32 := fun i => Cert.AdamW.moment (argG m c i) (argM m c i)
def second (c : Dev nD) : FVec Ideal S2048x2564 .f32 := fun i => Cert.AdamW.second (argG m c i) (argV m c i)

/-- The four operands as the region finds them, transposed. -/
def weight (c : Dev nD) : FVec Ideal S2564x2048 .f32 := V m c main_v0
def grad (c : Dev nD) : FVec Ideal S2564x2048 .f32 := V m c main_v1
def first (c : Dev nD) : FVec Ideal S2564x2048 .f32 := V m c main_v2
def square (c : Dev nD) : FVec Ideal S2564x2048 .f32 := V m c main_v3

/-- The blocks the windows hand over at point `t`: 128 columns. -/
def weightBlock (c : Dev nD) (t : Fin cfg0.N) : Vec Ideal S2564x128 .f32 := iblk m c 0 t
def gradBlock (c : Dev nD) (t : Fin cfg0.N) : Vec Ideal S2564x128 .f32 := iblk m c 1 t
def firstBlock (c : Dev nD) (t : Fin cfg0.N) : Vec Ideal S2564x128 .f32 := iblk m c 2 t
def squareBlock (c : Dev nD) (t : Fin cfg0.N) : Vec Ideal S2564x128 .f32 := iblk m c 3 t

theorem weightBlock_apply (c : Dev nD) (t : Fin cfg0.N) (r : Fin 2564) (l : Fin 128) :
    weightBlock m c t (ix2 r l) = weight m c (ix2 r ⟨t.val * 128 + l.val, by have := point_lt t; omega⟩) := by
  unfold weightBlock iblk
  rw [View.read_apply]
  show V m c main_v0 _ = V m c main_v0 _
  congr 1
  funext a
  apply Fin.ext
  match a with
  | ⟨0, _⟩ => show win0_0.index t 0 * 2564 + 1 * r.val = r.val; rw [(index0 t).1]; omega
  | ⟨1, _⟩ => show win0_0.index t 1 * 128 + 1 * l.val = t.val * 128 + l.val; rw [(index0 t).2]; omega

theorem gradBlock_apply (c : Dev nD) (t : Fin cfg0.N) (r : Fin 2564) (l : Fin 128) :
    gradBlock m c t (ix2 r l) = grad m c (ix2 r ⟨t.val * 128 + l.val, by have := point_lt t; omega⟩) := by
  unfold gradBlock iblk
  rw [View.read_apply]
  show V m c main_v1 _ = V m c main_v1 _
  congr 1
  funext a
  apply Fin.ext
  match a with
  | ⟨0, _⟩ => show win0_1.index t 0 * 2564 + 1 * r.val = r.val; rw [(index1 t).1]; omega
  | ⟨1, _⟩ => show win0_1.index t 1 * 128 + 1 * l.val = t.val * 128 + l.val; rw [(index1 t).2]; omega

theorem firstBlock_apply (c : Dev nD) (t : Fin cfg0.N) (r : Fin 2564) (l : Fin 128) :
    firstBlock m c t (ix2 r l) = first m c (ix2 r ⟨t.val * 128 + l.val, by have := point_lt t; omega⟩) := by
  unfold firstBlock iblk
  rw [View.read_apply]
  show V m c main_v2 _ = V m c main_v2 _
  congr 1
  funext a
  apply Fin.ext
  match a with
  | ⟨0, _⟩ => show win0_2.index t 0 * 2564 + 1 * r.val = r.val; rw [(index2 t).1]; omega
  | ⟨1, _⟩ => show win0_2.index t 1 * 128 + 1 * l.val = t.val * 128 + l.val; rw [(index2 t).2]; omega

theorem squareBlock_apply (c : Dev nD) (t : Fin cfg0.N) (r : Fin 2564) (l : Fin 128) :
    squareBlock m c t (ix2 r l) = square m c (ix2 r ⟨t.val * 128 + l.val, by have := point_lt t; omega⟩) := by
  unfold squareBlock iblk
  rw [View.read_apply]
  show V m c main_v3 _ = V m c main_v3 _
  congr 1
  funext a
  apply Fin.ext
  match a with
  | ⟨0, _⟩ => show win0_3.index t 0 * 2564 + 1 * r.val = r.val; rw [(index3 t).1]; omega
  | ⟨1, _⟩ => show win0_3.index t 1 * 128 + 1 * l.val = t.val * 128 + l.val; rw [(index3 t).2]; omega

theorem storedDelta (x0 x1 x2 x3 : Vec Ideal S2564x128 .f32) (r : Fin 2564) (l : Fin 128) :
    out0_4 x0 x1 x2 x3 (ix2 r l) = Cert.AdamW.delta (x0 (ix2 r l)) (x1 (ix2 r l)) (x2 (ix2 r l)) (x3 (ix2 r l)) := by
  have e : out0_4 x0 x1 x2 x3 = k0_pay4 x0 x1 x2 x3 := by
    unfold out0_4
    rw [View.canon_unit_zero (S := S2564x128) off0]
    simp only [View.ld_unit_zero (S := S2564x128) off0]
  rw [e]
  pointwise [k0_pay1, k0_pay2, k0_pay3, k0_pay4]
  rfl

/-- The whole array, transposed. -/
def arrayDelta (c : Dev nD) : FVec Ideal S2564x2048 .f32 := fun i => Cert.AdamW.delta (weight m c i) (grad m c i) (first m c i) (square m c i)

theorem flushedDelta (c : Dev nD) (t : Fin cfg0.N) (hf : (cfg0.win 4).flush t = true) :
    (dats m 0 c).flushed 4 t = ((cfg0.win 4).blk t).view.read (Elt Ideal) (arrayDelta m c) := by
  have ht := point_lt t
  show (cfg0.win 4).cut (grid0.coords t) ((dats m 0 c).after 4 t) = _
  rw [after0_4]
  show out0_4 (weightBlock m c t) (gradBlock m c t) (firstBlock m c t) (squareBlock m c t) = (_ : S2564x128.Idx → EReal)
  funext x
  obtain ⟨i, j, rfl⟩ : ∃ (i : Fin 2564) (j : Fin 128), x = ix2 i j := ⟨x 0, x 1, eq_ix2 x⟩
  rw [storedDelta, View.read_apply, weightBlock_apply, gradBlock_apply, firstBlock_apply, squareBlock_apply]
  show arrayDelta m c (ix2 i ⟨t.val * 128 + j.val, by omega⟩) = arrayDelta m c _
  congr 1
  funext a
  apply Fin.ext
  match a with
  | ⟨0, _⟩ => show i.val = win0_4.index t 0 * 2564 + 1 * i.val; rw [(index4 t).1]; omega
  | ⟨1, _⟩ => show t.val * 128 + j.val = win0_4.index t 1 * 128 + 1 * j.val; rw [(index4 t).2]; omega

theorem finalDelta (c : Dev nD) : (dats m 0 c).arrAt 4 cfg0.N = arrayDelta m c :=
  (dats m 0 c).arrAt_eq_of_cover 4 (arrayDelta m c) (flushedDelta m c) fun i => by
    have h0 : (i 0 : Nat) < 2564 := (i 0).isLt
    have h1 : (i 1 : Nat) < 2048 := (i 1).isLt
    let t : Fin cfg0.N := ⟨(i 1 : Nat) / 128, by rw [show cfg0.N = 16 from N_0]; omega⟩
    have ht : t.val = (i 1 : Nat) / 128 := rfl
    refine ⟨t, flush0_4 t, ?_⟩
    show i ∈ ((View.whole main_v4_0).slice (win0_4.rect t)).set
    rw [View.set_slice_whole, Rect.mem_set_unit]
    intro a
    match a with
    | ⟨0, _⟩ =>
      show win0_4.index t 0 * 2564 ≤ (i 0 : Nat) ∧ (i 0 : Nat) < win0_4.index t 0 * 2564 + 2564
      rw [(index4 t).1]; omega
    | ⟨1, _⟩ =>
      show win0_4.index t 1 * 128 ≤ (i 1 : Nat) ∧ (i 1 : Nat) < win0_4.index t 1 * 128 + 128
      rw [(index4 t).2]; omega

theorem storedMoment (x0 x1 x2 x3 : Vec Ideal S2564x128 .f32) (r : Fin 2564) (l : Fin 128) :
    out0_5 x0 x1 x2 x3 (ix2 r l) = Cert.AdamW.moment (x1 (ix2 r l)) (x2 (ix2 r l)) := by
  have e : out0_5 x0 x1 x2 x3 = k0_pay2 x1 x2 := by
    unfold out0_5
    rw [View.canon_unit_zero (S := S2564x128) off0]
    simp only [View.ld_unit_zero (S := S2564x128) off0]
  rw [e]
  pointwise [k0_pay1, k0_pay2, k0_pay3, k0_pay4]
  rfl

/-- The whole array, transposed. -/
def arrayMoment (c : Dev nD) : FVec Ideal S2564x2048 .f32 := fun i => Cert.AdamW.moment (grad m c i) (first m c i)

theorem flushedMoment (c : Dev nD) (t : Fin cfg0.N) (hf : (cfg0.win 5).flush t = true) :
    (dats m 0 c).flushed 5 t = ((cfg0.win 5).blk t).view.read (Elt Ideal) (arrayMoment m c) := by
  have ht := point_lt t
  show (cfg0.win 5).cut (grid0.coords t) ((dats m 0 c).after 5 t) = _
  rw [after0_5]
  show out0_5 (weightBlock m c t) (gradBlock m c t) (firstBlock m c t) (squareBlock m c t) = (_ : S2564x128.Idx → EReal)
  funext x
  obtain ⟨i, j, rfl⟩ : ∃ (i : Fin 2564) (j : Fin 128), x = ix2 i j := ⟨x 0, x 1, eq_ix2 x⟩
  rw [storedMoment, View.read_apply, gradBlock_apply, firstBlock_apply]
  show arrayMoment m c (ix2 i ⟨t.val * 128 + j.val, by omega⟩) = arrayMoment m c _
  congr 1
  funext a
  apply Fin.ext
  match a with
  | ⟨0, _⟩ => show i.val = win0_5.index t 0 * 2564 + 1 * i.val; rw [(index5 t).1]; omega
  | ⟨1, _⟩ => show t.val * 128 + j.val = win0_5.index t 1 * 128 + 1 * j.val; rw [(index5 t).2]; omega

theorem finalMoment (c : Dev nD) : (dats m 0 c).arrAt 5 cfg0.N = arrayMoment m c :=
  (dats m 0 c).arrAt_eq_of_cover 5 (arrayMoment m c) (flushedMoment m c) fun i => by
    have h0 : (i 0 : Nat) < 2564 := (i 0).isLt
    have h1 : (i 1 : Nat) < 2048 := (i 1).isLt
    let t : Fin cfg0.N := ⟨(i 1 : Nat) / 128, by rw [show cfg0.N = 16 from N_0]; omega⟩
    have ht : t.val = (i 1 : Nat) / 128 := rfl
    refine ⟨t, flush0_5 t, ?_⟩
    show i ∈ ((View.whole main_v4_1).slice (win0_5.rect t)).set
    rw [View.set_slice_whole, Rect.mem_set_unit]
    intro a
    match a with
    | ⟨0, _⟩ =>
      show win0_5.index t 0 * 2564 ≤ (i 0 : Nat) ∧ (i 0 : Nat) < win0_5.index t 0 * 2564 + 2564
      rw [(index5 t).1]; omega
    | ⟨1, _⟩ =>
      show win0_5.index t 1 * 128 ≤ (i 1 : Nat) ∧ (i 1 : Nat) < win0_5.index t 1 * 128 + 128
      rw [(index5 t).2]; omega

theorem storedSecond (x0 x1 x2 x3 : Vec Ideal S2564x128 .f32) (r : Fin 2564) (l : Fin 128) :
    out0_6 x0 x1 x2 x3 (ix2 r l) = Cert.AdamW.second (x1 (ix2 r l)) (x3 (ix2 r l)) := by
  have e : out0_6 x0 x1 x2 x3 = k0_pay3 x1 x3 := by
    unfold out0_6
    rw [View.canon_unit_zero (S := S2564x128) off0]
    simp only [View.ld_unit_zero (S := S2564x128) off0]
  rw [e]
  pointwise [k0_pay1, k0_pay2, k0_pay3, k0_pay4]
  rfl

/-- The whole array, transposed. -/
def arraySecond (c : Dev nD) : FVec Ideal S2564x2048 .f32 := fun i => Cert.AdamW.second (grad m c i) (square m c i)

theorem flushedSecond (c : Dev nD) (t : Fin cfg0.N) (hf : (cfg0.win 6).flush t = true) :
    (dats m 0 c).flushed 6 t = ((cfg0.win 6).blk t).view.read (Elt Ideal) (arraySecond m c) := by
  have ht := point_lt t
  show (cfg0.win 6).cut (grid0.coords t) ((dats m 0 c).after 6 t) = _
  rw [after0_6]
  show out0_6 (weightBlock m c t) (gradBlock m c t) (firstBlock m c t) (squareBlock m c t) = (_ : S2564x128.Idx → EReal)
  funext x
  obtain ⟨i, j, rfl⟩ : ∃ (i : Fin 2564) (j : Fin 128), x = ix2 i j := ⟨x 0, x 1, eq_ix2 x⟩
  rw [storedSecond, View.read_apply, gradBlock_apply, squareBlock_apply]
  show arraySecond m c (ix2 i ⟨t.val * 128 + j.val, by omega⟩) = arraySecond m c _
  congr 1
  funext a
  apply Fin.ext
  match a with
  | ⟨0, _⟩ => show i.val = win0_6.index t 0 * 2564 + 1 * i.val; rw [(index6 t).1]; omega
  | ⟨1, _⟩ => show t.val * 128 + j.val = win0_6.index t 1 * 128 + 1 * j.val; rw [(index6 t).2]; omega

theorem finalSecond (c : Dev nD) : (dats m 0 c).arrAt 6 cfg0.N = arraySecond m c :=
  (dats m 0 c).arrAt_eq_of_cover 6 (arraySecond m c) (flushedSecond m c) fun i => by
    have h0 : (i 0 : Nat) < 2564 := (i 0).isLt
    have h1 : (i 1 : Nat) < 2048 := (i 1).isLt
    let t : Fin cfg0.N := ⟨(i 1 : Nat) / 128, by rw [show cfg0.N = 16 from N_0]; omega⟩
    have ht : t.val = (i 1 : Nat) / 128 := rfl
    refine ⟨t, flush0_6 t, ?_⟩
    show i ∈ ((View.whole main_v4_2).slice (win0_6.rect t)).set
    rw [View.set_slice_whole, Rect.mem_set_unit]
    intro a
    match a with
    | ⟨0, _⟩ =>
      show win0_6.index t 0 * 2564 ≤ (i 0 : Nat) ∧ (i 0 : Nat) < win0_6.index t 0 * 2564 + 2564
      rw [(index6 t).1]; omega
    | ⟨1, _⟩ =>
      show win0_6.index t 1 * 128 ≤ (i 1 : Nat) ∧ (i 1 : Nat) < win0_6.index t 1 * 128 + 128
      rw [(index6 t).2]; omega

/-! ## The transposes around the kernel -/

theorem weight_apply (c : Dev nD) (r : Fin 2048) (l : Fin 2564) : weight m c (ix2 l r) = argW m c (ix2 r l) := by
  have e : weight m c = transpose S2564x2048 [1, 0] (argW m c) transposes_S2048x2564_S2564x2048_1_0 := by
    show StableHlo.after (List.flatten [hostOps0]) _ (Proc.devRef .tc main_v0) = _
    simp only [hostOps0, List.flatten_cons, List.flatten_nil, List.append_nil, List.cons_append, List.nil_append]
    after_results_simp
    rfl
  rw [e]
  pointwise

theorem grad_apply (c : Dev nD) (r : Fin 2048) (l : Fin 2564) : grad m c (ix2 l r) = argG m c (ix2 r l) := by
  have e : grad m c = transpose S2564x2048 [1, 0] (argG m c) transposes_S2048x2564_S2564x2048_1_0 := by
    show StableHlo.after (List.flatten [hostOps0]) _ (Proc.devRef .tc main_v1) = _
    simp only [hostOps0, List.flatten_cons, List.flatten_nil, List.append_nil, List.cons_append, List.nil_append]
    after_results_simp
    rfl
  rw [e]
  pointwise

theorem first_apply (c : Dev nD) (r : Fin 2048) (l : Fin 2564) : first m c (ix2 l r) = argM m c (ix2 r l) := by
  have e : first m c = transpose S2564x2048 [1, 0] (argM m c) transposes_S2048x2564_S2564x2048_1_0 := by
    show StableHlo.after (List.flatten [hostOps0]) _ (Proc.devRef .tc main_v2) = _
    simp only [hostOps0, List.flatten_cons, List.flatten_nil, List.append_nil, List.cons_append, List.nil_append]
    after_results_simp
    rfl
  rw [e]
  pointwise

theorem square_apply (c : Dev nD) (r : Fin 2048) (l : Fin 2564) : square m c (ix2 l r) = argV m c (ix2 r l) := by
  have e : square m c = transpose S2564x2048 [1, 0] (argV m c) transposes_S2048x2564_S2564x2048_1_0 := by
    show StableHlo.after (List.flatten [hostOps0]) _ (Proc.devRef .tc main_v3) = _
    simp only [hostOps0, List.flatten_cons, List.flatten_nil, List.append_nil, List.cons_append, List.nil_append]
    after_results_simp
    rfl
  rw [e]
  pointwise

theorem afterDelta (c : Dev nD) :
    Pipeline.afterTail₀ cfgs (dats m) 0 (V0 m) [hostOps1] c main_v5 = delta m c := by
  have e : Pipeline.afterTail₀ cfgs (dats m) 0 (V0 m) [hostOps1] c main_v5
      = transpose S2048x2564 [1, 0] (arrayDelta m c) transposes_S2564x2048_S2048x2564_1_0 := by
    unfold Pipeline.afterTail₀
    simp only [hostOps1, List.flatten_cons, List.flatten_nil, List.append_nil, List.cons_append, List.nil_append]
    after_results_simp
    erw [Pipeline.withArrays_arr spec0 (by decide) c _ _ 4]
    exact congrArg (fun z => transpose S2048x2564 [1, 0] z transposes_S2564x2048_S2048x2564_1_0) (finalDelta m c)
  rw [e]
  funext i
  obtain ⟨r, l, rfl⟩ : ∃ (r : Fin 2048) (l : Fin 2564), i = ix2 r l := ⟨i 0, i 1, eq_ix2 i⟩
  have h : transpose S2048x2564 [1, 0] (arrayDelta m c) transposes_S2564x2048_S2048x2564_1_0 (ix2 r l) = arrayDelta m c (ix2 l r) := by
    pointwise
  rw [h]
  show Cert.AdamW.delta (weight m c (ix2 l r)) (grad m c (ix2 l r)) (first m c (ix2 l r)) (square m c (ix2 l r)) = Cert.AdamW.delta (argW m c (ix2 r l)) (argG m c (ix2 r l)) (argM m c (ix2 r l)) (argV m c (ix2 r l))
  rw [weight_apply, grad_apply, first_apply, square_apply]

theorem afterMoment (c : Dev nD) :
    Pipeline.afterTail₀ cfgs (dats m) 0 (V0 m) [hostOps1] c main_v6 = moment m c := by
  have e : Pipeline.afterTail₀ cfgs (dats m) 0 (V0 m) [hostOps1] c main_v6
      = transpose S2048x2564 [1, 0] (arrayMoment m c) transposes_S2564x2048_S2048x2564_1_0 := by
    unfold Pipeline.afterTail₀
    simp only [hostOps1, List.flatten_cons, List.flatten_nil, List.append_nil, List.cons_append, List.nil_append]
    after_results_simp
    erw [Pipeline.withArrays_arr spec0 (by decide) c _ _ 5]
    exact congrArg (fun z => transpose S2048x2564 [1, 0] z transposes_S2564x2048_S2048x2564_1_0) (finalMoment m c)
  rw [e]
  funext i
  obtain ⟨r, l, rfl⟩ : ∃ (r : Fin 2048) (l : Fin 2564), i = ix2 r l := ⟨i 0, i 1, eq_ix2 i⟩
  have h : transpose S2048x2564 [1, 0] (arrayMoment m c) transposes_S2564x2048_S2048x2564_1_0 (ix2 r l) = arrayMoment m c (ix2 l r) := by
    pointwise
  rw [h]
  show Cert.AdamW.moment (grad m c (ix2 l r)) (first m c (ix2 l r)) = Cert.AdamW.moment (argG m c (ix2 r l)) (argM m c (ix2 r l))
  rw [grad_apply, first_apply]

theorem afterSecond (c : Dev nD) :
    Pipeline.afterTail₀ cfgs (dats m) 0 (V0 m) [hostOps1] c main_v7 = second m c := by
  have e : Pipeline.afterTail₀ cfgs (dats m) 0 (V0 m) [hostOps1] c main_v7
      = transpose S2048x2564 [1, 0] (arraySecond m c) transposes_S2564x2048_S2048x2564_1_0 := by
    unfold Pipeline.afterTail₀
    simp only [hostOps1, List.flatten_cons, List.flatten_nil, List.append_nil, List.cons_append, List.nil_append]
    after_results_simp
    erw [Pipeline.withArrays_arr spec0 (by decide) c _ _ 6]
    exact congrArg (fun z => transpose S2048x2564 [1, 0] z transposes_S2564x2048_S2048x2564_1_0) (finalSecond m c)
  rw [e]
  funext i
  obtain ⟨r, l, rfl⟩ : ∃ (r : Fin 2048) (l : Fin 2564), i = ix2 r l := ⟨i 0, i 1, eq_ix2 i⟩
  have h : transpose S2048x2564 [1, 0] (arraySecond m c) transposes_S2564x2048_S2048x2564_1_0 (ix2 r l) = arraySecond m c (ix2 l r) := by
    pointwise
  rw [h]
  show Cert.AdamW.second (grad m c (ix2 l r)) (square m c (ix2 l r)) = Cert.AdamW.second (argG m c (ix2 r l)) (argV m c (ix2 r l))
  rw [grad_apply, square_apply]

/-- The kernel's run: the three results, the arguments unchanged. -/
theorem run : θ_run defs (onTc (τ := τ) (main (F := Ideal))) ⟨m, fun _ => 0, ρ⟩ fun r => ∀ c : Dev nD,
      r.2.mem ((c.tc : Thread nD τ).loc main_v5) = delta m c
      ∧ r.2.mem ((c.tc : Thread nD τ).loc main_v6) = moment m c
      ∧ r.2.mem ((c.tc : Thread nD τ).loc main_v7) = second m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h.1 c).2 main_v5 (Pipeline.mem_restRefs_of main_v5 (by decide) (by decide))).trans (afterDelta m c),
        ((h.1 c).2 main_v6 (Pipeline.mem_restRefs_of main_v6 (by decide) (by decide))).trans (afterMoment m c),
        ((h.1 c).2 main_v7 (Pipeline.mem_restRefs_of main_v7 (by decide) (by decide))).trans (afterSecond m c), h.2 c⟩)
    (θ_run_and (run_main m ρ) (unchanged m ρ))

/-! ## The reference's terms, entry by entry -/

theorem reference_delta (x0 x1 x2 x3 : FVec Ideal S2048x2564 .f32) :
    Cert.Reference7Ideal.Read.val_main_v23 (F := Ideal) x0 x1 x2 x3 = fun i => Cert.AdamW.delta (x0 i) (x1 i) (x2 i) (x3 i) := by
  funext i
  rfl

theorem reference_moment (x1 x2 : FVec Ideal S2048x2564 .f32) :
    Cert.Reference7Ideal.Read.val_main_v4 (F := Ideal) x1 x2 = fun i => Cert.AdamW.moment (x1 i) (x2 i) := by
  funext i
  rfl

theorem reference_second (x1 x3 : FVec Ideal S2048x2564 .f32) :
    Cert.Reference7Ideal.Read.val_main_v10 (F := Ideal) x1 x3 = fun i => Cert.AdamW.second (x1 i) (x3 i) := by
  funext i
  rfl

end Cert.Kernel7Ideal.AdamWIn

/-- The claim: over the extended reals the kernel's three results are the reference's. -/
theorem Cert.AdamWIn.algebraic : Cert.algebraic_Kernel7Ideal_Reference7Ideal := by
  intro m g m' g' _ hargs
  refine ⟨fun c => Cert.Kernel7Ideal.AdamWIn.delta m c, fun c => Cert.Kernel7Ideal.AdamWIn.moment m c, fun c => Cert.Kernel7Ideal.AdamWIn.second m c, Cert.Kernel7Ideal.AdamWIn.run m g, ?_⟩
  refine (θ_run _ _ _).mono (fun r h c => ?_) (Cert.Reference7Ideal.Value.run (F := Ideal) m' g')
  obtain ⟨e0, e1, e2, kept⟩ := h c
  obtain ⟨a0, a1, a2, a3⟩ := hargs c
  refine ⟨e0.trans ((Cert.Reference7Ideal.Read.val_main_v23_eq _ _ _ _).symm.trans ?_),
    e1.trans ((Cert.Reference7Ideal.Read.val_main_v4_eq _ _).symm.trans ?_),
    e2.trans ((Cert.Reference7Ideal.Read.val_main_v10_eq _ _).symm.trans ?_), kept⟩
  · rw [a0, a1, a2, a3]
    exact Cert.Kernel7Ideal.AdamWIn.reference_delta _ _ _ _
  · rw [a1, a2]
    exact Cert.Kernel7Ideal.AdamWIn.reference_moment _ _
  · rw [a1, a3]
    exact Cert.Kernel7Ideal.AdamWIn.reference_second _ _

end
-- ==== Proof.AdamWMod.lean ====
/-
  The optimiser's step on a device's part of `w_mod`: 16 blocks of 128 rows, every entry on its own (programs
  `Kernel8Ideal` and `Reference8Ideal`).
-/
module

public import proofs.«01_k».proof.Proof.Gen.Kernel8Ideal.Value
public import proofs.«01_k».proof.Proof.Gen.Reference8Ideal.Read
public import proofs.«01_k».proof.Proof.AdamW
public import proofs.«01_k».proof.Defs

@[expose] public section

set_option maxRecDepth 16384

noncomputable section

open Idealize.ShloMosaic Idealize.ShloMosaic.TcCoe Idealize.SL.Sem

namespace Cert.Kernel8Ideal.AdamWMod

open Cert.Kernel8Ideal Cert.Kernel8Ideal.Gen

variable (m : (ℓ : Loc nD τ sig) → Buf (Elt Ideal) ℓ) (ρ : Dev nD → PrngReg)

/-- The weight, its gradient and its two moments as the program's start finds them. -/
def argW (c : Dev nD) : FVec Ideal S2048x1536 .f32 := m ((c.tc : Thread nD τ).loc main_arg0)
def argG (c : Dev nD) : FVec Ideal S2048x1536 .f32 := m ((c.tc : Thread nD τ).loc main_arg1)
def argM (c : Dev nD) : FVec Ideal S2048x1536 .f32 := m ((c.tc : Thread nD τ).loc main_arg2)
def argV (c : Dev nD) : FVec Ideal S2048x1536 .f32 := m ((c.tc : Thread nD τ).loc main_arg3)

/-- The three results. -/
def delta (c : Dev nD) : FVec Ideal S2048x1536 .f32 := fun i => Cert.AdamW.delta (argW m c i) (argG m c i) (argM m c i) (argV m c i)
def moment (c : Dev nD) : FVec Ideal S2048x1536 .f32 := fun i => Cert.AdamW.moment (argG m c i) (argM m c i)
def second (c : Dev nD) : FVec Ideal S2048x1536 .f32 := fun i => Cert.AdamW.second (argG m c i) (argV m c i)

/-! ## The reference's terms, entry by entry -/

theorem reference_delta (x0 x1 x2 x3 : FVec Ideal S2048x1536 .f32) :
    Cert.Reference8Ideal.Read.val_main_v23 (F := Ideal) x0 x1 x2 x3 = fun i => Cert.AdamW.delta (x0 i) (x1 i) (x2 i) (x3 i) := by
  funext i
  rfl

theorem reference_moment (x1 x2 : FVec Ideal S2048x1536 .f32) :
    Cert.Reference8Ideal.Read.val_main_v4 (F := Ideal) x1 x2 = fun i => Cert.AdamW.moment (x1 i) (x2 i) := by
  funext i
  rfl

theorem reference_second (x1 x3 : FVec Ideal S2048x1536 .f32) :
    Cert.Reference8Ideal.Read.val_main_v10 (F := Ideal) x1 x3 = fun i => Cert.AdamW.second (x1 i) (x3 i) := by
  funext i
  rfl

end Cert.Kernel8Ideal.AdamWMod

/-- The claim: over the extended reals the kernel's three results are the reference's. -/
theorem Cert.AdamWMod.algebraic : Cert.algebraic_Kernel8Ideal_Reference8Ideal := by
  intro m g m' g' _ hargs
  refine ⟨fun c => Cert.Kernel8Ideal.AdamWMod.delta m c, fun c => Cert.Kernel8Ideal.AdamWMod.moment m c, fun c => Cert.Kernel8Ideal.AdamWMod.second m c, Cert.Kernel8Ideal.Value.run (F := Ideal) m g, ?_⟩
  refine (θ_run _ _ _).mono (fun r h c => ?_) (Cert.Reference8Ideal.Value.run (F := Ideal) m' g')
  obtain ⟨e0, e1, e2, kept⟩ := h c
  obtain ⟨a0, a1, a2, a3⟩ := hargs c
  refine ⟨e0.trans ((Cert.Reference8Ideal.Read.val_main_v23_eq _ _ _ _).symm.trans ?_),
    e1.trans ((Cert.Reference8Ideal.Read.val_main_v4_eq _ _).symm.trans ?_),
    e2.trans ((Cert.Reference8Ideal.Read.val_main_v10_eq _ _).symm.trans ?_), kept⟩
  · rw [a0, a1, a2, a3]
    exact Cert.Kernel8Ideal.AdamWMod.reference_delta _ _ _ _
  · rw [a1, a2]
    exact Cert.Kernel8Ideal.AdamWMod.reference_moment _ _
  · rw [a1, a3]
    exact Cert.Kernel8Ideal.AdamWMod.reference_second _ _

end
-- ==== Proof.AdamWPack.lean ====
/-
  The optimiser's step on the ten small arrays, packed into one block of 24 rows of 1024 entries, every entry on its own: how the
  arrays are packed and cut out again (program `Kernel9Ideal`).
-/
module

public import proofs.«01_k».proof.Proof.Gen.Kernel9Ideal.Frame
public import Idealize.ShloMosaic.Lib.Pipeline.Value
public import Idealize.ShloMosaic.Lib.KernelVsHost
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel9Ideal.AdamWSmall

open Cert.Kernel9Ideal Cert.Kernel9Ideal.Gen

/-! ## The packing: the ten arrays one after the other, padded to 24 rows of 1024 -/

/-- The ten flattened arrays one after the other, padded. -/
def row (y0 : FVec Ideal S2048 .f32) (y1 : FVec Ideal S6144 .f32) (y2 : FVec Ideal S4608 .f32) (y3 : FVec Ideal S2048 .f32) (y4 : FVec Ideal S1024 .f32) (y5 : FVec Ideal S16 .f32) (y6 : FVec Ideal S1024 .f32) (y7 : FVec Ideal S1024 .f32) (y8 : FVec Ideal S2048 .f32) (y9 : FVec Ideal S2048 .f32) : FVec Ideal S24576 .f32 :=
  pad S24576 ![0] ![2544] ![0] (concatenate S22032 0 [⟨S2048, y0⟩, ⟨S6144, y1⟩, ⟨S4608, y2⟩, ⟨S2048, y3⟩, ⟨S1024, y4⟩, ⟨S16, y5⟩, ⟨S1024, y6⟩, ⟨S1024, y7⟩, ⟨S2048, y8⟩, ⟨S2048, y9⟩] concatenates_S2048_S6144_S4608_S2048_S1024_S16_S1024_S1024_S2048_S2048_S22032_d0)
    (sitofp (F := Ideal) .f32 (constantI S_ 32 0#32)) pads_S22032_S24576_025440 h_S_

/-- The packed block. -/
def pack (x0 : FVec Ideal S2048 .f32) (x1 : FVec Ideal S1x6144 .f32) (x2 : FVec Ideal S1x3x3x512 .f32) (x3 : FVec Ideal S1x2048 .f32) (x4 : FVec Ideal S2x2x256 .f32) (x5 : FVec Ideal S1x4x4 .f32) (x6 : FVec Ideal S1x1024 .f32) (x7 : FVec Ideal S1x1024 .f32) (x8 : FVec Ideal S1x2048 .f32) (x9 : FVec Ideal S1x2048 .f32) : FVec Ideal S24x1024 .f32 :=
  shapeCast S24x1024 (row x0 (shapeCast S6144 x1 shapeCasts_S1x6144_S6144) (shapeCast S4608 x2 shapeCasts_S1x3x3x512_S4608) (shapeCast S2048 x3 shapeCasts_S1x2048_S2048) (shapeCast S1024 x4 shapeCasts_S2x2x256_S1024) (shapeCast S16 x5 shapeCasts_S1x4x4_S16) (shapeCast S1024 x6 shapeCasts_S1x1024_S1024) (shapeCast S1024 x7 shapeCasts_S1x1024_S1024) (shapeCast S2048 x8 shapeCasts_S1x2048_S2048) (shapeCast S2048 x9 shapeCasts_S1x2048_S2048)) shapeCasts_S24576_S24x1024

/-- Piece 0 of a packed block. -/
def piece0 (z : FVec Ideal S24x1024 .f32) : FVec Ideal S2048 .f32 :=
  extractStridedSlice S2048 ![0] (shapeCast S24576 z shapeCasts_S24x1024_S24576) slices_S24576_S2048_0

theorem row_piece0 (y0 : FVec Ideal S2048 .f32) (y1 : FVec Ideal S6144 .f32) (y2 : FVec Ideal S4608 .f32) (y3 : FVec Ideal S2048 .f32) (y4 : FVec Ideal S1024 .f32) (y5 : FVec Ideal S16 .f32) (y6 : FVec Ideal S1024 .f32) (y7 : FVec Ideal S1024 .f32) (y8 : FVec Ideal S2048 .f32) (y9 : FVec Ideal S2048 .f32) :
    extractStridedSlice S2048 ![0] (row y0 y1 y2 y3 y4 y5 y6 y7 y8 y9) slices_S24576_S2048_0 = y0 := by
  funext x
  obtain ⟨j, rfl⟩ : ∃ j : Fin 2048, x = ix1 j := ⟨x 0, eq_ix1 x⟩
  have hj := j.isLt
  rw [extractStridedSlice_apply _ _ _ (ix1 j) (ix1 ⟨0 + j.val, by omega⟩ : S24576.Idx) (fun a => match a with | ⟨0, _⟩ => rfl)]
  unfold row
  rw [pad_apply_of_inside _ _ _ _ _ _ _ (ix1 ⟨0 + j.val, by omega⟩ : S24576.Idx) (ix1 ⟨0 + j.val, by omega⟩ : S22032.Idx)
    (fun a => match a with | ⟨0, _⟩ => (by show 0 + j.val = 0 + (0 + j.val) * (0 + 1); omega))]
  have total : (([] : List Shape).map fun s => if h : s.rank = S22032.rank then s.size ((0 : Fin S22032.rank).cast h.symm) else 0).sum = 0 := by
    decide +kernel
  exact concatenate_apply_piece (t := S22032) 0 [⟨S2048, y0⟩, ⟨S6144, y1⟩, ⟨S4608, y2⟩, ⟨S2048, y3⟩, ⟨S1024, y4⟩, ⟨S16, y5⟩, ⟨S1024, y6⟩, ⟨S1024, y7⟩, ⟨S2048, y8⟩, ⟨S2048, y9⟩] concatenates_S2048_S6144_S4608_S2048_S1024_S16_S1024_S1024_S2048_S2048_S22032_d0 _ 0 (by simp) S2048 y0 rfl rfl 0 total (ix1 j)
    (fun b hb => absurd (Fin.ext (by have e : b.val < 1 := b.isLt; show b.val = 0; omega)) hb) rfl

theorem piece0_pack (x0 : FVec Ideal S2048 .f32) (x1 : FVec Ideal S1x6144 .f32) (x2 : FVec Ideal S1x3x3x512 .f32) (x3 : FVec Ideal S1x2048 .f32) (x4 : FVec Ideal S2x2x256 .f32) (x5 : FVec Ideal S1x4x4 .f32) (x6 : FVec Ideal S1x1024 .f32) (x7 : FVec Ideal S1x1024 .f32) (x8 : FVec Ideal S1x2048 .f32) (x9 : FVec Ideal S1x2048 .f32) : piece0 (pack x0 x1 x2 x3 x4 x5 x6 x7 x8 x9) = x0 := by
  unfold piece0 pack
  rw [shapeCast_shapeCast, row_piece0]

/-- Piece 1 of a packed block. -/
def piece1 (z : FVec Ideal S24x1024 .f32) : FVec Ideal S1x6144 .f32 :=
  shapeCast S1x6144 (extractStridedSlice S6144 ![2048] (shapeCast S24576 z shapeCasts_S24x1024_S24576) slices_S24576_S6144_2048) shapeCasts_S6144_S1x6144

theorem row_piece1 (y0 : FVec Ideal S2048 .f32) (y1 : FVec Ideal S6144 .f32) (y2 : FVec Ideal S4608 .f32) (y3 : FVec Ideal S2048 .f32) (y4 : FVec Ideal S1024 .f32) (y5 : FVec Ideal S16 .f32) (y6 : FVec Ideal S1024 .f32) (y7 : FVec Ideal S1024 .f32) (y8 : FVec Ideal S2048 .f32) (y9 : FVec Ideal S2048 .f32) :
    extractStridedSlice S6144 ![2048] (row y0 y1 y2 y3 y4 y5 y6 y7 y8 y9) slices_S24576_S6144_2048 = y1 := by
  funext x
  obtain ⟨j, rfl⟩ : ∃ j : Fin 6144, x = ix1 j := ⟨x 0, eq_ix1 x⟩
  have hj := j.isLt
  rw [extractStridedSlice_apply _ _ _ (ix1 j) (ix1 ⟨2048 + j.val, by omega⟩ : S24576.Idx) (fun a => match a with | ⟨0, _⟩ => rfl)]
  unfold row
  rw [pad_apply_of_inside _ _ _ _ _ _ _ (ix1 ⟨2048 + j.val, by omega⟩ : S24576.Idx) (ix1 ⟨2048 + j.val, by omega⟩ : S22032.Idx)
    (fun a => match a with | ⟨0, _⟩ => (by show 2048 + j.val = 0 + (2048 + j.val) * (0 + 1); omega))]
  have total : (([S2048] : List Shape).map fun s => if h : s.rank = S22032.rank then s.size ((0 : Fin S22032.rank).cast h.symm) else 0).sum = 2048 := by
    decide +kernel
  exact concatenate_apply_piece (t := S22032) 0 [⟨S2048, y0⟩, ⟨S6144, y1⟩, ⟨S4608, y2⟩, ⟨S2048, y3⟩, ⟨S1024, y4⟩, ⟨S16, y5⟩, ⟨S1024, y6⟩, ⟨S1024, y7⟩, ⟨S2048, y8⟩, ⟨S2048, y9⟩] concatenates_S2048_S6144_S4608_S2048_S1024_S16_S1024_S1024_S2048_S2048_S22032_d0 _ 1 (by simp) S6144 y1 rfl rfl 2048 total (ix1 j)
    (fun b hb => absurd (Fin.ext (by have e : b.val < 1 := b.isLt; show b.val = 0; omega)) hb) rfl

theorem piece1_pack (x0 : FVec Ideal S2048 .f32) (x1 : FVec Ideal S1x6144 .f32) (x2 : FVec Ideal S1x3x3x512 .f32) (x3 : FVec Ideal S1x2048 .f32) (x4 : FVec Ideal S2x2x256 .f32) (x5 : FVec Ideal S1x4x4 .f32) (x6 : FVec Ideal S1x1024 .f32) (x7 : FVec Ideal S1x1024 .f32) (x8 : FVec Ideal S1x2048 .f32) (x9 : FVec Ideal S1x2048 .f32) : piece1 (pack x0 x1 x2 x3 x4 x5 x6 x7 x8 x9) = x1 := by
  unfold piece1 pack
  rw [shapeCast_shapeCast, row_piece1]
  exact shapeCast_shapeCast _ _ _

/-- Piece 2 of a packed block. -/
def piece2 (z : FVec Ideal S24x1024 .f32) : FVec Ideal S1x3x3x512 .f32 :=
  shapeCast S1x3x3x512 (extractStridedSlice S4608 ![8192] (shapeCast S24576 z shapeCasts_S24x1024_S24576) slices_S24576_S4608_8192) shapeCasts_S4608_S1x3x3x512

theorem row_piece2 (y0 : FVec Ideal S2048 .f32) (y1 : FVec Ideal S6144 .f32) (y2 : FVec Ideal S4608 .f32) (y3 : FVec Ideal S2048 .f32) (y4 : FVec Ideal S1024 .f32) (y5 : FVec Ideal S16 .f32) (y6 : FVec Ideal S1024 .f32) (y7 : FVec Ideal S1024 .f32) (y8 : FVec Ideal S2048 .f32) (y9 : FVec Ideal S2048 .f32) :
    extractStridedSlice S4608 ![8192] (row y0 y1 y2 y3 y4 y5 y6 y7 y8 y9) slices_S24576_S4608_8192 = y2 := by
  funext x
  obtain ⟨j, rfl⟩ : ∃ j : Fin 4608, x = ix1 j := ⟨x 0, eq_ix1 x⟩
  have hj := j.isLt
  rw [extractStridedSlice_apply _ _ _ (ix1 j) (ix1 ⟨8192 + j.val, by omega⟩ : S24576.Idx) (fun a => match a with | ⟨0, _⟩ => rfl)]
  unfold row
  rw [pad_apply_of_inside _ _ _ _ _ _ _ (ix1 ⟨8192 + j.val, by omega⟩ : S24576.Idx) (ix1 ⟨8192 + j.val, by omega⟩ : S22032.Idx)
    (fun a => match a with | ⟨0, _⟩ => (by show 8192 + j.val = 0 + (8192 + j.val) * (0 + 1); omega))]
  have total : (([S2048, S6144] : List Shape).map fun s => if h : s.rank = S22032.rank then s.size ((0 : Fin S22032.rank).cast h.symm) else 0).sum = 8192 := by
    decide +kernel
  exact concatenate_apply_piece (t := S22032) 0 [⟨S2048, y0⟩, ⟨S6144, y1⟩, ⟨S4608, y2⟩, ⟨S2048, y3⟩, ⟨S1024, y4⟩, ⟨S16, y5⟩, ⟨S1024, y6⟩, ⟨S1024, y7⟩, ⟨S2048, y8⟩, ⟨S2048, y9⟩] concatenates_S2048_S6144_S4608_S2048_S1024_S16_S1024_S1024_S2048_S2048_S22032_d0 _ 2 (by simp) S4608 y2 rfl rfl 8192 total (ix1 j)
    (fun b hb => absurd (Fin.ext (by have e : b.val < 1 := b.isLt; show b.val = 0; omega)) hb) rfl

theorem piece2_pack (x0 : FVec Ideal S2048 .f32) (x1 : FVec Ideal S1x6144 .f32) (x2 : FVec Ideal S1x3x3x512 .f32) (x3 : FVec Ideal S1x2048 .f32) (x4 : FVec Ideal S2x2x256 .f32) (x5 : FVec Ideal S1x4x4 .f32) (x6 : FVec Ideal S1x1024 .f32) (x7 : FVec Ideal S1x1024 .f32) (x8 : FVec Ideal S1x2048 .f32) (x9 : FVec Ideal S1x2048 .f32) : piece2 (pack x0 x1 x2 x3 x4 x5 x6 x7 x8 x9) = x2 := by
  unfold piece2 pack
  rw [shapeCast_shapeCast, row_piece2]
  exact shapeCast_shapeCast _ _ _

/-- Piece 3 of a packed block. -/
def piece3 (z : FVec Ideal S24x1024 .f32) : FVec Ideal S1x2048 .f32 :=
  shapeCast S1x2048 (extractStridedSlice S2048 ![12800] (shapeCast S24576 z shapeCasts_S24x1024_S24576) slices_S24576_S2048_12800) shapeCasts_S2048_S1x2048

theorem row_piece3 (y0 : FVec Ideal S2048 .f32) (y1 : FVec Ideal S6144 .f32) (y2 : FVec Ideal S4608 .f32) (y3 : FVec Ideal S2048 .f32) (y4 : FVec Ideal S1024 .f32) (y5 : FVec Ideal S16 .f32) (y6 : FVec Ideal S1024 .f32) (y7 : FVec Ideal S1024 .f32) (y8 : FVec Ideal S2048 .f32) (y9 : FVec Ideal S2048 .f32) :
    extractStridedSlice S2048 ![12800] (row y0 y1 y2 y3 y4 y5 y6 y7 y8 y9) slices_S24576_S2048_12800 = y3 := by
  funext x
  obtain ⟨j, rfl⟩ : ∃ j : Fin 2048, x = ix1 j := ⟨x 0, eq_ix1 x⟩
  have hj := j.isLt
  rw [extractStridedSlice_apply _ _ _ (ix1 j) (ix1 ⟨12800 + j.val, by omega⟩ : S24576.Idx) (fun a => match a with | ⟨0, _⟩ => rfl)]
  unfold row
  rw [pad_apply_of_inside _ _ _ _ _ _ _ (ix1 ⟨12800 + j.val, by omega⟩ : S24576.Idx) (ix1 ⟨12800 + j.val, by omega⟩ : S22032.Idx)
    (fun a => match a with | ⟨0, _⟩ => (by show 12800 + j.val = 0 + (12800 + j.val) * (0 + 1); omega))]
  have total : (([S2048, S6144, S4608] : List Shape).map fun s => if h : s.rank = S22032.rank then s.size ((0 : Fin S22032.rank).cast h.symm) else 0).sum = 12800 := by
    decide +kernel
  exact concatenate_apply_piece (t := S22032) 0 [⟨S2048, y0⟩, ⟨S6144, y1⟩, ⟨S4608, y2⟩, ⟨S2048, y3⟩, ⟨S1024, y4⟩, ⟨S16, y5⟩, ⟨S1024, y6⟩, ⟨S1024, y7⟩, ⟨S2048, y8⟩, ⟨S2048, y9⟩] concatenates_S2048_S6144_S4608_S2048_S1024_S16_S1024_S1024_S2048_S2048_S22032_d0 _ 3 (by simp) S2048 y3 rfl rfl 12800 total (ix1 j)
    (fun b hb => absurd (Fin.ext (by have e : b.val < 1 := b.isLt; show b.val = 0; omega)) hb) rfl

theorem piece3_pack (x0 : FVec Ideal S2048 .f32) (x1 : FVec Ideal S1x6144 .f32) (x2 : FVec Ideal S1x3x3x512 .f32) (x3 : FVec Ideal S1x2048 .f32) (x4 : FVec Ideal S2x2x256 .f32) (x5 : FVec Ideal S1x4x4 .f32) (x6 : FVec Ideal S1x1024 .f32) (x7 : FVec Ideal S1x1024 .f32) (x8 : FVec Ideal S1x2048 .f32) (x9 : FVec Ideal S1x2048 .f32) : piece3 (pack x0 x1 x2 x3 x4 x5 x6 x7 x8 x9) = x3 := by
  unfold piece3 pack
  rw [shapeCast_shapeCast, row_piece3]
  exact shapeCast_shapeCast _ _ _

/-- Piece 4 of a packed block. -/
def piece4 (z : FVec Ideal S24x1024 .f32) : FVec Ideal S2x2x256 .f32 :=
  shapeCast S2x2x256 (extractStridedSlice S1024 ![14848] (shapeCast S24576 z shapeCasts_S24x1024_S24576) slices_S24576_S1024_14848) shapeCasts_S1024_S2x2x256

theorem row_piece4 (y0 : FVec Ideal S2048 .f32) (y1 : FVec Ideal S6144 .f32) (y2 : FVec Ideal S4608 .f32) (y3 : FVec Ideal S2048 .f32) (y4 : FVec Ideal S1024 .f32) (y5 : FVec Ideal S16 .f32) (y6 : FVec Ideal S1024 .f32) (y7 : FVec Ideal S1024 .f32) (y8 : FVec Ideal S2048 .f32) (y9 : FVec Ideal S2048 .f32) :
    extractStridedSlice S1024 ![14848] (row y0 y1 y2 y3 y4 y5 y6 y7 y8 y9) slices_S24576_S1024_14848 = y4 := by
  funext x
  obtain ⟨j, rfl⟩ : ∃ j : Fin 1024, x = ix1 j := ⟨x 0, eq_ix1 x⟩
  have hj := j.isLt
  rw [extractStridedSlice_apply _ _ _ (ix1 j) (ix1 ⟨14848 + j.val, by omega⟩ : S24576.Idx) (fun a => match a with | ⟨0, _⟩ => rfl)]
  unfold row
  rw [pad_apply_of_inside _ _ _ _ _ _ _ (ix1 ⟨14848 + j.val, by omega⟩ : S24576.Idx) (ix1 ⟨14848 + j.val, by omega⟩ : S22032.Idx)
    (fun a => match a with | ⟨0, _⟩ => (by show 14848 + j.val = 0 + (14848 + j.val) * (0 + 1); omega))]
  have total : (([S2048, S6144, S4608, S2048] : List Shape).map fun s => if h : s.rank = S22032.rank then s.size ((0 : Fin S22032.rank).cast h.symm) else 0).sum = 14848 := by
    decide +kernel
  exact concatenate_apply_piece (t := S22032) 0 [⟨S2048, y0⟩, ⟨S6144, y1⟩, ⟨S4608, y2⟩, ⟨S2048, y3⟩, ⟨S1024, y4⟩, ⟨S16, y5⟩, ⟨S1024, y6⟩, ⟨S1024, y7⟩, ⟨S2048, y8⟩, ⟨S2048, y9⟩] concatenates_S2048_S6144_S4608_S2048_S1024_S16_S1024_S1024_S2048_S2048_S22032_d0 _ 4 (by simp) S1024 y4 rfl rfl 14848 total (ix1 j)
    (fun b hb => absurd (Fin.ext (by have e : b.val < 1 := b.isLt; show b.val = 0; omega)) hb) rfl

theorem piece4_pack (x0 : FVec Ideal S2048 .f32) (x1 : FVec Ideal S1x6144 .f32) (x2 : FVec Ideal S1x3x3x512 .f32) (x3 : FVec Ideal S1x2048 .f32) (x4 : FVec Ideal S2x2x256 .f32) (x5 : FVec Ideal S1x4x4 .f32) (x6 : FVec Ideal S1x1024 .f32) (x7 : FVec Ideal S1x1024 .f32) (x8 : FVec Ideal S1x2048 .f32) (x9 : FVec Ideal S1x2048 .f32) : piece4 (pack x0 x1 x2 x3 x4 x5 x6 x7 x8 x9) = x4 := by
  unfold piece4 pack
  rw [shapeCast_shapeCast, row_piece4]
  exact shapeCast_shapeCast _ _ _

/-- Piece 5 of a packed block. -/
def piece5 (z : FVec Ideal S24x1024 .f32) : FVec Ideal S1x4x4 .f32 :=
  shapeCast S1x4x4 (extractStridedSlice S16 ![15872] (shapeCast S24576 z shapeCasts_S24x1024_S24576) slices_S24576_S16_15872) shapeCasts_S16_S1x4x4

theorem row_piece5 (y0 : FVec Ideal S2048 .f32) (y1 : FVec Ideal S6144 .f32) (y2 : FVec Ideal S4608 .f32) (y3 : FVec Ideal S2048 .f32) (y4 : FVec Ideal S1024 .f32) (y5 : FVec Ideal S16 .f32) (y6 : FVec Ideal S1024 .f32) (y7 : FVec Ideal S1024 .f32) (y8 : FVec Ideal S2048 .f32) (y9 : FVec Ideal S2048 .f32) :
    extractStridedSlice S16 ![15872] (row y0 y1 y2 y3 y4 y5 y6 y7 y8 y9) slices_S24576_S16_15872 = y5 := by
  funext x
  obtain ⟨j, rfl⟩ : ∃ j : Fin 16, x = ix1 j := ⟨x 0, eq_ix1 x⟩
  have hj := j.isLt
  rw [extractStridedSlice_apply _ _ _ (ix1 j) (ix1 ⟨15872 + j.val, by omega⟩ : S24576.Idx) (fun a => match a with | ⟨0, _⟩ => rfl)]
  unfold row
  rw [pad_apply_of_inside _ _ _ _ _ _ _ (ix1 ⟨15872 + j.val, by omega⟩ : S24576.Idx) (ix1 ⟨15872 + j.val, by omega⟩ : S22032.Idx)
    (fun a => match a with | ⟨0, _⟩ => (by show 15872 + j.val = 0 + (15872 + j.val) * (0 + 1); omega))]
  have total : (([S2048, S6144, S4608, S2048, S1024] : List Shape).map fun s => if h : s.rank = S22032.rank then s.size ((0 : Fin S22032.rank).cast h.symm) else 0).sum = 15872 := by
    decide +kernel
  exact concatenate_apply_piece (t := S22032) 0 [⟨S2048, y0⟩, ⟨S6144, y1⟩, ⟨S4608, y2⟩, ⟨S2048, y3⟩, ⟨S1024, y4⟩, ⟨S16, y5⟩, ⟨S1024, y6⟩, ⟨S1024, y7⟩, ⟨S2048, y8⟩, ⟨S2048, y9⟩] concatenates_S2048_S6144_S4608_S2048_S1024_S16_S1024_S1024_S2048_S2048_S22032_d0 _ 5 (by simp) S16 y5 rfl rfl 15872 total (ix1 j)
    (fun b hb => absurd (Fin.ext (by have e : b.val < 1 := b.isLt; show b.val = 0; omega)) hb) rfl

theorem piece5_pack (x0 : FVec Ideal S2048 .f32) (x1 : FVec Ideal S1x6144 .f32) (x2 : FVec Ideal S1x3x3x512 .f32) (x3 : FVec Ideal S1x2048 .f32) (x4 : FVec Ideal S2x2x256 .f32) (x5 : FVec Ideal S1x4x4 .f32) (x6 : FVec Ideal S1x1024 .f32) (x7 : FVec Ideal S1x1024 .f32) (x8 : FVec Ideal S1x2048 .f32) (x9 : FVec Ideal S1x2048 .f32) : piece5 (pack x0 x1 x2 x3 x4 x5 x6 x7 x8 x9) = x5 := by
  unfold piece5 pack
  rw [shapeCast_shapeCast, row_piece5]
  exact shapeCast_shapeCast _ _ _

/-- Piece 6 of a packed block. -/
def piece6 (z : FVec Ideal S24x1024 .f32) : FVec Ideal S1x1024 .f32 :=
  shapeCast S1x1024 (extractStridedSlice S1024 ![15888] (shapeCast S24576 z shapeCasts_S24x1024_S24576) slices_S24576_S1024_15888) shapeCasts_S1024_S1x1024

theorem row_piece6 (y0 : FVec Ideal S2048 .f32) (y1 : FVec Ideal S6144 .f32) (y2 : FVec Ideal S4608 .f32) (y3 : FVec Ideal S2048 .f32) (y4 : FVec Ideal S1024 .f32) (y5 : FVec Ideal S16 .f32) (y6 : FVec Ideal S1024 .f32) (y7 : FVec Ideal S1024 .f32) (y8 : FVec Ideal S2048 .f32) (y9 : FVec Ideal S2048 .f32) :
    extractStridedSlice S1024 ![15888] (row y0 y1 y2 y3 y4 y5 y6 y7 y8 y9) slices_S24576_S1024_15888 = y6 := by
  funext x
  obtain ⟨j, rfl⟩ : ∃ j : Fin 1024, x = ix1 j := ⟨x 0, eq_ix1 x⟩
  have hj := j.isLt
  rw [extractStridedSlice_apply _ _ _ (ix1 j) (ix1 ⟨15888 + j.val, by omega⟩ : S24576.Idx) (fun a => match a with | ⟨0, _⟩ => rfl)]
  unfold row
  rw [pad_apply_of_inside _ _ _ _ _ _ _ (ix1 ⟨15888 + j.val, by omega⟩ : S24576.Idx) (ix1 ⟨15888 + j.val, by omega⟩ : S22032.Idx)
    (fun a => match a with | ⟨0, _⟩ => (by show 15888 + j.val = 0 + (15888 + j.val) * (0 + 1); omega))]
  have total : (([S2048, S6144, S4608, S2048, S1024, S16] : List Shape).map fun s => if h : s.rank = S22032.rank then s.size ((0 : Fin S22032.rank).cast h.symm) else 0).sum = 15888 := by
    decide +kernel
  exact concatenate_apply_piece (t := S22032) 0 [⟨S2048, y0⟩, ⟨S6144, y1⟩, ⟨S4608, y2⟩, ⟨S2048, y3⟩, ⟨S1024, y4⟩, ⟨S16, y5⟩, ⟨S1024, y6⟩, ⟨S1024, y7⟩, ⟨S2048, y8⟩, ⟨S2048, y9⟩] concatenates_S2048_S6144_S4608_S2048_S1024_S16_S1024_S1024_S2048_S2048_S22032_d0 _ 6 (by simp) S1024 y6 rfl rfl 15888 total (ix1 j)
    (fun b hb => absurd (Fin.ext (by have e : b.val < 1 := b.isLt; show b.val = 0; omega)) hb) rfl

theorem piece6_pack (x0 : FVec Ideal S2048 .f32) (x1 : FVec Ideal S1x6144 .f32) (x2 : FVec Ideal S1x3x3x512 .f32) (x3 : FVec Ideal S1x2048 .f32) (x4 : FVec Ideal S2x2x256 .f32) (x5 : FVec Ideal S1x4x4 .f32) (x6 : FVec Ideal S1x1024 .f32) (x7 : FVec Ideal S1x1024 .f32) (x8 : FVec Ideal S1x2048 .f32) (x9 : FVec Ideal S1x2048 .f32) : piece6 (pack x0 x1 x2 x3 x4 x5 x6 x7 x8 x9) = x6 := by
  unfold piece6 pack
  rw [shapeCast_shapeCast, row_piece6]
  exact shapeCast_shapeCast _ _ _

/-- Piece 7 of a packed block. -/
def piece7 (z : FVec Ideal S24x1024 .f32) : FVec Ideal S1x1024 .f32 :=
  shapeCast S1x1024 (extractStridedSlice S1024 ![16912] (shapeCast S24576 z shapeCasts_S24x1024_S24576) slices_S24576_S1024_16912) shapeCasts_S1024_S1x1024

theorem row_piece7 (y0 : FVec Ideal S2048 .f32) (y1 : FVec Ideal S6144 .f32) (y2 : FVec Ideal S4608 .f32) (y3 : FVec Ideal S2048 .f32) (y4 : FVec Ideal S1024 .f32) (y5 : FVec Ideal S16 .f32) (y6 : FVec Ideal S1024 .f32) (y7 : FVec Ideal S1024 .f32) (y8 : FVec Ideal S2048 .f32) (y9 : FVec Ideal S2048 .f32) :
    extractStridedSlice S1024 ![16912] (row y0 y1 y2 y3 y4 y5 y6 y7 y8 y9) slices_S24576_S1024_16912 = y7 := by
  funext x
  obtain ⟨j, rfl⟩ : ∃ j : Fin 1024, x = ix1 j := ⟨x 0, eq_ix1 x⟩
  have hj := j.isLt
  rw [extractStridedSlice_apply _ _ _ (ix1 j) (ix1 ⟨16912 + j.val, by omega⟩ : S24576.Idx) (fun a => match a with | ⟨0, _⟩ => rfl)]
  unfold row
  rw [pad_apply_of_inside _ _ _ _ _ _ _ (ix1 ⟨16912 + j.val, by omega⟩ : S24576.Idx) (ix1 ⟨16912 + j.val, by omega⟩ : S22032.Idx)
    (fun a => match a with | ⟨0, _⟩ => (by show 16912 + j.val = 0 + (16912 + j.val) * (0 + 1); omega))]
  have total : (([S2048, S6144, S4608, S2048, S1024, S16, S1024] : List Shape).map fun s => if h : s.rank = S22032.rank then s.size ((0 : Fin S22032.rank).cast h.symm) else 0).sum = 16912 := by
    decide +kernel
  exact concatenate_apply_piece (t := S22032) 0 [⟨S2048, y0⟩, ⟨S6144, y1⟩, ⟨S4608, y2⟩, ⟨S2048, y3⟩, ⟨S1024, y4⟩, ⟨S16, y5⟩, ⟨S1024, y6⟩, ⟨S1024, y7⟩, ⟨S2048, y8⟩, ⟨S2048, y9⟩] concatenates_S2048_S6144_S4608_S2048_S1024_S16_S1024_S1024_S2048_S2048_S22032_d0 _ 7 (by simp) S1024 y7 rfl rfl 16912 total (ix1 j)
    (fun b hb => absurd (Fin.ext (by have e : b.val < 1 := b.isLt; show b.val = 0; omega)) hb) rfl

theorem piece7_pack (x0 : FVec Ideal S2048 .f32) (x1 : FVec Ideal S1x6144 .f32) (x2 : FVec Ideal S1x3x3x512 .f32) (x3 : FVec Ideal S1x2048 .f32) (x4 : FVec Ideal S2x2x256 .f32) (x5 : FVec Ideal S1x4x4 .f32) (x6 : FVec Ideal S1x1024 .f32) (x7 : FVec Ideal S1x1024 .f32) (x8 : FVec Ideal S1x2048 .f32) (x9 : FVec Ideal S1x2048 .f32) : piece7 (pack x0 x1 x2 x3 x4 x5 x6 x7 x8 x9) = x7 := by
  unfold piece7 pack
  rw [shapeCast_shapeCast, row_piece7]
  exact shapeCast_shapeCast _ _ _

/-- Piece 8 of a packed block. -/
def piece8 (z : FVec Ideal S24x1024 .f32) : FVec Ideal S1x2048 .f32 :=
  shapeCast S1x2048 (extractStridedSlice S2048 ![17936] (shapeCast S24576 z shapeCasts_S24x1024_S24576) slices_S24576_S2048_17936) shapeCasts_S2048_S1x2048

theorem row_piece8 (y0 : FVec Ideal S2048 .f32) (y1 : FVec Ideal S6144 .f32) (y2 : FVec Ideal S4608 .f32) (y3 : FVec Ideal S2048 .f32) (y4 : FVec Ideal S1024 .f32) (y5 : FVec Ideal S16 .f32) (y6 : FVec Ideal S1024 .f32) (y7 : FVec Ideal S1024 .f32) (y8 : FVec Ideal S2048 .f32) (y9 : FVec Ideal S2048 .f32) :
    extractStridedSlice S2048 ![17936] (row y0 y1 y2 y3 y4 y5 y6 y7 y8 y9) slices_S24576_S2048_17936 = y8 := by
  funext x
  obtain ⟨j, rfl⟩ : ∃ j : Fin 2048, x = ix1 j := ⟨x 0, eq_ix1 x⟩
  have hj := j.isLt
  rw [extractStridedSlice_apply _ _ _ (ix1 j) (ix1 ⟨17936 + j.val, by omega⟩ : S24576.Idx) (fun a => match a with | ⟨0, _⟩ => rfl)]
  unfold row
  rw [pad_apply_of_inside _ _ _ _ _ _ _ (ix1 ⟨17936 + j.val, by omega⟩ : S24576.Idx) (ix1 ⟨17936 + j.val, by omega⟩ : S22032.Idx)
    (fun a => match a with | ⟨0, _⟩ => (by show 17936 + j.val = 0 + (17936 + j.val) * (0 + 1); omega))]
  have total : (([S2048, S6144, S4608, S2048, S1024, S16, S1024, S1024] : List Shape).map fun s => if h : s.rank = S22032.rank then s.size ((0 : Fin S22032.rank).cast h.symm) else 0).sum = 17936 := by
    decide +kernel
  exact concatenate_apply_piece (t := S22032) 0 [⟨S2048, y0⟩, ⟨S6144, y1⟩, ⟨S4608, y2⟩, ⟨S2048, y3⟩, ⟨S1024, y4⟩, ⟨S16, y5⟩, ⟨S1024, y6⟩, ⟨S1024, y7⟩, ⟨S2048, y8⟩, ⟨S2048, y9⟩] concatenates_S2048_S6144_S4608_S2048_S1024_S16_S1024_S1024_S2048_S2048_S22032_d0 _ 8 (by simp) S2048 y8 rfl rfl 17936 total (ix1 j)
    (fun b hb => absurd (Fin.ext (by have e : b.val < 1 := b.isLt; show b.val = 0; omega)) hb) rfl

theorem piece8_pack (x0 : FVec Ideal S2048 .f32) (x1 : FVec Ideal S1x6144 .f32) (x2 : FVec Ideal S1x3x3x512 .f32) (x3 : FVec Ideal S1x2048 .f32) (x4 : FVec Ideal S2x2x256 .f32) (x5 : FVec Ideal S1x4x4 .f32) (x6 : FVec Ideal S1x1024 .f32) (x7 : FVec Ideal S1x1024 .f32) (x8 : FVec Ideal S1x2048 .f32) (x9 : FVec Ideal S1x2048 .f32) : piece8 (pack x0 x1 x2 x3 x4 x5 x6 x7 x8 x9) = x8 := by
  unfold piece8 pack
  rw [shapeCast_shapeCast, row_piece8]
  exact shapeCast_shapeCast _ _ _

/-- Piece 9 of a packed block. -/
def piece9 (z : FVec Ideal S24x1024 .f32) : FVec Ideal S1x2048 .f32 :=
  shapeCast S1x2048 (extractStridedSlice S2048 ![19984] (shapeCast S24576 z shapeCasts_S24x1024_S24576) slices_S24576_S2048_19984) shapeCasts_S2048_S1x2048

theorem row_piece9 (y0 : FVec Ideal S2048 .f32) (y1 : FVec Ideal S6144 .f32) (y2 : FVec Ideal S4608 .f32) (y3 : FVec Ideal S2048 .f32) (y4 : FVec Ideal S1024 .f32) (y5 : FVec Ideal S16 .f32) (y6 : FVec Ideal S1024 .f32) (y7 : FVec Ideal S1024 .f32) (y8 : FVec Ideal S2048 .f32) (y9 : FVec Ideal S2048 .f32) :
    extractStridedSlice S2048 ![19984] (row y0 y1 y2 y3 y4 y5 y6 y7 y8 y9) slices_S24576_S2048_19984 = y9 := by
  funext x
  obtain ⟨j, rfl⟩ : ∃ j : Fin 2048, x = ix1 j := ⟨x 0, eq_ix1 x⟩
  have hj := j.isLt
  rw [extractStridedSlice_apply _ _ _ (ix1 j) (ix1 ⟨19984 + j.val, by omega⟩ : S24576.Idx) (fun a => match a with | ⟨0, _⟩ => rfl)]
  unfold row
  rw [pad_apply_of_inside _ _ _ _ _ _ _ (ix1 ⟨19984 + j.val, by omega⟩ : S24576.Idx) (ix1 ⟨19984 + j.val, by omega⟩ : S22032.Idx)
    (fun a => match a with | ⟨0, _⟩ => (by show 19984 + j.val = 0 + (19984 + j.val) * (0 + 1); omega))]
  have total : (([S2048, S6144, S4608, S2048, S1024, S16, S1024, S1024, S2048] : List Shape).map fun s => if h : s.rank = S22032.rank then s.size ((0 : Fin S22032.rank).cast h.symm) else 0).sum = 19984 := by
    decide +kernel
  exact concatenate_apply_piece (t := S22032) 0 [⟨S2048, y0⟩, ⟨S6144, y1⟩, ⟨S4608, y2⟩, ⟨S2048, y3⟩, ⟨S1024, y4⟩, ⟨S16, y5⟩, ⟨S1024, y6⟩, ⟨S1024, y7⟩, ⟨S2048, y8⟩, ⟨S2048, y9⟩] concatenates_S2048_S6144_S4608_S2048_S1024_S16_S1024_S1024_S2048_S2048_S22032_d0 _ 9 (by simp) S2048 y9 rfl rfl 19984 total (ix1 j)
    (fun b hb => absurd (Fin.ext (by have e : b.val < 1 := b.isLt; show b.val = 0; omega)) hb) rfl

theorem piece9_pack (x0 : FVec Ideal S2048 .f32) (x1 : FVec Ideal S1x6144 .f32) (x2 : FVec Ideal S1x3x3x512 .f32) (x3 : FVec Ideal S1x2048 .f32) (x4 : FVec Ideal S2x2x256 .f32) (x5 : FVec Ideal S1x4x4 .f32) (x6 : FVec Ideal S1x1024 .f32) (x7 : FVec Ideal S1x1024 .f32) (x8 : FVec Ideal S1x2048 .f32) (x9 : FVec Ideal S1x2048 .f32) : piece9 (pack x0 x1 x2 x3 x4 x5 x6 x7 x8 x9) = x9 := by
  unfold piece9 pack
  rw [shapeCast_shapeCast, row_piece9]
  exact shapeCast_shapeCast _ _ _

end Cert.Kernel9Ideal.AdamWSmall

end
-- ==== Proof.AdamWSmall.lean ====
/-
  The optimiser's step on the ten small arrays, packed into one block: the kernel, the host operations around it, the two runs,
  and that their thirty results agree (programs `Kernel9Ideal` and `Reference9Ideal`).
-/
module

public import proofs.«01_k».proof.Proof.AdamWPack
public import proofs.«01_k».proof.Proof.AdamW
public import proofs.«01_k».proof.Proof.Gen.Reference9Ideal.Run
public import proofs.«01_k».proof.Defs
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel9Ideal.AdamWSmall

open Cert.Kernel9Ideal Cert.Kernel9Ideal.Gen

theorem off0 : (![0, 0] : Fin 2 → Nat) = fun _ => 0 := funext fun a => by fin_cases a <;> rfl

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel

variable (m : (ℓ : Loc nD τ sig) → Buf (Elt Ideal) ℓ) (ρ : Dev nD → PrngReg)

/-! ## The arguments as the program's start finds them: weights, gradients, first and second moments -/

def argW0 (c : Dev nD) : FVec Ideal S2048 .f32 := m ((c.tc : Thread nD τ).loc main_arg0)
def argW1 (c : Dev nD) : FVec Ideal S1x6144 .f32 := m ((c.tc : Thread nD τ).loc main_arg1)
def argW2 (c : Dev nD) : FVec Ideal S1x3x3x512 .f32 := m ((c.tc : Thread nD τ).loc main_arg2)
def argW3 (c : Dev nD) : FVec Ideal S1x2048 .f32 := m ((c.tc : Thread nD τ).loc main_arg3)
def argW4 (c : Dev nD) : FVec Ideal S2x2x256 .f32 := m ((c.tc : Thread nD τ).loc main_arg4)
def argW5 (c : Dev nD) : FVec Ideal S1x4x4 .f32 := m ((c.tc : Thread nD τ).loc main_arg5)
def argW6 (c : Dev nD) : FVec Ideal S1x1024 .f32 := m ((c.tc : Thread nD τ).loc main_arg6)
def argW7 (c : Dev nD) : FVec Ideal S1x1024 .f32 := m ((c.tc : Thread nD τ).loc main_arg7)
def argW8 (c : Dev nD) : FVec Ideal S1x2048 .f32 := m ((c.tc : Thread nD τ).loc main_arg8)
def argW9 (c : Dev nD) : FVec Ideal S1x2048 .f32 := m ((c.tc : Thread nD τ).loc main_arg9)

def argG0 (c : Dev nD) : FVec Ideal S2048 .f32 := m ((c.tc : Thread nD τ).loc main_arg10)
def argG1 (c : Dev nD) : FVec Ideal S1x6144 .f32 := m ((c.tc : Thread nD τ).loc main_arg11)
def argG2 (c : Dev nD) : FVec Ideal S1x3x3x512 .f32 := m ((c.tc : Thread nD τ).loc main_arg12)
def argG3 (c : Dev nD) : FVec Ideal S1x2048 .f32 := m ((c.tc : Thread nD τ).loc main_arg13)
def argG4 (c : Dev nD) : FVec Ideal S2x2x256 .f32 := m ((c.tc : Thread nD τ).loc main_arg14)
def argG5 (c : Dev nD) : FVec Ideal S1x4x4 .f32 := m ((c.tc : Thread nD τ).loc main_arg15)
def argG6 (c : Dev nD) : FVec Ideal S1x1024 .f32 := m ((c.tc : Thread nD τ).loc main_arg16)
def argG7 (c : Dev nD) : FVec Ideal S1x1024 .f32 := m ((c.tc : Thread nD τ).loc main_arg17)
def argG8 (c : Dev nD) : FVec Ideal S1x2048 .f32 := m ((c.tc : Thread nD τ).loc main_arg18)
def argG9 (c : Dev nD) : FVec Ideal S1x2048 .f32 := m ((c.tc : Thread nD τ).loc main_arg19)

def argM0 (c : Dev nD) : FVec Ideal S2048 .f32 := m ((c.tc : Thread nD τ).loc main_arg20)
def argM1 (c : Dev nD) : FVec Ideal S1x6144 .f32 := m ((c.tc : Thread nD τ).loc main_arg21)
def argM2 (c : Dev nD) : FVec Ideal S1x3x3x512 .f32 := m ((c.tc : Thread nD τ).loc main_arg22)
def argM3 (c : Dev nD) : FVec Ideal S1x2048 .f32 := m ((c.tc : Thread nD τ).loc main_arg23)
def argM4 (c : Dev nD) : FVec Ideal S2x2x256 .f32 := m ((c.tc : Thread nD τ).loc main_arg24)
def argM5 (c : Dev nD) : FVec Ideal S1x4x4 .f32 := m ((c.tc : Thread nD τ).loc main_arg25)
def argM6 (c : Dev nD) : FVec Ideal S1x1024 .f32 := m ((c.tc : Thread nD τ).loc main_arg26)
def argM7 (c : Dev nD) : FVec Ideal S1x1024 .f32 := m ((c.tc : Thread nD τ).loc main_arg27)
def argM8 (c : Dev nD) : FVec Ideal S1x2048 .f32 := m ((c.tc : Thread nD τ).loc main_arg28)
def argM9 (c : Dev nD) : FVec Ideal S1x2048 .f32 := m ((c.tc : Thread nD τ).loc main_arg29)

def argV0 (c : Dev nD) : FVec Ideal S2048 .f32 := m ((c.tc : Thread nD τ).loc main_arg30)
def argV1 (c : Dev nD) : FVec Ideal S1x6144 .f32 := m ((c.tc : Thread nD τ).loc main_arg31)
def argV2 (c : Dev nD) : FVec Ideal S1x3x3x512 .f32 := m ((c.tc : Thread nD τ).loc main_arg32)
def argV3 (c : Dev nD) : FVec Ideal S1x2048 .f32 := m ((c.tc : Thread nD τ).loc main_arg33)
def argV4 (c : Dev nD) : FVec Ideal S2x2x256 .f32 := m ((c.tc : Thread nD τ).loc main_arg34)
def argV5 (c : Dev nD) : FVec Ideal S1x4x4 .f32 := m ((c.tc : Thread nD τ).loc main_arg35)
def argV6 (c : Dev nD) : FVec Ideal S1x1024 .f32 := m ((c.tc : Thread nD τ).loc main_arg36)
def argV7 (c : Dev nD) : FVec Ideal S1x1024 .f32 := m ((c.tc : Thread nD τ).loc main_arg37)
def argV8 (c : Dev nD) : FVec Ideal S1x2048 .f32 := m ((c.tc : Thread nD τ).loc main_arg38)
def argV9 (c : Dev nD) : FVec Ideal S1x2048 .f32 := m ((c.tc : Thread nD τ).loc main_arg39)

/-! ## The four packed operands -/

def packedW (c : Dev nD) : FVec Ideal S24x1024 .f32 := V m c main_v11

theorem packedW_eq (c : Dev nD) : packedW m c = pack (argW0 m c) (argW1 m c) (argW2 m c) (argW3 m c) (argW4 m c) (argW5 m c) (argW6 m c) (argW7 m c) (argW8 m c) (argW9 m c) := by
  show StableHlo.after (List.flatten [hostOps0, hostOps0_1, hostOps0_2, hostOps0_3, hostOps0_4, hostOps0_5, hostOps0_6, hostOps0_7, hostOps0_8]) _ (Proc.devRef .tc main_v11) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem blockW (c : Dev nD) (t : Fin cfg0.N) : (iblk m c 0 t : Vec Ideal S24x1024 .f32) = packedW m c := by
  funext x
  unfold iblk
  rw [View.read_apply]
  show V m c main_v11 _ = V m c main_v11 _
  congr 1
  funext a
  apply Fin.ext
  match a with
  | ⟨0, _⟩ => show win0_0.index t 0 * 24 + 1 * (x 0).val = (x 0).val; rw [(index0 t).1]; omega
  | ⟨1, _⟩ => show win0_0.index t 1 * 1024 + 1 * (x 1).val = (x 1).val; rw [(index0 t).2]; omega

def packedG (c : Dev nD) : FVec Ideal S24x1024 .f32 := V m c main_v23

theorem packedG_eq (c : Dev nD) : packedG m c = pack (argG0 m c) (argG1 m c) (argG2 m c) (argG3 m c) (argG4 m c) (argG5 m c) (argG6 m c) (argG7 m c) (argG8 m c) (argG9 m c) := by
  show StableHlo.after (List.flatten [hostOps0, hostOps0_1, hostOps0_2, hostOps0_3, hostOps0_4, hostOps0_5, hostOps0_6, hostOps0_7, hostOps0_8]) _ (Proc.devRef .tc main_v23) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem blockG (c : Dev nD) (t : Fin cfg0.N) : (iblk m c 1 t : Vec Ideal S24x1024 .f32) = packedG m c := by
  funext x
  unfold iblk
  rw [View.read_apply]
  show V m c main_v23 _ = V m c main_v23 _
  congr 1
  funext a
  apply Fin.ext
  match a with
  | ⟨0, _⟩ => show win0_1.index t 0 * 24 + 1 * (x 0).val = (x 0).val; rw [(index1 t).1]; omega
  | ⟨1, _⟩ => show win0_1.index t 1 * 1024 + 1 * (x 1).val = (x 1).val; rw [(index1 t).2]; omega

def packedM (c : Dev nD) : FVec Ideal S24x1024 .f32 := V m c main_v35

theorem packedM_eq (c : Dev nD) : packedM m c = pack (argM0 m c) (argM1 m c) (argM2 m c) (argM3 m c) (argM4 m c) (argM5 m c) (argM6 m c) (argM7 m c) (argM8 m c) (argM9 m c) := by
  show StableHlo.after (List.flatten [hostOps0, hostOps0_1, hostOps0_2, hostOps0_3, hostOps0_4, hostOps0_5, hostOps0_6, hostOps0_7, hostOps0_8]) _ (Proc.devRef .tc main_v35) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem blockM (c : Dev nD) (t : Fin cfg0.N) : (iblk m c 2 t : Vec Ideal S24x1024 .f32) = packedM m c := by
  funext x
  unfold iblk
  rw [View.read_apply]
  show V m c main_v35 _ = V m c main_v35 _
  congr 1
  funext a
  apply Fin.ext
  match a with
  | ⟨0, _⟩ => show win0_2.index t 0 * 24 + 1 * (x 0).val = (x 0).val; rw [(index2 t).1]; omega
  | ⟨1, _⟩ => show win0_2.index t 1 * 1024 + 1 * (x 1).val = (x 1).val; rw [(index2 t).2]; omega

def packedV (c : Dev nD) : FVec Ideal S24x1024 .f32 := V m c main_v47

theorem packedV_eq (c : Dev nD) : packedV m c = pack (argV0 m c) (argV1 m c) (argV2 m c) (argV3 m c) (argV4 m c) (argV5 m c) (argV6 m c) (argV7 m c) (argV8 m c) (argV9 m c) := by
  show StableHlo.after (List.flatten [hostOps0, hostOps0_1, hostOps0_2, hostOps0_3, hostOps0_4, hostOps0_5, hostOps0_6, hostOps0_7, hostOps0_8]) _ (Proc.devRef .tc main_v47) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem blockV (c : Dev nD) (t : Fin cfg0.N) : (iblk m c 3 t : Vec Ideal S24x1024 .f32) = packedV m c := by
  funext x
  unfold iblk
  rw [View.read_apply]
  show V m c main_v47 _ = V m c main_v47 _
  congr 1
  funext a
  apply Fin.ext
  match a with
  | ⟨0, _⟩ => show win0_3.index t 0 * 24 + 1 * (x 0).val = (x 0).val; rw [(index3 t).1]; omega
  | ⟨1, _⟩ => show win0_3.index t 1 * 1024 + 1 * (x 1).val = (x 1).val; rw [(index3 t).2]; omega

/-! ## The block the kernel stores -/

theorem storedDelta (x0 x1 x2 x3 : Vec Ideal S24x1024 .f32) (r : Fin 24) (l : Fin 1024) :
    out0_4 x0 x1 x2 x3 (ix2 r l) = Cert.AdamW.delta (x0 (ix2 r l)) (x1 (ix2 r l)) (x2 (ix2 r l)) (x3 (ix2 r l)) := by
  have e : out0_4 x0 x1 x2 x3 = k0_pay4 x0 x1 x2 x3 := by
    unfold out0_4
    rw [View.canon_unit_zero (S := S24x1024) off0]
    simp only [View.ld_unit_zero (S := S24x1024) off0]
  rw [e]
  pointwise [k0_pay1, k0_pay2, k0_pay3, k0_pay4]
  rfl

def packedDelta (c : Dev nD) : FVec Ideal S24x1024 .f32 := fun i => Cert.AdamW.delta (packedW m c i) (packedG m c i) (packedM m c i) (packedV m c i)

theorem flushedDelta (c : Dev nD) (t : Fin cfg0.N) (hf : (cfg0.win 4).flush t = true) :
    (dats m 0 c).flushed 4 t = ((cfg0.win 4).blk t).view.read (Elt Ideal) (packedDelta m c) := by
  show (cfg0.win 4).cut (grid0.coords t) ((dats m 0 c).after 4 t) = _
  rw [after0_4]
  show out0_4 (iblk m c 0 t) (iblk m c 1 t) (iblk m c 2 t) (iblk m c 3 t) = (_ : S24x1024.Idx → EReal)
  rw [blockW, blockG, blockM, blockV]
  funext x
  obtain ⟨i, j, rfl⟩ : ∃ (i : Fin 24) (j : Fin 1024), x = ix2 i j := ⟨x 0, x 1, eq_ix2 x⟩
  rw [storedDelta, View.read_apply]
  show packedDelta m c (ix2 i j) = packedDelta m c _
  congr 1
  funext a
  apply Fin.ext
  match a with
  | ⟨0, _⟩ => show i.val = win0_4.index t 0 * 24 + 1 * i.val; rw [(index4 t).1]; omega
  | ⟨1, _⟩ => show j.val = win0_4.index t 1 * 1024 + 1 * j.val; rw [(index4 t).2]; omega

theorem finalDelta (c : Dev nD) : (dats m 0 c).arrAt 4 cfg0.N = packedDelta m c :=
  (dats m 0 c).arrAt_eq_of_cover 4 (packedDelta m c) (flushedDelta m c) fun i => by
    have h0 : (i 0 : Nat) < 24 := (i 0).isLt
    have h1 : (i 1 : Nat) < 1024 := (i 1).isLt
    let t : Fin cfg0.N := ⟨0, by rw [show cfg0.N = 1 from N_0]; omega⟩
    refine ⟨t, flush0_4 t, ?_⟩
    show i ∈ ((View.whole main_v48_0).slice (win0_4.rect t)).set
    rw [View.set_slice_whole, Rect.mem_set_unit]
    intro a
    match a with
    | ⟨0, _⟩ =>
      show win0_4.index t 0 * 24 ≤ (i 0 : Nat) ∧ (i 0 : Nat) < win0_4.index t 0 * 24 + 24
      rw [(index4 t).1]; omega
    | ⟨1, _⟩ =>
      show win0_4.index t 1 * 1024 ≤ (i 1 : Nat) ∧ (i 1 : Nat) < win0_4.index t 1 * 1024 + 1024
      rw [(index4 t).2]; omega

theorem storedMoment (x0 x1 x2 x3 : Vec Ideal S24x1024 .f32) (r : Fin 24) (l : Fin 1024) :
    out0_5 x0 x1 x2 x3 (ix2 r l) = Cert.AdamW.moment (x1 (ix2 r l)) (x2 (ix2 r l)) := by
  have e : out0_5 x0 x1 x2 x3 = k0_pay2 x1 x2 := by
    unfold out0_5
    rw [View.canon_unit_zero (S := S24x1024) off0]
    simp only [View.ld_unit_zero (S := S24x1024) off0]
  rw [e]
  pointwise [k0_pay1, k0_pay2, k0_pay3, k0_pay4]
  rfl

def packedMoment (c : Dev nD) : FVec Ideal S24x1024 .f32 := fun i => Cert.AdamW.moment (packedG m c i) (packedM m c i)

theorem flushedMoment (c : Dev nD) (t : Fin cfg0.N) (hf : (cfg0.win 5).flush t = true) :
    (dats m 0 c).flushed 5 t = ((cfg0.win 5).blk t).view.read (Elt Ideal) (packedMoment m c) := by
  show (cfg0.win 5).cut (grid0.coords t) ((dats m 0 c).after 5 t) = _
  rw [after0_5]
  show out0_5 (iblk m c 0 t) (iblk m c 1 t) (iblk m c 2 t) (iblk m c 3 t) = (_ : S24x1024.Idx → EReal)
  rw [blockW, blockG, blockM, blockV]
  funext x
  obtain ⟨i, j, rfl⟩ : ∃ (i : Fin 24) (j : Fin 1024), x = ix2 i j := ⟨x 0, x 1, eq_ix2 x⟩
  rw [storedMoment, View.read_apply]
  show packedMoment m c (ix2 i j) = packedMoment m c _
  congr 1
  funext a
  apply Fin.ext
  match a with
  | ⟨0, _⟩ => show i.val = win0_5.index t 0 * 24 + 1 * i.val; rw [(index5 t).1]; omega
  | ⟨1, _⟩ => show j.val = win0_5.index t 1 * 1024 + 1 * j.val; rw [(index5 t).2]; omega

theorem finalMoment (c : Dev nD) : (dats m 0 c).arrAt 5 cfg0.N = packedMoment m c :=
  (dats m 0 c).arrAt_eq_of_cover 5 (packedMoment m c) (flushedMoment m c) fun i => by
    have h0 : (i 0 : Nat) < 24 := (i 0).isLt
    have h1 : (i 1 : Nat) < 1024 := (i 1).isLt
    let t : Fin cfg0.N := ⟨0, by rw [show cfg0.N = 1 from N_0]; omega⟩
    refine ⟨t, flush0_5 t, ?_⟩
    show i ∈ ((View.whole main_v48_1).slice (win0_5.rect t)).set
    rw [View.set_slice_whole, Rect.mem_set_unit]
    intro a
    match a with
    | ⟨0, _⟩ =>
      show win0_5.index t 0 * 24 ≤ (i 0 : Nat) ∧ (i 0 : Nat) < win0_5.index t 0 * 24 + 24
      rw [(index5 t).1]; omega
    | ⟨1, _⟩ =>
      show win0_5.index t 1 * 1024 ≤ (i 1 : Nat) ∧ (i 1 : Nat) < win0_5.index t 1 * 1024 + 1024
      rw [(index5 t).2]; omega

theorem storedSecond (x0 x1 x2 x3 : Vec Ideal S24x1024 .f32) (r : Fin 24) (l : Fin 1024) :
    out0_6 x0 x1 x2 x3 (ix2 r l) = Cert.AdamW.second (x1 (ix2 r l)) (x3 (ix2 r l)) := by
  have e : out0_6 x0 x1 x2 x3 = k0_pay3 x1 x3 := by
    unfold out0_6
    rw [View.canon_unit_zero (S := S24x1024) off0]
    simp only [View.ld_unit_zero (S := S24x1024) off0]
  rw [e]
  pointwise [k0_pay1, k0_pay2, k0_pay3, k0_pay4]
  rfl

def packedSecond (c : Dev nD) : FVec Ideal S24x1024 .f32 := fun i => Cert.AdamW.second (packedG m c i) (packedV m c i)

theorem flushedSecond (c : Dev nD) (t : Fin cfg0.N) (hf : (cfg0.win 6).flush t = true) :
    (dats m 0 c).flushed 6 t = ((cfg0.win 6).blk t).view.read (Elt Ideal) (packedSecond m c) := by
  show (cfg0.win 6).cut (grid0.coords t) ((dats m 0 c).after 6 t) = _
  rw [after0_6]
  show out0_6 (iblk m c 0 t) (iblk m c 1 t) (iblk m c 2 t) (iblk m c 3 t) = (_ : S24x1024.Idx → EReal)
  rw [blockW, blockG, blockM, blockV]
  funext x
  obtain ⟨i, j, rfl⟩ : ∃ (i : Fin 24) (j : Fin 1024), x = ix2 i j := ⟨x 0, x 1, eq_ix2 x⟩
  rw [storedSecond, View.read_apply]
  show packedSecond m c (ix2 i j) = packedSecond m c _
  congr 1
  funext a
  apply Fin.ext
  match a with
  | ⟨0, _⟩ => show i.val = win0_6.index t 0 * 24 + 1 * i.val; rw [(index6 t).1]; omega
  | ⟨1, _⟩ => show j.val = win0_6.index t 1 * 1024 + 1 * j.val; rw [(index6 t).2]; omega

theorem finalSecond (c : Dev nD) : (dats m 0 c).arrAt 6 cfg0.N = packedSecond m c :=
  (dats m 0 c).arrAt_eq_of_cover 6 (packedSecond m c) (flushedSecond m c) fun i => by
    have h0 : (i 0 : Nat) < 24 := (i 0).isLt
    have h1 : (i 1 : Nat) < 1024 := (i 1).isLt
    let t : Fin cfg0.N := ⟨0, by rw [show cfg0.N = 1 from N_0]; omega⟩
    refine ⟨t, flush0_6 t, ?_⟩
    show i ∈ ((View.whole main_v48_2).slice (win0_6.rect t)).set
    rw [View.set_slice_whole, Rect.mem_set_unit]
    intro a
    match a with
    | ⟨0, _⟩ =>
      show win0_6.index t 0 * 24 ≤ (i 0 : Nat) ∧ (i 0 : Nat) < win0_6.index t 0 * 24 + 24
      rw [(index6 t).1]; omega
    | ⟨1, _⟩ =>
      show win0_6.index t 1 * 1024 ≤ (i 1 : Nat) ∧ (i 1 : Nat) < win0_6.index t 1 * 1024 + 1024
      rw [(index6 t).2]; omega

/-! ## The thirty results -/

def delta0 (c : Dev nD) : FVec Ideal S2048 .f32 := fun i => Cert.AdamW.delta (argW0 m c i) (argG0 m c i) (argM0 m c i) (argV0 m c i)

theorem afterDelta0 (c : Dev nD) : Pipeline.afterTail₀ cfgs (dats m) 0 (V0 m) [hostOps1] c main_v50 = delta0 m c := by
  have e : Pipeline.afterTail₀ cfgs (dats m) 0 (V0 m) [hostOps1] c main_v50 = piece0 (packedDelta m c) := by
    unfold Pipeline.afterTail₀
    simp only [hostOps1, List.flatten_cons, List.flatten_nil, List.append_nil, List.cons_append, List.nil_append]
    after_results_simp
    erw [Pipeline.withArrays_arr spec0 (by decide) c _ _ 4]
    exact congrArg piece0 (finalDelta m c)
  have s : piece0 (packedDelta m c) = fun i => Cert.AdamW.delta (piece0 (packedW m c) i) (piece0 (packedG m c) i) (piece0 (packedM m c) i) (piece0 (packedV m c) i) := rfl
  rw [e, s, packedW_eq, piece0_pack, packedG_eq, piece0_pack, packedM_eq, piece0_pack, packedV_eq, piece0_pack]
  rfl

def delta1 (c : Dev nD) : FVec Ideal S1x6144 .f32 := fun i => Cert.AdamW.delta (argW1 m c i) (argG1 m c i) (argM1 m c i) (argV1 m c i)

theorem afterDelta1 (c : Dev nD) : Pipeline.afterTail₀ cfgs (dats m) 0 (V0 m) [hostOps1] c main_v52 = delta1 m c := by
  have e : Pipeline.afterTail₀ cfgs (dats m) 0 (V0 m) [hostOps1] c main_v52 = piece1 (packedDelta m c) := by
    unfold Pipeline.afterTail₀
    simp only [hostOps1, List.flatten_cons, List.flatten_nil, List.append_nil, List.cons_append, List.nil_append]
    after_results_simp
    erw [Pipeline.withArrays_arr spec0 (by decide) c _ _ 4]
    exact congrArg piece1 (finalDelta m c)
  have s : piece1 (packedDelta m c) = fun i => Cert.AdamW.delta (piece1 (packedW m c) i) (piece1 (packedG m c) i) (piece1 (packedM m c) i) (piece1 (packedV m c) i) := rfl
  rw [e, s, packedW_eq, piece1_pack, packedG_eq, piece1_pack, packedM_eq, piece1_pack, packedV_eq, piece1_pack]
  rfl

def delta2 (c : Dev nD) : FVec Ideal S1x3x3x512 .f32 := fun i => Cert.AdamW.delta (argW2 m c i) (argG2 m c i) (argM2 m c i) (argV2 m c i)

theorem afterDelta2 (c : Dev nD) : Pipeline.afterTail₀ cfgs (dats m) 0 (V0 m) [hostOps1] c main_v54 = delta2 m c := by
  have e : Pipeline.afterTail₀ cfgs (dats m) 0 (V0 m) [hostOps1] c main_v54 = piece2 (packedDelta m c) := by
    unfold Pipeline.afterTail₀
    simp only [hostOps1, List.flatten_cons, List.flatten_nil, List.append_nil, List.cons_append, List.nil_append]
    after_results_simp
    erw [Pipeline.withArrays_arr spec0 (by decide) c _ _ 4]
    exact congrArg piece2 (finalDelta m c)
  have s : piece2 (packedDelta m c) = fun i => Cert.AdamW.delta (piece2 (packedW m c) i) (piece2 (packedG m c) i) (piece2 (packedM m c) i) (piece2 (packedV m c) i) := rfl
  rw [e, s, packedW_eq, piece2_pack, packedG_eq, piece2_pack, packedM_eq, piece2_pack, packedV_eq, piece2_pack]
  rfl

def delta3 (c : Dev nD) : FVec Ideal S1x2048 .f32 := fun i => Cert.AdamW.delta (argW3 m c i) (argG3 m c i) (argM3 m c i) (argV3 m c i)

theorem afterDelta3 (c : Dev nD) : Pipeline.afterTail₀ cfgs (dats m) 0 (V0 m) [hostOps1] c main_v56 = delta3 m c := by
  have e : Pipeline.afterTail₀ cfgs (dats m) 0 (V0 m) [hostOps1] c main_v56 = piece3 (packedDelta m c) := by
    unfold Pipeline.afterTail₀
    simp only [hostOps1, List.flatten_cons, List.flatten_nil, List.append_nil, List.cons_append, List.nil_append]
    after_results_simp
    erw [Pipeline.withArrays_arr spec0 (by decide) c _ _ 4]
    exact congrArg piece3 (finalDelta m c)
  have s : piece3 (packedDelta m c) = fun i => Cert.AdamW.delta (piece3 (packedW m c) i) (piece3 (packedG m c) i) (piece3 (packedM m c) i) (piece3 (packedV m c) i) := rfl
  rw [e, s, packedW_eq, piece3_pack, packedG_eq, piece3_pack, packedM_eq, piece3_pack, packedV_eq, piece3_pack]
  rfl

def delta4 (c : Dev nD) : FVec Ideal S2x2x256 .f32 := fun i => Cert.AdamW.delta (argW4 m c i) (argG4 m c i) (argM4 m c i) (argV4 m c i)

theorem afterDelta4 (c : Dev nD) : Pipeline.afterTail₀ cfgs (dats m) 0 (V0 m) [hostOps1] c main_v58 = delta4 m c := by
  have e : Pipeline.afterTail₀ cfgs (dats m) 0 (V0 m) [hostOps1] c main_v58 = piece4 (packedDelta m c) := by
    unfold Pipeline.afterTail₀
    simp only [hostOps1, List.flatten_cons, List.flatten_nil, List.append_nil, List.cons_append, List.nil_append]
    after_results_simp
    erw [Pipeline.withArrays_arr spec0 (by decide) c _ _ 4]
    exact congrArg piece4 (finalDelta m c)
  have s : piece4 (packedDelta m c) = fun i => Cert.AdamW.delta (piece4 (packedW m c) i) (piece4 (packedG m c) i) (piece4 (packedM m c) i) (piece4 (packedV m c) i) := rfl
  rw [e, s, packedW_eq, piece4_pack, packedG_eq, piece4_pack, packedM_eq, piece4_pack, packedV_eq, piece4_pack]
  rfl

def delta5 (c : Dev nD) : FVec Ideal S1x4x4 .f32 := fun i => Cert.AdamW.delta (argW5 m c i) (argG5 m c i) (argM5 m c i) (argV5 m c i)

theorem afterDelta5 (c : Dev nD) : Pipeline.afterTail₀ cfgs (dats m) 0 (V0 m) [hostOps1] c main_v60 = delta5 m c := by
  have e : Pipeline.afterTail₀ cfgs (dats m) 0 (V0 m) [hostOps1] c main_v60 = piece5 (packedDelta m c) := by
    unfold Pipeline.afterTail₀
    simp only [hostOps1, List.flatten_cons, List.flatten_nil, List.append_nil, List.cons_append, List.nil_append]
    after_results_simp
    erw [Pipeline.withArrays_arr spec0 (by decide) c _ _ 4]
    exact congrArg piece5 (finalDelta m c)
  have s : piece5 (packedDelta m c) = fun i => Cert.AdamW.delta (piece5 (packedW m c) i) (piece5 (packedG m c) i) (piece5 (packedM m c) i) (piece5 (packedV m c) i) := rfl
  rw [e, s, packedW_eq, piece5_pack, packedG_eq, piece5_pack, packedM_eq, piece5_pack, packedV_eq, piece5_pack]
  rfl

def delta6 (c : Dev nD) : FVec Ideal S1x1024 .f32 := fun i => Cert.AdamW.delta (argW6 m c i) (argG6 m c i) (argM6 m c i) (argV6 m c i)

theorem afterDelta6 (c : Dev nD) : Pipeline.afterTail₀ cfgs (dats m) 0 (V0 m) [hostOps1] c main_v62 = delta6 m c := by
  have e : Pipeline.afterTail₀ cfgs (dats m) 0 (V0 m) [hostOps1] c main_v62 = piece6 (packedDelta m c) := by
    unfold Pipeline.afterTail₀
    simp only [hostOps1, List.flatten_cons, List.flatten_nil, List.append_nil, List.cons_append, List.nil_append]
    after_results_simp
    erw [Pipeline.withArrays_arr spec0 (by decide) c _ _ 4]
    exact congrArg piece6 (finalDelta m c)
  have s : piece6 (packedDelta m c) = fun i => Cert.AdamW.delta (piece6 (packedW m c) i) (piece6 (packedG m c) i) (piece6 (packedM m c) i) (piece6 (packedV m c) i) := rfl
  rw [e, s, packedW_eq, piece6_pack, packedG_eq, piece6_pack, packedM_eq, piece6_pack, packedV_eq, piece6_pack]
  rfl

def delta7 (c : Dev nD) : FVec Ideal S1x1024 .f32 := fun i => Cert.AdamW.delta (argW7 m c i) (argG7 m c i) (argM7 m c i) (argV7 m c i)

theorem afterDelta7 (c : Dev nD) : Pipeline.afterTail₀ cfgs (dats m) 0 (V0 m) [hostOps1] c main_v64 = delta7 m c := by
  have e : Pipeline.afterTail₀ cfgs (dats m) 0 (V0 m) [hostOps1] c main_v64 = piece7 (packedDelta m c) := by
    unfold Pipeline.afterTail₀
    simp only [hostOps1, List.flatten_cons, List.flatten_nil, List.append_nil, List.cons_append, List.nil_append]
    after_results_simp
    erw [Pipeline.withArrays_arr spec0 (by decide) c _ _ 4]
    exact congrArg piece7 (finalDelta m c)
  have s : piece7 (packedDelta m c) = fun i => Cert.AdamW.delta (piece7 (packedW m c) i) (piece7 (packedG m c) i) (piece7 (packedM m c) i) (piece7 (packedV m c) i) := rfl
  rw [e, s, packedW_eq, piece7_pack, packedG_eq, piece7_pack, packedM_eq, piece7_pack, packedV_eq, piece7_pack]
  rfl

def delta8 (c : Dev nD) : FVec Ideal S1x2048 .f32 := fun i => Cert.AdamW.delta (argW8 m c i) (argG8 m c i) (argM8 m c i) (argV8 m c i)

theorem afterDelta8 (c : Dev nD) : Pipeline.afterTail₀ cfgs (dats m) 0 (V0 m) [hostOps1] c main_v66 = delta8 m c := by
  have e : Pipeline.afterTail₀ cfgs (dats m) 0 (V0 m) [hostOps1] c main_v66 = piece8 (packedDelta m c) := by
    unfold Pipeline.afterTail₀
    simp only [hostOps1, List.flatten_cons, List.flatten_nil, List.append_nil, List.cons_append, List.nil_append]
    after_results_simp
    erw [Pipeline.withArrays_arr spec0 (by decide) c _ _ 4]
    exact congrArg piece8 (finalDelta m c)
  have s : piece8 (packedDelta m c) = fun i => Cert.AdamW.delta (piece8 (packedW m c) i) (piece8 (packedG m c) i) (piece8 (packedM m c) i) (piece8 (packedV m c) i) := rfl
  rw [e, s, packedW_eq, piece8_pack, packedG_eq, piece8_pack, packedM_eq, piece8_pack, packedV_eq, piece8_pack]
  rfl

def delta9 (c : Dev nD) : FVec Ideal S1x2048 .f32 := fun i => Cert.AdamW.delta (argW9 m c i) (argG9 m c i) (argM9 m c i) (argV9 m c i)

theorem afterDelta9 (c : Dev nD) : Pipeline.afterTail₀ cfgs (dats m) 0 (V0 m) [hostOps1] c main_v68 = delta9 m c := by
  have e : Pipeline.afterTail₀ cfgs (dats m) 0 (V0 m) [hostOps1] c main_v68 = piece9 (packedDelta m c) := by
    unfold Pipeline.afterTail₀
    simp only [hostOps1, List.flatten_cons, List.flatten_nil, List.append_nil, List.cons_append, List.nil_append]
    after_results_simp
    erw [Pipeline.withArrays_arr spec0 (by decide) c _ _ 4]
    exact congrArg piece9 (finalDelta m c)
  have s : piece9 (packedDelta m c) = fun i => Cert.AdamW.delta (piece9 (packedW m c) i) (piece9 (packedG m c) i) (piece9 (packedM m c) i) (piece9 (packedV m c) i) := rfl
  rw [e, s, packedW_eq, piece9_pack, packedG_eq, piece9_pack, packedM_eq, piece9_pack, packedV_eq, piece9_pack]
  rfl

def moment0 (c : Dev nD) : FVec Ideal S2048 .f32 := fun i => Cert.AdamW.moment (argG0 m c i) (argM0 m c i)

theorem afterMoment0 (c : Dev nD) : Pipeline.afterTail₀ cfgs (dats m) 0 (V0 m) [hostOps1] c main_v70 = moment0 m c := by
  have e : Pipeline.afterTail₀ cfgs (dats m) 0 (V0 m) [hostOps1] c main_v70 = piece0 (packedMoment m c) := by
    unfold Pipeline.afterTail₀
    simp only [hostOps1, List.flatten_cons, List.flatten_nil, List.append_nil, List.cons_append, List.nil_append]
    after_results_simp
    erw [Pipeline.withArrays_arr spec0 (by decide) c _ _ 5]
    exact congrArg piece0 (finalMoment m c)
  have s : piece0 (packedMoment m c) = fun i => Cert.AdamW.moment (piece0 (packedG m c) i) (piece0 (packedM m c) i) := rfl
  rw [e, s, packedG_eq, piece0_pack, packedM_eq, piece0_pack]
  rfl

def moment1 (c : Dev nD) : FVec Ideal S1x6144 .f32 := fun i => Cert.AdamW.moment (argG1 m c i) (argM1 m c i)

theorem afterMoment1 (c : Dev nD) : Pipeline.afterTail₀ cfgs (dats m) 0 (V0 m) [hostOps1] c main_v72 = moment1 m c := by
  have e : Pipeline.afterTail₀ cfgs (dats m) 0 (V0 m) [hostOps1] c main_v72 = piece1 (packedMoment m c) := by
    unfold Pipeline.afterTail₀
    simp only [hostOps1, List.flatten_cons, List.flatten_nil, List.append_nil, List.cons_append, List.nil_append]
    after_results_simp
    erw [Pipeline.withArrays_arr spec0 (by decide) c _ _ 5]
    exact congrArg piece1 (finalMoment m c)
  have s : piece1 (packedMoment m c) = fun i => Cert.AdamW.moment (piece1 (packedG m c) i) (piece1 (packedM m c) i) := rfl
  rw [e, s, packedG_eq, piece1_pack, packedM_eq, piece1_pack]
  rfl

def moment2 (c : Dev nD) : FVec Ideal S1x3x3x512 .f32 := fun i => Cert.AdamW.moment (argG2 m c i) (argM2 m c i)

theorem afterMoment2 (c : Dev nD) : Pipeline.afterTail₀ cfgs (dats m) 0 (V0 m) [hostOps1] c main_v74 = moment2 m c := by
  have e : Pipeline.afterTail₀ cfgs (dats m) 0 (V0 m) [hostOps1] c main_v74 = piece2 (packedMoment m c) := by
    unfold Pipeline.afterTail₀
    simp only [hostOps1, List.flatten_cons, List.flatten_nil, List.append_nil, List.cons_append, List.nil_append]
    after_results_simp
    erw [Pipeline.withArrays_arr spec0 (by decide) c _ _ 5]
    exact congrArg piece2 (finalMoment m c)
  have s : piece2 (packedMoment m c) = fun i => Cert.AdamW.moment (piece2 (packedG m c) i) (piece2 (packedM m c) i) := rfl
  rw [e, s, packedG_eq, piece2_pack, packedM_eq, piece2_pack]
  rfl

def moment3 (c : Dev nD) : FVec Ideal S1x2048 .f32 := fun i => Cert.AdamW.moment (argG3 m c i) (argM3 m c i)

theorem afterMoment3 (c : Dev nD) : Pipeline.afterTail₀ cfgs (dats m) 0 (V0 m) [hostOps1] c main_v76 = moment3 m c := by
  have e : Pipeline.afterTail₀ cfgs (dats m) 0 (V0 m) [hostOps1] c main_v76 = piece3 (packedMoment m c) := by
    unfold Pipeline.afterTail₀
    simp only [hostOps1, List.flatten_cons, List.flatten_nil, List.append_nil, List.cons_append, List.nil_append]
    after_results_simp
    erw [Pipeline.withArrays_arr spec0 (by decide) c _ _ 5]
    exact congrArg piece3 (finalMoment m c)
  have s : piece3 (packedMoment m c) = fun i => Cert.AdamW.moment (piece3 (packedG m c) i) (piece3 (packedM m c) i) := rfl
  rw [e, s, packedG_eq, piece3_pack, packedM_eq, piece3_pack]
  rfl

def moment4 (c : Dev nD) : FVec Ideal S2x2x256 .f32 := fun i => Cert.AdamW.moment (argG4 m c i) (argM4 m c i)

theorem afterMoment4 (c : Dev nD) : Pipeline.afterTail₀ cfgs (dats m) 0 (V0 m) [hostOps1] c main_v78 = moment4 m c := by
  have e : Pipeline.afterTail₀ cfgs (dats m) 0 (V0 m) [hostOps1] c main_v78 = piece4 (packedMoment m c) := by
    unfold Pipeline.afterTail₀
    simp only [hostOps1, List.flatten_cons, List.flatten_nil, List.append_nil, List.cons_append, List.nil_append]
    after_results_simp
    erw [Pipeline.withArrays_arr spec0 (by decide) c _ _ 5]
    exact congrArg piece4 (finalMoment m c)
  have s : piece4 (packedMoment m c) = fun i => Cert.AdamW.moment (piece4 (packedG m c) i) (piece4 (packedM m c) i) := rfl
  rw [e, s, packedG_eq, piece4_pack, packedM_eq, piece4_pack]
  rfl

def moment5 (c : Dev nD) : FVec Ideal S1x4x4 .f32 := fun i => Cert.AdamW.moment (argG5 m c i) (argM5 m c i)

theorem afterMoment5 (c : Dev nD) : Pipeline.afterTail₀ cfgs (dats m) 0 (V0 m) [hostOps1] c main_v80 = moment5 m c := by
  have e : Pipeline.afterTail₀ cfgs (dats m) 0 (V0 m) [hostOps1] c main_v80 = piece5 (packedMoment m c) := by
    unfold Pipeline.afterTail₀
    simp only [hostOps1, List.flatten_cons, List.flatten_nil, List.append_nil, List.cons_append, List.nil_append]
    after_results_simp
    erw [Pipeline.withArrays_arr spec0 (by decide) c _ _ 5]
    exact congrArg piece5 (finalMoment m c)
  have s : piece5 (packedMoment m c) = fun i => Cert.AdamW.moment (piece5 (packedG m c) i) (piece5 (packedM m c) i) := rfl
  rw [e, s, packedG_eq, piece5_pack, packedM_eq, piece5_pack]
  rfl

def moment6 (c : Dev nD) : FVec Ideal S1x1024 .f32 := fun i => Cert.AdamW.moment (argG6 m c i) (argM6 m c i)

theorem afterMoment6 (c : Dev nD) : Pipeline.afterTail₀ cfgs (dats m) 0 (V0 m) [hostOps1] c main_v82 = moment6 m c := by
  have e : Pipeline.afterTail₀ cfgs (dats m) 0 (V0 m) [hostOps1] c main_v82 = piece6 (packedMoment m c) := by
    unfold Pipeline.afterTail₀
    simp only [hostOps1, List.flatten_cons, List.flatten_nil, List.append_nil, List.cons_append, List.nil_append]
    after_results_simp
    erw [Pipeline.withArrays_arr spec0 (by decide) c _ _ 5]
    exact congrArg piece6 (finalMoment m c)
  have s : piece6 (packedMoment m c) = fun i => Cert.AdamW.moment (piece6 (packedG m c) i) (piece6 (packedM m c) i) := rfl
  rw [e, s, packedG_eq, piece6_pack, packedM_eq, piece6_pack]
  rfl

def moment7 (c : Dev nD) : FVec Ideal S1x1024 .f32 := fun i => Cert.AdamW.moment (argG7 m c i) (argM7 m c i)

theorem afterMoment7 (c : Dev nD) : Pipeline.afterTail₀ cfgs (dats m) 0 (V0 m) [hostOps1] c main_v84 = moment7 m c := by
  have e : Pipeline.afterTail₀ cfgs (dats m) 0 (V0 m) [hostOps1] c main_v84 = piece7 (packedMoment m c) := by
    unfold Pipeline.afterTail₀
    simp only [hostOps1, List.flatten_cons, List.flatten_nil, List.append_nil, List.cons_append, List.nil_append]
    after_results_simp
    erw [Pipeline.withArrays_arr spec0 (by decide) c _ _ 5]
    exact congrArg piece7 (finalMoment m c)
  have s : piece7 (packedMoment m c) = fun i => Cert.AdamW.moment (piece7 (packedG m c) i) (piece7 (packedM m c) i) := rfl
  rw [e, s, packedG_eq, piece7_pack, packedM_eq, piece7_pack]
  rfl

def moment8 (c : Dev nD) : FVec Ideal S1x2048 .f32 := fun i => Cert.AdamW.moment (argG8 m c i) (argM8 m c i)

theorem afterMoment8 (c : Dev nD) : Pipeline.afterTail₀ cfgs (dats m) 0 (V0 m) [hostOps1] c main_v86 = moment8 m c := by
  have e : Pipeline.afterTail₀ cfgs (dats m) 0 (V0 m) [hostOps1] c main_v86 = piece8 (packedMoment m c) := by
    unfold Pipeline.afterTail₀
    simp only [hostOps1, List.flatten_cons, List.flatten_nil, List.append_nil, List.cons_append, List.nil_append]
    after_results_simp
    erw [Pipeline.withArrays_arr spec0 (by decide) c _ _ 5]
    exact congrArg piece8 (finalMoment m c)
  have s : piece8 (packedMoment m c) = fun i => Cert.AdamW.moment (piece8 (packedG m c) i) (piece8 (packedM m c) i) := rfl
  rw [e, s, packedG_eq, piece8_pack, packedM_eq, piece8_pack]
  rfl

def moment9 (c : Dev nD) : FVec Ideal S1x2048 .f32 := fun i => Cert.AdamW.moment (argG9 m c i) (argM9 m c i)

theorem afterMoment9 (c : Dev nD) : Pipeline.afterTail₀ cfgs (dats m) 0 (V0 m) [hostOps1] c main_v88 = moment9 m c := by
  have e : Pipeline.afterTail₀ cfgs (dats m) 0 (V0 m) [hostOps1] c main_v88 = piece9 (packedMoment m c) := by
    unfold Pipeline.afterTail₀
    simp only [hostOps1, List.flatten_cons, List.flatten_nil, List.append_nil, List.cons_append, List.nil_append]
    after_results_simp
    erw [Pipeline.withArrays_arr spec0 (by decide) c _ _ 5]
    exact congrArg piece9 (finalMoment m c)
  have s : piece9 (packedMoment m c) = fun i => Cert.AdamW.moment (piece9 (packedG m c) i) (piece9 (packedM m c) i) := rfl
  rw [e, s, packedG_eq, piece9_pack, packedM_eq, piece9_pack]
  rfl

def second0 (c : Dev nD) : FVec Ideal S2048 .f32 := fun i => Cert.AdamW.second (argG0 m c i) (argV0 m c i)

theorem afterSecond0 (c : Dev nD) : Pipeline.afterTail₀ cfgs (dats m) 0 (V0 m) [hostOps1] c main_v90 = second0 m c := by
  have e : Pipeline.afterTail₀ cfgs (dats m) 0 (V0 m) [hostOps1] c main_v90 = piece0 (packedSecond m c) := by
    unfold Pipeline.afterTail₀
    simp only [hostOps1, List.flatten_cons, List.flatten_nil, List.append_nil, List.cons_append, List.nil_append]
    after_results_simp
    erw [Pipeline.withArrays_arr spec0 (by decide) c _ _ 6]
    exact congrArg piece0 (finalSecond m c)
  have s : piece0 (packedSecond m c) = fun i => Cert.AdamW.second (piece0 (packedG m c) i) (piece0 (packedV m c) i) := rfl
  rw [e, s, packedG_eq, piece0_pack, packedV_eq, piece0_pack]
  rfl

def second1 (c : Dev nD) : FVec Ideal S1x6144 .f32 := fun i => Cert.AdamW.second (argG1 m c i) (argV1 m c i)

theorem afterSecond1 (c : Dev nD) : Pipeline.afterTail₀ cfgs (dats m) 0 (V0 m) [hostOps1] c main_v92 = second1 m c := by
  have e : Pipeline.afterTail₀ cfgs (dats m) 0 (V0 m) [hostOps1] c main_v92 = piece1 (packedSecond m c) := by
    unfold Pipeline.afterTail₀
    simp only [hostOps1, List.flatten_cons, List.flatten_nil, List.append_nil, List.cons_append, List.nil_append]
    after_results_simp
    erw [Pipeline.withArrays_arr spec0 (by decide) c _ _ 6]
    exact congrArg piece1 (finalSecond m c)
  have s : piece1 (packedSecond m c) = fun i => Cert.AdamW.second (piece1 (packedG m c) i) (piece1 (packedV m c) i) := rfl
  rw [e, s, packedG_eq, piece1_pack, packedV_eq, piece1_pack]
  rfl

def second2 (c : Dev nD) : FVec Ideal S1x3x3x512 .f32 := fun i => Cert.AdamW.second (argG2 m c i) (argV2 m c i)

theorem afterSecond2 (c : Dev nD) : Pipeline.afterTail₀ cfgs (dats m) 0 (V0 m) [hostOps1] c main_v94 = second2 m c := by
  have e : Pipeline.afterTail₀ cfgs (dats m) 0 (V0 m) [hostOps1] c main_v94 = piece2 (packedSecond m c) := by
    unfold Pipeline.afterTail₀
    simp only [hostOps1, List.flatten_cons, List.flatten_nil, List.append_nil, List.cons_append, List.nil_append]
    after_results_simp
    erw [Pipeline.withArrays_arr spec0 (by decide) c _ _ 6]
    exact congrArg piece2 (finalSecond m c)
  have s : piece2 (packedSecond m c) = fun i => Cert.AdamW.second (piece2 (packedG m c) i) (piece2 (packedV m c) i) := rfl
  rw [e, s, packedG_eq, piece2_pack, packedV_eq, piece2_pack]
  rfl

def second3 (c : Dev nD) : FVec Ideal S1x2048 .f32 := fun i => Cert.AdamW.second (argG3 m c i) (argV3 m c i)

theorem afterSecond3 (c : Dev nD) : Pipeline.afterTail₀ cfgs (dats m) 0 (V0 m) [hostOps1] c main_v96 = second3 m c := by
  have e : Pipeline.afterTail₀ cfgs (dats m) 0 (V0 m) [hostOps1] c main_v96 = piece3 (packedSecond m c) := by
    unfold Pipeline.afterTail₀
    simp only [hostOps1, List.flatten_cons, List.flatten_nil, List.append_nil, List.cons_append, List.nil_append]
    after_results_simp
    erw [Pipeline.withArrays_arr spec0 (by decide) c _ _ 6]
    exact congrArg piece3 (finalSecond m c)
  have s : piece3 (packedSecond m c) = fun i => Cert.AdamW.second (piece3 (packedG m c) i) (piece3 (packedV m c) i) := rfl
  rw [e, s, packedG_eq, piece3_pack, packedV_eq, piece3_pack]
  rfl

def second4 (c : Dev nD) : FVec Ideal S2x2x256 .f32 := fun i => Cert.AdamW.second (argG4 m c i) (argV4 m c i)

theorem afterSecond4 (c : Dev nD) : Pipeline.afterTail₀ cfgs (dats m) 0 (V0 m) [hostOps1] c main_v98 = second4 m c := by
  have e : Pipeline.afterTail₀ cfgs (dats m) 0 (V0 m) [hostOps1] c main_v98 = piece4 (packedSecond m c) := by
    unfold Pipeline.afterTail₀
    simp only [hostOps1, List.flatten_cons, List.flatten_nil, List.append_nil, List.cons_append, List.nil_append]
    after_results_simp
    erw [Pipeline.withArrays_arr spec0 (by decide) c _ _ 6]
    exact congrArg piece4 (finalSecond m c)
  have s : piece4 (packedSecond m c) = fun i => Cert.AdamW.second (piece4 (packedG m c) i) (piece4 (packedV m c) i) := rfl
  rw [e, s, packedG_eq, piece4_pack, packedV_eq, piece4_pack]
  rfl

def second5 (c : Dev nD) : FVec Ideal S1x4x4 .f32 := fun i => Cert.AdamW.second (argG5 m c i) (argV5 m c i)

theorem afterSecond5 (c : Dev nD) : Pipeline.afterTail₀ cfgs (dats m) 0 (V0 m) [hostOps1] c main_v100 = second5 m c := by
  have e : Pipeline.afterTail₀ cfgs (dats m) 0 (V0 m) [hostOps1] c main_v100 = piece5 (packedSecond m c) := by
    unfold Pipeline.afterTail₀
    simp only [hostOps1, List.flatten_cons, List.flatten_nil, List.append_nil, List.cons_append, List.nil_append]
    after_results_simp
    erw [Pipeline.withArrays_arr spec0 (by decide) c _ _ 6]
    exact congrArg piece5 (finalSecond m c)
  have s : piece5 (packedSecond m c) = fun i => Cert.AdamW.second (piece5 (packedG m c) i) (piece5 (packedV m c) i) := rfl
  rw [e, s, packedG_eq, piece5_pack, packedV_eq, piece5_pack]
  rfl

def second6 (c : Dev nD) : FVec Ideal S1x1024 .f32 := fun i => Cert.AdamW.second (argG6 m c i) (argV6 m c i)

theorem afterSecond6 (c : Dev nD) : Pipeline.afterTail₀ cfgs (dats m) 0 (V0 m) [hostOps1] c main_v102 = second6 m c := by
  have e : Pipeline.afterTail₀ cfgs (dats m) 0 (V0 m) [hostOps1] c main_v102 = piece6 (packedSecond m c) := by
    unfold Pipeline.afterTail₀
    simp only [hostOps1, List.flatten_cons, List.flatten_nil, List.append_nil, List.cons_append, List.nil_append]
    after_results_simp
    erw [Pipeline.withArrays_arr spec0 (by decide) c _ _ 6]
    exact congrArg piece6 (finalSecond m c)
  have s : piece6 (packedSecond m c) = fun i => Cert.AdamW.second (piece6 (packedG m c) i) (piece6 (packedV m c) i) := rfl
  rw [e, s, packedG_eq, piece6_pack, packedV_eq, piece6_pack]
  rfl

def second7 (c : Dev nD) : FVec Ideal S1x1024 .f32 := fun i => Cert.AdamW.second (argG7 m c i) (argV7 m c i)

theorem afterSecond7 (c : Dev nD) : Pipeline.afterTail₀ cfgs (dats m) 0 (V0 m) [hostOps1] c main_v104 = second7 m c := by
  have e : Pipeline.afterTail₀ cfgs (dats m) 0 (V0 m) [hostOps1] c main_v104 = piece7 (packedSecond m c) := by
    unfold Pipeline.afterTail₀
    simp only [hostOps1, List.flatten_cons, List.flatten_nil, List.append_nil, List.cons_append, List.nil_append]
    after_results_simp
    erw [Pipeline.withArrays_arr spec0 (by decide) c _ _ 6]
    exact congrArg piece7 (finalSecond m c)
  have s : piece7 (packedSecond m c) = fun i => Cert.AdamW.second (piece7 (packedG m c) i) (piece7 (packedV m c) i) := rfl
  rw [e, s, packedG_eq, piece7_pack, packedV_eq, piece7_pack]
  rfl

def second8 (c : Dev nD) : FVec Ideal S1x2048 .f32 := fun i => Cert.AdamW.second (argG8 m c i) (argV8 m c i)

theorem afterSecond8 (c : Dev nD) : Pipeline.afterTail₀ cfgs (dats m) 0 (V0 m) [hostOps1] c main_v106 = second8 m c := by
  have e : Pipeline.afterTail₀ cfgs (dats m) 0 (V0 m) [hostOps1] c main_v106 = piece8 (packedSecond m c) := by
    unfold Pipeline.afterTail₀
    simp only [hostOps1, List.flatten_cons, List.flatten_nil, List.append_nil, List.cons_append, List.nil_append]
    after_results_simp
    erw [Pipeline.withArrays_arr spec0 (by decide) c _ _ 6]
    exact congrArg piece8 (finalSecond m c)
  have s : piece8 (packedSecond m c) = fun i => Cert.AdamW.second (piece8 (packedG m c) i) (piece8 (packedV m c) i) := rfl
  rw [e, s, packedG_eq, piece8_pack, packedV_eq, piece8_pack]
  rfl

def second9 (c : Dev nD) : FVec Ideal S1x2048 .f32 := fun i => Cert.AdamW.second (argG9 m c i) (argV9 m c i)

theorem afterSecond9 (c : Dev nD) : Pipeline.afterTail₀ cfgs (dats m) 0 (V0 m) [hostOps1] c main_v108 = second9 m c := by
  have e : Pipeline.afterTail₀ cfgs (dats m) 0 (V0 m) [hostOps1] c main_v108 = piece9 (packedSecond m c) := by
    unfold Pipeline.afterTail₀
    simp only [hostOps1, List.flatten_cons, List.flatten_nil, List.append_nil, List.cons_append, List.nil_append]
    after_results_simp
    erw [Pipeline.withArrays_arr spec0 (by decide) c _ _ 6]
    exact congrArg piece9 (finalSecond m c)
  have s : piece9 (packedSecond m c) = fun i => Cert.AdamW.second (piece9 (packedG m c) i) (piece9 (packedV m c) i) := rfl
  rw [e, s, packedG_eq, piece9_pack, packedV_eq, piece9_pack]
  rfl

/-- The kernel's run: the thirty results, the arguments unchanged. -/
theorem run : θ_run defs (onTc (τ := τ) (main (F := Ideal))) ⟨m, fun _ => 0, ρ⟩ fun r => ∀ c : Dev nD,
      r.2.mem ((c.tc : Thread nD τ).loc main_v50) = delta0 m c
      ∧ r.2.mem ((c.tc : Thread nD τ).loc main_v52) = delta1 m c
      ∧ r.2.mem ((c.tc : Thread nD τ).loc main_v54) = delta2 m c
      ∧ r.2.mem ((c.tc : Thread nD τ).loc main_v56) = delta3 m c
      ∧ r.2.mem ((c.tc : Thread nD τ).loc main_v58) = delta4 m c
      ∧ r.2.mem ((c.tc : Thread nD τ).loc main_v60) = delta5 m c
      ∧ r.2.mem ((c.tc : Thread nD τ).loc main_v62) = delta6 m c
      ∧ r.2.mem ((c.tc : Thread nD τ).loc main_v64) = delta7 m c
      ∧ r.2.mem ((c.tc : Thread nD τ).loc main_v66) = delta8 m c
      ∧ r.2.mem ((c.tc : Thread nD τ).loc main_v68) = delta9 m c
      ∧ r.2.mem ((c.tc : Thread nD τ).loc main_v70) = moment0 m c
      ∧ r.2.mem ((c.tc : Thread nD τ).loc main_v72) = moment1 m c
      ∧ r.2.mem ((c.tc : Thread nD τ).loc main_v74) = moment2 m c
      ∧ r.2.mem ((c.tc : Thread nD τ).loc main_v76) = moment3 m c
      ∧ r.2.mem ((c.tc : Thread nD τ).loc main_v78) = moment4 m c
      ∧ r.2.mem ((c.tc : Thread nD τ).loc main_v80) = moment5 m c
      ∧ r.2.mem ((c.tc : Thread nD τ).loc main_v82) = moment6 m c
      ∧ r.2.mem ((c.tc : Thread nD τ).loc main_v84) = moment7 m c
      ∧ r.2.mem ((c.tc : Thread nD τ).loc main_v86) = moment8 m c
      ∧ r.2.mem ((c.tc : Thread nD τ).loc main_v88) = moment9 m c
      ∧ r.2.mem ((c.tc : Thread nD τ).loc main_v90) = second0 m c
      ∧ r.2.mem ((c.tc : Thread nD τ).loc main_v92) = second1 m c
      ∧ r.2.mem ((c.tc : Thread nD τ).loc main_v94) = second2 m c
      ∧ r.2.mem ((c.tc : Thread nD τ).loc main_v96) = second3 m c
      ∧ r.2.mem ((c.tc : Thread nD τ).loc main_v98) = second4 m c
      ∧ r.2.mem ((c.tc : Thread nD τ).loc main_v100) = second5 m c
      ∧ r.2.mem ((c.tc : Thread nD τ).loc main_v102) = second6 m c
      ∧ r.2.mem ((c.tc : Thread nD τ).loc main_v104) = second7 m c
      ∧ r.2.mem ((c.tc : Thread nD τ).loc main_v106) = second8 m c
      ∧ r.2.mem ((c.tc : Thread nD τ).loc main_v108) = second9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39) :=
  (θ_run defs _ _).mono (fun r h c =>
      ⟨((h.1 c).2 main_v50 (Pipeline.mem_restRefs_of main_v50 (by decide) (by decide))).trans (afterDelta0 m c),
        ((h.1 c).2 main_v52 (Pipeline.mem_restRefs_of main_v52 (by decide) (by decide))).trans (afterDelta1 m c),
        ((h.1 c).2 main_v54 (Pipeline.mem_restRefs_of main_v54 (by decide) (by decide))).trans (afterDelta2 m c),
        ((h.1 c).2 main_v56 (Pipeline.mem_restRefs_of main_v56 (by decide) (by decide))).trans (afterDelta3 m c),
        ((h.1 c).2 main_v58 (Pipeline.mem_restRefs_of main_v58 (by decide) (by decide))).trans (afterDelta4 m c),
        ((h.1 c).2 main_v60 (Pipeline.mem_restRefs_of main_v60 (by decide) (by decide))).trans (afterDelta5 m c),
        ((h.1 c).2 main_v62 (Pipeline.mem_restRefs_of main_v62 (by decide) (by decide))).trans (afterDelta6 m c),
        ((h.1 c).2 main_v64 (Pipeline.mem_restRefs_of main_v64 (by decide) (by decide))).trans (afterDelta7 m c),
        ((h.1 c).2 main_v66 (Pipeline.mem_restRefs_of main_v66 (by decide) (by decide))).trans (afterDelta8 m c),
        ((h.1 c).2 main_v68 (Pipeline.mem_restRefs_of main_v68 (by decide) (by decide))).trans (afterDelta9 m c),
        ((h.1 c).2 main_v70 (Pipeline.mem_restRefs_of main_v70 (by decide) (by decide))).trans (afterMoment0 m c),
        ((h.1 c).2 main_v72 (Pipeline.mem_restRefs_of main_v72 (by decide) (by decide))).trans (afterMoment1 m c),
        ((h.1 c).2 main_v74 (Pipeline.mem_restRefs_of main_v74 (by decide) (by decide))).trans (afterMoment2 m c),
        ((h.1 c).2 main_v76 (Pipeline.mem_restRefs_of main_v76 (by decide) (by decide))).trans (afterMoment3 m c),
        ((h.1 c).2 main_v78 (Pipeline.mem_restRefs_of main_v78 (by decide) (by decide))).trans (afterMoment4 m c),
        ((h.1 c).2 main_v80 (Pipeline.mem_restRefs_of main_v80 (by decide) (by decide))).trans (afterMoment5 m c),
        ((h.1 c).2 main_v82 (Pipeline.mem_restRefs_of main_v82 (by decide) (by decide))).trans (afterMoment6 m c),
        ((h.1 c).2 main_v84 (Pipeline.mem_restRefs_of main_v84 (by decide) (by decide))).trans (afterMoment7 m c),
        ((h.1 c).2 main_v86 (Pipeline.mem_restRefs_of main_v86 (by decide) (by decide))).trans (afterMoment8 m c),
        ((h.1 c).2 main_v88 (Pipeline.mem_restRefs_of main_v88 (by decide) (by decide))).trans (afterMoment9 m c),
        ((h.1 c).2 main_v90 (Pipeline.mem_restRefs_of main_v90 (by decide) (by decide))).trans (afterSecond0 m c),
        ((h.1 c).2 main_v92 (Pipeline.mem_restRefs_of main_v92 (by decide) (by decide))).trans (afterSecond1 m c),
        ((h.1 c).2 main_v94 (Pipeline.mem_restRefs_of main_v94 (by decide) (by decide))).trans (afterSecond2 m c),
        ((h.1 c).2 main_v96 (Pipeline.mem_restRefs_of main_v96 (by decide) (by decide))).trans (afterSecond3 m c),
        ((h.1 c).2 main_v98 (Pipeline.mem_restRefs_of main_v98 (by decide) (by decide))).trans (afterSecond4 m c),
        ((h.1 c).2 main_v100 (Pipeline.mem_restRefs_of main_v100 (by decide) (by decide))).trans (afterSecond5 m c),
        ((h.1 c).2 main_v102 (Pipeline.mem_restRefs_of main_v102 (by decide) (by decide))).trans (afterSecond6 m c),
        ((h.1 c).2 main_v104 (Pipeline.mem_restRefs_of main_v104 (by decide) (by decide))).trans (afterSecond7 m c),
        ((h.1 c).2 main_v106 (Pipeline.mem_restRefs_of main_v106 (by decide) (by decide))).trans (afterSecond8 m c),
        ((h.1 c).2 main_v108 (Pipeline.mem_restRefs_of main_v108 (by decide) (by decide))).trans (afterSecond9 m c), h.2 c⟩)
    (θ_run_and (run_main m ρ) (unchanged m ρ))

end Cert.Kernel9Ideal.AdamWSmall

/-- The claim: over the extended reals the kernel's thirty results are the reference's. -/
theorem Cert.AdamWSmall.algebraic : Cert.algebraic_Kernel9Ideal_Reference9Ideal := by
  intro m g m' g' _ hargs
  refine ⟨fun c => Cert.Kernel9Ideal.AdamWSmall.delta0 m c, fun c => Cert.Kernel9Ideal.AdamWSmall.delta1 m c, fun c => Cert.Kernel9Ideal.AdamWSmall.delta2 m c, fun c => Cert.Kernel9Ideal.AdamWSmall.delta3 m c, fun c => Cert.Kernel9Ideal.AdamWSmall.delta4 m c, fun c => Cert.Kernel9Ideal.AdamWSmall.delta5 m c, fun c => Cert.Kernel9Ideal.AdamWSmall.delta6 m c, fun c => Cert.Kernel9Ideal.AdamWSmall.delta7 m c, fun c => Cert.Kernel9Ideal.AdamWSmall.delta8 m c, fun c => Cert.Kernel9Ideal.AdamWSmall.delta9 m c, fun c => Cert.Kernel9Ideal.AdamWSmall.moment0 m c, fun c => Cert.Kernel9Ideal.AdamWSmall.moment1 m c, fun c => Cert.Kernel9Ideal.AdamWSmall.moment2 m c, fun c => Cert.Kernel9Ideal.AdamWSmall.moment3 m c, fun c => Cert.Kernel9Ideal.AdamWSmall.moment4 m c, fun c => Cert.Kernel9Ideal.AdamWSmall.moment5 m c, fun c => Cert.Kernel9Ideal.AdamWSmall.moment6 m c, fun c => Cert.Kernel9Ideal.AdamWSmall.moment7 m c, fun c => Cert.Kernel9Ideal.AdamWSmall.moment8 m c, fun c => Cert.Kernel9Ideal.AdamWSmall.moment9 m c, fun c => Cert.Kernel9Ideal.AdamWSmall.second0 m c, fun c => Cert.Kernel9Ideal.AdamWSmall.second1 m c, fun c => Cert.Kernel9Ideal.AdamWSmall.second2 m c, fun c => Cert.Kernel9Ideal.AdamWSmall.second3 m c, fun c => Cert.Kernel9Ideal.AdamWSmall.second4 m c, fun c => Cert.Kernel9Ideal.AdamWSmall.second5 m c, fun c => Cert.Kernel9Ideal.AdamWSmall.second6 m c, fun c => Cert.Kernel9Ideal.AdamWSmall.second7 m c, fun c => Cert.Kernel9Ideal.AdamWSmall.second8 m c, fun c => Cert.Kernel9Ideal.AdamWSmall.second9 m c, Cert.Kernel9Ideal.AdamWSmall.run m g, ?_⟩
  refine (θ_run _ _ _).mono (fun r h c => ?_) (Cert.Reference9Ideal.Value.run (F := Ideal) m' g')
  obtain ⟨e0, e1, e2, e3, e4, e5, e6, e7, e8, e9, e10, e11, e12, e13, e14, e15, e16, e17, e18, e19, e20, e21, e22, e23, e24, e25, e26, e27, e28, e29, kept⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39⟩ := hargs c
  refine ⟨e0.trans (funext fun i => ?_), e1.trans (funext fun i => ?_), e2.trans (funext fun i => ?_), e3.trans (funext fun i => ?_), e4.trans (funext fun i => ?_), e5.trans (funext fun i => ?_), e6.trans (funext fun i => ?_), e7.trans (funext fun i => ?_), e8.trans (funext fun i => ?_), e9.trans (funext fun i => ?_), e10.trans (funext fun i => ?_), e11.trans (funext fun i => ?_), e12.trans (funext fun i => ?_), e13.trans (funext fun i => ?_), e14.trans (funext fun i => ?_), e15.trans (funext fun i => ?_), e16.trans (funext fun i => ?_), e17.trans (funext fun i => ?_), e18.trans (funext fun i => ?_), e19.trans (funext fun i => ?_), e20.trans (funext fun i => ?_), e21.trans (funext fun i => ?_), e22.trans (funext fun i => ?_), e23.trans (funext fun i => ?_), e24.trans (funext fun i => ?_), e25.trans (funext fun i => ?_), e26.trans (funext fun i => ?_), e27.trans (funext fun i => ?_), e28.trans (funext fun i => ?_), e29.trans (funext fun i => ?_), kept⟩
  · show Cert.AdamW.delta (m' ((c.tc : Thread Cert.Reference9Ideal.nD Cert.Reference9Ideal.τ).loc Cert.Reference9Ideal.main_arg0) i) (m' ((c.tc : Thread Cert.Reference9Ideal.nD Cert.Reference9Ideal.τ).loc Cert.Reference9Ideal.main_arg10) i) (m' ((c.tc : Thread Cert.Reference9Ideal.nD Cert.Reference9Ideal.τ).loc Cert.Reference9Ideal.main_arg20) i) (m' ((c.tc : Thread Cert.Reference9Ideal.nD Cert.Reference9Ideal.τ).loc Cert.Reference9Ideal.main_arg30) i) = Cert.Kernel9Ideal.AdamWSmall.delta0 m c i
    rw [a0, a10, a20, a30]
    rfl
  · show Cert.AdamW.delta (m' ((c.tc : Thread Cert.Reference9Ideal.nD Cert.Reference9Ideal.τ).loc Cert.Reference9Ideal.main_arg1) i) (m' ((c.tc : Thread Cert.Reference9Ideal.nD Cert.Reference9Ideal.τ).loc Cert.Reference9Ideal.main_arg11) i) (m' ((c.tc : Thread Cert.Reference9Ideal.nD Cert.Reference9Ideal.τ).loc Cert.Reference9Ideal.main_arg21) i) (m' ((c.tc : Thread Cert.Reference9Ideal.nD Cert.Reference9Ideal.τ).loc Cert.Reference9Ideal.main_arg31) i) = Cert.Kernel9Ideal.AdamWSmall.delta1 m c i
    rw [a1, a11, a21, a31]
    rfl
  · show Cert.AdamW.delta (m' ((c.tc : Thread Cert.Reference9Ideal.nD Cert.Reference9Ideal.τ).loc Cert.Reference9Ideal.main_arg2) i) (m' ((c.tc : Thread Cert.Reference9Ideal.nD Cert.Reference9Ideal.τ).loc Cert.Reference9Ideal.main_arg12) i) (m' ((c.tc : Thread Cert.Reference9Ideal.nD Cert.Reference9Ideal.τ).loc Cert.Reference9Ideal.main_arg22) i) (m' ((c.tc : Thread Cert.Reference9Ideal.nD Cert.Reference9Ideal.τ).loc Cert.Reference9Ideal.main_arg32) i) = Cert.Kernel9Ideal.AdamWSmall.delta2 m c i
    rw [a2, a12, a22, a32]
    rfl
  · show Cert.AdamW.delta (m' ((c.tc : Thread Cert.Reference9Ideal.nD Cert.Reference9Ideal.τ).loc Cert.Reference9Ideal.main_arg3) i) (m' ((c.tc : Thread Cert.Reference9Ideal.nD Cert.Reference9Ideal.τ).loc Cert.Reference9Ideal.main_arg13) i) (m' ((c.tc : Thread Cert.Reference9Ideal.nD Cert.Reference9Ideal.τ).loc Cert.Reference9Ideal.main_arg23) i) (m' ((c.tc : Thread Cert.Reference9Ideal.nD Cert.Reference9Ideal.τ).loc Cert.Reference9Ideal.main_arg33) i) = Cert.Kernel9Ideal.AdamWSmall.delta3 m c i
    rw [a3, a13, a23, a33]
    rfl
  · show Cert.AdamW.delta (m' ((c.tc : Thread Cert.Reference9Ideal.nD Cert.Reference9Ideal.τ).loc Cert.Reference9Ideal.main_arg4) i) (m' ((c.tc : Thread Cert.Reference9Ideal.nD Cert.Reference9Ideal.τ).loc Cert.Reference9Ideal.main_arg14) i) (m' ((c.tc : Thread Cert.Reference9Ideal.nD Cert.Reference9Ideal.τ).loc Cert.Reference9Ideal.main_arg24) i) (m' ((c.tc : Thread Cert.Reference9Ideal.nD Cert.Reference9Ideal.τ).loc Cert.Reference9Ideal.main_arg34) i) = Cert.Kernel9Ideal.AdamWSmall.delta4 m c i
    rw [a4, a14, a24, a34]
    rfl
  · show Cert.AdamW.delta (m' ((c.tc : Thread Cert.Reference9Ideal.nD Cert.Reference9Ideal.τ).loc Cert.Reference9Ideal.main_arg5) i) (m' ((c.tc : Thread Cert.Reference9Ideal.nD Cert.Reference9Ideal.τ).loc Cert.Reference9Ideal.main_arg15) i) (m' ((c.tc : Thread Cert.Reference9Ideal.nD Cert.Reference9Ideal.τ).loc Cert.Reference9Ideal.main_arg25) i) (m' ((c.tc : Thread Cert.Reference9Ideal.nD Cert.Reference9Ideal.τ).loc Cert.Reference9Ideal.main_arg35) i) = Cert.Kernel9Ideal.AdamWSmall.delta5 m c i
    rw [a5, a15, a25, a35]
    rfl
  · show Cert.AdamW.delta (m' ((c.tc : Thread Cert.Reference9Ideal.nD Cert.Reference9Ideal.τ).loc Cert.Reference9Ideal.main_arg6) i) (m' ((c.tc : Thread Cert.Reference9Ideal.nD Cert.Reference9Ideal.τ).loc Cert.Reference9Ideal.main_arg16) i) (m' ((c.tc : Thread Cert.Reference9Ideal.nD Cert.Reference9Ideal.τ).loc Cert.Reference9Ideal.main_arg26) i) (m' ((c.tc : Thread Cert.Reference9Ideal.nD Cert.Reference9Ideal.τ).loc Cert.Reference9Ideal.main_arg36) i) = Cert.Kernel9Ideal.AdamWSmall.delta6 m c i
    rw [a6, a16, a26, a36]
    rfl
  · show Cert.AdamW.delta (m' ((c.tc : Thread Cert.Reference9Ideal.nD Cert.Reference9Ideal.τ).loc Cert.Reference9Ideal.main_arg7) i) (m' ((c.tc : Thread Cert.Reference9Ideal.nD Cert.Reference9Ideal.τ).loc Cert.Reference9Ideal.main_arg17) i) (m' ((c.tc : Thread Cert.Reference9Ideal.nD Cert.Reference9Ideal.τ).loc Cert.Reference9Ideal.main_arg27) i) (m' ((c.tc : Thread Cert.Reference9Ideal.nD Cert.Reference9Ideal.τ).loc Cert.Reference9Ideal.main_arg37) i) = Cert.Kernel9Ideal.AdamWSmall.delta7 m c i
    rw [a7, a17, a27, a37]
    rfl
  · show Cert.AdamW.delta (m' ((c.tc : Thread Cert.Reference9Ideal.nD Cert.Reference9Ideal.τ).loc Cert.Reference9Ideal.main_arg8) i) (m' ((c.tc : Thread Cert.Reference9Ideal.nD Cert.Reference9Ideal.τ).loc Cert.Reference9Ideal.main_arg18) i) (m' ((c.tc : Thread Cert.Reference9Ideal.nD Cert.Reference9Ideal.τ).loc Cert.Reference9Ideal.main_arg28) i) (m' ((c.tc : Thread Cert.Reference9Ideal.nD Cert.Reference9Ideal.τ).loc Cert.Reference9Ideal.main_arg38) i) = Cert.Kernel9Ideal.AdamWSmall.delta8 m c i
    rw [a8, a18, a28, a38]
    rfl
  · show Cert.AdamW.delta (m' ((c.tc : Thread Cert.Reference9Ideal.nD Cert.Reference9Ideal.τ).loc Cert.Reference9Ideal.main_arg9) i) (m' ((c.tc : Thread Cert.Reference9Ideal.nD Cert.Reference9Ideal.τ).loc Cert.Reference9Ideal.main_arg19) i) (m' ((c.tc : Thread Cert.Reference9Ideal.nD Cert.Reference9Ideal.τ).loc Cert.Reference9Ideal.main_arg29) i) (m' ((c.tc : Thread Cert.Reference9Ideal.nD Cert.Reference9Ideal.τ).loc Cert.Reference9Ideal.main_arg39) i) = Cert.Kernel9Ideal.AdamWSmall.delta9 m c i
    rw [a9, a19, a29, a39]
    rfl
  · show Cert.AdamW.moment (m' ((c.tc : Thread Cert.Reference9Ideal.nD Cert.Reference9Ideal.τ).loc Cert.Reference9Ideal.main_arg10) i) (m' ((c.tc : Thread Cert.Reference9Ideal.nD Cert.Reference9Ideal.τ).loc Cert.Reference9Ideal.main_arg20) i) = Cert.Kernel9Ideal.AdamWSmall.moment0 m c i
    rw [a10, a20]
    rfl
  · show Cert.AdamW.moment (m' ((c.tc : Thread Cert.Reference9Ideal.nD Cert.Reference9Ideal.τ).loc Cert.Reference9Ideal.main_arg11) i) (m' ((c.tc : Thread Cert.Reference9Ideal.nD Cert.Reference9Ideal.τ).loc Cert.Reference9Ideal.main_arg21) i) = Cert.Kernel9Ideal.AdamWSmall.moment1 m c i
    rw [a11, a21]
    rfl
  · show Cert.AdamW.moment (m' ((c.tc : Thread Cert.Reference9Ideal.nD Cert.Reference9Ideal.τ).loc Cert.Reference9Ideal.main_arg12) i) (m' ((c.tc : Thread Cert.Reference9Ideal.nD Cert.Reference9Ideal.τ).loc Cert.Reference9Ideal.main_arg22) i) = Cert.Kernel9Ideal.AdamWSmall.moment2 m c i
    rw [a12, a22]
    rfl
  · show Cert.AdamW.moment (m' ((c.tc : Thread Cert.Reference9Ideal.nD Cert.Reference9Ideal.τ).loc Cert.Reference9Ideal.main_arg13) i) (m' ((c.tc : Thread Cert.Reference9Ideal.nD Cert.Reference9Ideal.τ).loc Cert.Reference9Ideal.main_arg23) i) = Cert.Kernel9Ideal.AdamWSmall.moment3 m c i
    rw [a13, a23]
    rfl
  · show Cert.AdamW.moment (m' ((c.tc : Thread Cert.Reference9Ideal.nD Cert.Reference9Ideal.τ).loc Cert.Reference9Ideal.main_arg14) i) (m' ((c.tc : Thread Cert.Reference9Ideal.nD Cert.Reference9Ideal.τ).loc Cert.Reference9Ideal.main_arg24) i) = Cert.Kernel9Ideal.AdamWSmall.moment4 m c i
    rw [a14, a24]
    rfl
  · show Cert.AdamW.moment (m' ((c.tc : Thread Cert.Reference9Ideal.nD Cert.Reference9Ideal.τ).loc Cert.Reference9Ideal.main_arg15) i) (m' ((c.tc : Thread Cert.Reference9Ideal.nD Cert.Reference9Ideal.τ).loc Cert.Reference9Ideal.main_arg25) i) = Cert.Kernel9Ideal.AdamWSmall.moment5 m c i
    rw [a15, a25]
    rfl
  · show Cert.AdamW.moment (m' ((c.tc : Thread Cert.Reference9Ideal.nD Cert.Reference9Ideal.τ).loc Cert.Reference9Ideal.main_arg16) i) (m' ((c.tc : Thread Cert.Reference9Ideal.nD Cert.Reference9Ideal.τ).loc Cert.Reference9Ideal.main_arg26) i) = Cert.Kernel9Ideal.AdamWSmall.moment6 m c i
    rw [a16, a26]
    rfl
  · show Cert.AdamW.moment (m' ((c.tc : Thread Cert.Reference9Ideal.nD Cert.Reference9Ideal.τ).loc Cert.Reference9Ideal.main_arg17) i) (m' ((c.tc : Thread Cert.Reference9Ideal.nD Cert.Reference9Ideal.τ).loc Cert.Reference9Ideal.main_arg27) i) = Cert.Kernel9Ideal.AdamWSmall.moment7 m c i
    rw [a17, a27]
    rfl
  · show Cert.AdamW.moment (m' ((c.tc : Thread Cert.Reference9Ideal.nD Cert.Reference9Ideal.τ).loc Cert.Reference9Ideal.main_arg18) i) (m' ((c.tc : Thread Cert.Reference9Ideal.nD Cert.Reference9Ideal.τ).loc Cert.Reference9Ideal.main_arg28) i) = Cert.Kernel9Ideal.AdamWSmall.moment8 m c i
    rw [a18, a28]
    rfl
  · show Cert.AdamW.moment (m' ((c.tc : Thread Cert.Reference9Ideal.nD Cert.Reference9Ideal.τ).loc Cert.Reference9Ideal.main_arg19) i) (m' ((c.tc : Thread Cert.Reference9Ideal.nD Cert.Reference9Ideal.τ).loc Cert.Reference9Ideal.main_arg29) i) = Cert.Kernel9Ideal.AdamWSmall.moment9 m c i
    rw [a19, a29]
    rfl
  · show Cert.AdamW.second (m' ((c.tc : Thread Cert.Reference9Ideal.nD Cert.Reference9Ideal.τ).loc Cert.Reference9Ideal.main_arg10) i) (m' ((c.tc : Thread Cert.Reference9Ideal.nD Cert.Reference9Ideal.τ).loc Cert.Reference9Ideal.main_arg30) i) = Cert.Kernel9Ideal.AdamWSmall.second0 m c i
    rw [a10, a30]
    rfl
  · show Cert.AdamW.second (m' ((c.tc : Thread Cert.Reference9Ideal.nD Cert.Reference9Ideal.τ).loc Cert.Reference9Ideal.main_arg11) i) (m' ((c.tc : Thread Cert.Reference9Ideal.nD Cert.Reference9Ideal.τ).loc Cert.Reference9Ideal.main_arg31) i) = Cert.Kernel9Ideal.AdamWSmall.second1 m c i
    rw [a11, a31]
    rfl
  · show Cert.AdamW.second (m' ((c.tc : Thread Cert.Reference9Ideal.nD Cert.Reference9Ideal.τ).loc Cert.Reference9Ideal.main_arg12) i) (m' ((c.tc : Thread Cert.Reference9Ideal.nD Cert.Reference9Ideal.τ).loc Cert.Reference9Ideal.main_arg32) i) = Cert.Kernel9Ideal.AdamWSmall.second2 m c i
    rw [a12, a32]
    rfl
  · show Cert.AdamW.second (m' ((c.tc : Thread Cert.Reference9Ideal.nD Cert.Reference9Ideal.τ).loc Cert.Reference9Ideal.main_arg13) i) (m' ((c.tc : Thread Cert.Reference9Ideal.nD Cert.Reference9Ideal.τ).loc Cert.Reference9Ideal.main_arg33) i) = Cert.Kernel9Ideal.AdamWSmall.second3 m c i
    rw [a13, a33]
    rfl
  · show Cert.AdamW.second (m' ((c.tc : Thread Cert.Reference9Ideal.nD Cert.Reference9Ideal.τ).loc Cert.Reference9Ideal.main_arg14) i) (m' ((c.tc : Thread Cert.Reference9Ideal.nD Cert.Reference9Ideal.τ).loc Cert.Reference9Ideal.main_arg34) i) = Cert.Kernel9Ideal.AdamWSmall.second4 m c i
    rw [a14, a34]
    rfl
  · show Cert.AdamW.second (m' ((c.tc : Thread Cert.Reference9Ideal.nD Cert.Reference9Ideal.τ).loc Cert.Reference9Ideal.main_arg15) i) (m' ((c.tc : Thread Cert.Reference9Ideal.nD Cert.Reference9Ideal.τ).loc Cert.Reference9Ideal.main_arg35) i) = Cert.Kernel9Ideal.AdamWSmall.second5 m c i
    rw [a15, a35]
    rfl
  · show Cert.AdamW.second (m' ((c.tc : Thread Cert.Reference9Ideal.nD Cert.Reference9Ideal.τ).loc Cert.Reference9Ideal.main_arg16) i) (m' ((c.tc : Thread Cert.Reference9Ideal.nD Cert.Reference9Ideal.τ).loc Cert.Reference9Ideal.main_arg36) i) = Cert.Kernel9Ideal.AdamWSmall.second6 m c i
    rw [a16, a36]
    rfl
  · show Cert.AdamW.second (m' ((c.tc : Thread Cert.Reference9Ideal.nD Cert.Reference9Ideal.τ).loc Cert.Reference9Ideal.main_arg17) i) (m' ((c.tc : Thread Cert.Reference9Ideal.nD Cert.Reference9Ideal.τ).loc Cert.Reference9Ideal.main_arg37) i) = Cert.Kernel9Ideal.AdamWSmall.second7 m c i
    rw [a17, a37]
    rfl
  · show Cert.AdamW.second (m' ((c.tc : Thread Cert.Reference9Ideal.nD Cert.Reference9Ideal.τ).loc Cert.Reference9Ideal.main_arg18) i) (m' ((c.tc : Thread Cert.Reference9Ideal.nD Cert.Reference9Ideal.τ).loc Cert.Reference9Ideal.main_arg38) i) = Cert.Kernel9Ideal.AdamWSmall.second8 m c i
    rw [a18, a38]
    rfl
  · show Cert.AdamW.second (m' ((c.tc : Thread Cert.Reference9Ideal.nD Cert.Reference9Ideal.τ).loc Cert.Reference9Ideal.main_arg19) i) (m' ((c.tc : Thread Cert.Reference9Ideal.nD Cert.Reference9Ideal.τ).loc Cert.Reference9Ideal.main_arg39) i) = Cert.Kernel9Ideal.AdamWSmall.second9 m c i
    rw [a19, a39]
    rfl

end
-- ==== Proof.ModNormGradIdealFrame.lean ====
/- The frame of the idealized backward pass of the modulated layer norm: the body at each grid point, what the
   two outputs hold after it, and that the whole launch ends with its arguments unchanged. The point of the context rows
   and the first point of the latent rows start the sums afresh; every later point adds to them. -/
module

public import proofs.«01_k».proof.Proof.Gen.Kernel3Ideal.Skeleton
public import proofs.«01_k».proof.Proof.Gen.Kernel3Ideal.Frame
public import Idealize.ShloMosaic.Lib.Claim

@[expose] public section

set_option maxRecDepth 16384

noncomputable section

namespace Cert.Kernel3Ideal.ModNormGrad

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition: this point is the context's or the first of the latent rows. -/
abbrev Starts (i : grid0.Coords) : Prop :=
  Scalar.cmpi .ne (Scalar.extui (Scalar.ori (Scalar.cmpi .eq (BitVec.ofNat 32 (i 0).val) 0#32) (Scalar.cmpi .eq (BitVec.ofNat 32 (i 0).val) 1#32)) : BitVec 32) 0#32 = 1#1

/-- It holds at the first two points and no others. -/
theorem starts_iff : ∀ t : Fin cfg0.N, Starts (grid0.coords t) ↔ t.val ≤ 1 := by decide +kernel

/-- The sums are not written back after the points 1 to 15. -/
theorem sums_kept : ∀ t : Fin cfg0.N, 1 ≤ t.val → t.val ≤ 15 → (cfg0.win 6).flush t = false := by decide +kernel

theorem whole0 (t : Fin cfg0.N) : (st0_0 t).IsWhole := hstage0_0 ((cfg0.slots t 0).cast nbuf0_0)
theorem whole1 (t : Fin cfg0.N) : (st0_1 t).IsWhole := hstage0_1 ((cfg0.slots t 1).cast nbuf0_1)
theorem whole2 (t : Fin cfg0.N) : (st0_2 t).IsWhole := hstage0_2 ((cfg0.slots t 2).cast nbuf0_2)
theorem whole3 (t : Fin cfg0.N) : (st0_3 t).IsWhole := hstage0_3 ((cfg0.slots t 3).cast nbuf0_3)
theorem whole4 (t : Fin cfg0.N) : (st0_4 t).IsWhole := hstage0_4 ((cfg0.slots t 4).cast nbuf0_4)
theorem whole5 (t : Fin cfg0.N) : (st0_5 t).IsWhole := hstage0_5 ((cfg0.slots t 5).cast nbuf0_5)
theorem whole6 (t : Fin cfg0.N) : (st0_6 t).IsWhole := hstage0_6 ((cfg0.slots t 6).cast nbuf0_6)

/-- A view of each output's block. -/
abbrev VG : View sig .tc .vmem S256x2048 .f32 := (Memref.whole cc0_stg5_0).view
abbrev VS : View sig .tc .vmem S1x8x2048 .f32 := (Memref.whole cc0_stg6_0).view

set_option maxHeartbeats 1000000 in
/-- The body at a point that starts a class: what its stores leave in the two outputs' buffers, as pieces, last first, with
    the proof that it runs from the inputs' blocks and anything in the outputs' buffers. -/
noncomputable def runFirst (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x8x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x8x2048 .f32) (harg7 : arg7.IsWhole) (hc : Starts i)
    (x0 : Vec F S256x2048 .f32) (x1 : Vec F S256x2048 .f32) (x2 : Vec F S256x2048 .f32) (x3 : Vec F S1x8x2048 .f32) (x4 : Vec F S256x2048 .f32) :
    Σ' (L5 : List (View.Piece (Elt F) S256x2048 .f32)), { L6 : List (View.Piece (Elt F) S1x8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_modulate_bwd i arg1 harg1 arg2 harg2 arg3 harg3 arg4 harg4 arg5 harg5 arg6 harg6 arg7 harg7) K } := by
  refine ⟨?_, ?_, fun E K => ?run⟩
  case run =>
    simp only [cc0_modulate_bwd_eq_skeleton]; unfold cc0_modulate_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

set_option maxHeartbeats 1000000 in
/-- The body at a later point of a class: what its stores leave in the two outputs' buffers, as pieces, last first, with
    the proof that it runs from the inputs' blocks and the sums so far. -/
noncomputable def runLater (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x8x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x8x2048 .f32) (harg7 : arg7.IsWhole) (hc : ¬Starts i)
    (x0 : Vec F S256x2048 .f32) (x1 : Vec F S256x2048 .f32) (x2 : Vec F S256x2048 .f32) (x3 : Vec F S1x8x2048 .f32) (x4 : Vec F S256x2048 .f32) (xo : Vec F S1x8x2048 .f32) :
    Σ' (L5 : List (View.Piece (Elt F) S256x2048 .f32)), { L6 : List (View.Piece (Elt F) S1x8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread xo) L6)) -∗ K ⟨⟩))
          ⊢ wp frame (wpE (defs₀ (F := F)) Variants.none c none) E (cc0_modulate_bwd i arg1 harg1 arg2 harg2 arg3 harg3 arg4 harg4 arg5 harg5 arg6 harg6 arg7 harg7) K } := by
  refine ⟨?_, ?_, fun E K => ?run⟩
  case run =>
    simp only [cc0_modulate_bwd_eq_skeleton]; unfold cc0_modulate_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexact H6

/-- The stores of each case cover the gradient's block; where the sums start, they cover the sums' block. -/
theorem cover_gradFirst (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x8x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x8x2048 .f32) (harg7 : arg7.IsWhole) (hc : Starts i)
    (x0 : Vec F S256x2048 .f32) (x1 : Vec F S256x2048 .f32) (x2 : Vec F S256x2048 .f32) (x3 : Vec F S1x8x2048 .f32) (x4 : Vec F S256x2048 .f32) (y : S256x2048.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S256x2048.size (by sl_kernel_rfl) y
theorem cover_sumsFirst (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x8x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x8x2048 .f32) (harg7 : arg7.IsWhole) (hc : Starts i)
    (x0 : Vec F S256x2048 .f32) (x1 : Vec F S256x2048 .f32) (x2 : Vec F S256x2048 .f32) (x3 : Vec F S1x8x2048 .f32) (x4 : Vec F S256x2048 .f32) (y : S1x8x2048.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledBy (runFirst c i arg1 harg1 arg2 harg2 arg3 harg3 arg4 harg4 arg5 harg5 arg6 harg6 arg7 harg7 hc x0 x1 x2 x3 x4).2.1 ![1, 1, 2048] (by sl_kernel_rfl) y
theorem cover_gradLater (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x8x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x8x2048 .f32) (harg7 : arg7.IsWhole) (hc : ¬Starts i)
    (x0 : Vec F S256x2048 .f32) (x1 : Vec F S256x2048 .f32) (x2 : Vec F S256x2048 .f32) (x3 : Vec F S1x8x2048 .f32) (x4 : Vec F S256x2048 .f32) (xo : Vec F S1x8x2048 .f32) (y : S256x2048.Idx) :
    ∃ pc ∈ (runLater c i arg1 harg1 arg2 harg2 arg3 harg3 arg4 harg4 arg5 harg5 arg6 harg6 arg7 harg7 hc x0 x1 x2 x3 x4 xo).1, y ∈ pc.1.set :=
  View.cover_of_tiledL (runLater c i arg1 harg1 arg2 harg2 arg3 harg3 arg4 harg4 arg5 harg5 arg6 harg6 arg7 harg7 hc x0 x1 x2 x3 x4 xo).1 S256x2048.size (by sl_kernel_rfl) y

/-- What each case leaves in the outputs' buffers. -/
def gradFirst (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x8x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x8x2048 .f32) (harg7 : arg7.IsWhole) (hc : Starts i)
    (x0 : Vec F S256x2048 .f32) (x1 : Vec F S256x2048 .f32) (x2 : Vec F S256x2048 .f32) (x3 : Vec F S1x8x2048 .f32) (x4 : Vec F S256x2048 .f32) : Vec F S256x2048 .f32 :=
  VG.read (Elt F) (VG.writes (Elt F) VG.junk (runFirst c i arg1 harg1 arg2 harg2 arg3 harg3 arg4 harg4 arg5 harg5 arg6 harg6 arg7 harg7 hc x0 x1 x2 x3 x4).1)
def sumsFirst (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x8x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x8x2048 .f32) (harg7 : arg7.IsWhole) (hc : Starts i)
    (x0 : Vec F S256x2048 .f32) (x1 : Vec F S256x2048 .f32) (x2 : Vec F S256x2048 .f32) (x3 : Vec F S1x8x2048 .f32) (x4 : Vec F S256x2048 .f32) : Vec F S1x8x2048 .f32 :=
  VS.read (Elt F) (VS.writes (Elt F) VS.junk (runFirst c i arg1 harg1 arg2 harg2 arg3 harg3 arg4 harg4 arg5 harg5 arg6 harg6 arg7 harg7 hc x0 x1 x2 x3 x4).2.1)
def gradLater (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x8x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x8x2048 .f32) (harg7 : arg7.IsWhole) (hc : ¬Starts i)
    (x0 : Vec F S256x2048 .f32) (x1 : Vec F S256x2048 .f32) (x2 : Vec F S256x2048 .f32) (x3 : Vec F S1x8x2048 .f32) (x4 : Vec F S256x2048 .f32) (xo : Vec F S1x8x2048 .f32) : Vec F S256x2048 .f32 :=
  VG.read (Elt F) (VG.writes (Elt F) VG.junk (runLater c i arg1 harg1 arg2 harg2 arg3 harg3 arg4 harg4 arg5 harg5 arg6 harg6 arg7 harg7 hc x0 x1 x2 x3 x4 xo).1)
def sumsLater (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x8x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x8x2048 .f32) (harg7 : arg7.IsWhole) (hc : ¬Starts i)
    (x0 : Vec F S256x2048 .f32) (x1 : Vec F S256x2048 .f32) (x2 : Vec F S256x2048 .f32) (x3 : Vec F S1x8x2048 .f32) (x4 : Vec F S256x2048 .f32) (xo : Vec F S1x8x2048 .f32) : Vec F S1x8x2048 .f32 :=
  arg7.view.read (Elt F) (arg7.view.writes (Elt F) (harg7.unread xo) (runLater c i arg1 harg1 arg2 harg2 arg3 harg3 arg4 harg4 arg5 harg5 arg6 harg6 arg7 harg7 hc x0 x1 x2 x3 x4 xo).2.1)

/-- What the outputs' buffers hold after the body at point `n`: a later point adds to what the one before it left. -/
def outsAt (c : Dev nD) : (n : ℕ) → n < cfg0.N → Vec F S256x2048 .f32 × Vec F S1x8x2048 .f32
  | 0, hn => (gradFirst c (grid0.coords ⟨0, hn⟩) (st0_0 ⟨0, hn⟩) (whole0 ⟨0, hn⟩) (st0_1 ⟨0, hn⟩) (whole1 ⟨0, hn⟩) (st0_2 ⟨0, hn⟩) (whole2 ⟨0, hn⟩) (st0_3 ⟨0, hn⟩) (whole3 ⟨0, hn⟩) (st0_4 ⟨0, hn⟩) (whole4 ⟨0, hn⟩) (st0_5 ⟨0, hn⟩) (whole5 ⟨0, hn⟩) (st0_6 ⟨0, hn⟩) (whole6 ⟨0, hn⟩) ((starts_iff ⟨0, hn⟩).mpr (Nat.zero_le _)) (iblk m c 0 ⟨0, hn⟩) (iblk m c 1 ⟨0, hn⟩) (iblk m c 2 ⟨0, hn⟩) (iblk m c 3 ⟨0, hn⟩) (iblk m c 4 ⟨0, hn⟩), sumsFirst c (grid0.coords ⟨0, hn⟩) (st0_0 ⟨0, hn⟩) (whole0 ⟨0, hn⟩) (st0_1 ⟨0, hn⟩) (whole1 ⟨0, hn⟩) (st0_2 ⟨0, hn⟩) (whole2 ⟨0, hn⟩) (st0_3 ⟨0, hn⟩) (whole3 ⟨0, hn⟩) (st0_4 ⟨0, hn⟩) (whole4 ⟨0, hn⟩) (st0_5 ⟨0, hn⟩) (whole5 ⟨0, hn⟩) (st0_6 ⟨0, hn⟩) (whole6 ⟨0, hn⟩) ((starts_iff ⟨0, hn⟩).mpr (Nat.zero_le _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : n + 1 ≤ 1 then
      (gradFirst c (grid0.coords ⟨n + 1, hn⟩) (st0_0 ⟨n + 1, hn⟩) (whole0 ⟨n + 1, hn⟩) (st0_1 ⟨n + 1, hn⟩) (whole1 ⟨n + 1, hn⟩) (st0_2 ⟨n + 1, hn⟩) (whole2 ⟨n + 1, hn⟩) (st0_3 ⟨n + 1, hn⟩) (whole3 ⟨n + 1, hn⟩) (st0_4 ⟨n + 1, hn⟩) (whole4 ⟨n + 1, hn⟩) (st0_5 ⟨n + 1, hn⟩) (whole5 ⟨n + 1, hn⟩) (st0_6 ⟨n + 1, hn⟩) (whole6 ⟨n + 1, hn⟩) ((starts_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sumsFirst c (grid0.coords ⟨n + 1, hn⟩) (st0_0 ⟨n + 1, hn⟩) (whole0 ⟨n + 1, hn⟩) (st0_1 ⟨n + 1, hn⟩) (whole1 ⟨n + 1, hn⟩) (st0_2 ⟨n + 1, hn⟩) (whole2 ⟨n + 1, hn⟩) (st0_3 ⟨n + 1, hn⟩) (whole3 ⟨n + 1, hn⟩) (st0_4 ⟨n + 1, hn⟩) (whole4 ⟨n + 1, hn⟩) (st0_5 ⟨n + 1, hn⟩) (whole5 ⟨n + 1, hn⟩) (st0_6 ⟨n + 1, hn⟩) (whole6 ⟨n + 1, hn⟩) ((starts_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (gradLater c (grid0.coords ⟨n + 1, hn⟩) (st0_0 ⟨n + 1, hn⟩) (whole0 ⟨n + 1, hn⟩) (st0_1 ⟨n + 1, hn⟩) (whole1 ⟨n + 1, hn⟩) (st0_2 ⟨n + 1, hn⟩) (whole2 ⟨n + 1, hn⟩) (st0_3 ⟨n + 1, hn⟩) (whole3 ⟨n + 1, hn⟩) (st0_4 ⟨n + 1, hn⟩) (whole4 ⟨n + 1, hn⟩) (st0_5 ⟨n + 1, hn⟩) (whole5 ⟨n + 1, hn⟩) (st0_6 ⟨n + 1, hn⟩) (whole6 ⟨n + 1, hn⟩) (fun h => h0 ((starts_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2, sumsLater c (grid0.coords ⟨n + 1, hn⟩) (st0_0 ⟨n + 1, hn⟩) (whole0 ⟨n + 1, hn⟩) (st0_1 ⟨n + 1, hn⟩) (whole1 ⟨n + 1, hn⟩) (st0_2 ⟨n + 1, hn⟩) (whole2 ⟨n + 1, hn⟩) (st0_3 ⟨n + 1, hn⟩) (whole3 ⟨n + 1, hn⟩) (st0_4 ⟨n + 1, hn⟩) (whole4 ⟨n + 1, hn⟩) (st0_5 ⟨n + 1, hn⟩) (whole5 ⟨n + 1, hn⟩) (st0_6 ⟨n + 1, hn⟩) (whole6 ⟨n + 1, hn⟩) (fun h => h0 ((starts_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2)

theorem outsAt_first (c : Dev nD) (t : Fin cfg0.N) (h0 : t.val ≤ 1) :
    outsAt m c t.val t.isLt = (gradFirst c (grid0.coords t) (st0_0 t) (whole0 t) (st0_1 t) (whole1 t) (st0_2 t) (whole2 t) (st0_3 t) (whole3 t) (st0_4 t) (whole4 t) (st0_5 t) (whole5 t) (st0_6 t) (whole6 t) ((starts_iff t).mpr h0) (iblk m c 0 t) (iblk m c 1 t) (iblk m c 2 t) (iblk m c 3 t) (iblk m c 4 t), sumsFirst c (grid0.coords t) (st0_0 t) (whole0 t) (st0_1 t) (whole1 t) (st0_2 t) (whole2 t) (st0_3 t) (whole3 t) (st0_4 t) (whole4 t) (st0_5 t) (whole5 t) (st0_6 t) (whole6 t) ((starts_iff t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

theorem outsAt_later (c : Dev nD) (t : Fin cfg0.N) (h0 : ¬t.val ≤ 1) :
    outsAt m c t.val t.isLt = (gradLater c (grid0.coords t) (st0_0 t) (whole0 t) (st0_1 t) (whole1 t) (st0_2 t) (whole2 t) (st0_3 t) (whole3 t) (st0_4 t) (whole4 t) (st0_5 t) (whole5 t) (st0_6 t) (whole6 t) (fun h => h0 ((starts_iff t).mp h)) (iblk m c 0 t) (iblk m c 1 t) (iblk m c 2 t) (iblk m c 3 t) (iblk m c 4 t) (outsAt m c (t.val - 1) (Nat.lt_of_le_of_lt (Nat.sub_le _ _) t.isLt)).2, sumsLater c (grid0.coords t) (st0_0 t) (whole0 t) (st0_1 t) (whole1 t) (st0_2 t) (whole2 t) (st0_3 t) (whole3 t) (st0_4 t) (whole4 t) (st0_5 t) (whole5 t) (st0_6 t) (whole6 t) (fun h => h0 ((starts_iff t).mp h)) (iblk m c 0 t) (iblk m c 1 t) (iblk m c 2 t) (iblk m c 3 t) (iblk m c 4 t) (outsAt m c (t.val - 1) (Nat.lt_of_le_of_lt (Nat.sub_le _ _) t.isLt)).2) := by
  obtain ⟨n, hn⟩ := t
  cases n with
  | zero => exact absurd (Nat.zero_le _) h0
  | succ n => exact (dif_neg h0).trans rfl

/-- The pipeline's proof data: the arrays as the launch finds them, and each buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]
theorem after6 (c : Dev nD) (t : Fin cfg0.N) : (dats m 0 c).after 6 t = (outsAt m c t.val t.isLt).2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At a later point the sums' buffer holds what the point before left. -/
theorem before6_later (c : Dev nD) (t : Fin cfg0.N) (h0 : ¬t.val ≤ 1) (d) :
    (dats m 0 c).before 6 t d = (outsAt m c (t.val - 1) (Nat.lt_of_le_of_lt (Nat.sub_le _ _) t.isLt)).2 := by
  have hN : t.val < 17 := lt_of_lt_of_eq t.isLt (show cfg0.N = 17 from N_0)
  rw [Dat.before_out_kept _ 6 rfl t (by omega) (sums_kept _ (by dsimp only; omega) (by dsimp only; omega))
    (fun _ => rfl) (fun _ _ => rfl)]
  dsimp only [dats]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any point leaves what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  by_cases h0 : t.val ≤ 1
  · rw [outsAt_first m c t h0]
    unfold gradFirst sumsFirst; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ ((starts_iff t).mpr h0) (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover_gradFirst c _ _ _ _ _ _ _ _ _ _ _ _ _ _ _ _ _ _ _ _ _)
    unfold owns; iexists _; isplitr
    swap; · iexact H6
    ipureintro; exact View.read_writes_of_cover _ _ _ _ _ (cover_sumsFirst c _ _ _ _ _ _ _ _ _ _ _ _ _ _ _ _ _ _ _ _ _)
  · rw [outsAt_later m c t h0]
    simp only [before6_later m c t h0]
    unfold gradLater sumsLater; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) _ _ _ _ _ _ _ _ _ _ _ _ _ _ (fun h => h0 ((starts_iff t).mp h)) (iblk m c 0 t) (iblk m c 1 t) (iblk m c 2 t) (iblk m c 3 t) (iblk m c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover_gradLater c _ _ _ _ _ _ _ _ _ _ _ _ _ _ _ _ _ _ _ _ _ _)
    unfold owns; iexists _; isplitr
    swap; · iexact H6
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every final state has the outputs at what the proof data computes, and no semaphore is left signalled. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8)) :=
  frame_of m ρ (dats m) (A_eq m) (run_main m ρ)

/-- The frame: the launch ends, with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8))
      ∧ r.2.sem = fun _ => 0) :=
  θ_run_and (unchanged m ρ) ((θ_run defs _ _).mono (fun _ h => h.2) (run_quiescent m ρ))

end Cert.Kernel3Ideal.ModNormGrad

end
-- ==== Proof.ModNormGradBody.lean ====
/-
  The backward pass of the modulated norm, one grid point at a time (program `Kernel3Ideal`): what a point leaves in its two
  output buffers, as values. One output is the block of the input's gradient. The other is an array of eight rows that the
  points of one kind add into: row 0 the shift's gradient, row 1 the scale's. The point of the context rows and the first
  point of the latent rows set it to zero before they add.
-/
module

public import proofs.«01_k».proof.Proof.ModNormGradIdealFrame
public import Idealize.ShloMosaic.Lib.Pipeline.Value
public import Idealize.ShloMosaic.Lib.Pipeline.ReadBack
public import Idealize.ShloMosaic.Lib.WritesUnit
public import Idealize.ShloMosaic.Lib.StableHlo.Run
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel3Ideal.ModNormGrad

open Cert.Kernel3Ideal Cert.Kernel3Ideal.Gen

variable {F : FTy → Type} [FloatOps F]

theorem off0 : (![0, 0] : Fin 2 → Nat) = fun _ => 0 := funext fun a => by fin_cases a <;> rfl

/-- Row `k` of an array of eight rows. -/
def rowOf (k : Fin 8) (v : Vec F S1x8x2048 .f32) : Vec F S1x1x2048 .f32 := fun i => v (ix3 0 k (i 2))

theorem ld_row (k : Fin 8) (v : Vec F S1x8x2048 .f32)
    (inb : ∀ a, (![0, k.val, 0] : Fin 3 → Nat) a + S1x1x2048.size a ≤ S1x8x2048.size a) :
    View.ld v (Rect.unit (s := S1x8x2048) ![0, k.val, 0] S1x1x2048.size inb) = rowOf k v := by
  funext i
  refine congrArg v (funext fun a => Fin.ext ?_)
  match a with
  | ⟨0, _⟩ => show 0 + 1 * (i 0).val = 0; have : (i 0).val < 1 := (i 0).isLt; omega
  | ⟨1, _⟩ => show k.val + 1 * (i 1).val = k.val; have : (i 1).val < 1 := (i 1).isLt; omega
  | ⟨2, _⟩ => show 0 + 1 * (i 2).val = (i 2).val; omega

theorem ld_row0 (v : Vec F S1x8x2048 .f32) (inb : ∀ a, (![0, 0, 0] : Fin 3 → Nat) a + (![1, 1, 2048] : Fin 3 → Nat) a ≤ S1x8x2048.size a) :
    View.ld v (Rect.unit (s := S1x8x2048) ![0, 0, 0] ![1, 1, 2048] inb) = rowOf 0 v := ld_row 0 v inb

theorem ld_row1 (v : Vec F S1x8x2048 .f32) (inb : ∀ a, (![0, 1, 0] : Fin 3 → Nat) a + (![1, 1, 2048] : Fin 3 → Nat) a ≤ S1x8x2048.size a) :
    View.ld v (Rect.unit (s := S1x8x2048) ![0, 1, 0] ![1, 1, 2048] inb) = rowOf 1 v := ld_row 1 v inb

/-- After a store of row `k`, that row reads what was stored, -/
theorem read_row (v : View sig .tc .vmem S1x8x2048 .f32) (f : v.ty.Contents (Elt F)) (o : ℕ) (k : Fin 8) (ho : o = k.val)
    (inb : ∀ a, (![0, o, 0] : Fin 3 → Nat) a + (![1, 1, 2048] : Fin 3 → Nat) a ≤ S1x8x2048.size a) (x : S1x1x2048.Idx → Elt F .f32)
    (L : List (View.Piece (Elt F) S1x8x2048 .f32)) (j : Fin 2048) :
    v.read (Elt F) (v.writes (Elt F) f ((⟨Rect.unit (s := S1x8x2048) ![0, o, 0] ![1, 1, 2048] inb, x⟩ : View.Piece (Elt F) S1x8x2048 .f32) :: L)) (ix3 0 k j)
      = x (ix3 0 0 j) := by
  subst ho
  refine View.read_writes_cons_unit_of_mem v f inb x L (ix3 0 k j) (ix3 (0 : Fin 1) (0 : Fin 1) j) rfl fun a => ?_
  match a with
  | ⟨0, _⟩ => rfl
  | ⟨1, _⟩ => rfl
  | ⟨2, _⟩ => show j.val = 0 + j.val; omega

/-- and a row above it what it held before. -/
theorem read_other_row (v : View sig .tc .vmem S1x8x2048 .f32) (f : v.ty.Contents (Elt F)) (o : ℕ) (k : Fin 8) (ho : k.val < o)
    (inb : ∀ a, (![0, o, 0] : Fin 3 → Nat) a + (![1, 1, 2048] : Fin 3 → Nat) a ≤ S1x8x2048.size a) (x : S1x1x2048.Idx → Elt F .f32)
    (L : List (View.Piece (Elt F) S1x8x2048 .f32)) (j : Fin 2048) :
    v.read (Elt F) (v.writes (Elt F) f ((⟨Rect.unit (s := S1x8x2048) ![0, o, 0] ![1, 1, 2048] inb, x⟩ : View.Piece (Elt F) S1x8x2048 .f32) :: L)) (ix3 0 k j)
      = v.read (Elt F) (v.writes (Elt F) f L) (ix3 0 k j) :=
  View.read_writes_cons_unit_of_not_mem v f inb x L (ix3 0 k j) rfl 1 (Or.inl ho)

/-! ## The values a point leaves, named -/

/-- The block of the input's gradient, and what the two rows hold over what was in them. -/
def gradOf (i : grid0.Coords) (x0 x1 x2 : Vec F S256x2048 .f32) (x3 : Vec F S1x8x2048 .f32) (x4 : Vec F S256x2048 .f32) : Vec F S256x2048 .f32 :=
  k0_pay2 (k0_pay4 x2) (k0_pay6 i x1 x0) (k0_pay7 i x1 x0) (rowOf 1 x3) x4
def shiftOf (x2 : Vec F S256x2048 .f32) (v : Vec F S1x1x2048 .f32) : Vec F S1x1x2048 .f32 := k0_pay8 x2 v
def scaleOf (i : grid0.Coords) (x0 x1 x2 : Vec F S256x2048 .f32) (v : Vec F S1x1x2048 .f32) : Vec F S1x1x2048 .f32 :=
  k0_pay1 (k0_pay4 x2) (k0_pay7 i x1 x0) v

/-! ## The two kinds of point -/

theorem gradFirst_eq (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S1x8x2048 .f32) (h4 : a4.IsWhole) (a5 : Memref sig .tc .vmem S256x2048 .f32) (h5 : a5.IsWhole) (a6 : Memref sig .tc .vmem S256x2048 .f32) (h6 : a6.IsWhole) (a7 : Memref sig .tc .vmem S1x8x2048 .f32) (h7 : a7.IsWhole) (hc : Starts i)
    (x0 x1 x2 : Vec F S256x2048 .f32) (x3 : Vec F S1x8x2048 .f32) (x4 : Vec F S256x2048 .f32) :
    gradFirst c i a1 h1 a2 h2 a3 h3 a4 h4 a5 h5 a6 h6 a7 h7 hc x0 x1 x2 x3 x4 = gradOf i x0 x1 x2 x3 x4 := by
  unfold gradFirst
  rw [View.read_writes_eq_canon _ _ _ (cover_gradFirst c i a1 h1 a2 h2 a3 h3 a4 h4 a5 h5 a6 h6 a7 h7 hc x0 x1 x2 x3 x4)]
  unfold runFirst
  dsimp only
  sl_unfold_words
  rw [View.canon_unit_zero (S := S256x2048) off0]
  simp only [View.readAt_eq_ld, h1.read_unread, h2.read_unread, h3.read_unread, h4.read_unread, h5.read_unread,
    View.ld_unit_zero (S := S256x2048) off0, ld_row0, ld_row1]
  rfl

theorem shiftFirst_eq (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S1x8x2048 .f32) (h4 : a4.IsWhole) (a5 : Memref sig .tc .vmem S256x2048 .f32) (h5 : a5.IsWhole) (a6 : Memref sig .tc .vmem S256x2048 .f32) (h6 : a6.IsWhole) (a7 : Memref sig .tc .vmem S1x8x2048 .f32) (h7 : a7.IsWhole) (hc : Starts i)
    (x0 x1 x2 : Vec F S256x2048 .f32) (x3 : Vec F S1x8x2048 .f32) (x4 : Vec F S256x2048 .f32) (j : Fin 2048) :
    sumsFirst c i a1 h1 a2 h2 a3 h3 a4 h4 a5 h5 a6 h6 a7 h7 hc x0 x1 x2 x3 x4 (ix3 0 0 j) = shiftOf x2 (rowOf 0 (k0_pay3 (F := F))) (ix3 0 0 j) := by
  unfold sumsFirst runFirst
  dsimp only
  sl_unfold_words
  simp only [View.readAt_eq_ld, h1.read_unread, h2.read_unread, h3.read_unread, h4.read_unread, h5.read_unread,
    View.ld_unit_zero (S := S256x2048) off0, ld_row0, ld_row1]
  simp (disch := decide) only [View.readCov_skip, View.readCov_fill, ld_row0, ld_row1]
  refine (read_other_row _ _ 1 0 (by decide) _ _ _ j).trans ?_
  exact read_row _ _ 0 0 rfl _ _ _ j

theorem scaleFirst_eq (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S1x8x2048 .f32) (h4 : a4.IsWhole) (a5 : Memref sig .tc .vmem S256x2048 .f32) (h5 : a5.IsWhole) (a6 : Memref sig .tc .vmem S256x2048 .f32) (h6 : a6.IsWhole) (a7 : Memref sig .tc .vmem S1x8x2048 .f32) (h7 : a7.IsWhole) (hc : Starts i)
    (x0 x1 x2 : Vec F S256x2048 .f32) (x3 : Vec F S1x8x2048 .f32) (x4 : Vec F S256x2048 .f32) (j : Fin 2048) :
    sumsFirst c i a1 h1 a2 h2 a3 h3 a4 h4 a5 h5 a6 h6 a7 h7 hc x0 x1 x2 x3 x4 (ix3 0 1 j) = scaleOf i x0 x1 x2 (rowOf 1 (k0_pay3 (F := F))) (ix3 0 0 j) := by
  unfold sumsFirst runFirst
  dsimp only
  sl_unfold_words
  simp only [View.readAt_eq_ld, h1.read_unread, h2.read_unread, h3.read_unread, h4.read_unread, h5.read_unread,
    View.ld_unit_zero (S := S256x2048) off0, ld_row0, ld_row1]
  simp (disch := decide) only [View.readCov_skip, View.readCov_fill, ld_row0, ld_row1]
  exact read_row _ _ 1 1 rfl _ _ _ j

theorem gradLater_eq (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S1x8x2048 .f32) (h4 : a4.IsWhole) (a5 : Memref sig .tc .vmem S256x2048 .f32) (h5 : a5.IsWhole) (a6 : Memref sig .tc .vmem S256x2048 .f32) (h6 : a6.IsWhole) (a7 : Memref sig .tc .vmem S1x8x2048 .f32) (h7 : a7.IsWhole) (hc : ¬Starts i)
    (x0 x1 x2 : Vec F S256x2048 .f32) (x3 : Vec F S1x8x2048 .f32) (x4 : Vec F S256x2048 .f32) (xo : Vec F S1x8x2048 .f32) :
    gradLater c i a1 h1 a2 h2 a3 h3 a4 h4 a5 h5 a6 h6 a7 h7 hc x0 x1 x2 x3 x4 xo = gradOf i x0 x1 x2 x3 x4 := by
  unfold gradLater
  rw [View.read_writes_eq_canon _ _ _ (cover_gradLater c i a1 h1 a2 h2 a3 h3 a4 h4 a5 h5 a6 h6 a7 h7 hc x0 x1 x2 x3 x4 xo)]
  unfold runLater
  dsimp only
  sl_unfold_words
  rw [View.canon_unit_zero (S := S256x2048) off0]
  simp only [View.readAt_eq_ld, h1.read_unread, h2.read_unread, h3.read_unread, h4.read_unread, h5.read_unread,
    View.ld_unit_zero (S := S256x2048) off0, ld_row0, ld_row1]
  rfl

theorem shiftLater_eq (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S1x8x2048 .f32) (h4 : a4.IsWhole) (a5 : Memref sig .tc .vmem S256x2048 .f32) (h5 : a5.IsWhole) (a6 : Memref sig .tc .vmem S256x2048 .f32) (h6 : a6.IsWhole) (a7 : Memref sig .tc .vmem S1x8x2048 .f32) (h7 : a7.IsWhole) (hc : ¬Starts i)
    (x0 x1 x2 : Vec F S256x2048 .f32) (x3 : Vec F S1x8x2048 .f32) (x4 : Vec F S256x2048 .f32) (xo : Vec F S1x8x2048 .f32) (j : Fin 2048) :
    sumsLater c i a1 h1 a2 h2 a3 h3 a4 h4 a5 h5 a6 h6 a7 h7 hc x0 x1 x2 x3 x4 xo (ix3 0 0 j) = shiftOf x2 (rowOf 0 xo) (ix3 0 0 j) := by
  unfold sumsLater runLater
  dsimp only
  sl_unfold_words
  simp only [View.readAt_eq_ld, h1.read_unread, h2.read_unread, h3.read_unread, h4.read_unread, h5.read_unread,
    View.ld_unit_zero (S := S256x2048) off0, ld_row0, ld_row1, h7.read_unread]
  refine (read_other_row _ _ 1 0 (by decide) _ _ _ j).trans ?_
  exact read_row _ _ 0 0 rfl _ _ _ j

theorem scaleLater_eq (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S1x8x2048 .f32) (h4 : a4.IsWhole) (a5 : Memref sig .tc .vmem S256x2048 .f32) (h5 : a5.IsWhole) (a6 : Memref sig .tc .vmem S256x2048 .f32) (h6 : a6.IsWhole) (a7 : Memref sig .tc .vmem S1x8x2048 .f32) (h7 : a7.IsWhole) (hc : ¬Starts i)
    (x0 x1 x2 : Vec F S256x2048 .f32) (x3 : Vec F S1x8x2048 .f32) (x4 : Vec F S256x2048 .f32) (xo : Vec F S1x8x2048 .f32) (j : Fin 2048) :
    sumsLater c i a1 h1 a2 h2 a3 h3 a4 h4 a5 h5 a6 h6 a7 h7 hc x0 x1 x2 x3 x4 xo (ix3 0 1 j) = scaleOf i x0 x1 x2 (rowOf 1 xo) (ix3 0 0 j) := by
  unfold sumsLater runLater
  dsimp only
  sl_unfold_words
  simp only [View.readAt_eq_ld, h1.read_unread, h2.read_unread, h3.read_unread, h4.read_unread, h5.read_unread,
    View.ld_unit_zero (S := S256x2048) off0, ld_row0, ld_row1, h7.read_unread]
  exact read_row _ _ 1 1 rfl _ _ _ j

end Cert.Kernel3Ideal.ModNormGrad

end
-- ==== Proof.ModNormGradMaths.lean ====
/-
  The backward pass of the modulated norm on one row. A row `f` is normed (its mean taken away, times the inverse root of its
  variance), the normed row times one plus the scale gets the gradient `d`. `inputGrad` is the gradient at `f` in the closed
  form the kernel computes; `chain` is the derivative taken step by step, through the mean, the variance and the inverse
  square root. On rows of real numbers they are the same (`chain_eq`).
-/
module

public import proofs.«01_k».proof.Proof.IdealWords

@[expose] public section

noncomputable section

open Idealize.ShloMosaic

namespace Cert.NormGradMaths

open Cert.NormMaths

/-! ## Over the extended reals, as the programs write it -/

/-- The row's mean, the row without it, its variance with the small constant added, the inverse root of that, the normed row. -/
def mean (f : Fin 2048 → EReal) : EReal := Ideal.div (∑ k, f k) (Ideal.ofBits .f32 0x45000000#32)
def cen (f : Fin 2048 → EReal) (l : Fin 2048) : EReal := f l - mean f
def var (f : Fin 2048 → EReal) : EReal :=
  Ideal.div (∑ k, cen f k * cen f k) (Ideal.ofBits .f32 0x45000000#32) + Ideal.ofBits .f32 0x3727C5AC#32
def scl (f : Fin 2048 → EReal) : EReal := Ideal.rsqrt (var f)
def nrm (f : Fin 2048 → EReal) (l : Fin 2048) : EReal := cen f l * scl f

/-- The gradient at the normed row. -/
def dn (d sc : Fin 2048 → EReal) (l : Fin 2048) : EReal := d l * (Ideal.ofBits .f32 0x3F800000#32 + sc l)

/-- The gradient at the row, in the closed form. -/
def inputGrad (f d sc : Fin 2048 → EReal) (l : Fin 2048) : EReal :=
  scl f * (dn d sc l - Ideal.div (∑ k, dn d sc k) (Ideal.ofBits .f32 0x45000000#32)
    - nrm f l * Ideal.div (∑ k, dn d sc k * nrm f k) (Ideal.ofBits .f32 0x45000000#32))

/-- The gradient at the variance, and what it sends back to the row. -/
def dvar (f d sc : Fin 2048 → EReal) : EReal :=
  (∑ k, cen f k * dn d sc k) * (Ideal.ofBits .f32 0xBF000000#32 * Ideal.div (scl f) (var f))
def viaVar (f d sc : Fin 2048 → EReal) (l : Fin 2048) : EReal :=
  Ideal.div (dvar f d sc) (Ideal.ofBits .f32 0x45000000#32) * (Ideal.ofBits .f32 0x40000000#32 * cen f l)

/-- The gradient at the row, step by step: the direct part, the part through the variance, and what both send back through
the mean. -/
def chain (f d sc : Fin 2048 → EReal) (l : Fin 2048) : EReal :=
  dn d sc l * scl f + viaVar f d sc l
    + Ideal.div ((∑ k, -(dn d sc k * scl f)) + ∑ k, -(viaVar f d sc k)) (Ideal.ofBits .f32 0x45000000#32)

/-! ## The same over the real numbers -/

/-- A row, the gradient at its modulated norm, and the scale. -/
structure Row where
  x : Fin 2048 → ℝ
  d : Fin 2048 → ℝ
  c : Fin 2048 → ℝ

namespace Row

variable (R : Row)

def mean : ℝ := (∑ j, R.x j) / 2048
def cen (j : Fin 2048) : ℝ := R.x j - R.mean
def var : ℝ := (∑ j, R.cen j * R.cen j) / 2048 + ε
def s : ℝ := (√R.var)⁻¹
def n (j : Fin 2048) : ℝ := R.cen j * R.s
def dn (j : Fin 2048) : ℝ := R.d j * (1 + R.c j)
def inputGrad (j : Fin 2048) : ℝ :=
  R.s * (R.dn j - (∑ k, R.dn k) / 2048 - R.n j * ((∑ k, R.dn k * R.n k) / 2048))
def dvar : ℝ := (∑ j, R.cen j * R.dn j) * (-(1 / 2) * (R.s / R.var))
def viaVar (j : Fin 2048) : ℝ := R.dvar / 2048 * (2 * R.cen j)
def chain (j : Fin 2048) : ℝ :=
  R.dn j * R.s + R.viaVar j + ((∑ k, -(R.dn k * R.s)) + ∑ k, -(R.viaVar k)) / 2048

theorem var_pos : 0 < R.var :=
  add_pos_of_nonneg_of_pos (div_nonneg (Finset.sum_nonneg fun j _ => mul_self_nonneg _) (by norm_num)) ε_pos

/-- What is left without the mean sums to zero. -/
theorem sum_cen : ∑ j, R.cen j = 0 := by
  have h : ∑ j : Fin 2048, R.cen j = (∑ j, R.x j) - ∑ _j : Fin 2048, R.mean := by
    unfold cen; exact Finset.sum_sub_distrib ..
  rw [h, Finset.sum_const, Finset.card_univ, Fintype.card_fin, nsmul_eq_mul, mean]
  push_cast
  ring

theorem s_sq : R.s * R.s = (R.var)⁻¹ := by
  rw [s, ← mul_inv, Real.mul_self_sqrt R.var_pos.le]

theorem viaVar_eq (j : Fin 2048) : R.viaVar j = -(R.s * (R.n j * ((∑ k, R.dn k * R.n k) / 2048))) := by
  have hs : R.s / R.var = R.s * (R.s * R.s) := by rw [s_sq, div_eq_mul_inv]
  have hn : ∑ k, R.dn k * R.n k = (∑ k, R.cen k * R.dn k) * R.s := by
    rw [Finset.sum_mul]
    exact Finset.sum_congr rfl fun k _ => by rw [n]; ring
  rw [viaVar, dvar, hs, hn, n]
  ring

theorem sum_viaVar : ∑ j, R.viaVar j = 0 := by
  have h : ∑ j, R.viaVar j = R.dvar / 2048 * 2 * ∑ j, R.cen j := by
    rw [Finset.mul_sum]
    exact Finset.sum_congr rfl fun k _ => by rw [viaVar]; ring
  rw [h, sum_cen, mul_zero]

/-- The two gradients are the same: the part through the variance sends nothing back through the mean. -/
theorem chain_eq (j : Fin 2048) : R.chain j = R.inputGrad j := by
  rw [chain, Finset.sum_neg_distrib, Finset.sum_neg_distrib, sum_viaVar, viaVar_eq, ← Finset.sum_mul, inputGrad]
  ring

/-! ## The extended reals' functions on real rows -/

/-- The row's parts as extended reals. -/
def f (j : Fin 2048) : EReal := (R.x j : ℝ)
def g (j : Fin 2048) : EReal := (R.d j : ℝ)
def h (j : Fin 2048) : EReal := (R.c j : ℝ)

theorem mean_real : NormGradMaths.mean R.f = ((R.mean : ℝ) : EReal) := by
  unfold NormGradMaths.mean f
  rw [word_2048, ← coe_sum, div_2048]; rfl
theorem cen_real (j : Fin 2048) : NormGradMaths.cen R.f j = ((R.cen j : ℝ) : EReal) := by
  unfold NormGradMaths.cen
  rw [mean_real]
  show ((R.x j : ℝ) : EReal) - _ = _
  rw [← EReal.coe_sub]; rfl
theorem var_real : NormGradMaths.var R.f = ((R.var : ℝ) : EReal) := by
  unfold NormGradMaths.var
  simp only [cen_real, ← EReal.coe_mul, ← coe_sum, word_2048, div_2048, word_ε, ← EReal.coe_add]; rfl
theorem s_real : NormGradMaths.scl R.f = ((R.s : ℝ) : EReal) := by
  unfold NormGradMaths.scl
  rw [var_real]; exact rsqrt_pos R.var_pos
theorem n_real (j : Fin 2048) : NormGradMaths.nrm R.f j = ((R.n j : ℝ) : EReal) := by
  unfold NormGradMaths.nrm
  rw [cen_real, s_real, ← EReal.coe_mul]; rfl
theorem dn_real (j : Fin 2048) : NormGradMaths.dn R.g R.h j = ((R.dn j : ℝ) : EReal) := by
  unfold NormGradMaths.dn g h
  rw [word_one, ← EReal.coe_add, ← EReal.coe_mul]; rfl
theorem inputGrad_real (j : Fin 2048) : NormGradMaths.inputGrad R.f R.g R.h j = ((R.inputGrad j : ℝ) : EReal) := by
  unfold NormGradMaths.inputGrad
  simp only [s_real, n_real, dn_real, ← EReal.coe_mul, ← coe_sum, word_2048, div_2048, ← EReal.coe_sub]; rfl
theorem dvar_real : NormGradMaths.dvar R.f R.g R.h = ((R.dvar : ℝ) : EReal) := by
  unfold NormGradMaths.dvar
  simp only [s_real, cen_real, dn_real, var_real, word_neg_half, div_real R.var_pos.ne', ← EReal.coe_mul, ← coe_sum]; rfl
theorem viaVar_real (j : Fin 2048) : NormGradMaths.viaVar R.f R.g R.h j = ((R.viaVar j : ℝ) : EReal) := by
  unfold NormGradMaths.viaVar
  simp only [dvar_real, cen_real, word_2048, div_2048, word_two, ← EReal.coe_mul]; rfl
theorem chain_real (j : Fin 2048) : NormGradMaths.chain R.f R.g R.h j = ((R.chain j : ℝ) : EReal) := by
  unfold NormGradMaths.chain
  simp only [s_real, dn_real, viaVar_real, ← EReal.coe_mul, ← EReal.coe_neg, ← coe_sum, ← EReal.coe_add, word_2048, div_2048]; rfl

end Row

/-- On real rows the derivative taken step by step is the closed form. -/
theorem chain_eq (f d sc : Fin 2048 → EReal) (hf : ∀ k, f k = (((f k).toReal : ℝ) : EReal))
    (hd : ∀ k, d k = (((d k).toReal : ℝ) : EReal)) (hs : ∀ k, sc k = (((sc k).toReal : ℝ) : EReal)) (l : Fin 2048) :
    chain f d sc l = inputGrad f d sc l := by
  let R : Row := ⟨fun k => (f k).toReal, fun k => (d k).toReal, fun k => (sc k).toReal⟩
  have ef : f = R.f := funext hf
  have ed : d = R.g := funext hd
  have es : sc = R.h := funext hs
  rw [ef, ed, es, R.chain_real, R.inputGrad_real, R.chain_eq]

end Cert.NormGradMaths

end
-- ==== Proof.ModNormGradPoint.lean ====
/-
  The backward pass of the modulated norm (program `Kernel3Ideal`), over the extended reals: what each grid point computes,
  read off the arguments. Point 0 takes the context's block, point `t` from 1 on takes latent block `t - 1`. The gradient of a
  latent row is the closed form of `NormGradMaths`; the two rows of sums gather, block by block, the gradients of the shift
  and of the scale.
-/
module

public import proofs.«01_k».proof.Proof.ModNormGradBody
public import proofs.«01_k».proof.Proof.ModNormGradMaths
public import proofs.«01_k».proof.Proof.BlockedSum

@[expose] public section

set_option maxRecDepth 16384

noncomputable section

open Idealize.ShloMosaic Idealize.ShloMosaic.TcCoe Idealize.SL.Sem
open Idealize.ShloMosaic.Pipeline (Dat)

namespace Cert.Kernel3Ideal.ModNormGrad

open Cert.Kernel3Ideal Cert.Kernel3Ideal.Gen Cert.NormMaths Cert.NormGradMaths Cert.BlockedSum

/-! ## One point, from its blocks -/

/-- The block a point norms: the context's `y` at the first point, the latent `x` after it. -/
def pick (i : grid0.Coords) (y x : Vec Ideal S256x2048 .f32) : Vec Ideal S256x2048 .f32 :=
  Scalar.select (Scalar.cmpi .slt (BitVec.ofNat 32 (i 0).val) 1#32) y x

theorem latent_bit : ∀ t : Fin grid0.N, 1 ≤ t.val →
    Scalar.cmpi .slt (BitVec.ofNat 32 ((grid0.coords t) 0).val) 1#32 = 0#1 := by decide +kernel
theorem context_bit : ∀ t : Fin grid0.N, t.val = 0 →
    Scalar.cmpi .slt (BitVec.ofNat 32 ((grid0.coords t) 0).val) 1#32 = 1#1 := by decide +kernel

theorem pick_latent (t : Fin grid0.N) (h : 1 ≤ t.val) (y x : Vec Ideal S256x2048 .f32) : pick (grid0.coords t) y x = x := by
  unfold pick
  rw [latent_bit t h]
  rfl
theorem pick_context (t : Fin grid0.N) (h : t.val = 0) (y x : Vec Ideal S256x2048 .f32) : pick (grid0.coords t) y x = y := by
  unfold pick
  rw [context_bit t h]
  rfl

theorem cen_pay (i : grid0.Coords) (y x : Vec Ideal S256x2048 .f32) (r : Fin 256) (l : Fin 2048) :
    k0_pay5 i y x (ix2 r l) = cen (fun k => pick i y x (ix2 r k)) l := by
  unfold k0_pay5
  dsimp only
  have e : Scalar.select (Scalar.cmpi .slt (BitVec.ofNat 32 (i 0).val) 1#32) y x = pick i y x := rfl
  rw [e]
  generalize pick i y x = z
  pointwise [cen, mean]

theorem scl_pay (i : grid0.Coords) (y x : Vec Ideal S256x2048 .f32) (r : Fin 256) :
    k0_pay6 i y x (ix2 r 0) = scl (fun k => pick i y x (ix2 r k)) := by
  have e := cen_pay i y x r
  unfold k0_pay6
  generalize k0_pay5 i y x = z at e ⊢
  pointwise [scl, var]
  simp only [e]

theorem nrm_pay (i : grid0.Coords) (y x : Vec Ideal S256x2048 .f32) (r : Fin 256) (l : Fin 2048) :
    k0_pay7 i y x (ix2 r l) = nrm (fun k => pick i y x (ix2 r k)) l := by
  have e := cen_pay i y x r l
  have e' := scl_pay i y x r
  unfold k0_pay7
  generalize k0_pay5 i y x = z at e ⊢
  generalize k0_pay6 i y x = w at e' ⊢
  pointwise [nrm]
  rw [e, e']

/-- The gradient block. -/
theorem grad_pay (i : grid0.Coords) (x0 x1 x2 : Vec Ideal S256x2048 .f32) (x3 : Vec Ideal S1x8x2048 .f32)
    (x4 : Vec Ideal S256x2048 .f32) (r : Fin 256) (l : Fin 2048) :
    gradOf i x0 x1 x2 x3 x4 (ix2 r l)
      = inputGrad (fun k => pick i x1 x0 (ix2 r k)) (fun k => x2 (ix2 r k)) (fun k => x3 (ix3 0 1 k)) l + x4 (ix2 r l) := by
  have e := nrm_pay i x1 x0 r
  have e' := scl_pay i x1 x0 r
  unfold gradOf
  generalize k0_pay7 i x1 x0 = z at e ⊢
  generalize k0_pay6 i x1 x0 = w at e' ⊢
  pointwise [k0_pay2, k0_pay4, rowOf, inputGrad, dn]
  simp only [e, e']

/-- What is added into the shift's row and into the scale's. -/
theorem shift_pay (x2 : Vec Ideal S256x2048 .f32) (v : Vec Ideal S1x8x2048 .f32) (l : Fin 2048) :
    shiftOf x2 (rowOf 0 v) (ix3 0 0 l) = v (ix3 0 0 l) + ∑ r : Fin 256, x2 (ix2 r l) := by
  pointwise [shiftOf, k0_pay8, k0_pay4, rowOf]

theorem scale_pay (i : grid0.Coords) (x0 x1 x2 : Vec Ideal S256x2048 .f32) (v : Vec Ideal S1x8x2048 .f32) (l : Fin 2048) :
    scaleOf i x0 x1 x2 (rowOf 1 v) (ix3 0 0 l)
      = v (ix3 0 1 l) + ∑ r : Fin 256, nrm (fun k => pick i x1 x0 (ix2 r k)) l * x2 (ix2 r l) := by
  have e := fun r => nrm_pay i x1 x0 r l
  unfold scaleOf
  generalize k0_pay7 i x1 x0 = z at e ⊢
  pointwise [k0_pay1, k0_pay4, rowOf]
  simp only [e, mul_comm]

theorem zeros (k : Fin 8) (l : Fin 2048) : k0_pay3 (F := Ideal) (ix3 0 k l) = 0 := by
  unfold k0_pay3
  exact word_zero

/-! ## The arguments and the blocks -/

theorem index0 : ∀ t : Fin grid0.N, win0_0.index t 0 = t.val - 1 ∧ win0_0.index t 1 = 0 := by decide +kernel
theorem index1 : ∀ t : Fin grid0.N, win0_1.index t 0 = 0 ∧ win0_1.index t 1 = 0 := by decide +kernel
theorem index2 : ∀ t : Fin grid0.N, (win0_2.index t 0 = if t.val = 0 then 16 else t.val - 1) ∧ win0_2.index t 1 = 0 := by decide +kernel
theorem index3 : ∀ t : Fin grid0.N, (win0_3.index t 0 = if t.val = 0 then 1 else 0) ∧ win0_3.index t 1 = 0 ∧ win0_3.index t 2 = 0 := by
  decide +kernel
theorem index4 : ∀ t : Fin grid0.N, win0_4.index t 0 = t.val - 1 ∧ win0_4.index t 1 = 0 := by decide +kernel

theorem points : cfg0.N = 17 := by decide +kernel
theorem point_lt (t : Fin cfg0.N) : t.val < 17 := lt_of_lt_of_eq t.isLt points

variable (m : (ℓ : Loc nD τ sig) → Buf (Elt Ideal) ℓ) (ρ : Dev nD → PrngReg)

/-- The arguments as the program's start finds them. -/
def argX (c : Dev nD) : FVec Ideal S4096x2048 .f32 := m ((c.tc : Thread nD τ).loc main_arg0)
def argC (c : Dev nD) : FVec Ideal S256x2048 .f32 := m ((c.tc : Thread nD τ).loc main_arg1)
def argD (c : Dev nD) : FVec Ideal S4096x2048 .f32 := m ((c.tc : Thread nD τ).loc main_arg2)
def argE (c : Dev nD) : FVec Ideal S256x2048 .f32 := m ((c.tc : Thread nD τ).loc main_arg3)
def shiftX (c : Dev nD) : FVec Ideal S2048 .f32 := m ((c.tc : Thread nD τ).loc main_arg4)
def scaleX (c : Dev nD) : FVec Ideal S2048 .f32 := m ((c.tc : Thread nD τ).loc main_arg5)
def shiftC (c : Dev nD) : FVec Ideal S2048 .f32 := m ((c.tc : Thread nD τ).loc main_arg6)
def scaleC (c : Dev nD) : FVec Ideal S2048 .f32 := m ((c.tc : Thread nD τ).loc main_arg7)
def argG (c : Dev nD) : FVec Ideal S4096x2048 .f32 := m ((c.tc : Thread nD τ).loc main_arg8)

/-- The parameters and the stacked gradients as the region finds them. -/
def prm (c : Dev nD) : FVec Ideal S2x8x2048 .f32 := V m c main_v8
def stackedD (c : Dev nD) : FVec Ideal S4352x2048 .f32 := V m c main_v9

/-- The eight rows of one kind: shift, scale, six rows of zeros. -/
def eight (a b : FVec Ideal S2048 .f32) : FVec Ideal S8x2048 .f32 :=
  shapeCast S8x2048 (concatenate S16384 0 [⟨S2048, a⟩, ⟨S2048, b⟩,
    ⟨S12288, broadcastInDim S12288 ![] bcast_S_S12288 (constant (F := Ideal) S_ .f32 0x00000000#32)⟩]
    concatenates_S2048_S2048_S12288_S16384_d0) shapeCasts_S16384_S8x2048

theorem prm_eq (c : Dev nD) : prm m c = concatenate S2x8x2048 0
    [⟨S1x8x2048, broadcastInDim S1x8x2048 ![1, 2] bcast_S8x2048_S1x8x2048_1_2 (eight (shiftX m c) (scaleX m c))⟩,
     ⟨S1x8x2048, broadcastInDim S1x8x2048 ![1, 2] bcast_S8x2048_S1x8x2048_1_2 (eight (shiftC m c) (scaleC m c))⟩]
    concatenates_S1x8x2048_S1x8x2048_S2x8x2048_d0 := by
  show StableHlo.after (List.flatten [hostOps0]) _ (Proc.devRef .tc main_v8) = _
  simp only [hostOps0, List.flatten_cons, List.flatten_nil, List.append_nil, List.cons_append, List.nil_append]
  after_results_simp
  rfl

theorem stackedD_eq (c : Dev nD) : stackedD m c = concatenate S4352x2048 0
    [⟨S4096x2048, argD m c⟩, ⟨S256x2048, argE m c⟩] concatenates_S4096x2048_S256x2048_S4352x2048_d0 := by
  show StableHlo.after (List.flatten [hostOps0]) _ (Proc.devRef .tc main_v9) = _
  simp only [hostOps0, List.flatten_cons, List.flatten_nil, List.append_nil, List.cons_append, List.nil_append]
  after_results_simp
  rfl

theorem eight_scale (a b : FVec Ideal S2048 .f32) (l : Fin 2048) : eight a b (ix2 1 l) = b (ix1 l) := by
  unfold eight
  pointwise

theorem prm_latent (c : Dev nD) (k : Fin 8) (l : Fin 2048) :
    prm m c (ix3 0 k l) = eight (shiftX m c) (scaleX m c) (ix2 k l) := by
  rw [prm_eq]
  generalize eight (shiftX m c) (scaleX m c) = y
  generalize eight (shiftC m c) (scaleC m c) = z
  pointwise

theorem stacked_latent (c : Dev nD) (r : Fin 4096) (l : Fin 2048) : stackedD m c (ix2 ⟨r.val, by omega⟩ l) = argD m c (ix2 r l) := by
  rw [stackedD_eq]
  generalize argD m c = y
  generalize argE m c = z
  pointwise
theorem stacked_context (c : Dev nD) (r : Fin 256) (l : Fin 2048) :
    stackedD m c (ix2 ⟨4096 + r.val, by omega⟩ l) = argE m c (ix2 r l) := by
  rw [stackedD_eq]
  generalize argD m c = y
  generalize argE m c = z
  pointwise

/-- The blocks the windows hand over at point `t`. -/
def xBlock (c : Dev nD) (t : Fin cfg0.N) : Vec Ideal S256x2048 .f32 := iblk m c 0 t
def cBlock (c : Dev nD) (t : Fin cfg0.N) : Vec Ideal S256x2048 .f32 := iblk m c 1 t
def dBlock (c : Dev nD) (t : Fin cfg0.N) : Vec Ideal S256x2048 .f32 := iblk m c 2 t
def pBlock (c : Dev nD) (t : Fin cfg0.N) : Vec Ideal S1x8x2048 .f32 := iblk m c 3 t
def gBlock (c : Dev nD) (t : Fin cfg0.N) : Vec Ideal S256x2048 .f32 := iblk m c 4 t

theorem xBlock_apply (c : Dev nD) (t : Fin cfg0.N) (r : Fin 256) (l : Fin 2048) :
    xBlock m c t (ix2 r l) = argX m c (ix2 ⟨(t.val - 1) * 256 + r.val, by have := point_lt t; omega⟩ l) := by
  unfold xBlock iblk
  rw [View.read_apply]
  show V m c main_arg0 _ = _
  rw [V_main_arg0]
  show argX m c _ = argX m c _
  congr 1
  funext a
  apply Fin.ext
  match a with
  | ⟨0, _⟩ => show win0_0.index t 0 * 256 + 1 * r.val = (t.val - 1) * 256 + r.val; rw [(index0 t).1]; omega
  | ⟨1, _⟩ => show win0_0.index t 1 * 2048 + 1 * l.val = l.val; rw [(index0 t).2]; omega

theorem cBlock_apply (c : Dev nD) (t : Fin cfg0.N) (r : Fin 256) (l : Fin 2048) :
    cBlock m c t (ix2 r l) = argC m c (ix2 r l) := by
  unfold cBlock iblk
  rw [View.read_apply]
  show V m c main_arg1 _ = _
  rw [V_main_arg1]
  show argC m c _ = argC m c _
  congr 1
  funext a
  apply Fin.ext
  match a with
  | ⟨0, _⟩ => show win0_1.index t 0 * 256 + 1 * r.val = r.val; rw [(index1 t).1]; omega
  | ⟨1, _⟩ => show win0_1.index t 1 * 2048 + 1 * l.val = l.val; rw [(index1 t).2]; omega

theorem dBlock_latent (c : Dev nD) (t : Fin cfg0.N) (h : 1 ≤ t.val) (r : Fin 256) (l : Fin 2048) :
    dBlock m c t (ix2 r l) = argD m c (ix2 ⟨(t.val - 1) * 256 + r.val, by have := point_lt t; omega⟩ l) := by
  refine Eq.trans ?_ (stacked_latent m c _ l)
  unfold dBlock iblk
  rw [View.read_apply]
  show V m c main_v9 _ = V m c main_v9 _
  congr 1
  funext a
  apply Fin.ext
  match a with
  | ⟨0, _⟩ =>
    show win0_2.index t 0 * 256 + 1 * r.val = (t.val - 1) * 256 + r.val
    rw [(index2 t).1, if_neg (by omega)]; omega
  | ⟨1, _⟩ => show win0_2.index t 1 * 2048 + 1 * l.val = l.val; rw [(index2 t).2]; omega

theorem dBlock_context (c : Dev nD) (t : Fin cfg0.N) (h : t.val = 0) (r : Fin 256) (l : Fin 2048) :
    dBlock m c t (ix2 r l) = argE m c (ix2 r l) := by
  refine Eq.trans ?_ (stacked_context m c r l)
  unfold dBlock iblk
  rw [View.read_apply]
  show V m c main_v9 _ = V m c main_v9 _
  congr 1
  funext a
  apply Fin.ext
  match a with
  | ⟨0, _⟩ =>
    show win0_2.index t 0 * 256 + 1 * r.val = 4096 + r.val
    rw [(index2 t).1, if_pos h]; omega
  | ⟨1, _⟩ => show win0_2.index t 1 * 2048 + 1 * l.val = l.val; rw [(index2 t).2]; omega

theorem pBlock_latent (c : Dev nD) (t : Fin cfg0.N) (h : 1 ≤ t.val) (l : Fin 2048) :
    pBlock m c t (ix3 0 1 l) = scaleX m c (ix1 l) := by
  refine Eq.trans ?_ ((prm_latent m c 1 l).trans (eight_scale _ _ l))
  unfold pBlock iblk
  rw [View.read_apply]
  show V m c main_v8 _ = V m c main_v8 _
  congr 1
  funext a
  apply Fin.ext
  match a with
  | ⟨0, _⟩ => show win0_3.index t 0 * 1 + 1 * 0 = 0; rw [(index3 t).1, if_neg (by omega)]
  | ⟨1, _⟩ => show win0_3.index t 1 * 8 + 1 * 1 = 1; rw [(index3 t).2.1]
  | ⟨2, _⟩ => show win0_3.index t 2 * 2048 + 1 * l.val = l.val; rw [(index3 t).2.2]; omega

theorem gBlock_apply (c : Dev nD) (t : Fin cfg0.N) (r : Fin 256) (l : Fin 2048) :
    gBlock m c t (ix2 r l) = argG m c (ix2 ⟨(t.val - 1) * 256 + r.val, by have := point_lt t; omega⟩ l) := by
  unfold gBlock iblk
  rw [View.read_apply]
  show V m c main_arg8 _ = _
  rw [V_main_arg8]
  show argG m c _ = argG m c _
  congr 1
  funext a
  apply Fin.ext
  match a with
  | ⟨0, _⟩ => show win0_4.index t 0 * 256 + 1 * r.val = (t.val - 1) * 256 + r.val; rw [(index4 t).1]; omega
  | ⟨1, _⟩ => show win0_4.index t 1 * 2048 + 1 * l.val = l.val; rw [(index4 t).2]; omega

/-! ## What each point leaves -/

/-- The gradient at the latent rows. -/
def gradX (c : Dev nD) : FVec Ideal S4096x2048 .f32 := fun i =>
  inputGrad (fun k => argX m c (ix2 (i 0) k)) (fun k => argD m c (ix2 (i 0) k)) (fun k => scaleX m c (ix1 k)) (i 1) + argG m c i

theorem point_grad (c : Dev nD) (t : Fin cfg0.N) (h : 1 ≤ t.val) (r : Fin 256) (l : Fin 2048) :
    (outsAt m c t.val t.isLt).1 (ix2 r l)
      = gradX m c (ix2 ⟨(t.val - 1) * 256 + r.val, by have := point_lt t; omega⟩ l) := by
  have key : gradOf (grid0.coords t) (xBlock m c t) (cBlock m c t) (dBlock m c t) (pBlock m c t) (gBlock m c t) (ix2 r l)
      = gradX m c (ix2 ⟨(t.val - 1) * 256 + r.val, by have := point_lt t; omega⟩ l) := by
    rw [grad_pay, pick_latent t h]
    simp only [xBlock_apply, dBlock_latent m c t h, pBlock_latent m c t h, gBlock_apply]
    rfl
  by_cases h0 : t.val ≤ 1
  · rw [outsAt_first m c t h0]
    dsimp only
    rw [gradFirst_eq]
    exact key
  · rw [outsAt_later m c t h0]
    dsimp only
    rw [gradLater_eq]
    exact key

/-- One point's addition to the two sums. -/
def shiftPart (c : Dev nD) (t : Fin cfg0.N) (l : Fin 2048) : EReal := ∑ r : Fin 256, dBlock m c t (ix2 r l)
def scalePart (c : Dev nD) (t : Fin cfg0.N) (l : Fin 2048) : EReal :=
  ∑ r : Fin 256, nrm (fun k => pick (grid0.coords t) (cBlock m c t) (xBlock m c t) (ix2 r k)) l * dBlock m c t (ix2 r l)

theorem shift_first (c : Dev nD) (t : Fin cfg0.N) (h0 : t.val ≤ 1) (l : Fin 2048) :
    (outsAt m c t.val t.isLt).2 (ix3 0 0 l) = shiftPart m c t l := by
  rw [outsAt_first m c t h0]
  dsimp only
  rw [shiftFirst_eq, shift_pay, zeros, zero_add]
  rfl
theorem scale_first (c : Dev nD) (t : Fin cfg0.N) (h0 : t.val ≤ 1) (l : Fin 2048) :
    (outsAt m c t.val t.isLt).2 (ix3 0 1 l) = scalePart m c t l := by
  rw [outsAt_first m c t h0]
  dsimp only
  rw [scaleFirst_eq, scale_pay, zeros, zero_add]
  rfl
theorem shift_later (c : Dev nD) (t : Fin cfg0.N) (h0 : ¬ t.val ≤ 1) (l : Fin 2048) :
    (outsAt m c t.val t.isLt).2 (ix3 0 0 l)
      = (outsAt m c (t.val - 1) (Nat.lt_of_le_of_lt (Nat.sub_le _ _) t.isLt)).2 (ix3 0 0 l) + shiftPart m c t l := by
  rw [outsAt_later m c t h0]
  dsimp only
  rw [shiftLater_eq, shift_pay]
  rfl
theorem scale_later (c : Dev nD) (t : Fin cfg0.N) (h0 : ¬ t.val ≤ 1) (l : Fin 2048) :
    (outsAt m c t.val t.isLt).2 (ix3 0 1 l)
      = (outsAt m c (t.val - 1) (Nat.lt_of_le_of_lt (Nat.sub_le _ _) t.isLt)).2 (ix3 0 1 l) + scalePart m c t l := by
  rw [outsAt_later m c t h0]
  dsimp only
  rw [scaleLater_eq, scale_pay]
  rfl

/-! ## The sums over all rows of a kind -/

/-- A latent row's addition to the two sums, by the row's number. -/
def shiftTerm (c : Dev nD) (l : Fin 2048) (r : ℕ) : EReal := if h : r < 4096 then argD m c (ix2 ⟨r, h⟩ l) else 0
def scaleTerm (c : Dev nD) (l : Fin 2048) (r : ℕ) : EReal :=
  if h : r < 4096 then nrm (fun k => argX m c (ix2 ⟨r, h⟩ k)) l * argD m c (ix2 ⟨r, h⟩ l) else 0

theorem shiftPart_latent (c : Dev nD) (t : Fin cfg0.N) (h : 1 ≤ t.val) (l : Fin 2048) :
    shiftPart m c t l = ∑ r : Fin 256, shiftTerm m c l ((t.val - 1) * 256 + r.val) := by
  have := point_lt t
  refine Finset.sum_congr rfl fun r _ => ?_
  have hr : (t.val - 1) * 256 + r.val < 4096 := by omega
  rw [dBlock_latent m c t h, shiftTerm, dif_pos hr]
theorem scalePart_latent (c : Dev nD) (t : Fin cfg0.N) (h : 1 ≤ t.val) (l : Fin 2048) :
    scalePart m c t l = ∑ r : Fin 256, scaleTerm m c l ((t.val - 1) * 256 + r.val) := by
  have := point_lt t
  refine Finset.sum_congr rfl fun r _ => ?_
  rw [pick_latent t h, dBlock_latent m c t h]
  have hr : (t.val - 1) * 256 + r.val < 4096 := by omega
  rw [scaleTerm, dif_pos hr]
  simp only [xBlock_apply]

/-- After point `n + 1` the two rows hold the sums over the latent rows of the first `n + 1` blocks. -/
theorem shift_sofar (c : Dev nD) (l : Fin 2048) : ∀ (n : ℕ) (h : n + 1 < cfg0.N),
    (outsAt m c (n + 1) h).2 (ix3 0 0 l) = ∑ r ∈ Finset.range ((n + 1) * 256), shiftTerm m c l r
  | 0, h => by
    refine (shift_first m c ⟨0 + 1, h⟩ (le_refl 1) l).trans ?_
    rw [shiftPart_latent m c _ (le_refl 1)]
    exact first_block (shiftTerm m c l) 256
  | n + 1, h => by
    refine (shift_later m c ⟨n + 1 + 1, h⟩ (by show ¬ n + 1 + 1 ≤ 1; omega) l).trans ?_
    rw [shiftPart_latent m c _ (by show 1 ≤ n + 1 + 1; omega)]
    refine Eq.trans (congrArg (· + _) (shift_sofar c l n (Nat.lt_of_succ_lt h))) ?_
    exact add_block (shiftTerm m c l) 256 (n + 1)
theorem scale_sofar (c : Dev nD) (l : Fin 2048) : ∀ (n : ℕ) (h : n + 1 < cfg0.N),
    (outsAt m c (n + 1) h).2 (ix3 0 1 l) = ∑ r ∈ Finset.range ((n + 1) * 256), scaleTerm m c l r
  | 0, h => by
    refine (scale_first m c ⟨0 + 1, h⟩ (le_refl 1) l).trans ?_
    rw [scalePart_latent m c _ (le_refl 1)]
    exact first_block (scaleTerm m c l) 256
  | n + 1, h => by
    refine (scale_later m c ⟨n + 1 + 1, h⟩ (by show ¬ n + 1 + 1 ≤ 1; omega) l).trans ?_
    rw [scalePart_latent m c _ (by show 1 ≤ n + 1 + 1; omega)]
    refine Eq.trans (congrArg (· + _) (scale_sofar c l n (Nat.lt_of_succ_lt h))) ?_
    exact add_block (scaleTerm m c l) 256 (n + 1)

/-- The first point and the last one. -/
def firstPoint : Fin cfg0.N := ⟨0, by rw [points]; omega⟩
def lastPoint : Fin cfg0.N := ⟨16, by rw [points]; omega⟩

theorem shift_latent (c : Dev nD) (l : Fin 2048) :
    (outsAt m c lastPoint.val lastPoint.isLt).2 (ix3 0 0 l) = ∑ r : Fin 4096, argD m c (ix2 r l) :=
  (shift_sofar m c l 15 lastPoint.isLt).trans (all_rows 4096 _ _ fun r => dif_pos r.isLt)
theorem scale_latent (c : Dev nD) (l : Fin 2048) :
    (outsAt m c lastPoint.val lastPoint.isLt).2 (ix3 0 1 l)
      = ∑ r : Fin 4096, nrm (fun k => argX m c (ix2 r k)) l * argD m c (ix2 r l) :=
  (scale_sofar m c l 15 lastPoint.isLt).trans (all_rows 4096 _ _ fun r => dif_pos r.isLt)
theorem shift_context (c : Dev nD) (l : Fin 2048) :
    (outsAt m c firstPoint.val firstPoint.isLt).2 (ix3 0 0 l) = ∑ r : Fin 256, argE m c (ix2 r l) := by
  refine (shift_first m c firstPoint (Nat.zero_le 1) l).trans (Finset.sum_congr rfl fun r _ => ?_)
  exact dBlock_context m c firstPoint rfl r l
theorem scale_context (c : Dev nD) (l : Fin 2048) :
    (outsAt m c firstPoint.val firstPoint.isLt).2 (ix3 0 1 l)
      = ∑ r : Fin 256, nrm (fun k => argC m c (ix2 r k)) l * argE m c (ix2 r l) := by
  refine (scale_first m c firstPoint (Nat.zero_le 1) l).trans (Finset.sum_congr rfl fun r _ => ?_)
  rw [pick_context firstPoint rfl, dBlock_context m c firstPoint rfl]
  simp only [cBlock_apply]

end Cert.Kernel3Ideal.ModNormGrad

end
-- ==== Proof.ModNormGradReference.lean ====
/-
  The reference of the modulated norm's backward pass (program `Reference3Ideal`), read at an index stage by stage: each row
  is normed, differentiated step by step (`chain` of `NormGradMaths`), and the scale's and shift's gradients are sums over
  the rows.
-/
module

public import proofs.«01_k».proof.Proof.ModNormGradMaths
public import proofs.«01_k».proof.Proof.Gen.Reference3Ideal.Read
public import Idealize.ShloMosaic.Lib.Pointwise
public import Idealize.ShloMosaic.Lib.Tactic

@[expose] public section

set_option maxRecDepth 16384

noncomputable section

open Idealize.ShloMosaic Idealize.ShloMosaic.TcCoe

namespace Cert.Reference3Ideal.ModNormGrad

open Cert.Reference3Ideal Cert.Reference3Ideal.Read Cert.NormMaths Cert.NormGradMaths

variable (x : FVec Ideal S4096x2048 .f32) (y : FVec Ideal S256x2048 .f32) (d : FVec Ideal S4096x2048 .f32)
  (dc : FVec Ideal S256x2048 .f32) (sc : FVec Ideal S2048 .f32) (gd : FVec Ideal S4096x2048 .f32)

/-- A row of an array, and a vector as a row. -/
abbrev rowAt {n : ℕ} (a : FVec Ideal ⟨2, ![n, 2048]⟩ .f32) (r : Fin n) : Fin 2048 → EReal := fun k => a (ix2 r k)
abbrev vecAt (a : FVec Ideal S2048 .f32) : Fin 2048 → EReal := fun k => a (ix1 k)

/-! ## The latent rows -/

theorem latent_mean (r : Fin 4096) :
    val_main_v3 (F := Ideal) x (ix2 r 0) = mean (rowAt x r) := by
  pointwise [val_main_v3, val_main_v2, val_main_v1, val_main_v0, val_main_cst, val_main_cst_0, mean]

theorem latent_cen (r : Fin 4096) (l : Fin 2048) :
    val_main_v5 (F := Ideal) x (ix2 r l) = cen (rowAt x r) l := by
  pointwise [val_main_v5, val_main_v4]
  exact congrArg (x (ix2 r l) - ·) (latent_mean x r)

theorem latent_cen' (r : Fin 4096) (l : Fin 2048) :
    val_main_v14 (F := Ideal) x (ix2 r l) = cen (rowAt x r) l := by
  pointwise [val_main_v14, val_main_v13]
  exact congrArg (x (ix2 r l) - ·) (latent_mean x r)

theorem latent_var (r : Fin 4096) :
    val_main_v16 (F := Ideal) x (ix2 r 0) = var (rowAt x r) := by
  pointwise [val_main_v16, val_main_v15, val_main_v12, val_main_v11, val_main_v10, val_main_v9, val_main_v6, val_main_cst_2, val_main_cst_3, val_main_cst_4, var]
  simp only [latent_cen]

theorem latent_scl (r : Fin 4096) :
    val_main_v17 (F := Ideal) x (ix2 r 0) = scl (rowAt x r) := by
  pointwise [val_main_v17]
  exact congrArg Ideal.rsqrt (latent_var x r)

theorem latent_nrm (r : Fin 4096) (l : Fin 2048) :
    val_main_v22 (F := Ideal) x (ix2 r l) = nrm (rowAt x r) l := by
  pointwise [val_main_v22, val_main_v21]
  simp only [latent_cen', latent_scl]
  rfl

theorem latent_dn (r : Fin 4096) (l : Fin 2048) :
    val_main_v73 (F := Ideal) d sc (ix2 r l) = dn (rowAt d r) (vecAt sc) l := by
  pointwise [val_main_v73, val_main_v72, val_main_v65, val_main_v25, val_main_v24, val_main_v23, val_main_cst_6, dn]

theorem latent_dscl (r : Fin 4096) :
    val_main_v20 (F := Ideal) x (ix2 r 0) = Ideal.ofBits .f32 0xBF000000#32 * Ideal.div (scl (rowAt x r)) (var (rowAt x r)) := by
  pointwise [val_main_v20, val_main_v19, val_main_v18, val_main_cst_5]
  simp only [latent_scl, latent_var]

theorem latent_direct (r : Fin 4096) (l : Fin 2048) :
    val_main_v79 (F := Ideal) x d sc (ix2 r l) = dn (rowAt d r) (vecAt sc) l * scl (rowAt x r) := by
  pointwise [val_main_v79, val_main_v78]
  simp only [latent_dn, latent_scl]

theorem latent_dvar (r : Fin 4096) :
    val_main_v80 (F := Ideal) x d sc (ix2 r 0) = dvar (rowAt x r) (rowAt d r) (vecAt sc) := by
  pointwise [val_main_v80, val_main_v77, val_main_v76, val_main_v75, val_main_cst_21, dvar]
  simp only [latent_cen', latent_dn, latent_dscl]

theorem latent_viaVar (r : Fin 4096) (l : Fin 2048) :
    val_main_v88 (F := Ideal) x d sc (ix2 r l) = viaVar (rowAt x r) (rowAt d r) (vecAt sc) l := by
  pointwise [val_main_v88, val_main_v87, val_main_v86, val_main_v85, val_main_v84, val_main_v8, val_main_v7, val_main_cst_1, val_main_cst_23, val_main_cst_24, viaVar]
  simp only [latent_dvar, latent_cen, Fin.sum_univ_one]

theorem latent_grad (r : Fin 4096) (l : Fin 2048) :
    val_main_v98 (F := Ideal) x d sc (ix2 r l) = chain (rowAt x r) (rowAt d r) (vecAt sc) l := by
  pointwise [val_main_v98, val_main_v97, val_main_v96, val_main_v95, val_main_v94, val_main_v93, val_main_v92, val_main_v91, val_main_v90, val_main_v89, val_main_v83, val_main_v82, val_main_v81, val_main_cst_22, val_main_cst_25, val_main_cst_26, val_main_cst_27, chain]
  simp only [latent_direct, latent_viaVar, Fin.sum_univ_one]

theorem latent_shift (l : Fin 2048) :
    val_main_v68 (F := Ideal) d (ix1 l) = ∑ r : Fin 4096, d (ix2 r l) := by
  pointwise [val_main_v68, val_main_v67, val_main_v66, val_main_v65, val_main_cst_17, val_main_cst_18]
  simp only [Fin.sum_univ_one]

theorem latent_scale (l : Fin 2048) :
    val_main_v74 (F := Ideal) x d (ix1 l) = ∑ r : Fin 4096, nrm (rowAt x r) l * d (ix2 r l) := by
  pointwise [val_main_v74, val_main_v71, val_main_v70, val_main_v69, val_main_v65, val_main_cst_19, val_main_cst_20]
  simp only [Fin.sum_univ_one, latent_nrm]

/-! ## The context's rows -/

theorem context_mean (r : Fin 256) :
    val_main_v34 (F := Ideal) y (ix2 r 0) = mean (rowAt y r) := by
  pointwise [val_main_v34, val_main_v33, val_main_v32, val_main_v31, val_main_cst_7, val_main_cst_8, mean]

theorem context_cen (r : Fin 256) (l : Fin 2048) :
    val_main_v36 (F := Ideal) y (ix2 r l) = cen (rowAt y r) l := by
  pointwise [val_main_v36, val_main_v35]
  exact congrArg (y (ix2 r l) - ·) (context_mean y r)

theorem context_cen' (r : Fin 256) (l : Fin 2048) :
    val_main_v43 (F := Ideal) y (ix2 r l) = cen (rowAt y r) l := by
  pointwise [val_main_v43, val_main_v42]
  exact congrArg (y (ix2 r l) - ·) (context_mean y r)

theorem context_scl (r : Fin 256) :
    val_main_v46 (F := Ideal) y (ix2 r 0) = scl (rowAt y r) := by
  pointwise [val_main_v46, val_main_v45, val_main_v44, val_main_v41, val_main_v40, val_main_v39, val_main_v38, val_main_v37, val_main_cst_9, val_main_cst_10, val_main_cst_11, scl, var]
  simp only [context_cen]

theorem context_nrm (r : Fin 256) (l : Fin 2048) :
    val_main_v48 (F := Ideal) y (ix2 r l) = nrm (rowAt y r) l := by
  pointwise [val_main_v48, val_main_v47]
  simp only [context_cen', context_scl]
  rfl

theorem context_shift (l : Fin 2048) :
    val_main_v60 (F := Ideal) dc (ix1 l) = ∑ r : Fin 256, dc (ix2 r l) := by
  pointwise [val_main_v60, val_main_v59, val_main_v58, val_main_v57, val_main_cst_13, val_main_cst_14]
  simp only [Fin.sum_univ_one]

theorem context_scale (l : Fin 2048) :
    val_main_v64 (F := Ideal) y dc (ix1 l) = ∑ r : Fin 256, nrm (rowAt y r) l * dc (ix2 r l) := by
  pointwise [val_main_v64, val_main_v63, val_main_v62, val_main_v61, val_main_v57, val_main_cst_15, val_main_cst_16]
  simp only [Fin.sum_univ_one, context_nrm]

/-! ## The whole results -/

/-- The gradient at the latent rows plus what the caller adds, on real rows in the closed form. -/
theorem grad_eq (hx : ∀ i, x i = (((x i).toReal : ℝ) : EReal)) (hd : ∀ i, d i = (((d i).toReal : ℝ) : EReal))
    (hs : ∀ i, sc i = (((sc i).toReal : ℝ) : EReal)) (r : Fin 4096) (l : Fin 2048) :
    val_main_v99 (F := Ideal) x d sc gd (ix2 r l) = inputGrad (rowAt x r) (rowAt d r) (vecAt sc) l + gd (ix2 r l) := by
  pointwise [val_main_v99]
  rw [latent_grad, chain_eq _ _ _ (fun k => hx _) (fun k => hd _) (fun k => hs _)]

end Cert.Reference3Ideal.ModNormGrad

end
-- ==== Proof.ModNormGrad.lean ====
/-
  The backward pass of the modulated norm (programs `Kernel3Ideal` and `Reference3Ideal`): the whole launch and the claim.

  The gradient's blocks are written back at the points 1 to 16, one latent block each. The sums' eight rows are written back
  twice: the context's after the first point, the latent ones after the last. The host cuts the four rows of sums out.
-/
module

public import proofs.«01_k».proof.Proof.ModNormGradPoint
public import proofs.«01_k».proof.Proof.ModNormGradReference
public import proofs.«01_k».proof.Proof.FiniteArgs
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel3Ideal.ModNormGrad

open Cert.Kernel3Ideal Cert.Kernel3Ideal.Gen Cert.NormMaths Cert.NormGradMaths

variable (m : (ℓ : Loc nD τ sig) → Buf (Elt Ideal) ℓ) (ρ : Dev nD → PrngReg)

/-! ## The gradient's array -/

theorem index5 : ∀ t : Fin grid0.N, win0_5.index t 0 = t.val - 1 ∧ win0_5.index t 1 = 0 := by decide +kernel
theorem flush5 : ∀ t : Fin cfg0.N, (cfg0.win 5).flush t = true ↔ 1 ≤ t.val := by decide +kernel

theorem read_grad (N : FVec Ideal S4096x2048 .f32) (t : Fin cfg0.N) (i : Fin 256) (j : Fin 2048) :
    ((cfg0.win 5).blk t).view.read (Elt Ideal) N (ix2 i j)
      = N (ix2 ⟨(t.val - 1) * 256 + i.val, by have := point_lt t; omega⟩ j) := by
  rw [View.read_apply]
  show N _ = N _
  congr 1
  funext a
  apply Fin.ext
  match a with
  | ⟨0, _⟩ => show win0_5.index t 0 * 256 + 1 * i.val = (t.val - 1) * 256 + i.val; rw [(index5 t).1]; omega
  | ⟨1, _⟩ => show win0_5.index t 1 * 2048 + 1 * j.val = j.val; rw [(index5 t).2]; omega

theorem flushed_grad (c : Dev nD) (t : Fin cfg0.N) (hf : (cfg0.win 5).flush t = true) :
    (dats m 0 c).flushed 5 t = ((cfg0.win 5).blk t).view.read (Elt Ideal) (gradX m c) := by
  have p := point_grad m c t ((flush5 t).mp hf)
  generalize gradX m c = N at p ⊢
  show (cfg0.win 5).cut (grid0.coords t) ((dats m 0 c).after 5 t) = _
  rw [after5]
  generalize (outsAt m c t.val t.isLt).1 = B at p ⊢
  show B = (_ : S256x2048.Idx → EReal)
  funext x
  obtain ⟨i, j, rfl⟩ : ∃ (i : Fin 256) (j : Fin 2048), x = ix2 i j := ⟨x 0, x 1, eq_ix2 x⟩
  exact (p i j).trans (read_grad N t i j).symm

theorem final_grad (c : Dev nD) : (dats m 0 c).arrAt 5 cfg0.N = gradX m c :=
  (dats m 0 c).arrAt_eq_of_cover 5 (gradX m c) (flushed_grad m c) fun i => by
    have h0 : (i 0 : Nat) < 4096 := (i 0).isLt
    have h1 : (i 1 : Nat) < 2048 := (i 1).isLt
    let t : Fin cfg0.N := ⟨(i 0 : Nat) / 256 + 1, by rw [points]; omega⟩
    have ht : t.val = (i 0 : Nat) / 256 + 1 := rfl
    refine ⟨t, (flush5 t).mpr (by omega), ?_⟩
    show i ∈ ((View.whole main_v10_0).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [(index5 t).1]; omega
    | ⟨1, _⟩ =>
      show win0_5.index t 1 * 2048 ≤ (i 1 : Nat) ∧ (i 1 : Nat) < win0_5.index t 1 * 2048 + 2048
      rw [(index5 t).2]; omega

/-! ## The sums' array -/

theorem index6 : ∀ t : Fin grid0.N, (win0_6.index t 0 = if t.val = 0 then 1 else 0) ∧ win0_6.index t 1 = 0 ∧ win0_6.index t 2 = 0 := by
  decide +kernel
theorem flush6 : ∀ t : Fin cfg0.N, (cfg0.win 6).flush t = true ↔ t.val = 0 ∨ t.val = 16 := by decide +kernel

/-- The point that writes a kind's eight rows back: the last for the latent rows (kind 0), the first for the context's. -/
def closing (k : Fin 2) : Fin cfg0.N := if k.val = 0 then lastPoint else firstPoint

/-- The sums' array: each kind's eight rows as its closing point leaves them. -/
def sums (c : Dev nD) : FVec Ideal S2x8x2048 .f32 := fun i =>
  (outsAt m c (closing (i 0)).val (closing (i 0)).isLt).2 (ix3 0 (i 1) (i 2))

theorem read_sums (N : FVec Ideal S2x8x2048 .f32) (t : Fin cfg0.N) (k : Fin 2) (hk : k.val = if t.val = 0 then 1 else 0)
    (i : Fin 8) (j : Fin 2048) :
    ((cfg0.win 6).blk t).view.read (Elt Ideal) N (ix3 0 i j) = N (ix3 k i j) := by
  rw [View.read_apply]
  show N _ = N _
  congr 1
  funext a
  apply Fin.ext
  match a with
  | ⟨0, _⟩ => show win0_6.index t 0 * 1 + 1 * 0 = k.val; rw [(index6 t).1, hk]; omega
  | ⟨1, _⟩ => show win0_6.index t 1 * 8 + 1 * i.val = i.val; rw [(index6 t).2.1]; omega
  | ⟨2, _⟩ => show win0_6.index t 2 * 2048 + 1 * j.val = j.val; rw [(index6 t).2.2]; omega

theorem sums_at (c : Dev nD) (t : Fin cfg0.N) (k : Fin 2) (hk : closing k = t) (i : Fin 8) (j : Fin 2048) :
    (outsAt m c t.val t.isLt).2 (ix3 0 i j) = sums m c (ix3 k i j) := by
  subst hk
  rfl

theorem closing_of (t : Fin cfg0.N) (h : t.val = 0 ∨ t.val = 16) :
    ∃ k : Fin 2, (k.val = if t.val = 0 then 1 else 0) ∧ closing k = t := by
  rcases h with h | h
  · exact ⟨1, by rw [if_pos h]; rfl, Fin.ext h.symm⟩
  · exact ⟨0, by rw [if_neg (by omega)]; rfl, Fin.ext h.symm⟩

theorem flushed_sums (c : Dev nD) (t : Fin cfg0.N) (hf : (cfg0.win 6).flush t = true) :
    (dats m 0 c).flushed 6 t = ((cfg0.win 6).blk t).view.read (Elt Ideal) (sums m c) := by
  obtain ⟨k, hk, hc⟩ := closing_of t ((flush6 t).mp hf)
  have p := sums_at m c t k hc
  generalize sums m c = N at p ⊢
  show (cfg0.win 6).cut (grid0.coords t) ((dats m 0 c).after 6 t) = _
  rw [after6]
  generalize (outsAt m c t.val t.isLt).2 = B at p ⊢
  show B = (_ : S1x8x2048.Idx → EReal)
  funext x
  obtain ⟨z, i, j, rfl⟩ : ∃ (z : Fin 1) (i : Fin 8) (j : Fin 2048), x = ix3 z i j := ⟨x 0, x 1, x 2, eq_ix3 x⟩
  obtain rfl : z = 0 := Subsingleton.elim _ _
  exact (p i j).trans (read_sums N t k hk i j).symm

theorem final_sums (c : Dev nD) : (dats m 0 c).arrAt 6 cfg0.N = sums m c :=
  (dats m 0 c).arrAt_eq_of_cover 6 (sums m c) (flushed_sums m c) fun i => by
    have h0 : (i 0 : Nat) < 2 := (i 0).isLt
    have h1 : (i 1 : Nat) < 8 := (i 1).isLt
    have h2 : (i 2 : Nat) < 2048 := (i 2).isLt
    have ht : ∃ t : Fin cfg0.N, (t.val = 0 ∨ t.val = 16) ∧ (if t.val = 0 then 1 else 0) = (i 0 : Nat) := by
      by_cases h : (i 0 : Nat) = 0
      · exact ⟨lastPoint, Or.inr rfl, (if_neg (by show ¬ 16 = 0; omega)).trans h.symm⟩
      · exact ⟨firstPoint, Or.inl rfl, (if_pos rfl).trans (by omega)⟩
    obtain ⟨t, hp, hb⟩ := ht
    refine ⟨t, (flush6 t).mpr hp, ?_⟩
    show i ∈ ((View.whole main_v10_1).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [(index6 t).1, hb]; omega
    | ⟨1, _⟩ =>
      show win0_6.index t 1 * 8 ≤ (i 1 : Nat) ∧ (i 1 : Nat) < win0_6.index t 1 * 8 + 8
      rw [(index6 t).2.1]; omega
    | ⟨2, _⟩ =>
      show win0_6.index t 2 * 2048 ≤ (i 2 : Nat) ∧ (i 2 : Nat) < win0_6.index t 2 * 2048 + 2048
      rw [(index6 t).2.2]; omega

/-! ## The host's cuts -/

/-- The four vectors: the gradients of the shift and the scale, of the latent rows and of the context's. -/
def dShiftX (c : Dev nD) : FVec Ideal S2048 .f32 := fun i => ∑ r : Fin 4096, argD m c (ix2 r (i 0))
def dScaleX (c : Dev nD) : FVec Ideal S2048 .f32 := fun i =>
  ∑ r : Fin 4096, nrm (fun k => argX m c (ix2 r k)) (i 0) * argD m c (ix2 r (i 0))
def dShiftC (c : Dev nD) : FVec Ideal S2048 .f32 := fun i => ∑ r : Fin 256, argE m c (ix2 r (i 0))
def dScaleC (c : Dev nD) : FVec Ideal S2048 .f32 := fun i =>
  ∑ r : Fin 256, nrm (fun k => argC m c (ix2 r k)) (i 0) * argE m c (ix2 r (i 0))

theorem cut_dShiftX (c : Dev nD) :
    shapeCast S2048 (extractStridedSlice S1x1x2048 ![0, 0, 0] (sums m c) slices_S2x8x2048_S1x1x2048_0_0_0) shapeCasts_S1x1x2048_S2048
      = dShiftX m c := by
  funext i
  obtain ⟨l, rfl⟩ : ∃ l : Fin 2048, i = ix1 l := ⟨i 0, eq_ix1 i⟩
  refine Eq.trans ?_ ((sums_at m c _ 0 rfl 0 l).symm.trans (shift_latent m c l))
  generalize sums m c = y
  pointwise

theorem after_dShiftX (c : Dev nD) :
    Pipeline.afterTail₀ cfgs (dats m) 0 (V0 m) [hostOps1] c main_v12 = dShiftX m c := by
  refine Eq.trans ?_ (cut_dShiftX m c)
  unfold Pipeline.afterTail₀
  simp only [hostOps1, List.flatten_cons, List.flatten_nil, List.append_nil, List.cons_append, List.nil_append]
  after_results_simp
  erw [Pipeline.withArrays_arr spec0 (by decide) c _ _ 6]
  exact congrArg (fun z : FVec Ideal S2x8x2048 .f32 =>
    (shapeCast S2048 (extractStridedSlice S1x1x2048 ![0, 0, 0] z slices_S2x8x2048_S1x1x2048_0_0_0) shapeCasts_S1x1x2048_S2048 : FVec Ideal S2048 .f32))
    (final_sums m c)

theorem cut_dScaleX (c : Dev nD) :
    shapeCast S2048 (extractStridedSlice S1x1x2048 ![0, 1, 0] (sums m c) slices_S2x8x2048_S1x1x2048_0_1_0) shapeCasts_S1x1x2048_S2048
      = dScaleX m c := by
  funext i
  obtain ⟨l, rfl⟩ : ∃ l : Fin 2048, i = ix1 l := ⟨i 0, eq_ix1 i⟩
  refine Eq.trans ?_ ((sums_at m c _ 0 rfl 1 l).symm.trans (scale_latent m c l))
  generalize sums m c = y
  pointwise

theorem after_dScaleX (c : Dev nD) :
    Pipeline.afterTail₀ cfgs (dats m) 0 (V0 m) [hostOps1] c main_v14 = dScaleX m c := by
  refine Eq.trans ?_ (cut_dScaleX m c)
  unfold Pipeline.afterTail₀
  simp only [hostOps1, List.flatten_cons, List.flatten_nil, List.append_nil, List.cons_append, List.nil_append]
  after_results_simp
  erw [Pipeline.withArrays_arr spec0 (by decide) c _ _ 6]
  exact congrArg (fun z : FVec Ideal S2x8x2048 .f32 =>
    (shapeCast S2048 (extractStridedSlice S1x1x2048 ![0, 1, 0] z slices_S2x8x2048_S1x1x2048_0_1_0) shapeCasts_S1x1x2048_S2048 : FVec Ideal S2048 .f32))
    (final_sums m c)

theorem cut_dShiftC (c : Dev nD) :
    shapeCast S2048 (extractStridedSlice S1x1x2048 ![1, 0, 0] (sums m c) slices_S2x8x2048_S1x1x2048_1_0_0) shapeCasts_S1x1x2048_S2048
      = dShiftC m c := by
  funext i
  obtain ⟨l, rfl⟩ : ∃ l : Fin 2048, i = ix1 l := ⟨i 0, eq_ix1 i⟩
  refine Eq.trans ?_ ((sums_at m c _ 1 rfl 0 l).symm.trans (shift_context m c l))
  generalize sums m c = y
  pointwise

theorem after_dShiftC (c : Dev nD) :
    Pipeline.afterTail₀ cfgs (dats m) 0 (V0 m) [hostOps1] c main_v16 = dShiftC m c := by
  refine Eq.trans ?_ (cut_dShiftC m c)
  unfold Pipeline.afterTail₀
  simp only [hostOps1, List.flatten_cons, List.flatten_nil, List.append_nil, List.cons_append, List.nil_append]
  after_results_simp
  erw [Pipeline.withArrays_arr spec0 (by decide) c _ _ 6]
  exact congrArg (fun z : FVec Ideal S2x8x2048 .f32 =>
    (shapeCast S2048 (extractStridedSlice S1x1x2048 ![1, 0, 0] z slices_S2x8x2048_S1x1x2048_1_0_0) shapeCasts_S1x1x2048_S2048 : FVec Ideal S2048 .f32))
    (final_sums m c)

theorem cut_dScaleC (c : Dev nD) :
    shapeCast S2048 (extractStridedSlice S1x1x2048 ![1, 1, 0] (sums m c) slices_S2x8x2048_S1x1x2048_1_1_0) shapeCasts_S1x1x2048_S2048
      = dScaleC m c := by
  funext i
  obtain ⟨l, rfl⟩ : ∃ l : Fin 2048, i = ix1 l := ⟨i 0, eq_ix1 i⟩
  refine Eq.trans ?_ ((sums_at m c _ 1 rfl 1 l).symm.trans (scale_context m c l))
  generalize sums m c = y
  pointwise

theorem after_dScaleC (c : Dev nD) :
    Pipeline.afterTail₀ cfgs (dats m) 0 (V0 m) [hostOps1] c main_v18 = dScaleC m c := by
  refine Eq.trans ?_ (cut_dScaleC m c)
  unfold Pipeline.afterTail₀
  simp only [hostOps1, List.flatten_cons, List.flatten_nil, List.append_nil, List.cons_append, List.nil_append]
  after_results_simp
  erw [Pipeline.withArrays_arr spec0 (by decide) c _ _ 6]
  exact congrArg (fun z : FVec Ideal S2x8x2048 .f32 =>
    (shapeCast S2048 (extractStridedSlice S1x1x2048 ![1, 1, 0] z slices_S2x8x2048_S1x1x2048_1_1_0) shapeCasts_S1x1x2048_S2048 : FVec Ideal S2048 .f32))
    (final_sums m c)

/-- The kernel's run: the five results, the arguments unchanged. -/
theorem run : θ_run defs (onTc (τ := τ) (main (F := Ideal))) ⟨m, fun _ => 0, ρ⟩ fun r => ∀ c : Dev nD,
      r.2.mem ((c.tc : Thread nD τ).loc main_v10_0) = gradX m c
      ∧ r.2.mem ((c.tc : Thread nD τ).loc main_v12) = dShiftX m c
      ∧ r.2.mem ((c.tc : Thread nD τ).loc main_v14) = dScaleX m c
      ∧ r.2.mem ((c.tc : Thread nD τ).loc main_v16) = dShiftC m c
      ∧ r.2.mem ((c.tc : Thread nD τ).loc main_v18) = dScaleC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
      ⟨((h.1 c).1 5).trans (final_grad m c),
        ((h.1 c).2 main_v12 (Pipeline.mem_restRefs_of main_v12 (by decide) (by decide))).trans (after_dShiftX m c),
        ((h.1 c).2 main_v14 (Pipeline.mem_restRefs_of main_v14 (by decide) (by decide))).trans (after_dScaleX m c),
        ((h.1 c).2 main_v16 (Pipeline.mem_restRefs_of main_v16 (by decide) (by decide))).trans (after_dShiftC m c),
        ((h.1 c).2 main_v18 (Pipeline.mem_restRefs_of main_v18 (by decide) (by decide))).trans (after_dScaleC m c),
        h.2 c⟩)
    (θ_run_and (run_main m ρ) (unchanged m ρ))

end Cert.Kernel3Ideal.ModNormGrad

/-! ## The precondition -/

namespace Cert.FiniteArgs

instance finite3_facts : Cert.Pre_finite3.Facts where
  bcast_S_S4096x2048 := by decide
  reducesTo_S4096x2048_S_d0_1 := by decide
  h_S_ := by decide
  bcast_S_S2048 := by decide
  reducesTo_S2048_S_d0 := by decide

/-- The precondition: the latent rows, the gradient at their modulated norm and their scale hold real numbers. -/
theorem finite3_entries (a0 : FVec Ideal Cert.Pre_finite3.S4096x2048 .f32) (a1 : FVec Ideal Cert.Pre_finite3.S256x2048 .f32)
    (a2 : FVec Ideal Cert.Pre_finite3.S4096x2048 .f32) (a3 : FVec Ideal Cert.Pre_finite3.S256x2048 .f32)
    (a4 a5 a6 a7 : FVec Ideal Cert.Pre_finite3.S2048 .f32) (a8 : FVec Ideal Cert.Pre_finite3.S4096x2048 .f32)
    (h : Cert.Pre_finite3.fn (F := Ideal) a0 a1 a2 a3 a4 a5 a6 a7 a8 = fun _ => 1#1) :
    (∀ i, a0 i = (((a0 i).toReal : ℝ) : EReal)) ∧ (∀ i, a2 i = (((a2 i).toReal : ℝ) : EReal))
      ∧ (∀ i, a5 i = (((a5 i).toReal : ℝ) : EReal)) := by
  have e := congrFun h (Shape.Idx.first Cert.Pre_finite3.Facts.h_S_)
  dsimp only [Cert.Pre_finite3.fn, andi] at e
  obtain ⟨e, e5⟩ := IntOp.andi_eq_one.mp e
  obtain ⟨e0, e2⟩ := IntOp.andi_eq_one.mp e
  exact ⟨entries_real _ _ _ a0 e0, entries_real _ _ _ a2 e2, entries_real _ _ _ a5 e5⟩

end Cert.FiniteArgs

/-- The claim: over the extended reals the kernel's five results are the reference's, where the latent rows, their gradient
and their scale hold real numbers. -/
theorem Cert.ModNormGrad.algebraic : Cert.algebraic_Kernel3Ideal_Reference3Ideal_pre_finite3 := by
  intro m g m' g' hpre hargs
  refine ⟨fun c => Cert.Kernel3Ideal.ModNormGrad.gradX m c, fun c => Cert.Kernel3Ideal.ModNormGrad.dShiftX m c,
    fun c => Cert.Kernel3Ideal.ModNormGrad.dScaleX m c, fun c => Cert.Kernel3Ideal.ModNormGrad.dShiftC m c,
    fun c => Cert.Kernel3Ideal.ModNormGrad.dScaleC m c, Cert.Kernel3Ideal.ModNormGrad.run m g, ?_⟩
  refine (θ_run _ _ _).mono (fun r h c => ?_) (Cert.Reference3Ideal.Value.run (F := Ideal) m' g')
  obtain ⟨e0, e1, e2, e3, e4, kept⟩ := h c
  obtain ⟨a0, a1, a2, a3, a4, a5, a6, a7, a8⟩ := hargs c
  obtain ⟨hx, hd, hs⟩ := Cert.FiniteArgs.finite3_entries _ _ _ _ _ _ _ _ _ (hpre c)
  refine ⟨e0.trans ((Cert.Reference3Ideal.Read.val_main_v99_eq m' c).trans ?_),
    e1.trans ((Cert.Reference3Ideal.Read.val_main_v68_eq _).symm.trans ?_),
    e2.trans ((Cert.Reference3Ideal.Read.val_main_v74_eq _ _).symm.trans ?_),
    e3.trans ((Cert.Reference3Ideal.Read.val_main_v60_eq _).symm.trans ?_),
    e4.trans ((Cert.Reference3Ideal.Read.val_main_v64_eq _ _).symm.trans ?_), kept⟩
  · funext i
    obtain ⟨b, a, rfl⟩ : ∃ (b : Fin 4096) (a : Fin 2048), i = ix2 b a := ⟨i 0, i 1, eq_ix2 i⟩
    rw [a0, a2, a5, a8]
    exact Cert.Reference3Ideal.ModNormGrad.grad_eq _ _ _ _ hx hd hs b a
  · funext i
    obtain ⟨a, rfl⟩ : ∃ a : Fin 2048, i = ix1 a := ⟨i 0, eq_ix1 i⟩
    rw [a2]
    exact Cert.Reference3Ideal.ModNormGrad.latent_shift _ a
  · funext i
    obtain ⟨a, rfl⟩ : ∃ a : Fin 2048, i = ix1 a := ⟨i 0, eq_ix1 i⟩
    rw [a0, a2]
    exact Cert.Reference3Ideal.ModNormGrad.latent_scale _ _ a
  · funext i
    obtain ⟨a, rfl⟩ : ∃ a : Fin 2048, i = ix1 a := ⟨i 0, eq_ix1 i⟩
    rw [a3]
    exact Cert.Reference3Ideal.ModNormGrad.context_shift _ a
  · funext i
    obtain ⟨a, rfl⟩ : ∃ a : Fin 2048, i = ix1 a := ⟨i 0, eq_ix1 i⟩
    rw [a1, a3]
    exact Cert.Reference3Ideal.ModNormGrad.context_scale _ _ a

end
-- ==== Proof.ModProduct.lean ====
/-
  The modulation's product: SiLU of nine rows (the eight devices' and the context's) and its product with a device's columns of
  `w_mod` (programs `Kernel10Ideal` and `Reference10Ideal`).

  The grid is 3 blocks of 512 columns; at each point the block of the product is stored, and the whole of the activated rows is
  stored again. The rows are stacked with seven rows of zeros to sixteen; the host cuts the nine rows out of both results.
-/
module

public import proofs.«01_k».proof.Proof.Gen.Kernel10Ideal.Frame
public import proofs.«01_k».proof.Proof.Gen.Reference10Ideal.Read
public import proofs.«01_k».proof.Defs
public import Idealize.ShloMosaic.Lib.Pipeline.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel10Ideal.ModProduct

open Cert.Kernel10Ideal Cert.Kernel10Ideal.Gen

theorem off0 : (![0, 0] : Fin 2 → Nat) = fun _ => 0 := funext fun a => by fin_cases a <;> rfl

/-- SiLU of one entry. -/
def act (x : EReal) : EReal := FloatOps.mulf (F := Ideal) (φ := .f32) x (FloatOps.logistic (F := Ideal) (φ := .f32) x)

theorem stored_product (x0 : Vec Ideal S16x2048 .f32) (x1 : Vec Ideal S2048x512 .f32) : out0_2 x0 x1 = k0_pay2 x0 x1 := by
  unfold out0_2
  rw [View.canon_unit_zero (S := S16x512) off0]
  simp only [View.ld_unit_zero (S := S16x2048) off0, View.ld_unit_zero (S := S2048x512) off0]

theorem stored_rows (x0 : Vec Ideal S16x2048 .f32) (x1 : Vec Ideal S2048x512 .f32) : out0_3 x0 x1 = k0_pay1 x0 := by
  unfold out0_3
  rw [View.canon_unit_zero (S := S16x2048) off0]
  simp only [View.ld_unit_zero (S := S16x2048) off0]

theorem pay1_apply (x : Vec Ideal S16x2048 .f32) (r : Fin 16) (l : Fin 2048) : k0_pay1 x (ix2 r l) = act (x (ix2 r l)) := by
  pointwise [k0_pay1, act]

theorem pay2_apply (x : Vec Ideal S16x2048 .f32) (y : Vec Ideal S2048x512 .f32) (r : Fin 16) (l : Fin 512) :
    k0_pay2 x y (ix2 r l) = ∑ k : Fin 2048, act (x (ix2 r k)) * y (ix2 k l) := by
  pointwise [k0_pay2]
  exact Finset.sum_congr rfl fun k _ => congrArg (· * _) (pay1_apply x r k)

theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem index3 : ∀ t : Fin grid0.N, win0_3.index t 0 = 0 ∧ win0_3.index t 1 = 0 := by decide +kernel
theorem flush2 : ∀ t : Fin grid0.N, (cfg0.win 2).flush t = true := by decide +kernel
theorem flush3 : ∀ t : Fin grid0.N, (cfg0.win 3).flush t = true ↔ t.val = 2 := by decide +kernel

theorem points : cfg0.N = 3 := by decide +kernel
theorem point_lt (t : Fin cfg0.N) : t.val < 3 := lt_of_lt_of_eq t.isLt points

variable (m : (ℓ : Loc nD τ sig) → Buf (Elt Ideal) ℓ) (ρ : Dev nD → PrngReg)

/-- The three arguments as the program's start finds them. -/
def argC (c : Dev nD) : FVec Ideal S8x2048 .f32 := m ((c.tc : Thread nD τ).loc main_arg0)
def argCc (c : Dev nD) : FVec Ideal S2048 .f32 := m ((c.tc : Thread nD τ).loc main_arg1)
def argW (c : Dev nD) : FVec Ideal S2048x1536 .f32 := m ((c.tc : Thread nD τ).loc main_arg2)

/-- The operands as the region finds them: the sixteen rows and the weight. -/
def rows (c : Dev nD) : FVec Ideal S16x2048 .f32 := V m c main_v2
def weight (c : Dev nD) : FVec Ideal S2048x1536 .f32 := V m c main_arg2

theorem weight_eq (c : Dev nD) : weight m c = argW m c := V_main_arg2 m c

theorem rows_eq (c : Dev nD) : rows m c = concatenate S16x2048 0 [⟨S8x2048, argC m c⟩,
    ⟨S1x2048, broadcastInDim S1x2048 ![1] bcast_S2048_S1x2048_1 (argCc m c)⟩,
    ⟨S7x2048, broadcastInDim S7x2048 ![] bcast_S_S7x2048 (constant (F := Ideal) S_ .f32 0x00000000#32)⟩]
    concatenates_S8x2048_S1x2048_S7x2048_S16x2048_d0 := by
  show StableHlo.after (List.flatten [hostOps0]) _ (Proc.devRef .tc main_v2) = _
  simp only [hostOps0, List.flatten_cons, List.flatten_nil, List.append_nil, List.cons_append, List.nil_append]
  after_results_simp
  rfl

theorem rows_device (c : Dev nD) (r : Fin 8) (l : Fin 2048) : rows m c (ix2 ⟨r.val, by omega⟩ l) = argC m c (ix2 r l) := by
  rw [rows_eq]
  pointwise

theorem rows_context (c : Dev nD) (l : Fin 2048) : rows m c (ix2 8 l) = argCc m c (ix1 l) := by
  rw [rows_eq]
  pointwise

/-- The blocks the windows hand over at point `t`. -/
def rowsBlock (c : Dev nD) (t : Fin cfg0.N) : Vec Ideal S16x2048 .f32 := iblk m c 0 t
def weightBlock (c : Dev nD) (t : Fin cfg0.N) : Vec Ideal S2048x512 .f32 := iblk m c 1 t

theorem rowsBlock_apply (c : Dev nD) (t : Fin cfg0.N) (r : Fin 16) (l : Fin 2048) :
    rowsBlock m c t (ix2 r l) = rows m c (ix2 r l) := by
  unfold rowsBlock iblk
  rw [View.read_apply]
  show V m c main_v2 _ = V m c main_v2 _
  congr 1
  funext a
  apply Fin.ext
  match a with
  | ⟨0, _⟩ => show win0_0.index t 0 * 16 + 1 * r.val = r.val; rw [(index0 t).1]; omega
  | ⟨1, _⟩ => show win0_0.index t 1 * 2048 + 1 * l.val = l.val; rw [(index0 t).2]; omega

theorem weightBlock_apply (c : Dev nD) (t : Fin cfg0.N) (r : Fin 2048) (l : Fin 512) :
    weightBlock m c t (ix2 r l) = weight m c (ix2 r ⟨t.val * 512 + l.val, by have := point_lt t; omega⟩) := by
  unfold weightBlock iblk
  rw [View.read_apply]
  show V m c main_arg2 _ = V m c main_arg2 _
  congr 1
  funext a
  apply Fin.ext
  match a with
  | ⟨0, _⟩ => show win0_1.index t 0 * 2048 + 1 * r.val = r.val; rw [(index1 t).1]; omega
  | ⟨1, _⟩ => show win0_1.index t 1 * 512 + 1 * l.val = t.val * 512 + l.val; rw [(index1 t).2]; omega

/-! ## The product -/

/-- The sixteen rows of the product. -/
def product (c : Dev nD) : FVec Ideal S16x1536 .f32 :=
  fun i => ∑ k : Fin 2048, act (rows m c (ix2 (i 0) k)) * weight m c (ix2 k (i 1))

theorem flushed_product (c : Dev nD) (t : Fin cfg0.N) (hf : (cfg0.win 2).flush t = true) :
    (dats m 0 c).flushed 2 t = ((cfg0.win 2).blk t).view.read (Elt Ideal) (product m c) := by
  show (cfg0.win 2).cut (grid0.coords t) ((dats m 0 c).after 2 t) = _
  rw [after0_2, stored_product]
  show k0_pay2 (rowsBlock m c t) (weightBlock m c t) = (_ : S16x512.Idx → EReal)
  funext x
  obtain ⟨i, j, rfl⟩ : ∃ (i : Fin 16) (j : Fin 512), x = ix2 i j := ⟨x 0, x 1, eq_ix2 x⟩
  have ht := point_lt t
  have e : k0_pay2 (rowsBlock m c t) (weightBlock m c t) (ix2 i j) = product m c (ix2 i ⟨t.val * 512 + j.val, by omega⟩) := by
    rw [pay2_apply]
    exact Finset.sum_congr rfl fun k _ =>
      congrArg₂ (· * ·) (congrArg act (rowsBlock_apply m c t i k)) (weightBlock_apply m c t k j)
  rw [e, View.read_apply]
  show product m c _ = product m c _
  congr 1
  funext a
  apply Fin.ext
  match a with
  | ⟨0, _⟩ => show i.val = win0_2.index t 0 * 16 + 1 * i.val; rw [(index2 t).1]; omega
  | ⟨1, _⟩ => show t.val * 512 + j.val = win0_2.index t 1 * 512 + 1 * j.val; rw [(index2 t).2]; omega

theorem final_product (c : Dev nD) : (dats m 0 c).arrAt 2 cfg0.N = product m c :=
  (dats m 0 c).arrAt_eq_of_cover 2 (product m c) (flushed_product m c) fun i => by
    have h0 : (i 0 : Nat) < 16 := (i 0).isLt
    have h1 : (i 1 : Nat) < 1536 := (i 1).isLt
    let t : Fin cfg0.N := ⟨(i 1 : Nat) / 512, by rw [points]; omega⟩
    have ht : t.val = (i 1 : Nat) / 512 := rfl
    refine ⟨t, flush2 t, ?_⟩
    show i ∈ ((View.whole main_v3_0).slice (win0_2.rect t)).set
    rw [View.set_slice_whole, Rect.mem_set_unit]
    intro a
    match a with
    | ⟨0, _⟩ =>
      show win0_2.index t 0 * 16 ≤ (i 0 : Nat) ∧ (i 0 : Nat) < win0_2.index t 0 * 16 + 16
      rw [(index2 t).1]; omega
    | ⟨1, _⟩ =>
      show win0_2.index t 1 * 512 ≤ (i 1 : Nat) ∧ (i 1 : Nat) < win0_2.index t 1 * 512 + 512
      rw [(index2 t).2]; omega

/-! ## The activated rows -/

def active (c : Dev nD) : FVec Ideal S16x2048 .f32 := fun i => act (rows m c (ix2 (i 0) (i 1)))

theorem flushed_active (c : Dev nD) (t : Fin cfg0.N) (hf : (cfg0.win 3).flush t = true) :
    (dats m 0 c).flushed 3 t = ((cfg0.win 3).blk t).view.read (Elt Ideal) (active m c) := by
  show (cfg0.win 3).cut (grid0.coords t) ((dats m 0 c).after 3 t) = _
  rw [after0_3, stored_rows]
  show k0_pay1 (rowsBlock m c t) = (_ : S16x2048.Idx → EReal)
  funext x
  obtain ⟨i, j, rfl⟩ : ∃ (i : Fin 16) (j : Fin 2048), x = ix2 i j := ⟨x 0, x 1, eq_ix2 x⟩
  have e : k0_pay1 (rowsBlock m c t) (ix2 i j) = active m c (ix2 i j) := by
    rw [pay1_apply]
    exact congrArg act (rowsBlock_apply m c t i j)
  rw [e, View.read_apply]
  show active m c _ = active m c _
  congr 1
  funext a
  apply Fin.ext
  match a with
  | ⟨0, _⟩ => show i.val = win0_3.index t 0 * 16 + 1 * i.val; rw [(index3 t).1]; omega
  | ⟨1, _⟩ => show j.val = win0_3.index t 1 * 2048 + 1 * j.val; rw [(index3 t).2]; omega

theorem final_active (c : Dev nD) : (dats m 0 c).arrAt 3 cfg0.N = active m c :=
  (dats m 0 c).arrAt_eq_of_cover 3 (active m c) (flushed_active m c) fun i => by
    have h0 : (i 0 : Nat) < 16 := (i 0).isLt
    have h1 : (i 1 : Nat) < 2048 := (i 1).isLt
    let t : Fin cfg0.N := ⟨2, by rw [points]; omega⟩
    refine ⟨t, (flush3 t).mpr rfl, ?_⟩
    show i ∈ ((View.whole main_v3_1).slice (win0_3.rect t)).set
    rw [View.set_slice_whole, Rect.mem_set_unit]
    intro a
    match a with
    | ⟨0, _⟩ =>
      show win0_3.index t 0 * 16 ≤ (i 0 : Nat) ∧ (i 0 : Nat) < win0_3.index t 0 * 16 + 16
      rw [(index3 t).1]; omega
    | ⟨1, _⟩ =>
      show win0_3.index t 1 * 2048 ≤ (i 1 : Nat) ∧ (i 1 : Nat) < win0_3.index t 1 * 2048 + 2048
      rw [(index3 t).2]; omega

/-! ## The host's cuts -/

def productDevices (c : Dev nD) : FVec Ideal S8x1536 .f32 :=
  extractStridedSlice S8x1536 ![0, 0] (product m c) slices_S16x1536_S8x1536_0_0
def productContext (c : Dev nD) : FVec Ideal S1536 .f32 :=
  shapeCast S1536 (extractStridedSlice S1x1536 ![8, 0] (product m c) slices_S16x1536_S1x1536_8_0) shapeCasts_S1x1536_S1536
def activeDevices (c : Dev nD) : FVec Ideal S8x2048 .f32 :=
  extractStridedSlice S8x2048 ![0, 0] (active m c) slices_S16x2048_S8x2048_0_0
def activeContext (c : Dev nD) : FVec Ideal S2048 .f32 :=
  shapeCast S2048 (extractStridedSlice S1x2048 ![8, 0] (active m c) slices_S16x2048_S1x2048_8_0) shapeCasts_S1x2048_S2048

theorem productDevices_apply (c : Dev nD) (r : Fin 8) (l : Fin 1536) :
    productDevices m c (ix2 r l) = ∑ k : Fin 2048, act (argC m c (ix2 r k)) * argW m c (ix2 k l) := by
  have e : productDevices m c (ix2 r l) = product m c (ix2 ⟨r.val, by omega⟩ l) := by
    unfold productDevices
    pointwise
  rw [e]
  exact Finset.sum_congr rfl fun k _ =>
    congrArg₂ (· * ·) (congrArg act (rows_device m c r k)) (congrFun (weight_eq m c) _)

theorem productContext_apply (c : Dev nD) (l : Fin 1536) :
    productContext m c (ix1 l) = ∑ k : Fin 2048, act (argCc m c (ix1 k)) * argW m c (ix2 k l) := by
  have e : productContext m c (ix1 l) = product m c (ix2 8 l) := by
    unfold productContext
    pointwise
  rw [e]
  exact Finset.sum_congr rfl fun k _ =>
    congrArg₂ (· * ·) (congrArg act (rows_context m c k)) (congrFun (weight_eq m c) _)

theorem activeDevices_apply (c : Dev nD) (r : Fin 8) (l : Fin 2048) :
    activeDevices m c (ix2 r l) = act (argC m c (ix2 r l)) := by
  have e : activeDevices m c (ix2 r l) = active m c (ix2 ⟨r.val, by omega⟩ l) := by
    unfold activeDevices
    pointwise
  rw [e]
  exact congrArg act (rows_device m c r l)

theorem activeContext_apply (c : Dev nD) (l : Fin 2048) : activeContext m c (ix1 l) = act (argCc m c (ix1 l)) := by
  have e : activeContext m c (ix1 l) = active m c (ix2 8 l) := by
    unfold activeContext
    pointwise
  rw [e]
  exact congrArg act (rows_context m c l)

theorem after_v4 (c : Dev nD) :
    Pipeline.afterTail₀ cfgs (dats m) 0 (V0 m) [hostOps1] c main_v4 = productDevices m c := by
  unfold Pipeline.afterTail₀
  simp only [hostOps1, List.flatten_cons, List.flatten_nil, List.append_nil, List.cons_append, List.nil_append]
  after_results_simp
  erw [Pipeline.withArrays_arr spec0 (by decide) c _ _ 2]
  exact congrArg (fun z => extractStridedSlice S8x1536 ![0, 0] z slices_S16x1536_S8x1536_0_0) (final_product m c)

theorem after_v6 (c : Dev nD) :
    Pipeline.afterTail₀ cfgs (dats m) 0 (V0 m) [hostOps1] c main_v6 = productContext m c := by
  unfold Pipeline.afterTail₀
  simp only [hostOps1, List.flatten_cons, List.flatten_nil, List.append_nil, List.cons_append, List.nil_append]
  after_results_simp
  erw [Pipeline.withArrays_arr spec0 (by decide) c _ _ 2]
  exact congrArg (fun z => shapeCast S1536 (extractStridedSlice S1x1536 ![8, 0] z slices_S16x1536_S1x1536_8_0)
    shapeCasts_S1x1536_S1536) (final_product m c)

theorem after_v7 (c : Dev nD) :
    Pipeline.afterTail₀ cfgs (dats m) 0 (V0 m) [hostOps1] c main_v7 = activeDevices m c := by
  unfold Pipeline.afterTail₀
  simp only [hostOps1, List.flatten_cons, List.flatten_nil, List.append_nil, List.cons_append, List.nil_append]
  after_results_simp
  erw [Pipeline.withArrays_arr spec0 (by decide) c _ _ 3]
  exact congrArg (fun z => extractStridedSlice S8x2048 ![0, 0] z slices_S16x2048_S8x2048_0_0) (final_active m c)

theorem after_v9 (c : Dev nD) :
    Pipeline.afterTail₀ cfgs (dats m) 0 (V0 m) [hostOps1] c main_v9 = activeContext m c := by
  unfold Pipeline.afterTail₀
  simp only [hostOps1, List.flatten_cons, List.flatten_nil, List.append_nil, List.cons_append, List.nil_append]
  after_results_simp
  erw [Pipeline.withArrays_arr spec0 (by decide) c _ _ 3]
  exact congrArg (fun z => shapeCast S2048 (extractStridedSlice S1x2048 ![8, 0] z slices_S16x2048_S1x2048_8_0)
    shapeCasts_S1x2048_S2048) (final_active m c)

/-- The kernel's run: the four results, the arguments unchanged. -/
theorem run : θ_run defs (onTc (τ := τ) (main (F := Ideal))) ⟨m, fun _ => 0, ρ⟩ fun r => ∀ c : Dev nD,
      r.2.mem ((c.tc : Thread nD τ).loc main_v4) = productDevices m c
      ∧ r.2.mem ((c.tc : Thread nD τ).loc main_v6) = productContext m c
      ∧ r.2.mem ((c.tc : Thread nD τ).loc main_v7) = activeDevices m c
      ∧ r.2.mem ((c.tc : Thread nD τ).loc main_v9) = activeContext m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h.1 c).2 main_v4 (Pipeline.mem_restRefs_of main_v4 (by decide) (by decide))).trans (after_v4 m c),
        ((h.1 c).2 main_v6 (Pipeline.mem_restRefs_of main_v6 (by decide) (by decide))).trans (after_v6 m c),
        ((h.1 c).2 main_v7 (Pipeline.mem_restRefs_of main_v7 (by decide) (by decide))).trans (after_v7 m c),
        ((h.1 c).2 main_v9 (Pipeline.mem_restRefs_of main_v9 (by decide) (by decide))).trans (after_v9 m c), h.2 c⟩)
    (θ_run_and (run_main m ρ) (unchanged m ρ))

/-! ## The reference's terms -/

theorem reference_active (x0 : FVec Ideal S8x2048 .f32) (r : Fin 8) (l : Fin 2048) :
    Cert.Reference10Ideal.Read.val_main_v0 (F := Ideal) x0 (ix2 r l) = act (x0 (ix2 r l)) := by
  pointwise [Cert.Reference10Ideal.Read.val_main_v0, Cert.Reference10Ideal.Read.val_main_call0_v5,
    Cert.Reference10Ideal.Read.val_main_call0_v4, Cert.Reference10Ideal.Read.val_main_call0_v3,
    Cert.Reference10Ideal.Read.val_main_call0_v2, Cert.Reference10Ideal.Read.val_main_call0_v1,
    Cert.Reference10Ideal.Read.val_main_call0_v0, Cert.Reference10Ideal.Read.val_main_call0_cst,
    Cert.Reference10Ideal.Read.val_main_call0_cst_0, act]
  rfl

theorem reference_active_context (x1 : FVec Ideal S2048 .f32) (l : Fin 2048) :
    Cert.Reference10Ideal.Read.val_main_v1 (F := Ideal) x1 (ix1 l) = act (x1 (ix1 l)) := by
  pointwise [Cert.Reference10Ideal.Read.val_main_v1, Cert.Reference10Ideal.Read.val_main_call1_v5,
    Cert.Reference10Ideal.Read.val_main_call1_v4, Cert.Reference10Ideal.Read.val_main_call1_v3,
    Cert.Reference10Ideal.Read.val_main_call1_v2, Cert.Reference10Ideal.Read.val_main_call1_v1,
    Cert.Reference10Ideal.Read.val_main_call1_v0, Cert.Reference10Ideal.Read.val_main_call1_cst,
    Cert.Reference10Ideal.Read.val_main_call1_cst_0, act]
  rfl

theorem reference_product (x0 : FVec Ideal S8x2048 .f32) (x2 : FVec Ideal S2048x1536 .f32) (r : Fin 8) (l : Fin 1536) :
    Cert.Reference10Ideal.Read.val_main_v2 (F := Ideal) x0 x2 (ix2 r l)
      = ∑ k : Fin 2048, act (x0 (ix2 r k)) * x2 (ix2 k l) := by
  pointwise [Cert.Reference10Ideal.Read.val_main_v2]
  exact Finset.sum_congr rfl fun k _ => congrArg (· * _) (reference_active x0 r k)

theorem reference_product_context (x1 : FVec Ideal S2048 .f32) (x2 : FVec Ideal S2048x1536 .f32) (l : Fin 1536) :
    Cert.Reference10Ideal.Read.val_main_v3 (F := Ideal) x1 x2 (ix1 l)
      = ∑ k : Fin 2048, act (x1 (ix1 k)) * x2 (ix2 k l) := by
  pointwise [Cert.Reference10Ideal.Read.val_main_v3]
  exact Finset.sum_congr rfl fun k _ => congrArg (· * _) (reference_active_context x1 k)

end Cert.Kernel10Ideal.ModProduct

/-- The claim: over the extended reals the kernel's four results are the reference's. -/
theorem Cert.ModProduct.algebraic : Cert.algebraic_Kernel10Ideal_Reference10Ideal := by
  intro m g m' g' _ hargs
  refine ⟨fun c => Cert.Kernel10Ideal.ModProduct.productDevices m c, fun c => Cert.Kernel10Ideal.ModProduct.productContext m c,
    fun c => Cert.Kernel10Ideal.ModProduct.activeDevices m c, fun c => Cert.Kernel10Ideal.ModProduct.activeContext m c,
    Cert.Kernel10Ideal.ModProduct.run m g, ?_⟩
  refine (θ_run _ _ _).mono (fun r h c => ?_) (Cert.Reference10Ideal.Value.run (F := Ideal) m' g')
  obtain ⟨e2, e3, e0, e1, kept⟩ := h c
  obtain ⟨a0, a1, a2⟩ := hargs c
  refine ⟨e2.trans ((Cert.Reference10Ideal.Read.val_main_v2_eq _ _).symm.trans ?_),
    e3.trans ((Cert.Reference10Ideal.Read.val_main_v3_eq _ _).symm.trans ?_),
    e0.trans ((Cert.Reference10Ideal.Read.val_main_v0_eq _).symm.trans ?_),
    e1.trans ((Cert.Reference10Ideal.Read.val_main_v1_eq _).symm.trans ?_), kept⟩
  · funext i
    obtain ⟨b, a, rfl⟩ : ∃ (b : Fin 8) (a : Fin 1536), i = ix2 b a := ⟨i 0, i 1, eq_ix2 i⟩
    rw [a0, a2]
    exact (Cert.Kernel10Ideal.ModProduct.reference_product _ _ b a).trans
      (Cert.Kernel10Ideal.ModProduct.productDevices_apply m c b a).symm
  · funext i
    obtain ⟨a, rfl⟩ : ∃ a : Fin 1536, i = ix1 a := ⟨i 0, eq_ix1 i⟩
    rw [a1, a2]
    exact (Cert.Kernel10Ideal.ModProduct.reference_product_context _ _ a).trans
      (Cert.Kernel10Ideal.ModProduct.productContext_apply m c a).symm
  · funext i
    obtain ⟨b, a, rfl⟩ : ∃ (b : Fin 8) (a : Fin 2048), i = ix2 b a := ⟨i 0, i 1, eq_ix2 i⟩
    rw [a0]
    exact (Cert.Kernel10Ideal.ModProduct.reference_active _ b a).trans
      (Cert.Kernel10Ideal.ModProduct.activeDevices_apply m c b a).symm
  · funext i
    obtain ⟨a, rfl⟩ : ∃ a : Fin 2048, i = ix1 a := ⟨i 0, eq_ix1 i⟩
    rw [a1]
    exact (Cert.Kernel10Ideal.ModProduct.reference_active_context _ a).trans
      (Cert.Kernel10Ideal.ModProduct.activeContext_apply m c a).symm

end
-- ==== Proof.ModGrad.lean ====
/-
  The backward of the modulation's product: the gradient of a device's columns of `w_mod`, and the gradient with respect to the
  context's row of the left factor (programs `Kernel11Ideal` and `Reference11Ideal`).

  The left factor has 16 rows: the eight devices' rows, the context's row, seven rows of zeros. The grid is 3 blocks of 512
  columns. At each point the block of the weight's gradient is stored whole; the rows' gradient is set to zero at the first point
  and added to at each of the three.
-/
module

public import proofs.«01_k».proof.Proof.Gen.Kernel11Ideal.Frame
public import proofs.«01_k».proof.Proof.Gen.Reference11Ideal.Read
public import proofs.«01_k».proof.Proof.BlockedSum
public import proofs.«01_k».proof.Defs
public import Idealize.ShloMosaic.Lib.Pipeline.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel11Ideal.ModGrad

open Cert.Kernel11Ideal Cert.Kernel11Ideal.Gen

section Body

variable {F : FTy → Type} [FloatOps F]

theorem off0 : (![0, 0] : Fin 2 → Nat) = fun _ => 0 := funext fun a => by fin_cases a <;> rfl

theorem first_weight (c : Dev nD) (i : grid0.Coords) (a1 : Memref sig .tc .vmem S16x2048 .f32) (h1 : a1.IsWhole)
    (a2 : Memref sig .tc .vmem S16x512 .f32) (h2 : a2.IsWhole) (a3 : Memref sig .tc .vmem S2048x512 .f32) (h3 : a3.IsWhole)
    (a4 : Memref sig .tc .vmem S2048x512 .f32) (h4 : a4.IsWhole) (a5 : Memref sig .tc .vmem S16x2048 .f32) (h5 : a5.IsWhole)
    (hc0 : cond0_0 i) (x0 : Vec F S16x2048 .f32) (x1 : Vec F S16x512 .f32) (x2 : Vec F S2048x512 .f32) :
    out0_A_3 c i a1 h1 a2 h2 a3 h3 a4 h4 a5 h5 hc0 x0 x1 x2 = k0_pay2 x0 x1 := by
  unfold out0_A_3
  rw [View.read_writes_eq_canon _ _ _ (cover0_A_3 c i a1 h1 a2 h2 a3 h3 a4 h4 a5 h5 hc0 x0 x1 x2)]
  unfold kernelRun0_A
  dsimp only
  sl_unfold_words
  rw [View.canon_unit_zero (S := S2048x512) off0]
  simp only [View.readAt_eq_ld, h1.read_unread, h2.read_unread, View.ld_unit_zero (S := S16x2048) off0,
    View.ld_unit_zero (S := S16x512) off0]

theorem first_rows (c : Dev nD) (i : grid0.Coords) (a1 : Memref sig .tc .vmem S16x2048 .f32) (h1 : a1.IsWhole)
    (a2 : Memref sig .tc .vmem S16x512 .f32) (h2 : a2.IsWhole) (a3 : Memref sig .tc .vmem S2048x512 .f32) (h3 : a3.IsWhole)
    (a4 : Memref sig .tc .vmem S2048x512 .f32) (h4 : a4.IsWhole) (a5 : Memref sig .tc .vmem S16x2048 .f32) (h5 : a5.IsWhole)
    (hc0 : cond0_0 i) (x0 : Vec F S16x2048 .f32) (x1 : Vec F S16x512 .f32) (x2 : Vec F S2048x512 .f32) :
    out0_A_4 c i a1 h1 a2 h2 a3 h3 a4 h4 a5 h5 hc0 x0 x1 x2 = k0_pay3 (k0_pay1 (F := F)) x1 x2 := by
  unfold out0_A_4
  rw [View.read_writes_eq_canon _ _ _ (cover0_A_4 c i a1 h1 a2 h2 a3 h3 a4 h4 a5 h5 hc0 x0 x1 x2)]
  unfold kernelRun0_A
  dsimp only
  sl_unfold_words
  rw [View.canon_cons_unit_zero (S := S16x2048) off0, View.readCov_unit_zero (S := S16x2048) _ off0]
  simp only [View.readAt_eq_ld, h2.read_unread, h3.read_unread, View.ld_unit_zero (S := S16x512) off0,
    View.ld_unit_zero (S := S2048x512) off0]

theorem later_weight (c : Dev nD) (i : grid0.Coords) (a1 : Memref sig .tc .vmem S16x2048 .f32) (h1 : a1.IsWhole)
    (a2 : Memref sig .tc .vmem S16x512 .f32) (h2 : a2.IsWhole) (a3 : Memref sig .tc .vmem S2048x512 .f32) (h3 : a3.IsWhole)
    (a4 : Memref sig .tc .vmem S2048x512 .f32) (h4 : a4.IsWhole) (a5 : Memref sig .tc .vmem S16x2048 .f32) (h5 : a5.IsWhole)
    (hc0 : ¬cond0_0 i) (x0 : Vec F S16x2048 .f32) (x1 : Vec F S16x512 .f32) (x2 : Vec F S2048x512 .f32)
    (xo : Vec F S16x2048 .f32) :
    out0_B_3 c i a1 h1 a2 h2 a3 h3 a4 h4 a5 h5 hc0 x0 x1 x2 xo = k0_pay2 x0 x1 := by
  unfold out0_B_3
  rw [View.read_writes_eq_canon _ _ _ (cover0_B_3 c i a1 h1 a2 h2 a3 h3 a4 h4 a5 h5 hc0 x0 x1 x2 xo)]
  unfold kernelRun0_B
  dsimp only
  sl_unfold_words
  rw [View.canon_unit_zero (S := S2048x512) off0]
  simp only [View.readAt_eq_ld, h1.read_unread, h2.read_unread, View.ld_unit_zero (S := S16x2048) off0,
    View.ld_unit_zero (S := S16x512) off0]

theorem later_rows (c : Dev nD) (i : grid0.Coords) (a1 : Memref sig .tc .vmem S16x2048 .f32) (h1 : a1.IsWhole)
    (a2 : Memref sig .tc .vmem S16x512 .f32) (h2 : a2.IsWhole) (a3 : Memref sig .tc .vmem S2048x512 .f32) (h3 : a3.IsWhole)
    (a4 : Memref sig .tc .vmem S2048x512 .f32) (h4 : a4.IsWhole) (a5 : Memref sig .tc .vmem S16x2048 .f32) (h5 : a5.IsWhole)
    (hc0 : ¬cond0_0 i) (x0 : Vec F S16x2048 .f32) (x1 : Vec F S16x512 .f32) (x2 : Vec F S2048x512 .f32)
    (xo : Vec F S16x2048 .f32) :
    out0_B_4 c i a1 h1 a2 h2 a3 h3 a4 h4 a5 h5 hc0 x0 x1 x2 xo = k0_pay3 xo x1 x2 := by
  unfold out0_B_4
  rw [View.read_writes_eq_canon _ _ _ (cover0_B_4 c i a1 h1 a2 h2 a3 h3 a4 h4 a5 h5 hc0 x0 x1 x2 xo)]
  unfold kernelRun0_B
  dsimp only
  sl_unfold_words
  rw [View.canon_unit_zero (S := S16x2048) off0]
  simp only [View.readAt_eq_ld, h2.read_unread, h3.read_unread, h5.read_unread, View.ld_unit_zero (S := S16x512) off0,
    View.ld_unit_zero (S := S2048x512) off0, View.ld_unit_zero (S := S16x2048) off0]

end Body

theorem pay1_apply (r : Fin 16) (l : Fin 2048) : k0_pay1 (F := Ideal) (ix2 r l) = 0 := by
  pointwise [k0_pay1]

theorem pay2_apply (x : Vec Ideal S16x2048 .f32) (y : Vec Ideal S16x512 .f32) (r : Fin 2048) (l : Fin 512) :
    k0_pay2 x y (ix2 r l) = ∑ k : Fin 16, x (ix2 k r) * y (ix2 k l) := by
  pointwise [k0_pay2]

theorem pay3_apply (v : Vec Ideal S16x2048 .f32) (x : Vec Ideal S16x512 .f32) (y : Vec Ideal S2048x512 .f32)
    (r : Fin 16) (l : Fin 2048) :
    k0_pay3 v x y (ix2 r l) = v (ix2 r l) + ∑ k : Fin 512, x (ix2 r k) * y (ix2 l k) := by
  pointwise [k0_pay3]

theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem index3 : ∀ t : Fin grid0.N, win0_3.index t 0 = 0 ∧ win0_3.index t 1 = t.val := by decide +kernel
theorem index4 : ∀ t : Fin grid0.N, win0_4.index t 0 = 0 ∧ win0_4.index t 1 = 0 := by decide +kernel

theorem point_lt (t : Fin cfg0.N) : t.val < 3 := lt_of_lt_of_eq t.isLt (show cfg0.N = 3 from N_0)

variable (m : (ℓ : Loc nD τ sig) → Buf (Elt Ideal) ℓ) (ρ : Dev nD → PrngReg)

/-- The five arguments as the program's start finds them. -/
def argA (c : Dev nD) : FVec Ideal S8x2048 .f32 := m ((c.tc : Thread nD τ).loc main_arg0)
def argAc (c : Dev nD) : FVec Ideal S2048 .f32 := m ((c.tc : Thread nD τ).loc main_arg1)
def argD (c : Dev nD) : FVec Ideal S8x1536 .f32 := m ((c.tc : Thread nD τ).loc main_arg2)
def argDc (c : Dev nD) : FVec Ideal S1536 .f32 := m ((c.tc : Thread nD τ).loc main_arg3)
def argW (c : Dev nD) : FVec Ideal S2048x1536 .f32 := m ((c.tc : Thread nD τ).loc main_arg4)

/-- The operands as the region finds them: the sixteen rows, their gradients, the weight. -/
def rows (c : Dev nD) : FVec Ideal S16x2048 .f32 := V m c main_v2
def grads (c : Dev nD) : FVec Ideal S16x1536 .f32 := V m c main_v5
def weight (c : Dev nD) : FVec Ideal S2048x1536 .f32 := V m c main_arg4

theorem weight_eq (c : Dev nD) : weight m c = argW m c := V_main_arg4 m c

theorem rows_eq (c : Dev nD) : rows m c = concatenate S16x2048 0 [⟨S8x2048, argA m c⟩,
    ⟨S1x2048, broadcastInDim S1x2048 ![1] bcast_S2048_S1x2048_1 (argAc m c)⟩,
    ⟨S7x2048, broadcastInDim S7x2048 ![] bcast_S_S7x2048 (constant (F := Ideal) S_ .f32 0x00000000#32)⟩]
    concatenates_S8x2048_S1x2048_S7x2048_S16x2048_d0 := by
  show StableHlo.after (List.flatten [hostOps0]) _ (Proc.devRef .tc main_v2) = _
  simp only [hostOps0, List.flatten_cons, List.flatten_nil, List.append_nil, List.cons_append, List.nil_append]
  after_results_simp
  rfl

theorem grads_eq (c : Dev nD) : grads m c = concatenate S16x1536 0 [⟨S8x1536, argD m c⟩,
    ⟨S1x1536, broadcastInDim S1x1536 ![1] bcast_S1536_S1x1536_1 (argDc m c)⟩,
    ⟨S7x1536, broadcastInDim S7x1536 ![] bcast_S_S7x1536 (constant (F := Ideal) S_ .f32 0x00000000#32)⟩]
    concatenates_S8x1536_S1x1536_S7x1536_S16x1536_d0 := by
  show StableHlo.after (List.flatten [hostOps0]) _ (Proc.devRef .tc main_v5) = _
  simp only [hostOps0, List.flatten_cons, List.flatten_nil, List.append_nil, List.cons_append, List.nil_append]
  after_results_simp
  rfl

theorem rows_device (c : Dev nD) (r : Fin 8) (l : Fin 2048) : rows m c (ix2 ⟨r.val, by omega⟩ l) = argA m c (ix2 r l) := by
  rw [rows_eq]
  pointwise

theorem rows_context (c : Dev nD) (l : Fin 2048) : rows m c (ix2 8 l) = argAc m c (ix1 l) := by
  rw [rows_eq]
  pointwise

theorem rows_zero (c : Dev nD) (r : Fin 7) (l : Fin 2048) : rows m c (ix2 ⟨9 + r.val, by omega⟩ l) = 0 := by
  rw [rows_eq]
  pointwise
  rw [dif_neg (by omega), dif_neg (by omega)]

theorem grads_device (c : Dev nD) (r : Fin 8) (l : Fin 1536) : grads m c (ix2 ⟨r.val, by omega⟩ l) = argD m c (ix2 r l) := by
  rw [grads_eq]
  pointwise

theorem grads_context (c : Dev nD) (l : Fin 1536) : grads m c (ix2 8 l) = argDc m c (ix1 l) := by
  rw [grads_eq]
  pointwise

/-- The blocks the windows hand over at point `t`. -/
def rowsBlock (c : Dev nD) (t : Fin cfg0.N) : Vec Ideal S16x2048 .f32 := iblk m c 0 t
def gradsBlock (c : Dev nD) (t : Fin cfg0.N) : Vec Ideal S16x512 .f32 := iblk m c 1 t
def weightBlock (c : Dev nD) (t : Fin cfg0.N) : Vec Ideal S2048x512 .f32 := iblk m c 2 t

theorem rowsBlock_apply (c : Dev nD) (t : Fin cfg0.N) (r : Fin 16) (l : Fin 2048) :
    rowsBlock m c t (ix2 r l) = rows m c (ix2 r l) := by
  unfold rowsBlock iblk
  rw [View.read_apply]
  show V m c main_v2 _ = V m c main_v2 _
  congr 1
  funext a
  apply Fin.ext
  match a with
  | ⟨0, _⟩ => show win0_0.index t 0 * 16 + 1 * r.val = r.val; rw [(index0 t).1]; omega
  | ⟨1, _⟩ => show win0_0.index t 1 * 2048 + 1 * l.val = l.val; rw [(index0 t).2]; omega

theorem gradsBlock_apply (c : Dev nD) (t : Fin cfg0.N) (r : Fin 16) (l : Fin 512) :
    gradsBlock m c t (ix2 r l) = grads m c (ix2 r ⟨t.val * 512 + l.val, by have := point_lt t; omega⟩) := by
  unfold gradsBlock iblk
  rw [View.read_apply]
  show V m c main_v5 _ = V m c main_v5 _
  congr 1
  funext a
  apply Fin.ext
  match a with
  | ⟨0, _⟩ => show win0_1.index t 0 * 16 + 1 * r.val = r.val; rw [(index1 t).1]; omega
  | ⟨1, _⟩ => show win0_1.index t 1 * 512 + 1 * l.val = t.val * 512 + l.val; rw [(index1 t).2]; omega

theorem weightBlock_apply (c : Dev nD) (t : Fin cfg0.N) (r : Fin 2048) (l : Fin 512) :
    weightBlock m c t (ix2 r l) = weight m c (ix2 r ⟨t.val * 512 + l.val, by have := point_lt t; omega⟩) := by
  unfold weightBlock iblk
  rw [View.read_apply]
  show V m c main_arg4 _ = V m c main_arg4 _
  congr 1
  funext a
  apply Fin.ext
  match a with
  | ⟨0, _⟩ => show win0_2.index t 0 * 2048 + 1 * r.val = r.val; rw [(index2 t).1]; omega
  | ⟨1, _⟩ => show win0_2.index t 1 * 512 + 1 * l.val = t.val * 512 + l.val; rw [(index2 t).2]; omega

/-! ## The weight's gradient -/

/-- The sum over the sixteen rows. -/
def weightGrad (c : Dev nD) : FVec Ideal S2048x1536 .f32 :=
  fun i => ∑ k : Fin 16, rows m c (ix2 k (i 0)) * grads m c (ix2 k (i 1))

theorem stored_weight (c : Dev nD) (t : Fin cfg0.N) : (outsAt0 m c t.val t.isLt).1 = k0_pay2 (rowsBlock m c t) (gradsBlock m c t) := by
  by_cases h0 : t.val % 3 = 0
  · rw [outsAt0_A m c t h0]
    dsimp only
    rw [first_weight]
    rfl
  · rw [outsAt0_B m c t h0]
    dsimp only
    rw [later_weight]
    rfl

theorem flushed_weight (c : Dev nD) (t : Fin cfg0.N) (hf : (cfg0.win 3).flush t = true) :
    (dats m 0 c).flushed 3 t = ((cfg0.win 3).blk t).view.read (Elt Ideal) (weightGrad m c) := by
  show (cfg0.win 3).cut (grid0.coords t) ((dats m 0 c).after 3 t) = _
  rw [after0_3]
  show (outsAt0 m c t.val t.isLt).1 = (_ : S2048x512.Idx → EReal)
  rw [stored_weight]
  funext x
  obtain ⟨i, j, rfl⟩ : ∃ (i : Fin 2048) (j : Fin 512), x = ix2 i j := ⟨x 0, x 1, eq_ix2 x⟩
  have ht := point_lt t
  have e : k0_pay2 (rowsBlock m c t) (gradsBlock m c t) (ix2 i j)
      = weightGrad m c (ix2 i ⟨t.val * 512 + j.val, by omega⟩) := by
    rw [pay2_apply]
    exact Finset.sum_congr rfl fun k _ => congrArg₂ (· * ·) (rowsBlock_apply m c t k i) (gradsBlock_apply m c t k j)
  rw [e, View.read_apply]
  show weightGrad m c _ = weightGrad m c _
  congr 1
  funext a
  apply Fin.ext
  match a with
  | ⟨0, _⟩ => show i.val = win0_3.index t 0 * 2048 + 1 * i.val; rw [(index3 t).1]; omega
  | ⟨1, _⟩ => show t.val * 512 + j.val = win0_3.index t 1 * 512 + 1 * j.val; rw [(index3 t).2]; omega

theorem final_weight (c : Dev nD) : (dats m 0 c).arrAt 3 cfg0.N = weightGrad m c :=
  (dats m 0 c).arrAt_eq_of_cover 3 (weightGrad m c) (flushed_weight m c) fun i => by
    have h0 : (i 0 : Nat) < 2048 := (i 0).isLt
    have h1 : (i 1 : Nat) < 1536 := (i 1).isLt
    let t : Fin cfg0.N := ⟨(i 1 : Nat) / 512, by rw [show cfg0.N = 3 from N_0]; omega⟩
    have ht : t.val = (i 1 : Nat) / 512 := rfl
    refine ⟨t, flush0_3 t, ?_⟩
    show i ∈ ((View.whole main_v6_0).slice (win0_3.rect t)).set
    rw [View.set_slice_whole, Rect.mem_set_unit]
    intro a
    match a with
    | ⟨0, _⟩ =>
      show win0_3.index t 0 * 2048 ≤ (i 0 : Nat) ∧ (i 0 : Nat) < win0_3.index t 0 * 2048 + 2048
      rw [(index3 t).1]; omega
    | ⟨1, _⟩ =>
      show win0_3.index t 1 * 512 ≤ (i 1 : Nat) ∧ (i 1 : Nat) < win0_3.index t 1 * 512 + 512
      rw [(index3 t).2]; omega

/-- A sum of sixteen terms of which the last seven are zero: the first eight and the ninth. -/
theorem nine_terms (f : Fin 16 → EReal) (d : Fin 8 → EReal) (x : EReal) (hd : ∀ k : Fin 8, f ⟨k.val, by omega⟩ = d k)
    (h8 : f 8 = x) (hz : ∀ k : Fin 7, f ⟨9 + k.val, by omega⟩ = 0) : ∑ k, f k = (∑ k, d k) + x := by
  refine (Fin.sum_univ_add (a := 8) (b := 8) f).trans ?_
  rw [Fin.sum_univ_succ (fun k : Fin 8 => f (Fin.natAdd 8 k))]
  have z : ∀ k : Fin 7, f (Fin.natAdd 8 k.succ) = 0 := fun k => by
    rw [← hz k]
    refine congrArg f (Fin.ext ?_)
    show 8 + (k.val + 1) = 9 + k.val
    omega
  rw [Finset.sum_eq_zero fun k _ => z k, add_zero]
  exact congrArg₂ (· + ·) (Finset.sum_congr rfl fun k _ => hd k) h8

/-- The seven rows of zeros add nothing. -/
theorem weightGrad_apply (c : Dev nD) (r : Fin 2048) (l : Fin 1536) :
    weightGrad m c (ix2 r l) = (∑ k : Fin 8, argA m c (ix2 k r) * argD m c (ix2 k l)) + argAc m c (ix1 r) * argDc m c (ix1 l) :=
  nine_terms (fun k => rows m c (ix2 k r) * grads m c (ix2 k l)) _ _
    (fun k => congrArg₂ (· * ·) (rows_device m c k r) (grads_device m c k l))
    (congrArg₂ (· * ·) (rows_context m c r) (grads_context m c l))
    (fun k => (congrArg (· * _) (rows_zero m c k r)).trans (zero_mul _))

/-! ## The gradient with respect to the rows -/

/-- The term of summed column `k` in the entry at row `a`, column `b`; zero outside the arrays. -/
def term (c : Dev nD) (a : Fin 16) (b : Fin 2048) (k : ℕ) : EReal :=
  if hk : k < 1536 then grads m c (ix2 a ⟨k, hk⟩) * weight m c (ix2 b ⟨k, hk⟩) else 0

theorem block_sum (c : Dev nD) (t : Fin cfg0.N) (i : Fin 16) (j : Fin 2048) :
    ∑ k : Fin 512, gradsBlock m c t (ix2 i k) * weightBlock m c t (ix2 j k)
      = ∑ k : Fin 512, term m c i j (t.val * 512 + k.val) := by
  have ht := point_lt t
  refine Finset.sum_congr rfl fun k _ => ?_
  rw [term, dif_pos (by omega)]
  exact congrArg₂ (· * ·) (gradsBlock_apply m c t i k) (weightBlock_apply m c t j k)

/-- After point `n` the block holds the sum over the columns up to the end of that point's block. -/
theorem accumulated (c : Dev nD) : ∀ (n : ℕ) (hn : n < cfg0.N) (i : Fin 16) (j : Fin 2048),
    (outsAt0 m c n hn).2 (ix2 i j) = ∑ k ∈ Finset.range ((n + 1) * 512), term m c i j k
  | 0, hn, i, j => by
    rw [outsAt0_A m c ⟨0, hn⟩ rfl]
    dsimp only
    rw [first_rows, pay3_apply, pay1_apply, zero_add]
    erw [block_sum m c]
    exact BlockedSum.first_block _ 512
  | n + 1, hn, i, j => by
    have hN : n + 1 < 3 := point_lt ⟨n + 1, hn⟩
    have h0 : ¬(n + 1) % 3 = 0 := by omega
    have ih := accumulated c n (by omega) i j
    rw [outsAt0_B m c ⟨n + 1, hn⟩ h0]
    dsimp only
    rw [later_rows, pay3_apply]
    erw [block_sum m c]
    show (outsAt0 m c n (by omega)).2 (ix2 i j) + ∑ k : Fin 512, term m c i j ((n + 1) * 512 + k.val) = _
    rw [ih]
    exact BlockedSum.add_block _ 512 (n + 1)

/-- The whole product with the weight. -/
def rowsGrad (c : Dev nD) : FVec Ideal S16x2048 .f32 :=
  fun i => ∑ k : Fin 1536, grads m c (ix2 (i 0) k) * weight m c (ix2 (i 1) k)

theorem flushed_rows (c : Dev nD) (t : Fin cfg0.N) (hf : (cfg0.win 4).flush t = true) :
    (dats m 0 c).flushed 4 t = ((cfg0.win 4).blk t).view.read (Elt Ideal) (rowsGrad m c) := by
  have h2 : t.val = 2 := by have := (flush0_4 t).mp hf; have := point_lt t; omega
  show (cfg0.win 4).cut (grid0.coords t) ((dats m 0 c).after 4 t) = _
  rw [after0_4]
  show (outsAt0 m c t.val t.isLt).2 = (_ : S16x2048.Idx → EReal)
  funext x
  obtain ⟨i, j, rfl⟩ : ∃ (i : Fin 16) (j : Fin 2048), x = ix2 i j := ⟨x 0, x 1, eq_ix2 x⟩
  have e : (outsAt0 m c t.val t.isLt).2 (ix2 i j) = rowsGrad m c (ix2 i j) := by
    rw [accumulated, h2]
    refine BlockedSum.all_rows 1536 _ _ fun r => ?_
    rw [term, dif_pos r.isLt]
    rfl
  rw [e, View.read_apply]
  show rowsGrad m c _ = rowsGrad m c _
  congr 1
  funext a
  apply Fin.ext
  match a with
  | ⟨0, _⟩ => show i.val = win0_4.index t 0 * 16 + 1 * i.val; rw [(index4 t).1]; omega
  | ⟨1, _⟩ => show j.val = win0_4.index t 1 * 2048 + 1 * j.val; rw [(index4 t).2]; omega

theorem final_rows (c : Dev nD) : (dats m 0 c).arrAt 4 cfg0.N = rowsGrad m c :=
  (dats m 0 c).arrAt_eq_of_cover 4 (rowsGrad m c) (flushed_rows m c) fun i => by
    have h0 : (i 0 : Nat) < 16 := (i 0).isLt
    have h1 : (i 1 : Nat) < 2048 := (i 1).isLt
    let t : Fin cfg0.N := ⟨2, by rw [show cfg0.N = 3 from N_0]; omega⟩
    refine ⟨t, (flush0_4 t).mpr rfl, ?_⟩
    show i ∈ ((View.whole main_v6_1).slice (win0_4.rect t)).set
    rw [View.set_slice_whole, Rect.mem_set_unit]
    intro a
    match a with
    | ⟨0, _⟩ =>
      show win0_4.index t 0 * 16 ≤ (i 0 : Nat) ∧ (i 0 : Nat) < win0_4.index t 0 * 16 + 16
      rw [(index4 t).1]; omega
    | ⟨1, _⟩ =>
      show win0_4.index t 1 * 2048 ≤ (i 1 : Nat) ∧ (i 1 : Nat) < win0_4.index t 1 * 2048 + 2048
      rw [(index4 t).2]; omega

/-- The context's row of it, as the host lines leave it. -/
def contextGrad (c : Dev nD) : FVec Ideal S2048 .f32 :=
  shapeCast S2048 (extractStridedSlice S1x2048 ![8, 0] (rowsGrad m c) slices_S16x2048_S1x2048_8_0) shapeCasts_S1x2048_S2048

theorem contextGrad_apply (c : Dev nD) (l : Fin 2048) :
    contextGrad m c (ix1 l) = ∑ k : Fin 1536, argDc m c (ix1 k) * argW m c (ix2 l k) := by
  have e : contextGrad m c (ix1 l) = rowsGrad m c (ix2 8 l) := by
    unfold contextGrad
    pointwise
  rw [e]
  refine Finset.sum_congr rfl fun k _ => ?_
  exact congrArg₂ (· * ·) (grads_context m c k) (congrFun (weight_eq m c) _)

theorem after_context (c : Dev nD) :
    Pipeline.afterTail₀ cfgs (dats m) 0 (V0 m) [hostOps1] c main_v8 = contextGrad m c := by
  unfold Pipeline.afterTail₀
  simp only [hostOps1, List.flatten_cons, List.flatten_nil, List.append_nil, List.cons_append, List.nil_append]
  after_results_simp
  erw [Pipeline.withArrays_arr spec0 (by decide) c _ _ 4]
  exact congrArg (fun z => shapeCast S2048 (extractStridedSlice S1x2048 ![8, 0] z slices_S16x2048_S1x2048_8_0)
    shapeCasts_S1x2048_S2048) (final_rows m c)

theorem after_weight (c : Dev nD) :
    Pipeline.afterTail₀ cfgs (dats m) 0 (V0 m) [hostOps1] c main_v6_0 = weightGrad m c := by
  unfold Pipeline.afterTail₀
  simp only [hostOps1, List.flatten_cons, List.flatten_nil, List.append_nil, List.cons_append, List.nil_append]
  after_results_simp
  erw [Pipeline.withArrays_arr spec0 (by decide) c _ _ 3]
  exact final_weight m c

/-- The kernel's run: both results, the arguments unchanged. -/
theorem run : θ_run defs (onTc (τ := τ) (main (F := Ideal))) ⟨m, fun _ => 0, ρ⟩ fun r => ∀ c : Dev nD,
      r.2.mem ((c.tc : Thread nD τ).loc main_v6_0) = weightGrad m c
      ∧ r.2.mem ((c.tc : Thread nD τ).loc main_v8) = contextGrad m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨((h.1 c).1 3).trans (final_weight m c),
        ((h.1 c).2 main_v8 (Pipeline.mem_restRefs_of main_v8 (by decide) (by decide))).trans (after_context m c), h.2 c⟩)
    (θ_run_and (run_main m ρ) (unchanged m ρ))

/-! ## The reference's terms -/

theorem reference_weight (x0 : FVec Ideal S8x2048 .f32) (x1 : FVec Ideal S2048 .f32) (x2 : FVec Ideal S8x1536 .f32)
    (x3 : FVec Ideal S1536 .f32) (r : Fin 2048) (l : Fin 1536) :
    Cert.Reference11Ideal.Read.val_main_v11 (F := Ideal) x0 x1 x2 x3 (ix2 r l)
      = (∑ k : Fin 8, x0 (ix2 k r) * x2 (ix2 k l)) + x1 (ix1 r) * x3 (ix1 l) := by
  pointwise [Cert.Reference11Ideal.Read.val_main_v11, Cert.Reference11Ideal.Read.val_main_v6,
    Cert.Reference11Ideal.Read.val_main_v10, Cert.Reference11Ideal.Read.val_main_v5, Cert.Reference11Ideal.Read.val_main_v9,
    Cert.Reference11Ideal.Read.val_main_v1, Cert.Reference11Ideal.Read.val_main_v4]
  rw [Fin.sum_univ_one, add_comm, mul_comm (x3 _)]
  exact congrArg (· + _) (Finset.sum_congr rfl fun k _ => mul_comm _ _)

theorem reference_context (x3 : FVec Ideal S1536 .f32) (x4 : FVec Ideal S2048x1536 .f32) (l : Fin 2048) :
    Cert.Reference11Ideal.Read.val_main_v8 (F := Ideal) x3 x4 (ix1 l) = ∑ k : Fin 1536, x3 (ix1 k) * x4 (ix2 l k) := by
  pointwise [Cert.Reference11Ideal.Read.val_main_v8]
  rw [Fin.sum_univ_one]
  pointwise [Cert.Reference11Ideal.Read.val_main_cst, Cert.Reference11Ideal.Read.val_main_v7,
    Cert.Reference11Ideal.Read.val_main_v4]

end Cert.Kernel11Ideal.ModGrad

/-- The claim: over the extended reals the kernel's two results are the reference's. -/
theorem Cert.ModGrad.algebraic : Cert.algebraic_Kernel11Ideal_Reference11Ideal := by
  intro m g m' g' _ hargs
  refine ⟨fun c => Cert.Kernel11Ideal.ModGrad.weightGrad m c, fun c => Cert.Kernel11Ideal.ModGrad.contextGrad m c,
    Cert.Kernel11Ideal.ModGrad.run m g, ?_⟩
  refine (θ_run _ _ _).mono (fun r h c => ?_) (Cert.Reference11Ideal.Value.run (F := Ideal) m' g')
  obtain ⟨e11, e8, kept⟩ := h c
  obtain ⟨a0, a1, a2, a3, a4⟩ := hargs c
  refine ⟨e11.trans ((Cert.Reference11Ideal.Read.val_main_v11_eq _ _ _ _).symm.trans ?_),
    e8.trans ((Cert.Reference11Ideal.Read.val_main_v8_eq _ _).symm.trans ?_), kept⟩
  · funext i
    obtain ⟨b, a, rfl⟩ : ∃ (b : Fin 2048) (a : Fin 1536), i = ix2 b a := ⟨i 0, i 1, eq_ix2 i⟩
    rw [a0, a1, a2, a3]
    exact (Cert.Kernel11Ideal.ModGrad.reference_weight _ _ _ _ b a).trans (Cert.Kernel11Ideal.ModGrad.weightGrad_apply m c b a).symm
  · funext i
    obtain ⟨a, rfl⟩ : ∃ a : Fin 2048, i = ix1 a := ⟨i 0, eq_ix1 i⟩
    rw [a3, a4]
    exact (Cert.Kernel11Ideal.ModGrad.reference_context _ _ a).trans (Cert.Kernel11Ideal.ModGrad.contextGrad_apply m c a).symm

end
-- ==== Proof.ContextGrad.lean ====
/-
  The gradient of the context's conditioning vector (programs `Kernel12Ideal` and `Reference12Ideal`): four devices' parts added
  up, times the derivative of SiLU.

  Over the context's vector `c`, with `σ` the logistic function, the kernel multiplies the sum `s` by `σ (1 + c (1 - σ))`; the
  derivative taken step by step is `s σ + c s (σ (1 - σ))`. The two agree when `s` is a real number, whatever `c` is.
-/
module

public import proofs.«01_k».proof.Proof.FiniteArgs
public import proofs.«01_k».proof.Proof.IdealWords
public import proofs.«01_k».proof.Proof.Gen.Kernel12Ideal.Frame
public import proofs.«01_k».proof.Proof.Gen.Reference12Ideal.Read
public import proofs.«01_k».proof.Defs
public import Idealize.ShloMosaic.Lib.Pipeline.Value
public import Idealize.ShloMosaic.Lib.Pointwise
public import Idealize.ShloMosaic.Lib.StableHlo.Run
public import Idealize.ShloMosaic.Lib.Tactic
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.FiniteArgs

instance finite12_facts : Cert.Pre_finite12.Facts where
  bcast_S_S8x2048 := by decide
  reducesTo_S8x2048_S_d0_1 := by decide
  h_S_ := by decide

/-- The precondition: the eight devices' parts hold real numbers. -/
theorem parts_real (a0 : FVec Ideal Cert.Pre_finite12.S8x2048 .f32) (a1 : FVec Ideal Cert.Pre_finite12.S2048 .f32)
    (h : Cert.Pre_finite12.fn (F := Ideal) a0 a1 = fun _ => 1#1) (i : Cert.Pre_finite12.S8x2048.Idx) :
    a0 i = (((a0 i).toReal : ℝ) : EReal) := by
  have e := congrFun h (Shape.Idx.first Cert.Pre_finite12.Facts.h_S_)
  dsimp only [Cert.Pre_finite12.fn] at e
  exact entries_real _ _ _ a0 e i

end Cert.FiniteArgs

namespace Cert.Kernel12Ideal.ContextGrad

open Cert.Kernel12Ideal Cert.Kernel12Ideal.Gen

/-! ## One entry -/

/-- The product with the derivative of SiLU as the kernel writes it. -/
def closed (s c : EReal) : EReal :=
  s * (Ideal.logistic c * (Ideal.ofBits .f32 0x3F800000#32 + c * (Ideal.ofBits .f32 0x3F800000#32 - Ideal.logistic c)))

/-- The derivative taken step by step. -/
def stepped (s c : EReal) : EReal :=
  s * Ideal.logistic c + c * s * (Ideal.logistic c * (Ideal.ofBits .f32 0x3F800000#32 - Ideal.logistic c))

theorem closed_eq_stepped (s : ℝ) (c : EReal) : closed s c = stepped s c := by
  unfold closed stepped
  rw [Cert.NormMaths.word_one]
  induction c using EReal.rec with
  | bot => simp
  | top =>
    have e : (1 : EReal) - 1 = 0 := by
      rw [← EReal.coe_one, ← EReal.coe_sub, sub_self, EReal.coe_zero]
    simp [e]
  | coe c =>
    rw [Ideal.logistic_coe]
    generalize (1 + Real.exp (-c))⁻¹ = g
    simp only [← EReal.coe_mul, ← EReal.coe_add, ← EReal.coe_sub]
    exact congrArg _ (by ring)

theorem off0 : (![0, 0] : Fin 2 → Nat) = fun _ => 0 := funext fun a => by fin_cases a <;> rfl

/-- The four parts added up. -/
def partSum (x : FVec Ideal S8x2048 .f32) (l : Fin 2048) : EReal :=
  x (ix2 0 l) + x (ix2 2 l) + x (ix2 4 l) + x (ix2 6 l)

theorem stored (x0 : Vec Ideal S8x8x2048 .f32) (x1 : Vec Ideal S8x2048 .f32) (r : Fin 8) (l : Fin 2048) :
    out0_2 x0 x1 (ix2 r l) = closed (x0 (ix3 0 r l) + x0 (ix3 2 r l) + x0 (ix3 4 r l) + x0 (ix3 6 r l)) (x1 (ix2 r l)) := by
  unfold out0_2
  rw [View.canon_unit_zero (S := S8x2048) off0]
  simp only [View.ld_unit_zero (S := S8x2048) off0]
  have e0 : View.ld x0 r0_0 (ix3 0 r l) = x0 (ix3 0 r l) := congrArg x0 (funext fun a => Fin.ext (by
    match a with
    | ⟨0, _⟩ => rfl
    | ⟨1, _⟩ => show 0 + 1 * r.val = r.val; omega
    | ⟨2, _⟩ => show 0 + 1 * l.val = l.val; omega))
  have e1 : View.ld x0 r0_1 (ix3 0 r l) = x0 (ix3 2 r l) := congrArg x0 (funext fun a => Fin.ext (by
    match a with
    | ⟨0, _⟩ => rfl
    | ⟨1, _⟩ => show 0 + 1 * r.val = r.val; omega
    | ⟨2, _⟩ => show 0 + 1 * l.val = l.val; omega))
  have e2 : View.ld x0 r0_2 (ix3 0 r l) = x0 (ix3 4 r l) := congrArg x0 (funext fun a => Fin.ext (by
    match a with
    | ⟨0, _⟩ => rfl
    | ⟨1, _⟩ => show 0 + 1 * r.val = r.val; omega
    | ⟨2, _⟩ => show 0 + 1 * l.val = l.val; omega))
  have e3 : View.ld x0 r0_3 (ix3 0 r l) = x0 (ix3 6 r l) := congrArg x0 (funext fun a => Fin.ext (by
    match a with
    | ⟨0, _⟩ => rfl
    | ⟨1, _⟩ => show 0 + 1 * r.val = r.val; omega
    | ⟨2, _⟩ => show 0 + 1 * l.val = l.val; omega))
  rw [← e0, ← e1, ← e2, ← e3]
  generalize View.ld x0 r0_0 = y0
  generalize View.ld x0 r0_1 = y1
  generalize View.ld x0 r0_2 = y2
  generalize View.ld x0 r0_3 = y3
  pointwise [k0_pay1, closed]

theorem index2 : ∀ t : Fin grid0.N, win0_2.index t 0 = 0 ∧ win0_2.index t 1 = 0 := by decide +kernel
theorem index0 : ∀ t : Fin grid0.N, win0_0.index t 0 = 0 ∧ win0_0.index t 1 = 0 ∧ win0_0.index t 2 = 0 := by decide +kernel
theorem index1 : ∀ t : Fin grid0.N, win0_1.index t 0 = 0 ∧ win0_1.index t 1 = 0 := by decide +kernel
theorem flush2 : ∀ t : Fin grid0.N, (cfg0.win 2).flush t = true := by decide +kernel
theorem points : cfg0.N = 1 := by decide +kernel

variable (m : (ℓ : Loc nD τ sig) → Buf (Elt Ideal) ℓ) (ρ : Dev nD → PrngReg)

/-- The two arguments as the program's start finds them. -/
def argD (c : Dev nD) : FVec Ideal S8x2048 .f32 := m ((c.tc : Thread nD τ).loc main_arg0)
def argC (c : Dev nD) : FVec Ideal S2048 .f32 := m ((c.tc : Thread nD τ).loc main_arg1)

/-- The operands as the region finds them. -/
def parts (c : Dev nD) : FVec Ideal S8x8x2048 .f32 := V m c main_v1
def vec (c : Dev nD) : FVec Ideal S8x2048 .f32 := V m c main_v3

theorem parts_eq (c : Dev nD) : parts m c = pad S8x8x2048 ![0, 0, 0] ![0, 7, 0] ![0, 0, 0]
    (broadcastInDim S8x1x2048 ![0, 2] bcast_S8x2048_S8x1x2048_0_2 (argD m c)) (sitofp (F := Ideal) .f32 (constantI S_ 32 0#32))
    pads_S8x1x2048_S8x8x2048_000_070_000 h_S_ := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results_simp
  rfl

theorem vec_eq (c : Dev nD) : vec m c = broadcastInDim S8x2048 ![0, 1] bcast_S1x2048_S8x2048_0_1
    (broadcastInDim S1x2048 ![1] bcast_S2048_S1x2048_1 (argC m c)) := by
  show StableHlo.after (List.flatten [hostOps0, hostOps0_1, hostOps0_2]) _ (Proc.devRef .tc main_v3) = _
  simp only [hostOps0, hostOps0_1, hostOps0_2, List.flatten_cons, List.flatten_nil, List.append_nil, List.cons_append, List.nil_append]
  after_results_simp
  rfl

theorem parts_row (c : Dev nD) (k : Fin 8) (l : Fin 2048) : parts m c (ix3 k 0 l) = argD m c (ix2 k l) := by
  rw [parts_eq]
  refine (pad_apply_of_inside _ _ _ _ _ _ _ _ (ix3 k 0 l : S8x1x2048.Idx) fun a => ?_).trans ?_
  · match a with
    | ⟨0, _⟩ => show k.val = 0 + k.val * (0 + 1); omega
    | ⟨1, _⟩ => rfl
    | ⟨2, _⟩ => show l.val = 0 + l.val * (0 + 1); omega
  · pointwise

theorem vec_row (c : Dev nD) (r : Fin 8) (l : Fin 2048) : vec m c (ix2 r l) = argC m c (ix1 l) := by
  rw [vec_eq]
  pointwise

/-- The blocks the windows hand over. -/
def partsBlock (c : Dev nD) (t : Fin cfg0.N) : Vec Ideal S8x8x2048 .f32 := iblk m c 0 t
def vecBlock (c : Dev nD) (t : Fin cfg0.N) : Vec Ideal S8x2048 .f32 := iblk m c 1 t

theorem partsBlock_eq (c : Dev nD) (t : Fin cfg0.N) : partsBlock m c t = parts m c := by
  funext x
  unfold partsBlock iblk
  rw [View.read_apply]
  show V m c main_v1 _ = V m c main_v1 _
  congr 1
  funext a
  apply Fin.ext
  match a with
  | ⟨0, _⟩ => show win0_0.index t 0 * 8 + 1 * (x 0).val = (x 0).val; rw [(index0 t).1]; omega
  | ⟨1, _⟩ => show win0_0.index t 1 * 8 + 1 * (x 1).val = (x 1).val; rw [(index0 t).2.1]; omega
  | ⟨2, _⟩ => show win0_0.index t 2 * 2048 + 1 * (x 2).val = (x 2).val; rw [(index0 t).2.2]; omega

theorem vecBlock_eq (c : Dev nD) (t : Fin cfg0.N) : vecBlock m c t = vec m c := by
  funext x
  unfold vecBlock iblk
  rw [View.read_apply]
  show V m c main_v3 _ = V m c main_v3 _
  congr 1
  funext a
  apply Fin.ext
  match a with
  | ⟨0, _⟩ => show win0_1.index t 0 * 8 + 1 * (x 0).val = (x 0).val; rw [(index1 t).1]; omega
  | ⟨1, _⟩ => show win0_1.index t 1 * 2048 + 1 * (x 1).val = (x 1).val; rw [(index1 t).2]; omega

/-- The call's result. -/
def grads (c : Dev nD) : FVec Ideal S8x2048 .f32 := fun i => out0_2 (F := Ideal) (parts m c) (vec m c) i

theorem flushed (c : Dev nD) (t : Fin cfg0.N) (hf : (cfg0.win 2).flush t = true) :
    (dats m 0 c).flushed 2 t = ((cfg0.win 2).blk t).view.read (Elt Ideal) (grads m c) := by
  have p : out0_2 (partsBlock m c t) (vecBlock m c t) = grads m c := by rw [partsBlock_eq, vecBlock_eq]; rfl
  generalize grads m c = N at p ⊢
  show (cfg0.win 2).cut (grid0.coords t) ((dats m 0 c).after 2 t) = _
  rw [after0_2]
  show out0_2 (partsBlock m c t) (vecBlock m c t) = (_ : S8x2048.Idx → EReal)
  rw [p]
  funext x
  rw [View.read_apply]
  show N _ = N _
  congr 1
  funext a
  apply Fin.ext
  match a with
  | ⟨0, _⟩ => show (x 0).val = win0_2.index t 0 * 8 + 1 * (x 0).val; rw [(index2 t).1]; omega
  | ⟨1, _⟩ => show (x 1).val = win0_2.index t 1 * 2048 + 1 * (x 1).val; rw [(index2 t).2]; omega

theorem final (c : Dev nD) : (dats m 0 c).arrAt 2 cfg0.N = grads m c :=
  (dats m 0 c).arrAt_eq_of_cover 2 (grads m c) (flushed m c) fun i => by
    have h0 : (i 0 : Nat) < 8 := (i 0).isLt
    have h1 : (i 1 : Nat) < 2048 := (i 1).isLt
    let t : Fin cfg0.N := ⟨0, by rw [points]; omega⟩
    refine ⟨t, flush2 t, ?_⟩
    show i ∈ ((View.whole main_v4).slice (win0_2.rect t)).set
    rw [View.set_slice_whole, Rect.mem_set_unit]
    intro a
    match a with
    | ⟨0, _⟩ =>
      show win0_2.index t 0 * 8 ≤ (i 0 : Nat) ∧ (i 0 : Nat) < win0_2.index t 0 * 8 + 8
      rw [(index2 t).1]; omega
    | ⟨1, _⟩ =>
      show win0_2.index t 1 * 2048 ≤ (i 1 : Nat) ∧ (i 1 : Nat) < win0_2.index t 1 * 2048 + 2048
      rw [(index2 t).2]; omega

/-- The gradient: the result's first row. -/
def gradient (c : Dev nD) : FVec Ideal S2048 .f32 :=
  shapeCast S2048 (extractStridedSlice S1x2048 ![0, 0] (grads m c) slices_S8x2048_S1x2048_0_0) shapeCasts_S1x2048_S2048

theorem gradient_apply (c : Dev nD) (l : Fin 2048) :
    gradient m c (ix1 l) = closed (partSum (argD m c) l) (argC m c (ix1 l)) := by
  have e : gradient m c (ix1 l) = grads m c (ix2 0 l) := by
    unfold gradient
    generalize grads m c = y
    pointwise
  rw [e]
  unfold grads partSum
  rw [stored, parts_row, parts_row, parts_row, parts_row, vec_row]

theorem after_v6 (c : Dev nD) :
    Pipeline.afterTail₀ cfgs (dats m) 0 (V0 m) [hostOps1] c main_v6 = gradient m c := by
  unfold Pipeline.afterTail₀
  simp only [hostOps1, List.flatten_cons, List.flatten_nil, List.append_nil, List.cons_append, List.nil_append]
  after_results_simp
  erw [Pipeline.withArrays_arr spec0 (by decide) c _ _ 2]
  exact congrArg (fun z => shapeCast S2048 (extractStridedSlice S1x2048 ![0, 0] z slices_S8x2048_S1x2048_0_0)
    shapeCasts_S1x2048_S2048) (final m c)

/-- The kernel's run: the gradient, the arguments unchanged. -/
theorem run : θ_run defs (onTc (τ := τ) (main (F := Ideal))) ⟨m, fun _ => 0, ρ⟩ fun r => ∀ c : Dev nD,
      r.2.mem ((c.tc : Thread nD τ).loc main_v6) = gradient m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h.1 c).2 main_v6 (Pipeline.mem_restRefs_of main_v6 (by decide) (by decide))).trans (after_v6 m c), h.2 c⟩)
    (θ_run_and (run_main m ρ) (unchanged m ρ))

/-! ## The reference's terms -/

section Reference

open Cert.Reference12Ideal.Read

theorem reference_logistic (x1 : FVec Ideal S2048 .f32) (l : Fin 2048) :
    val_main_v0_2 (F := Ideal) x1 (ix1 l) = Ideal.logistic (x1 (ix1 l)) := by
  pointwise [val_main_v0_2, val_main_call0_v4, val_main_call0_v3, val_main_call0_v2, val_main_call0_v1, val_main_call0_v0,
    val_main_call0_cst, val_main_call0_cst_0]
  rfl

theorem reference_sum (x0 : FVec Ideal S8x2048 .f32) (l : Fin 2048) :
    val_main_v11 (F := Ideal) x0 (ix1 l) = partSum x0 l := by
  pointwise [val_main_v11, val_main_v10, val_main_v9, val_main_v8, val_main_v7, val_main_v6, val_main_v5, val_main_v4,
    val_main_v3, val_main_v2, val_main_v1, partSum]

theorem reference_eq (x0 : FVec Ideal S8x2048 .f32) (x1 : FVec Ideal S2048 .f32) (l : Fin 2048) :
    val_main_v12 (F := Ideal) x0 x1 (ix1 l) = stepped (partSum x0 l) (x1 (ix1 l)) := by
  rw [← reference_sum]
  unfold stepped
  rw [← reference_logistic]
  pointwise [val_main_v12, val_main_call1_v2, val_main_call1_v1, val_main_call1_v0, val_main_v0_1, val_main_call0_v7,
    val_main_call0_v6, val_main_call0_cst_1]

end Reference

end Cert.Kernel12Ideal.ContextGrad

/-- The claim: where the eight devices' parts are real numbers, the kernel's result over the extended reals is the reference's. -/
theorem Cert.ContextGrad.algebraic : Cert.algebraic_Kernel12Ideal_Reference12Ideal_pre_finite12 := by
  intro m g m' g' hpre hargs
  refine ⟨fun c => Cert.Kernel12Ideal.ContextGrad.gradient m c, Cert.Kernel12Ideal.ContextGrad.run m g, ?_⟩
  refine (θ_run _ _ _).mono (fun r h c => ?_) (Cert.Reference12Ideal.Value.run (F := Ideal) m' g')
  obtain ⟨e0, kept⟩ := h c
  obtain ⟨a0, a1⟩ := hargs c
  refine ⟨e0.trans ((Cert.Reference12Ideal.Read.val_main_v12_eq _ _).symm.trans ?_), kept⟩
  funext i
  obtain ⟨l, rfl⟩ : ∃ l : Fin 2048, i = ix1 l := ⟨i 0, eq_ix1 i⟩
  rw [a0, a1]
  refine (Cert.Kernel12Ideal.ContextGrad.reference_eq _ _ l).trans ?_
  refine Eq.trans ?_ (Cert.Kernel12Ideal.ContextGrad.gradient_apply m c l).symm
  have hr := Cert.FiniteArgs.parts_real _ _ (hpre c)
  have hs : Cert.Kernel12Ideal.ContextGrad.partSum (Cert.Kernel12Ideal.ContextGrad.argD m c) l
      = (((Cert.Kernel12Ideal.ContextGrad.argD m c (ix2 0 l)).toReal + (Cert.Kernel12Ideal.ContextGrad.argD m c (ix2 2 l)).toReal
        + (Cert.Kernel12Ideal.ContextGrad.argD m c (ix2 4 l)).toReal
        + (Cert.Kernel12Ideal.ContextGrad.argD m c (ix2 6 l)).toReal : ℝ) : EReal) := by
    unfold Cert.Kernel12Ideal.ContextGrad.partSum
    simp only [EReal.coe_add]
    exact congrArg₂ (· + ·) (congrArg₂ (· + ·) (congrArg₂ (· + ·) (hr _) (hr _)) (hr _)) (hr _)
  show Cert.Kernel12Ideal.ContextGrad.stepped (Cert.Kernel12Ideal.ContextGrad.partSum (Cert.Kernel12Ideal.ContextGrad.argD m c) l) _ = _
  rw [hs]
  exact (Cert.Kernel12Ideal.ContextGrad.closed_eq_stepped _ _).symm

end
-- ==== Proof.ModNorm.lean ====
/-
  The modulated norm (programs `Kernel13Ideal` and `Reference13Ideal`): every row without its mean, times the inverse root of its
  variance, times one plus the scale, plus the shift.

  The grid is 17 blocks of 256 rows: 16 latent blocks, then the context's block. Each point is handed a latent block, the
  context's block and the eight rows of parameters of its kind; the point's number says which of the two blocks it norms. The
  host cuts the latent and the context rows out of the 4352 rows of the result.
-/
module

public import proofs.«01_k».proof.Proof.Gen.Kernel13Ideal.Frame
public import proofs.«01_k».proof.Proof.Gen.Reference13Ideal.Read
public import proofs.«01_k».proof.Defs
public import Idealize.ShloMosaic.Lib.Pipeline.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel13Ideal.ModNorm

open Cert.Kernel13Ideal Cert.Kernel13Ideal.Gen

/-! ## One row -/

/-- The row's mean. -/
def mean (f : Fin 2048 → EReal) : EReal := Ideal.div (∑ k, f k) (Ideal.ofBits .f32 0x45000000#32)
/-- The row without its mean. -/
def cen (f : Fin 2048 → EReal) (l : Fin 2048) : EReal := f l - mean f
/-- The inverse root of the variance with the small constant added. -/
def scl (f : Fin 2048 → EReal) : EReal :=
  Ideal.rsqrt (Ideal.div (∑ k, cen f k * cen f k) (Ideal.ofBits .f32 0x45000000#32) + Ideal.ofBits .f32 0x3727C5AC#32)
/-- The modulated norm of the row at one column. -/
def modulated (f : Fin 2048 → EReal) (shift scale : EReal) (l : Fin 2048) : EReal :=
  cen f l * scl f * (Ideal.ofBits .f32 0x3F800000#32 + scale) + shift

theorem off0 : (![0, 0] : Fin 2 → Nat) = fun _ => 0 := funext fun a => by fin_cases a <;> rfl

/-- The block a point norms. -/
def pick (i : grid0.Coords) (v1 v2 : Vec Ideal S256x2048 .f32) : Vec Ideal S256x2048 .f32 :=
  Scalar.select (Scalar.cmpi .sge (BitVec.ofNat 32 (i 0).val) 16#32) v1 v2

theorem latent_bit : ∀ t : Fin grid0.N, t.val < 16 →
    Scalar.cmpi .sge (BitVec.ofNat 32 ((grid0.coords t) 0).val) 16#32 = 0#1 := by decide +kernel
theorem context_bit : ∀ t : Fin grid0.N, t.val = 16 →
    Scalar.cmpi .sge (BitVec.ofNat 32 ((grid0.coords t) 0).val) 16#32 = 1#1 := by decide +kernel

theorem pick_latent (t : Fin grid0.N) (h : t.val < 16) (v1 v2 : Vec Ideal S256x2048 .f32) : pick (grid0.coords t) v1 v2 = v2 := by
  unfold pick
  rw [latent_bit t h]
  rfl
theorem pick_context (t : Fin grid0.N) (h : t.val = 16) (v1 v2 : Vec Ideal S256x2048 .f32) : pick (grid0.coords t) v1 v2 = v1 := by
  unfold pick
  rw [context_bit t h]
  rfl

theorem pay_eq (i : grid0.Coords) (v1 v2 : Vec Ideal S256x2048 .f32) (v20 v26 : Vec Ideal S1x1x2048 .f32) (r : Fin 256) (l : Fin 2048) :
    k0_pay1 i v1 v2 v20 v26 (ix2 r l)
      = modulated (fun k => pick i v1 v2 (ix2 r k)) (v26 (ix3 0 0 l)) (v20 (ix3 0 0 l)) l := by
  unfold k0_pay1
  dsimp only
  have e : Scalar.select (Scalar.cmpi .sge (BitVec.ofNat 32 (i 0).val) 16#32) v1 v2 = pick i v1 v2 := rfl
  rw [e]
  generalize pick i v1 v2 = x
  pointwise [modulated, cen, mean, scl]

theorem stored (i : grid0.Coords) (x0 x1 : Vec Ideal S256x2048 .f32) (x2 : Vec Ideal S1x8x2048 .f32) (r : Fin 256) (l : Fin 2048) :
    out0_3 i x0 x1 x2 (ix2 r l)
      = modulated (fun k => pick i x1 x0 (ix2 r k)) (x2 (ix3 0 0 l)) (x2 (ix3 0 1 l)) l := by
  unfold out0_3
  rw [View.canon_unit_zero (S := S256x2048) off0]
  simp only [View.ld_unit_zero (S := S256x2048) off0]
  rw [pay_eq]
  have e2 : View.ld x2 r0_2 (ix3 0 0 l) = x2 (ix3 0 0 l) := congrArg x2 (funext fun a => Fin.ext (by
    match a with
    | ⟨0, _⟩ => rfl
    | ⟨1, _⟩ => rfl
    | ⟨2, _⟩ => show 0 + 1 * l.val = l.val; omega))
  have e1 : View.ld x2 r0_1 (ix3 0 0 l) = x2 (ix3 0 1 l) := congrArg x2 (funext fun a => Fin.ext (by
    match a with
    | ⟨0, _⟩ => rfl
    | ⟨1, _⟩ => rfl
    | ⟨2, _⟩ => show 0 + 1 * l.val = l.val; omega))
  rw [e1, e2]

theorem index0 : ∀ t : Fin grid0.N, (t.val < 16 → win0_0.index t 0 = t.val) ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val / 16 ∧ win0_2.index t 1 = 0 ∧ win0_2.index t 2 = 0 := by decide +kernel
theorem index3 : ∀ t : Fin grid0.N, win0_3.index t 0 = t.val ∧ win0_3.index t 1 = 0 := by decide +kernel
theorem flush3 : ∀ t : Fin grid0.N, (cfg0.win 3).flush t = true := by decide +kernel

theorem points : cfg0.N = 17 := by decide +kernel
theorem point_lt (t : Fin cfg0.N) : t.val < 17 := lt_of_lt_of_eq t.isLt points

variable (m : (ℓ : Loc nD τ sig) → Buf (Elt Ideal) ℓ) (ρ : Dev nD → PrngReg)

/-- The arguments as the program's start finds them. -/
def argX (c : Dev nD) : FVec Ideal S4096x2048 .f32 := m ((c.tc : Thread nD τ).loc main_arg0)
def argC (c : Dev nD) : FVec Ideal S256x2048 .f32 := m ((c.tc : Thread nD τ).loc main_arg1)
def shiftX (c : Dev nD) : FVec Ideal S2048 .f32 := m ((c.tc : Thread nD τ).loc main_arg2)
def scaleX (c : Dev nD) : FVec Ideal S2048 .f32 := m ((c.tc : Thread nD τ).loc main_arg3)
def shiftC (c : Dev nD) : FVec Ideal S2048 .f32 := m ((c.tc : Thread nD τ).loc main_arg4)
def scaleC (c : Dev nD) : FVec Ideal S2048 .f32 := m ((c.tc : Thread nD τ).loc main_arg5)

/-- The parameters as the region finds them. -/
def prm (c : Dev nD) : FVec Ideal S2x8x2048 .f32 := V m c main_v8

/-- The eight rows of one kind: shift, scale, six rows of zeros. -/
def eight (a b : FVec Ideal S2048 .f32) : FVec Ideal S8x2048 .f32 :=
  shapeCast S8x2048 (concatenate S16384 0 [⟨S2048, a⟩, ⟨S2048, b⟩,
    ⟨S12288, broadcastInDim S12288 ![] bcast_S_S12288 (constant (F := Ideal) S_ .f32 0x00000000#32)⟩]
    concatenates_S2048_S2048_S12288_S16384_d0) shapeCasts_S16384_S8x2048

theorem prm_eq (c : Dev nD) : prm m c = concatenate S2x8x2048 0
    [⟨S1x8x2048, broadcastInDim S1x8x2048 ![1, 2] bcast_S8x2048_S1x8x2048_1_2 (eight (shiftX m c) (scaleX m c))⟩,
     ⟨S1x8x2048, broadcastInDim S1x8x2048 ![1, 2] bcast_S8x2048_S1x8x2048_1_2 (eight (shiftC m c) (scaleC m c))⟩]
    concatenates_S1x8x2048_S1x8x2048_S2x8x2048_d0 := by
  show StableHlo.after (List.flatten [hostOps0]) _ (Proc.devRef .tc main_v8) = _
  simp only [hostOps0, List.flatten_cons, List.flatten_nil, List.append_nil, List.cons_append, List.nil_append]
  after_results_simp
  rfl

theorem eight_shift (a b : FVec Ideal S2048 .f32) (l : Fin 2048) : eight a b (ix2 0 l) = a (ix1 l) := by
  unfold eight
  pointwise
theorem eight_scale (a b : FVec Ideal S2048 .f32) (l : Fin 2048) : eight a b (ix2 1 l) = b (ix1 l) := by
  unfold eight
  pointwise

theorem prm_latent (c : Dev nD) (k : Fin 8) (l : Fin 2048) :
    prm m c (ix3 0 k l) = eight (shiftX m c) (scaleX m c) (ix2 k l) := by
  rw [prm_eq]
  generalize eight (shiftX m c) (scaleX m c) = y
  generalize eight (shiftC m c) (scaleC m c) = z
  pointwise
theorem prm_context (c : Dev nD) (k : Fin 8) (l : Fin 2048) :
    prm m c (ix3 1 k l) = eight (shiftC m c) (scaleC m c) (ix2 k l) := by
  rw [prm_eq]
  generalize eight (shiftX m c) (scaleX m c) = y
  generalize eight (shiftC m c) (scaleC m c) = z
  pointwise

/-- The blocks the windows hand over at point `t`. -/
def xBlock (c : Dev nD) (t : Fin cfg0.N) : Vec Ideal S256x2048 .f32 := iblk m c 0 t
def cBlock (c : Dev nD) (t : Fin cfg0.N) : Vec Ideal S256x2048 .f32 := iblk m c 1 t
def pBlock (c : Dev nD) (t : Fin cfg0.N) : Vec Ideal S1x8x2048 .f32 := iblk m c 2 t

theorem xBlock_apply (c : Dev nD) (t : Fin cfg0.N) (h : t.val < 16) (r : Fin 256) (l : Fin 2048) :
    xBlock m c t (ix2 r l) = argX m c (ix2 ⟨t.val * 256 + r.val, by omega⟩ l) := by
  unfold xBlock iblk
  rw [View.read_apply]
  show V m c main_arg0 _ = _
  rw [V_main_arg0]
  show argX m c _ = argX m c _
  congr 1
  funext a
  apply Fin.ext
  match a with
  | ⟨0, _⟩ => show win0_0.index t 0 * 256 + 1 * r.val = t.val * 256 + r.val; rw [(index0 t).1 h]; omega
  | ⟨1, _⟩ => show win0_0.index t 1 * 2048 + 1 * l.val = l.val; rw [(index0 t).2]; omega

theorem cBlock_apply (c : Dev nD) (t : Fin cfg0.N) (r : Fin 256) (l : Fin 2048) :
    cBlock m c t (ix2 r l) = argC m c (ix2 r l) := by
  unfold cBlock iblk
  rw [View.read_apply]
  show V m c main_arg1 _ = _
  rw [V_main_arg1]
  show argC m c _ = argC m c _
  congr 1
  funext a
  apply Fin.ext
  match a with
  | ⟨0, _⟩ => show win0_1.index t 0 * 256 + 1 * r.val = r.val; rw [(index1 t).1]; omega
  | ⟨1, _⟩ => show win0_1.index t 1 * 2048 + 1 * l.val = l.val; rw [(index1 t).2]; omega

theorem pBlock_apply (c : Dev nD) (t : Fin cfg0.N) (k : Fin 8) (l : Fin 2048) :
    pBlock m c t (ix3 0 k l) = prm m c (ix3 ⟨t.val / 16, by have := point_lt t; omega⟩ k l) := by
  unfold pBlock iblk
  rw [View.read_apply]
  show V m c main_v8 _ = V m c main_v8 _
  congr 1
  funext a
  apply Fin.ext
  match a with
  | ⟨0, _⟩ => show win0_2.index t 0 * 1 + 1 * 0 = t.val / 16; rw [(index2 t).1]; omega
  | ⟨1, _⟩ => show win0_2.index t 1 * 8 + 1 * k.val = k.val; rw [(index2 t).2.1]; omega
  | ⟨2, _⟩ => show win0_2.index t 2 * 2048 + 1 * l.val = l.val; rw [(index2 t).2.2]; omega

/-! ## The normed rows -/

/-- The modulated latent rows and context rows. -/
def normX (c : Dev nD) : FVec Ideal S4096x2048 .f32 :=
  fun i => modulated (fun k => argX m c (ix2 (i 0) k)) (shiftX m c (ix1 (i 1))) (scaleX m c (ix1 (i 1))) (i 1)
def normC (c : Dev nD) : FVec Ideal S256x2048 .f32 :=
  fun i => modulated (fun k => argC m c (ix2 (i 0) k)) (shiftC m c (ix1 (i 1))) (scaleC m c (ix1 (i 1))) (i 1)

/-- All rows, the latent first. -/
def normed (c : Dev nD) : FVec Ideal S4352x2048 .bf16 := fun i =>
  if h : (i 0).val < 4096 then normX m c (ix2 ⟨(i 0).val, h⟩ (i 1))
  else normC m c (ix2 ⟨(i 0).val - 4096, by have := (i 0).isLt; show (i 0).val - 4096 < 256; have h : (i 0).val < 4352 := (i 0).isLt; omega⟩ (i 1))

theorem point_latent (c : Dev nD) (t : Fin cfg0.N) (h : t.val < 16) (r : Fin 256) (l : Fin 2048) :
    out0_3 (grid0.coords t) (xBlock m c t) (cBlock m c t) (pBlock m c t) (ix2 r l)
      = normX m c (ix2 ⟨t.val * 256 + r.val, by omega⟩ l) := by
  have h0 : t.val / 16 = 0 := by omega
  rw [stored, pick_latent t h, pBlock_apply, pBlock_apply]
  have e : (⟨t.val / 16, by omega⟩ : Fin 2) = 0 := Fin.ext h0
  rw [e, prm_latent, prm_latent, eight_shift, eight_scale]
  exact congrArg (fun f => modulated f _ _ l) (funext fun k => xBlock_apply m c t h r k)

theorem point_context (c : Dev nD) (t : Fin cfg0.N) (h : t.val = 16) (r : Fin 256) (l : Fin 2048) :
    out0_3 (grid0.coords t) (xBlock m c t) (cBlock m c t) (pBlock m c t) (ix2 r l) = normC m c (ix2 r l) := by
  have h0 : t.val / 16 = 1 := by omega
  rw [stored, pick_context t h, pBlock_apply, pBlock_apply]
  have e : (⟨t.val / 16, by omega⟩ : Fin 2) = 1 := Fin.ext h0
  rw [e, prm_context, prm_context, eight_shift, eight_scale]
  exact congrArg (fun f => modulated f _ _ l) (funext fun k => cBlock_apply m c t r k)

theorem normed_latent (c : Dev nD) (r : Fin 4096) (l : Fin 2048) : normed m c (ix2 ⟨r.val, by omega⟩ l) = normX m c (ix2 r l) :=
  dif_pos r.isLt
theorem normed_context (c : Dev nD) (r : Fin 256) (l : Fin 2048) :
    normed m c (ix2 ⟨4096 + r.val, by omega⟩ l) = normC m c (ix2 r l) := by
  refine (dif_neg (by show ¬ 4096 + r.val < 4096; omega)).trans ?_
  exact congrArg (fun z => normC m c (ix2 z l)) (Fin.ext (by show 4096 + r.val - 4096 = r.val; omega))

theorem point (c : Dev nD) (t : Fin cfg0.N) (i : Fin 256) (j : Fin 2048) :
    out0_3 (grid0.coords t) (xBlock m c t) (cBlock m c t) (pBlock m c t) (ix2 i j)
      = normed m c (ix2 ⟨t.val * 256 + i.val, by have := point_lt t; omega⟩ j) := by
  have ht := point_lt t
  by_cases h : t.val < 16
  · rw [point_latent m c t h]
    exact (normed_latent m c ⟨t.val * 256 + i.val, by omega⟩ j).symm
  · have h16 : t.val = 16 := by omega
    rw [point_context m c t h16]
    refine (normed_context m c i j).symm.trans ?_
    exact congrArg (fun z => normed m c (ix2 z j)) (Fin.ext (by show 4096 + i.val = t.val * 256 + i.val; omega))

theorem read_block (N : FVec Ideal S4352x2048 .bf16) (t : Fin cfg0.N) (i : Fin 256) (j : Fin 2048) :
    ((cfg0.win 3).blk t).view.read (Elt Ideal) N (ix2 i j) = N (ix2 ⟨t.val * 256 + i.val, by have := point_lt t; omega⟩ j) := by
  rw [View.read_apply]
  show N _ = N _
  congr 1
  funext a
  apply Fin.ext
  match a with
  | ⟨0, _⟩ => show win0_3.index t 0 * 256 + 1 * i.val = t.val * 256 + i.val; rw [(index3 t).1]; omega
  | ⟨1, _⟩ => show win0_3.index t 1 * 2048 + 1 * j.val = j.val; rw [(index3 t).2]; omega

theorem flushed (c : Dev nD) (t : Fin cfg0.N) (hf : (cfg0.win 3).flush t = true) :
    (dats m 0 c).flushed 3 t = ((cfg0.win 3).blk t).view.read (Elt Ideal) (normed m c) := by
  have p := point m c t
  generalize normed m c = N at p ⊢
  show (cfg0.win 3).cut (grid0.coords t) ((dats m 0 c).after 3 t) = _
  rw [after0_3]
  show out0_3 (grid0.coords t) (xBlock m c t) (cBlock m c t) (pBlock m c t) = (_ : S256x2048.Idx → EReal)
  funext x
  obtain ⟨i, j, rfl⟩ : ∃ (i : Fin 256) (j : Fin 2048), x = ix2 i j := ⟨x 0, x 1, eq_ix2 x⟩
  exact (p i j).trans (read_block N t i j).symm

theorem final (c : Dev nD) : (dats m 0 c).arrAt 3 cfg0.N = normed m c :=
  (dats m 0 c).arrAt_eq_of_cover 3 (normed m c) (flushed m c) fun i => by
    have h0 : (i 0 : Nat) < 4352 := (i 0).isLt
    have h1 : (i 1 : Nat) < 2048 := (i 1).isLt
    let t : Fin cfg0.N := ⟨(i 0 : Nat) / 256, by rw [points]; omega⟩
    have ht : t.val = (i 0 : Nat) / 256 := rfl
    refine ⟨t, flush3 t, ?_⟩
    show i ∈ ((View.whole main_v9).slice (win0_3.rect t)).set
    rw [View.set_slice_whole, Rect.mem_set_unit]
    intro a
    match a with
    | ⟨0, _⟩ =>
      show win0_3.index t 0 * 256 ≤ (i 0 : Nat) ∧ (i 0 : Nat) < win0_3.index t 0 * 256 + 256
      rw [(index3 t).1]; omega
    | ⟨1, _⟩ =>
      show win0_3.index t 1 * 2048 ≤ (i 1 : Nat) ∧ (i 1 : Nat) < win0_3.index t 1 * 2048 + 2048
      rw [(index3 t).2]; omega

/-! ## The host's cuts -/

theorem cut_latent (c : Dev nD) : extf .f32 (extractStridedSlice S4096x2048 ![0, 0] (normed m c) slices_S4352x2048_S4096x2048_0_0)
    bitsLt_bf16_f32 = normX m c := by
  funext i
  obtain ⟨r, l, rfl⟩ : ∃ (r : Fin 4096) (l : Fin 2048), i = ix2 r l := ⟨i 0, i 1, eq_ix2 i⟩
  rw [← normed_latent]
  generalize normed m c = y
  pointwise

theorem cut_context (c : Dev nD) : extf .f32 (extractStridedSlice S256x2048 ![4096, 0] (normed m c) slices_S4352x2048_S256x2048_4096_0)
    bitsLt_bf16_f32 = normC m c := by
  funext i
  obtain ⟨r, l, rfl⟩ : ∃ (r : Fin 256) (l : Fin 2048), i = ix2 r l := ⟨i 0, i 1, eq_ix2 i⟩
  rw [← normed_context]
  generalize normed m c = y
  pointwise

theorem after_v11 (c : Dev nD) :
    Pipeline.afterTail₀ cfgs (dats m) 0 (V0 m) [hostOps1] c main_v11 = normX m c := by
  refine Eq.trans ?_ (cut_latent m c)
  unfold Pipeline.afterTail₀
  simp only [hostOps1, List.flatten_cons, List.flatten_nil, List.append_nil, List.cons_append, List.nil_append]
  after_results_simp
  erw [Pipeline.withArrays_arr spec0 (by decide) c _ _ 3]
  exact congrArg (fun z : FVec Ideal S4352x2048 .bf16 =>
    (extf .f32 (extractStridedSlice S4096x2048 ![0, 0] z slices_S4352x2048_S4096x2048_0_0) bitsLt_bf16_f32 : FVec Ideal S4096x2048 .f32))
    (final m c)

theorem after_v13 (c : Dev nD) :
    Pipeline.afterTail₀ cfgs (dats m) 0 (V0 m) [hostOps1] c main_v13 = normC m c := by
  refine Eq.trans ?_ (cut_context m c)
  unfold Pipeline.afterTail₀
  simp only [hostOps1, List.flatten_cons, List.flatten_nil, List.append_nil, List.cons_append, List.nil_append]
  after_results_simp
  erw [Pipeline.withArrays_arr spec0 (by decide) c _ _ 3]
  exact congrArg (fun z : FVec Ideal S4352x2048 .bf16 =>
    (extf .f32 (extractStridedSlice S256x2048 ![4096, 0] z slices_S4352x2048_S256x2048_4096_0) bitsLt_bf16_f32 : FVec Ideal S256x2048 .f32))
    (final m c)

/-- The kernel's run: the two results, the arguments unchanged. -/
theorem run : θ_run defs (onTc (τ := τ) (main (F := Ideal))) ⟨m, fun _ => 0, ρ⟩ fun r => ∀ c : Dev nD,
      r.2.mem ((c.tc : Thread nD τ).loc main_v11) = normX m c
      ∧ r.2.mem ((c.tc : Thread nD τ).loc main_v13) = normC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨((h.1 c).2 main_v11 (Pipeline.mem_restRefs_of main_v11 (by decide) (by decide))).trans (after_v11 m c),
        ((h.1 c).2 main_v13 (Pipeline.mem_restRefs_of main_v13 (by decide) (by decide))).trans (after_v13 m c), h.2 c⟩)
    (θ_run_and (run_main m ρ) (unchanged m ρ))

/-! ## The reference's terms -/

section Reference

open Cert.Reference13Ideal.Read

theorem latent_mean (x : FVec Ideal S4096x2048 .f32) (r : Fin 4096) :
    val_main_v3 (F := Ideal) x (ix2 r 0) = mean (fun k => x (ix2 r k)) := by
  pointwise [val_main_v3, val_main_v2, val_main_v1, val_main_v0, val_main_cst, val_main_cst_0, mean]

theorem latent_cen (x : FVec Ideal S4096x2048 .f32) (r : Fin 4096) (l : Fin 2048) :
    val_main_v5 (F := Ideal) x (ix2 r l) = cen (fun k => x (ix2 r k)) l := by
  pointwise [val_main_v5, val_main_v4]
  exact congrArg (x (ix2 r l) - ·) (latent_mean x r)

theorem latent_scl (x : FVec Ideal S4096x2048 .f32) (r : Fin 4096) :
    val_main_v15 (F := Ideal) x (ix2 r 0) = scl (fun k => x (ix2 r k)) := by
  pointwise [val_main_v15, val_main_v14, val_main_v13, val_main_v10, val_main_v9, val_main_v8, val_main_v7, val_main_v6, val_main_cst_1, val_main_cst_2, val_main_cst_3, scl]
  simp only [latent_cen]

theorem latent_eq (x : FVec Ideal S4096x2048 .f32) (shift scale : FVec Ideal S2048 .f32) (r : Fin 4096) (l : Fin 2048) :
    val_main_v25 (F := Ideal) x shift scale (ix2 r l)
      = modulated (fun k => x (ix2 r k)) (shift (ix1 l)) (scale (ix1 l)) l := by
  pointwise [val_main_v25, val_main_v24, val_main_v23, val_main_v22, val_main_v21, val_main_v20, val_main_v19, val_main_v18, val_main_v17, val_main_v16, val_main_v12, val_main_v11,
    val_main_cst_4, modulated]
  simp only [latent_mean, latent_scl]
  rfl

theorem context_mean (x : FVec Ideal S256x2048 .f32) (r : Fin 256) :
    val_main_v29 (F := Ideal) x (ix2 r 0) = mean (fun k => x (ix2 r k)) := by
  pointwise [val_main_v29, val_main_v28, val_main_v27, val_main_v26, val_main_cst_5, val_main_cst_6, mean]

theorem context_cen (x : FVec Ideal S256x2048 .f32) (r : Fin 256) (l : Fin 2048) :
    val_main_v31 (F := Ideal) x (ix2 r l) = cen (fun k => x (ix2 r k)) l := by
  pointwise [val_main_v31, val_main_v30]
  exact congrArg (x (ix2 r l) - ·) (context_mean x r)

theorem context_scl (x : FVec Ideal S256x2048 .f32) (r : Fin 256) :
    val_main_v41 (F := Ideal) x (ix2 r 0) = scl (fun k => x (ix2 r k)) := by
  pointwise [val_main_v41, val_main_v40, val_main_v39, val_main_v36, val_main_v35, val_main_v34, val_main_v33, val_main_v32, val_main_cst_7, val_main_cst_8, val_main_cst_9, scl]
  simp only [context_cen]

theorem context_eq (x : FVec Ideal S256x2048 .f32) (shift scale : FVec Ideal S2048 .f32) (r : Fin 256) (l : Fin 2048) :
    val_main_v51 (F := Ideal) x shift scale (ix2 r l)
      = modulated (fun k => x (ix2 r k)) (shift (ix1 l)) (scale (ix1 l)) l := by
  pointwise [val_main_v51, val_main_v50, val_main_v49, val_main_v48, val_main_v47, val_main_v46, val_main_v45, val_main_v44, val_main_v43, val_main_v42, val_main_v38, val_main_v37,
    val_main_cst_10, modulated]
  simp only [context_mean, context_scl]
  rfl

end Reference

end Cert.Kernel13Ideal.ModNorm

/-- The claim: over the extended reals the kernel's two results are the reference's. -/
theorem Cert.ModNorm.algebraic : Cert.algebraic_Kernel13Ideal_Reference13Ideal := by
  intro m g m' g' _ hargs
  refine ⟨fun c => Cert.Kernel13Ideal.ModNorm.normX m c, fun c => Cert.Kernel13Ideal.ModNorm.normC m c,
    Cert.Kernel13Ideal.ModNorm.run m g, ?_⟩
  refine (θ_run _ _ _).mono (fun r h c => ?_) (Cert.Reference13Ideal.Value.run (F := Ideal) m' g')
  obtain ⟨e0, e1, kept⟩ := h c
  obtain ⟨a0, a1, a2, a3, a4, a5⟩ := hargs c
  refine ⟨e0.trans ((Cert.Reference13Ideal.Read.val_main_v25_eq _ _ _).symm.trans ?_),
    e1.trans ((Cert.Reference13Ideal.Read.val_main_v51_eq _ _ _).symm.trans ?_), kept⟩
  · funext i
    obtain ⟨b, a, rfl⟩ : ∃ (b : Fin 4096) (a : Fin 2048), i = ix2 b a := ⟨i 0, i 1, eq_ix2 i⟩
    rw [a0, a2, a3]
    exact Cert.Kernel13Ideal.ModNorm.latent_eq _ _ _ b a
  · funext i
    obtain ⟨b, a, rfl⟩ : ∃ (b : Fin 256) (a : Fin 2048), i = ix2 b a := ⟨i 0, i 1, eq_ix2 i⟩
    rw [a1, a4, a5]
    exact Cert.Kernel13Ideal.ModNorm.context_eq _ _ _ b a

end
-- ==== Proof.SumDevices.lean ====
/-
  The sum of the devices' small gradients (programs `Kernel14Ideal` and `Reference14Ideal`).

  Eight devices' blocks of 24 rows are added one after the other; the first three rows of the sum then have the next three added to
  them; and each row is summed over its columns into the second output, of which the loss's row is read. The reference takes
  the sum over the devices, the two parts of its first rows, and the sum of the loss's row. A sum over the extended reals does
  not depend on how its terms are grouped, so nothing is assumed.
-/
module

public import proofs.«01_k».proof.Proof.Gen.Kernel14Ideal.Frame
public import proofs.«01_k».proof.Proof.Gen.Reference14Ideal.Run
public import proofs.«01_k».proof.Proof.Gen.Reference14Ideal.Read
public import proofs.«01_k».proof.Defs
public import Idealize.ShloMosaic.Lib.Pipeline.Value
public import Idealize.ShloMosaic.Lib.Pointwise
public import Idealize.ShloMosaic.Lib.StableHlo.Run
public import Idealize.ShloMosaic.Lib.Tactic
public import Idealize.ShloMosaic.Lib.KernelVsHost
public import Idealize.ShloMosaic.Lib.WritesUnit
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.Kernel14Ideal.SumDevices

open Cert.Kernel14Ideal Cert.Kernel14Ideal.Gen

/-- The devices' sum at one entry. -/
def total (x : FVec Ideal S8x24x2048 .f32) (r : Fin 24) (l : Fin 2048) : EReal := ∑ d : Fin 8, x (ix3 d r l)

/-- The row three further on. -/
def third (r : Fin 24) (h : r.val < 3) : Fin 24 := ⟨r.val + 3, by omega⟩

/-- An entry of the first result: in the first three rows two rows of the sum added. -/
def entry (x : FVec Ideal S8x24x2048 .f32) (r : Fin 24) (l : Fin 2048) : EReal :=
  if h : r.val < 3 then total x r l + total x (third r h) l else total x r l

/-! ## The values the body stores -/

/-- Device `d`'s rows. -/
def rows (x : Vec Ideal S8x24x2048 .f32) (d : Fin 8) : Vec Ideal S1x24x2048 .f32 := fun i => x (ix3 d (i 1) (i 2))

/-- The sum as the body takes it. -/
def summed (x : Vec Ideal S8x24x2048 .f32) : FVec Ideal S24x2048 .f32 :=
  k0_pay2 (rows x 0) (rows x 1) (rows x 2) (rows x 3) (rows x 4) (rows x 5) (rows x 6) (rows x 7)

theorem summed_apply (x : Vec Ideal S8x24x2048 .f32) (r : Fin 24) (l : Fin 2048) : summed x (ix2 r l) = total x r l := by
  have e : ∀ d, rows x d (ix3 0 r l) = x (ix3 d r l) := fun d => rfl
  have s : total x r l = x (ix3 0 r l) + x (ix3 1 r l) + x (ix3 2 r l) + x (ix3 3 r l) + x (ix3 4 r l) + x (ix3 5 r l)
      + x (ix3 6 r l) + x (ix3 7 r l) := by
    unfold total
    rw [Fin.sum_univ_eight]
  rw [s, ← e 0, ← e 1, ← e 2, ← e 3, ← e 4, ← e 5, ← e 6, ← e 7]
  unfold summed
  generalize rows x 0 = y0
  generalize rows x 1 = y1
  generalize rows x 2 = y2
  generalize rows x 3 = y3
  generalize rows x 4 = y4
  generalize rows x 5 = y5
  generalize rows x 6 = y6
  generalize rows x 7 = y7
  pointwise [k0_pay2]

theorem first_rows (y : FVec Ideal S24x2048 .f32) (r : Fin 24) (h : r.val < 3) (l : Fin 2048) :
    k0_pay1 y (ix2 ⟨r.val, h⟩ l) = y (ix2 r l) + y (ix2 (third r h) l) := by
  have e : third r h = ⟨3 + r.val, by omega⟩ := Fin.ext (Nat.add_comm _ _)
  rw [e]
  have q : r = ⟨r.val, by omega⟩ := rfl
  pointwise [k0_pay1]

theorem row_sums (x : Vec Ideal S8x24x2048 .f32) (r : Fin 24) (j : Fin 128) :
    k0_pay3 (rows x 0) (rows x 1) (rows x 2) (rows x 3) (rows x 4) (rows x 5) (rows x 6) (rows x 7) (ix2 r j)
      = ∑ l : Fin 2048, total x r l := by
  have e : ∀ l, total x r l = summed x (ix2 r l) := fun l => (summed_apply x r l).symm
  simp only [e]
  unfold k0_pay3
  show _ = ∑ l, (k0_pay2 (rows x 0) (rows x 1) (rows x 2) (rows x 3) (rows x 4) (rows x 5) (rows x 6) (rows x 7)) (ix2 r l)
  generalize k0_pay2 (rows x 0) (rows x 1) (rows x 2) (rows x 3) (rows x 4) (rows x 5) (rows x 6) (rows x 7) = y
  pointwise

/-! ## What the body leaves in its two outputs -/

theorem off0 : (![0, 0] : Fin 2 → Nat) = fun _ => 0 := funext fun a => by fin_cases a <;> rfl

theorem load (x : Vec Ideal S8x24x2048 .f32) (d : Fin 8) (off : Fin 3 → Nat) (h : off = ![d.val, 0, 0])
    (inb : ∀ a, off a + S1x24x2048.size a ≤ S8x24x2048.size a) :
    View.ld x (Rect.unit (s := S8x24x2048) off S1x24x2048.size inb) = rows x d := by
  subst h
  funext i
  refine View.ld_unit_apply_of x _ _ inb i (ix3 d (i 1) (i 2)) fun a => ?_
  match a with
  | ⟨0, _⟩ => have h : (i 0).val < 1 := (i 0).isLt; show d.val = d.val + (i 0).val; omega
  | ⟨1, _⟩ => show (i 1).val = 0 + (i 1).val; omega
  | ⟨2, _⟩ => show (i 2).val = 0 + (i 2).val; omega

/-- A store of the whole block, then one of its first three rows: the later one is read in those rows. -/
theorem overlaid (v : View sig .tc .vmem S24x2048 .f32) (f : v.ty.Contents (Elt Ideal)) (p : S3x2048.Idx → EReal) (q : S24x2048.Idx → EReal)
    (r : Fin 24) (l : Fin 2048) :
    v.read (Elt Ideal) (v.writes (Elt Ideal) f
        [⟨Rect.unit (s := S24x2048) ![0, 0] S3x2048.size inb_S24x2048_S3x2048_0_0, p⟩,
          ⟨Rect.unit (s := S24x2048) ![0, 0] S24x2048.size inb_S24x2048_S24x2048_0_0, q⟩]) (ix2 r l)
      = if h : r.val < 3 then p (ix2 ⟨r.val, h⟩ l) else q (ix2 r l) := by
  by_cases h : r.val < 3
  · rw [dif_pos h]
    exact View.read_writes_cons_unit_of_mem (off' := ![0, 0]) v f inb_S24x2048_S3x2048_0_0 p _ (ix2 r l) (ix2 ⟨r.val, h⟩ l) rfl fun a => by
      match a with
      | ⟨0, _⟩ => show r.val = 0 + r.val; omega
      | ⟨1, _⟩ => show l.val = 0 + l.val; omega
  · rw [dif_neg h]
    refine (View.read_writes_cons_unit_of_not_mem (off' := ![0, 0]) v f inb_S24x2048_S3x2048_0_0 p _ (ix2 r l) rfl 0 (Or.inr ?_)).trans ?_
    · show 0 + 3 ≤ r.val; omega
    · exact View.read_writes_cons_unit_of_mem (off' := ![0, 0]) v f inb_S24x2048_S24x2048_0_0 q _ (ix2 r l) (ix2 r l) rfl fun a => by
        match a with
        | ⟨0, _⟩ => show r.val = 0 + r.val; omega
        | ⟨1, _⟩ => show l.val = 0 + l.val; omega

theorem whole (v : View sig .tc .vmem S24x128 .f32) (f : v.ty.Contents (Elt Ideal)) (q : S24x128.Idx → EReal) (r : Fin 24) (j : Fin 128) :
    v.read (Elt Ideal) (v.writes (Elt Ideal) f
        [⟨Rect.unit (s := S24x128) ![0, 0] S24x128.size inb_S24x128_S24x128_0_0, q⟩]) (ix2 r j) = q (ix2 r j) :=
  View.read_writes_cons_unit_of_mem (off' := ![0, 0]) v f inb_S24x128_S24x128_0_0 q _ (ix2 r j) (ix2 r j) rfl fun a => by
    match a with
    | ⟨0, _⟩ => show r.val = 0 + r.val; omega
    | ⟨1, _⟩ => show j.val = 0 + j.val; omega

variable (c : Dev nD) (a0 : Memref sig .tc .vmem S8x24x2048 .f32) (h0 : a0.IsWhole) (a1 : Memref sig .tc .vmem S24x2048 .f32)
  (h1 : a1.IsWhole) (a2 : Memref sig .tc .vmem S24x128 .f32) (h2 : a2.IsWhole) (x : Vec Ideal S8x24x2048 .f32)

theorem sums_out (r : Fin 24) (l : Fin 2048) : out0_A_1 c a0 h0 a1 h1 a2 h2 x (ix2 r l) = entry x r l := by
  unfold out0_A_1
  unfold kernelRun0_A
  dsimp only
  sl_unfold_words
  simp only [View.readAt_eq_ld, h0.read_unread]
  rw [load x 0 ![0, 0, 0] rfl, load x 1 ![1, 0, 0] rfl, load x 2 ![2, 0, 0] rfl, load x 3 ![3, 0, 0] rfl, load x 4 ![4, 0, 0] rfl, load x 5 ![5, 0, 0] rfl, load x 6 ![6, 0, 0] rfl, load x 7 ![7, 0, 0] rfl]
  refine (overlaid _ _ (k0_pay1 (summed x)) (summed x) r l).trans ?_
  unfold entry
  by_cases h : r.val < 3
  · rw [dif_pos h, dif_pos h, first_rows, summed_apply, summed_apply]
  · rw [dif_neg h, dif_neg h, summed_apply]

theorem totals_out (r : Fin 24) (j : Fin 128) : out0_A_2 c a0 h0 a1 h1 a2 h2 x (ix2 r j) = ∑ l : Fin 2048, total x r l := by
  unfold out0_A_2
  unfold kernelRun0_A
  dsimp only
  sl_unfold_words
  simp only [View.readAt_eq_ld, h0.read_unread]
  rw [load x 0 ![0, 0, 0] rfl, load x 1 ![1, 0, 0] rfl, load x 2 ![2, 0, 0] rfl, load x 3 ![3, 0, 0] rfl, load x 4 ![4, 0, 0] rfl, load x 5 ![5, 0, 0] rfl, load x 6 ![6, 0, 0] rfl, load x 7 ![7, 0, 0] rfl]
  exact (whole _ _ _ r j).trans (row_sums x r j)

/-! ## The region -/

theorem index0 : ∀ t : Fin grid0.N, win0_0.index t 0 = 0 ∧ win0_0.index t 1 = 0 ∧ win0_0.index t 2 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem points : cfg0.N = 1 := by decide +kernel

variable (m : (ℓ : Loc nD τ sig) → Buf (Elt Ideal) ℓ) (ρ : Dev nD → PrngReg)

/-- The argument: the eight devices' rows. -/
def arg (c : Dev nD) : FVec Ideal S8x24x2048 .f32 := m ((c.tc : Thread nD τ).loc main_arg0)

def block (c : Dev nD) (t : Fin cfg0.N) : Vec Ideal S8x24x2048 .f32 := iblk m c 0 t

theorem block_eq (c : Dev nD) (t : Fin cfg0.N) : block m c t = arg m c := by
  funext i
  unfold block iblk
  rw [View.read_apply]
  show V m c main_arg0 _ = V m c main_arg0 _
  congr 1
  funext a
  apply Fin.ext
  match a with
  | ⟨0, _⟩ => show win0_0.index t 0 * 8 + 1 * (i 0).val = (i 0).val; rw [(index0 t).1]; omega
  | ⟨1, _⟩ => show win0_0.index t 1 * 24 + 1 * (i 1).val = (i 1).val; rw [(index0 t).2.1]; omega
  | ⟨2, _⟩ => show win0_0.index t 2 * 2048 + 1 * (i 2).val = (i 2).val; rw [(index0 t).2.2]; omega

/-- The two results of the call. -/
def sums (c : Dev nD) : FVec Ideal S24x2048 .f32 := fun i => entry (arg m c) (i 0) (i 1)
def totals (c : Dev nD) : FVec Ideal S24x128 .f32 := fun i => ∑ l : Fin 2048, total (arg m c) (i 0) l

theorem left1 (c : Dev nD) (t : Fin cfg0.N) : (outsAt0 m c t).1 = sums m c := by
  funext i
  obtain ⟨r, l, rfl⟩ : ∃ (r : Fin 24) (l : Fin 2048), i = ix2 r l := ⟨i 0, i 1, eq_ix2 i⟩
  unfold outsAt0
  dsimp only
  refine (sums_out c _ _ _ _ _ _ (block m c t) r l).trans ?_
  rw [block_eq]; rfl

theorem left2 (c : Dev nD) (t : Fin cfg0.N) : (outsAt0 m c t).2 = totals m c := by
  funext i
  obtain ⟨r, j, rfl⟩ : ∃ (r : Fin 24) (j : Fin 128), i = ix2 r j := ⟨i 0, i 1, eq_ix2 i⟩
  unfold outsAt0
  dsimp only
  refine (totals_out c _ _ _ _ _ _ (block m c t) r j).trans ?_
  rw [block_eq]; rfl

theorem flushed1 (c : Dev nD) (t : Fin cfg0.N) (hf : (cfg0.win 1).flush t = true) :
    (dats m 0 c).flushed 1 t = ((cfg0.win 1).blk t).view.read (Elt Ideal) (sums m c) := by
  have p := left1 m c t
  generalize sums m c = N at p ⊢
  show (cfg0.win 1).cut (grid0.coords t) ((dats m 0 c).after 1 t) = _
  rw [after0_1]
  show (outsAt0 m c t).1 = (_ : S24x2048.Idx → EReal)
  rw [p]
  funext x
  rw [View.read_apply]
  show N _ = N _
  congr 1
  funext a
  apply Fin.ext
  match a with
  | ⟨0, _⟩ => show (x 0).val = win0_1.index t 0 * 24 + 1 * (x 0).val; rw [(index1 t).1]; omega
  | ⟨1, _⟩ => show (x 1).val = win0_1.index t 1 * 2048 + 1 * (x 1).val; rw [(index1 t).2]; omega

theorem flushed2 (c : Dev nD) (t : Fin cfg0.N) (hf : (cfg0.win 2).flush t = true) :
    (dats m 0 c).flushed 2 t = ((cfg0.win 2).blk t).view.read (Elt Ideal) (totals m c) := by
  have p := left2 m c t
  generalize totals m c = N at p ⊢
  show (cfg0.win 2).cut (grid0.coords t) ((dats m 0 c).after 2 t) = _
  rw [after0_2]
  show (outsAt0 m c t).2 = (_ : S24x128.Idx → EReal)
  rw [p]
  funext x
  rw [View.read_apply]
  show N _ = N _
  congr 1
  funext a
  apply Fin.ext
  match a with
  | ⟨0, _⟩ => show (x 0).val = win0_2.index t 0 * 24 + 1 * (x 0).val; rw [(index2 t).1]; omega
  | ⟨1, _⟩ => show (x 1).val = win0_2.index t 1 * 128 + 1 * (x 1).val; rw [(index2 t).2]; omega

theorem final1 (c : Dev nD) : (dats m 0 c).arrAt 1 cfg0.N = sums m c :=
  (dats m 0 c).arrAt_eq_of_cover 1 (sums m c) (flushed1 m c) fun i => by
    have h0 : (i 0 : Nat) < 24 := (i 0).isLt
    have h1 : (i 1 : Nat) < 2048 := (i 1).isLt
    let t : Fin cfg0.N := ⟨0, by rw [points]; omega⟩
    refine ⟨t, flush0_1 t, ?_⟩
    show i ∈ ((View.whole main_v0_0).slice (win0_1.rect t)).set
    rw [View.set_slice_whole, Rect.mem_set_unit]
    intro a
    match a with
    | ⟨0, _⟩ =>
      show win0_1.index t 0 * 24 ≤ (i 0 : Nat) ∧ (i 0 : Nat) < win0_1.index t 0 * 24 + 24
      rw [(index1 t).1]; omega
    | ⟨1, _⟩ =>
      show win0_1.index t 1 * 2048 ≤ (i 1 : Nat) ∧ (i 1 : Nat) < win0_1.index t 1 * 2048 + 2048
      rw [(index1 t).2]; omega

theorem final2 (c : Dev nD) : (dats m 0 c).arrAt 2 cfg0.N = totals m c :=
  (dats m 0 c).arrAt_eq_of_cover 2 (totals m c) (flushed2 m c) fun i => by
    have h0 : (i 0 : Nat) < 24 := (i 0).isLt
    have h1 : (i 1 : Nat) < 128 := (i 1).isLt
    let t : Fin cfg0.N := ⟨0, by rw [points]; omega⟩
    refine ⟨t, flush0_2 t, ?_⟩
    show i ∈ ((View.whole main_v0_1).slice (win0_2.rect t)).set
    rw [View.set_slice_whole, Rect.mem_set_unit]
    intro a
    match a with
    | ⟨0, _⟩ =>
      show win0_2.index t 0 * 24 ≤ (i 0 : Nat) ∧ (i 0 : Nat) < win0_2.index t 0 * 24 + 24
      rw [(index2 t).1]; omega
    | ⟨1, _⟩ =>
      show win0_2.index t 1 * 128 ≤ (i 1 : Nat) ∧ (i 1 : Nat) < win0_2.index t 1 * 128 + 128
      rw [(index2 t).2]; omega

/-- The loss: one entry of the second output. -/
def loss (c : Dev nD) : FVec Ideal S_ .f32 :=
  shapeCast S_ (extractStridedSlice S1x1 ![21, 0] (totals m c) slices_S24x128_S1x1_21_0) shapeCasts_S1x1_S_

theorem loss_apply (c : Dev nD) (i : S_.Idx) : loss m c i = ∑ l : Fin 2048, total (arg m c) 21 l := by
  have e : loss m c i = totals m c (ix2 21 0) := by
    unfold loss
    generalize totals m c = y
    pointwise
  rw [e]; rfl

theorem after_v2 (c : Dev nD) :
    Pipeline.afterTail₀ cfgs (dats m) 0 (V0 m) [hostOps1] c main_v2 = loss m c := by
  unfold Pipeline.afterTail₀
  simp only [hostOps1, List.flatten_cons, List.flatten_nil, List.append_nil, List.cons_append, List.nil_append]
  after_results_simp
  erw [Pipeline.withArrays_arr spec0 (by decide) c _ _ 2]
  exact congrArg (fun z : FVec Ideal S24x128 .f32 => shapeCast S_ (extractStridedSlice S1x1 ![21, 0] z slices_S24x128_S1x1_21_0)
    shapeCasts_S1x1_S_) (final2 m c)

/-- The kernel's run: the sums, the loss, the argument unchanged. -/
theorem run : θ_run defs (onTc (τ := τ) (main (F := Ideal))) ⟨m, fun _ => 0, ρ⟩ fun r => ∀ c : Dev nD,
      r.2.mem ((c.tc : Thread nD τ).loc main_v0_0) = sums m c
      ∧ r.2.mem ((c.tc : Thread nD τ).loc main_v2) = loss m c
      ∧ r.2.mem ((c.tc : Thread nD τ).loc main_arg0) = m ((c.tc : Thread nD τ).loc main_arg0) :=
  (θ_run defs _ _).mono (fun r h c =>
      ⟨((h.1 c).1 1).trans (final1 m c),
        ((h.1 c).2 main_v2 (Pipeline.mem_restRefs_of main_v2 (by decide) (by decide))).trans (after_v2 m c), h.2 c⟩)
    (θ_run_and (run_main m ρ) (unchanged m ρ))

/-! ## The reference's terms -/

section Reference

open Cert.Reference14Ideal.Read

theorem reference_total (x : FVec Ideal S8x24x2048 .f32) (r : Fin 24) (l : Fin 2048) :
    val_main_v0 (F := Ideal) x (ix2 r l) = total x r l := by
  pointwise [val_main_v0, val_main_cst, total]

theorem reference_sums (x : FVec Ideal S8x24x2048 .f32) (r : Fin 24) (l : Fin 2048) :
    val_main_v5 (F := Ideal) x (ix2 r l) = entry x r l := by
  unfold entry
  by_cases h : r.val < 3
  · rw [dif_pos h, ← reference_total, ← reference_total]
    unfold val_main_v5
    refine (concatenate_pair_apply_left (t := S24x2048) (s₁ := S3x2048) (s₂ := Cert.Reference14Ideal.S21x2048) 0 _ _ _ (ix2 r l) rfl (ix2 (⟨r.val, h⟩ : Fin 3) l) fun a => by
      match a with
      | ⟨0, _⟩ => rfl
      | ⟨1, _⟩ => rfl).trans ?_
    unfold val_main_v3 val_main_v1 val_main_v2
    generalize val_main_v0 (F := Ideal) x = y
    exact first_rows y r h l
  · rw [dif_neg h, ← reference_total]
    have hr : r.val < 24 := r.isLt
    unfold val_main_v5 val_main_v4
    generalize val_main_v3 (F := Ideal) x = z
    generalize val_main_v0 (F := Ideal) x = y
    refine (concatenate_pair_apply _ _ _ _ _).trans ?_
    rw [dif_neg (by exact h)]
    refine (extractStridedSlice_apply ![3, 0] y _ _ (ix2 r l) fun a => ?_)
    match a with
    | ⟨0, _⟩ => show r.val = 3 + (r.val - 3); omega
    | ⟨1, _⟩ => show l.val = 0 + l.val; omega

theorem reference_loss (x : FVec Ideal S8x24x2048 .f32) (i : S_.Idx) :
    val_main_v8 (F := Ideal) x i = ∑ l : Fin 2048, total x 21 l := by
  have e : ∀ l, total x 21 l = val_main_v0 (F := Ideal) x (ix2 21 l) := fun l => (reference_total x 21 l).symm
  simp only [e]
  unfold val_main_v8 val_main_v7 val_main_v6
  generalize val_main_v0 (F := Ideal) x = y
  pointwise [val_main_cst_0]

end Reference

end Cert.Kernel14Ideal.SumDevices

open Cert.Kernel14Ideal.SumDevices in
/-- The claim: the kernel's sums and loss over the extended reals are the reference's. -/
theorem Cert.SumDevices.algebraic : Cert.algebraic_Kernel14Ideal_Reference14Ideal := by
  intro m g m' g' _ hargs
  refine ⟨fun c => sums m c, fun c => loss m c, run m g, ?_⟩
  refine (θ_run _ _ _).mono (fun r h c => ?_) (Cert.Reference14Ideal.Value.run (F := Ideal) m' g')
  obtain ⟨e0, e1, kept⟩ := h c
  have a0 := hargs c
  refine ⟨e0.trans ((Cert.Reference14Ideal.Read.val_main_v5_eq _).trans ?_),
    e1.trans ((Cert.Reference14Ideal.Read.val_main_v8_eq _).trans ?_), kept⟩
  · funext i
    obtain ⟨r, l, rfl⟩ : ∃ (r : Fin 24) (l : Fin 2048), i = ix2 r l := ⟨i 0, i 1, eq_ix2 i⟩
    rw [a0]
    exact reference_sums (arg m c) r l
  · funext i
    rw [a0]
    exact (reference_loss (arg m c) i).trans (loss_apply m c i).symm

end
-- ==== Proof.PostNormBody.lean ====
/-
  The inner norms and gates of the forward pass, one block of 256 rows (program `Kernel15Ideal`).

  The first half of a row is the sum of the two directions of the first recurrence, normed head by head (8 heads of 128
  columns, by the root of the mean square), times the norm's weight, times SiLU of the gate. The second half is the sum of
  the two directions of the second recurrence, normed head by head (4 heads of 256 columns, mean taken out first), times the
  weight, times the logistic function of one gate, times SiLU of another. This module reads the block the kernel stores.
-/
module

public import proofs.«01_k».proof.Proof.Gen.Kernel15Ideal.Frame
public import Idealize.ShloMosaic.Lib.Pipeline.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel15Ideal.PostNorm

open Cert.Kernel15Ideal Cert.Kernel15Ideal.Gen

/-! ## One row -/

/-- A head of 128 columns over the root of its mean square. -/
def rms (f : Fin 128 → EReal) (l : Fin 128) : EReal :=
  f l * Ideal.rsqrt (Ideal.div (∑ k, f k * f k) (Ideal.ofBits .f32 0x43000000#32) + Ideal.ofBits .f32 0x358637BD#32)

/-- A head of 256 columns without its mean. -/
def cen (f : Fin 256 → EReal) (l : Fin 256) : EReal := f l - Ideal.div (∑ k, f k) (Ideal.ofBits .f32 0x43800000#32)
/-- The same over the root of its variance. -/
def lnorm (f : Fin 256 → EReal) (l : Fin 256) : EReal :=
  cen f l * Ideal.rsqrt (Ideal.div (∑ k, cen f k * cen f k) (Ideal.ofBits .f32 0x43800000#32) + Ideal.ofBits .f32 0x358637BD#32)

/-- SiLU. -/
def act (x : EReal) : EReal := x * Ideal.logistic x

/-- The columns of the head column `j` lies in. -/
def headA (f : Fin 1024 → EReal) (h : Fin 8) (k : Fin 128) : EReal := f ⟨h.val * 128 + k.val, by omega⟩
def headB (f : Fin 1024 → EReal) (h : Fin 4) (k : Fin 256) : EReal := f ⟨h.val * 256 + k.val, by omega⟩

/-- The first half of a row. -/
def halfA (f : Fin 1024 → EReal) (w z : EReal) (j : Fin 1024) : EReal :=
  rms (headA f ⟨j.val / 128, by omega⟩) ⟨j.val % 128, by omega⟩ * w * act z
/-- The second half of a row. -/
def halfB (g : Fin 1024 → EReal) (w b z : EReal) (j : Fin 1024) : EReal :=
  lnorm (headB g ⟨j.val / 256, by omega⟩) ⟨j.val % 256, by omega⟩ * w * Ideal.logistic b * act z

/-! ## The body's blocks -/

/-- The 128 columns of head `h`. -/
def colsA (y : FVec Ideal S256x1024 .f32) (h : Fin 8) : FVec Ideal S256x128 .f32 := fun i =>
  y (ix2 (i 0) ⟨h.val * 128 + (i 1).val, by have h1 : (i 1).val < 128 := (i 1).isLt; omega⟩)
/-- The 256 columns of head `h`. -/
def colsB (y : FVec Ideal S256x1024 .f32) (h : Fin 4) : FVec Ideal S256x256 .f32 := fun i =>
  y (ix2 (i 0) ⟨h.val * 256 + (i 1).val, by have h1 : (i 1).val < 256 := (i 1).isLt; omega⟩)

theorem slice_A (y : FVec Ideal S256x1024 .f32) (h : Fin 8) (o : Nat) (ho : o = h.val * 128)
    (hs : S256x1024.Slices ![0, o] S256x128) : extractStridedSlice S256x128 ![0, o] y hs = colsA y h := by
  subst ho
  funext i
  exact extractStridedSlice_apply _ y hs i _ (fun a => match a with
    | ⟨0, _⟩ => by show (i 0).val = 0 + (i 0).val; omega
    | ⟨1, _⟩ => by show h.val * 128 + (i 1).val = h.val * 128 + (i 1).val; rfl)

theorem slice_B (y : FVec Ideal S256x1024 .f32) (h : Fin 4) (o : Nat) (ho : o = h.val * 256)
    (hs : S256x1024.Slices ![0, o] S256x256) : extractStridedSlice S256x256 ![0, o] y hs = colsB y h := by
  subst ho
  funext i
  exact extractStridedSlice_apply _ y hs i _ (fun a => match a with
    | ⟨0, _⟩ => by show (i 0).val = 0 + (i 0).val; omega
    | ⟨1, _⟩ => by show h.val * 256 + (i 1).val = h.val * 256 + (i 1).val; rfl)

/-- Each row of 128 columns over the root of its mean square. -/
def rmsBlock (x : FVec Ideal S256x128 .f32) : FVec Ideal S256x128 .f32 :=
  mulf x (broadcastTo S256x128 (rsqrt (addf (divf
    (shapeCast S256x1 (multiReduction .add [1] S256 (mulf x x) 0x00000000#32 reduces_S256x128_S256 (.inl rfl) rfl) shapeCasts_S256_S256x1)
    (broadcast S256x1 (Scalar.ofBits .f32 0x43000000#32 : Ideal .f32))) (broadcast S256x1 (Scalar.ofBits .f32 0x358637BD#32 : Ideal .f32))))
    broadcasts_S256x1_S256x128)

/-- Each row of 256 columns without its mean. -/
def cenBlock (x : FVec Ideal S256x256 .f32) : FVec Ideal S256x256 .f32 :=
  subf x (broadcastTo S256x256 (divf
    (shapeCast S256x1 (multiReduction .add [1] S256 x 0x00000000#32 reduces_S256x256_S256 (.inl rfl) rfl) shapeCasts_S256_S256x1)
    (broadcast S256x1 (Scalar.ofBits .f32 0x43800000#32 : Ideal .f32))) broadcasts_S256x1_S256x256)

/-- A block over the root of its rows' mean squares. -/
def scaledBlock (x : FVec Ideal S256x256 .f32) : FVec Ideal S256x256 .f32 :=
  mulf x (broadcastTo S256x256 (rsqrt (addf (divf
    (shapeCast S256x1 (multiReduction .add [1] S256 (mulf x x) 0x00000000#32 reduces_S256x256_S256 (.inl rfl) rfl) shapeCasts_S256_S256x1)
    (broadcast S256x1 (Scalar.ofBits .f32 0x43800000#32 : Ideal .f32))) (broadcast S256x1 (Scalar.ofBits .f32 0x358637BD#32 : Ideal .f32))))
    broadcasts_S256x1_S256x256)

theorem rmsBlock_apply (x : FVec Ideal S256x128 .f32) (r : Fin 256) (l : Fin 128) :
    rmsBlock x (ix2 r l) = rms (fun k => x (ix2 r k)) l := by
  pointwise [rmsBlock, rms]

theorem cenBlock_apply (x : FVec Ideal S256x256 .f32) (r : Fin 256) (l : Fin 256) :
    cenBlock x (ix2 r l) = cen (fun k => x (ix2 r k)) l := by
  pointwise [cenBlock, cen]

theorem scaledBlock_apply (x : FVec Ideal S256x256 .f32) (r : Fin 256) (l : Fin 256) :
    scaledBlock x (ix2 r l) = x (ix2 r l) * Ideal.rsqrt (Ideal.div (∑ k, x (ix2 r k) * x (ix2 r k)) (Ideal.ofBits .f32 0x43800000#32)
      + Ideal.ofBits .f32 0x358637BD#32) := by
  pointwise [scaledBlock]

theorem lnorm_apply (x : FVec Ideal S256x256 .f32) (r : Fin 256) (l : Fin 256) :
    scaledBlock (cenBlock x) (ix2 r l) = lnorm (fun k => x (ix2 r k)) l := by
  rw [scaledBlock_apply]
  simp only [cenBlock_apply]
  rfl

/-- Eight blocks side by side, at one column. -/
theorem eight_apply (f : Fin 8 → FVec Ideal S256x128 .f32)
    (hc : Shape.Concatenates [S256x128, S256x128, S256x128, S256x128, S256x128, S256x128, S256x128, S256x128] S256x1024 1)
    (r : Fin 256) (j : Fin 1024) :
    concatenate S256x1024 1 [⟨S256x128, f 0⟩, ⟨S256x128, f 1⟩, ⟨S256x128, f 2⟩, ⟨S256x128, f 3⟩, ⟨S256x128, f 4⟩, ⟨S256x128, f 5⟩,
        ⟨S256x128, f 6⟩, ⟨S256x128, f 7⟩] hc (ix2 r j)
      = f ⟨j.val / 128, by omega⟩ (ix2 r ⟨j.val % 128, by omega⟩) :=
  concatenate_ofFn_apply (t := S256x1024) (s₁ := S256x128) 1 f hc rfl 128 rfl (ix2 r j) ⟨j.val / 128, by omega⟩ rfl
    (ix2 r ⟨j.val % 128, by omega⟩) rfl (fun b hb => match b, hb with
      | ⟨0, _⟩, _ => rfl
      | ⟨1, _⟩, hb => absurd rfl hb)

/-- Four blocks side by side, at one column. -/
theorem four_apply (f : Fin 4 → FVec Ideal S256x256 .f32)
    (hc : Shape.Concatenates [S256x256, S256x256, S256x256, S256x256] S256x1024 1) (r : Fin 256) (j : Fin 1024) :
    concatenate S256x1024 1 [⟨S256x256, f 0⟩, ⟨S256x256, f 1⟩, ⟨S256x256, f 2⟩, ⟨S256x256, f 3⟩] hc (ix2 r j)
      = f ⟨j.val / 256, by omega⟩ (ix2 r ⟨j.val % 256, by omega⟩) :=
  concatenate_ofFn_apply (t := S256x1024) (s₁ := S256x256) 1 f hc rfl 256 rfl (ix2 r j) ⟨j.val / 256, by omega⟩ rfl
    (ix2 r ⟨j.val % 256, by omega⟩) rfl (fun b hb => match b, hb with
      | ⟨0, _⟩, _ => rfl
      | ⟨1, _⟩, hb => absurd rfl hb)

/-! ## The stored halves -/

section Halves

variable (y : FVec Ideal S256x1024 .f32) (a b : Vec Ideal S256x1024 .f32)

theorem head0 : k0_pay3 a b = rmsBlock (colsA (k0_pay2 a b) 0) := by
  rw [← slice_A _ 0 0 rfl slices_S256x1024_o0_0_S256x128]; rfl
theorem head1 : k0_pay4 a b = rmsBlock (colsA (k0_pay2 a b) 1) := by
  rw [← slice_A _ 1 128 rfl slices_S256x1024_o0_128_S256x128]; rfl
theorem head2 : k0_pay7 (k0_pay5 a b) (k0_pay6 a b) = rmsBlock (colsA (k0_pay2 a b) 2) := by
  rw [← slice_A _ 2 256 rfl slices_S256x1024_o0_256_S256x128]; rfl
theorem head3 : k0_pay8 y = rmsBlock (colsA y 3) := by
  rw [← slice_A _ 3 384 rfl slices_S256x1024_o0_384_S256x128]; rfl
theorem head4 : k0_pay9 y = rmsBlock (colsA y 4) := by
  rw [← slice_A _ 4 512 rfl slices_S256x1024_o0_512_S256x128]; rfl
theorem head5 : k0_pay10 y = rmsBlock (colsA y 5) := by
  rw [← slice_A _ 5 640 rfl slices_S256x1024_o0_640_S256x128]; rfl

/-- The gated product of a normed half with the weight. -/
def gatedA (x z : FVec Ideal S256x1024 .f32) (w : FVec Ideal S1x1024 .f32) : FVec Ideal S256x1024 .f32 :=
  mulf (mulf x (broadcastTo S256x1024 w broadcasts_S1x1024_S256x1024)) (mulf z (logistic z))

theorem first_half_blocks (z : Vec Ideal S256x1024 .f32) (w : Vec Ideal S1x1024 .f32) (v20 v31 v42 v53 v64 v75 : FVec Ideal S256x128 .f32) :
    k0_pay14 z w y v20 v31 v42 v53 v64 v75 (k0_pay11 y) (k0_pay12 y) (k0_pay13 (F := Ideal))
      = gatedA (concatenate S256x1024 1 [⟨S256x128, v20⟩, ⟨S256x128, v31⟩, ⟨S256x128, v42⟩, ⟨S256x128, v53⟩, ⟨S256x128, v64⟩, ⟨S256x128, v75⟩,
          ⟨S256x128, rmsBlock (colsA y 6)⟩, ⟨S256x128, rmsBlock (colsA y 7)⟩]
          concatenates_S256x128_S256x128_S256x128_S256x128_S256x128_S256x128_S256x128_S256x128_S256x1024_d1) z w := by
  rw [← slice_A y 6 768 rfl slices_S256x1024_o0_768_S256x128, ← slice_A y 7 896 rfl slices_S256x1024_o0_896_S256x128]
  rfl

theorem gatedA_apply (x z : FVec Ideal S256x1024 .f32) (w : FVec Ideal S1x1024 .f32) (r : Fin 256) (j : Fin 1024) :
    gatedA x z w (ix2 r j) = x (ix2 r j) * w (ix2 0 j) * act (z (ix2 r j)) := by
  pointwise [gatedA, act]

theorem first_half (z : Vec Ideal S256x1024 .f32) (w : Vec Ideal S1x1024 .f32) (r : Fin 256) (j : Fin 1024) :
    k0_pay14 z w (k0_pay2 a b) (k0_pay3 a b) (k0_pay4 a b) (k0_pay7 (k0_pay5 a b) (k0_pay6 a b)) (k0_pay8 (k0_pay2 a b))
        (k0_pay9 (k0_pay2 a b)) (k0_pay10 (k0_pay2 a b)) (k0_pay11 (k0_pay2 a b)) (k0_pay12 (k0_pay2 a b)) (k0_pay13 (F := Ideal)) (ix2 r j)
      = halfA (fun k => a (ix2 r k) + b (ix2 r k)) (w (ix2 0 j)) (z (ix2 r j)) j := by
  rw [head0, head1, head2, head3, head4, head5, first_half_blocks, gatedA_apply]
  rw [eight_apply (fun h => rmsBlock (colsA (k0_pay2 a b) h)), rmsBlock_apply]
  rfl

theorem tail0 : k0_pay16 a b = scaledBlock (cenBlock (colsB (k0_pay15 a b) 0)) := by
  rw [← slice_B _ 0 0 rfl slices_S256x1024_o0_0_S256x256]; rfl
theorem tail1 : k0_pay17 a b = cenBlock (colsB (k0_pay15 a b) 1) := by
  rw [← slice_B _ 1 256 rfl slices_S256x1024_o0_256_S256x256]; rfl

theorem second_half_blocks (w : Vec Ideal S1x1024 .f32) (v121 v128 : FVec Ideal S256x256 .f32) :
    k0_pay19 w y v121 v128 (mulf v128 v128)
      = mulf (concatenate S256x1024 1 [⟨S256x256, v121⟩, ⟨S256x256, scaledBlock v128⟩, ⟨S256x256, scaledBlock (cenBlock (colsB y 2))⟩,
          ⟨S256x256, scaledBlock (cenBlock (colsB y 3))⟩] concatenates_S256x256_S256x256_S256x256_S256x256_S256x1024_d1)
        (broadcastTo S256x1024 w broadcasts_S1x1024_S256x1024) := by
  rw [← slice_B y 2 512 rfl slices_S256x1024_o0_512_S256x256, ← slice_B y 3 768 rfl slices_S256x1024_o0_768_S256x256]
  rfl

theorem weighted_apply (x : FVec Ideal S256x1024 .f32) (w : FVec Ideal S1x1024 .f32) (r : Fin 256) (j : Fin 1024) :
    mulf x (broadcastTo S256x1024 w broadcasts_S1x1024_S256x1024) (ix2 r j) = x (ix2 r j) * w (ix2 0 j) := by
  pointwise

theorem second_half (w : Vec Ideal S1x1024 .f32) (r : Fin 256) (j : Fin 1024) :
    k0_pay19 w (k0_pay15 a b) (k0_pay16 a b) (k0_pay17 a b) (k0_pay18 a b) (ix2 r j)
      = lnorm (headB (fun k => a (ix2 r k) + b (ix2 r k)) ⟨j.val / 256, by omega⟩) ⟨j.val % 256, by omega⟩ * w (ix2 0 j) := by
  have e : k0_pay18 a b = mulf (k0_pay17 a b) (k0_pay17 a b) := rfl
  rw [e, second_half_blocks, tail0, tail1, weighted_apply]
  rw [four_apply (fun h => scaledBlock (cenBlock (colsB (k0_pay15 a b) h))), lnorm_apply]
  rfl

end Halves

/-! ## The stored block -/

theorem joined_left (z u p q : FVec Ideal S256x1024 .f32) (r : Fin 256) (j : Fin 1024) :
    k0_pay1 z u p q (ix2 r ⟨j.val, by omega⟩) = u (ix2 r j) := by
  pointwise [k0_pay1]

theorem joined_right (z u p q : FVec Ideal S256x1024 .f32) (r : Fin 256) (j : Fin 1024) :
    k0_pay1 z u p q (ix2 r ⟨1024 + j.val, by omega⟩) = p (ix2 r j) * q (ix2 r j) * act (z (ix2 r j)) := by
  pointwise [k0_pay1, act]

theorem off0 : (![0, 0] : Fin 2 → Nat) = fun _ => 0 := funext fun a => by fin_cases a <;> rfl

/-- What a point stores. -/
def stored (x0 x1 x2 x3 x4 x5 x6 : Vec Ideal S256x1024 .f32) (x7 x8 : Vec Ideal S1x1024 .f32) : FVec Ideal S256x2048 .bf16 :=
  k0_pay1 x6
    (k0_pay14 x4 x7 (k0_pay2 x0 x1) (k0_pay3 x0 x1) (k0_pay4 x0 x1) (k0_pay7 (k0_pay5 x0 x1) (k0_pay6 x0 x1)) (k0_pay8 (k0_pay2 x0 x1))
        (k0_pay9 (k0_pay2 x0 x1)) (k0_pay10 (k0_pay2 x0 x1)) (k0_pay11 (k0_pay2 x0 x1)) (k0_pay12 (k0_pay2 x0 x1)) (k0_pay13 (F := Ideal)))
    (k0_pay19 x8 (k0_pay15 x2 x3) (k0_pay16 x2 x3) (k0_pay17 x2 x3) (k0_pay18 x2 x3)) (k0_pay20 x5)

theorem stored_left (x0 x1 x2 x3 x4 x5 x6 : Vec Ideal S256x1024 .f32) (x7 x8 : Vec Ideal S1x1024 .f32) (r : Fin 256) (j : Fin 1024) :
    stored x0 x1 x2 x3 x4 x5 x6 x7 x8 (ix2 r ⟨j.val, by omega⟩)
      = halfA (fun k => x0 (ix2 r k) + x1 (ix2 r k)) (x7 (ix2 0 j)) (x4 (ix2 r j)) j := by
  unfold stored
  rw [joined_left, first_half]

theorem stored_right (x0 x1 x2 x3 x4 x5 x6 : Vec Ideal S256x1024 .f32) (x7 x8 : Vec Ideal S1x1024 .f32) (r : Fin 256) (j : Fin 1024) :
    stored x0 x1 x2 x3 x4 x5 x6 x7 x8 (ix2 r ⟨1024 + j.val, by omega⟩)
      = halfB (fun k => x2 (ix2 r k) + x3 (ix2 r k)) (x8 (ix2 0 j)) (x5 (ix2 r j)) (x6 (ix2 r j)) j := by
  unfold stored
  rw [joined_right, second_half]
  rfl

/-- The body leaves `stored` of its blocks. -/
theorem body (c : Dev nD) (i : grid0.Coords) (a1 : Memref sig .tc .vmem S256x1024 .f32) (h1 : a1.IsWhole)
    (a2 : Memref sig .tc .vmem S256x1024 .f32) (h2 : a2.IsWhole) (a3 : Memref sig .tc .vmem S256x1024 .f32) (h3 : a3.IsWhole)
    (a4 : Memref sig .tc .vmem S256x1024 .f32) (h4 : a4.IsWhole) (a5 : Memref sig .tc .vmem S256x1024 .f32) (h5 : a5.IsWhole)
    (a6 : Memref sig .tc .vmem S256x1024 .f32) (h6 : a6.IsWhole) (a7 : Memref sig .tc .vmem S256x1024 .f32) (h7 : a7.IsWhole)
    (a8 : Memref sig .tc .vmem S1x1024 .f32) (h8 : a8.IsWhole) (a9 : Memref sig .tc .vmem S1x1024 .f32) (h9 : a9.IsWhole)
    (a10 : Memref sig .tc .vmem S256x2048 .bf16) (h10 : a10.IsWhole)
    (x0 x1 x2 x3 x4 x5 x6 : Vec Ideal S256x1024 .f32) (x7 x8 : Vec Ideal S1x1024 .f32) :
    out0_A_9 c i a1 h1 a2 h2 a3 h3 a4 h4 a5 h5 a6 h6 a7 h7 a8 h8 a9 h9 a10 h10 x0 x1 x2 x3 x4 x5 x6 x7 x8
      = stored x0 x1 x2 x3 x4 x5 x6 x7 x8 := by
  unfold out0_A_9
  rw [View.read_writes_eq_canon _ _ _ (cover0_A_9 c i a1 h1 a2 h2 a3 h3 a4 h4 a5 h5 a6 h6 a7 h7 a8 h8 a9 h9 a10 h10 x0 x1 x2 x3 x4 x5 x6 x7 x8)]
  unfold kernelRun0_A
  dsimp only
  sl_unfold_words
  rw [View.canon_unit_zero (S := S256x2048) off0]
  simp only [View.readAt_eq_ld, h1.read_unread, h2.read_unread, h3.read_unread, h4.read_unread, h5.read_unread, h6.read_unread,
    h7.read_unread, h8.read_unread, h9.read_unread, View.ld_unit_zero (S := S256x1024) off0, View.ld_unit_zero (S := S1x1024) off0]
  rfl

end Cert.Kernel15Ideal.PostNorm

end
-- ==== Proof.PostNorm.lean ====
/-
  The inner norms and gates of the forward pass (programs `Kernel15Ideal` and `Reference15Ideal`): all 4096 latent rows.

  The grid is 16 blocks of 256 rows. Three of the blocks a point is handed are columns of the one array `u`: the gate of the
  first half from column 4096, the two gates of the second half from columns 8192 and 9216.
-/
module

public import proofs.«01_k».proof.Proof.PostNormBody
public import proofs.«01_k».proof.Proof.Gen.Reference15Ideal.Read
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel15Ideal.PostNorm

open Cert.Kernel15Ideal Cert.Kernel15Ideal.Gen

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 4 := by decide +kernel
theorem index5 : ∀ t : Fin grid0.N, win0_5.index t 0 = t.val ∧ win0_5.index t 1 = 8 := by decide +kernel
theorem index6 : ∀ t : Fin grid0.N, win0_6.index t 0 = t.val ∧ win0_6.index t 1 = 9 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = t.val ∧ win0_9.index t 1 = 0 := by decide +kernel
theorem flush9 : ∀ t : Fin grid0.N, (cfg0.win 9).flush t = true := by decide +kernel

theorem points : cfg0.N = 16 := by decide +kernel
theorem point_lt (t : Fin cfg0.N) : t.val < 16 := lt_of_lt_of_eq t.isLt points

variable (m : (ℓ : Loc nD τ sig) → Buf (Elt Ideal) ℓ) (ρ : Dev nD → PrngReg)

/-- The arguments as the program's start finds them. -/
def oF (c : Dev nD) : FVec Ideal S4096x1024 .f32 := m ((c.tc : Thread nD τ).loc main_arg0)
def oB (c : Dev nD) : FVec Ideal S4096x1024 .f32 := m ((c.tc : Thread nD τ).loc main_arg1)
def hF (c : Dev nD) : FVec Ideal S4096x1024 .f32 := m ((c.tc : Thread nD τ).loc main_arg2)
def hB (c : Dev nD) : FVec Ideal S4096x1024 .f32 := m ((c.tc : Thread nD τ).loc main_arg3)
def uA (c : Dev nD) : FVec Ideal S4352x10368 .f32 := m ((c.tc : Thread nD τ).loc main_arg4)
def wA (c : Dev nD) : FVec Ideal S1x1024 .f32 := m ((c.tc : Thread nD τ).loc main_arg5)
def wB (c : Dev nD) : FVec Ideal S1x1024 .f32 := m ((c.tc : Thread nD τ).loc main_arg6)

/-- The blocks the windows hand over at point `t`. -/
def b0 (c : Dev nD) (t : Fin cfg0.N) : Vec Ideal S256x1024 .f32 := iblk m c 0 t
def b1 (c : Dev nD) (t : Fin cfg0.N) : Vec Ideal S256x1024 .f32 := iblk m c 1 t
def b2 (c : Dev nD) (t : Fin cfg0.N) : Vec Ideal S256x1024 .f32 := iblk m c 2 t
def b3 (c : Dev nD) (t : Fin cfg0.N) : Vec Ideal S256x1024 .f32 := iblk m c 3 t
def b4 (c : Dev nD) (t : Fin cfg0.N) : Vec Ideal S256x1024 .f32 := X0_4 m c t
def b5 (c : Dev nD) (t : Fin cfg0.N) : Vec Ideal S256x1024 .f32 := X0_5 m c t
def b6 (c : Dev nD) (t : Fin cfg0.N) : Vec Ideal S256x1024 .f32 := X0_6 m c t
def b7 (c : Dev nD) (t : Fin cfg0.N) : Vec Ideal S1x1024 .f32 := iblk m c 7 t
def b8 (c : Dev nD) (t : Fin cfg0.N) : Vec Ideal S1x1024 .f32 := iblk m c 8 t

/-- The place a block's entry has in the array of 4096 rows. -/
theorem place {t : Fin cfg0.N} {f : Fin 2 → Nat} (h : f 0 = t.val ∧ f 1 = 0) (r : Fin 256) (l : Fin 1024) (x : S4096x1024.Idx)
    (h0 : (x 0).val = f 0 * 256 + 1 * r.val) (h1 : (x 1).val = f 1 * 1024 + 1 * l.val) :
    x = ix2 ⟨t.val * 256 + r.val, by have := point_lt t; omega⟩ l := by
  rw [h.1] at h0
  rw [h.2] at h1
  funext a
  apply Fin.ext
  match a with
  | ⟨0, _⟩ => exact h0.trans (by show _ = t.val * 256 + r.val; omega)
  | ⟨1, _⟩ => exact h1.trans (by show _ = l.val; omega)

theorem b0_apply (c : Dev nD) (t : Fin cfg0.N) (r : Fin 256) (l : Fin 1024) :
    b0 m c t (ix2 r l) = oF m c (ix2 ⟨t.val * 256 + r.val, by have := point_lt t; omega⟩ l) :=
  (congrFun (V_main_arg0 m c) _).trans (congrArg (oF m c) (place (index0 t) r l _ rfl rfl))

theorem b1_apply (c : Dev nD) (t : Fin cfg0.N) (r : Fin 256) (l : Fin 1024) :
    b1 m c t (ix2 r l) = oB m c (ix2 ⟨t.val * 256 + r.val, by have := point_lt t; omega⟩ l) :=
  (congrFun (V_main_arg1 m c) _).trans (congrArg (oB m c) (place (index1 t) r l _ rfl rfl))

theorem b2_apply (c : Dev nD) (t : Fin cfg0.N) (r : Fin 256) (l : Fin 1024) :
    b2 m c t (ix2 r l) = hF m c (ix2 ⟨t.val * 256 + r.val, by have := point_lt t; omega⟩ l) :=
  (congrFun (V_main_arg2 m c) _).trans (congrArg (hF m c) (place (index2 t) r l _ rfl rfl))

theorem b3_apply (c : Dev nD) (t : Fin cfg0.N) (r : Fin 256) (l : Fin 1024) :
    b3 m c t (ix2 r l) = hB m c (ix2 ⟨t.val * 256 + r.val, by have := point_lt t; omega⟩ l) :=
  (congrFun (V_main_arg3 m c) _).trans (congrArg (hB m c) (place (index3 t) r l _ rfl rfl))

theorem b4_apply (c : Dev nD) (t : Fin cfg0.N) (r : Fin 256) (l : Fin 1024) :
    b4 m c t (ix2 r l) = uA m c (ix2 ⟨t.val * 256 + r.val, by have := point_lt t; omega⟩ ⟨4096 + l.val, by omega⟩) := by
  unfold b4 X0_4 Pipeline.Window.fill
  rw [dif_pos (moved0_4 t _)]
  unfold iblk
  rw [View.read_apply]
  show V m c main_arg4 _ = _
  rw [V_main_arg4]
  show uA m c _ = uA m c _
  congr 1
  funext a
  apply Fin.ext
  match a with
  | ⟨0, _⟩ => show win0_4.index t 0 * 256 + 1 * r.val = t.val * 256 + r.val; rw [(index4 t).1]; omega
  | ⟨1, _⟩ => show win0_4.index t 1 * 1024 + 1 * l.val = 4096 + l.val; rw [(index4 t).2]; omega

theorem b5_apply (c : Dev nD) (t : Fin cfg0.N) (r : Fin 256) (l : Fin 1024) :
    b5 m c t (ix2 r l) = uA m c (ix2 ⟨t.val * 256 + r.val, by have := point_lt t; omega⟩ ⟨8192 + l.val, by omega⟩) := by
  unfold b5 X0_5 Pipeline.Window.fill
  rw [dif_pos (moved0_5 t _)]
  unfold iblk
  rw [View.read_apply]
  show V m c main_arg4 _ = _
  rw [V_main_arg4]
  show uA m c _ = uA m c _
  congr 1
  funext a
  apply Fin.ext
  match a with
  | ⟨0, _⟩ => show win0_5.index t 0 * 256 + 1 * r.val = t.val * 256 + r.val; rw [(index5 t).1]; omega
  | ⟨1, _⟩ => show win0_5.index t 1 * 1024 + 1 * l.val = 8192 + l.val; rw [(index5 t).2]; omega

theorem b6_apply (c : Dev nD) (t : Fin cfg0.N) (r : Fin 256) (l : Fin 1024) :
    b6 m c t (ix2 r l) = uA m c (ix2 ⟨t.val * 256 + r.val, by have := point_lt t; omega⟩ ⟨9216 + l.val, by omega⟩) := by
  unfold b6 X0_6 Pipeline.Window.fill
  rw [dif_pos (moved0_6 t _)]
  unfold iblk
  rw [View.read_apply]
  show V m c main_arg4 _ = _
  rw [V_main_arg4]
  show uA m c _ = uA m c _
  congr 1
  funext a
  apply Fin.ext
  match a with
  | ⟨0, _⟩ => show win0_6.index t 0 * 256 + 1 * r.val = t.val * 256 + r.val; rw [(index6 t).1]; omega
  | ⟨1, _⟩ => show win0_6.index t 1 * 1024 + 1 * l.val = 9216 + l.val; rw [(index6 t).2]; omega

theorem b7_apply (c : Dev nD) (t : Fin cfg0.N) (l : Fin 1024) : b7 m c t (ix2 0 l) = wA m c (ix2 0 l) := by
  unfold b7 iblk
  rw [View.read_apply]
  show V m c main_arg5 _ = _
  rw [V_main_arg5]
  show wA m c _ = wA m c _
  congr 1
  funext a
  apply Fin.ext
  match a with
  | ⟨0, _⟩ => show win0_7.index t 0 * 1 + 1 * 0 = 0; rw [(index7 t).1]
  | ⟨1, _⟩ => show win0_7.index t 1 * 1024 + 1 * l.val = l.val; rw [(index7 t).2]; omega

theorem b8_apply (c : Dev nD) (t : Fin cfg0.N) (l : Fin 1024) : b8 m c t (ix2 0 l) = wB m c (ix2 0 l) := by
  unfold b8 iblk
  rw [View.read_apply]
  show V m c main_arg6 _ = _
  rw [V_main_arg6]
  show wB m c _ = wB m c _
  congr 1
  funext a
  apply Fin.ext
  match a with
  | ⟨0, _⟩ => show win0_8.index t 0 * 1 + 1 * 0 = 0; rw [(index8 t).1]
  | ⟨1, _⟩ => show win0_8.index t 1 * 1024 + 1 * l.val = l.val; rw [(index8 t).2]; omega

/-! ## The result -/

/-- The two halves of the result. -/
def left (c : Dev nD) (r : Fin 4096) (j : Fin 1024) : EReal :=
  halfA (fun k => oF m c (ix2 r k) + oB m c (ix2 r k)) (wA m c (ix2 0 j)) (uA m c (ix2 ⟨r.val, by omega⟩ ⟨4096 + j.val, by omega⟩)) j
def right (c : Dev nD) (r : Fin 4096) (j : Fin 1024) : EReal :=
  halfB (fun k => hF m c (ix2 r k) + hB m c (ix2 r k)) (wB m c (ix2 0 j)) (uA m c (ix2 ⟨r.val, by omega⟩ ⟨8192 + j.val, by omega⟩))
    (uA m c (ix2 ⟨r.val, by omega⟩ ⟨9216 + j.val, by omega⟩)) j

/-- The result: the first half in columns 0 to 1023, the second in the rest. -/
def normed (c : Dev nD) : FVec Ideal S4096x2048 .bf16 := fun i =>
  if h : (i 1).val < 1024 then left m c (i 0) ⟨(i 1).val, h⟩
  else right m c (i 0) ⟨(i 1).val - 1024, by have h1 : (i 1).val < 2048 := (i 1).isLt; omega⟩

theorem normed_left (c : Dev nD) (r : Fin 4096) (j : Fin 1024) : normed m c (ix2 r ⟨j.val, by omega⟩) = left m c r j :=
  dif_pos j.isLt
theorem normed_right (c : Dev nD) (r : Fin 4096) (j : Fin 1024) : normed m c (ix2 r ⟨1024 + j.val, by omega⟩) = right m c r j := by
  refine (dif_neg (by show ¬ 1024 + j.val < 1024; omega)).trans ?_
  exact congrArg (right m c r) (Fin.ext (by show 1024 + j.val - 1024 = j.val; omega))

/-- A column of 2048 lies in one half or the other. -/
theorem column (j : Fin 2048) : (∃ k : Fin 1024, j = ⟨k.val, by omega⟩) ∨ ∃ k : Fin 1024, j = ⟨1024 + k.val, by omega⟩ := by
  by_cases h : j.val < 1024
  · exact Or.inl ⟨⟨j.val, h⟩, rfl⟩
  · exact Or.inr ⟨⟨j.val - 1024, by omega⟩, Fin.ext (by show j.val = 1024 + (j.val - 1024); omega)⟩

theorem point (c : Dev nD) (t : Fin cfg0.N) (r : Fin 256) (j : Fin 2048) :
    stored (b0 m c t) (b1 m c t) (b2 m c t) (b3 m c t) (b4 m c t) (b5 m c t) (b6 m c t) (b7 m c t) (b8 m c t) (ix2 r j)
      = normed m c (ix2 ⟨t.val * 256 + r.val, by have := point_lt t; omega⟩ j) := by
  obtain ⟨k, rfl⟩ | ⟨k, rfl⟩ := column j
  · rw [stored_left, normed_left]
    simp only [b0_apply, b1_apply, b4_apply, b7_apply]
    rfl
  · rw [stored_right, normed_right]
    simp only [b2_apply, b3_apply, b5_apply, b6_apply, b8_apply]
    rfl

theorem read_block (N : FVec Ideal S4096x2048 .bf16) (t : Fin cfg0.N) (i : Fin 256) (j : Fin 2048) :
    ((cfg0.win 9).blk t).view.read (Elt Ideal) N (ix2 i j) = N (ix2 ⟨t.val * 256 + i.val, by have := point_lt t; omega⟩ j) := by
  rw [View.read_apply]
  show N _ = N _
  congr 1
  funext a
  apply Fin.ext
  match a with
  | ⟨0, _⟩ => show win0_9.index t 0 * 256 + 1 * i.val = t.val * 256 + i.val; rw [(index9 t).1]; omega
  | ⟨1, _⟩ => show win0_9.index t 1 * 2048 + 1 * j.val = j.val; rw [(index9 t).2]; omega

theorem outs (c : Dev nD) (t : Fin cfg0.N) : outsAt0 m c t
    = stored (b0 m c t) (b1 m c t) (b2 m c t) (b3 m c t) (b4 m c t) (b5 m c t) (b6 m c t) (b7 m c t) (b8 m c t) := by
  unfold outsAt0
  exact body c _ _ _ _ _ _ _ _ _ _ _ _ _ _ _ _ _ _ _ _ _ _ _ _ _ _ _ _ _ _

theorem flushed (c : Dev nD) (t : Fin cfg0.N) (hf : (cfg0.win 9).flush t = true) :
    (dats m 0 c).flushed 9 t = ((cfg0.win 9).blk t).view.read (Elt Ideal) (normed m c) := by
  have p := point m c t
  generalize normed m c = N at p ⊢
  show (cfg0.win 9).cut (grid0.coords t) ((dats m 0 c).after 9 t) = _
  rw [after0_9, outs]
  generalize stored (b0 m c t) (b1 m c t) (b2 m c t) (b3 m c t) (b4 m c t) (b5 m c t) (b6 m c t) (b7 m c t) (b8 m c t) = S at p ⊢
  show S = (_ : S256x2048.Idx → EReal)
  funext x
  obtain ⟨i, j, rfl⟩ : ∃ (i : Fin 256) (j : Fin 2048), x = ix2 i j := ⟨x 0, x 1, eq_ix2 x⟩
  exact (p i j).trans (read_block N t i j).symm

theorem final (c : Dev nD) : (dats m 0 c).arrAt 9 cfg0.N = normed m c :=
  (dats m 0 c).arrAt_eq_of_cover 9 (normed m c) (flushed m c) fun i => by
    have h0 : (i 0 : Nat) < 4096 := (i 0).isLt
    have h1 : (i 1 : Nat) < 2048 := (i 1).isLt
    let t : Fin cfg0.N := ⟨(i 0 : Nat) / 256, by rw [points]; omega⟩
    have ht : t.val = (i 0 : Nat) / 256 := rfl
    refine ⟨t, flush9 t, ?_⟩
    show i ∈ ((View.whole main_v0).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [(index9 t).1]; omega
    | ⟨1, _⟩ =>
      show win0_9.index t 1 * 2048 ≤ (i 1 : Nat) ∧ (i 1 : Nat) < win0_9.index t 1 * 2048 + 2048
      rw [(index9 t).2]; omega

/-! ## The reference's terms -/

section Reference

open Cert.Reference15Ideal.Read

variable (x0 x1 x2 x3 : FVec Ideal S4096x1024 .f32) (x4 : FVec Ideal S4352x10368 .f32) (x5 x6 : FVec Ideal S1x1024 .f32)

theorem reference_headA0 (r : Fin 4096) (h : Fin 8) (k : Fin 128) :
    val_main_v3 (F := Ideal) x0 (ix3 r h k) = x0 (ix2 r ⟨h.val * 128 + k.val, by omega⟩) :=
  (val_main_v3_apply (F := Ideal) x0 (ix3 r h k)).trans (congrArg x0 (funext fun a => Fin.ext (match a with
    | ⟨0, _⟩ => by show ((r.val * 8 + h.val) * 128 + k.val) / 1024 = r.val; omega
    | ⟨1, _⟩ => by show ((r.val * 8 + h.val) * 128 + k.val) % 1024 = h.val * 128 + k.val; omega)))
theorem reference_headA1 (r : Fin 4096) (h : Fin 8) (k : Fin 128) :
    val_main_v4 (F := Ideal) x1 (ix3 r h k) = x1 (ix2 r ⟨h.val * 128 + k.val, by omega⟩) :=
  (val_main_v4_apply (F := Ideal) x1 (ix3 r h k)).trans (congrArg x1 (funext fun a => Fin.ext (match a with
    | ⟨0, _⟩ => by show ((r.val * 8 + h.val) * 128 + k.val) / 1024 = r.val; omega
    | ⟨1, _⟩ => by show ((r.val * 8 + h.val) * 128 + k.val) % 1024 = h.val * 128 + k.val; omega)))

theorem reference_sumA (r : Fin 4096) (h : Fin 8) (k : Fin 128) :
    val_main_v5 (F := Ideal) x0 x1 (ix3 r h k) = headA (fun k => x0 (ix2 r k) + x1 (ix2 r k)) h k := by
  rw [val_main_v5_apply, reference_headA0, reference_headA1]
  rfl

theorem reference_rms (r : Fin 4096) (h : Fin 8) (l : Fin 128) :
    val_main_v15 (F := Ideal) x0 x1 (ix3 r h l) = rms (headA (fun k => x0 (ix2 r k) + x1 (ix2 r k)) h) l := by
  have e := reference_sumA x0 x1 r h
  unfold rms
  simp only [← e]
  pointwise [val_main_v15, val_main_v14, val_main_v13, val_main_v12, val_main_v11, val_main_v10, val_main_v9, val_main_v8, val_main_v7,
    val_main_v6, val_main_cst, val_main_cst_0, val_main_cst_1]

theorem reference_weightA (r : Fin 4096) (h : Fin 8) (l : Fin 128) :
    val_main_v18 (F := Ideal) x5 (ix3 r h l) = x5 (ix2 0 ⟨h.val * 128 + l.val, by omega⟩) := by
  rw [val_main_v18_apply, val_main_v17_apply, val_main_v16_apply]
  exact congrArg x5 (funext fun a => Fin.ext (match a with
    | ⟨0, _⟩ => rfl
    | ⟨1, _⟩ => by show (h.val * 128 + l.val) % 1024 = h.val * 128 + l.val; omega))

theorem reference_normA (r : Fin 4096) (j : Fin 1024) :
    val_main_v20 (F := Ideal) x0 x1 x5 (ix2 r j)
      = rms (headA (fun k => x0 (ix2 r k) + x1 (ix2 r k)) ⟨j.val / 128, by omega⟩) ⟨j.val % 128, by omega⟩ * x5 (ix2 0 j) := by
  have e : val_main_v20 (F := Ideal) x0 x1 x5 (ix2 r j)
      = val_main_v19 (F := Ideal) x0 x1 x5 (ix3 r ⟨j.val / 128, by omega⟩ ⟨j.val % 128, by omega⟩) :=
    (val_main_v20_apply (F := Ideal) x0 x1 x5 (ix2 r j)).trans (congrArg _ (funext fun a => Fin.ext (match a with
      | ⟨0, _⟩ => by show (r.val * 1024 + j.val) / 1024 = r.val; omega
      | ⟨1, _⟩ => by show (r.val * 1024 + j.val) / 128 % 8 = j.val / 128; omega
      | ⟨2, _⟩ => by show (r.val * 1024 + j.val) % 128 = j.val % 128; omega)))
  rw [e, val_main_v19_apply, reference_rms, reference_weightA]
  exact congrArg (fun k : Fin 1024 => rms _ _ * x5 (ix2 0 k)) (Fin.ext (by show j.val / 128 * 128 + j.val % 128 = j.val; omega))

theorem reference_gateA (r : Fin 4096) (j : Fin 1024) :
    val_main_v21 (F := Ideal) x4 (ix2 r j) = act (x4 (ix2 ⟨r.val, by omega⟩ ⟨4096 + j.val, by omega⟩)) := by
  have e : val_main_v0 (F := Ideal) x4 (ix2 r j) = x4 (ix2 ⟨r.val, by omega⟩ ⟨4096 + j.val, by omega⟩) :=
    (val_main_v0_apply (F := Ideal) x4 (ix2 r j)).trans (congrArg x4 (funext fun a => match a with
      | ⟨0, _⟩ => rfl
      | ⟨1, _⟩ => rfl))
  rw [← e]
  pointwise [val_main_v21, val_main_call0_v5, val_main_call0_v4, val_main_call0_v3, val_main_call0_v2, val_main_call0_v1, val_main_call0_v0,
    val_main_call0_cst, val_main_call0_cst_0, act]
  rfl

theorem reference_left (r : Fin 4096) (j : Fin 1024) :
    val_main_v22 (F := Ideal) x0 x1 x4 x5 (ix2 r j)
      = halfA (fun k => x0 (ix2 r k) + x1 (ix2 r k)) (x5 (ix2 0 j)) (x4 (ix2 ⟨r.val, by omega⟩ ⟨4096 + j.val, by omega⟩)) j := by
  rw [val_main_v22_apply, reference_normA, reference_gateA]
  rfl

theorem reference_headB0 (r : Fin 4096) (h : Fin 4) (k : Fin 256) :
    val_main_v23 (F := Ideal) x2 (ix3 r h k) = x2 (ix2 r ⟨h.val * 256 + k.val, by omega⟩) :=
  (val_main_v23_apply (F := Ideal) x2 (ix3 r h k)).trans (congrArg x2 (funext fun a => Fin.ext (match a with
    | ⟨0, _⟩ => by show ((r.val * 4 + h.val) * 256 + k.val) / 1024 = r.val; omega
    | ⟨1, _⟩ => by show ((r.val * 4 + h.val) * 256 + k.val) % 1024 = h.val * 256 + k.val; omega)))
theorem reference_headB1 (r : Fin 4096) (h : Fin 4) (k : Fin 256) :
    val_main_v24 (F := Ideal) x3 (ix3 r h k) = x3 (ix2 r ⟨h.val * 256 + k.val, by omega⟩) :=
  (val_main_v24_apply (F := Ideal) x3 (ix3 r h k)).trans (congrArg x3 (funext fun a => Fin.ext (match a with
    | ⟨0, _⟩ => by show ((r.val * 4 + h.val) * 256 + k.val) / 1024 = r.val; omega
    | ⟨1, _⟩ => by show ((r.val * 4 + h.val) * 256 + k.val) % 1024 = h.val * 256 + k.val; omega)))

theorem reference_sumB (r : Fin 4096) (h : Fin 4) (k : Fin 256) :
    val_main_v25 (F := Ideal) x2 x3 (ix3 r h k) = headB (fun k => x2 (ix2 r k) + x3 (ix2 r k)) h k := by
  rw [val_main_v25_apply, reference_headB0, reference_headB1]
  rfl

theorem reference_mean (r : Fin 4096) (h : Fin 4) :
    val_main_v29 (F := Ideal) x2 x3 (ix3 r h 0)
      = Ideal.div (∑ k, headB (fun k => x2 (ix2 r k) + x3 (ix2 r k)) h k) (Ideal.ofBits .f32 0x43800000#32) := by
  simp only [← reference_sumB]
  pointwise [val_main_v29, val_main_v28, val_main_v27, val_main_v26, val_main_cst_2, val_main_cst_3]

theorem reference_cen (r : Fin 4096) (h : Fin 4) (l : Fin 256) :
    val_main_v31 (F := Ideal) x2 x3 (ix3 r h l) = cen (headB (fun k => x2 (ix2 r k) + x3 (ix2 r k)) h) l := by
  unfold cen
  rw [← reference_mean, ← reference_sumB]
  pointwise [val_main_v31, val_main_v30]

theorem reference_cen' (r : Fin 4096) (h : Fin 4) (l : Fin 256) :
    val_main_v38 (F := Ideal) x2 x3 (ix3 r h l) = cen (headB (fun k => x2 (ix2 r k) + x3 (ix2 r k)) h) l := by
  unfold cen
  rw [← reference_mean, ← reference_sumB]
  pointwise [val_main_v38, val_main_v37]

theorem reference_scale (r : Fin 4096) (h : Fin 4) :
    val_main_v41 (F := Ideal) x2 x3 (ix3 r h 0)
      = Ideal.rsqrt (Ideal.div (∑ k, cen (headB (fun k => x2 (ix2 r k) + x3 (ix2 r k)) h) k * cen (headB (fun k => x2 (ix2 r k) + x3 (ix2 r k)) h) k)
          (Ideal.ofBits .f32 0x43800000#32) + Ideal.ofBits .f32 0x358637BD#32) := by
  simp only [← reference_cen]
  pointwise [val_main_v41, val_main_v40, val_main_v39, val_main_v36, val_main_v35, val_main_v34, val_main_v33, val_main_v32, val_main_cst_4,
    val_main_cst_5, val_main_cst_6]

theorem reference_lnorm (r : Fin 4096) (h : Fin 4) (l : Fin 256) :
    val_main_v43 (F := Ideal) x2 x3 (ix3 r h l) = lnorm (headB (fun k => x2 (ix2 r k) + x3 (ix2 r k)) h) l := by
  unfold lnorm
  rw [← reference_scale, ← reference_cen']
  pointwise [val_main_v43, val_main_v42]

theorem reference_weightB (r : Fin 4096) (h : Fin 4) (l : Fin 256) :
    val_main_v46 (F := Ideal) x6 (ix3 r h l) = x6 (ix2 0 ⟨h.val * 256 + l.val, by omega⟩) := by
  rw [val_main_v46_apply, val_main_v45_apply, val_main_v44_apply]
  exact congrArg x6 (funext fun a => Fin.ext (match a with
    | ⟨0, _⟩ => rfl
    | ⟨1, _⟩ => by show (h.val * 256 + l.val) % 1024 = h.val * 256 + l.val; omega))

theorem reference_normB (r : Fin 4096) (j : Fin 1024) :
    val_main_v48 (F := Ideal) x2 x3 x6 (ix2 r j)
      = lnorm (headB (fun k => x2 (ix2 r k) + x3 (ix2 r k)) ⟨j.val / 256, by omega⟩) ⟨j.val % 256, by omega⟩ * x6 (ix2 0 j) := by
  have e : val_main_v48 (F := Ideal) x2 x3 x6 (ix2 r j)
      = val_main_v47 (F := Ideal) x2 x3 x6 (ix3 r ⟨j.val / 256, by omega⟩ ⟨j.val % 256, by omega⟩) :=
    (val_main_v48_apply (F := Ideal) x2 x3 x6 (ix2 r j)).trans (congrArg _ (funext fun a => Fin.ext (match a with
      | ⟨0, _⟩ => by show (r.val * 1024 + j.val) / 1024 = r.val; omega
      | ⟨1, _⟩ => by show (r.val * 1024 + j.val) / 256 % 4 = j.val / 256; omega
      | ⟨2, _⟩ => by show (r.val * 1024 + j.val) % 256 = j.val % 256; omega)))
  rw [e, val_main_v47_apply, reference_lnorm, reference_weightB]
  exact congrArg (fun k : Fin 1024 => lnorm _ _ * x6 (ix2 0 k)) (Fin.ext (by show j.val / 256 * 256 + j.val % 256 = j.val; omega))

theorem reference_gateB (r : Fin 4096) (j : Fin 1024) :
    val_main_v54 (F := Ideal) x4 (ix2 r j) = Ideal.logistic (x4 (ix2 ⟨r.val, by omega⟩ ⟨8192 + j.val, by omega⟩)) := by
  have e : val_main_v1 (F := Ideal) x4 (ix2 r j) = x4 (ix2 ⟨r.val, by omega⟩ ⟨8192 + j.val, by omega⟩) :=
    (val_main_v1_apply (F := Ideal) x4 (ix2 r j)).trans (congrArg x4 (funext fun a => match a with
      | ⟨0, _⟩ => rfl
      | ⟨1, _⟩ => rfl))
  rw [← e]
  pointwise [val_main_v54, val_main_v53, val_main_v52, val_main_v51, val_main_v50, val_main_v49, val_main_cst_7, val_main_cst_8]
  rfl

theorem reference_gateZ (r : Fin 4096) (j : Fin 1024) :
    val_main_v56 (F := Ideal) x4 (ix2 r j) = act (x4 (ix2 ⟨r.val, by omega⟩ ⟨9216 + j.val, by omega⟩)) := by
  have e : val_main_v2 (F := Ideal) x4 (ix2 r j) = x4 (ix2 ⟨r.val, by omega⟩ ⟨9216 + j.val, by omega⟩) :=
    (val_main_v2_apply (F := Ideal) x4 (ix2 r j)).trans (congrArg x4 (funext fun a => match a with
      | ⟨0, _⟩ => rfl
      | ⟨1, _⟩ => rfl))
  rw [← e]
  pointwise [val_main_v56, val_main_call1_v5, val_main_call1_v4, val_main_call1_v3, val_main_call1_v2, val_main_call1_v1, val_main_call1_v0,
    val_main_call1_cst, val_main_call1_cst_0, act]
  rfl

theorem reference_right (r : Fin 4096) (j : Fin 1024) :
    val_main_v57 (F := Ideal) x2 x3 x4 x6 (ix2 r j)
      = halfB (fun k => x2 (ix2 r k) + x3 (ix2 r k)) (x6 (ix2 0 j)) (x4 (ix2 ⟨r.val, by omega⟩ ⟨8192 + j.val, by omega⟩))
          (x4 (ix2 ⟨r.val, by omega⟩ ⟨9216 + j.val, by omega⟩)) j := by
  rw [val_main_v57_apply, val_main_v55_apply, reference_normB, reference_gateB, reference_gateZ]
  rfl

theorem reference_joined_left (r : Fin 4096) (j : Fin 1024) :
    val_main_v59 (F := Ideal) x0 x1 x2 x3 x4 x5 x6 (ix2 r ⟨j.val, by omega⟩) = val_main_v22 (F := Ideal) x0 x1 x4 x5 (ix2 r j) := by
  unfold val_main_v59 val_main_v58
  generalize val_main_v22 (F := Ideal) x0 x1 x4 x5 = p
  generalize val_main_v57 (F := Ideal) x2 x3 x4 x6 = q
  pointwise

theorem reference_joined_right (r : Fin 4096) (j : Fin 1024) :
    val_main_v59 (F := Ideal) x0 x1 x2 x3 x4 x5 x6 (ix2 r ⟨1024 + j.val, by omega⟩) = val_main_v57 (F := Ideal) x2 x3 x4 x6 (ix2 r j) := by
  unfold val_main_v59 val_main_v58
  generalize val_main_v22 (F := Ideal) x0 x1 x4 x5 = p
  generalize val_main_v57 (F := Ideal) x2 x3 x4 x6 = q
  pointwise

end Reference

theorem agree (c : Dev nD) : Cert.Reference15Ideal.Read.val_main_v59 (F := Ideal) (oF m c) (oB m c) (hF m c) (hB m c) (uA m c) (wA m c) (wB m c)
    = normed m c := by
  funext i
  obtain ⟨r, j, rfl⟩ : ∃ (r : Fin 4096) (j : Fin 2048), i = ix2 r j := ⟨i 0, i 1, eq_ix2 i⟩
  obtain ⟨k, rfl⟩ | ⟨k, rfl⟩ := column j
  · rw [reference_joined_left, reference_left, normed_left]
    rfl
  · rw [reference_joined_right, reference_right, normed_right]
    rfl

end Cert.Kernel15Ideal.PostNorm

/-- The claim: over the extended reals the kernel's result is the reference's. -/
theorem Cert.PostNorm.algebraic : Cert.algebraic_Kernel15Ideal_Reference15Ideal := by
  intro m g m' g' _ hargs
  refine ⟨fun c => Cert.Kernel15Ideal.PostNorm.normed m c,
    (θ_run _ _ _).mono (fun r h c => ⟨((h.1 c).1 9).trans (Cert.Kernel15Ideal.PostNorm.final m c), h.2 c⟩)
      (θ_run_and (Cert.Kernel15Ideal.Gen.run_main m g) (Cert.Kernel15Ideal.Gen.unchanged m g)), ?_⟩
  refine (θ_run _ _ _).mono (fun r h c => ?_) (Cert.Reference15Ideal.Value.run (F := Ideal) m' g')
  obtain ⟨e0, kept⟩ := h c
  obtain ⟨a0, a1, a2, a3, a4, a5, a6⟩ := hargs c
  refine ⟨e0.trans ((Cert.Reference15Ideal.Read.val_main_v59_eq _ _).trans ?_), kept⟩
  rw [a0, a1, a2, a3, a4, a5, a6]
  exact Cert.Kernel15Ideal.PostNorm.agree m c

end
-- ==== Proof.PairSum.lean ====
/-
  The sum of a pair's halves of the gradient of `w_out`: 8 blocks, every entry on its own (programs `Kernel16Ideal` and
  `Reference16Ideal`).
-/
module

public import proofs.«01_k».proof.Proof.Gen.Kernel16Ideal.Value
public import proofs.«01_k».proof.Proof.Gen.Reference16Ideal.Read
public import proofs.«01_k».proof.Defs

@[expose] public section

noncomputable section

open Idealize.ShloMosaic Idealize.ShloMosaic.TcCoe Idealize.SL.Sem

namespace Cert.Kernel16Ideal.PairSum

open Cert.Kernel16Ideal Cert.Kernel16Ideal.Gen

/-- The result: entry by entry the sum of the own half and the half received. -/
def total (m : (ℓ : Loc nD τ sig) → Buf (Elt Ideal) ℓ) (c : Dev nD) : FVec Ideal S4x256x2048 .bf16 :=
  Cert.Kernel16Ideal.Value.G2 (F := Ideal) (m ((c.tc : Thread nD τ).loc main_arg0)) (m ((c.tc : Thread nD τ).loc main_arg1))

end Cert.Kernel16Ideal.PairSum

/-- The claim: over the extended reals the kernel's result is the reference's. -/
theorem Cert.PairSum.algebraic : Cert.algebraic_Kernel16Ideal_Reference16Ideal := by
  intro m g m' g' _ hargs
  refine ⟨fun c => Cert.Kernel16Ideal.PairSum.total m c, Cert.Kernel16Ideal.Value.run (F := Ideal) m g, ?_⟩
  refine (θ_run _ _ _).mono (fun r h c => ?_) (Cert.Reference16Ideal.Value.run (F := Ideal) m' g')
  obtain ⟨e0, kept⟩ := h c
  obtain ⟨a0, a1⟩ := hargs c
  refine ⟨e0.trans ((Cert.Reference16Ideal.Read.val_main_v1_eq _ _).symm.trans ?_), kept⟩
  rw [a0, a1]
  rfl

end
-- ==== Proof.ColumnGroups.lean ====
/-
  The gradient of the projected columns put together (programs `Kernel17Ideal` and `Reference17Ideal`): 17 blocks of 256 rows,
  the ten groups of columns side by side, four of them the sum of a forward and a backward part.
-/
module

public import proofs.«01_k».proof.Proof.Gen.Kernel17Ideal.Value
public import proofs.«01_k».proof.Proof.Gen.Reference17Ideal.Read
public import Idealize.ShloMosaic.Lib.Pointwise
public import Idealize.ShloMosaic.Lib.StableHlo.Run
public import Idealize.ShloMosaic.Lib.Tactic
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel17Ideal.ColumnGroups

open Cert.Kernel17Ideal Cert.Kernel17Ideal.Gen

/-! ## Ten groups of columns side by side -/

/-- An array of `n` rows and `w` columns. -/
abbrev Rows (n w : Nat) : Type := (⟨2, ![n, w]⟩ : Shape).Idx → EReal

/-- The sum of two arrays at one place. -/
def both {n w : Nat} (x y : Rows n w) (r : Fin n) (k : Fin w) : EReal := x (ix2 r k) + y (ix2 r k)

section Groups

variable {n : Nat} (x0 x1 x2 x3 x4 x5 x6 : Rows n 1024) (x7 : Rows n 2048) (x8 x9 x10 x11 : Rows n 1024) (x12 x13 : Rows n 128)

/-- Column `j` of row `r`, in the group it lies in. -/
def column (r : Fin n) (j : Fin 10368) : EReal :=
  if h0 : j.val < 1024 then both x0 x1 r ⟨j.val, by omega⟩
  else if h1 : j.val < 2048 then x2 (ix2 r ⟨j.val - 1024, by omega⟩)
  else if h2 : j.val < 3072 then x3 (ix2 r ⟨j.val - 2048, by omega⟩)
  else if h3 : j.val < 4096 then both x4 x5 r ⟨j.val - 3072, by omega⟩
  else if h4 : j.val < 5120 then x6 (ix2 r ⟨j.val - 4096, by omega⟩)
  else if h5 : j.val < 7168 then x7 (ix2 r ⟨j.val - 5120, by omega⟩)
  else if h6 : j.val < 8192 then both x8 x9 r ⟨j.val - 7168, by omega⟩
  else if h7 : j.val < 9216 then x10 (ix2 r ⟨j.val - 8192, by omega⟩)
  else if h8 : j.val < 10240 then x11 (ix2 r ⟨j.val - 9216, by omega⟩)
  else both x12 x13 r ⟨j.val - 10240, by omega⟩

/-- The whole array. -/
def grouped : Rows n 10368 := fun i => column x0 x1 x2 x3 x4 x5 x6 x7 x8 x9 x10 x11 x12 x13 (i 0) (i 1)

theorem column_0 (r : Fin n) (k : Fin 1024) (h : 0 + k.val < 10368) : column x0 x1 x2 x3 x4 x5 x6 x7 x8 x9 x10 x11 x12 x13 r ⟨0 + k.val, h⟩ = both x0 x1 r k := by
  have hk := k.isLt
  simp (disch := omega) only [column, dif_pos, dif_neg, Nat.add_sub_cancel_left, Nat.zero_add]

theorem column_1 (r : Fin n) (k : Fin 1024) (h : 1024 + k.val < 10368) : column x0 x1 x2 x3 x4 x5 x6 x7 x8 x9 x10 x11 x12 x13 r ⟨1024 + k.val, h⟩ = x2 (ix2 r k) := by
  have hk := k.isLt
  simp (disch := omega) only [column, dif_pos, dif_neg, Nat.add_sub_cancel_left, Nat.zero_add]

theorem column_2 (r : Fin n) (k : Fin 1024) (h : 2048 + k.val < 10368) : column x0 x1 x2 x3 x4 x5 x6 x7 x8 x9 x10 x11 x12 x13 r ⟨2048 + k.val, h⟩ = x3 (ix2 r k) := by
  have hk := k.isLt
  simp (disch := omega) only [column, dif_pos, dif_neg, Nat.add_sub_cancel_left, Nat.zero_add]

theorem column_3 (r : Fin n) (k : Fin 1024) (h : 3072 + k.val < 10368) : column x0 x1 x2 x3 x4 x5 x6 x7 x8 x9 x10 x11 x12 x13 r ⟨3072 + k.val, h⟩ = both x4 x5 r k := by
  have hk := k.isLt
  simp (disch := omega) only [column, dif_pos, dif_neg, Nat.add_sub_cancel_left, Nat.zero_add]

theorem column_4 (r : Fin n) (k : Fin 1024) (h : 4096 + k.val < 10368) : column x0 x1 x2 x3 x4 x5 x6 x7 x8 x9 x10 x11 x12 x13 r ⟨4096 + k.val, h⟩ = x6 (ix2 r k) := by
  have hk := k.isLt
  simp (disch := omega) only [column, dif_pos, dif_neg, Nat.add_sub_cancel_left, Nat.zero_add]

theorem column_5 (r : Fin n) (k : Fin 2048) (h : 5120 + k.val < 10368) : column x0 x1 x2 x3 x4 x5 x6 x7 x8 x9 x10 x11 x12 x13 r ⟨5120 + k.val, h⟩ = x7 (ix2 r k) := by
  have hk := k.isLt
  simp (disch := omega) only [column, dif_pos, dif_neg, Nat.add_sub_cancel_left, Nat.zero_add]

theorem column_6 (r : Fin n) (k : Fin 1024) (h : 7168 + k.val < 10368) : column x0 x1 x2 x3 x4 x5 x6 x7 x8 x9 x10 x11 x12 x13 r ⟨7168 + k.val, h⟩ = both x8 x9 r k := by
  have hk := k.isLt
  simp (disch := omega) only [column, dif_pos, dif_neg, Nat.add_sub_cancel_left, Nat.zero_add]

theorem column_7 (r : Fin n) (k : Fin 1024) (h : 8192 + k.val < 10368) : column x0 x1 x2 x3 x4 x5 x6 x7 x8 x9 x10 x11 x12 x13 r ⟨8192 + k.val, h⟩ = x10 (ix2 r k) := by
  have hk := k.isLt
  simp (disch := omega) only [column, dif_pos, dif_neg, Nat.add_sub_cancel_left, Nat.zero_add]

theorem column_8 (r : Fin n) (k : Fin 1024) (h : 9216 + k.val < 10368) : column x0 x1 x2 x3 x4 x5 x6 x7 x8 x9 x10 x11 x12 x13 r ⟨9216 + k.val, h⟩ = x11 (ix2 r k) := by
  have hk := k.isLt
  simp (disch := omega) only [column, dif_pos, dif_neg, Nat.add_sub_cancel_left, Nat.zero_add]

theorem column_9 (r : Fin n) (k : Fin 128) (h : 10240 + k.val < 10368) : column x0 x1 x2 x3 x4 x5 x6 x7 x8 x9 x10 x11 x12 x13 r ⟨10240 + k.val, h⟩ = both x12 x13 r k := by
  have hk := k.isLt
  simp (disch := omega) only [column, dif_pos, dif_neg, Nat.add_sub_cancel_left, Nat.zero_add]

end Groups

/-- A column from `off` on, among the next `w`. -/
theorem split {w : Nat} (off : Nat) (j : Fin 10368) (h0 : off ≤ j.val) (h1 : j.val < off + w) :
    ∃ (k : Fin w) (h : off + k.val < 10368), j = ⟨off + k.val, h⟩ :=
  ⟨⟨j.val - off, by omega⟩, by have := j.isLt; dsimp only; omega, Fin.ext (by dsimp only; omega)⟩

/-! ## One point: the ten stores -/

theorem bound {w off : Nat} (inb : ∀ a, (![0, off] : Fin 2 → Nat) a + (⟨2, ![256, w]⟩ : Shape).size a ≤ S256x10368.size a) (k : Fin w) : off + k.val < 10368 := by
  have h : off + w ≤ 10368 := inb 1
  omega

theorem emb {w off : Nat} (inb : ∀ a, (![0, off] : Fin 2 → Nat) a + (⟨2, ![256, w]⟩ : Shape).size a ≤ S256x10368.size a) (r : Fin 256) (k : Fin w) :
    (Rect.unit (s := S256x10368) ![0, off] (⟨2, ![256, w]⟩ : Shape).size inb).emb (ix2 r k) = ix2 r ⟨off + k.val, bound inb k⟩ := by
  funext a
  apply Fin.ext
  match a with
  | ⟨0, _⟩ => show 0 + 1 * r.val = r.val; omega
  | ⟨1, _⟩ => show off + 1 * k.val = off + k.val; omega

theorem off0 : (![0, 0] : Fin 2 → Nat) = fun _ => 0 := funext fun a => by fin_cases a <;> rfl

/-- The body stores its ten groups side by side. -/
theorem body (c : Dev nD) (i : grid0.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S256x1024 .bf16) (h4 : a4.IsWhole) (a5 : Memref sig .tc .vmem S256x1024 .bf16) (h5 : a5.IsWhole) (a6 : Memref sig .tc .vmem S256x1024 .bf16) (h6 : a6.IsWhole) (a7 : Memref sig .tc .vmem S256x1024 .bf16) (h7 : a7.IsWhole) (a8 : Memref sig .tc .vmem S256x2048 .bf16) (h8 : a8.IsWhole) (a9 : Memref sig .tc .vmem S256x1024 .bf16) (h9 : a9.IsWhole) (a10 : Memref sig .tc .vmem S256x1024 .bf16) (h10 : a10.IsWhole) (a11 : Memref sig .tc .vmem S256x1024 .bf16) (h11 : a11.IsWhole) (a12 : Memref sig .tc .vmem S256x1024 .bf16) (h12 : a12.IsWhole) (a13 : Memref sig .tc .vmem S256x128 .f32) (h13 : a13.IsWhole) (a14 : Memref sig .tc .vmem S256x128 .f32) (h14 : a14.IsWhole) (a15 : Memref sig .tc .vmem S256x10368 .bf16) (h15 : a15.IsWhole)
    (x0 x1 x2 x3 x4 x5 x6 : Vec Ideal S256x1024 .bf16) (x7 : Vec Ideal S256x2048 .bf16) (x8 x9 x10 x11 : Vec Ideal S256x1024 .bf16) (x12 x13 : Vec Ideal S256x128 .f32) :
    out0_A_14 c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 = grouped (n := 256) x0 x1 x2 x3 x4 x5 x6 x7 x8 x9 x10 x11 x12 x13 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13)]
  funext y
  refine View.canon_apply_of_pieces (grouped (n := 256) x0 x1 x2 x3 x4 x5 x6 x7 x8 x9 x10 x11 x12 x13) _ ?_ y (cover0_A_14 c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 y)
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S256x1024) off0, View.ld_unit_zero (S := S256x2048) off0, View.ld_unit_zero (S := S256x128) off0]
  intro p hp
  simp only [List.mem_cons, List.not_mem_nil, or_false] at hp
  rcases hp with rfl | rfl | rfl | rfl | rfl | rfl | rfl | rfl | rfl | rfl <;> intro x <;> rw [eq_ix2 x]
  · exact ((congrArg _ (emb inb_S256x10368_S256x128_0_10240 (x 0) (x 1))).trans (column_9 ..)).symm
  · exact ((congrArg _ (emb inb_S256x10368_S256x1024_0_9216 (x 0) (x 1))).trans (column_8 ..)).symm
  · exact ((congrArg _ (emb inb_S256x10368_S256x1024_0_8192 (x 0) (x 1))).trans (column_7 ..)).symm
  · exact ((congrArg _ (emb inb_S256x10368_S256x1024_0_7168 (x 0) (x 1))).trans (column_6 ..)).symm
  · exact ((congrArg _ (emb inb_S256x10368_S256x2048_0_5120 (x 0) (x 1))).trans (column_5 ..)).symm
  · exact ((congrArg _ (emb inb_S256x10368_S256x1024_0_4096 (x 0) (x 1))).trans (column_4 ..)).symm
  · exact ((congrArg _ (emb inb_S256x10368_S256x1024_0_3072 (x 0) (x 1))).trans (column_3 ..)).symm
  · exact ((congrArg _ (emb inb_S256x10368_S256x1024_0_2048 (x 0) (x 1))).trans (column_2 ..)).symm
  · exact ((congrArg _ (emb inb_S256x10368_S256x1024_0_1024 (x 0) (x 1))).trans (column_1 ..)).symm
  · exact ((congrArg _ (emb inb_S256x10368_S256x1024_0_0 (x 0) (x 1))).trans (column_0 ..)).symm

/-! ## The grid -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index10 : ∀ t : Fin grid0.N, win0_10.index t 0 = t.val ∧ win0_10.index t 1 = 0 := by decide +kernel
theorem index11 : ∀ t : Fin grid0.N, win0_11.index t 0 = t.val ∧ win0_11.index t 1 = 0 := by decide +kernel
theorem index12 : ∀ t : Fin grid0.N, win0_12.index t 0 = t.val ∧ win0_12.index t 1 = 0 := by decide +kernel
theorem index13 : ∀ t : Fin grid0.N, win0_13.index t 0 = t.val ∧ win0_13.index t 1 = 0 := by decide +kernel
theorem index14 : ∀ t : Fin grid0.N, win0_14.index t 0 = t.val ∧ win0_14.index t 1 = 0 := by decide +kernel
theorem flush14 : ∀ t : Fin grid0.N, (cfg0.win 14).flush t = true := by decide +kernel
theorem points : cfg0.N = 17 := by decide +kernel

/-- Row `r` of the block of point `t`. -/
def rowAt (t : Fin cfg0.N) (r : Fin 256) : Fin 4352 := ⟨t.val * 256 + r.val, by have := lt_of_lt_of_eq t.isLt points; omega⟩

theorem place {w : Nat} {t : Fin cfg0.N} {f : Fin 2 → Nat} (h : f 0 = t.val ∧ f 1 = 0) (r : Fin 256) (l : Fin w)
    (x : (⟨2, ![4352, w]⟩ : Shape).Idx) (h0 : (x 0).val = f 0 * 256 + 1 * r.val) (h1 : (x 1).val = f 1 * w + 1 * l.val) :
    x = ix2 (rowAt t r) l := by
  rw [h.1] at h0
  rw [h.2] at h1
  funext a
  apply Fin.ext
  match a with
  | ⟨0, _⟩ => exact h0.trans (by show _ = t.val * 256 + r.val; omega)
  | ⟨1, _⟩ => exact h1.trans (by show _ = l.val; omega)

variable (m : (ℓ : Loc nD τ sig) → Buf (Elt Ideal) ℓ) (ρ : Dev nD → PrngReg)

section Blocks

/-! The blocks a point is handed. -/

variable (c : Dev nD) (t : Fin cfg0.N) (r : Fin 256)

def b0 : Rows 256 1024 := iblk m c 0 t
theorem b0_apply (l : Fin 1024) : b0 m c t (ix2 r l) = V m c main_arg0 (ix2 (rowAt t r) l) :=
  congrArg (V m c main_arg0) (place (index0 t) r l _ rfl rfl)
def b1 : Rows 256 1024 := iblk m c 1 t
theorem b1_apply (l : Fin 1024) : b1 m c t (ix2 r l) = V m c main_arg1 (ix2 (rowAt t r) l) :=
  congrArg (V m c main_arg1) (place (index1 t) r l _ rfl rfl)
def b2 : Rows 256 1024 := iblk m c 2 t
theorem b2_apply (l : Fin 1024) : b2 m c t (ix2 r l) = V m c main_arg2 (ix2 (rowAt t r) l) :=
  congrArg (V m c main_arg2) (place (index2 t) r l _ rfl rfl)
def b3 : Rows 256 1024 := iblk m c 3 t
theorem b3_apply (l : Fin 1024) : b3 m c t (ix2 r l) = V m c main_arg3 (ix2 (rowAt t r) l) :=
  congrArg (V m c main_arg3) (place (index3 t) r l _ rfl rfl)
def b4 : Rows 256 1024 := iblk m c 4 t
theorem b4_apply (l : Fin 1024) : b4 m c t (ix2 r l) = V m c main_arg4 (ix2 (rowAt t r) l) :=
  congrArg (V m c main_arg4) (place (index4 t) r l _ rfl rfl)
def b5 : Rows 256 1024 := iblk m c 5 t
theorem b5_apply (l : Fin 1024) : b5 m c t (ix2 r l) = V m c main_arg5 (ix2 (rowAt t r) l) :=
  congrArg (V m c main_arg5) (place (index5 t) r l _ rfl rfl)
def b6 : Rows 256 1024 := iblk m c 6 t
theorem b6_apply (l : Fin 1024) : b6 m c t (ix2 r l) = V m c main_arg6 (ix2 (rowAt t r) l) :=
  congrArg (V m c main_arg6) (place (index6 t) r l _ rfl rfl)
def b7 : Rows 256 2048 := iblk m c 7 t
theorem b7_apply (l : Fin 2048) : b7 m c t (ix2 r l) = V m c main_arg7 (ix2 (rowAt t r) l) :=
  congrArg (V m c main_arg7) (place (index7 t) r l _ rfl rfl)
def b8 : Rows 256 1024 := iblk m c 8 t
theorem b8_apply (l : Fin 1024) : b8 m c t (ix2 r l) = V m c main_arg8 (ix2 (rowAt t r) l) :=
  congrArg (V m c main_arg8) (place (index8 t) r l _ rfl rfl)
def b9 : Rows 256 1024 := iblk m c 9 t
theorem b9_apply (l : Fin 1024) : b9 m c t (ix2 r l) = V m c main_arg9 (ix2 (rowAt t r) l) :=
  congrArg (V m c main_arg9) (place (index9 t) r l _ rfl rfl)
def b10 : Rows 256 1024 := iblk m c 10 t
theorem b10_apply (l : Fin 1024) : b10 m c t (ix2 r l) = V m c main_arg10 (ix2 (rowAt t r) l) :=
  congrArg (V m c main_arg10) (place (index10 t) r l _ rfl rfl)
def b11 : Rows 256 1024 := iblk m c 11 t
theorem b11_apply (l : Fin 1024) : b11 m c t (ix2 r l) = V m c main_arg11 (ix2 (rowAt t r) l) :=
  congrArg (V m c main_arg11) (place (index11 t) r l _ rfl rfl)
def b12 : Rows 256 128 := iblk m c 12 t
theorem b12_apply (l : Fin 128) : b12 m c t (ix2 r l) = V m c main_arg12 (ix2 (rowAt t r) l) :=
  congrArg (V m c main_arg12) (place (index12 t) r l _ rfl rfl)
def b13 : Rows 256 128 := iblk m c 13 t
theorem b13_apply (l : Fin 128) : b13 m c t (ix2 r l) = V m c main_arg13 (ix2 (rowAt t r) l) :=
  congrArg (V m c main_arg13) (place (index13 t) r l _ rfl rfl)

/-! ## The result -/

def joined : Rows 4352 10368 := grouped (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13)

def stored : Rows 256 10368 := grouped (b0 m c t) (b1 m c t) (b2 m c t) (b3 m c t) (b4 m c t) (b5 m c t) (b6 m c t) (b7 m c t) (b8 m c t) (b9 m c t) (b10 m c t) (b11 m c t) (b12 m c t) (b13 m c t)

set_option maxHeartbeats 1000000 in
theorem point (j : Fin 10368) :
    stored m c t (ix2 r j) = joined m c (ix2 (rowAt t r) j) := by
  show column (b0 m c t) (b1 m c t) (b2 m c t) (b3 m c t) (b4 m c t) (b5 m c t) (b6 m c t) (b7 m c t) (b8 m c t) (b9 m c t) (b10 m c t) (b11 m c t) (b12 m c t) (b13 m c t) r j = column (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (rowAt t r) j
  simp only [column, both, b0_apply, b1_apply, b2_apply, b3_apply, b4_apply, b5_apply, b6_apply, b7_apply, b8_apply, b9_apply, b10_apply, b11_apply, b12_apply, b13_apply]

end Blocks

theorem flushed (c : Dev nD) (t : Fin cfg0.N) (hf : (cfg0.win 14).flush t = true) :
    (dats m 0 c).flushed 14 t = ((cfg0.win 14).blk t).view.read (Elt Ideal) (joined m c) := by
  have p := point m c t
  have e : outsAt0 m c t = stored m c t := body c _ _ _ _ _ _ _ _ _ _ _ _ _ _ _ _ _ _ _ _ _ _ _ _ _ _ _ _ _ _ _ _ _ _ _ _ _ _ _ _ _ _ _ _ _
  generalize joined m c = N at p ⊢
  show (cfg0.win 14).cut (grid0.coords t) ((dats m 0 c).after 14 t) = _
  rw [after0_14, e]
  generalize stored m c t = S at p ⊢
  show S = (_ : S256x10368.Idx → EReal)
  funext x
  rw [eq_ix2 x]
  exact (p _ _).trans (congrArg N (place (index14 t) _ _ _ rfl rfl)).symm

theorem final (c : Dev nD) : (dats m 0 c).arrAt 14 cfg0.N = joined m c :=
  (dats m 0 c).arrAt_eq_of_cover 14 (joined m c) (flushed m c) fun i => by
    have h0 : (i 0 : Nat) < 4352 := (i 0).isLt
    have h1 : (i 1 : Nat) < 10368 := (i 1).isLt
    let t : Fin cfg0.N := ⟨(i 0 : Nat) / 256, by rw [points]; omega⟩
    have ht : t.val = (i 0 : Nat) / 256 := rfl
    refine ⟨t, flush14 t, ?_⟩
    show i ∈ ((View.whole main_v0).slice (win0_14.rect t)).set
    rw [View.set_slice_whole, Rect.mem_set_unit]
    intro a
    match a with
    | ⟨0, _⟩ =>
      show win0_14.index t 0 * 256 ≤ (i 0 : Nat) ∧ (i 0 : Nat) < win0_14.index t 0 * 256 + 256
      rw [(index14 t).1]; omega
    | ⟨1, _⟩ =>
      show win0_14.index t 1 * 10368 ≤ (i 1 : Nat) ∧ (i 1 : Nat) < win0_14.index t 1 * 10368 + 10368
      rw [(index14 t).2]; omega

/-! ## The reference's term -/

section Reference

open Cert.Reference17Ideal.Read

variable {x0 x1 x2 x3 x4 x5 x6 : FVec Ideal S4352x1024 .bf16} {x7 : FVec Ideal S4352x2048 .bf16} {x8 x9 x10 x11 : FVec Ideal S4352x1024 .bf16} {x12 x13 : FVec Ideal S4352x128 .f32}

/-- The arrays the reference puts side by side. -/
abbrev parts (x0 x1 x2 x3 x4 x5 x6 : FVec Ideal S4352x1024 .bf16) (x7 : FVec Ideal S4352x2048 .bf16) (x8 x9 x10 x11 : FVec Ideal S4352x1024 .bf16) (x12 x13 : FVec Ideal S4352x128 .f32) : List ((s : Shape) × (s.Idx → EReal)) :=
  [⟨S4352x1024, val_main_v3 (F := Ideal) x0 x1⟩, ⟨S4352x1024, x2⟩, ⟨S4352x1024, x3⟩, ⟨S4352x1024, val_main_v7 (F := Ideal) x4 x5⟩, ⟨S4352x1024, x6⟩,
    ⟨S4352x2048, x7⟩, ⟨S4352x1024, val_main_v11 (F := Ideal) x8 x9⟩, ⟨S4352x1024, x10⟩, ⟨S4352x1024, x11⟩, ⟨S4352x128, val_main_v13 (F := Ideal) x12 x13⟩]

/-- The number of columns of a shape. -/
abbrev columns (s : Shape) : Nat := if h : s.rank = S4352x10368.rank then s.size ((1 : Fin S4352x10368.rank).cast h.symm) else 0

/-- One group's columns, at the number `pre` of the columns before it. -/
theorem reference_part (i : Nat) (hi : i < (parts x0 x1 x2 x3 x4 x5 x6 x7 x8 x9 x10 x11 x12 x13).length) (w pre : Nat) (x : Rows 4352 w) (hx : (parts x0 x1 x2 x3 x4 x5 x6 x7 x8 x9 x10 x11 x12 x13)[i] = ⟨⟨2, ![4352, w]⟩, x⟩)
    (total : ((((parts x0 x1 x2 x3 x4 x5 x6 x7 x8 x9 x10 x11 x12 x13).take i).map (·.1)).map columns).sum = pre) (r : Fin 4352) (k : Fin w) (h : pre + k.val < 10368) :
    val_main_v14 (F := Ideal) x0 x1 x2 x3 x4 x5 x6 x7 x8 x9 x10 x11 x12 x13 (ix2 r ⟨pre + k.val, h⟩) = x (ix2 r k) :=
  concatenate_apply_piece (t := S4352x10368) 1 (parts x0 x1 x2 x3 x4 x5 x6 x7 x8 x9 x10 x11 x12 x13) _ _ i hi ⟨2, ![4352, w]⟩ x hx rfl pre total (ix2 r k)
    (fun b hb => match b with
      | ⟨0, _⟩ => rfl
      | ⟨1, _⟩ => absurd rfl hb) rfl

set_option maxHeartbeats 1000000 in
set_option maxRecDepth 65536 in
theorem agree : val_main_v14 (F := Ideal) x0 x1 x2 x3 x4 x5 x6 x7 x8 x9 x10 x11 x12 x13 = grouped (n := 4352) x0 x1 x2 x3 x4 x5 x6 x7 x8 x9 x10 x11 x12 x13 := by
  funext i
  obtain ⟨r, j, rfl⟩ : ∃ (r : Fin 4352) (j : Fin 10368), i = ix2 r j := ⟨i 0, i 1, eq_ix2 i⟩
  by_cases h0 : j.val < 1024
  · obtain ⟨k, h, rfl⟩ := split (w := 1024) 0 j (by omega) (by omega)
    exact (reference_part 0 (by simp) 1024 0 _ rfl rfl r k h).trans (column_0 ..).symm
  by_cases h1 : j.val < 2048
  · obtain ⟨k, h, rfl⟩ := split (w := 1024) 1024 j (by omega) (by omega)
    exact (reference_part 1 (by simp) 1024 1024 _ rfl rfl r k h).trans (column_1 ..).symm
  by_cases h2 : j.val < 3072
  · obtain ⟨k, h, rfl⟩ := split (w := 1024) 2048 j (by omega) (by omega)
    exact (reference_part 2 (by simp) 1024 2048 _ rfl rfl r k h).trans (column_2 ..).symm
  by_cases h3 : j.val < 4096
  · obtain ⟨k, h, rfl⟩ := split (w := 1024) 3072 j (by omega) (by omega)
    exact (reference_part 3 (by simp) 1024 3072 _ rfl rfl r k h).trans (column_3 ..).symm
  by_cases h4 : j.val < 5120
  · obtain ⟨k, h, rfl⟩ := split (w := 1024) 4096 j (by omega) (by omega)
    exact (reference_part 4 (by simp) 1024 4096 _ rfl rfl r k h).trans (column_4 ..).symm
  by_cases h5 : j.val < 7168
  · obtain ⟨k, h, rfl⟩ := split (w := 2048) 5120 j (by omega) (by omega)
    exact (reference_part 5 (by simp) 2048 5120 _ rfl rfl r k h).trans (column_5 ..).symm
  by_cases h6 : j.val < 8192
  · obtain ⟨k, h, rfl⟩ := split (w := 1024) 7168 j (by omega) (by omega)
    exact (reference_part 6 (by simp) 1024 7168 _ rfl rfl r k h).trans (column_6 ..).symm
  by_cases h7 : j.val < 9216
  · obtain ⟨k, h, rfl⟩ := split (w := 1024) 8192 j (by omega) (by omega)
    exact (reference_part 7 (by simp) 1024 8192 _ rfl rfl r k h).trans (column_7 ..).symm
  by_cases h8 : j.val < 10240
  · obtain ⟨k, h, rfl⟩ := split (w := 1024) 9216 j (by omega) (by omega)
    exact (reference_part 8 (by simp) 1024 9216 _ rfl rfl r k h).trans (column_8 ..).symm
  · obtain ⟨k, h, rfl⟩ := split (w := 128) 10240 j (by omega) (by omega)
    exact (reference_part 9 (by simp) 128 10240 _ rfl rfl r k h).trans (column_9 ..).symm

end Reference

end Cert.Kernel17Ideal.ColumnGroups

/-- The claim: over the extended reals the kernel's result is the reference's. -/
theorem Cert.ColumnGroups.algebraic : Cert.algebraic_Kernel17Ideal_Reference17Ideal := by
  intro m g m' g' _ hargs
  refine ⟨fun c => Cert.Kernel17Ideal.ColumnGroups.joined m c, (θ_run _ _ _).mono (fun r h c => ⟨(h c).1.trans (Cert.Kernel17Ideal.ColumnGroups.final m c), (h c).2⟩)
    (Cert.Kernel17Ideal.Value.run_blocks (F := Ideal) m g), ?_⟩
  refine (θ_run _ _ _).mono (fun r h c => ?_) (Cert.Reference17Ideal.Value.run (F := Ideal) m' g')
  obtain ⟨e0, kept⟩ := h c
  obtain ⟨a0, a1, a2, a3, a4, a5, a6, a7, a8, a9, a10, a11, a12, a13⟩ := hargs c
  refine ⟨e0.trans ((Cert.Reference17Ideal.Read.val_main_v14_eq _ _ _ _ _ _ _ _ _ _ _ _ _ _).trans ?_), kept⟩
  rw [a0, a1, a2, a3, a4, a5, a6, a7, a8, a9, a10, a11, a12, a13]
  refine Cert.Kernel17Ideal.ColumnGroups.agree.trans ?_
  show _ = Cert.Kernel17Ideal.ColumnGroups.joined m c
  unfold Cert.Kernel17Ideal.ColumnGroups.joined
  rw [Cert.Kernel17Ideal.Gen.V_main_arg0, Cert.Kernel17Ideal.Gen.V_main_arg1, Cert.Kernel17Ideal.Gen.V_main_arg2, Cert.Kernel17Ideal.Gen.V_main_arg3, Cert.Kernel17Ideal.Gen.V_main_arg4, Cert.Kernel17Ideal.Gen.V_main_arg5, Cert.Kernel17Ideal.Gen.V_main_arg6, Cert.Kernel17Ideal.Gen.V_main_arg7, Cert.Kernel17Ideal.Gen.V_main_arg8, Cert.Kernel17Ideal.Gen.V_main_arg9, Cert.Kernel17Ideal.Gen.V_main_arg10, Cert.Kernel17Ideal.Gen.V_main_arg11, Cert.Kernel17Ideal.Gen.V_main_arg12, Cert.Kernel17Ideal.Gen.V_main_arg13]

end
-- ==== Proof.lean ====
/-
  The certificate: the frame of every program and the values of the calls that carry the step's matrix products, of
  the modulation, of the inner norms, of the sums of gradients and of the optimiser's step.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.OutBlock
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel6Ideal.Value
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel8Ideal.Value
public import proofs.«01_k».proof.Proof.Gen.Kernel9.Frame
public import proofs.«01_k».proof.Proof.Gen.Kernel9Ideal.Frame
public import proofs.«01_k».proof.Proof.Gen.Reference9Ideal.Run
public import proofs.«01_k».proof.Proof.InWeight
public import proofs.«01_k».proof.Proof.InputGrad
public import proofs.«01_k».proof.Proof.InProj
public import proofs.«01_k».proof.Proof.AdamWOut
public import proofs.«01_k».proof.Proof.AdamWIn
public import proofs.«01_k».proof.Proof.AdamWMod
public import proofs.«01_k».proof.Proof.AdamWSmall
public import proofs.«01_k».proof.Proof.Gen.Kernel3.Skeleton
public import proofs.«01_k».proof.Proof.Gen.Kernel3Ideal.Skeleton
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.ModNormGrad
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.ModProduct
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.ModGrad
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.ContextGrad
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.ModNorm
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.SumDevices
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.PostNorm
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.PairSum
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Reference17Ideal.Read
public import proofs.«01_k».proof.Proof.ColumnGroups
public import proofs.«01_k».proof.Proof.ModNormGradFrame

@[expose] public section

open Idealize.ShloMosaic Idealize.ShloMosaic.TcCoe Idealize.SL.Sem

/-- The references run on the host alone: no semaphore is declared, so every counter reads zero at the end. -/
theorem Cert.Proof.frame_reference : Cert.quiescent_ReferenceIdeal := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

theorem Cert.Proof.frame_reference_finite : Cert.quiescent_ReferenceIdeal_pre_finite := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

theorem Cert.Proof.frame_reference2 : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

theorem Cert.Proof.frame_reference4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

theorem Cert.Proof.frame_reference5 : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

theorem Cert.Proof.frame_reference6 : Cert.quiescent_Reference6Ideal := fun m ρ _ =>
  (θ_run Cert.Reference6Ideal.defs _ _).mono
    (fun r h => ⟨fun c => (h c).2.2.2, sem_eq_zero_of_no_sems (by decide) r.2⟩)
    (Cert.Reference6Ideal.Value.run (F := Ideal) m ρ)

theorem Cert.Proof.frame_reference7 : Cert.quiescent_Reference7Ideal := fun m ρ _ =>
  (θ_run Cert.Reference7Ideal.defs _ _).mono
    (fun r h => ⟨fun c => (h c).2.2.2, sem_eq_zero_of_no_sems (by decide) r.2⟩)
    (Cert.Reference7Ideal.Value.run (F := Ideal) m ρ)

theorem Cert.Proof.frame_reference8 : Cert.quiescent_Reference8Ideal := fun m ρ _ =>
  (θ_run Cert.Reference8Ideal.defs _ _).mono
    (fun r h => ⟨fun c => (h c).2.2.2, sem_eq_zero_of_no_sems (by decide) r.2⟩)
    (Cert.Reference8Ideal.Value.run (F := Ideal) m ρ)

theorem Cert.Proof.frame_reference9 : Cert.quiescent_Reference9Ideal := fun m ρ _ =>
  (θ_run Cert.Reference9Ideal.defs _ _).mono
    (fun r h => ⟨fun c => (h c).2.2.2.2.2.2.2.2.2.2.2.2.2.2.2.2.2.2.2.2.2.2.2.2.2.2.2.2.2.2, sem_eq_zero_of_no_sems (by decide) r.2⟩)
    (Cert.Reference9Ideal.Value.run (F := Ideal) m ρ)

theorem Cert.Proof.frame_reference3 : Cert.quiescent_Reference3Ideal := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

theorem Cert.Proof.frame_reference3_finite : Cert.quiescent_Reference3Ideal_pre_finite3 := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

theorem Cert.Proof.frame_reference10 : Cert.quiescent_Reference10Ideal := fun m ρ _ =>
  (θ_run Cert.Reference10Ideal.defs _ _).mono
    (fun r h => ⟨fun c => (h c).2.2.2.2, sem_eq_zero_of_no_sems (by decide) r.2⟩)
    (Cert.Reference10Ideal.Value.run (F := Ideal) m ρ)

theorem Cert.Proof.frame_reference11 : Cert.quiescent_Reference11Ideal := fun m ρ _ =>
  (θ_run Cert.Reference11Ideal.defs _ _).mono
    (fun r h => ⟨fun c => (h c).2.2, sem_eq_zero_of_no_sems (by decide) r.2⟩)
    (Cert.Reference11Ideal.Value.run (F := Ideal) m ρ)

theorem Cert.Proof.frame_reference12 : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

theorem Cert.Proof.frame_reference12_finite : Cert.quiescent_Reference12Ideal_pre_finite12 := fun m ρ _ =>
  (θ_run Cert.Reference12Ideal.defs _ _).mono
    (fun r h => ⟨fun c => (h c).2, sem_eq_zero_of_no_sems (by decide) r.2⟩)
    (Cert.Reference12Ideal.Value.run (F := Ideal) m ρ)

theorem Cert.Proof.frame_reference13 : Cert.quiescent_Reference13Ideal := fun m ρ _ =>
  (θ_run Cert.Reference13Ideal.defs _ _).mono
    (fun r h => ⟨fun c => (h c).2.2, sem_eq_zero_of_no_sems (by decide) r.2⟩)
    (Cert.Reference13Ideal.Value.run (F := Ideal) m ρ)

theorem Cert.Proof.frame_reference14 : Cert.quiescent_Reference14Ideal := fun m ρ _ =>
  (θ_run Cert.Reference14Ideal.defs _ _).mono
    (fun r h => ⟨fun c => (h c).2.2, sem_eq_zero_of_no_sems (by decide) r.2⟩)
    (Cert.Reference14Ideal.Value.run (F := Ideal) m ρ)

theorem Cert.Proof.frame_reference15 : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run (F := Ideal) m ρ)

theorem Cert.Proof.frame_reference16 : Cert.quiescent_Reference16Ideal := fun m ρ _ =>
  (θ_run Cert.Reference16Ideal.defs _ _).mono
    (fun r h => ⟨fun c => (h c).2, sem_eq_zero_of_no_sems (by decide) r.2⟩)
    (Cert.Reference16Ideal.Value.run (F := Ideal) m ρ)

theorem Cert.Proof.frame_reference17 : Cert.quiescent_Reference17Ideal := fun m ρ _ =>
  (θ_run Cert.Reference17Ideal.defs _ _).mono
    (fun r h => ⟨fun c => (h c).2, sem_eq_zero_of_no_sems (by decide) r.2⟩)
    (Cert.Reference17Ideal.Value.run (F := Ideal) m ρ)

theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.FiniteArgs.finite_facts, Cert.FiniteArgs.finite3_facts, Cert.FiniteArgs.finite12_facts,
    fun m ρ _ => Cert.Kernel.Gen.frame m ρ, fun m ρ _ => Cert.KernelIdeal.Gen.frame m ρ, fun m ρ _ => Cert.KernelIdeal.Gen.frame m ρ,
    Cert.Proof.frame_reference, Cert.Proof.frame_reference_finite,
    fun m ρ _ => Cert.Kernel2.Gen.frame m ρ, fun m ρ _ => Cert.Kernel2Ideal.Gen.frame m ρ, Cert.Proof.frame_reference2,
    fun m ρ _ => Cert.Kernel3.ModNormGrad.frame m ρ, fun m ρ _ => Cert.Kernel3Ideal.ModNormGrad.frame m ρ, fun m ρ _ => Cert.Kernel3Ideal.ModNormGrad.frame m ρ, Cert.Proof.frame_reference3, Cert.Proof.frame_reference3_finite,
    fun m ρ _ => Cert.Kernel4.Gen.frame m ρ, fun m ρ _ => Cert.Kernel4Ideal.Gen.frame m ρ, Cert.Proof.frame_reference4,
    fun m ρ _ => Cert.Kernel5.Gen.frame m ρ, fun m ρ _ => Cert.Kernel5Ideal.Gen.frame m ρ, Cert.Proof.frame_reference5,
    fun m ρ _ => Cert.Kernel6.Gen.frame m ρ, fun m ρ _ => Cert.Kernel6Ideal.Gen.frame m ρ, Cert.Proof.frame_reference6,
    fun m ρ _ => Cert.Kernel7.Gen.frame m ρ, fun m ρ _ => Cert.Kernel7Ideal.Gen.frame m ρ, Cert.Proof.frame_reference7,
    fun m ρ _ => Cert.Kernel8.Gen.frame m ρ, fun m ρ _ => Cert.Kernel8Ideal.Gen.frame m ρ, Cert.Proof.frame_reference8,
    fun m ρ _ => Cert.Kernel9.Gen.frame m ρ, fun m ρ _ => Cert.Kernel9Ideal.Gen.frame m ρ, Cert.Proof.frame_reference9,
    fun m ρ _ => Cert.Kernel10.Gen.frame m ρ, fun m ρ _ => Cert.Kernel10Ideal.Gen.frame m ρ, Cert.Proof.frame_reference10,
    fun m ρ _ => Cert.Kernel11.Gen.frame m ρ, fun m ρ _ => Cert.Kernel11Ideal.Gen.frame m ρ, Cert.Proof.frame_reference11,
    fun m ρ _ => Cert.Kernel12.Gen.frame m ρ, fun m ρ _ => Cert.Kernel12Ideal.Gen.frame m ρ, fun m ρ _ => Cert.Kernel12Ideal.Gen.frame m ρ, Cert.Proof.frame_reference12, Cert.Proof.frame_reference12_finite,
    fun m ρ _ => Cert.Kernel13.Gen.frame m ρ, fun m ρ _ => Cert.Kernel13Ideal.Gen.frame m ρ, Cert.Proof.frame_reference13,
    fun m ρ _ => Cert.Kernel14.Gen.frame m ρ, fun m ρ _ => Cert.Kernel14Ideal.Gen.frame m ρ, Cert.Proof.frame_reference14,
    fun m ρ _ => Cert.Kernel15.Gen.frame m ρ, fun m ρ _ => Cert.Kernel15Ideal.Gen.frame m ρ, Cert.Proof.frame_reference15,
    fun m ρ _ => Cert.Kernel16.Gen.frame m ρ, fun m ρ _ => Cert.Kernel16Ideal.Gen.frame m ρ, Cert.Proof.frame_reference16,
    fun m ρ _ => Cert.Kernel17.Gen.frame m ρ, fun m ρ _ => Cert.Kernel17Ideal.Gen.frame m ρ, Cert.Proof.frame_reference17,
    trivial, Cert.OutBlock.algebraic,
    trivial, Cert.InWeight.algebraic,
    trivial, Cert.ModNormGrad.algebraic,
    trivial, Cert.InputGrad.algebraic,
    trivial, Cert.InProj.algebraic,
    trivial, Cert.AdamWOut.algebraic,
    trivial, Cert.AdamWIn.algebraic,
    trivial, Cert.AdamWMod.algebraic,
    trivial, Cert.AdamWSmall.algebraic,
    trivial, Cert.ModProduct.algebraic,
    trivial, Cert.ModGrad.algebraic,
    trivial, Cert.ContextGrad.algebraic,
    trivial, Cert.ModNorm.algebraic,
    trivial, Cert.SumDevices.algebraic,
    trivial, Cert.PostNorm.algebraic,
    trivial, Cert.PairSum.algebraic,
    trivial, Cert.ColumnGroups.algebraic⟩

end
